-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v12)) (v1 : (c : Dev Cert.Kernel4Ideal.nD) → Buf (Elt Ideal) ((c.tc : Thread Cert.Kernel4Ideal.nD Cert.Kernel4Ideal.τ).loc Cert.Kernel4Ideal.main_v13)) (v2 : (c : Dev Cert.Kernel4Ideal.nD) → Buf (Elt Ideal) ((c.tc : Thread Cert.Kernel4Ideal.nD Cert.Kernel4Ideal.τ).loc Cert.Kernel4Ideal.main_v14)) (v3 : (c : Dev Cert.Kernel4Ideal.nD) → Buf (Elt Ideal) ((c.tc : Thread Cert.Kernel4Ideal.nD Cert.Kernel4Ideal.τ).loc Cert.Kernel4Ideal.main_v15)) (v4 : (c : Dev Cert.Kernel4Ideal.nD) → Buf (Elt Ideal) ((c.tc : Thread Cert.Kernel4Ideal.nD Cert.Kernel4Ideal.τ).loc Cert.Kernel4Ideal.main_v16)) (v5 : (c : Dev Cert.Kernel4Ideal.nD) → Buf (Elt Ideal) ((c.tc : Thread Cert.Kernel4Ideal.nD Cert.Kernel4Ideal.τ).loc Cert.Kernel4Ideal.main_v17)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_v13) = v1 c
          ∧ r.2.mem ((c.tc : Thread Cert.Kernel4Ideal.nD Cert.Kernel4Ideal.τ).loc Cert.Kernel4Ideal.main_v14) = v2 c
          ∧ r.2.mem ((c.tc : Thread Cert.Kernel4Ideal.nD Cert.Kernel4Ideal.τ).loc Cert.Kernel4Ideal.main_v15) = v3 c
          ∧ r.2.mem ((c.tc : Thread Cert.Kernel4Ideal.nD Cert.Kernel4Ideal.τ).loc Cert.Kernel4Ideal.main_v16) = v4 c
          ∧ r.2.mem ((c.tc : Thread Cert.Kernel4Ideal.nD Cert.Kernel4Ideal.τ).loc Cert.Kernel4Ideal.main_v17) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v82) = v0 c
          ∧ r.2.mem ((c.tc : Thread Cert.Reference4Ideal.nD Cert.Reference4Ideal.τ).loc Cert.Reference4Ideal.main_v86) = v1 c
          ∧ r.2.mem ((c.tc : Thread Cert.Reference4Ideal.nD Cert.Reference4Ideal.τ).loc Cert.Reference4Ideal.main_v37) = v2 c
          ∧ r.2.mem ((c.tc : Thread Cert.Reference4Ideal.nD Cert.Reference4Ideal.τ).loc Cert.Reference4Ideal.main_v39) = v3 c
          ∧ r.2.mem ((c.tc : Thread Cert.Reference4Ideal.nD Cert.Reference4Ideal.τ).loc Cert.Reference4Ideal.main_v77) = v4 c
          ∧ r.2.mem ((c.tc : Thread Cert.Reference4Ideal.nD Cert.Reference4Ideal.τ).loc Cert.Reference4Ideal.main_v79) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v29)) (v1 : (c : Dev Cert.Kernel5Ideal.nD) → Buf (Elt Ideal) ((c.tc : Thread Cert.Kernel5Ideal.nD Cert.Kernel5Ideal.τ).loc Cert.Kernel5Ideal.main_v31)) (v2 : (c : Dev Cert.Kernel5Ideal.nD) → Buf (Elt Ideal) ((c.tc : Thread Cert.Kernel5Ideal.nD Cert.Kernel5Ideal.τ).loc Cert.Kernel5Ideal.main_v20)) (v3 : (c : Dev Cert.Kernel5Ideal.nD) → Buf (Elt Ideal) ((c.tc : Thread Cert.Kernel5Ideal.nD Cert.Kernel5Ideal.τ).loc Cert.Kernel5Ideal.main_v21)) (v4 : (c : Dev Cert.Kernel5Ideal.nD) → Buf (Elt Ideal) ((c.tc : Thread Cert.Kernel5Ideal.nD Cert.Kernel5Ideal.τ).loc Cert.Kernel5Ideal.main_v22)) (v5 : (c : Dev Cert.Kernel5Ideal.nD) → Buf (Elt Ideal) ((c.tc : Thread Cert.Kernel5Ideal.nD Cert.Kernel5Ideal.τ).loc Cert.Kernel5Ideal.main_v23)) (v6 : (c : Dev Cert.Kernel5Ideal.nD) → Buf (Elt Ideal) ((c.tc : Thread Cert.Kernel5Ideal.nD Cert.Kernel5Ideal.τ).loc Cert.Kernel5Ideal.main_v19)) (v7 : (c : Dev Cert.Kernel5Ideal.nD) → Buf (Elt Ideal) ((c.tc : Thread Cert.Kernel5Ideal.nD Cert.Kernel5Ideal.τ).loc Cert.Kernel5Ideal.main_v17)) (v8 : (c : Dev Cert.Kernel5Ideal.nD) → Buf (Elt Ideal) ((c.tc : Thread Cert.Kernel5Ideal.nD Cert.Kernel5Ideal.τ).loc Cert.Kernel5Ideal.main_v27)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v29) = v0 c
          ∧ r.2.mem ((c.tc : Thread Cert.Kernel5Ideal.nD Cert.Kernel5Ideal.τ).loc Cert.Kernel5Ideal.main_v31) = v1 c
          ∧ r.2.mem ((c.tc : Thread Cert.Kernel5Ideal.nD Cert.Kernel5Ideal.τ).loc Cert.Kernel5Ideal.main_v20) = v2 c
          ∧ r.2.mem ((c.tc : Thread Cert.Kernel5Ideal.nD Cert.Kernel5Ideal.τ).loc Cert.Kernel5Ideal.main_v21) = v3 c
          ∧ r.2.mem ((c.tc : Thread Cert.Kernel5Ideal.nD Cert.Kernel5Ideal.τ).loc Cert.Kernel5Ideal.main_v22) = v4 c
          ∧ r.2.mem ((c.tc : Thread Cert.Kernel5Ideal.nD Cert.Kernel5Ideal.τ).loc Cert.Kernel5Ideal.main_v23) = v5 c
          ∧ r.2.mem ((c.tc : Thread Cert.Kernel5Ideal.nD Cert.Kernel5Ideal.τ).loc Cert.Kernel5Ideal.main_v19) = v6 c
          ∧ r.2.mem ((c.tc : Thread Cert.Kernel5Ideal.nD Cert.Kernel5Ideal.τ).loc Cert.Kernel5Ideal.main_v17) = v7 c
          ∧ r.2.mem ((c.tc : Thread Cert.Kernel5Ideal.nD Cert.Kernel5Ideal.τ).loc Cert.Kernel5Ideal.main_v27) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_v57) = v2 c
          ∧ r.2.mem ((c.tc : Thread Cert.Reference5Ideal.nD Cert.Reference5Ideal.τ).loc Cert.Reference5Ideal.main_v59) = v3 c
          ∧ r.2.mem ((c.tc : Thread Cert.Reference5Ideal.nD Cert.Reference5Ideal.τ).loc Cert.Reference5Ideal.main_v113) = v4 c
          ∧ r.2.mem ((c.tc : Thread Cert.Reference5Ideal.nD Cert.Reference5Ideal.τ).loc Cert.Reference5Ideal.main_v115) = v5 c
          ∧ r.2.mem ((c.tc : Thread Cert.Reference5Ideal.nD Cert.Reference5Ideal.τ).loc Cert.Reference5Ideal.main_v119) = v6 c
          ∧ r.2.mem ((c.tc : Thread Cert.Reference5Ideal.nD Cert.Reference5Ideal.τ).loc Cert.Reference5Ideal.main_v122) = v7 c
          ∧ r.2.mem ((c.tc : Thread Cert.Reference5Ideal.nD Cert.Reference5Ideal.τ).loc Cert.Reference5Ideal.main_v128) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v35) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v32) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v55) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S12x1024x4096 : Shape := ⟨3, ![12, 1024, 4096]⟩
abbrev S4x256x4096 : Shape := ⟨3, ![4, 256, 4096]⟩
abbrev S12x1024x64 : Shape := ⟨3, ![12, 1024, 64]⟩
abbrev S4x256x64 : Shape := ⟨3, ![4, 256, 64]⟩
abbrev S_ : Shape := ⟨0, ![]⟩

class Facts : Prop where
  bitsLt_bf16_f32 : FTy.bits .bf16 < FTy.bits .f32
  bcast_S_S12x1024x4096 : S_.BroadcastsInDim S12x1024x4096 (![] : Fin 0 → Fin S12x1024x4096.rank)
  reducesTo_S12x1024x4096_S_d0_1_2 : S12x1024x4096.ReducesTo [0, 1, 2] S_
  h_S_ : 0 < S_.numel
  bcast_S_S4x256x4096 : S_.BroadcastsInDim S4x256x4096 (![] : Fin 0 → Fin S4x256x4096.rank)
  reducesTo_S4x256x4096_S_d0_1_2 : S4x256x4096.ReducesTo [0, 1, 2] S_
  bcast_S_S12x1024x64 : S_.BroadcastsInDim S12x1024x64 (![] : Fin 0 → Fin S12x1024x64.rank)
  reducesTo_S12x1024x64_S_d0_1_2 : S12x1024x64.ReducesTo [0, 1, 2] S_
  bcast_S_S4x256x64 : S_.BroadcastsInDim S4x256x64 (![] : Fin 0 → Fin S4x256x64.rank)
  reducesTo_S4x256x64_S_d0_1_2 : S4x256x64.ReducesTo [0, 1, 2] S_

variable [Facts]

def fn_part1 {F : FTy → Type} [FloatOps F] (main_arg4 : FVec F S4x256x64 .f32) (main_v6 : IVec S_ 1) (main_v10 : IVec S_ 1) (main_v14 : IVec S_ 1) (main_v15 : FVec F S12x1024x64 .f32) (main_v16 : FVec F S12x1024x64 .f32) : IVec S_ 1 :=
  let main_v17 : IVec S12x1024x64 1 := cmpf .olt main_v15 main_v16
  let main_c_5 : IVec S_ 1 := constantI S_ 1 1#1
  let main_v18 : IVec S_ 1 := (fun x v => Host.reduce IntOp.andi x v reducesTo_S12x1024x64_S_d0_1_2 h_S_) main_v17 main_c_5
  let main_v19 : FVec F S4x256x64 .f32 := Host.absf main_arg4
  let main_cst_6 : FVec F S_ .f32 := constant S_ .f32 0x7F800000#32
  let main_v20 : FVec F S4x256x64 .f32 := broadcastInDim S4x256x64 ![] bcast_S_S4x256x64 main_cst_6
  let main_v21 : IVec S4x256x64 1 := cmpf .olt main_v19 main_v20
  let main_c_7 : IVec S_ 1 := constantI S_ 1 1#1
  let main_v22 : IVec S_ 1 := (fun x v => Host.reduce IntOp.andi x v reducesTo_S4x256x64_S_d0_1_2 h_S_) main_v21 main_c_7
  let main_v23 : IVec S_ 1 := andi main_v6 main_v10
  let main_v24 : IVec S_ 1 := andi main_v23 main_v14
  let main_v25 : IVec S_ 1 := andi main_v24 main_v18
  let main_v26 : IVec S_ 1 := andi main_v25 main_v22
  main_v26

def fn {F : FTy → Type} [FloatOps F] (main_arg0 : FVec F S12x1024x4096 .bf16) (main_arg1 : FVec F S12x1024x4096 .bf16) (main_arg2 : FVec F S4x256x4096 .bf16) (main_arg3 : FVec F S12x1024x64 .f32) (main_arg4 : FVec F S4x256x64 .f32) : IVec S_ 1 :=
  let main_v0 : FVec F S12x1024x4096 .f32 := (extf .f32 · bitsLt_bf16_f32) main_arg0
  let main_v1 : FVec F S12x1024x4096 .f32 := (extf .f32 · bitsLt_bf16_f32) main_arg1
  let main_v2 : FVec F S4x256x4096 .f32 := (extf .f32 · bitsLt_bf16_f32) main_arg2
  let main_v3 : FVec F S12x1024x4096 .f32 := Host.absf main_v0
  let main_cst : FVec F S_ .f32 := constant S_ .f32 0x7F800000#32
  let main_v4 : FVec F S12x1024x4096 .f32 := broadcastInDim S12x1024x4096 ![] bcast_S_S12x1024x4096 main_cst
  let main_v5 : IVec S12x1024x4096 1 := cmpf .olt main_v3 main_v4
  let main_c : IVec S_ 1 := constantI S_ 1 1#1
  let main_v6 : IVec S_ 1 := (fun x v => Host.reduce IntOp.andi x v reducesTo_S12x1024x4096_S_d0_1_2 h_S_) main_v5 main_c
  let main_v7 : FVec F S12x1024x4096 .f32 := Host.absf main_v1
  let main_cst_0 : FVec F S_ .f32 := constant S_ .f32 0x7F800000#32
  let main_v8 : FVec F S12x1024x4096 .f32 := broadcastInDim S12x1024x4096 ![] bcast_S_S12x1024x4096 main_cst_0
  let main_v9 : IVec S12x1024x4096 1 := cmpf .olt main_v7 main_v8
  let main_c_1 : IVec S_ 1 := constantI S_ 1 1#1
  let main_v10 : IVec S_ 1 := (fun x v => Host.reduce IntOp.andi x v reducesTo_S12x1024x4096_S_d0_1_2 h_S_) main_v9 main_c_1
  let main_v11 : FVec F S4x256x4096 .f32 := Host.absf main_v2
  let main_cst_2 : FVec F S_ .f32 := constant S_ .f32 0x7F800000#32
  let main_v12 : FVec F S4x256x4096 .f32 := broadcastInDim S4x256x4096 ![] bcast_S_S4x256x4096 main_cst_2
  let main_v13 : IVec S4x256x4096 1 := cmpf .olt main_v11 main_v12
  let main_c_3 : IVec S_ 1 := constantI S_ 1 1#1
  let main_v14 : IVec S_ 1 := (fun x v => Host.reduce IntOp.andi x v reducesTo_S4x256x4096_S_d0_1_2 h_S_) main_v13 main_c_3
  let main_v15 : FVec F S12x1024x64 .f32 := Host.absf main_arg3
  let main_cst_4 : FVec F S_ .f32 := constant S_ .f32 0x7F800000#32
  let main_v16 : FVec F S12x1024x64 .f32 := broadcastInDim S12x1024x64 ![] bcast_S_S12x1024x64 main_cst_4
  fn_part1 (F := F) main_arg4 main_v6 main_v10 main_v14 main_v15 main_v16
-- ==== Kernel.lean ====
abbrev S12x1024x4096 : Shape := ⟨3, ![12, 1024, 4096]⟩
abbrev S4x256x4096 : Shape := ⟨3, ![4, 256, 4096]⟩
abbrev S12x1024x64 : Shape := ⟨3, ![12, 1024, 64]⟩
abbrev S4x256x64 : Shape := ⟨3, ![4, 256, 64]⟩
abbrev S1024 : Shape := ⟨1, ![1024]⟩
abbrev S_ : Shape := ⟨0, ![]⟩
abbrev S16 : Shape := ⟨1, ![16]⟩
abbrev S1024x1 : Shape := ⟨2, ![1024, 1]⟩
abbrev S1x16 : Shape := ⟨2, ![1, 16]⟩
abbrev S1024x16 : Shape := ⟨2, ![1024, 16]⟩
abbrev S1024x64 : Shape := ⟨2, ![1024, 64]⟩
abbrev S1024x128 : Shape := ⟨2, ![1024, 128]⟩
abbrev S12x1024x128 : Shape := ⟨3, ![12, 1024, 128]⟩
abbrev S4x256x128 : Shape := ⟨3, ![4, 256, 128]⟩
abbrev S4x1024x2048 : Shape := ⟨3, ![4, 1024, 2048]⟩
abbrev S1x1024x512 : Shape := ⟨3, ![1, 1024, 512]⟩
abbrev S1x1024x128 : Shape := ⟨3, ![1, 1024, 128]⟩
abbrev S1x256x512 : Shape := ⟨3, ![1, 256, 512]⟩
abbrev S1x256x128 : Shape := ⟨3, ![1, 256, 128]⟩
abbrev S1x1024x256 : Shape := ⟨3, ![1, 1024, 256]⟩
abbrev S1x128 : Shape := ⟨2, ![1, 128]⟩
abbrev S256x128 : Shape := ⟨2, ![256, 128]⟩
abbrev S1024x256 : Shape := ⟨2, ![1024, 256]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩

abbrev nBuf : Space → Nat
  | .hbm => 91
  | .vmem => 14
  | .smem => 0
  | _ => 0

abbrev bufTy : (tb : Table) → Fin (tcTables nBuf tb) → BufTy
  | .hbm, ⟨0, _⟩ => ⟨S12x1024x4096, .bf16⟩
  | .hbm, ⟨1, _⟩ => ⟨S12x1024x4096, .bf16⟩
  | .hbm, ⟨2, _⟩ => ⟨S4x256x4096, .bf16⟩
  | .hbm, ⟨3, _⟩ => ⟨S12x1024x64, .f32⟩
  | .hbm, ⟨4, _⟩ => ⟨S4x256x64, .f32⟩
  | .hbm, ⟨5, _⟩ => ⟨S1024, .i32⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S_, .i32⟩
  | .hbm, ⟨37, _⟩ => ⟨S1024, .i32⟩
  | .hbm, ⟨38, _⟩ => ⟨S1024, .i1⟩
  | .hbm, ⟨39, _⟩ => ⟨S_, .i32⟩
  | .hbm, ⟨40, _⟩ => ⟨S_, .i1⟩
  | .hbm, ⟨41, _⟩ => ⟨S1024, .i1⟩
  | .hbm, ⟨42, _⟩ => ⟨S1024, .i1⟩
  | .hbm, ⟨43, _⟩ => ⟨S1024, .i1⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S1024, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S1024x1, .f32⟩
  | .hbm, ⟨57, _⟩ => ⟨S1x16, .f32⟩
  | .hbm, ⟨58, _⟩ => ⟨S1024x16, .f32⟩
  | .hbm, ⟨59, _⟩ => ⟨S1024x16, .f32⟩
  | .hbm, ⟨60, _⟩ => ⟨S1024x16, .f32⟩
  | .hbm, ⟨61, _⟩ => ⟨S1024x1, .f32⟩
  | .hbm, ⟨62, _⟩ => ⟨S1x16, .f32⟩
  | .hbm, ⟨63, _⟩ => ⟨S1024x16, .f32⟩
  | .hbm, ⟨64, _⟩ => ⟨S1024x16, .f32⟩
  | .hbm, ⟨65, _⟩ => ⟨S1024x16, .f32⟩
  | .hbm, ⟨66, _⟩ => ⟨S1024x16, .f32⟩
  | .hbm, ⟨67, _⟩ => ⟨S1024x16, .f32⟩
  | .hbm, ⟨68, _⟩ => ⟨S1024x16, .f32⟩
  | .hbm, ⟨69, _⟩ => ⟨S1024x16, .f32⟩
  | .hbm, ⟨70, _⟩ => ⟨S1024x64, .f32⟩
  | .hbm, ⟨71, _⟩ => ⟨S1024x16, .f32⟩
  | .hbm, ⟨72, _⟩ => ⟨S1024x16, .f32⟩
  | .hbm, ⟨73, _⟩ => ⟨S1024x16, .f32⟩
  | .hbm, ⟨74, _⟩ => ⟨S1024x16, .f32⟩
  | .hbm, ⟨75, _⟩ => ⟨S1024x16, .f32⟩
  | .hbm, ⟨76, _⟩ => ⟨S1024x16, .f32⟩
  | .hbm, ⟨77, _⟩ => ⟨S1024x64, .f32⟩
  | .hbm, ⟨78, _⟩ => ⟨S_, .f32⟩
  | .hbm, ⟨79, _⟩ => ⟨S1024x64, .f32⟩
  | .hbm, ⟨80, _⟩ => ⟨S1024x128, .f32⟩
  | .hbm, ⟨81, _⟩ => ⟨S_, .f32⟩
  | .hbm, ⟨82, _⟩ => ⟨S1024x64, .f32⟩
  | .hbm, ⟨83, _⟩ => ⟨S1024x128, .f32⟩
  | .hbm, ⟨84, _⟩ => ⟨S_, .i32⟩
  | .hbm, ⟨85, _⟩ => ⟨S_, .f32⟩
  | .hbm, ⟨86, _⟩ => ⟨S12x1024x128, .f32⟩
  | .hbm, ⟨87, _⟩ => ⟨S_, .i32⟩
  | .hbm, ⟨88, _⟩ => ⟨S_, .f32⟩
  | .hbm, ⟨89, _⟩ => ⟨S4x256x128, .f32⟩
  | .hbm, ⟨90, _⟩ => ⟨S4x1024x2048, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x128, .f32⟩
  | .local _ .vmem, ⟨5, _⟩ => ⟨S1x1024x128, .f32⟩
  | .local _ .vmem, ⟨6, _⟩ => ⟨S1x256x512, .bf16⟩
  | .local _ .vmem, ⟨7, _⟩ => ⟨S1x256x512, .bf16⟩
  | .local _ .vmem, ⟨8, _⟩ => ⟨S1x256x128, .f32⟩
  | .local _ .vmem, ⟨9, _⟩ => ⟨S1x256x128, .f32⟩
  | .local _ .vmem, ⟨10, _⟩ => ⟨S1024x128, .f32⟩
  | .local _ .vmem, ⟨11, _⟩ => ⟨S1024x128, .f32⟩
  | .local _ .vmem, ⟨12, _⟩ => ⟨S1x1024x256, .bf16⟩
  | .local _ .vmem, ⟨13, _⟩ => ⟨S1x1024x256, .bf16⟩
  | _, _ => ⟨S12x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_cst : Ref sig .tc := ⟨.hbm, 50, rfl⟩
abbrev main_v7 : Ref sig .tc := ⟨.hbm, 51, rfl⟩
abbrev main_v8 : Ref sig .tc := ⟨.hbm, 52, rfl⟩
abbrev main_cst_1 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_cst_2 : Ref sig .tc := ⟨.hbm, 78, rfl⟩
abbrev main_v33 : Ref sig .tc := ⟨.hbm, 79, rfl⟩
abbrev main_v34 : Ref sig .tc := ⟨.hbm, 80, rfl⟩
abbrev main_cst_3 : Ref sig .tc := ⟨.hbm, 81, rfl⟩
abbrev main_v35 : Ref sig .tc := ⟨.hbm, 82, rfl⟩
abbrev main_v36 : Ref sig .tc := ⟨.hbm, 83, rfl⟩
abbrev main_c_4 : Ref sig .tc := ⟨.hbm, 84, rfl⟩
abbrev main_call2_v0 : Ref sig .tc := ⟨.hbm, 85, rfl⟩
abbrev main_v37 : Ref sig .tc := ⟨.hbm, 86, rfl⟩
abbrev main_c_5 : Ref sig .tc := ⟨.hbm, 87, rfl⟩
abbrev main_call3_v0 : Ref sig .tc := ⟨.hbm, 88, rfl⟩
abbrev main_v38 : Ref sig .tc := ⟨.hbm, 89, rfl⟩
abbrev main_v39 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S12x1024x4096 : Shape := ⟨3, ![12, 1024, 4096]⟩
abbrev S4x256x4096 : Shape := ⟨3, ![4, 256, 4096]⟩
abbrev S12x1024x64 : Shape := ⟨3, ![12, 1024, 64]⟩
abbrev S4x256x64 : Shape := ⟨3, ![4, 256, 64]⟩
abbrev S4x1024x4096 : Shape := ⟨3, ![4, 1024, 4096]⟩
abbrev S4x1024x16x256 : Shape := ⟨4, ![4, 1024, 16, 256]⟩
abbrev S4x16x1024x256 : Shape := ⟨4, ![4, 16, 1024, 256]⟩
abbrev S4x16x1024x192 : Shape := ⟨4, ![4, 16, 1024, 192]⟩
abbrev S4x16x1024x128 : Shape := ⟨4, ![4, 16, 1024, 128]⟩
abbrev S4x16x1024x64 : Shape := ⟨4, ![4, 16, 1024, 64]⟩
abbrev S1024 : Shape := ⟨1, ![1024]⟩
abbrev S_ : Shape := ⟨0, ![]⟩
abbrev S16 : Shape := ⟨1, ![16]⟩
abbrev S4x16x1024x32 : Shape := ⟨4, ![4, 16, 1024, 32]⟩
abbrev S1024x1 : Shape := ⟨2, ![1024, 1]⟩
abbrev S1x16 : Shape := ⟨2, ![1, 16]⟩
abbrev S1024x16 : Shape := ⟨2, ![1024, 16]⟩
abbrev S4x16x1024x16 : Shape := ⟨4, ![4, 16, 1024, 16]⟩
abbrev S1x1x1024x16 : Shape := ⟨4, ![1, 1, 1024, 16]⟩
abbrev S4x1024x64 : Shape := ⟨3, ![4, 1024, 64]⟩
abbrev S4x1024x32 : Shape := ⟨3, ![4, 1024, 32]⟩
abbrev S4x1024x16 : Shape := ⟨3, ![4, 1024, 16]⟩
abbrev S1x1024x16 : Shape := ⟨3, ![1, 1024, 16]⟩
abbrev S4x1x1024x64 : Shape := ⟨4, ![4, 1, 1024, 64]⟩
abbrev S4x256x16x256 : Shape := ⟨4, ![4, 256, 16, 256]⟩
abbrev S4x16x256x256 : Shape := ⟨4, ![4, 16, 256, 256]⟩
abbrev S4x16x256x128 : Shape := ⟨4, ![4, 16, 256, 128]⟩
abbrev S4x1x256x64 : Shape := ⟨4, ![4, 1, 256, 64]⟩
abbrev S4x16x256x64 : Shape := ⟨4, ![4, 16, 256, 64]⟩
abbrev S4x16x256x192 : Shape := ⟨4, ![4, 16, 256, 192]⟩
abbrev S4x16x1280x192 : Shape := ⟨4, ![4, 16, 1280, 192]⟩
abbrev S4x16x1280x128 : Shape := ⟨4, ![4, 16, 1280, 128]⟩
abbrev S4x16x1024x1280 : Shape := ⟨4, ![4, 16, 1024, 1280]⟩
abbrev S4x16x1024 : Shape := ⟨3, ![4, 16, 1024]⟩
abbrev S4x16x1024x1 : Shape := ⟨4, ![4, 16, 1024, 1]⟩
abbrev S4x1024x16x128 : Shape := ⟨4, ![4, 1024, 16, 128]⟩
abbrev S4x1024x2048 : Shape := ⟨3, ![4, 1024, 2048]⟩

abbrev nBuf : Space → Nat
  | .hbm => 259
  | .vmem => 0
  | .smem => 0
  | _ => 0

abbrev hbmTy0_0 (i : Nat) : BufTy := match i % 128 with
  | 0 => ⟨S12x1024x4096, .bf16⟩
  | 1 => ⟨S12x1024x4096, .bf16⟩
  | 2 => ⟨S4x256x4096, .bf16⟩
  | 3 => ⟨S12x1024x64, .f32⟩
  | 4 => ⟨S4x256x64, .f32⟩
  | 5 => ⟨S12x1024x4096, .f32⟩
  | 6 => ⟨S4x1024x4096, .f32⟩
  | 7 => ⟨S4x1024x16x256, .f32⟩
  | 8 => ⟨S4x16x1024x256, .f32⟩
  | 9 => ⟨S4x16x1024x192, .f32⟩
  | 10 => ⟨S4x16x1024x128, .f32⟩
  | 11 => ⟨S4x16x1024x64, .f32⟩
  | 12 => ⟨S1024, .i32⟩
  | 13 => ⟨S_, .i32⟩
  | 14 => ⟨S_, .i32⟩
  | 15 => ⟨S1024, .i32⟩
  | 16 => ⟨S1024, .i32⟩
  | 17 => ⟨S1024, .i32⟩
  | 18 => ⟨S_, .i32⟩
  | 19 => ⟨S1024, .i32⟩
  | 20 => ⟨S1024, .i1⟩
  | 21 => ⟨S1024, .i32⟩
  | 22 => ⟨S1024, .i32⟩
  | 23 => ⟨S_, .i32⟩
  | 24 => ⟨S1024, .i32⟩
  | 25 => ⟨S1024, .i1⟩
  | 26 => ⟨S1024, .i1⟩
  | 27 => ⟨S_, .i32⟩
  | 28 => ⟨S1024, .i32⟩
  | 29 => ⟨S1024, .i32⟩
  | 30 => ⟨S1024, .i32⟩
  | 31 => ⟨S1024, .f32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S1024, .i32⟩
  | 39 => ⟨S1024, .i32⟩
  | 40 => ⟨S_, .i32⟩
  | 41 => ⟨S1024, .i32⟩
  | 42 => ⟨S1024, .i1⟩
  | 43 => ⟨S_, .i32⟩
  | 44 => ⟨S1024, .i32⟩
  | 45 => ⟨S1024, .i1⟩
  | 46 => ⟨S_, .i32⟩
  | 47 => ⟨S_, .i1⟩
  | 48 => ⟨S1024, .i1⟩
  | 49 => ⟨S1024, .i1⟩
  | 50 => ⟨S1024, .i1⟩
  | 51 => ⟨S1024, .i32⟩
  | 52 => ⟨S1024, .i32⟩
  | 53 => ⟨S1024, .i32⟩
  | 54 => ⟨S1024, .f32⟩
  | 55 => ⟨S16, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S4x16x1024x32, .f32⟩
  | 64 => ⟨S4x16x1024x32, .f32⟩
  | 65 => ⟨S1024x1, .f32⟩
  | 66 => ⟨S1x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S4x16x1024x16, .f32⟩
  | 73 => ⟨S4x16x1024x16, .f32⟩
  | 74 => ⟨S1x1x1024x16, .f32⟩
  | 75 => ⟨S4x16x1024x16, .f32⟩
  | 76 => ⟨S4x16x1024x16, .f32⟩
  | 77 => ⟨S1x1x1024x16, .f32⟩
  | 78 => ⟨S4x16x1024x16, .f32⟩
  | 79 => ⟨S4x16x1024x16, .f32⟩
  | 80 => ⟨S4x16x1024x16, .f32⟩
  | 81 => ⟨S1x1x1024x16, .f32⟩
  | 82 => ⟨S4x16x1024x16, .f32⟩
  | 83 => ⟨S4x16x1024x16, .f32⟩
  | 84 => ⟨S1x1x1024x16, .f32⟩
  | 85 => ⟨S4x16x1024x16, .f32⟩
  | 86 => ⟨S4x16x1024x16, .f32⟩
  | 87 => ⟨S4x16x1024x16, .f32⟩
  | 88 => ⟨S4x16x1024x32, .f32⟩
  | 89 => ⟨S1024x1, .f32⟩
  | 90 => ⟨S1x16, .f32⟩
  | 91 => ⟨S1024x16, .f32⟩
  | 92 => ⟨S1024x16, .f32⟩
  | 93 => ⟨S1024x16, .f32⟩
  | 94 => ⟨S1024x16, .f32⟩
  | 95 => ⟨S1024x16, .f32⟩
  | 96 => ⟨S4x16x1024x16, .f32⟩
  | 97 => ⟨S4x16x1024x16, .f32⟩
  | 98 => ⟨S1x1x1024x16, .f32⟩
  | 99 => ⟨S4x16x1024x16, .f32⟩
  | 100 => ⟨S4x16x1024x16, .f32⟩
  | 101 => ⟨S1x1x1024x16, .f32⟩
  | 102 => ⟨S4x16x1024x16, .f32⟩
  | 103 => ⟨S4x16x1024x16, .f32⟩
  | 104 => ⟨S4x16x1024x16, .f32⟩
  | 105 => ⟨S1x1x1024x16, .f32⟩
  | 106 => ⟨S4x16x1024x16, .f32⟩
  | 107 => ⟨S4x16x1024x16, .f32⟩
  | 108 => ⟨S1x1x1024x16, .f32⟩
  | 109 => ⟨S4x16x1024x16, .f32⟩
  | 110 => ⟨S4x16x1024x16, .f32⟩
  | 111 => ⟨S4x16x1024x16, .f32⟩
  | 112 => ⟨S4x16x1024x32, .f32⟩
  | 113 => ⟨S4x16x1024x64, .f32⟩
  | 114 => ⟨S4x16x1024x192, .f32⟩
  | 115 => ⟨S12x1024x4096, .f32⟩
  | 116 => ⟨S4x1024x4096, .f32⟩
  | 117 => ⟨S4x1024x64, .f32⟩
  | 118 => ⟨S1024, .i32⟩
  | 119 => ⟨S_, .i32⟩
  | 120 => ⟨S_, .i32⟩
  | 121 => ⟨S1024, .i32⟩
  | 122 => ⟨S1024, .i32⟩
  | 123 => ⟨S1024, .i32⟩
  | 124 => ⟨S_, .i32⟩
  | 125 => ⟨S1024, .i32⟩
  | 126 => ⟨S1024, .i1⟩
  | 127 => ⟨S1024, .i32⟩
  | _ => ⟨S12x1024x4096, .bf16⟩

abbrev hbmTy0_1 (i : Nat) : BufTy := match i % 128 with
  | 0 => ⟨S1024, .i32⟩
  | 1 => ⟨S_, .i32⟩
  | 2 => ⟨S1024, .i32⟩
  | 3 => ⟨S1024, .i1⟩
  | 4 => ⟨S1024, .i1⟩
  | 5 => ⟨S_, .i32⟩
  | 6 => ⟨S1024, .i32⟩
  | 7 => ⟨S1024, .i32⟩
  | 8 => ⟨S1024, .i32⟩
  | 9 => ⟨S1024, .f32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S1024, .i32⟩
  | 17 => ⟨S1024, .i32⟩
  | 18 => ⟨S_, .i32⟩
  | 19 => ⟨S1024, .i32⟩
  | 20 => ⟨S1024, .i1⟩
  | 21 => ⟨S_, .i32⟩
  | 22 => ⟨S1024, .i32⟩
  | 23 => ⟨S1024, .i1⟩
  | 24 => ⟨S_, .i32⟩
  | 25 => ⟨S_, .i1⟩
  | 26 => ⟨S1024, .i1⟩
  | 27 => ⟨S1024, .i1⟩
  | 28 => ⟨S1024, .i1⟩
  | 29 => ⟨S1024, .i32⟩
  | 30 => ⟨S1024, .i32⟩
  | 31 => ⟨S1024, .i32⟩
  | 32 => ⟨S1024, .f32⟩
  | 33 => ⟨S16, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S4x1024x32, .f32⟩
  | 42 => ⟨S4x1024x32, .f32⟩
  | 43 => ⟨S1024x1, .f32⟩
  | 44 => ⟨S1x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S4x1024x16, .f32⟩
  | 51 => ⟨S4x1024x16, .f32⟩
  | 52 => ⟨S1x1024x16, .f32⟩
  | 53 => ⟨S4x1024x16, .f32⟩
  | 54 => ⟨S4x1024x16, .f32⟩
  | 55 => ⟨S1x1024x16, .f32⟩
  | 56 => ⟨S4x1024x16, .f32⟩
  | 57 => ⟨S4x1024x16, .f32⟩
  | 58 => ⟨S4x1024x16, .f32⟩
  | 59 => ⟨S1x1024x16, .f32⟩
  | 60 => ⟨S4x1024x16, .f32⟩
  | 61 => ⟨S4x1024x16, .f32⟩
  | 62 => ⟨S1x1024x16, .f32⟩
  | 63 => ⟨S4x1024x16, .f32⟩
  | 64 => ⟨S4x1024x16, .f32⟩
  | 65 => ⟨S4x1024x16, .f32⟩
  | 66 => ⟨S4x1024x32, .f32⟩
  | 67 => ⟨S1024x1, .f32⟩
  | 68 => ⟨S1x16, .f32⟩
  | 69 => ⟨S1024x16, .f32⟩
  | 70 => ⟨S1024x16, .f32⟩
  | 71 => ⟨S1024x16, .f32⟩
  | 72 => ⟨S1024x16, .f32⟩
  | 73 => ⟨S1024x16, .f32⟩
  | 74 => ⟨S4x1024x16, .f32⟩
  | 75 => ⟨S4x1024x16, .f32⟩
  | 76 => ⟨S1x1024x16, .f32⟩
  | 77 => ⟨S4x1024x16, .f32⟩
  | 78 => ⟨S4x1024x16, .f32⟩
  | 79 => ⟨S1x1024x16, .f32⟩
  | 80 => ⟨S4x1024x16, .f32⟩
  | 81 => ⟨S4x1024x16, .f32⟩
  | 82 => ⟨S4x1024x16, .f32⟩
  | 83 => ⟨S1x1024x16, .f32⟩
  | 84 => ⟨S4x1024x16, .f32⟩
  | 85 => ⟨S4x1024x16, .f32⟩
  | 86 => ⟨S1x1024x16, .f32⟩
  | 87 => ⟨S4x1024x16, .f32⟩
  | 88 => ⟨S4x1024x16, .f32⟩
  | 89 => ⟨S4x1024x16, .f32⟩
  | 90 => ⟨S4x1024x32, .f32⟩
  | 91 => ⟨S4x1024x64, .f32⟩
  | 92 => ⟨S4x1024x16x256, .f32⟩
  | 93 => ⟨S4x16x1024x256, .f32⟩
  | 94 => ⟨S4x16x1024x128, .f32⟩
  | 95 => ⟨S4x16x1024x128, .f32⟩
  | 96 => ⟨S4x1x1024x64, .f32⟩
  | 97 => ⟨S4x16x1024x64, .f32⟩
  | 98 => ⟨S4x16x1024x192, .f32⟩
  | 99 => ⟨S4x256x4096, .f32⟩
  | 100 => ⟨S4x256x16x256, .f32⟩
  | 101 => ⟨S4x16x256x256, .f32⟩
  | 102 => ⟨S4x16x256x128, .f32⟩
  | 103 => ⟨S4x16x256x128, .f32⟩
  | 104 => ⟨S4x1x256x64, .f32⟩
  | 105 => ⟨S4x16x256x64, .f32⟩
  | 106 => ⟨S4x16x256x192, .f32⟩
  | 107 => ⟨S4x16x1280x192, .f32⟩
  | 108 => ⟨S4x16x1280x128, .f32⟩
  | 109 => ⟨S4x16x1024x1280, .f32⟩
  | 110 => ⟨S_, .f32⟩
  | 111 => ⟨S4x16x1024x1280, .f32⟩
  | 112 => ⟨S4x16x1024x1280, .f32⟩
  | 113 => ⟨S_, .f32⟩
  | 114 => ⟨S4x16x1024, .f32⟩
  | 115 => ⟨S_, .f32⟩
  | 116 => ⟨S4x16x1024, .f32⟩
  | 117 => ⟨S4x16x1024, .f32⟩
  | 118 => ⟨S4x16x1024x1, .f32⟩
  | 119 => ⟨S4x16x1024x1280, .f32⟩
  | 120 => ⟨S4x16x1024x1280, .f32⟩
  | 121 => ⟨S4x16x1024x1280, .f32⟩
  | 122 => ⟨S_, .f32⟩
  | 123 => ⟨S4x16x1024, .f32⟩
  | 124 => ⟨S4x16x1024x1, .f32⟩
  | 125 => ⟨S4x16x1024x1280, .f32⟩
  | 126 => ⟨S4x16x1024x1280, .f32⟩
  | 127 => ⟨S4x16x1024x128, .f32⟩
  | _ => ⟨S12x1024x4096, .bf16⟩

abbrev hbmTy0_2 (i : Nat) : BufTy := match i % 128 with
  | 0 => ⟨S4x1024x16x128, .f32⟩
  | 1 => ⟨S4x1024x2048, .f32⟩
  | 2 => ⟨S4x1024x2048, .bf16⟩
  | _ => ⟨S12x1024x4096, .bf16⟩

abbrev hbmTy (i : Nat) : BufTy := match i / 128 with
  | 0 => hbmTy0_0 i
  | 1 => hbmTy0_1 i
  | 2 => hbmTy0_2 i
  | _ => ⟨S12x1024x4096, .bf16⟩

abbrev bufTy : (tb : Table) → Fin (tcTables nBuf tb) → BufTy
  | .hbm, ⟨i, _⟩ => hbmTy i
  | _, _ => ⟨S12x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_cst : Ref sig .tc := ⟨.hbm, 57, rfl⟩
abbrev main_v14 : Ref sig .tc := ⟨.hbm, 58, rfl⟩
abbrev main_v15 : Ref sig .tc := ⟨.hbm, 59, rfl⟩
abbrev main_cst_1 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_c_2 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_v6 : Ref sig .tc := ⟨.hbm, 126, rfl⟩
abbrev main_call2_v7 : Ref sig .tc := ⟨.hbm, 127, rfl⟩
abbrev main_call2_v8 : Ref sig .tc := ⟨.hbm, 128, rfl⟩
abbrev main_call2_c : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_c_0 : Ref sig .tc := ⟨.hbm, 133, rfl⟩
abbrev main_call2_v12 : Ref sig .tc := ⟨.hbm, 134, rfl⟩
abbrev main_call2_v13 : Ref sig .tc := ⟨.hbm, 135, rfl⟩
abbrev main_v74 : Ref sig .tc := ⟨.hbm, 136, rfl⟩
abbrev main_v75 : Ref sig .tc := ⟨.hbm, 137, rfl⟩
abbrev main_c_3 : Ref sig .tc := ⟨.hbm, 138, rfl⟩
abbrev main_call3_v0 : Ref sig .tc := ⟨.hbm, 139, rfl⟩
abbrev main_call3_c : Ref sig .tc := ⟨.hbm, 140, rfl⟩
abbrev main_call3_v1 : Ref sig .tc := ⟨.hbm, 141, rfl⟩
abbrev main_call3_c_0 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_call3_c_1 : Ref sig .tc := ⟨.hbm, 146, rfl⟩
abbrev main_call3_v5 : Ref sig .tc := ⟨.hbm, 147, rfl⟩
abbrev main_call3_v6 : Ref sig .tc := ⟨.hbm, 148, rfl⟩
abbrev main_call3_c_2 : Ref sig .tc := ⟨.hbm, 149, rfl⟩
abbrev main_call3_v7 : Ref sig .tc := ⟨.hbm, 150, rfl⟩
abbrev main_call3_v8 : Ref sig .tc := ⟨.hbm, 151, rfl⟩
abbrev main_call3_c_3 : Ref sig .tc := ⟨.hbm, 152, rfl⟩
abbrev main_call3_v9 : Ref sig .tc := ⟨.hbm, 153, rfl⟩
abbrev main_call3_v10 : Ref sig .tc := ⟨.hbm, 154, rfl⟩
abbrev main_call3_v11 : Ref sig .tc := ⟨.hbm, 155, rfl⟩
abbrev main_call3_v12 : Ref sig .tc := ⟨.hbm, 156, rfl⟩
abbrev main_call3_v13 : Ref sig .tc := ⟨.hbm, 157, rfl⟩
abbrev main_call3_v14 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_cst_4 : Ref sig .tc := ⟨.hbm, 163, rfl⟩
abbrev main_v80 : Ref sig .tc := ⟨.hbm, 164, rfl⟩
abbrev main_v81 : Ref sig .tc := ⟨.hbm, 165, rfl⟩
abbrev main_cst_5 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_cst_6 : Ref sig .tc := ⟨.hbm, 238, rfl⟩
abbrev main_v153 : Ref sig .tc := ⟨.hbm, 239, rfl⟩
abbrev main_v154 : Ref sig .tc := ⟨.hbm, 240, rfl⟩
abbrev main_cst_7 : Ref sig .tc := ⟨.hbm, 241, rfl⟩
abbrev main_v155 : Ref sig .tc := ⟨.hbm, 242, rfl⟩
abbrev main_cst_8 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_cst_9 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩

abbrev nD : Nat := 1
abbrev τ : Topo := Topo.v7x

variable {F : FTy → Type} [FloatOps F]
-- ==== Kernel2.lean ====
abbrev S12288x4096 : Shape := ⟨2, ![12288, 4096]⟩
abbrev S4096x22016 : Shape := ⟨2, ![4096, 22016]⟩
abbrev S3x22016 : Shape := ⟨2, ![3, 22016]⟩
abbrev S22016 : Shape := ⟨1, ![22016]⟩
abbrev S1x22016 : Shape := ⟨2, ![1, 22016]⟩
abbrev S12288x11008 : Shape := ⟨2, ![12288, 11008]⟩
abbrev S4096x4096 : Shape := ⟨2, ![4096, 4096]⟩
abbrev S4096x256 : Shape := ⟨2, ![4096, 256]⟩
abbrev S3x256 : Shape := ⟨2, ![3, 256]⟩
abbrev S1x256 : Shape := ⟨2, ![1, 256]⟩
abbrev S1024x1 : Shape := ⟨2, ![1024, 1]⟩
abbrev S1024x4096 : Shape := ⟨2, ![1024, 4096]⟩
abbrev S1024x256 : Shape := ⟨2, ![1024, 256]⟩

abbrev nBuf : Space → Nat
  | .hbm => 6
  | .vmem => 15
  | .smem => 0
  | _ => 0

abbrev bufTy : (tb : Table) → Fin (tcTables nBuf tb) → BufTy
  | .hbm, ⟨0, _⟩ => ⟨S12288x4096, .bf16⟩
  | .hbm, ⟨1, _⟩ => ⟨S4096x22016, .f32⟩
  | .hbm, ⟨2, _⟩ => ⟨S3x22016, .f32⟩
  | .hbm, ⟨3, _⟩ => ⟨S22016, .f32⟩
  | .hbm, ⟨4, _⟩ => ⟨S1x22016, .f32⟩
  | .hbm, ⟨5, _⟩ => ⟨S12288x11008, .bf16⟩
  | .local _ .vmem, ⟨0, _⟩ => ⟨S4096x4096, .bf16⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S4096x256, .bf16⟩
  | .local _ .vmem, ⟨14, _⟩ => ⟨S4096x256, .bf16⟩
  | _, _ => ⟨S12288x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![3, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S12288x4096 : Shape := ⟨2, ![12288, 4096]⟩
abbrev S4096x22016 : Shape := ⟨2, ![4096, 22016]⟩
abbrev S3x22016 : Shape := ⟨2, ![3, 22016]⟩
abbrev S22016 : Shape := ⟨1, ![22016]⟩
abbrev S8192x4096 : Shape := ⟨2, ![8192, 4096]⟩
abbrev S32x256x4096 : Shape := ⟨3, ![32, 256, 4096]⟩
abbrev S4096x4096 : Shape := ⟨2, ![4096, 4096]⟩
abbrev S4x1024x4096 : Shape := ⟨3, ![4, 1024, 4096]⟩
abbrev S32x256x22016 : Shape := ⟨3, ![32, 256, 22016]⟩
abbrev S_ : Shape := ⟨0, ![]⟩
abbrev S32x258x22016 : Shape := ⟨3, ![32, 258, 22016]⟩
abbrev S1x22016 : Shape := ⟨2, ![1, 22016]⟩
abbrev S1x1x22016 : Shape := ⟨3, ![1, 1, 22016]⟩
abbrev S32x256x11008 : Shape := ⟨3, ![32, 256, 11008]⟩
abbrev S4x1024x22016 : Shape := ⟨3, ![4, 1024, 22016]⟩
abbrev S4x1026x22016 : Shape := ⟨3, ![4, 1026, 22016]⟩
abbrev S4x1024x11008 : Shape := ⟨3, ![4, 1024, 11008]⟩
abbrev S8192x11008 : Shape := ⟨2, ![8192, 11008]⟩
abbrev S4096x11008 : Shape := ⟨2, ![4096, 11008]⟩
abbrev S12288x11008 : Shape := ⟨2, ![12288, 11008]⟩

abbrev nBuf : Space → Nat
  | .hbm => 91
  | .vmem => 0
  | .smem => 0
  | _ => 0

abbrev bufTy : (tb : Table) → Fin (tcTables nBuf tb) → BufTy
  | .hbm, ⟨0, _⟩ => ⟨S12288x4096, .bf16⟩
  | .hbm, ⟨1, _⟩ => ⟨S4096x22016, .f32⟩
  | .hbm, ⟨2, _⟩ => ⟨S3x22016, .f32⟩
  | .hbm, ⟨3, _⟩ => ⟨S22016, .f32⟩
  | .hbm, ⟨4, _⟩ => ⟨S12288x4096, .f32⟩
  | .hbm, ⟨5, _⟩ => ⟨S8192x4096, .f32⟩
  | .hbm, ⟨6, _⟩ => ⟨S32x256x4096, .f32⟩
  | .hbm, ⟨7, _⟩ => ⟨S4096x4096, .f32⟩
  | .hbm, ⟨8, _⟩ => ⟨S4x1024x4096, .f32⟩
  | .hbm, ⟨9, _⟩ => ⟨S32x256x22016, .f32⟩
  | .hbm, ⟨10, _⟩ => ⟨S_, .i32⟩
  | .hbm, ⟨11, _⟩ => ⟨S_, .f32⟩
  | .hbm, ⟨12, _⟩ => ⟨S32x258x22016, .f32⟩
  | .hbm, ⟨13, _⟩ => ⟨S32x256x22016, .f32⟩
  | .hbm, ⟨14, _⟩ => ⟨S1x22016, .f32⟩
  | .hbm, ⟨15, _⟩ => ⟨S22016, .f32⟩
  | .hbm, ⟨16, _⟩ => ⟨S1x1x22016, .f32⟩
  | .hbm, ⟨17, _⟩ => ⟨S32x256x22016, .f32⟩
  | .hbm, ⟨18, _⟩ => ⟨S32x256x22016, .f32⟩
  | .hbm, ⟨19, _⟩ => ⟨S32x256x22016, .f32⟩
  | .hbm, ⟨20, _⟩ => ⟨S1x22016, .f32⟩
  | .hbm, ⟨21, _⟩ => ⟨S22016, .f32⟩
  | .hbm, ⟨22, _⟩ => ⟨S1x1x22016, .f32⟩
  | .hbm, ⟨23, _⟩ => ⟨S32x256x22016, .f32⟩
  | .hbm, ⟨24, _⟩ => ⟨S32x256x22016, .f32⟩
  | .hbm, ⟨25, _⟩ => ⟨S32x256x22016, .f32⟩
  | .hbm, ⟨26, _⟩ => ⟨S32x256x22016, .f32⟩
  | .hbm, ⟨27, _⟩ => ⟨S1x22016, .f32⟩
  | .hbm, ⟨28, _⟩ => ⟨S22016, .f32⟩
  | .hbm, ⟨29, _⟩ => ⟨S1x1x22016, .f32⟩
  | .hbm, ⟨30, _⟩ => ⟨S32x256x22016, .f32⟩
  | .hbm, ⟨31, _⟩ => ⟨S32x256x22016, .f32⟩
  | .hbm, ⟨32, _⟩ => ⟨S32x256x22016, .f32⟩
  | .hbm, ⟨33, _⟩ => ⟨S1x1x22016, .f32⟩
  | .hbm, ⟨34, _⟩ => ⟨S32x256x22016, .f32⟩
  | .hbm, ⟨35, _⟩ => ⟨S32x256x22016, .f32⟩
  | .hbm, ⟨36, _⟩ => ⟨S32x256x11008, .f32⟩
  | .hbm, ⟨37, _⟩ => ⟨S32x256x11008, .f32⟩
  | .hbm, ⟨38, _⟩ => ⟨S32x256x11008, .f32⟩
  | .hbm, ⟨39, _⟩ => ⟨S32x256x11008, .f32⟩
  | .hbm, ⟨40, _⟩ => ⟨S_, .f32⟩
  | .hbm, ⟨41, _⟩ => ⟨S32x256x11008, .f32⟩
  | .hbm, ⟨42, _⟩ => ⟨S32x256x11008, .f32⟩
  | .hbm, ⟨43, _⟩ => ⟨S_, .f32⟩
  | .hbm, ⟨44, _⟩ => ⟨S32x256x11008, .f32⟩
  | .hbm, ⟨45, _⟩ => ⟨S32x256x11008, .f32⟩
  | .hbm, ⟨46, _⟩ => ⟨S32x256x11008, .f32⟩
  | .hbm, ⟨47, _⟩ => ⟨S32x256x11008, .f32⟩
  | .hbm, ⟨48, _⟩ => ⟨S4x1024x22016, .f32⟩
  | .hbm, ⟨49, _⟩ => ⟨S_, .i32⟩
  | .hbm, ⟨50, _⟩ => ⟨S_, .f32⟩
  | .hbm, ⟨51, _⟩ => ⟨S4x1026x22016, .f32⟩
  | .hbm, ⟨52, _⟩ => ⟨S4x1024x22016, .f32⟩
  | .hbm, ⟨53, _⟩ => ⟨S1x22016, .f32⟩
  | .hbm, ⟨54, _⟩ => ⟨S22016, .f32⟩
  | .hbm, ⟨55, _⟩ => ⟨S1x1x22016, .f32⟩
  | .hbm, ⟨56, _⟩ => ⟨S4x1024x22016, .f32⟩
  | .hbm, ⟨57, _⟩ => ⟨S4x1024x22016, .f32⟩
  | .hbm, ⟨58, _⟩ => ⟨S4x1024x22016, .f32⟩
  | .hbm, ⟨59, _⟩ => ⟨S1x22016, .f32⟩
  | .hbm, ⟨60, _⟩ => ⟨S22016, .f32⟩
  | .hbm, ⟨61, _⟩ => ⟨S1x1x22016, .f32⟩
  | .hbm, ⟨62, _⟩ => ⟨S4x1024x22016, .f32⟩
  | .hbm, ⟨63, _⟩ => ⟨S4x1024x22016, .f32⟩
  | .hbm, ⟨64, _⟩ => ⟨S4x1024x22016, .f32⟩
  | .hbm, ⟨65, _⟩ => ⟨S4x1024x22016, .f32⟩
  | .hbm, ⟨66, _⟩ => ⟨S1x22016, .f32⟩
  | .hbm, ⟨67, _⟩ => ⟨S22016, .f32⟩
  | .hbm, ⟨68, _⟩ => ⟨S1x1x22016, .f32⟩
  | .hbm, ⟨69, _⟩ => ⟨S4x1024x22016, .f32⟩
  | .hbm, ⟨70, _⟩ => ⟨S4x1024x22016, .f32⟩
  | .hbm, ⟨71, _⟩ => ⟨S4x1024x22016, .f32⟩
  | .hbm, ⟨72, _⟩ => ⟨S1x1x22016, .f32⟩
  | .hbm, ⟨73, _⟩ => ⟨S4x1024x22016, .f32⟩
  | .hbm, ⟨74, _⟩ => ⟨S4x1024x22016, .f32⟩
  | .hbm, ⟨75, _⟩ => ⟨S4x1024x11008, .f32⟩
  | .hbm, ⟨76, _⟩ => ⟨S4x1024x11008, .f32⟩
  | .hbm, ⟨77, _⟩ => ⟨S4x1024x11008, .f32⟩
  | .hbm, ⟨78, _⟩ => ⟨S4x1024x11008, .f32⟩
  | .hbm, ⟨79, _⟩ => ⟨S_, .f32⟩
  | .hbm, ⟨80, _⟩ => ⟨S4x1024x11008, .f32⟩
  | .hbm, ⟨81, _⟩ => ⟨S4x1024x11008, .f32⟩
  | .hbm, ⟨82, _⟩ => ⟨S_, .f32⟩
  | .hbm, ⟨83, _⟩ => ⟨S4x1024x11008, .f32⟩
  | .hbm, ⟨84, _⟩ => ⟨S4x1024x11008, .f32⟩
  | .hbm, ⟨85, _⟩ => ⟨S4x1024x11008, .f32⟩
  | .hbm, ⟨86, _⟩ => ⟨S4x1024x11008, .f32⟩
  | .hbm, ⟨87, _⟩ => ⟨S8192x11008, .f32⟩
  | .hbm, ⟨88, _⟩ => ⟨S4096x11008, .f32⟩
  | .hbm, ⟨89, _⟩ => ⟨S12288x11008, .f32⟩
  | .hbm, ⟨90, _⟩ => ⟨S12288x11008, .bf16⟩
  | _, _ => ⟨S12288x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_0 : Ref sig .tc := ⟨.hbm, 49, rfl⟩
abbrev main_call2_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_call3_v0 : Ref sig .tc := ⟨.hbm, 77, rfl⟩
abbrev main_call3_v1 : Ref sig .tc := ⟨.hbm, 78, rfl⟩
abbrev main_call3_cst : Ref sig .tc := ⟨.hbm, 79, rfl⟩
abbrev main_call3_v2 : Ref sig .tc := ⟨.hbm, 80, rfl⟩
abbrev main_call3_v3 : Ref sig .tc := ⟨.hbm, 81, rfl⟩
abbrev main_call3_cst_0 : Ref sig .tc := ⟨.hbm, 82, rfl⟩
abbrev main_call3_v4 : Ref sig .tc := ⟨.hbm, 83, rfl⟩
abbrev main_call3_v5 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Kernel3.lean ====
abbrev S12288x11008 : Shape := ⟨2, ![12288, 11008]⟩
abbrev S11008x4096 : Shape := ⟨2, ![11008, 4096]⟩
abbrev S12288x4096 : Shape := ⟨2, ![12288, 4096]⟩
abbrev S8x1x24576 : Shape := ⟨3, ![8, 1, 24576]⟩
abbrev S512x11008 : Shape := ⟨2, ![512, 11008]⟩
abbrev S11008x512 : Shape := ⟨2, ![11008, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S12288x11008, .bf16⟩
  | .hbm, ⟨1, _⟩ => ⟨S11008x4096, .f32⟩
  | .hbm, ⟨2, _⟩ => ⟨S12288x4096, .f32⟩
  | .hbm, ⟨3, _⟩ => ⟨S8x1x24576, .f32⟩
  | .hbm, ⟨4, _⟩ => ⟨S11008x4096, .bf16⟩
  | .hbm, ⟨5, _⟩ => ⟨S12288x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S12288x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c40_i32 : BitVec 32 := 40#32
  let v21 : BitVec 32 := Scalar.addi c40_i32 arg1
  let c0_i32_7 : BitVec 32 := 0#32
  let c0_i32_8 : BitVec 32 := 0#32
  ![v20.toNat, c0_i32_7.toNat, v21.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S12288x11008 : Shape := ⟨2, ![12288, 11008]⟩
abbrev S11008x4096 : Shape := ⟨2, ![11008, 4096]⟩
abbrev S12288x4096 : Shape := ⟨2, ![12288, 4096]⟩
abbrev S8x1x24576 : Shape := ⟨3, ![8, 1, 24576]⟩
abbrev S8x1x4096 : Shape := ⟨3, ![8, 1, 4096]⟩
abbrev S1x1x4096 : Shape := ⟨3, ![1, 1, 4096]⟩
abbrev S4x1x4096 : Shape := ⟨3, ![4, 1, 4096]⟩
abbrev S8192x11008 : Shape := ⟨2, ![8192, 11008]⟩
abbrev S32x256x11008 : Shape := ⟨3, ![32, 256, 11008]⟩
abbrev S4096x11008 : Shape := ⟨2, ![4096, 11008]⟩
abbrev S4x1024x11008 : Shape := ⟨3, ![4, 1024, 11008]⟩
abbrev S32x256x4096 : Shape := ⟨3, ![32, 256, 4096]⟩
abbrev S4x1024x4096 : Shape := ⟨3, ![4, 1024, 4096]⟩
abbrev S8192x4096 : Shape := ⟨2, ![8192, 4096]⟩
abbrev S4096x4096 : Shape := ⟨2, ![4096, 4096]⟩

abbrev nBuf : Space → Nat
  | .hbm => 27
  | .vmem => 0
  | .smem => 0
  | _ => 0

abbrev bufTy : (tb : Table) → Fin (tcTables nBuf tb) → BufTy
  | .hbm, ⟨0, _⟩ => ⟨S12288x11008, .bf16⟩
  | .hbm, ⟨1, _⟩ => ⟨S11008x4096, .f32⟩
  | .hbm, ⟨2, _⟩ => ⟨S12288x4096, .f32⟩
  | .hbm, ⟨3, _⟩ => ⟨S8x1x24576, .f32⟩
  | .hbm, ⟨4, _⟩ => ⟨S8x1x4096, .f32⟩
  | .hbm, ⟨5, _⟩ => ⟨S8x1x4096, .f32⟩
  | .hbm, ⟨6, _⟩ => ⟨S8x1x4096, .f32⟩
  | .hbm, ⟨7, _⟩ => ⟨S8x1x4096, .f32⟩
  | .hbm, ⟨8, _⟩ => ⟨S8x1x4096, .f32⟩
  | .hbm, ⟨9, _⟩ => ⟨S8x1x4096, .f32⟩
  | .hbm, ⟨10, _⟩ => ⟨S1x1x4096, .f32⟩
  | .hbm, ⟨11, _⟩ => ⟨S4x1x4096, .f32⟩
  | .hbm, ⟨12, _⟩ => ⟨S12288x11008, .f32⟩
  | .hbm, ⟨13, _⟩ => ⟨S8192x11008, .f32⟩
  | .hbm, ⟨14, _⟩ => ⟨S32x256x11008, .f32⟩
  | .hbm, ⟨15, _⟩ => ⟨S4096x11008, .f32⟩
  | .hbm, ⟨16, _⟩ => ⟨S4x1024x11008, .f32⟩
  | .hbm, ⟨17, _⟩ => ⟨S32x256x4096, .f32⟩
  | .hbm, ⟨18, _⟩ => ⟨S32x256x4096, .f32⟩
  | .hbm, ⟨19, _⟩ => ⟨S32x256x4096, .f32⟩
  | .hbm, ⟨20, _⟩ => ⟨S4x1024x4096, .f32⟩
  | .hbm, ⟨21, _⟩ => ⟨S4x1024x4096, .f32⟩
  | .hbm, ⟨22, _⟩ => ⟨S4x1024x4096, .f32⟩
  | .hbm, ⟨23, _⟩ => ⟨S8192x4096, .f32⟩
  | .hbm, ⟨24, _⟩ => ⟨S4096x4096, .f32⟩
  | .hbm, ⟨25, _⟩ => ⟨S12288x4096, .f32⟩
  | .hbm, ⟨26, _⟩ => ⟨S12288x4096, .f32⟩
  | _, _ => ⟨S12288x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== Kernel4.lean ====
abbrev S32x256x4096 : Shape := ⟨3, ![32, 256, 4096]⟩
abbrev S4x1024x4096 : Shape := ⟨3, ![4, 1024, 4096]⟩
abbrev S4x4096 : Shape := ⟨2, ![4, 4096]⟩
abbrev S4096 : Shape := ⟨1, ![4096]⟩
abbrev S4096x24576 : Shape := ⟨2, ![4096, 24576]⟩
abbrev S24576 : Shape := ⟨1, ![24576]⟩
abbrev S4096x5120 : Shape := ⟨2, ![4096, 5120]⟩
abbrev S_ : Shape := ⟨0, ![]⟩
abbrev S8x4096 : Shape := ⟨2, ![8, 4096]⟩
abbrev S1 : Shape := ⟨1, ![1]⟩
abbrev S1x24576 : Shape := ⟨2, ![1, 24576]⟩
abbrev S8x24576 : Shape := ⟨2, ![8, 24576]⟩
abbrev S4096x512 : Shape := ⟨2, ![4096, 512]⟩
abbrev S1x512 : Shape := ⟨2, ![1, 512]⟩
abbrev S8x512 : Shape := ⟨2, ![8, 512]⟩
abbrev S8x1x24576 : Shape := ⟨3, ![8, 1, 24576]⟩
abbrev S8192x4096 : Shape := ⟨2, ![8192, 4096]⟩
abbrev S4096x4096 : Shape := ⟨2, ![4096, 4096]⟩
abbrev S1x4096 : Shape := ⟨2, ![1, 4096]⟩
abbrev S12288x4096 : Shape := ⟨2, ![12288, 4096]⟩
abbrev S512x4096 : Shape := ⟨2, ![512, 4096]⟩
abbrev S1x1x4096 : Shape := ⟨3, ![1, 1, 4096]⟩
abbrev S512 : Shape := ⟨1, ![512]⟩
abbrev S512x1 : Shape := ⟨2, ![512, 1]⟩
abbrev S12288x2048 : Shape := ⟨2, ![12288, 2048]⟩
abbrev S1024x4096 : Shape := ⟨2, ![1024, 4096]⟩
abbrev S1024x512 : Shape := ⟨2, ![1024, 512]⟩
abbrev S32x4x256x128 : Shape := ⟨4, ![32, 4, 256, 128]⟩
abbrev S4x4x256x128 : Shape := ⟨4, ![4, 4, 256, 128]⟩
abbrev S256x128 : Shape := ⟨2, ![256, 128]⟩
abbrev S1x1x256x128 : Shape := ⟨4, ![1, 1, 256, 128]⟩
abbrev S4x4x1024x128 : Shape := ⟨4, ![4, 4, 1024, 128]⟩
abbrev S1x4x1024x128 : Shape := ⟨4, ![1, 4, 1024, 128]⟩
abbrev S1024x128 : Shape := ⟨2, ![1024, 128]⟩
abbrev S1x1x1024x128 : Shape := ⟨4, ![1, 1, 1024, 128]⟩

abbrev nBuf : Space → Nat
  | .hbm => 29
  | .vmem => 50
  | .smem => 0
  | _ => 0

abbrev bufTy : (tb : Table) → Fin (tcTables nBuf tb) → BufTy
  | .hbm, ⟨0, _⟩ => ⟨S32x256x4096, .f32⟩
  | .hbm, ⟨1, _⟩ => ⟨S4x1024x4096, .f32⟩
  | .hbm, ⟨2, _⟩ => ⟨S4x4096, .f32⟩
  | .hbm, ⟨3, _⟩ => ⟨S4096, .f32⟩
  | .hbm, ⟨4, _⟩ => ⟨S4096x24576, .f32⟩
  | .hbm, ⟨5, _⟩ => ⟨S24576, .f32⟩
  | .hbm, ⟨6, _⟩ => ⟨S4096, .f32⟩
  | .hbm, ⟨7, _⟩ => ⟨S4096x5120, .f32⟩
  | .hbm, ⟨8, _⟩ => ⟨S_, .f32⟩
  | .hbm, ⟨9, _⟩ => ⟨S8x4096, .f32⟩
  | .hbm, ⟨10, _⟩ => ⟨S_, .i32⟩
  | .hbm, ⟨11, _⟩ => ⟨S1, .i32⟩
  | .hbm, ⟨12, _⟩ => ⟨S8x4096, .f32⟩
  | .hbm, ⟨13, _⟩ => ⟨S_, .i32⟩
  | .hbm, ⟨14, _⟩ => ⟨S1, .i32⟩
  | .hbm, ⟨15, _⟩ => ⟨S8x4096, .f32⟩
  | .hbm, ⟨16, _⟩ => ⟨S1x24576, .f32⟩
  | .hbm, ⟨17, _⟩ => ⟨S8x24576, .f32⟩
  | .hbm, ⟨18, _⟩ => ⟨S8x1x24576, .f32⟩
  | .hbm, ⟨19, _⟩ => ⟨S8192x4096, .f32⟩
  | .hbm, ⟨20, _⟩ => ⟨S4096x4096, .f32⟩
  | .hbm, ⟨21, _⟩ => ⟨S1x4096, .f32⟩
  | .hbm, ⟨22, _⟩ => ⟨S12288x4096, .bf16⟩
  | .hbm, ⟨23, _⟩ => ⟨S12288x2048, .f32⟩
  | .hbm, ⟨24, _⟩ => ⟨S12288x2048, .bf16⟩
  | .hbm, ⟨25, _⟩ => ⟨S32x4x256x128, .f32⟩
  | .hbm, ⟨26, _⟩ => ⟨S32x4x256x128, .f32⟩
  | .hbm, ⟨27, _⟩ => ⟨S4x4x1024x128, .f32⟩
  | .hbm, ⟨28, _⟩ => ⟨S4x4x1024x128, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | .local _ .vmem, ⟨7, _⟩ => ⟨S512x4096, .f32⟩
  | .local _ .vmem, ⟨8, _⟩ => ⟨S512x4096, .f32⟩
  | .local _ .vmem, ⟨9, _⟩ => ⟨S512x4096, .f32⟩
  | .local _ .vmem, ⟨10, _⟩ => ⟨S512x4096, .f32⟩
  | .local _ .vmem, ⟨11, _⟩ => ⟨S1x4096, .f32⟩
  | .local _ .vmem, ⟨12, _⟩ => ⟨S1x1x4096, .f32⟩
  | .local _ .vmem, ⟨13, _⟩ => ⟨S1x1x4096, .f32⟩
  | .local _ .vmem, ⟨14, _⟩ => ⟨S1x1x4096, .f32⟩
  | .local _ .vmem, ⟨15, _⟩ => ⟨S1x1x4096, .f32⟩
  | .local _ .vmem, ⟨16, _⟩ => ⟨S512x4096, .bf16⟩
  | .local _ .vmem, ⟨17, _⟩ => ⟨S512x4096, .bf16⟩
  | .local _ .vmem, ⟨18, _⟩ => ⟨S1024x4096, .bf16⟩
  | .local _ .vmem, ⟨19, _⟩ => ⟨S1024x4096, .bf16⟩
  | .local _ .vmem, ⟨20, _⟩ => ⟨S4096x512, .f32⟩
  | .local _ .vmem, ⟨21, _⟩ => ⟨S4096x512, .f32⟩
  | .local _ .vmem, ⟨22, _⟩ => ⟨S1024x512, .f32⟩
  | .local _ .vmem, ⟨23, _⟩ => ⟨S1024x512, .f32⟩
  | .local _ .vmem, ⟨24, _⟩ => ⟨S1024x4096, .bf16⟩
  | .local _ .vmem, ⟨25, _⟩ => ⟨S1024x4096, .bf16⟩
  | .local _ .vmem, ⟨26, _⟩ => ⟨S4096x512, .f32⟩
  | .local _ .vmem, ⟨27, _⟩ => ⟨S4096x512, .f32⟩
  | .local _ .vmem, ⟨28, _⟩ => ⟨S1024x512, .bf16⟩
  | .local _ .vmem, ⟨29, _⟩ => ⟨S1024x512, .bf16⟩
  | .local _ .vmem, ⟨30, _⟩ => ⟨S1024x4096, .bf16⟩
  | .local _ .vmem, ⟨31, _⟩ => ⟨S1024x4096, .bf16⟩
  | .local _ .vmem, ⟨32, _⟩ => ⟨S4096x512, .f32⟩
  | .local _ .vmem, ⟨33, _⟩ => ⟨S4x4x256x128, .f32⟩
  | .local _ .vmem, ⟨34, _⟩ => ⟨S4x4x256x128, .f32⟩
  | .local _ .vmem, ⟨35, _⟩ => ⟨S1024x4096, .bf16⟩
  | .local _ .vmem, ⟨36, _⟩ => ⟨S1024x4096, .bf16⟩
  | .local _ .vmem, ⟨37, _⟩ => ⟨S4096x512, .f32⟩
  | .local _ .vmem, ⟨38, _⟩ => ⟨S4x4x256x128, .f32⟩
  | .local _ .vmem, ⟨39, _⟩ => ⟨S4x4x256x128, .f32⟩
  | .local _ .vmem, ⟨40, _⟩ => ⟨S1024x4096, .bf16⟩
  | .local _ .vmem, ⟨41, _⟩ => ⟨S1024x4096, .bf16⟩
  | .local _ .vmem, ⟨42, _⟩ => ⟨S4096x512, .f32⟩
  | .local _ .vmem, ⟨43, _⟩ => ⟨S1x4x1024x128, .f32⟩
  | .local _ .vmem, ⟨44, _⟩ => ⟨S1x4x1024x128, .f32⟩
  | .local _ .vmem, ⟨45, _⟩ => ⟨S1024x4096, .bf16⟩
  | .local _ .vmem, ⟨46, _⟩ => ⟨S1024x4096, .bf16⟩
  | .local _ .vmem, ⟨47, _⟩ => ⟨S4096x512, .f32⟩
  | .local _ .vmem, ⟨48, _⟩ => ⟨S1x4x1024x128, .f32⟩
  | .local _ .vmem, ⟨49, _⟩ => ⟨S1x4x1024x128, .f32⟩
  | _, _ => ⟨S32x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg2_1 : Ref sig .tc := ⟨.vmem, 49, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![24], ![false]⟩

def k1_cond1 (i : grid1.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k1_cond2 (i : grid1.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc1_transform_4 (i : grid1.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c1_i32_8 : BitVec 32 := 1#32
  let c0_i32_9 : BitVec 32 := 0#32
  ![v20.toNat, c0_i32_7.toNat, c1_i32_8.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x4096 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![12, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![12, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc4_transform_1 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc4_transform_2 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S4096x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S4x4x256x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc5_transform_1 (i : grid5.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  let c0_i32_0 : BitVec 32 := 0#32
  ![c0_i32.toNat, v0.toNat]

def cc5_transform_2 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S4096x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S4x4x256x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![4, 1], ![false, false]⟩

def cc6_transform_0 (i : grid6.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc6_transform_1 (i : grid6.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc6_transform_2 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage6_0 : Fin 2 → Memref sig .tc .vmem S1024x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S4096x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 2 → Memref sig .tc .vmem S1x4x1024x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![4, 1], ![false, false]⟩

def cc7_transform_0 (i : grid7.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc7_transform_1 (i : grid7.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  let c0_i32_0 : BitVec 32 := 0#32
  ![c0_i32.toNat, v0.toNat]

def cc7_transform_2 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage7_0 : Fin 2 → Memref sig .tc .vmem S1024x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 1 → Memref sig .tc .vmem S4096x512 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 2 → Memref sig .tc .vmem S1x4x1024x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]
-- ==== Reference4Ideal.lean ====
abbrev S32x256x4096 : Shape := ⟨3, ![32, 256, 4096]⟩
abbrev S4x1024x4096 : Shape := ⟨3, ![4, 1024, 4096]⟩
abbrev S4x4096 : Shape := ⟨2, ![4, 4096]⟩
abbrev S4096 : Shape := ⟨1, ![4096]⟩
abbrev S4096x24576 : Shape := ⟨2, ![4096, 24576]⟩
abbrev S24576 : Shape := ⟨1, ![24576]⟩
abbrev S4096x5120 : Shape := ⟨2, ![4096, 5120]⟩
abbrev S1x4096 : Shape := ⟨2, ![1, 4096]⟩
abbrev S_ : Shape := ⟨0, ![]⟩
abbrev S1x24576 : Shape := ⟨2, ![1, 24576]⟩
abbrev S1x1x24576 : Shape := ⟨3, ![1, 1, 24576]⟩
abbrev S1x1x4096 : Shape := ⟨3, ![1, 1, 4096]⟩
abbrev S32x256 : Shape := ⟨2, ![32, 256]⟩
abbrev S32x256x1 : Shape := ⟨3, ![32, 256, 1]⟩
abbrev S32x256x5120 : Shape := ⟨3, ![32, 256, 5120]⟩
abbrev S32x256x2048 : Shape := ⟨3, ![32, 256, 2048]⟩
abbrev S32x256x512 : Shape := ⟨3, ![32, 256, 512]⟩
abbrev S32x256x4x128 : Shape := ⟨4, ![32, 256, 4, 128]⟩
abbrev S32x4x256x128 : Shape := ⟨4, ![32, 4, 256, 128]⟩
abbrev S4x24576 : Shape := ⟨2, ![4, 24576]⟩
abbrev S4x1x24576 : Shape := ⟨3, ![4, 1, 24576]⟩
abbrev S4x1x4096 : Shape := ⟨3, ![4, 1, 4096]⟩
abbrev S4x1024 : Shape := ⟨2, ![4, 1024]⟩
abbrev S4x1024x1 : Shape := ⟨3, ![4, 1024, 1]⟩
abbrev S4x1024x5120 : Shape := ⟨3, ![4, 1024, 5120]⟩
abbrev S4x1024x2048 : Shape := ⟨3, ![4, 1024, 2048]⟩
abbrev S4x1024x512 : Shape := ⟨3, ![4, 1024, 512]⟩
abbrev S4x1024x4x128 : Shape := ⟨4, ![4, 1024, 4, 128]⟩
abbrev S4x4x1024x128 : Shape := ⟨4, ![4, 4, 1024, 128]⟩
abbrev S8192x2048 : Shape := ⟨2, ![8192, 2048]⟩
abbrev S4096x2048 : Shape := ⟨2, ![4096, 2048]⟩
abbrev S12288x2048 : Shape := ⟨2, ![12288, 2048]⟩

abbrev nBuf : Space → Nat
  | .hbm => 119
  | .vmem => 0
  | .smem => 0
  | _ => 0

abbrev bufTy : (tb : Table) → Fin (tcTables nBuf tb) → BufTy
  | .hbm, ⟨0, _⟩ => ⟨S32x256x4096, .f32⟩
  | .hbm, ⟨1, _⟩ => ⟨S4x1024x4096, .f32⟩
  | .hbm, ⟨2, _⟩ => ⟨S4x4096, .f32⟩
  | .hbm, ⟨3, _⟩ => ⟨S4096, .f32⟩
  | .hbm, ⟨4, _⟩ => ⟨S4096x24576, .f32⟩
  | .hbm, ⟨5, _⟩ => ⟨S24576, .f32⟩
  | .hbm, ⟨6, _⟩ => ⟨S4096, .f32⟩
  | .hbm, ⟨7, _⟩ => ⟨S4096x5120, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S_, .f32⟩
  | .hbm, ⟨12, _⟩ => ⟨S1x4096, .f32⟩
  | .hbm, ⟨13, _⟩ => ⟨S1x4096, .f32⟩
  | .hbm, ⟨14, _⟩ => ⟨S_, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x24576, .f32⟩
  | .hbm, ⟨19, _⟩ => ⟨S1x24576, .f32⟩
  | .hbm, ⟨20, _⟩ => ⟨S1x24576, .f32⟩
  | .hbm, ⟨21, _⟩ => ⟨S1x1x24576, .f32⟩
  | .hbm, ⟨22, _⟩ => ⟨S1x1x4096, .f32⟩
  | .hbm, ⟨23, _⟩ => ⟨S1x1x4096, .f32⟩
  | .hbm, ⟨24, _⟩ => ⟨S1x1x4096, .f32⟩
  | .hbm, ⟨25, _⟩ => ⟨S1x1x4096, .f32⟩
  | .hbm, ⟨26, _⟩ => ⟨S1x1x4096, .f32⟩
  | .hbm, ⟨27, _⟩ => ⟨S1x1x4096, .f32⟩
  | .hbm, ⟨28, _⟩ => ⟨S32x256x4096, .f32⟩
  | .hbm, ⟨29, _⟩ => ⟨S_, .f32⟩
  | .hbm, ⟨30, _⟩ => ⟨S32x256, .f32⟩
  | .hbm, ⟨31, _⟩ => ⟨S32x256x1, .f32⟩
  | .hbm, ⟨32, _⟩ => ⟨S_, .f32⟩
  | .hbm, ⟨33, _⟩ => ⟨S32x256x1, .f32⟩
  | .hbm, ⟨34, _⟩ => ⟨S32x256x1, .f32⟩
  | .hbm, ⟨35, _⟩ => ⟨S_, .f32⟩
  | .hbm, ⟨36, _⟩ => ⟨S32x256x1, .f32⟩
  | .hbm, ⟨37, _⟩ => ⟨S32x256x1, .f32⟩
  | .hbm, ⟨38, _⟩ => ⟨S32x256x1, .f32⟩
  | .hbm, ⟨39, _⟩ => ⟨S32x256x4096, .f32⟩
  | .hbm, ⟨40, _⟩ => ⟨S32x256x4096, .f32⟩
  | .hbm, ⟨41, _⟩ => ⟨S1x1x4096, .f32⟩
  | .hbm, ⟨42, _⟩ => ⟨S32x256x4096, .f32⟩
  | .hbm, ⟨43, _⟩ => ⟨S32x256x4096, .f32⟩
  | .hbm, ⟨44, _⟩ => ⟨S_, .f32⟩
  | .hbm, ⟨45, _⟩ => ⟨S1x1x4096, .f32⟩
  | .hbm, ⟨46, _⟩ => ⟨S1x1x4096, .f32⟩
  | .hbm, ⟨47, _⟩ => ⟨S32x256x4096, .f32⟩
  | .hbm, ⟨48, _⟩ => ⟨S32x256x4096, .f32⟩
  | .hbm, ⟨49, _⟩ => ⟨S32x256x4096, .f32⟩
  | .hbm, ⟨50, _⟩ => ⟨S32x256x4096, .f32⟩
  | .hbm, ⟨51, _⟩ => ⟨S32x256x5120, .f32⟩
  | .hbm, ⟨52, _⟩ => ⟨S32x256x2048, .f32⟩
  | .hbm, ⟨53, _⟩ => ⟨S32x256x2048, .f32⟩
  | .hbm, ⟨54, _⟩ => ⟨S32x256x512, .f32⟩
  | .hbm, ⟨55, _⟩ => ⟨S32x256x512, .f32⟩
  | .hbm, ⟨56, _⟩ => ⟨S32x256x4x128, .f32⟩
  | .hbm, ⟨57, _⟩ => ⟨S32x4x256x128, .f32⟩
  | .hbm, ⟨58, _⟩ => ⟨S32x256x4x128, .f32⟩
  | .hbm, ⟨59, _⟩ => ⟨S32x4x256x128, .f32⟩
  | .hbm, ⟨60, _⟩ => ⟨S4x4096, .f32⟩
  | .hbm, ⟨61, _⟩ => ⟨S4x4096, .f32⟩
  | .hbm, ⟨62, _⟩ => ⟨S_, .f32⟩
  | .hbm, ⟨63, _⟩ => ⟨S4x4096, .f32⟩
  | .hbm, ⟨64, _⟩ => ⟨S4x4096, .f32⟩
  | .hbm, ⟨65, _⟩ => ⟨S_, .f32⟩
  | .hbm, ⟨66, _⟩ => ⟨S4x4096, .f32⟩
  | .hbm, ⟨67, _⟩ => ⟨S4x4096, .f32⟩
  | .hbm, ⟨68, _⟩ => ⟨S4x4096, .f32⟩
  | .hbm, ⟨69, _⟩ => ⟨S4x24576, .f32⟩
  | .hbm, ⟨70, _⟩ => ⟨S1x24576, .f32⟩
  | .hbm, ⟨71, _⟩ => ⟨S4x24576, .f32⟩
  | .hbm, ⟨72, _⟩ => ⟨S4x24576, .f32⟩
  | .hbm, ⟨73, _⟩ => ⟨S4x1x24576, .f32⟩
  | .hbm, ⟨74, _⟩ => ⟨S4x1x4096, .f32⟩
  | .hbm, ⟨75, _⟩ => ⟨S4x1x4096, .f32⟩
  | .hbm, ⟨76, _⟩ => ⟨S4x1x4096, .f32⟩
  | .hbm, ⟨77, _⟩ => ⟨S4x1x4096, .f32⟩
  | .hbm, ⟨78, _⟩ => ⟨S4x1x4096, .f32⟩
  | .hbm, ⟨79, _⟩ => ⟨S4x1x4096, .f32⟩
  | .hbm, ⟨80, _⟩ => ⟨S4x1024x4096, .f32⟩
  | .hbm, ⟨81, _⟩ => ⟨S_, .f32⟩
  | .hbm, ⟨82, _⟩ => ⟨S4x1024, .f32⟩
  | .hbm, ⟨83, _⟩ => ⟨S4x1024x1, .f32⟩
  | .hbm, ⟨84, _⟩ => ⟨S_, .f32⟩
  | .hbm, ⟨85, _⟩ => ⟨S4x1024x1, .f32⟩
  | .hbm, ⟨86, _⟩ => ⟨S4x1024x1, .f32⟩
  | .hbm, ⟨87, _⟩ => ⟨S_, .f32⟩
  | .hbm, ⟨88, _⟩ => ⟨S4x1024x1, .f32⟩
  | .hbm, ⟨89, _⟩ => ⟨S4x1024x1, .f32⟩
  | .hbm, ⟨90, _⟩ => ⟨S4x1024x1, .f32⟩
  | .hbm, ⟨91, _⟩ => ⟨S4x1024x4096, .f32⟩
  | .hbm, ⟨92, _⟩ => ⟨S4x1024x4096, .f32⟩
  | .hbm, ⟨93, _⟩ => ⟨S1x1x4096, .f32⟩
  | .hbm, ⟨94, _⟩ => ⟨S4x1024x4096, .f32⟩
  | .hbm, ⟨95, _⟩ => ⟨S4x1024x4096, .f32⟩
  | .hbm, ⟨96, _⟩ => ⟨S_, .f32⟩
  | .hbm, ⟨97, _⟩ => ⟨S4x1x4096, .f32⟩
  | .hbm, ⟨98, _⟩ => ⟨S4x1x4096, .f32⟩
  | .hbm, ⟨99, _⟩ => ⟨S4x1024x4096, .f32⟩
  | .hbm, ⟨100, _⟩ => ⟨S4x1024x4096, .f32⟩
  | .hbm, ⟨101, _⟩ => ⟨S4x1024x4096, .f32⟩
  | .hbm, ⟨102, _⟩ => ⟨S4x1024x4096, .f32⟩
  | .hbm, ⟨103, _⟩ => ⟨S4x1024x5120, .f32⟩
  | .hbm, ⟨104, _⟩ => ⟨S4x1024x2048, .f32⟩
  | .hbm, ⟨105, _⟩ => ⟨S4x1024x2048, .f32⟩
  | .hbm, ⟨106, _⟩ => ⟨S4x1024x512, .f32⟩
  | .hbm, ⟨107, _⟩ => ⟨S4x1024x512, .f32⟩
  | .hbm, ⟨108, _⟩ => ⟨S4x1024x4x128, .f32⟩
  | .hbm, ⟨109, _⟩ => ⟨S4x4x1024x128, .f32⟩
  | .hbm, ⟨110, _⟩ => ⟨S4x1024x4x128, .f32⟩
  | .hbm, ⟨111, _⟩ => ⟨S4x4x1024x128, .f32⟩
  | .hbm, ⟨112, _⟩ => ⟨S8192x2048, .f32⟩
  | .hbm, ⟨113, _⟩ => ⟨S4096x2048, .f32⟩
  | .hbm, ⟨114, _⟩ => ⟨S12288x2048, .f32⟩
  | .hbm, ⟨115, _⟩ => ⟨S8192x2048, .f32⟩
  | .hbm, ⟨116, _⟩ => ⟨S4096x2048, .f32⟩
  | .hbm, ⟨117, _⟩ => ⟨S12288x2048, .f32⟩
  | .hbm, ⟨118, _⟩ => ⟨S12288x2048, .bf16⟩
  | _, _ => ⟨S32x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_3 : Ref sig .tc := ⟨.hbm, 81, rfl⟩
abbrev main_v53 : Ref sig .tc := ⟨.hbm, 82, rfl⟩
abbrev main_v54 : Ref sig .tc := ⟨.hbm, 83, rfl⟩
abbrev main_cst_4 : Ref sig .tc := ⟨.hbm, 84, rfl⟩
abbrev main_v55 : Ref sig .tc := ⟨.hbm, 85, rfl⟩
abbrev main_v56 : Ref sig .tc := ⟨.hbm, 86, rfl⟩
abbrev main_cst_5 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_6 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩

abbrev nD : Nat := 1
abbrev τ : Topo := Topo.v7x

variable {F : FTy → Type} [FloatOps F]
-- ==== Kernel5.lean ====
abbrev S12288x4096 : Shape := ⟨2, ![12288, 4096]⟩
abbrev S4x4096 : Shape := ⟨2, ![4, 4096]⟩
abbrev S4096 : Shape := ⟨1, ![4096]⟩
abbrev S4096x24576 : Shape := ⟨2, ![4096, 24576]⟩
abbrev S24576 : Shape := ⟨1, ![24576]⟩
abbrev S4096x7744 : Shape := ⟨2, ![4096, 7744]⟩
abbrev S512 : Shape := ⟨1, ![512]⟩
abbrev S512x4096 : Shape := ⟨2, ![512, 4096]⟩
abbrev S_ : Shape := ⟨0, ![]⟩
abbrev S8x4096 : Shape := ⟨2, ![8, 4096]⟩
abbrev S1 : Shape := ⟨1, ![1]⟩
abbrev S1x24576 : Shape := ⟨2, ![1, 24576]⟩
abbrev S8x24576 : Shape := ⟨2, ![8, 24576]⟩
abbrev S4096x512 : Shape := ⟨2, ![4096, 512]⟩
abbrev S1x512 : Shape := ⟨2, ![1, 512]⟩
abbrev S8x512 : Shape := ⟨2, ![8, 512]⟩
abbrev S8x1x24576 : Shape := ⟨3, ![8, 1, 24576]⟩
abbrev S4096x1536 : Shape := ⟨2, ![4096, 1536]⟩
abbrev S4096x6144 : Shape := ⟨2, ![4096, 6144]⟩
abbrev S4096x64 : Shape := ⟨2, ![4096, 64]⟩
abbrev S4096x128 : Shape := ⟨2, ![4096, 128]⟩
abbrev S1x4096 : Shape := ⟨2, ![1, 4096]⟩
abbrev S1x1x4096 : Shape := ⟨3, ![1, 1, 4096]⟩
abbrev S512x1 : Shape := ⟨2, ![512, 1]⟩
abbrev S12288x1536 : Shape := ⟨2, ![12288, 1536]⟩
abbrev S1024x4096 : Shape := ⟨2, ![1024, 4096]⟩
abbrev S1024x512 : Shape := ⟨2, ![1024, 512]⟩
abbrev S12288x128 : Shape := ⟨2, ![12288, 128]⟩
abbrev S1024x128 : Shape := ⟨2, ![1024, 128]⟩
abbrev S12288x2048 : Shape := ⟨2, ![12288, 2048]⟩
abbrev S32x16x256x128 : Shape := ⟨4, ![32, 16, 256, 128]⟩
abbrev S4x4x256x128 : Shape := ⟨4, ![4, 4, 256, 128]⟩
abbrev S256x128 : Shape := ⟨2, ![256, 128]⟩
abbrev S1x1x256x128 : Shape := ⟨4, ![1, 1, 256, 128]⟩
abbrev S4x16x1024x128 : Shape := ⟨4, ![4, 16, 1024, 128]⟩
abbrev S1x4x1024x128 : Shape := ⟨4, ![1, 4, 1024, 128]⟩
abbrev S1x1x1024x128 : Shape := ⟨4, ![1, 1, 1024, 128]⟩
abbrev S12288x512 : Shape := ⟨2, ![12288, 512]⟩
abbrev S256x512 : Shape := ⟨2, ![256, 512]⟩
abbrev S256 : Shape := ⟨1, ![256]⟩
abbrev S256x1 : Shape := ⟨2, ![256, 1]⟩
abbrev S512x2048 : Shape := ⟨2, ![512, 2048]⟩
abbrev S1024x2048 : Shape := ⟨2, ![1024, 2048]⟩
abbrev S8192x512 : Shape := ⟨2, ![8192, 512]⟩
abbrev S32x256x512 : Shape := ⟨3, ![32, 256, 512]⟩
abbrev S8192x64 : Shape := ⟨2, ![8192, 64]⟩
abbrev S32x256x64 : Shape := ⟨3, ![32, 256, 64]⟩

abbrev nBuf : Space → Nat
  | .hbm => 46
  | .vmem => 68
  | .smem => 0
  | _ => 0

abbrev bufTy : (tb : Table) → Fin (tcTables nBuf tb) → BufTy
  | .hbm, ⟨0, _⟩ => ⟨S12288x4096, .f32⟩
  | .hbm, ⟨1, _⟩ => ⟨S4x4096, .f32⟩
  | .hbm, ⟨2, _⟩ => ⟨S4096, .f32⟩
  | .hbm, ⟨3, _⟩ => ⟨S4096x24576, .f32⟩
  | .hbm, ⟨4, _⟩ => ⟨S24576, .f32⟩
  | .hbm, ⟨5, _⟩ => ⟨S4096, .f32⟩
  | .hbm, ⟨6, _⟩ => ⟨S4096x7744, .f32⟩
  | .hbm, ⟨7, _⟩ => ⟨S512, .f32⟩
  | .hbm, ⟨8, _⟩ => ⟨S512x4096, .f32⟩
  | .hbm, ⟨9, _⟩ => ⟨S_, .f32⟩
  | .hbm, ⟨10, _⟩ => ⟨S8x4096, .f32⟩
  | .hbm, ⟨11, _⟩ => ⟨S_, .i32⟩
  | .hbm, ⟨12, _⟩ => ⟨S1, .i32⟩
  | .hbm, ⟨13, _⟩ => ⟨S8x4096, .f32⟩
  | .hbm, ⟨14, _⟩ => ⟨S_, .i32⟩
  | .hbm, ⟨15, _⟩ => ⟨S1, .i32⟩
  | .hbm, ⟨16, _⟩ => ⟨S8x4096, .f32⟩
  | .hbm, ⟨17, _⟩ => ⟨S1x24576, .f32⟩
  | .hbm, ⟨18, _⟩ => ⟨S8x24576, .f32⟩
  | .hbm, ⟨19, _⟩ => ⟨S8x1x24576, .f32⟩
  | .hbm, ⟨20, _⟩ => ⟨S4096x1536, .f32⟩
  | .hbm, ⟨21, _⟩ => ⟨S4096x1536, .bf16⟩
  | .hbm, ⟨22, _⟩ => ⟨S4096x6144, .f32⟩
  | .hbm, ⟨23, _⟩ => ⟨S4096x6144, .bf16⟩
  | .hbm, ⟨24, _⟩ => ⟨S4096x64, .f32⟩
  | .hbm, ⟨25, _⟩ => ⟨S_, .i32⟩
  | .hbm, ⟨26, _⟩ => ⟨S_, .f32⟩
  | .hbm, ⟨27, _⟩ => ⟨S4096x128, .f32⟩
  | .hbm, ⟨28, _⟩ => ⟨S4096x128, .bf16⟩
  | .hbm, ⟨29, _⟩ => ⟨S1x4096, .f32⟩
  | .hbm, ⟨30, _⟩ => ⟨S12288x4096, .bf16⟩
  | .hbm, ⟨31, _⟩ => ⟨S12288x1536, .f32⟩
  | .hbm, ⟨32, _⟩ => ⟨S12288x128, .f32⟩
  | .hbm, ⟨33, _⟩ => ⟨S12288x2048, .bf16⟩
  | .hbm, ⟨34, _⟩ => ⟨S32x16x256x128, .f32⟩
  | .hbm, ⟨35, _⟩ => ⟨S32x16x256x128, .f32⟩
  | .hbm, ⟨36, _⟩ => ⟨S4x16x1024x128, .f32⟩
  | .hbm, ⟨37, _⟩ => ⟨S4x16x1024x128, .f32⟩
  | .hbm, ⟨38, _⟩ => ⟨S1x512, .f32⟩
  | .hbm, ⟨39, _⟩ => ⟨S12288x512, .f32⟩
  | .hbm, ⟨40, _⟩ => ⟨S512x4096, .bf16⟩
  | .hbm, ⟨41, _⟩ => ⟨S12288x4096, .bf16⟩
  | .hbm, ⟨42, _⟩ => ⟨S8192x512, .f32⟩
  | .hbm, ⟨43, _⟩ => ⟨S32x256x512, .f32⟩
  | .hbm, ⟨44, _⟩ => ⟨S8192x64, .f32⟩
  | .hbm, ⟨45, _⟩ => ⟨S32x256x64, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | .local _ .vmem, ⟨7, _⟩ => ⟨S512x4096, .f32⟩
  | .local _ .vmem, ⟨8, _⟩ => ⟨S512x4096, .f32⟩
  | .local _ .vmem, ⟨9, _⟩ => ⟨S1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | .local _ .vmem, ⟨13, _⟩ => ⟨S1x1x4096, .f32⟩
  | .local _ .vmem, ⟨14, _⟩ => ⟨S512x4096, .bf16⟩
  | .local _ .vmem, ⟨15, _⟩ => ⟨S512x4096, .bf16⟩
  | .local _ .vmem, ⟨16, _⟩ => ⟨S1024x4096, .bf16⟩
  | .local _ .vmem, ⟨17, _⟩ => ⟨S1024x4096, .bf16⟩
  | .local _ .vmem, ⟨18, _⟩ => ⟨S4096x512, .bf16⟩
  | .local _ .vmem, ⟨19, _⟩ => ⟨S4096x512, .bf16⟩
  | .local _ .vmem, ⟨20, _⟩ => ⟨S1024x512, .f32⟩
  | .local _ .vmem, ⟨21, _⟩ => ⟨S1024x512, .f32⟩
  | .local _ .vmem, ⟨22, _⟩ => ⟨S1024x4096, .bf16⟩
  | .local _ .vmem, ⟨23, _⟩ => ⟨S1024x4096, .bf16⟩
  | .local _ .vmem, ⟨24, _⟩ => ⟨S4096x128, .bf16⟩
  | .local _ .vmem, ⟨25, _⟩ => ⟨S1024x128, .f32⟩
  | .local _ .vmem, ⟨26, _⟩ => ⟨S1024x128, .f32⟩
  | .local _ .vmem, ⟨27, _⟩ => ⟨S1024x4096, .bf16⟩
  | .local _ .vmem, ⟨28, _⟩ => ⟨S1024x4096, .bf16⟩
  | .local _ .vmem, ⟨29, _⟩ => ⟨S4096x512, .bf16⟩
  | .local _ .vmem, ⟨30, _⟩ => ⟨S4096x512, .bf16⟩
  | .local _ .vmem, ⟨31, _⟩ => ⟨S1024x512, .bf16⟩
  | .local _ .vmem, ⟨32, _⟩ => ⟨S1024x512, .bf16⟩
  | .local _ .vmem, ⟨33, _⟩ => ⟨S1024x4096, .bf16⟩
  | .local _ .vmem, ⟨34, _⟩ => ⟨S1024x4096, .bf16⟩
  | .local _ .vmem, ⟨35, _⟩ => ⟨S4096x512, .bf16⟩
  | .local _ .vmem, ⟨36, _⟩ => ⟨S4096x512, .bf16⟩
  | .local _ .vmem, ⟨37, _⟩ => ⟨S4x4x256x128, .f32⟩
  | .local _ .vmem, ⟨38, _⟩ => ⟨S4x4x256x128, .f32⟩
  | .local _ .vmem, ⟨39, _⟩ => ⟨S1024x4096, .bf16⟩
  | .local _ .vmem, ⟨40, _⟩ => ⟨S1024x4096, .bf16⟩
  | .local _ .vmem, ⟨41, _⟩ => ⟨S4096x512, .bf16⟩
  | .local _ .vmem, ⟨42, _⟩ => ⟨S4096x512, .bf16⟩
  | .local _ .vmem, ⟨43, _⟩ => ⟨S4x4x256x128, .f32⟩
  | .local _ .vmem, ⟨44, _⟩ => ⟨S4x4x256x128, .f32⟩
  | .local _ .vmem, ⟨45, _⟩ => ⟨S1024x4096, .bf16⟩
  | .local _ .vmem, ⟨46, _⟩ => ⟨S1024x4096, .bf16⟩
  | .local _ .vmem, ⟨47, _⟩ => ⟨S4096x512, .bf16⟩
  | .local _ .vmem, ⟨48, _⟩ => ⟨S4096x512, .bf16⟩
  | .local _ .vmem, ⟨49, _⟩ => ⟨S1x4x1024x128, .f32⟩
  | .local _ .vmem, ⟨50, _⟩ => ⟨S1x4x1024x128, .f32⟩
  | .local _ .vmem, ⟨51, _⟩ => ⟨S1024x4096, .bf16⟩
  | .local _ .vmem, ⟨52, _⟩ => ⟨S1024x4096, .bf16⟩
  | .local _ .vmem, ⟨53, _⟩ => ⟨S4096x512, .bf16⟩
  | .local _ .vmem, ⟨54, _⟩ => ⟨S4096x512, .bf16⟩
  | .local _ .vmem, ⟨55, _⟩ => ⟨S1x4x1024x128, .f32⟩
  | .local _ .vmem, ⟨56, _⟩ => ⟨S1x4x1024x128, .f32⟩
  | .local _ .vmem, ⟨57, _⟩ => ⟨S256x512, .f32⟩
  | .local _ .vmem, ⟨58, _⟩ => ⟨S256x512, .f32⟩
  | .local _ .vmem, ⟨59, _⟩ => ⟨S1x512, .f32⟩
  | .local _ .vmem, ⟨60, _⟩ => ⟨S256x512, .f32⟩
  | .local _ .vmem, ⟨61, _⟩ => ⟨S256x512, .f32⟩
  | .local _ .vmem, ⟨62, _⟩ => ⟨S1024x512, .f32⟩
  | .local _ .vmem, ⟨63, _⟩ => ⟨S1024x512, .f32⟩
  | .local _ .vmem, ⟨64, _⟩ => ⟨S512x2048, .bf16⟩
  | .local _ .vmem, ⟨65, _⟩ => ⟨S512x2048, .bf16⟩
  | .local _ .vmem, ⟨66, _⟩ => ⟨S1024x2048, .bf16⟩
  | .local _ .vmem, ⟨67, _⟩ => ⟨S1024x2048, .bf16⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_call0_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg2_1 : Ref sig .tc := ⟨.vmem, 50, rfl⟩
abbrev cc8_stg0_0 : Ref sig .tc := ⟨.vmem, 51, rfl⟩
abbrev cc8_stg0_1 : Ref sig .tc := ⟨.vmem, 52, rfl⟩
abbrev cc8_stg1_0 : Ref sig .tc := ⟨.vmem, 53, rfl⟩
abbrev cc8_stg1_1 : Ref sig .tc := ⟨.vmem, 54, rfl⟩
abbrev cc8_stg2_0 : Ref sig .tc := ⟨.vmem, 55, rfl⟩
abbrev cc8_stg2_1 : Ref sig .tc := ⟨.vmem, 56, rfl⟩
abbrev cc9_stg0_0 : Ref sig .tc := ⟨.vmem, 57, rfl⟩
abbrev cc9_stg0_1 : Ref sig .tc := ⟨.vmem, 58, rfl⟩
abbrev cc9_stg1_0 : Ref sig .tc := ⟨.vmem, 59, rfl⟩
abbrev cc9_stg2_0 : Ref sig .tc := ⟨.vmem, 60, rfl⟩
abbrev cc9_stg2_1 : Ref sig .tc := ⟨.vmem, 61, rfl⟩
abbrev cc10_stg0_0 : Ref sig .tc := ⟨.vmem, 62, rfl⟩
abbrev cc10_stg0_1 : Ref sig .tc := ⟨.vmem, 63, rfl⟩
abbrev cc10_stg1_0 : Ref sig .tc := ⟨.vmem, 64, rfl⟩
abbrev cc10_stg1_1 : Ref sig .tc := ⟨.vmem, 65, rfl⟩
abbrev cc10_stg2_0 : Ref sig .tc := ⟨.vmem, 66, rfl⟩
abbrev cc10_stg2_1 : Ref sig .tc := ⟨.vmem, 67, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem2_1 : DmaSem sig := 50
abbrev cc8_sem0_0 : DmaSem sig := 51
abbrev cc8_sem0_1 : DmaSem sig := 52
abbrev cc8_sem1_0 : DmaSem sig := 53
abbrev cc8_sem1_1 : DmaSem sig := 54
abbrev cc8_sem2_0 : DmaSem sig := 55
abbrev cc8_sem2_1 : DmaSem sig := 56
abbrev cc9_sem0_0 : DmaSem sig := 57
abbrev cc9_sem0_1 : DmaSem sig := 58
abbrev cc9_sem1_0 : DmaSem sig := 59
abbrev cc9_sem2_0 : DmaSem sig := 60
abbrev cc9_sem2_1 : DmaSem sig := 61
abbrev cc10_sem0_0 : DmaSem sig := 62
abbrev cc10_sem0_1 : DmaSem sig := 63
abbrev cc10_sem1_0 : DmaSem sig := 64
abbrev cc10_sem1_1 : DmaSem sig := 65
abbrev cc10_sem2_0 : DmaSem sig := 66
abbrev cc10_sem2_1 : DmaSem sig := 67

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![24], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc1_transform_3 (i : grid1.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c1_i32_8 : BitVec 32 := 1#32
  let c0_i32_9 : BitVec 32 := 0#32
  ![v20.toNat, c0_i32_7.toNat, c1_i32_8.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![12, 3], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![12, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S4096x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![12, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc5_transform_1 (i : grid5.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc5_transform_2 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S4x4x256x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![8, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc6_transform_1 (i : grid6.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc6_transform_2 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage6_0 : Fin 2 → Memref sig .tc .vmem S1024x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S4096x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S4x4x256x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![4, 4], ![false, false]⟩

def cc7_transform_0 (i : grid7.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc7_transform_1 (i : grid7.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc7_transform_2 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage7_0 : Fin 2 → Memref sig .tc .vmem S1024x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S4096x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1x4x1024x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![4, 4], ![false, false]⟩

def cc8_transform_0 (i : grid8.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc8_transform_1 (i : grid8.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc8_transform_2 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage8_0 : Fin 2 → Memref sig .tc .vmem S1024x4096 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S4096x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1x4x1024x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨1, ![48], ![false]⟩

def cc9_transform_0 (i : grid9.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let c0_i32_0 : BitVec 32 := 0#32
  ![v0.toNat, c2_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S256x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x512 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S256x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨2, ![12, 2], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S1024x512 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S512x2048 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1024x2048 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]
-- ==== Reference5Ideal.lean ====
abbrev S12288x4096 : Shape := ⟨2, ![12288, 4096]⟩
abbrev S4x4096 : Shape := ⟨2, ![4, 4096]⟩
abbrev S4096 : Shape := ⟨1, ![4096]⟩
abbrev S4096x24576 : Shape := ⟨2, ![4096, 24576]⟩
abbrev S24576 : Shape := ⟨1, ![24576]⟩
abbrev S4096x7744 : Shape := ⟨2, ![4096, 7744]⟩
abbrev S512 : Shape := ⟨1, ![512]⟩
abbrev S512x4096 : Shape := ⟨2, ![512, 4096]⟩
abbrev S8192x4096 : Shape := ⟨2, ![8192, 4096]⟩
abbrev S32x256x4096 : Shape := ⟨3, ![32, 256, 4096]⟩
abbrev S4096x4096 : Shape := ⟨2, ![4096, 4096]⟩
abbrev S4x1024x4096 : Shape := ⟨3, ![4, 1024, 4096]⟩
abbrev S1x4096 : Shape := ⟨2, ![1, 4096]⟩
abbrev S_ : Shape := ⟨0, ![]⟩
abbrev S1x24576 : Shape := ⟨2, ![1, 24576]⟩
abbrev S1x1x24576 : Shape := ⟨3, ![1, 1, 24576]⟩
abbrev S1x1x4096 : Shape := ⟨3, ![1, 1, 4096]⟩
abbrev S32x256 : Shape := ⟨2, ![32, 256]⟩
abbrev S32x256x1 : Shape := ⟨3, ![32, 256, 1]⟩
abbrev S32x256x7744 : Shape := ⟨3, ![32, 256, 7744]⟩
abbrev S32x256x1024 : Shape := ⟨3, ![32, 256, 1024]⟩
abbrev S32x256x512 : Shape := ⟨3, ![32, 256, 512]⟩
abbrev S32x256x64 : Shape := ⟨3, ![32, 256, 64]⟩
abbrev S32x256x2048 : Shape := ⟨3, ![32, 256, 2048]⟩
abbrev S32x256x1536 : Shape := ⟨3, ![32, 256, 1536]⟩
abbrev S1x1x512 : Shape := ⟨3, ![1, 1, 512]⟩
abbrev S32x256x16x128 : Shape := ⟨4, ![32, 256, 16, 128]⟩
abbrev S32x16x256x128 : Shape := ⟨4, ![32, 16, 256, 128]⟩
abbrev S4x24576 : Shape := ⟨2, ![4, 24576]⟩
abbrev S4x1x24576 : Shape := ⟨3, ![4, 1, 24576]⟩
abbrev S4x1x4096 : Shape := ⟨3, ![4, 1, 4096]⟩
abbrev S4x1024 : Shape := ⟨2, ![4, 1024]⟩
abbrev S4x1024x1 : Shape := ⟨3, ![4, 1024, 1]⟩
abbrev S4x1024x7744 : Shape := ⟨3, ![4, 1024, 7744]⟩
abbrev S4x1024x1024 : Shape := ⟨3, ![4, 1024, 1024]⟩
abbrev S4x1024x512 : Shape := ⟨3, ![4, 1024, 512]⟩
abbrev S4x1024x64 : Shape := ⟨3, ![4, 1024, 64]⟩
abbrev S4x1024x2048 : Shape := ⟨3, ![4, 1024, 2048]⟩
abbrev S4x1024x1536 : Shape := ⟨3, ![4, 1024, 1536]⟩
abbrev S4x1024x16x128 : Shape := ⟨4, ![4, 1024, 16, 128]⟩
abbrev S4x16x1024x128 : Shape := ⟨4, ![4, 16, 1024, 128]⟩
abbrev S8192x2048 : Shape := ⟨2, ![8192, 2048]⟩
abbrev S4096x2048 : Shape := ⟨2, ![4096, 2048]⟩
abbrev S12288x2048 : Shape := ⟨2, ![12288, 2048]⟩
abbrev S8192x1536 : Shape := ⟨2, ![8192, 1536]⟩
abbrev S4096x1536 : Shape := ⟨2, ![4096, 1536]⟩
abbrev S12288x1536 : Shape := ⟨2, ![12288, 1536]⟩

abbrev nBuf : Space → Nat
  | .hbm => 168
  | .vmem => 0
  | .smem => 0
  | _ => 0

abbrev hbmTy0_0 (i : Nat) : BufTy := match i % 128 with
  | 0 => ⟨S12288x4096, .f32⟩
  | 1 => ⟨S4x4096, .f32⟩
  | 2 => ⟨S4096, .f32⟩
  | 3 => ⟨S4096x24576, .f32⟩
  | 4 => ⟨S24576, .f32⟩
  | 5 => ⟨S4096, .f32⟩
  | 6 => ⟨S4096x7744, .f32⟩
  | 7 => ⟨S512, .f32⟩
  | 8 => ⟨S512x4096, .f32⟩
  | 9 => ⟨S8192x4096, .f32⟩
  | 10 => ⟨S32x256x4096, .f32⟩
  | 11 => ⟨S4096x4096, .f32⟩
  | 12 => ⟨S4x1024x4096, .f32⟩
  | 13 => ⟨S1x4096, .f32⟩
  | 14 => ⟨S1x4096, .f32⟩
  | 15 => ⟨S1x4096, .f32⟩
  | 16 => ⟨S_, .f32⟩
  | 17 => ⟨S1x4096, .f32⟩
  | 18 => ⟨S1x4096, .f32⟩
  | 19 => ⟨S_, .f32⟩
  | 20 => ⟨S1x4096, .f32⟩
  | 21 => ⟨S1x4096, .f32⟩
  | 22 => ⟨S1x4096, .f32⟩
  | 23 => ⟨S1x24576, .f32⟩
  | 24 => ⟨S1x24576, .f32⟩
  | 25 => ⟨S1x24576, .f32⟩
  | 26 => ⟨S1x1x24576, .f32⟩
  | 27 => ⟨S1x1x4096, .f32⟩
  | 28 => ⟨S1x1x4096, .f32⟩
  | 29 => ⟨S1x1x4096, .f32⟩
  | 30 => ⟨S1x1x4096, .f32⟩
  | 31 => ⟨S1x1x4096, .f32⟩
  | 32 => ⟨S1x1x4096, .f32⟩
  | 33 => ⟨S32x256x4096, .f32⟩
  | 34 => ⟨S_, .f32⟩
  | 35 => ⟨S32x256, .f32⟩
  | 36 => ⟨S32x256x1, .f32⟩
  | 37 => ⟨S_, .f32⟩
  | 38 => ⟨S32x256x1, .f32⟩
  | 39 => ⟨S32x256x1, .f32⟩
  | 40 => ⟨S_, .f32⟩
  | 41 => ⟨S32x256x1, .f32⟩
  | 42 => ⟨S32x256x1, .f32⟩
  | 43 => ⟨S32x256x1, .f32⟩
  | 44 => ⟨S32x256x4096, .f32⟩
  | 45 => ⟨S32x256x4096, .f32⟩
  | 46 => ⟨S1x1x4096, .f32⟩
  | 47 => ⟨S32x256x4096, .f32⟩
  | 48 => ⟨S32x256x4096, .f32⟩
  | 49 => ⟨S_, .f32⟩
  | 50 => ⟨S1x1x4096, .f32⟩
  | 51 => ⟨S1x1x4096, .f32⟩
  | 52 => ⟨S32x256x4096, .f32⟩
  | 53 => ⟨S32x256x4096, .f32⟩
  | 54 => ⟨S32x256x4096, .f32⟩
  | 55 => ⟨S32x256x4096, .f32⟩
  | 56 => ⟨S32x256x7744, .f32⟩
  | 57 => ⟨S32x256x1024, .f32⟩
  | 58 => ⟨S32x256x512, .f32⟩
  | 59 => ⟨S32x256x64, .f32⟩
  | 60 => ⟨S32x256x2048, .f32⟩
  | 61 => ⟨S32x256x2048, .f32⟩
  | 62 => ⟨S32x256x2048, .f32⟩
  | 63 => ⟨S32x256x1536, .f32⟩
  | 64 => ⟨S32x256x512, .f32⟩
  | 65 => ⟨S_, .f32⟩
  | 66 => ⟨S32x256, .f32⟩
  | 67 => ⟨S32x256x1, .f32⟩
  | 68 => ⟨S_, .f32⟩
  | 69 => ⟨S32x256x1, .f32⟩
  | 70 => ⟨S32x256x1, .f32⟩
  | 71 => ⟨S_, .f32⟩
  | 72 => ⟨S32x256x1, .f32⟩
  | 73 => ⟨S32x256x1, .f32⟩
  | 74 => ⟨S32x256x1, .f32⟩
  | 75 => ⟨S32x256x512, .f32⟩
  | 76 => ⟨S32x256x512, .f32⟩
  | 77 => ⟨S1x1x512, .f32⟩
  | 78 => ⟨S32x256x512, .f32⟩
  | 79 => ⟨S32x256x512, .f32⟩
  | 80 => ⟨S32x256x16x128, .f32⟩
  | 81 => ⟨S32x16x256x128, .f32⟩
  | 82 => ⟨S32x256x16x128, .f32⟩
  | 83 => ⟨S32x16x256x128, .f32⟩
  | 84 => ⟨S4x4096, .f32⟩
  | 85 => ⟨S4x4096, .f32⟩
  | 86 => ⟨S_, .f32⟩
  | 87 => ⟨S4x4096, .f32⟩
  | 88 => ⟨S4x4096, .f32⟩
  | 89 => ⟨S_, .f32⟩
  | 90 => ⟨S4x4096, .f32⟩
  | 91 => ⟨S4x4096, .f32⟩
  | 92 => ⟨S4x4096, .f32⟩
  | 93 => ⟨S4x24576, .f32⟩
  | 94 => ⟨S1x24576, .f32⟩
  | 95 => ⟨S4x24576, .f32⟩
  | 96 => ⟨S4x24576, .f32⟩
  | 97 => ⟨S4x1x24576, .f32⟩
  | 98 => ⟨S4x1x4096, .f32⟩
  | 99 => ⟨S4x1x4096, .f32⟩
  | 100 => ⟨S4x1x4096, .f32⟩
  | 101 => ⟨S4x1x4096, .f32⟩
  | 102 => ⟨S4x1x4096, .f32⟩
  | 103 => ⟨S4x1x4096, .f32⟩
  | 104 => ⟨S4x1024x4096, .f32⟩
  | 105 => ⟨S_, .f32⟩
  | 106 => ⟨S4x1024, .f32⟩
  | 107 => ⟨S4x1024x1, .f32⟩
  | 108 => ⟨S_, .f32⟩
  | 109 => ⟨S4x1024x1, .f32⟩
  | 110 => ⟨S4x1024x1, .f32⟩
  | 111 => ⟨S_, .f32⟩
  | 112 => ⟨S4x1024x1, .f32⟩
  | 113 => ⟨S4x1024x1, .f32⟩
  | 114 => ⟨S4x1024x1, .f32⟩
  | 115 => ⟨S4x1024x4096, .f32⟩
  | 116 => ⟨S4x1024x4096, .f32⟩
  | 117 => ⟨S1x1x4096, .f32⟩
  | 118 => ⟨S4x1024x4096, .f32⟩
  | 119 => ⟨S4x1024x4096, .f32⟩
  | 120 => ⟨S_, .f32⟩
  | 121 => ⟨S4x1x4096, .f32⟩
  | 122 => ⟨S4x1x4096, .f32⟩
  | 123 => ⟨S4x1024x4096, .f32⟩
  | 124 => ⟨S4x1024x4096, .f32⟩
  | 125 => ⟨S4x1024x4096, .f32⟩
  | 126 => ⟨S4x1024x4096, .f32⟩
  | 127 => ⟨S4x1024x7744, .f32⟩
  | _ => ⟨S12288x4096, .f32⟩

abbrev hbmTy0_1 (i : Nat) : BufTy := match i % 128 with
  | 0 => ⟨S4x1024x1024, .f32⟩
  | 1 => ⟨S4x1024x512, .f32⟩
  | 2 => ⟨S4x1024x64, .f32⟩
  | 3 => ⟨S4x1024x2048, .f32⟩
  | 4 => ⟨S4x1024x2048, .f32⟩
  | 5 => ⟨S4x1024x2048, .f32⟩
  | 6 => ⟨S4x1024x1536, .f32⟩
  | 7 => ⟨S4x1024x512, .f32⟩
  | 8 => ⟨S_, .f32⟩
  | 9 => ⟨S4x1024, .f32⟩
  | 10 => ⟨S4x1024x1, .f32⟩
  | 11 => ⟨S_, .f32⟩
  | 12 => ⟨S4x1024x1, .f32⟩
  | 13 => ⟨S4x1024x1, .f32⟩
  | 14 => ⟨S_, .f32⟩
  | 15 => ⟨S4x1024x1, .f32⟩
  | 16 => ⟨S4x1024x1, .f32⟩
  | 17 => ⟨S4x1024x1, .f32⟩
  | 18 => ⟨S4x1024x512, .f32⟩
  | 19 => ⟨S4x1024x512, .f32⟩
  | 20 => ⟨S1x1x512, .f32⟩
  | 21 => ⟨S4x1024x512, .f32⟩
  | 22 => ⟨S4x1024x512, .f32⟩
  | 23 => ⟨S4x1024x16x128, .f32⟩
  | 24 => ⟨S4x16x1024x128, .f32⟩
  | 25 => ⟨S4x1024x16x128, .f32⟩
  | 26 => ⟨S4x16x1024x128, .f32⟩
  | 27 => ⟨S8192x2048, .f32⟩
  | 28 => ⟨S4096x2048, .f32⟩
  | 29 => ⟨S12288x2048, .f32⟩
  | 30 => ⟨S12288x2048, .bf16⟩
  | 31 => ⟨S8192x1536, .f32⟩
  | 32 => ⟨S4096x1536, .f32⟩
  | 33 => ⟨S12288x1536, .f32⟩
  | 34 => ⟨S32x256x4096, .f32⟩
  | 35 => ⟨S4x1024x4096, .f32⟩
  | 36 => ⟨S8192x4096, .f32⟩
  | 37 => ⟨S4096x4096, .f32⟩
  | 38 => ⟨S12288x4096, .f32⟩
  | 39 => ⟨S12288x4096, .bf16⟩
  | _ => ⟨S12288x4096, .f32⟩

abbrev hbmTy (i : Nat) : BufTy := match i / 128 with
  | 0 => hbmTy0_0 i
  | 1 => hbmTy0_1 i
  | _ => ⟨S12288x4096, .f32⟩

abbrev bufTy : (tb : Table) → Fin (tcTables nBuf tb) → BufTy
  | .hbm, ⟨i, _⟩ => hbmTy i
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_3 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_call1_v5 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_6 : Ref sig .tc := ⟨.hbm, 105, rfl⟩
abbrev main_v73 : Ref sig .tc := ⟨.hbm, 106, rfl⟩
abbrev main_v74 : Ref sig .tc := ⟨.hbm, 107, rfl⟩
abbrev main_cst_7 : Ref sig .tc := ⟨.hbm, 108, rfl⟩
abbrev main_v75 : Ref sig .tc := ⟨.hbm, 109, rfl⟩
abbrev main_v76 : Ref sig .tc := ⟨.hbm, 110, rfl⟩
abbrev main_cst_8 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_9 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_10 : Ref sig .tc := ⟨.hbm, 136, rfl⟩
abbrev main_v100 : Ref sig .tc := ⟨.hbm, 137, rfl⟩
abbrev main_v101 : Ref sig .tc := ⟨.hbm, 138, rfl⟩
abbrev main_cst_11 : Ref sig .tc := ⟨.hbm, 139, rfl⟩
abbrev main_v102 : Ref sig .tc := ⟨.hbm, 140, rfl⟩
abbrev main_v103 : Ref sig .tc := ⟨.hbm, 141, rfl⟩
abbrev main_cst_12 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩

abbrev nD : Nat := 1
abbrev τ : Topo := Topo.v7x

variable {F : FTy → Type} [FloatOps F]
-- ==== Kernel6.lean ====
abbrev S12288x2048 : Shape := ⟨2, ![12288, 2048]⟩
abbrev S8192x2048 : Shape := ⟨2, ![8192, 2048]⟩
abbrev S4096x2048 : Shape := ⟨2, ![4096, 2048]⟩
abbrev S4096x4096 : Shape := ⟨2, ![4096, 4096]⟩
abbrev S8192x4096 : Shape := ⟨2, ![8192, 4096]⟩
abbrev S8x1x24576 : Shape := ⟨3, ![8, 1, 24576]⟩
abbrev S12288x4096 : Shape := ⟨2, ![12288, 4096]⟩
abbrev S512x2048 : Shape := ⟨2, ![512, 2048]⟩
abbrev S4096x1024 : Shape := ⟨2, ![4096, 1024]⟩
abbrev S512x1024 : Shape := ⟨2, ![512, 1024]⟩
abbrev S1x1x1024 : Shape := ⟨3, ![1, 1, 1024]⟩
abbrev S512x4096 : Shape := ⟨2, ![512, 4096]⟩
abbrev S1x1024 : Shape := ⟨2, ![1, 1024]⟩

abbrev nBuf : Space → Nat
  | .hbm => 9
  | .vmem => 17
  | .smem => 0
  | _ => 0

abbrev bufTy : (tb : Table) → Fin (tcTables nBuf tb) → BufTy
  | .hbm, ⟨0, _⟩ => ⟨S12288x2048, .bf16⟩
  | .hbm, ⟨1, _⟩ => ⟨S8192x2048, .bf16⟩
  | .hbm, ⟨2, _⟩ => ⟨S4096x2048, .bf16⟩
  | .hbm, ⟨3, _⟩ => ⟨S4096x4096, .f32⟩
  | .hbm, ⟨4, _⟩ => ⟨S8192x4096, .f32⟩
  | .hbm, ⟨5, _⟩ => ⟨S4096x4096, .f32⟩
  | .hbm, ⟨6, _⟩ => ⟨S8x1x24576, .f32⟩
  | .hbm, ⟨7, _⟩ => ⟨S4096x4096, .bf16⟩
  | .hbm, ⟨8, _⟩ => ⟨S12288x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S4096x1024, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .vmem, ⟨16, _⟩ => ⟨S512x4096, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![24, 4], ![false, false]⟩

def k0_cond4 (i : grid0.Coords) : BitVec 1 :=
  let arg0 : BitVec 32 := BitVec.ofNat 32 (i 0).val
  let c16_i32 : BitVec 32 := 16#32
  let v7 : BitVec 1 := Scalar.cmpi .slt arg0 c16_i32
  let v8 : BitVec 32 := Scalar.extui v7
  let c0_i32_4 : BitVec 32 := 0#32
  let v9 : BitVec 1 := Scalar.cmpi .ne v8 c0_i32_4
  v9

def k0_cond5 (i : grid0.Coords) : BitVec 1 :=
  let arg0 : BitVec 32 := BitVec.ofNat 32 (i 0).val
  let c16_i32_5 : BitVec 32 := 16#32
  let v10 : BitVec 1 := Scalar.cmpi .sge arg0 c16_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  ![v1.toNat, arg1.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c8_i32 : BitVec 32 := 8#32
  let v21 : BitVec 32 := Scalar.addi c8_i32 arg1
  let c0_i32_7 : BitVec 32 := 0#32
  let c0_i32_8 : BitVec 32 := 0#32
  ![v20.toNat, c0_i32_7.toNat, v21.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S12288x2048 : Shape := ⟨2, ![12288, 2048]⟩
abbrev S8192x2048 : Shape := ⟨2, ![8192, 2048]⟩
abbrev S4096x2048 : Shape := ⟨2, ![4096, 2048]⟩
abbrev S4096x4096 : Shape := ⟨2, ![4096, 4096]⟩
abbrev S8192x4096 : Shape := ⟨2, ![8192, 4096]⟩
abbrev S8x1x24576 : Shape := ⟨3, ![8, 1, 24576]⟩
abbrev S8x24576 : Shape := ⟨2, ![8, 24576]⟩
abbrev S8x4096 : Shape := ⟨2, ![8, 4096]⟩
abbrev S1x4096 : Shape := ⟨2, ![1, 4096]⟩
abbrev S32x256x4096 : Shape := ⟨3, ![32, 256, 4096]⟩
abbrev S1x1x4096 : Shape := ⟨3, ![1, 1, 4096]⟩
abbrev S32x256x2048 : Shape := ⟨3, ![32, 256, 2048]⟩
abbrev S4x4096 : Shape := ⟨2, ![4, 4096]⟩
abbrev S4x1024x4096 : Shape := ⟨3, ![4, 1024, 4096]⟩
abbrev S4x1x4096 : Shape := ⟨3, ![4, 1, 4096]⟩
abbrev S4x1024x2048 : Shape := ⟨3, ![4, 1024, 2048]⟩
abbrev S12288x4096 : Shape := ⟨2, ![12288, 4096]⟩

abbrev nBuf : Space → Nat
  | .hbm => 43
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S8192x2048, .bf16⟩
  | .hbm, ⟨2, _⟩ => ⟨S4096x2048, .bf16⟩
  | .hbm, ⟨3, _⟩ => ⟨S4096x4096, .f32⟩
  | .hbm, ⟨4, _⟩ => ⟨S8192x4096, .f32⟩
  | .hbm, ⟨5, _⟩ => ⟨S4096x4096, .f32⟩
  | .hbm, ⟨6, _⟩ => ⟨S8x1x24576, .f32⟩
  | .hbm, ⟨7, _⟩ => ⟨S8x24576, .f32⟩
  | .hbm, ⟨8, _⟩ => ⟨S8x4096, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S8x4096, .f32⟩
  | .hbm, ⟨13, _⟩ => ⟨S8x4096, .f32⟩
  | .hbm, ⟨14, _⟩ => ⟨S8192x2048, .bf16⟩
  | .hbm, ⟨15, _⟩ => ⟨S1x4096, .f32⟩
  | .hbm, ⟨16, _⟩ => ⟨S32x256x4096, .f32⟩
  | .hbm, ⟨17, _⟩ => ⟨S1x1x4096, .f32⟩
  | .hbm, ⟨18, _⟩ => ⟨S8192x2048, .f32⟩
  | .hbm, ⟨19, _⟩ => ⟨S32x256x2048, .f32⟩
  | .hbm, ⟨20, _⟩ => ⟨S8192x2048, .f32⟩
  | .hbm, ⟨21, _⟩ => ⟨S32x256x2048, .f32⟩
  | .hbm, ⟨22, _⟩ => ⟨S32x256x4096, .f32⟩
  | .hbm, ⟨23, _⟩ => ⟨S32x256x4096, .f32⟩
  | .hbm, ⟨24, _⟩ => ⟨S32x256x4096, .f32⟩
  | .hbm, ⟨25, _⟩ => ⟨S32x256x4096, .f32⟩
  | .hbm, ⟨26, _⟩ => ⟨S32x256x4096, .f32⟩
  | .hbm, ⟨27, _⟩ => ⟨S8192x4096, .f32⟩
  | .hbm, ⟨28, _⟩ => ⟨S4096x2048, .bf16⟩
  | .hbm, ⟨29, _⟩ => ⟨S4x4096, .f32⟩
  | .hbm, ⟨30, _⟩ => ⟨S4x1024x4096, .f32⟩
  | .hbm, ⟨31, _⟩ => ⟨S4x1x4096, .f32⟩
  | .hbm, ⟨32, _⟩ => ⟨S4096x2048, .f32⟩
  | .hbm, ⟨33, _⟩ => ⟨S4x1024x2048, .f32⟩
  | .hbm, ⟨34, _⟩ => ⟨S4096x2048, .f32⟩
  | .hbm, ⟨35, _⟩ => ⟨S4x1024x2048, .f32⟩
  | .hbm, ⟨36, _⟩ => ⟨S4x1024x4096, .f32⟩
  | .hbm, ⟨37, _⟩ => ⟨S4x1024x4096, .f32⟩
  | .hbm, ⟨38, _⟩ => ⟨S4x1024x4096, .f32⟩
  | .hbm, ⟨39, _⟩ => ⟨S4x1024x4096, .f32⟩
  | .hbm, ⟨40, _⟩ => ⟨S4x1024x4096, .f32⟩
  | .hbm, ⟨41, _⟩ => ⟨S4096x4096, .f32⟩
  | .hbm, ⟨42, _⟩ => ⟨S12288x4096, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Kernel7.lean ====
abbrev S8192x4096 : Shape := ⟨2, ![8192, 4096]⟩
abbrev S4096x2048 : Shape := ⟨2, ![4096, 2048]⟩
abbrev S4096x4096 : Shape := ⟨2, ![4096, 4096]⟩
abbrev S12288x4096 : Shape := ⟨2, ![12288, 4096]⟩
abbrev S8x1x24576 : Shape := ⟨3, ![8, 1, 24576]⟩
abbrev S512x2048 : Shape := ⟨2, ![512, 2048]⟩
abbrev S4096x1024 : Shape := ⟨2, ![4096, 1024]⟩
abbrev S512x1024 : Shape := ⟨2, ![512, 1024]⟩
abbrev S1x1x1024 : Shape := ⟨3, ![1, 1, 1024]⟩
abbrev S512x4096 : Shape := ⟨2, ![512, 4096]⟩
abbrev S1x1024 : Shape := ⟨2, ![1, 1024]⟩

abbrev nBuf : Space → Nat
  | .hbm => 8
  | .vmem => 17
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S4096x2048, .bf16⟩
  | .hbm, ⟨3, _⟩ => ⟨S4096x4096, .f32⟩
  | .hbm, ⟨4, _⟩ => ⟨S12288x4096, .f32⟩
  | .hbm, ⟨5, _⟩ => ⟨S8x1x24576, .f32⟩
  | .hbm, ⟨6, _⟩ => ⟨S4096x4096, .bf16⟩
  | .hbm, ⟨7, _⟩ => ⟨S12288x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S4096x1024, .bf16⟩
  | .local _ .vmem, ⟨9, _⟩ => ⟨S4096x1024, .bf16⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .vmem, ⟨16, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![24, 4], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c8_i32 : BitVec 32 := 8#32
  let v21 : BitVec 32 := Scalar.addi c8_i32 arg1
  let c0_i32_7 : BitVec 32 := 0#32
  let c0_i32_8 : BitVec 32 := 0#32
  ![v20.toNat, c0_i32_7.toNat, v21.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S8192x4096 : Shape := ⟨2, ![8192, 4096]⟩
abbrev S4096x2048 : Shape := ⟨2, ![4096, 2048]⟩
abbrev S4096x4096 : Shape := ⟨2, ![4096, 4096]⟩
abbrev S12288x4096 : Shape := ⟨2, ![12288, 4096]⟩
abbrev S8x1x24576 : Shape := ⟨3, ![8, 1, 24576]⟩
abbrev S8x24576 : Shape := ⟨2, ![8, 24576]⟩
abbrev S8x4096 : Shape := ⟨2, ![8, 4096]⟩
abbrev S1x4096 : Shape := ⟨2, ![1, 4096]⟩
abbrev S32x256x4096 : Shape := ⟨3, ![32, 256, 4096]⟩
abbrev S1x1x4096 : Shape := ⟨3, ![1, 1, 4096]⟩
abbrev S4x4096 : Shape := ⟨2, ![4, 4096]⟩
abbrev S4x1024x4096 : Shape := ⟨3, ![4, 1024, 4096]⟩
abbrev S4x1x4096 : Shape := ⟨3, ![4, 1, 4096]⟩
abbrev S4x1024x2048 : Shape := ⟨3, ![4, 1024, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S4096x2048, .bf16⟩
  | .hbm, ⟨3, _⟩ => ⟨S4096x4096, .f32⟩
  | .hbm, ⟨4, _⟩ => ⟨S12288x4096, .f32⟩
  | .hbm, ⟨5, _⟩ => ⟨S8x1x24576, .f32⟩
  | .hbm, ⟨6, _⟩ => ⟨S8x24576, .f32⟩
  | .hbm, ⟨7, _⟩ => ⟨S8x4096, .f32⟩
  | .hbm, ⟨8, _⟩ => ⟨S8x4096, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S8x4096, .f32⟩
  | .hbm, ⟨13, _⟩ => ⟨S8192x4096, .f32⟩
  | .hbm, ⟨14, _⟩ => ⟨S1x4096, .f32⟩
  | .hbm, ⟨15, _⟩ => ⟨S32x256x4096, .f32⟩
  | .hbm, ⟨16, _⟩ => ⟨S1x1x4096, .f32⟩
  | .hbm, ⟨17, _⟩ => ⟨S8192x4096, .f32⟩
  | .hbm, ⟨18, _⟩ => ⟨S32x256x4096, .f32⟩
  | .hbm, ⟨19, _⟩ => ⟨S32x256x4096, .f32⟩
  | .hbm, ⟨20, _⟩ => ⟨S32x256x4096, .f32⟩
  | .hbm, ⟨21, _⟩ => ⟨S32x256x4096, .f32⟩
  | .hbm, ⟨22, _⟩ => ⟨S32x256x4096, .f32⟩
  | .hbm, ⟨23, _⟩ => ⟨S8192x4096, .f32⟩
  | .hbm, ⟨24, _⟩ => ⟨S4096x4096, .f32⟩
  | .hbm, ⟨25, _⟩ => ⟨S4x4096, .f32⟩
  | .hbm, ⟨26, _⟩ => ⟨S4x1024x4096, .f32⟩
  | .hbm, ⟨27, _⟩ => ⟨S4x1x4096, .f32⟩
  | .hbm, ⟨28, _⟩ => ⟨S4096x2048, .f32⟩
  | .hbm, ⟨29, _⟩ => ⟨S4x1024x2048, .f32⟩
  | .hbm, ⟨30, _⟩ => ⟨S4096x2048, .f32⟩
  | .hbm, ⟨31, _⟩ => ⟨S4x1024x2048, .f32⟩
  | .hbm, ⟨32, _⟩ => ⟨S4x1024x4096, .f32⟩
  | .hbm, ⟨33, _⟩ => ⟨S4x1024x4096, .f32⟩
  | .hbm, ⟨34, _⟩ => ⟨S4x1024x4096, .f32⟩
  | .hbm, ⟨35, _⟩ => ⟨S4x1024x4096, .f32⟩
  | .hbm, ⟨36, _⟩ => ⟨S4x1024x4096, .f32⟩
  | .hbm, ⟨37, _⟩ => ⟨S4096x4096, .f32⟩
  | .hbm, ⟨38, _⟩ => ⟨S12288x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Kernel8.lean ====
abbrev S12288x4096 : Shape := ⟨2, ![12288, 4096]⟩
abbrev S4096 : Shape := ⟨1, ![4096]⟩
abbrev S1x4096 : Shape := ⟨2, ![1, 4096]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S12288x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S12288x4096 : Shape := ⟨2, ![12288, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S12288x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S12288x4096 : Shape := ⟨2, ![12288, 4096]⟩
abbrev S4096 : Shape := ⟨1, ![4096]⟩
abbrev S1x4096 : Shape := ⟨2, ![1, 4096]⟩
abbrev S4096x4096 : Shape := ⟨2, ![4096, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S12288x4096, .f32⟩
  | .hbm, ⟨1, _⟩ => ⟨S4096, .f32⟩
  | .hbm, ⟨2, _⟩ => ⟨S1x4096, .f32⟩
  | .hbm, ⟨3, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S12288x4096 : Shape := ⟨2, ![12288, 4096]⟩
abbrev S4096 : Shape := ⟨1, ![4096]⟩
abbrev S4096x4096 : Shape := ⟨2, ![4096, 4096]⟩
abbrev S_ : Shape := ⟨0, ![]⟩
abbrev S4096x1 : Shape := ⟨2, ![4096, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S12288x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel10.lean ====
abbrev S12288x1024 : Shape := ⟨2, ![12288, 1024]⟩
abbrev S1024x3072 : Shape := ⟨2, ![1024, 3072]⟩
abbrev S1024x16x192 : Shape := ⟨3, ![1024, 16, 192]⟩
abbrev S_ : Shape := ⟨0, ![]⟩
abbrev S1024x16x256 : Shape := ⟨3, ![1024, 16, 256]⟩
abbrev S1024x4096 : Shape := ⟨2, ![1024, 4096]⟩
abbrev S12288x4096 : Shape := ⟨2, ![12288, 4096]⟩
abbrev S1024x1024 : Shape := ⟨2, ![1024, 1024]⟩
abbrev S1024x2048 : Shape := ⟨2, ![1024, 2048]⟩

abbrev nBuf : Space → Nat
  | .hbm => 9
  | .vmem => 6
  | .smem => 0
  | _ => 0

abbrev bufTy : (tb : Table) → Fin (tcTables nBuf tb) → BufTy
  | .hbm, ⟨0, _⟩ => ⟨S12288x1024, .bf16⟩
  | .hbm, ⟨1, _⟩ => ⟨S1024x3072, .f32⟩
  | .hbm, ⟨2, _⟩ => ⟨S1024x16x192, .f32⟩
  | .hbm, ⟨3, _⟩ => ⟨S_, .i32⟩
  | .hbm, ⟨4, _⟩ => ⟨S_, .f32⟩
  | .hbm, ⟨5, _⟩ => ⟨S1024x16x256, .f32⟩
  | .hbm, ⟨6, _⟩ => ⟨S1024x4096, .f32⟩
  | .hbm, ⟨7, _⟩ => ⟨S1024x4096, .bf16⟩
  | .hbm, ⟨8, _⟩ => ⟨S12288x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S12288x1024 : Shape := ⟨2, ![12288, 1024]⟩
abbrev S1024x3072 : Shape := ⟨2, ![1024, 3072]⟩
abbrev S12288x3072 : Shape := ⟨2, ![12288, 3072]⟩
abbrev S12288x16x192 : Shape := ⟨3, ![12288, 16, 192]⟩
abbrev S_ : Shape := ⟨0, ![]⟩
abbrev S12288x16x256 : Shape := ⟨3, ![12288, 16, 256]⟩
abbrev S12288x4096 : Shape := ⟨2, ![12288, 4096]⟩

abbrev nBuf : Space → Nat
  | .hbm => 10
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S1024x3072, .f32⟩
  | .hbm, ⟨2, _⟩ => ⟨S12288x1024, .f32⟩
  | .hbm, ⟨3, _⟩ => ⟨S12288x3072, .f32⟩
  | .hbm, ⟨4, _⟩ => ⟨S12288x16x192, .f32⟩
  | .hbm, ⟨5, _⟩ => ⟨S_, .i32⟩
  | .hbm, ⟨6, _⟩ => ⟨S_, .f32⟩
  | .hbm, ⟨7, _⟩ => ⟨S12288x16x256, .f32⟩
  | .hbm, ⟨8, _⟩ => ⟨S12288x4096, .f32⟩
  | .hbm, ⟨9, _⟩ => ⟨S12288x4096, .bf16⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S4x256x512 : Shape := ⟨3, ![4, 256, 512]⟩
abbrev S512x4096 : Shape := ⟨2, ![512, 4096]⟩
abbrev S1024x512 : Shape := ⟨2, ![1024, 512]⟩
abbrev S1024x4096 : Shape := ⟨2, ![1024, 4096]⟩
abbrev S512x2048 : Shape := ⟨2, ![512, 2048]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S4x256x512, .f32⟩
  | .hbm, ⟨1, _⟩ => ⟨S512x4096, .f32⟩
  | .hbm, ⟨2, _⟩ => ⟨S1024x512, .f32⟩
  | .hbm, ⟨3, _⟩ => ⟨S512x4096, .bf16⟩
  | .hbm, ⟨4, _⟩ => ⟨S1024x4096, .bf16⟩
  | .local _ .vmem, ⟨0, _⟩ => ⟨S1024x512, .f32⟩
  | .local _ .vmem, ⟨1, _⟩ => ⟨S512x2048, .bf16⟩
  | .local _ .vmem, ⟨2, _⟩ => ⟨S512x2048, .bf16⟩
  | .local _ .vmem, ⟨3, _⟩ => ⟨S1024x2048, .bf16⟩
  | .local _ .vmem, ⟨4, _⟩ => ⟨S1024x2048, .bf16⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4x256x512 : Shape := ⟨3, ![4, 256, 512]⟩
abbrev S512x4096 : Shape := ⟨2, ![512, 4096]⟩
abbrev S4x256x4096 : Shape := ⟨3, ![4, 256, 4096]⟩
abbrev S1024x4096 : Shape := ⟨2, ![1024, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S512x4096, .f32⟩
  | .hbm, ⟨2, _⟩ => ⟨S4x256x4096, .f32⟩
  | .hbm, ⟨3, _⟩ => ⟨S1024x4096, .f32⟩
  | .hbm, ⟨4, _⟩ => ⟨S1024x4096, .bf16⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S12288x4096 : Shape := ⟨2, ![12288, 4096]⟩
abbrev S4096 : Shape := ⟨1, ![4096]⟩
abbrev S8x1x24576 : Shape := ⟨3, ![8, 1, 24576]⟩
abbrev S1x4096 : Shape := ⟨2, ![1, 4096]⟩
abbrev S512x4096 : Shape := ⟨2, ![512, 4096]⟩
abbrev S1x1x4096 : Shape := ⟨3, ![1, 1, 4096]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S12288x4096, .f32⟩
  | .hbm, ⟨1, _⟩ => ⟨S4096, .f32⟩
  | .hbm, ⟨2, _⟩ => ⟨S8x1x24576, .f32⟩
  | .hbm, ⟨3, _⟩ => ⟨S1x4096, .f32⟩
  | .hbm, ⟨4, _⟩ => ⟨S12288x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S512x4096, .bf16⟩
  | .local _ .vmem, ⟨8, _⟩ => ⟨S512x4096, .bf16⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c3_i32 : BitVec 32 := 3#32
  let c0_i32_8 : BitVec 32 := 0#32
  ![v20.toNat, c0_i32_7.toNat, c3_i32.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c4_i32 : BitVec 32 := 4#32
  let c0_i32_8 : BitVec 32 := 0#32
  ![v20.toNat, c0_i32_7.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S12288x4096 : Shape := ⟨2, ![12288, 4096]⟩
abbrev S4096 : Shape := ⟨1, ![4096]⟩
abbrev S8x1x24576 : Shape := ⟨3, ![8, 1, 24576]⟩
abbrev S8x1x4096 : Shape := ⟨3, ![8, 1, 4096]⟩
abbrev S1x1x4096 : Shape := ⟨3, ![1, 1, 4096]⟩
abbrev S4x1x4096 : Shape := ⟨3, ![4, 1, 4096]⟩
abbrev S8192x4096 : Shape := ⟨2, ![8192, 4096]⟩
abbrev S32x256x4096 : Shape := ⟨3, ![32, 256, 4096]⟩
abbrev S4096x4096 : Shape := ⟨2, ![4096, 4096]⟩
abbrev S4x1024x4096 : Shape := ⟨3, ![4, 1024, 4096]⟩
abbrev S_ : Shape := ⟨0, ![]⟩
abbrev S32x256 : Shape := ⟨2, ![32, 256]⟩
abbrev S32x256x1 : Shape := ⟨3, ![32, 256, 1]⟩
abbrev S4x1024 : Shape := ⟨2, ![4, 1024]⟩
abbrev S4x1024x1 : Shape := ⟨3, ![4, 1024, 1]⟩

abbrev nBuf : Space → Nat
  | .hbm => 67
  | .vmem => 0
  | .smem => 0
  | _ => 0

abbrev bufTy : (tb : Table) → Fin (tcTables nBuf tb) → BufTy
  | .hbm, ⟨0, _⟩ => ⟨S12288x4096, .f32⟩
  | .hbm, ⟨1, _⟩ => ⟨S4096, .f32⟩
  | .hbm, ⟨2, _⟩ => ⟨S8x1x24576, .f32⟩
  | .hbm, ⟨3, _⟩ => ⟨S8x1x4096, .f32⟩
  | .hbm, ⟨4, _⟩ => ⟨S8x1x4096, .f32⟩
  | .hbm, ⟨5, _⟩ => ⟨S8x1x4096, .f32⟩
  | .hbm, ⟨6, _⟩ => ⟨S8x1x4096, .f32⟩
  | .hbm, ⟨7, _⟩ => ⟨S8x1x4096, .f32⟩
  | .hbm, ⟨8, _⟩ => ⟨S8x1x4096, .f32⟩
  | .hbm, ⟨9, _⟩ => ⟨S1x1x4096, .f32⟩
  | .hbm, ⟨10, _⟩ => ⟨S4x1x4096, .f32⟩
  | .hbm, ⟨11, _⟩ => ⟨S1x1x4096, .f32⟩
  | .hbm, ⟨12, _⟩ => ⟨S4x1x4096, .f32⟩
  | .hbm, ⟨13, _⟩ => ⟨S8192x4096, .f32⟩
  | .hbm, ⟨14, _⟩ => ⟨S32x256x4096, .f32⟩
  | .hbm, ⟨15, _⟩ => ⟨S4096x4096, .f32⟩
  | .hbm, ⟨16, _⟩ => ⟨S4x1024x4096, .f32⟩
  | .hbm, ⟨17, _⟩ => ⟨S32x256x4096, .f32⟩
  | .hbm, ⟨18, _⟩ => ⟨S_, .f32⟩
  | .hbm, ⟨19, _⟩ => ⟨S32x256, .f32⟩
  | .hbm, ⟨20, _⟩ => ⟨S32x256x1, .f32⟩
  | .hbm, ⟨21, _⟩ => ⟨S_, .f32⟩
  | .hbm, ⟨22, _⟩ => ⟨S32x256x1, .f32⟩
  | .hbm, ⟨23, _⟩ => ⟨S32x256x1, .f32⟩
  | .hbm, ⟨24, _⟩ => ⟨S_, .f32⟩
  | .hbm, ⟨25, _⟩ => ⟨S32x256x1, .f32⟩
  | .hbm, ⟨26, _⟩ => ⟨S32x256x1, .f32⟩
  | .hbm, ⟨27, _⟩ => ⟨S32x256x1, .f32⟩
  | .hbm, ⟨28, _⟩ => ⟨S32x256x4096, .f32⟩
  | .hbm, ⟨29, _⟩ => ⟨S32x256x4096, .f32⟩
  | .hbm, ⟨30, _⟩ => ⟨S1x1x4096, .f32⟩
  | .hbm, ⟨31, _⟩ => ⟨S32x256x4096, .f32⟩
  | .hbm, ⟨32, _⟩ => ⟨S32x256x4096, .f32⟩
  | .hbm, ⟨33, _⟩ => ⟨S_, .f32⟩
  | .hbm, ⟨34, _⟩ => ⟨S1x1x4096, .f32⟩
  | .hbm, ⟨35, _⟩ => ⟨S1x1x4096, .f32⟩
  | .hbm, ⟨36, _⟩ => ⟨S32x256x4096, .f32⟩
  | .hbm, ⟨37, _⟩ => ⟨S32x256x4096, .f32⟩
  | .hbm, ⟨38, _⟩ => ⟨S32x256x4096, .f32⟩
  | .hbm, ⟨39, _⟩ => ⟨S32x256x4096, .f32⟩
  | .hbm, ⟨40, _⟩ => ⟨S4x1024x4096, .f32⟩
  | .hbm, ⟨41, _⟩ => ⟨S_, .f32⟩
  | .hbm, ⟨42, _⟩ => ⟨S4x1024, .f32⟩
  | .hbm, ⟨43, _⟩ => ⟨S4x1024x1, .f32⟩
  | .hbm, ⟨44, _⟩ => ⟨S_, .f32⟩
  | .hbm, ⟨45, _⟩ => ⟨S4x1024x1, .f32⟩
  | .hbm, ⟨46, _⟩ => ⟨S4x1024x1, .f32⟩
  | .hbm, ⟨47, _⟩ => ⟨S_, .f32⟩
  | .hbm, ⟨48, _⟩ => ⟨S4x1024x1, .f32⟩
  | .hbm, ⟨49, _⟩ => ⟨S4x1024x1, .f32⟩
  | .hbm, ⟨50, _⟩ => ⟨S4x1024x1, .f32⟩
  | .hbm, ⟨51, _⟩ => ⟨S4x1024x4096, .f32⟩
  | .hbm, ⟨52, _⟩ => ⟨S4x1024x4096, .f32⟩
  | .hbm, ⟨53, _⟩ => ⟨S1x1x4096, .f32⟩
  | .hbm, ⟨54, _⟩ => ⟨S4x1024x4096, .f32⟩
  | .hbm, ⟨55, _⟩ => ⟨S4x1024x4096, .f32⟩
  | .hbm, ⟨56, _⟩ => ⟨S_, .f32⟩
  | .hbm, ⟨57, _⟩ => ⟨S4x1x4096, .f32⟩
  | .hbm, ⟨58, _⟩ => ⟨S4x1x4096, .f32⟩
  | .hbm, ⟨59, _⟩ => ⟨S4x1024x4096, .f32⟩
  | .hbm, ⟨60, _⟩ => ⟨S4x1024x4096, .f32⟩
  | .hbm, ⟨61, _⟩ => ⟨S4x1024x4096, .f32⟩
  | .hbm, ⟨62, _⟩ => ⟨S4x1024x4096, .f32⟩
  | .hbm, ⟨63, _⟩ => ⟨S8192x4096, .f32⟩
  | .hbm, ⟨64, _⟩ => ⟨S4096x4096, .f32⟩
  | .hbm, ⟨65, _⟩ => ⟨S12288x4096, .f32⟩
  | .hbm, ⟨66, _⟩ => ⟨S12288x4096, .bf16⟩
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩

abbrev nD : Nat := 1
abbrev τ : Topo := Topo.v7x

variable {F : FTy → Type} [FloatOps F]
-- ==== Kernel13.lean ====
abbrev S8192x2048 : Shape := ⟨2, ![8192, 2048]⟩
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S12288x2048 : Shape := ⟨2, ![12288, 2048]⟩
abbrev S1024x2048 : Shape := ⟨2, ![1024, 2048]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S12288x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S2048x2048, .bf16⟩
  | .local _ .vmem, ⟨5, _⟩ => ⟨S1x2048, .f32⟩
  | .local _ .vmem, ⟨6, _⟩ => ⟨S1024x2048, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![12, 1], ![false, false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference13Ideal.lean ====
abbrev S8192x2048 : Shape := ⟨2, ![8192, 2048]⟩
abbrev S4096x2048 : Shape := ⟨2, ![4096, 2048]⟩
abbrev S2048x2048 : Shape := ⟨2, ![2048, 2048]⟩
abbrev S2048 : Shape := ⟨1, ![2048]⟩
abbrev S12288x2048 : Shape := ⟨2, ![12288, 2048]⟩
abbrev S1x2048 : Shape := ⟨2, ![1, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S2048x2048, .f32⟩
  | .hbm, ⟨3, _⟩ => ⟨S2048, .f32⟩
  | .hbm, ⟨4, _⟩ => ⟨S12288x2048, .f32⟩
  | .hbm, ⟨5, _⟩ => ⟨S12288x2048, .f32⟩
  | .hbm, ⟨6, _⟩ => ⟨S1x2048, .f32⟩
  | .hbm, ⟨7, _⟩ => ⟨S12288x2048, .f32⟩
  | .hbm, ⟨8, _⟩ => ⟨S12288x2048, .f32⟩
  | .hbm, ⟨9, _⟩ => ⟨S12288x2048, .f32⟩
  | .hbm, ⟨10, _⟩ => ⟨S12288x2048, .f32⟩
  | .hbm, ⟨11, _⟩ => ⟨S_, .f32⟩
  | .hbm, ⟨12, _⟩ => ⟨S12288x2048, .f32⟩
  | .hbm, ⟨13, _⟩ => ⟨S12288x2048, .f32⟩
  | .hbm, ⟨14, _⟩ => ⟨S_, .f32⟩
  | .hbm, ⟨15, _⟩ => ⟨S12288x2048, .f32⟩
  | .hbm, ⟨16, _⟩ => ⟨S12288x2048, .f32⟩
  | .hbm, ⟨17, _⟩ => ⟨S12288x2048, .f32⟩
  | .hbm, ⟨18, _⟩ => ⟨S12288x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Proof.Soft.lean ====
/- Facts about extended reals used by the attention equation: which operations keep a value real, and that a softmax
   weighted sum does not depend on the number subtracted before the exponential. -/
module

public import Idealize.ShloMosaic.PureOps.Ideal.Laws
public import Idealize.ShloMosaic.Lib.Pointwise

@[expose] public section

noncomputable section

namespace Cert.Proof.Soft

open Idealize.ShloMosaic

/-- An extended real that is a real number. -/
def IsReal (x : EReal) : Prop := ∃ r : ℝ, x = (r : EReal)

/-- A real number, read as an extended real, is real. -/
theorem isReal_coe (r : ℝ) : IsReal (r : EReal) := ⟨r, rfl⟩

/-- Zero is real. -/
theorem isReal_zero : IsReal 0 := ⟨0, rfl⟩

/-- One is real. -/
theorem isReal_one : IsReal 1 := ⟨1, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The larger of two reals is real. -/
theorem IsReal.max {x y : EReal} (hx : IsReal x) (hy : IsReal y) : IsReal (max x y) := by
  rcases max_choice x y with h | h <;> rw [h] <;> assumption

/-- A finite sum of reals, taken in the extended reals, is the sum of the reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem isReal_sum {ι : Type*} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- An extended real below the top and above the bottom is real. -/
theorem isReal_of_lt {x : EReal} (h1 : ⊥ < x) (h2 : x < ⊤) : IsReal x :=
  ⟨x.toReal, (EReal.coe_toReal h2.ne h1.ne').symm⟩

/-- A real is above the bottom. -/
theorem IsReal.bot_lt {x : EReal} (h : IsReal x) : ⊥ < x := by
  obtain ⟨a, rfl⟩ := h; exact EReal.bot_lt_coe a

/-- A real is below the top. -/
theorem IsReal.lt_top {x : EReal} (h : IsReal x) : x < ⊤ := by
  obtain ⟨a, rfl⟩ := h; exact EReal.coe_lt_top a

/-- A value whose absolute value is below the top is real. -/
theorem isReal_of_abs_lt {x : EReal} (h : Max.max x (-x) < ⊤) : IsReal x := by
  refine isReal_of_lt ?_ (lt_of_le_of_lt (le_max_left _ _) h)
  rw [bot_lt_iff_ne_bot]
  rintro rfl
  simp at h

/-- The maximum of a nonempty finite family of reals, started from a value below the top, is real. -/
theorem isReal_foldMax {ι : Type*} [Fintype ι] [Nonempty ι] (b : EReal) (hb : b < ⊤) (f : ι → EReal)
    (h : ∀ i, IsReal (f i)) : IsReal (Finset.univ.fold Max.max b f) := by
  refine isReal_of_lt ?_ ?_
  · rw [Finset.lt_fold_max]
    exact Or.inr ⟨Classical.arbitrary ι, Finset.mem_univ _, (h _).bot_lt⟩
  · rw [Finset.fold_max_lt]
    exact ⟨hb, fun i _ => (h i).lt_top⟩

/-- Over the reals: a softmax weighted sum, divided after the sum with one number subtracted, is the one divided
    before the sum with another number subtracted. -/
theorem shift_real {ι : Type*} [Fintype ι] (σ ν : ι → ℝ) (m m' : ℝ) :
    (∑ k, Real.exp (σ k - m) * ν k) / (∑ k, Real.exp (σ k - m))
      = ∑ k, Real.exp (σ k - m') / (∑ j, Real.exp (σ j - m')) * ν k := by
  have h : ∀ k, Real.exp (σ k - m) = Real.exp (m' - m) * Real.exp (σ k - m') := fun k => by
    rw [← Real.exp_add]; congr 1; ring
  simp only [h, mul_assoc, ← Finset.mul_sum]
  rw [mul_div_mul_left _ _ (Real.exp_pos _).ne', Finset.sum_div]
  exact Finset.sum_congr rfl fun k _ => by ring

/-- The exponential of a real, at the ideal instance. -/
theorem exp_coe (r : ℝ) : Ideal.exp (r : EReal) = ((Real.exp r : ℝ) : EReal) := rfl

/-- A softmax weighted sum over two families laid end to end: the numerators and the denominators of the two parts
    added and one division made at the end, against the weights of the joined family divided one by one. The numbers
    subtracted before the exponentials may differ, provided both are real. -/
theorem softmax_join {a b n : ℕ} (hn : n = a + b) (s1 v1 : Fin a → EReal) (s2 v2 : Fin b → EReal) (s v : Fin n → EReal)
    (m m' : EReal) (hs1 : ∀ k : Fin a, s1 k = s ⟨k, by omega⟩) (hs2 : ∀ k : Fin b, s2 k = s ⟨a + k, by omega⟩)
    (hv1 : ∀ k : Fin a, v1 k = v ⟨k, by omega⟩) (hv2 : ∀ k : Fin b, v2 k = v ⟨a + k, by omega⟩)
    (hs : ∀ k, IsReal (s k)) (hv : ∀ k, IsReal (v k)) (hm : IsReal m) (hm' : IsReal m') (hpos : 0 < n) :
    Ideal.div (∑ k, Ideal.exp (s1 k - m) * v1 k + ∑ k, Ideal.exp (s2 k - m) * v2 k)
        (∑ k, Ideal.exp (s1 k - m) + ∑ k, Ideal.exp (s2 k - m))
      = ∑ k, Ideal.div (Ideal.exp (s k - m')) (∑ j, Ideal.exp (s j - m')) * v k := by
  subst hn
  have e1 : ∑ k, Ideal.exp (s1 k - m) * v1 k + ∑ k, Ideal.exp (s2 k - m) * v2 k = ∑ k, Ideal.exp (s k - m) * v k := by
    rw [Fin.sum_univ_add]
    congr 1
    · exact Finset.sum_congr rfl fun k _ => by rw [hs1, hv1]; rfl
    · exact Finset.sum_congr rfl fun k _ => by rw [hs2, hv2]; rfl
  have e2 : ∑ k, Ideal.exp (s1 k - m) + ∑ k, Ideal.exp (s2 k - m) = ∑ k, Ideal.exp (s k - m) := by
    rw [Fin.sum_univ_add]
    congr 1
    · exact Finset.sum_congr rfl fun k _ => by rw [hs1]; rfl
    · exact Finset.sum_congr rfl fun k _ => by rw [hs2]; rfl
  rw [e1, e2]
  choose σ hσ using hs
  choose ν hν using hv
  obtain ⟨μ, rfl⟩ := hm
  obtain ⟨μ', rfl⟩ := hm'
  have hpos' : ∀ t : ℝ, (∑ k, Real.exp (σ k - t)) ≠ 0 := fun t =>
    (Finset.sum_pos (fun k _ => Real.exp_pos _) ⟨⟨0, hpos⟩, Finset.mem_univ _⟩).ne'
  simp only [hσ, hν, ← EReal.coe_sub, exp_coe, ← EReal.coe_mul, ← coe_sum]
  simp only [Ideal.div_coe (hpos' _), ← EReal.coe_mul, ← coe_sum]
  rw [mul_one_div, shift_real σ ν μ μ']
  simp only [mul_one_div]

end Cert.Proof.Soft

end
-- ==== Proof.Piece.lean ====
/- The eight pieces one grid point stores are one function, `piece`, of a block of 256 query rows and of the two key and
   value blocks; its elements are written out here as sums over the key positions. -/
module

public import proofs.«01_k».proof.Proof.Gen.KernelIdeal.Frame
public import proofs.«01_k».proof.Proof.Soft
public import Idealize.ShloMosaic.Lib.Pointwise

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pointwise

/-- The piece stored for 256 query rows: the scores against the latent keys `k1` and the context keys `k2`, the
    softmax over both, and the weighted sum of the values `v1` and `v2`. -/
def piece (q : FVec Ideal S256x256 .bf16) (k1 : FVec Ideal S1024x256 .bf16) (v1 : FVec Ideal S1024x128 .bf16)
    (k2 : FVec Ideal S256x256 .bf16) (v2 : FVec Ideal S256x128 .bf16) : FVec Ideal S1x256x128 .bf16 :=
  k0_pay1 v1 k2 v2 q
    (matmul dot_S256x256_S1024x256_S256x1024_1_1_0_0_n_n none q k1 (constant S256x1024 .f32 0x00000000#32)) k0_pay54

/-- The query rows of one piece: 128 lanes as they are, then 128 lanes rotated by the position's angles. -/
def qrows (pe : Vec Ideal S1x256x128 .bf16) (co si : Vec Ideal S256x128 .f32) (no : Vec Ideal S1x256x128 .bf16) :
    FVec Ideal S256x256 .bf16 := k0_pay8 pe co si no

/-- The latent keys of one head: 128 lanes as they are, then the shared 128 lanes rotated. -/
def krows (pe : Vec Ideal S1x1024x128 .f32) (co si : Vec Ideal S1024x128 .f32) (no : Vec Ideal S1x1024x128 .bf16) :
    FVec Ideal S1024x256 .bf16 := k0_pay4 pe co si no

/-- The context keys of one head: 128 lanes as they are, then the shared 128 lanes as they are. -/
def crows (pe : Vec Ideal S1x256x128 .f32) (no : Vec Ideal S1x256x128 .bf16) : FVec Ideal S256x256 .bf16 := k0_pay6 pe no

/-- The block a grid point writes, each of its eight stores as a `piece`. -/
theorem out_eq (x0 : Vec Ideal S1x1024x512 .bf16) (x1 : Vec Ideal S1x1024x512 .bf16) (x2 : Vec Ideal S1x1024x128 .f32)
    (x3 : Vec Ideal S1x256x512 .bf16) (x4 : Vec Ideal S1x256x128 .f32) (x5 : Vec Ideal S1024x128 .f32)
    (x6 : Vec Ideal S1024x128 .f32) : out0_7 x0 x1 x2 x3 x4 x5 x6 =
    View.canon [
      ⟨r0_38, piece (qrows (View.ld x0 r0_36) (View.ld x5 r0_20) (View.ld x6 r0_20) (View.ld x0 r0_37))
        (krows (View.ld x2 r0_0) (View.ld x5 r0_1) (View.ld x6 r0_1) (View.ld x1 r0_23)) (k0_pay31 (View.ld x1 r0_24))
        (crows (View.ld x4 r0_2) (View.ld x3 r0_25)) (k0_pay33 (View.ld x3 r0_26))⟩,
      ⟨r0_35, piece (qrows (View.ld x0 r0_33) (View.ld x5 r0_16) (View.ld x6 r0_16) (View.ld x0 r0_34))
        (krows (View.ld x2 r0_0) (View.ld x5 r0_1) (View.ld x6 r0_1) (View.ld x1 r0_23)) (k0_pay31 (View.ld x1 r0_24))
        (crows (View.ld x4 r0_2) (View.ld x3 r0_25)) (k0_pay33 (View.ld x3 r0_26))⟩,
      ⟨r0_32, piece (qrows (View.ld x0 r0_30) (View.ld x5 r0_12) (View.ld x6 r0_12) (View.ld x0 r0_31))
        (krows (View.ld x2 r0_0) (View.ld x5 r0_1) (View.ld x6 r0_1) (View.ld x1 r0_23)) (k0_pay31 (View.ld x1 r0_24))
        (crows (View.ld x4 r0_2) (View.ld x3 r0_25)) (k0_pay33 (View.ld x3 r0_26))⟩,
      ⟨r0_29, piece (qrows (View.ld x0 r0_27) (View.ld x5 r0_8) (View.ld x6 r0_8) (View.ld x0 r0_28))
        (krows (View.ld x2 r0_0) (View.ld x5 r0_1) (View.ld x6 r0_1) (View.ld x1 r0_23)) (k0_pay31 (View.ld x1 r0_24))
        (crows (View.ld x4 r0_2) (View.ld x3 r0_25)) (k0_pay33 (View.ld x3 r0_26))⟩,
      ⟨r0_22, piece (qrows (View.ld x0 r0_19) (View.ld x5 r0_20) (View.ld x6 r0_20) (View.ld x0 r0_21))
        (krows (View.ld x2 r0_0) (View.ld x5 r0_1) (View.ld x6 r0_1) (View.ld x1 r0_3)) (k0_pay31 (View.ld x1 r0_4))
        (crows (View.ld x4 r0_2) (View.ld x3 r0_5)) (k0_pay33 (View.ld x3 r0_6))⟩,
      ⟨r0_18, piece (qrows (View.ld x0 r0_15) (View.ld x5 r0_16) (View.ld x6 r0_16) (View.ld x0 r0_17))
        (krows (View.ld x2 r0_0) (View.ld x5 r0_1) (View.ld x6 r0_1) (View.ld x1 r0_3)) (k0_pay31 (View.ld x1 r0_4))
        (crows (View.ld x4 r0_2) (View.ld x3 r0_5)) (k0_pay33 (View.ld x3 r0_6))⟩,
      ⟨r0_14, piece (qrows (View.ld x0 r0_11) (View.ld x5 r0_12) (View.ld x6 r0_12) (View.ld x0 r0_13))
        (krows (View.ld x2 r0_0) (View.ld x5 r0_1) (View.ld x6 r0_1) (View.ld x1 r0_3)) (k0_pay31 (View.ld x1 r0_4))
        (crows (View.ld x4 r0_2) (View.ld x3 r0_5)) (k0_pay33 (View.ld x3 r0_6))⟩,
      ⟨r0_10, piece (qrows (View.ld x0 r0_7) (View.ld x5 r0_8) (View.ld x6 r0_8) (View.ld x0 r0_9))
        (krows (View.ld x2 r0_0) (View.ld x5 r0_1) (View.ld x6 r0_1) (View.ld x1 r0_3)) (k0_pay31 (View.ld x1 r0_4))
        (crows (View.ld x4 r0_2) (View.ld x3 r0_5)) (k0_pay33 (View.ld x3 r0_6))⟩] := by
  rfl

/-- The scale that multiplies every score, the constant both programs print. -/
def scl : EReal := Ideal.ofBits .f32 0x3D93CD3A#32

/-- The score of query row `r` against key row `k`. -/
def score {n : ℕ} (q : FVec Ideal S256x256 .bf16) (ks : Fin n → Fin 256 → EReal) (r : Fin 256) (k : Fin n) : EReal :=
  (∑ e : Fin 256, q (ix2 r e) * ks k e) * scl

/-- The larger of the two rows' greatest scores, which the kernel subtracts before the exponentials. -/
def top (s1 : Fin 1024 → EReal) (s2 : Fin 256 → EReal) : EReal :=
  max (Finset.univ.fold max (Ideal.ofBits .f32 0xFF800000#32) s1) (Finset.univ.fold max (Ideal.ofBits .f32 0xFF800000#32) s2)

/-- A piece read at query row `r` and value lane `d`. -/
theorem piece_apply (q : FVec Ideal S256x256 .bf16) (k1 : FVec Ideal S1024x256 .bf16) (v1 : FVec Ideal S1024x128 .bf16)
    (k2 : FVec Ideal S256x256 .bf16) (v2 : FVec Ideal S256x128 .bf16) (r : Fin 256) (d : Fin 128) :
    piece q k1 v1 k2 v2 (ix3 0 r d) =
      let s1 := score q (fun k e => k1 (ix2 k e)) r
      let s2 := score q (fun k e => k2 (ix2 k e)) r
      Ideal.div (∑ k, Ideal.exp (s1 k - top s1 s2) * v1 (ix2 k d) + ∑ k, Ideal.exp (s2 k - top s1 s2) * v2 (ix2 k d))
        (∑ k, Ideal.exp (s1 k - top s1 s2) + ∑ k, Ideal.exp (s2 k - top s1 s2)) := by
  unfold score top scl
  pointwise [piece, k0_pay1, k0_pay54]

end Cert.Proof

end
-- ==== Proof.Block.lean ====
/- One grid point's block, index by index: which query lanes, keys and values each element is computed from. -/
module

public import proofs.«01_k».proof.Proof.Piece
public import Idealize.ShloMosaic.Lib.Pipeline.Value

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pointwise

/-- A rotated lane of a row of 128 lanes: lane `e` times the cosine, plus its partner 16 lanes up or down times the
    signed sine. -/
def ropeLane (x co si : Fin 128 → EReal) (e : Fin 128) : EReal :=
  x e * co e + Scalar.select (IntOp.cmpi .eq (IntOp.andi (BitVec.ofNat 32 e.val) 16#32) 0#32)
    (x ⟨(e.val + 128 - 112) % 128, Nat.mod_lt _ (by decide)⟩) (x ⟨(e.val + 128 - 16) % 128, Nat.mod_lt _ (by decide)⟩) * si e

/-- Two rows of 128 lanes side by side. -/
def beside (a b : Fin 128 → EReal) (e : Fin 256) : EReal :=
  if h : e.val < 128 then a ⟨e.val, h⟩ else b ⟨e.val - 128, by omega⟩

/-- One element of the attention of one head: a query row of 256 lanes against the two key tables, with the two tables'
    values at the lane asked for. -/
def attend (q : Fin 256 → EReal) (k1 : Fin 1024 → Fin 256 → EReal) (v1 : Fin 1024 → EReal)
    (k2 : Fin 256 → Fin 256 → EReal) (v2 : Fin 256 → EReal) : EReal :=
  let s1 := fun k => (∑ e, q e * k1 k e) * scl
  let s2 := fun k => (∑ e, q e * k2 k e) * scl
  Ideal.div (∑ k, Ideal.exp (s1 k - top s1 s2) * v1 k + ∑ k, Ideal.exp (s2 k - top s1 s2) * v2 k)
    (∑ k, Ideal.exp (s1 k - top s1 s2) + ∑ k, Ideal.exp (s2 k - top s1 s2))

/-- A piece's element is the attention of its query row, whatever the query, key and value tables are called. -/
theorem piece_eq {q : FVec Ideal S256x256 .bf16} {k1 : FVec Ideal S1024x256 .bf16} {v1 : FVec Ideal S1024x128 .bf16}
    {k2 : FVec Ideal S256x256 .bf16} {v2 : FVec Ideal S256x128 .bf16} {r : Fin 256} {d : Fin 128}
    {Q : Fin 256 → EReal} {K1 : Fin 1024 → Fin 256 → EReal} {V1 : Fin 1024 → EReal} {K2 : Fin 256 → Fin 256 → EReal}
    {V2 : Fin 256 → EReal} (hq : ∀ e, q (ix2 r e) = Q e) (hk1 : ∀ k e, k1 (ix2 k e) = K1 k e)
    (hv1 : ∀ k, v1 (ix2 k d) = V1 k) (hk2 : ∀ k e, k2 (ix2 k e) = K2 k e) (hv2 : ∀ k, v2 (ix2 k d) = V2 k) :
    piece q k1 v1 k2 v2 (ix3 0 r d) = attend Q K1 V1 K2 V2 := by
  rw [piece_apply]
  unfold attend score
  simp only [hq, hk1, hv1, hk2, hv2]

/-- Column `c` of a block of 512 columns: head `h` (0 or 1) and lane `e` (0 to 255). -/
def col (h : Fin 2) (e : Fin 256) : Fin 512 := ⟨h.val * 256 + e.val, by omega⟩

/-- Lane `128 + d` of 256. -/
def hi (d : Fin 128) : Fin 256 := ⟨128 + d.val, by omega⟩

/-- Lane `d` of 256. -/
def lo (d : Fin 128) : Fin 256 := ⟨d.val, by omega⟩

/-- Row `l`, head `h`, value lane `d` of the block one grid point writes, from the seven blocks it reads. -/
def blockAt (x0 : Vec Ideal S1x1024x512 .bf16) (x1 : Vec Ideal S1x1024x512 .bf16) (x2 : Vec Ideal S1x1024x128 .f32)
    (x3 : Vec Ideal S1x256x512 .bf16) (x4 : Vec Ideal S1x256x128 .f32) (x5 : Vec Ideal S1024x128 .f32)
    (x6 : Vec Ideal S1024x128 .f32) (l : Fin 1024) (h : Fin 2) (d : Fin 128) : EReal :=
  attend
    (beside (fun e => x0 (ix3 0 l (col h (lo e))))
      (ropeLane (fun e => x0 (ix3 0 l (col h (hi e)))) (fun e => x5 (ix2 l e)) (fun e => x6 (ix2 l e))))
    (fun k => beside (fun e => x1 (ix3 0 k (col h (lo e))))
      (ropeLane (fun e => x2 (ix3 0 k e)) (fun e => x5 (ix2 k e)) (fun e => x6 (ix2 k e))))
    (fun k => x1 (ix3 0 k (col h (hi d))))
    (fun k => beside (fun e => x3 (ix3 0 k (col h (lo e)))) (fun e => x4 (ix3 0 k e)))
    (fun k => x3 (ix3 0 k (col h (hi d))))

/-- The block one grid point writes, as a function of the block's index. -/
def blockVal (x0 : Vec Ideal S1x1024x512 .bf16) (x1 : Vec Ideal S1x1024x512 .bf16) (x2 : Vec Ideal S1x1024x128 .f32)
    (x3 : Vec Ideal S1x256x512 .bf16) (x4 : Vec Ideal S1x256x128 .f32) (x5 : Vec Ideal S1024x128 .f32)
    (x6 : Vec Ideal S1024x128 .f32) (i : S1x1024x256.Idx) : EReal :=
  blockAt x0 x1 x2 x3 x4 x5 x6 (i 1) ⟨(i 2).val / 128, by have : (i 2).val < 256 := (i 2).isLt; omega⟩
    ⟨(i 2).val % 128, Nat.mod_lt _ (by decide)⟩

/-- The eight stored pieces are the block `blockVal`. -/
theorem out_apply (x0 : Vec Ideal S1x1024x512 .bf16) (x1 : Vec Ideal S1x1024x512 .bf16) (x2 : Vec Ideal S1x1024x128 .f32)
    (x3 : Vec Ideal S1x256x512 .bf16) (x4 : Vec Ideal S1x256x128 .f32) (x5 : Vec Ideal S1024x128 .f32)
    (x6 : Vec Ideal S1024x128 .f32) (y : S1x1024x256.Idx) :
    out0_7 x0 x1 x2 x3 x4 x5 x6 y = blockVal x0 x1 x2 x3 x4 x5 x6 y := by
  rw [out_eq]
  refine View.canon_apply_of_pieces (Val := Elt Ideal) (e := .bf16) (blockVal x0 x1 x2 x3 x4 x5 x6) _ (fun p hp j => ?_) y (cover0_7 _ _ _ _ _ _ _ _ y)
  have key : ∀ (h : Fin 2) (n : Fin 4) (j0 : Fin 1) (r : Fin 256) (d : Fin 128) (i : S1x1024x256.Idx) (v : EReal),
      i = ix3 0 ⟨n.val * 256 + r.val, by omega⟩ ⟨h.val * 128 + d.val, by omega⟩ →
      v = blockAt x0 x1 x2 x3 x4 x5 x6 ⟨n.val * 256 + r.val, by omega⟩ h d → v = blockVal x0 x1 x2 x3 x4 x5 x6 i := by
    intro h n j0 r d i v hi hv
    rw [hv, hi]
    unfold blockVal
    congr 1
    · exact Fin.ext (show h.val = (h.val * 128 + d.val) / 128 by omega)
    · exact Fin.ext (show d.val = (h.val * 128 + d.val) % 128 by omega)
  simp only [List.mem_cons, List.not_mem_nil, or_false] at hp
  rcases hp with rfl | rfl | rfl | rfl | rfl | rfl | rfl | rfl
  all_goals
    obtain ⟨j0, r, d, rfl⟩ : ∃ (j0 : Fin 1) (r : Fin 256) (d : Fin 128), j = ix3 j0 r d := ⟨j 0, j 1, j 2, eq_ix3 j⟩
    obtain rfl : j0 = 0 := Subsingleton.elim _ _
  on_goal 8 => refine key 0 0 0 r d _ _ ?_ (piece_eq ?_ ?_ ?_ ?_ ?_)
  on_goal 7 => refine key 0 1 0 r d _ _ ?_ (piece_eq ?_ ?_ ?_ ?_ ?_)
  on_goal 6 => refine key 0 2 0 r d _ _ ?_ (piece_eq ?_ ?_ ?_ ?_ ?_)
  on_goal 5 => refine key 0 3 0 r d _ _ ?_ (piece_eq ?_ ?_ ?_ ?_ ?_)
  on_goal 4 => refine key 1 0 0 r d _ _ ?_ (piece_eq ?_ ?_ ?_ ?_ ?_)
  on_goal 3 => refine key 1 1 0 r d _ _ ?_ (piece_eq ?_ ?_ ?_ ?_ ?_)
  on_goal 2 => refine key 1 2 0 r d _ _ ?_ (piece_eq ?_ ?_ ?_ ?_ ?_)
  on_goal 1 => refine key 1 3 0 r d _ _ ?_ (piece_eq ?_ ?_ ?_ ?_ ?_)
  all_goals first
    | intro k e
      pointwise [krows, crows, k0_pay4, k0_pay2, k0_pay6, k0_pay3, beside, ropeLane, col, lo, hi]
    | intro e
      pointwise [qrows, k0_pay8, k0_pay31, k0_pay33, beside, ropeLane, col, lo, hi]
      first | done | simp only [← Nat.add_assoc, Nat.reduceAdd]
    | funext a
      match a with
      | ⟨0, _⟩ => rfl
      | ⟨1, _⟩ => exact Fin.ext (by show _ + 1 * r.val = _ + r.val; dsimp; omega)
      | ⟨2, _⟩ => exact Fin.ext (by show _ + 1 * d.val = _ + d.val; dsimp; omega)

end Cert.Proof

end
-- ==== Proof.Rope.lean ====
/- The rotation of position lanes: the kernel's two tables of 128 lanes and its select of a partner lane, against the
   four quarters of sixteen lanes that the reference writes out. -/
module

public import proofs.«01_k».proof.Proof.Block

@[expose] public section

set_option maxRecDepth 16384

noncomputable section

namespace Cert.Proof

open Idealize.ShloMosaic Idealize.ShloMosaic.TcCoe Idealize.SL.Sem

/-- The rotated lane `e` of 64: the first 32 lanes turn by the row's angles `ar`, the last 32 by the column's `ac`, and in
    each half lane `i` pairs with lane `i + 16`. -/
def rope64 (ar ac : Fin 16 → EReal) (x : Fin 64 → EReal) (e : Fin 64) : EReal :=
  if h : e.val < 32 then
    if h' : e.val < 16 then x ⟨e.val, by omega⟩ * Ideal.cos (ar ⟨e.val, h'⟩) - x ⟨16 + e.val, by omega⟩ * Ideal.sin (ar ⟨e.val, h'⟩)
    else x ⟨e.val - 16, by omega⟩ * Ideal.sin (ar ⟨e.val - 16, by omega⟩)
      + x ⟨16 + (e.val - 16), by omega⟩ * Ideal.cos (ar ⟨e.val - 16, by omega⟩)
  else
    if h' : e.val - 32 < 16 then x ⟨32 + (e.val - 32), by omega⟩ * Ideal.cos (ac ⟨e.val - 32, h'⟩)
      - x ⟨32 + (16 + (e.val - 32)), by omega⟩ * Ideal.sin (ac ⟨e.val - 32, h'⟩)
    else x ⟨32 + (e.val - 32 - 16), by omega⟩ * Ideal.sin (ac ⟨e.val - 32 - 16, by omega⟩)
      + x ⟨32 + (16 + (e.val - 32 - 16)), by omega⟩ * Ideal.cos (ac ⟨e.val - 32 - 16, by omega⟩)

/-- Four rows of sixteen lanes and then a constant over 64 lanes. -/
def table (a b c d : Fin 16 → EReal) (z : EReal) (e : Fin 128) : EReal :=
  if e.val < 64 then
    if h : e.val < 16 then a ⟨e.val, h⟩
    else if h : e.val - 16 < 16 then b ⟨e.val - 16, h⟩
    else if h : e.val - 16 - 16 < 16 then c ⟨e.val - 16 - 16, h⟩
    else if h : e.val - 16 - 16 - 16 < 16 then d ⟨e.val - 16 - 16 - 16, h⟩ else z
  else z

/-- The cosine table's row at a position of angles `ar` and `ac`. -/
def cosT (ar ac : Fin 16 → EReal) : Fin 128 → EReal :=
  table (fun i => Ideal.cos (ar i)) (fun i => Ideal.cos (ar i)) (fun i => Ideal.cos (ac i)) (fun i => Ideal.cos (ac i)) 1

/-- The signed sine table's row at a position of angles `ar` and `ac`. -/
def sinT (ar ac : Fin 16 → EReal) : Fin 128 → EReal :=
  table (fun i => -Ideal.sin (ar i)) (fun i => Ideal.sin (ar i)) (fun i => -Ideal.sin (ac i)) (fun i => Ideal.sin (ac i)) 0

/-- Which partner a lane takes: the one above when the lane's bit of weight 16 is clear. -/
theorem partner : ∀ e : Fin 128, IntOp.cmpi .eq (IntOp.andi (BitVec.ofNat 32 e.val) 16#32) 0#32
    = if e.val / 16 % 2 = 0 then 1#1 else 0#1 := by
  decide +kernel

/-- On the first 64 lanes the kernel's rotation is `rope64`. -/
theorem ropeLane_low (ar ac : Fin 16 → EReal) (x : Fin 128 → EReal) (e : Fin 64) :
    ropeLane x (cosT ar ac) (sinT ar ac) ⟨e.val, by omega⟩ = rope64 ar ac (fun i => x ⟨i.val, by omega⟩) e := by
  obtain ⟨e, he⟩ := e
  unfold ropeLane
  rw [partner]
  simp only [rope64, cosT, sinT, table, if_pos he]
  have hx : ∀ (i j : ℕ) (hi : i < 128) (hj : j < 128), i = j → x ⟨i, hi⟩ = x ⟨j, hj⟩ := by
    intro i j hi hj h; subst h; rfl
  by_cases h1 : e < 16
  · rw [if_pos (by omega), dif_pos h1, dif_pos h1, dif_pos (by omega), dif_pos h1,
      show Scalar.select (1#1) (x ⟨(e + 128 - 112) % 128, by omega⟩) (x ⟨(e + 128 - 16) % 128, by omega⟩) = x ⟨(e + 128 - 112) % 128, by omega⟩ from rfl,
      hx ((e + 128 - 112) % 128) (16 + e) _ (by omega) (by omega), mul_neg, ← sub_eq_add_neg]
  · by_cases h2 : e < 32
    · rw [if_neg (by omega), dif_neg h1, dif_pos (by omega), dif_neg h1, dif_pos (by omega), dif_pos h2, dif_neg h1,
        show Scalar.select (0#1) (x ⟨(e + 128 - 112) % 128, by omega⟩) (x ⟨(e + 128 - 16) % 128, by omega⟩) = x ⟨(e + 128 - 16) % 128, by omega⟩ from rfl,
        hx ((e + 128 - 16) % 128) (e - 16) _ (by omega) (by omega), hx e (16 + (e - 16)) _ (by omega) (by omega), add_comm]
    · by_cases h3 : e < 48
      · rw [if_pos (by omega), dif_neg h1, dif_neg (by omega), dif_pos (by omega), dif_neg h1, dif_neg (by omega), dif_pos (by omega), dif_neg h2, dif_pos (by omega),
          show Scalar.select (1#1) (x ⟨(e + 128 - 112) % 128, by omega⟩) (x ⟨(e + 128 - 16) % 128, by omega⟩) = x ⟨(e + 128 - 112) % 128, by omega⟩ from rfl,
          hx ((e + 128 - 112) % 128) (32 + (16 + (e - 32))) _ (by omega) (by omega), hx e (32 + (e - 32)) _ (by omega) (by omega), mul_neg, ← sub_eq_add_neg]
        rfl
      · rw [if_neg (by omega), dif_neg h1, dif_neg (by omega), dif_neg (by omega), dif_pos (by omega), dif_neg h1, dif_neg (by omega), dif_neg (by omega), dif_pos (by omega),
          dif_neg h2, dif_neg (by omega),
          show Scalar.select (0#1) (x ⟨(e + 128 - 112) % 128, by omega⟩) (x ⟨(e + 128 - 16) % 128, by omega⟩) = x ⟨(e + 128 - 16) % 128, by omega⟩ from rfl,
          hx ((e + 128 - 16) % 128) (32 + (e - 32 - 16)) _ (by omega) (by omega), hx e (32 + (16 + (e - 32 - 16))) _ (by omega) (by omega), add_comm]
        simp only [show e - 16 - 16 - 16 = e - 32 - 16 by omega]

/-- On the last 64 lanes the kernel's rotation does nothing. -/
theorem ropeLane_high (ar ac : Fin 16 → EReal) (x : Fin 128 → EReal) (e : Fin 128) (he : 64 ≤ e.val) :
    ropeLane x (cosT ar ac) (sinT ar ac) e = x e := by
  unfold ropeLane cosT sinT table
  rw [if_neg (by omega), if_neg (by omega), mul_one, mul_zero, add_zero]

/-- Two rows of 128 and 64 lanes side by side, the reference's query or key row. -/
def beside192 (a : Fin 128 → EReal) (b : Fin 64 → EReal) (e : Fin 192) : EReal :=
  if h : e.val < 128 then a ⟨e.val, h⟩ else b ⟨e.val - 128, by omega⟩

/-- A sum over 256 lanes of which the last 64 terms vanish is the sum over the first 192. -/
theorem sum_drop (f : Fin 256 → EReal) (g : Fin 192 → EReal) (h1 : ∀ e : Fin 192, f ⟨e.val, by omega⟩ = g e)
    (h2 : ∀ e : Fin 64, f ⟨192 + e.val, by omega⟩ = 0) : ∑ e, f e = ∑ e, g e := by
  show ∑ e : Fin (192 + 64), f e = _
  rw [Fin.sum_univ_add, Finset.sum_eq_zero (f := fun i : Fin 64 => f (Fin.natAdd 192 i)) (fun e _ => h2 e), add_zero]
  exact Finset.sum_congr rfl fun e _ => h1 e

/-- The kernel's product of a query row and a key row of 256 lanes is the reference's of 192, when on the first 64 of its
    last 128 lanes each row is the reference's and on the rest the key row is zero. -/
theorem dot_eq (qn qp kn kp : Fin 128 → EReal) (q' k' : Fin 64 → EReal) (hq : ∀ e : Fin 64, qp ⟨e.val, by omega⟩ = q' e)
    (hk : ∀ e : Fin 64, kp ⟨e.val, by omega⟩ = k' e) (hz : ∀ e : Fin 128, 64 ≤ e.val → kp e = 0) :
    ∑ e, beside qn qp e * beside kn kp e = ∑ e, beside192 qn q' e * beside192 kn k' e := by
  refine sum_drop _ _ (fun e => ?_) (fun e => ?_)
  · unfold beside beside192
    by_cases h : e.val < 128
    · rw [dif_pos h, dif_pos h, dif_pos h, dif_pos h]
    · rw [dif_neg h, dif_neg h, dif_neg h, dif_neg h]
      rw [hq ⟨e.val - 128, by omega⟩, hk ⟨e.val - 128, by omega⟩]
  · unfold beside
    rw [dif_neg (by show ¬192 + e.val < 128; omega), dif_neg (by show ¬192 + e.val < 128; omega),
      hz _ (by show 64 ≤ 192 + e.val - 128; omega), mul_zero]

end Cert.Proof

end
-- ==== Proof.Host.lean ====
/- What the kernel's host lines leave in the two rotation tables and in the two padded arrays. -/
module

public import proofs.«01_k».proof.Proof.Rope
public import proofs.«01_k».proof.Proof.Gen.ReferenceIdeal.Read
public import Idealize.ShloMosaic.Lib.StableHlo.ReadAt

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pointwise
open Cert.ReferenceIdeal.Read (val_main_v24 val_main_v48)

variable (m : (ℓ : Loc nD τ sig) → Buf (Elt Ideal) ℓ)

/-- The angle of row frequency `i` at position `k`. -/
def rowAng (k : Fin 1024) (i : Fin 16) : EReal := val_main_v24 (F := Ideal) (ix2 k i)

/-- The angle of column frequency `i` at position `k`. -/
def colAng (k : Fin 1024) (i : Fin 16) : EReal := val_main_v48 (F := Ideal) (ix2 k i)

set_option maxHeartbeats 2000000 in
/-- The table main_v34 is the cosine table of the reference's angles. -/
theorem cos_table (c : Dev nD) (k : Fin 1024) (e : Fin 128) :
    V m c main_v34 (ix2 k e) = cosT (rowAng k) (colAng k) e := by
  unfold V cosT table rowAng colAng
  after_reads_at
  by_cases h : e.val < 64
  swap
  · rw [dif_neg h, if_neg h]
  rw [dif_pos h, if_pos h]
  by_cases h1 : e.val < 16
  · rw [dif_pos h1, dif_pos h1]; after_reads_at; rfl
  rw [dif_neg h1, dif_neg h1]
  by_cases h2 : e.val - 16 < 16
  · rw [dif_pos h2, dif_pos h2]; after_reads_at; rfl
  rw [dif_neg h2, dif_neg h2]
  by_cases h3 : e.val - 16 - 16 < 16
  · rw [dif_pos h3, dif_pos h3]; after_reads_at; rfl
  rw [dif_neg h3, dif_neg h3, dif_pos (by omega)]; after_reads_at; rfl

set_option maxHeartbeats 2000000 in
/-- The table main_v36 is the signed sine table of the reference's angles. -/
theorem sin_table (c : Dev nD) (k : Fin 1024) (e : Fin 128) :
    V m c main_v36 (ix2 k e) = sinT (rowAng k) (colAng k) e := by
  unfold V sinT table rowAng colAng
  after_reads_at
  by_cases h : e.val < 64
  swap
  · rw [dif_neg h, if_neg h]
  rw [dif_pos h, if_pos h]
  by_cases h1 : e.val < 16
  · rw [dif_pos h1, dif_pos h1]; after_reads_at; rfl
  rw [dif_neg h1, dif_neg h1]
  by_cases h2 : e.val - 16 < 16
  · rw [dif_pos h2, dif_pos h2]; after_reads_at; rfl
  rw [dif_neg h2, dif_neg h2]
  by_cases h3 : e.val - 16 - 16 < 16
  · rw [dif_pos h3, dif_pos h3]; after_reads_at; rfl
  rw [dif_neg h3, dif_neg h3, dif_pos (by omega)]; after_reads_at; rfl

/-- The integer zero as a float is zero. -/
theorem sitofp_zero : FloatOps.sitofp (F := Ideal) FTy.f32 0#32 = (0 : EReal) := by
  show (((0#32 : BitVec 32).toInt : ℝ) : EReal) = 0
  simp

/-- A row of 64 lanes and 64 zeros after it. -/
def padded (x : Fin 64 → EReal) (e : Fin 128) : EReal := if h : e.val < 64 then x ⟨e.val, h⟩ else 0

/-- The padded latent position lanes main_v37. -/
theorem kpe_padded (c : Dev nD) (b : Fin 12) (k : Fin 1024) (e : Fin 128) :
    V m c main_v37 (ix3 b k e) = padded (fun i => m ((c : Thread nD τ).loc main_arg3) (ix3 b k i)) e := by
  unfold V padded
  after_reads_at
  rw [show FloatOps.sitofp (F := Ideal) FTy.f32 0#32 = 0 from sitofp_zero]

/-- The padded context position lanes main_v38. -/
theorem kpe_ctx_padded (c : Dev nD) (b : Fin 4) (k : Fin 256) (e : Fin 128) :
    V m c main_v38 (ix3 b k e) = padded (fun i => m ((c : Thread nD τ).loc main_arg4) (ix3 b k i)) e := by
  unfold V padded
  after_reads_at
  rw [show FloatOps.sitofp (F := Ideal) FTy.f32 0#32 = 0 from sitofp_zero]

end Cert.Proof

end
-- ==== Proof.Array.lean ====
/- The kernel's result array, index by index: the thirty-two blocks cover it, and each is the attention of its own rows of
   the arrays that the windows read. -/
module

public import proofs.«01_k».proof.Proof.Host
public import proofs.«01_k».proof.Proof.Gen.KernelIdeal.Value

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- The kernel's element for batch row `b`, head `h`, position `l` and value lane `d`, from the five arguments. -/
def headOut (A0 A1 : Vec Ideal S12x1024x4096 .bf16) (A2 : Vec Ideal S4x256x4096 .bf16) (A3 : Vec Ideal S12x1024x64 .f32)
    (A4 : Vec Ideal S4x256x64 .f32) (b : Fin 4) (l : Fin 1024) (h : Fin 16) (d : Fin 128) : EReal :=
  attend
    (beside (fun e => A0 (ix3 ⟨8 + b.val, by omega⟩ l ⟨h.val * 256 + e.val, by omega⟩))
      (ropeLane (fun e => A0 (ix3 ⟨8 + b.val, by omega⟩ l ⟨h.val * 256 + (128 + e.val), by omega⟩))
        (cosT (rowAng l) (colAng l)) (sinT (rowAng l) (colAng l))))
    (fun k => beside (fun e => A1 (ix3 ⟨8 + b.val, by omega⟩ k ⟨h.val * 256 + e.val, by omega⟩))
      (ropeLane (padded fun i => A3 (ix3 ⟨8 + b.val, by omega⟩ k i))
        (cosT (rowAng k) (colAng k)) (sinT (rowAng k) (colAng k))))
    (fun k => A1 (ix3 ⟨8 + b.val, by omega⟩ k ⟨h.val * 256 + (128 + d.val), by omega⟩))
    (fun k => beside (fun e => A2 (ix3 b k ⟨h.val * 256 + e.val, by omega⟩)) (padded fun i => A4 (ix3 b k i)))
    (fun k => A2 (ix3 b k ⟨h.val * 256 + (128 + d.val), by omega⟩))

variable (m : (ℓ : Loc nD τ sig) → Buf (Elt Ideal) ℓ)

/-- The result array as one function of the arguments. -/
def result (c : Dev nD) : Buf (Elt Ideal) ((c : Thread nD τ).loc main_v39) := fun i : S4x1024x2048.Idx =>
  headOut (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)
    ⟨(i 2).val / 128, by have : (i 2).val < 2048 := (i 2).isLt; omega⟩ ⟨(i 2).val % 128, Nat.mod_lt _ (by decide)⟩

/-- Where each window's block lies at point `t`: batch row `t / 8`, pair of heads `t % 8`. -/
theorem idx_facts : ∀ t : Fin cfg0.N,
    (win0_0.index t 0 = 8 + t.val / 8 ∧ win0_0.index t 1 = 0 ∧ win0_0.index t 2 = t.val % 8)
    ∧ (win0_1.index t 0 = 8 + t.val / 8 ∧ win0_1.index t 1 = 0 ∧ win0_1.index t 2 = t.val % 8)
    ∧ (win0_2.index t 0 = 8 + t.val / 8 ∧ win0_2.index t 1 = 0 ∧ win0_2.index t 2 = 0)
    ∧ (win0_3.index t 0 = t.val / 8 ∧ win0_3.index t 1 = 0 ∧ win0_3.index t 2 = t.val % 8)
    ∧ (win0_4.index t 0 = t.val / 8 ∧ win0_4.index t 1 = 0 ∧ win0_4.index t 2 = 0)
    ∧ (win0_5.index t 0 = 0 ∧ win0_5.index t 1 = 0)
    ∧ (win0_6.index t 0 = 0 ∧ win0_6.index t 1 = 0)
    ∧ (win0_7.index t 0 = t.val / 8 ∧ win0_7.index t 1 = 0 ∧ win0_7.index t 2 = t.val % 8) := by
  decide +kernel

/-- The grid has thirty-two points. -/
theorem lt_N (t : Fin cfg0.N) : t.val < 32 := t.isLt

/-- The query block at point `t`. -/
theorem read0 (c : Dev nD) (t : Fin cfg0.N) (l : Fin 1024) (e : Fin 512) : iblk m c 0 t (ix3 0 l e)
    = m ((c : Thread nD τ).loc main_arg0) (ix3 ⟨8 + t.val / 8, by have := lt_N t; omega⟩ l ⟨t.val % 8 * 512 + e.val, by omega⟩) := by
  obtain ⟨⟨h0, h1, h2⟩, -⟩ := idx_facts t
  unfold iblk
  rw [View.read_apply]
  show V m c main_arg0 _ = _
  rw [V_main_arg0]
  congr 1
  funext a
  apply Fin.ext
  match a with
  | ⟨0, _⟩ => show win0_0.index t 0 * 1 + 1 * 0 = 8 + t.val / 8; rw [h0]; omega
  | ⟨1, _⟩ => show win0_0.index t 1 * 1024 + 1 * l.val = l.val; rw [h1]; omega
  | ⟨2, _⟩ => show win0_0.index t 2 * 512 + 1 * e.val = t.val % 8 * 512 + e.val; rw [h2]; omega

/-- The latent key and value block at point `t`. -/
theorem read1 (c : Dev nD) (t : Fin cfg0.N) (l : Fin 1024) (e : Fin 512) : iblk m c 1 t (ix3 0 l e)
    = m ((c : Thread nD τ).loc main_arg1) (ix3 ⟨8 + t.val / 8, by have := lt_N t; omega⟩ l ⟨t.val % 8 * 512 + e.val, by omega⟩) := by
  obtain ⟨-, ⟨h0, h1, h2⟩, -⟩ := idx_facts t
  unfold iblk
  rw [View.read_apply]
  show V m c main_arg1 _ = _
  rw [V_main_arg1]
  congr 1
  funext a
  apply Fin.ext
  match a with
  | ⟨0, _⟩ => show win0_1.index t 0 * 1 + 1 * 0 = 8 + t.val / 8; rw [h0]; omega
  | ⟨1, _⟩ => show win0_1.index t 1 * 1024 + 1 * l.val = l.val; rw [h1]; omega
  | ⟨2, _⟩ => show win0_1.index t 2 * 512 + 1 * e.val = t.val % 8 * 512 + e.val; rw [h2]; omega

/-- The context key and value block at point `t`. -/
theorem read3 (c : Dev nD) (t : Fin cfg0.N) (l : Fin 256) (e : Fin 512) : iblk m c 3 t (ix3 0 l e)
    = m ((c : Thread nD τ).loc main_arg2) (ix3 ⟨t.val / 8, by have := lt_N t; omega⟩ l ⟨t.val % 8 * 512 + e.val, by omega⟩) := by
  obtain ⟨-, -, -, ⟨h0, h1, h2⟩, -⟩ := idx_facts t
  unfold iblk
  rw [View.read_apply]
  show V m c main_arg2 _ = _
  rw [V_main_arg2]
  congr 1
  funext a
  apply Fin.ext
  match a with
  | ⟨0, _⟩ => show win0_3.index t 0 * 1 + 1 * 0 = t.val / 8; rw [h0]; omega
  | ⟨1, _⟩ => show win0_3.index t 1 * 256 + 1 * l.val = l.val; rw [h1]; omega
  | ⟨2, _⟩ => show win0_3.index t 2 * 512 + 1 * e.val = t.val % 8 * 512 + e.val; rw [h2]; omega

/-- The latent position lanes at point `t`. -/
theorem read2 (c : Dev nD) (t : Fin cfg0.N) (l : Fin 1024) (e : Fin 128) : iblk m c 2 t (ix3 0 l e)
    = padded (fun i => m ((c : Thread nD τ).loc main_arg3) (ix3 ⟨8 + t.val / 8, by have := lt_N t; omega⟩ l i)) e := by
  obtain ⟨-, -, ⟨h0, h1, h2⟩, -⟩ := idx_facts t
  rw [← kpe_padded]
  unfold iblk
  rw [View.read_apply]
  show V m c main_v37 _ = _
  congr 1
  funext a
  apply Fin.ext
  match a with
  | ⟨0, _⟩ => show win0_2.index t 0 * 1 + 1 * 0 = 8 + t.val / 8; rw [h0]; omega
  | ⟨1, _⟩ => show win0_2.index t 1 * 1024 + 1 * l.val = l.val; rw [h1]; omega
  | ⟨2, _⟩ => show win0_2.index t 2 * 128 + 1 * e.val = e.val; rw [h2]; omega

/-- The context position lanes at point `t`. -/
theorem read4 (c : Dev nD) (t : Fin cfg0.N) (l : Fin 256) (e : Fin 128) : iblk m c 4 t (ix3 0 l e)
    = padded (fun i => m ((c : Thread nD τ).loc main_arg4) (ix3 ⟨t.val / 8, by have := lt_N t; omega⟩ l i)) e := by
  obtain ⟨-, -, -, -, ⟨h0, h1, h2⟩, -⟩ := idx_facts t
  rw [← kpe_ctx_padded]
  unfold iblk
  rw [View.read_apply]
  show V m c main_v38 _ = _
  congr 1
  funext a
  apply Fin.ext
  match a with
  | ⟨0, _⟩ => show win0_4.index t 0 * 1 + 1 * 0 = t.val / 8; rw [h0]; omega
  | ⟨1, _⟩ => show win0_4.index t 1 * 256 + 1 * l.val = l.val; rw [h1]; omega
  | ⟨2, _⟩ => show win0_4.index t 2 * 128 + 1 * e.val = e.val; rw [h2]; omega

/-- The cosine table at point `t`. -/
theorem read5 (c : Dev nD) (t : Fin cfg0.N) (l : Fin 1024) (e : Fin 128) :
    iblk m c 5 t (ix2 l e) = cosT (rowAng l) (colAng l) e := by
  obtain ⟨-, -, -, -, -, ⟨h0, h1⟩, -⟩ := idx_facts t
  rw [← cos_table m c]
  unfold iblk
  rw [View.read_apply]
  show V m c main_v34 _ = _
  congr 1
  funext a
  apply Fin.ext
  match a with
  | ⟨0, _⟩ => show win0_5.index t 0 * 1024 + 1 * l.val = l.val; rw [h0]; omega
  | ⟨1, _⟩ => show win0_5.index t 1 * 128 + 1 * e.val = e.val; rw [h1]; omega

/-- The sine table at point `t`. -/
theorem read6 (c : Dev nD) (t : Fin cfg0.N) (l : Fin 1024) (e : Fin 128) :
    iblk m c 6 t (ix2 l e) = sinT (rowAng l) (colAng l) e := by
  obtain ⟨-, -, -, -, -, -, ⟨h0, h1⟩, -⟩ := idx_facts t
  rw [← sin_table m c]
  unfold iblk
  rw [View.read_apply]
  show V m c main_v36 _ = _
  congr 1
  funext a
  apply Fin.ext
  match a with
  | ⟨0, _⟩ => show win0_6.index t 0 * 1024 + 1 * l.val = l.val; rw [h0]; omega
  | ⟨1, _⟩ => show win0_6.index t 1 * 128 + 1 * e.val = e.val; rw [h1]; omega

/-- The block that point `t` computes, element by element: head `2 (t % 8) + h` of batch row `t / 8`. -/
theorem block_eq (c : Dev nD) (t : Fin cfg0.N) (l : Fin 1024) (h : Fin 2) (d : Fin 128) :
    blockAt (iblk m c 0 t) (iblk m c 1 t) (iblk m c 2 t) (iblk m c 3 t) (iblk m c 4 t) (iblk m c 5 t) (iblk m c 6 t) l h d
      = headOut (m ((c : Thread nD τ).loc main_arg0)) (m ((c : Thread nD τ).loc main_arg1))
          (m ((c : Thread nD τ).loc main_arg2)) (m ((c : Thread nD τ).loc main_arg3)) (m ((c : Thread nD τ).loc main_arg4))
          ⟨t.val / 8, by have := lt_N t; omega⟩ l ⟨t.val % 8 * 2 + h.val, by omega⟩ d := by
  unfold blockAt headOut
  simp only [read0, read1, read2, read3, read4, read5, read6, col, lo, hi]
  have hc : ∀ x : ℕ, t.val % 8 * 512 + (h.val * 256 + x) = (t.val % 8 * 2 + h.val) * 256 + x := fun x => by ring
  simp only [hc]

/-- What point `t` writes back is its block of `result`. -/
theorem flushed_eq (c : Dev nD) (t : Fin cfg0.N) :
    (dats m 0 c).flushed 7 t = ((cfg0.win 7).blk t).view.read (Elt Ideal) (result m c) := by
  obtain ⟨-, -, -, -, -, -, -, h0, h1, h2⟩ := idx_facts t
  rw [Cert.KernelIdeal.Value.flushed7]
  funext j
  rw [View.read_apply]
  obtain ⟨j0, l, e, rfl⟩ : ∃ (j0 : Fin 1) (l : Fin 1024) (e : Fin 256), j = (ix3 j0 l e : S1x1024x256.Idx) := ⟨j 0, j 1, j 2, ValueIdx.eq_ix3 j⟩
  refine (out_apply (iblk m c 0 t) (iblk m c 1 t) (iblk m c 2 t) (iblk m c 3 t) (iblk m c 4 t) (iblk m c 5 t) (iblk m c 6 t) (ix3 j0 l e)).trans ?_
  refine (block_eq m c t l ⟨e.val / 128, by omega⟩ ⟨e.val % 128, by omega⟩).trans ?_
  show _ = result m c _
  unfold result
  congr 1
  · exact Fin.ext (show t.val / 8 = win0_7.index t 0 * 1 + 1 * j0.val by rw [h0]; omega)
  · exact Fin.ext (show l.val = win0_7.index t 1 * 1024 + 1 * l.val by rw [h1]; omega)
  · exact Fin.ext (show t.val % 8 * 2 + e.val / 128 = (win0_7.index t 2 * 256 + 1 * e.val) / 128 by rw [h2]; omega)
  · exact Fin.ext (show e.val % 128 = (win0_7.index t 2 * 256 + 1 * e.val) % 128 by rw [h2]; omega)

/-- The point whose block holds index `i`. -/
theorem covered (i : S4x1024x2048.Idx) : ∃ t : Fin cfg0.N, (cfg0.win 7).flush t = true ∧ i ∈ ((cfg0.win 7).blk t).view.set := by
  have b0 : (i 0 : Nat) < 4 := (i 0).isLt
  have b1 : (i 1 : Nat) < 1024 := (i 1).isLt
  have b2 : (i 2 : Nat) < 2048 := (i 2).isLt
  let t : Fin cfg0.N := ⟨(i 0 : Nat) * 8 + (i 2 : Nat) / 256, by show _ < 32; omega⟩
  have ht : t.val = (i 0 : Nat) * 8 + (i 2 : Nat) / 256 := rfl
  obtain ⟨-, -, -, -, -, -, -, h0, h1, h2⟩ := idx_facts t
  refine ⟨t, flush0_7 t, ?_⟩
  show i ∈ ((View.whole main_v39).slice (win0_7.rect t)).set
  rw [View.set_slice_whole, Rect.mem_set_unit]
  intro a
  match a with
  | ⟨0, _⟩ => show win0_7.index t 0 * 1 ≤ (i 0 : Nat) ∧ (i 0 : Nat) < win0_7.index t 0 * 1 + 1; rw [h0]; omega
  | ⟨1, _⟩ => show win0_7.index t 1 * 1024 ≤ (i 1 : Nat) ∧ (i 1 : Nat) < win0_7.index t 1 * 1024 + 1024; rw [h1]; omega
  | ⟨2, _⟩ => show win0_7.index t 2 * 256 ≤ (i 2 : Nat) ∧ (i 2 : Nat) < win0_7.index t 2 * 256 + 256; rw [h2]; omega

/-- The result array ends holding `result`. -/
theorem final_eq (c : Dev nD) : (dats m 0 c).arrAt 7 cfg0.N = result m c :=
  (dats m 0 c).arrAt_eq_of_cover 7 (result m c) (fun t _ => flushed_eq m c t) covered

end Cert.Proof

end
-- ==== Proof.Ref.lean ====
/- The reference's result, index by index: its query, key and value rows, its scores, and the softmax over all 1280
   positions. -/
module

public import proofs.«01_k».proof.Proof.Host

@[expose] public section

set_option maxRecDepth 16384

noncomputable section

namespace Cert.Proof

open Idealize.ShloMosaic Idealize.ShloMosaic.TcCoe Idealize.SL.Sem
open Cert.ReferenceIdeal Cert.ReferenceIdeal.Read Idealize.ShloMosaic.Pointwise

variable (A0 A1 : (⟨S12x1024x4096, .bf16⟩ : BufTy).Contents (Elt Ideal)) (A2 : (⟨S4x256x4096, .bf16⟩ : BufTy).Contents (Elt Ideal))
  (A3 : (⟨S12x1024x64, .f32⟩ : BufTy).Contents (Elt Ideal)) (A4 : (⟨S4x256x64, .f32⟩ : BufTy).Contents (Elt Ideal))

/-- A query row: 128 lanes as they are, 64 rotated. -/
def qRow (b : Fin 4) (h : Fin 16) (l : Fin 1024) : Fin 192 → EReal :=
  beside192 (fun e => A0 (ix3 ⟨8 + b.val, by omega⟩ l ⟨h.val * 256 + e.val, by omega⟩))
    (rope64 (rowAng l) (colAng l) fun i => A0 (ix3 ⟨8 + b.val, by omega⟩ l ⟨h.val * 256 + (128 + i.val), by omega⟩))

/-- A latent key row: 128 lanes of its own, 64 shared by the heads and rotated. -/
def kRow (b : Fin 4) (h : Fin 16) (k : Fin 1024) : Fin 192 → EReal :=
  beside192 (fun e => A1 (ix3 ⟨8 + b.val, by omega⟩ k ⟨h.val * 256 + e.val, by omega⟩))
    (rope64 (rowAng k) (colAng k) fun i => A3 (ix3 ⟨8 + b.val, by omega⟩ k i))

/-- A context key row: 128 lanes of its own, 64 shared by the heads. -/
def cRow (b : Fin 4) (h : Fin 16) (k : Fin 256) : Fin 192 → EReal :=
  beside192 (fun e => A2 (ix3 b k ⟨h.val * 256 + e.val, by omega⟩)) (fun i => A4 (ix3 b k i))

/-- The reference's query rows. -/
theorem ref_q (b : Fin 4) (h : Fin 16) (l : Fin 1024) (e : Fin 192) :
    val_main_v69 A0 (ix4 b h l e) = qRow A0 b h l e := by
  unfold qRow beside192 rope64 rowAng colAng
  pointwise [val_main_v69, val_main_v5, val_main_v6, val_main_v68, val_main_v43, val_main_v67, val_main_v35, val_main_v42, val_main_v59, val_main_v66,
    val_main_v31, val_main_v34, val_main_v38, val_main_v41, val_main_v55, val_main_v58, val_main_v62, val_main_v65, val_main_v4, val_main_v3, val_main_v2, val_main_v1, val_main_v0,
    val_main_v18, val_main_v19, val_main_v27, val_main_v28, val_main_v29, val_main_v30, val_main_v25, val_main_v26, val_main_v32, val_main_v33,
    val_main_v36, val_main_v37, val_main_v39, val_main_v40, val_main_v49, val_main_v50, val_main_v51, val_main_v52, val_main_v53, val_main_v54,
    val_main_v56, val_main_v57, val_main_v60, val_main_v61, val_main_v63, val_main_v64]

/-- The reference's rotated latent position lanes. -/
theorem ref_kpe (b : Fin 4) (k : Fin 1024) (e : Fin 64) : val_main_v134 A3 (ix3 b k e)
    = rope64 (rowAng k) (colAng k) (fun i => A3 (ix3 ⟨8 + b.val, by omega⟩ k i)) e := by
  unfold rope64 rowAng colAng
  rw [show val_main_v24 (F := Ideal) = val_main_v90 from rfl, show val_main_v48 (F := Ideal) = val_main_v114 from rfl]
  pointwise [val_main_v134, val_main_v133, val_main_v132, val_main_v131, val_main_v130, val_main_v129, val_main_v128, val_main_v127, val_main_v126, val_main_v125,
    val_main_v124, val_main_v123, val_main_v122, val_main_v121, val_main_v120, val_main_v119, val_main_v118, val_main_v117, val_main_v116, val_main_v115,
    val_main_v109, val_main_v108, val_main_v107, val_main_v106, val_main_v105, val_main_v104, val_main_v103, val_main_v102, val_main_v101, val_main_v100,
    val_main_v99, val_main_v98, val_main_v97, val_main_v96, val_main_v95, val_main_v94, val_main_v93, val_main_v92, val_main_v91, val_main_v85, val_main_v84, val_main_v72]

/-- The reference's latent key rows. -/
theorem ref_k (b : Fin 4) (h : Fin 16) (k : Fin 1024) (e : Fin 192) :
    val_main_v141 A1 A3 (ix4 b h k e) = kRow A1 A3 b h k e := by
  unfold kRow beside192
  simp only [← ref_kpe]
  pointwise [val_main_v141, val_main_v140, val_main_v139, val_main_v137, val_main_v136, val_main_v135, val_main_v71, val_main_v70]

/-- The reference's context key rows. -/
theorem ref_c (b : Fin 4) (h : Fin 16) (k : Fin 256) (e : Fin 192) :
    val_main_v149 A2 A4 (ix4 b h k e) = cRow A2 A4 b h k e := by
  unfold cRow beside192
  pointwise [val_main_v149, val_main_v142, val_main_v143, val_main_v144, val_main_v145, val_main_v147, val_main_v148]

/-- The score of query `l` against position `k` of the 1280: the latent rows first, then the context rows. -/
def rScore (b : Fin 4) (h : Fin 16) (l : Fin 1024) (k : Fin 1280) : EReal :=
  (∑ e, qRow A0 b h l e * (if hk : k.val < 1024 then kRow A1 A3 b h ⟨k.val, hk⟩ e else cRow A2 A4 b h ⟨k.val - 1024, by omega⟩ e)) * scl

/-- The value at position `k` of the 1280. -/
def rVal (b : Fin 4) (h : Fin 16) (d : Fin 128) (k : Fin 1280) : EReal :=
  if hk : k.val < 1024 then A1 (ix3 ⟨8 + b.val, by omega⟩ ⟨k.val, hk⟩ ⟨h.val * 256 + (128 + d.val), by omega⟩)
  else A2 (ix3 b ⟨k.val - 1024, by omega⟩ ⟨h.val * 256 + (128 + d.val), by omega⟩)

/-- The reference's keys: latent, then context. -/
theorem ref_keys (b : Fin 4) (h : Fin 16) (k : Fin 1280) (e : Fin 192) : val_main_v150 A1 A2 A3 A4 (ix4 b h k e)
    = if hk : k.val < 1024 then kRow A1 A3 b h ⟨k.val, hk⟩ e else cRow A2 A4 b h ⟨k.val - 1024, by omega⟩ e := by
  simp only [← ref_k, ← ref_c]
  pointwise [val_main_v150]

/-- The reference's values: latent, then context. -/
theorem ref_vals (b : Fin 4) (h : Fin 16) (k : Fin 1280) (d : Fin 128) :
    val_main_v151 A1 A2 (ix4 b h k d) = rVal A1 A2 b h d k := by
  unfold rVal
  pointwise [val_main_v151, val_main_v138, val_main_v136, val_main_v135, val_main_v71, val_main_v70, val_main_v146, val_main_v144, val_main_v143, val_main_v142]

/-- The reference's scores. -/
theorem ref_score (b : Fin 4) (h : Fin 16) (l : Fin 1024) (k : Fin 1280) :
    val_main_v154 A0 A1 A2 A3 A4 (ix4 b h l k) = rScore A0 A1 A2 A3 A4 b h l k := by
  unfold rScore scl
  simp only [← ref_keys, ← ref_q]
  pointwise [val_main_v154, val_main_v153, val_main_v152, val_main_cst_6]

/-- The largest score of a row, which the reference subtracts. -/
def rTop (s : Fin 1280 → EReal) : EReal :=
  max (Ideal.ofBits .f32 0xFF800000#32) (Finset.univ.fold max (Ideal.ofBits .f32 0xFF800000#32) s)

/-- The host's maximum over the last axis, read at a row. -/
theorem reduce_max (y : FVec Ideal S4x16x1024x1280 .f32) (z : FVec Ideal S_ .f32) (b : Fin 4) (h : Fin 16) (l : Fin 1024) :
    Host.reduce FloatOps.maximumf y z Gen.reducesTo_S4x16x1024x1280_S4x16x1024_d3 Gen.h_S_ (ix3 b h l)
      = Finset.univ.fold max (z (Shape.Idx.first Gen.h_S_)) (fun k : Fin 1280 => y (ix4 b h l k)) := by
  rw [Host.reduce_eq_fold_single FloatOps.maximumf y z _ (by decide) _]
  refine congrArg (fun f : Fin 1280 → EReal => Finset.univ.fold max (z (Shape.Idx.first Gen.h_S_)) f) (funext fun k => ?_)
  exact congrArg y (funext fun a => Fin.ext (by match a with | ⟨0, _⟩ => rfl | ⟨1, _⟩ => rfl | ⟨2, _⟩ => rfl | ⟨3, _⟩ => rfl))

/-- The reference's row maxima. -/
theorem ref_top (b : Fin 4) (h : Fin 16) (l : Fin 1024) :
    val_main_v157 A0 A1 A2 A3 A4 (ix3 b h l) = rTop (rScore A0 A1 A2 A3 A4 b h l) := by
  rw [val_main_v157_apply, val_main_v156_apply, val_main_v155, reduce_max]
  simp only [ref_score]
  rfl

/-- The reference's exponentials. -/
theorem ref_exp (b : Fin 4) (h : Fin 16) (l : Fin 1024) (k : Fin 1280) : val_main_v161 A0 A1 A2 A3 A4 (ix4 b h l k)
    = Ideal.exp (rScore A0 A1 A2 A3 A4 b h l k - rTop (rScore A0 A1 A2 A3 A4 b h l)) := by
  rw [← ref_top, ← ref_score]
  pointwise [val_main_v161, val_main_v160, val_main_v159, val_main_v158]

/-- The reference's weights. -/
theorem ref_weight (b : Fin 4) (h : Fin 16) (l : Fin 1024) (k : Fin 1280) : val_main_v165 A0 A1 A2 A3 A4 (ix4 b h l k)
    = Ideal.div (val_main_v161 A0 A1 A2 A3 A4 (ix4 b h l k)) (∑ j, val_main_v161 A0 A1 A2 A3 A4 (ix4 b h l j)) := by
  pointwise [val_main_v165, val_main_v164, val_main_v163, val_main_v162, val_main_cst_9]

/-- The reference's result. -/
theorem ref_eq (b : Fin 4) (l : Fin 1024) (c : Fin 2048) : val_main_v169 A0 A1 A2 A3 A4 (ix3 b l c)
    = let h : Fin 16 := ⟨c.val / 128, by omega⟩
      let s := rScore A0 A1 A2 A3 A4 b h l
      ∑ k, Ideal.div (Ideal.exp (s k - rTop s)) (∑ j, Ideal.exp (s j - rTop s)) * rVal A1 A2 b h ⟨c.val % 128, by omega⟩ k := by
  simp only [← ref_exp, ← ref_weight, ← ref_vals]
  pointwise [val_main_v169, val_main_v168, val_main_v167, val_main_v166]

end Cert.Proof

end
-- ==== Proof.Equal.lean ====
/- The kernel's element is the reference's: on arguments that are real numbers every score and value is real, so the two
   softmaxes, which subtract different numbers and divide at different places, agree. -/
module

public import proofs.«01_k».proof.Proof.Array
public import proofs.«01_k».proof.Proof.Ref

@[expose] public section

set_option maxRecDepth 16384

noncomputable section

namespace Cert.Proof

open Idealize.ShloMosaic Idealize.ShloMosaic.TcCoe Idealize.SL.Sem
open Cert.ReferenceIdeal Cert.ReferenceIdeal.Read Idealize.ShloMosaic.Pointwise Cert.Proof.Soft

/-- The word of minus infinity is the bottom. -/
theorem neg_inf : Ideal.ofBits .f32 0xFF800000#32 = ⊥ := by simp [Ideal.ofBits, Ideal.ieee]

/-- The scale of the scores is real. -/
theorem scl_real : IsReal scl := by
  unfold scl
  simp only [Ideal.ofBits, Ideal.ieee]
  exact ⟨_, rfl⟩

/-- A cosine of a real is real. -/
theorem isReal_cos {x : EReal} (h : IsReal x) : IsReal (Ideal.cos x) := by
  obtain ⟨r, rfl⟩ := h; exact ⟨_, Ideal.cos_coe r⟩

/-- A sine of a real is real. -/
theorem isReal_sin {x : EReal} (h : IsReal x) : IsReal (Ideal.sin x) := by
  obtain ⟨r, rfl⟩ := h; exact ⟨_, Ideal.sin_coe r⟩

/-- The frequencies are real. -/
theorem freq_real (i : Fin 16) : IsReal (val_main_v17 (F := Ideal) (ix1 i)) := by
  pointwise [val_main_v17, val_main_v16, val_main_v15, val_main_v14, val_main_v13, val_main_v12, val_main_v11]
  have e1 : val_main_cst_1 (F := Ideal) ix0 = ((10000 : ℝ) : EReal) := by
    show Ideal.ofBits .f32 0x461C4000#32 = _
    simp [Ideal.ofBits, Ideal.ieee]
    rw [← EReal.coe_mul]
    norm_num
  have e2 : val_main_cst (F := Ideal) ix0 = ((16 : ℝ) : EReal) := by
    show Ideal.ofBits .f32 0x41800000#32 = _
    simp [Ideal.ofBits, Ideal.ieee]
    rw [← EReal.coe_mul]
    norm_num
  have e3 : -FloatOps.sitofp (F := Ideal) FTy.f32 (BitVec.ofNat 32 i.val) = ((-((BitVec.ofNat 32 i.val).toInt : ℝ) : ℝ) : EReal) := rfl
  rw [e1, e2, e3, Ideal.div_coe (by norm_num : (16 : ℝ) ≠ 0), ← EReal.coe_mul]
  exact ⟨_, rfl⟩

/-- The row angles are real. -/
theorem rowAng_real (k : Fin 1024) (i : Fin 16) : IsReal (rowAng k i) := by
  unfold rowAng
  have h := freq_real i
  have e : val_main_v24 (F := Ideal) (ix2 k i) = val_main_v9 (F := Ideal) (ix1 k) * val_main_v17 (F := Ideal) (ix1 i) := by
    pointwise [val_main_v24, val_main_v22, val_main_v23, val_main_v20, val_main_v21]
  rw [e]
  refine IsReal.mul ?_ h
  pointwise [val_main_v9]
  exact ⟨_, rfl⟩

/-- The column angles are real. -/
theorem colAng_real (k : Fin 1024) (i : Fin 16) : IsReal (colAng k i) := by
  unfold colAng
  have h := freq_real i
  have e : val_main_v48 (F := Ideal) (ix2 k i) = val_main_v11 (F := Ideal) (ix1 k) * val_main_v17 (F := Ideal) (ix1 i) := by
    pointwise [val_main_v48, val_main_v46, val_main_v47, val_main_v44, val_main_v45]
  rw [e]
  refine IsReal.mul ?_ h
  pointwise [val_main_v11]
  exact ⟨_, rfl⟩

/-- A rotated row of reals, by real angles, is real. -/
theorem rope_real {ar ac : Fin 16 → EReal} {x : Fin 64 → EReal} (hr : ∀ i, IsReal (ar i)) (hc : ∀ i, IsReal (ac i))
    (hx : ∀ i, IsReal (x i)) (e : Fin 64) : IsReal (rope64 ar ac x e) := by
  unfold rope64
  split_ifs
  · exact ((hx _).mul (isReal_cos (hr _))).sub ((hx _).mul (isReal_sin (hr _)))
  · exact ((hx _).mul (isReal_sin (hr _))).add ((hx _).mul (isReal_cos (hr _)))
  · exact ((hx _).mul (isReal_cos (hc _))).sub ((hx _).mul (isReal_sin (hc _)))
  · exact ((hx _).mul (isReal_sin (hc _))).add ((hx _).mul (isReal_cos (hc _)))

/-- Two rows of reals side by side. -/
theorem beside192_real {a : Fin 128 → EReal} {b : Fin 64 → EReal} (ha : ∀ i, IsReal (a i)) (hb : ∀ i, IsReal (b i))
    (e : Fin 192) : IsReal (beside192 a b e) := by
  unfold beside192
  split
  · exact ha _
  · exact hb _

variable {A0 A1 : (⟨S12x1024x4096, .bf16⟩ : BufTy).Contents (Elt Ideal)} {A2 : (⟨S4x256x4096, .bf16⟩ : BufTy).Contents (Elt Ideal)}
  {A3 : (⟨S12x1024x64, .f32⟩ : BufTy).Contents (Elt Ideal)} {A4 : (⟨S4x256x64, .f32⟩ : BufTy).Contents (Elt Ideal)}

/-- Every score of real arguments is real. -/
theorem score_real (h0 : ∀ i, IsReal (A0 i)) (h1 : ∀ i, IsReal (A1 i)) (h2 : ∀ i, IsReal (A2 i)) (h3 : ∀ i, IsReal (A3 i))
    (h4 : ∀ i, IsReal (A4 i)) (b : Fin 4) (h : Fin 16) (l : Fin 1024) (k : Fin 1280) : IsReal (rScore A0 A1 A2 A3 A4 b h l k) := by
  unfold rScore
  refine (isReal_sum _ _ fun e => IsReal.mul ?_ ?_).mul scl_real
  · exact beside192_real (fun _ => h0 _) (rope_real (rowAng_real l) (colAng_real l) fun _ => h0 _) e
  · split
    · exact beside192_real (fun _ => h1 _) (rope_real (rowAng_real _) (colAng_real _) fun _ => h3 _) e
    · exact beside192_real (fun _ => h2 _) (fun _ => h4 _) e

/-- Every value of real arguments is real. -/
theorem val_real (h1 : ∀ i, IsReal (A1 i)) (h2 : ∀ i, IsReal (A2 i)) (b : Fin 4) (h : Fin 16) (d : Fin 128) (k : Fin 1280) :
    IsReal (rVal A1 A2 b h d k) := by
  unfold rVal
  split
  · exact h1 _
  · exact h2 _

/-- The greatest of two families of reals is real. -/
theorem top_real {s1 : Fin 1024 → EReal} {s2 : Fin 256 → EReal} (h1 : ∀ k, IsReal (s1 k)) (h2 : ∀ k, IsReal (s2 k)) :
    IsReal (top s1 s2) := by
  unfold top
  rw [neg_inf]
  exact (isReal_foldMax ⊥ bot_lt_top _ h1).max (isReal_foldMax ⊥ bot_lt_top _ h2)

/-- The number the reference subtracts is real. -/
theorem rTop_real {s : Fin 1280 → EReal} (h : ∀ k, IsReal (s k)) : IsReal (rTop s) := by
  unfold rTop
  rw [neg_inf, max_eq_right bot_le]
  exact isReal_foldMax ⊥ bot_lt_top _ h

/-- The kernel's product of a query row with a latent key row. -/
theorem dot_latent (b : Fin 4) (h : Fin 16) (l k : Fin 1024) :
    ∑ e, beside (fun e => A0 (ix3 ⟨8 + b.val, by omega⟩ l ⟨h.val * 256 + e.val, by omega⟩))
      (ropeLane (fun e => A0 (ix3 ⟨8 + b.val, by omega⟩ l ⟨h.val * 256 + (128 + e.val), by omega⟩))
        (cosT (rowAng l) (colAng l)) (sinT (rowAng l) (colAng l))) e
      * beside (fun e => A1 (ix3 ⟨8 + b.val, by omega⟩ k ⟨h.val * 256 + e.val, by omega⟩))
      (ropeLane (padded fun i => A3 (ix3 ⟨8 + b.val, by omega⟩ k i))
        (cosT (rowAng k) (colAng k)) (sinT (rowAng k) (colAng k))) e
      = ∑ e, qRow A0 b h l e * kRow A1 A3 b h k e := by
  refine dot_eq _ _ _ _ _ _ (fun e => ropeLane_low _ _ _ e) (fun e => ?_) (fun e he => ?_)
  · rw [ropeLane_low]
    congr 1
    funext i
    exact dif_pos i.isLt
  · rw [ropeLane_high _ _ _ e he]
    exact dif_neg (by omega)

/-- The kernel's product of a query row with a context key row. -/
theorem dot_context (b : Fin 4) (h : Fin 16) (l : Fin 1024) (k : Fin 256) :
    ∑ e, beside (fun e => A0 (ix3 ⟨8 + b.val, by omega⟩ l ⟨h.val * 256 + e.val, by omega⟩))
      (ropeLane (fun e => A0 (ix3 ⟨8 + b.val, by omega⟩ l ⟨h.val * 256 + (128 + e.val), by omega⟩))
        (cosT (rowAng l) (colAng l)) (sinT (rowAng l) (colAng l))) e
      * beside (fun e => A2 (ix3 b k ⟨h.val * 256 + e.val, by omega⟩)) (padded fun i => A4 (ix3 b k i)) e
      = ∑ e, qRow A0 b h l e * cRow A2 A4 b h k e := by
  refine dot_eq _ _ _ _ _ _ (fun e => ropeLane_low _ _ _ e) (fun e => ?_) (fun e he => ?_)
  · exact dif_pos e.isLt
  · exact dif_neg (by omega)

/-- The kernel's element is the reference's softmax weighted sum over all 1280 positions. -/
theorem headOut_eq (h0 : ∀ i, IsReal (A0 i)) (h1 : ∀ i, IsReal (A1 i)) (h2 : ∀ i, IsReal (A2 i)) (h3 : ∀ i, IsReal (A3 i))
    (h4 : ∀ i, IsReal (A4 i)) (b : Fin 4) (l : Fin 1024) (h : Fin 16) (d : Fin 128) :
    headOut A0 A1 A2 A3 A4 b l h d
      = ∑ k, Ideal.div (Ideal.exp (rScore A0 A1 A2 A3 A4 b h l k - rTop (rScore A0 A1 A2 A3 A4 b h l)))
          (∑ j, Ideal.exp (rScore A0 A1 A2 A3 A4 b h l j - rTop (rScore A0 A1 A2 A3 A4 b h l))) * rVal A1 A2 b h d k := by
  unfold headOut attend
  simp only [dot_latent, dot_context]
  have hs := score_real h0 h1 h2 h3 h4 b h l
  have hv := val_real h1 h2 b h d
  have e1 : ∀ k : Fin 1024, (∑ e, qRow A0 b h l e * kRow A1 A3 b h k e) * scl = rScore A0 A1 A2 A3 A4 b h l ⟨k.val, by omega⟩ := fun k => by
    unfold rScore
    simp only [dif_pos k.isLt]
  have e2 : ∀ k : Fin 256, (∑ e, qRow A0 b h l e * cRow A2 A4 b h k e) * scl = rScore A0 A1 A2 A3 A4 b h l ⟨1024 + k.val, by omega⟩ := fun k => by
    unfold rScore
    simp only [dif_neg (show ¬ 1024 + k.val < 1024 by omega), Nat.add_sub_cancel_left]
  refine softmax_join (a := 1024) (b := 256) (n := 1280) rfl _ _ _ _ _ _ _ _ e1 e2 (fun k => ?_) (fun k => ?_) hs hv
    (top_real (fun k => ?_) (fun k => ?_)) (rTop_real hs) (by decide)
  · unfold rVal
    simp only [dif_pos k.isLt]
  · unfold rVal
    simp only [dif_neg (show ¬ 1024 + k.val < 1024 by omega), Nat.add_sub_cancel_left]
  · rw [e1]; exact hs _
  · rw [e2]; exact hs _

end Cert.Proof

end
-- ==== Proof.Finite.lean ====
/- The precondition read back: every element of each argument is a real number. -/
module

public import proofs.«01_k».proof.Defs
public import proofs.«01_k».proof.Proof.Soft
public import proofs.«01_k».proof.Proof.Gen.Pre_finite
public import Idealize.ShloMosaic.Lib.ReduceAll
public import Idealize.ShloMosaic.Lib.WordArith

@[expose] public section

noncomputable section

namespace Cert.Proof

open Idealize.ShloMosaic Idealize.ShloMosaic.TcCoe Idealize.SL.Sem Cert.Proof.Soft

/-- The word of plus infinity is the top. -/
theorem pos_inf : Ideal.ofBits .f32 0x7F800000#32 = ⊤ := by simp [Ideal.ofBits, Ideal.ieee]

/-- A comparison of an absolute value with plus infinity that comes out true says that the value is real. -/
theorem isReal_of_cmp {x : EReal}
    (h : FloatOps.cmpf (F := Ideal) (φ := .f32) .olt (FloatOps.hostAbsf (F := Ideal) (φ := .f32) x) (Ideal.ofBits .f32 0x7F800000#32) = 1#1) :
    IsReal x := by
  rw [pos_inf, Ideal.cmpf_def] at h
  unfold Ideal.cmp at h
  refine isReal_of_abs_lt ?_
  exact of_decide_eq_true ((WordArith.ofBool_eq_one_iff _).1 h)

/-- One array whose absolute values all compare below plus infinity holds reals only. -/
theorem isReal_of_all {s : Shape} {axes : List (Fin s.rank)} (x : FVec Ideal s .f32) (hb : Cert.Pre_finite.S_.BroadcastsInDim s ![])
    (h : s.ReducesTo axes Cert.Pre_finite.S_) (hu : 0 < Cert.Pre_finite.S_.numel) (init : IVec Cert.Pre_finite.S_ 1) (j : Cert.Pre_finite.S_.Idx)
    (e : Host.reduce IntOp.andi (cmpf .olt (Host.absf x) (broadcastInDim s ![] hb (constant Cert.Pre_finite.S_ .f32 0x7F800000#32))) init h hu j = 1#1)
    (i : s.Idx) : IsReal (x i) :=
  isReal_of_cmp (Host.reduce_andi_all _ init h hu j e i)

variable (m : (ℓ : Loc Cert.KernelIdeal.nD Cert.KernelIdeal.τ Cert.KernelIdeal.sig) → Buf (Elt Ideal) ℓ)

/-- Under the precondition every argument holds reals only. -/
theorem args_real (h : Cert.Pre_KernelIdeal_finite m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i)) := by
  have e := congrFun (h c) (Shape.Idx.first Cert.Pre_finite.Facts.h_S_)
  dsimp only [Cert.Pre_finite.fn, Cert.Pre_finite.fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨isReal_of_all _ _ _ _ _ _ e0, isReal_of_all _ _ _ _ _ _ e1, isReal_of_all _ _ _ _ _ _ e2, isReal_of_all _ _ _ _ _ _ e3,
    isReal_of_all _ _ _ _ _ _ e4⟩

end Cert.Proof

end
-- ==== Proof.UpBlock.lean ====
/- The feed-forward part's first product: one grid point's block, index by index. The four pieces a point stores are one
   function, `piece`, of 1024 rows: the product with two blocks of weights, a convolution of three taps along each
   sequence, and the gated product of the two. -/
module

public import proofs.«01_k».proof.Proof.Gen.Kernel2Ideal.Frame
public import Idealize.ShloMosaic.Lib.Pointwise
public import Idealize.ShloMosaic.Lib.Pipeline.Value

@[expose] public section

set_option maxRecDepth 16384

noncomputable section

namespace Cert.Proof.Up

open Idealize.ShloMosaic Idealize.ShloMosaic.TcCoe Idealize.SL.Sem Cert.Kernel2Ideal Cert.Kernel2Ideal.Gen
open Idealize.ShloMosaic.Pointwise

/-- The length of the sequences in the 1024 rows `s` of block row `q`, as the kernel's word. -/
def perW (q s : BitVec 32) : BitVec 32 :=
  Scalar.select (Scalar.cmpi .slt (Scalar.addi (Scalar.muli q 4#32) s) 8#32) 256#32 1024#32

/-- The position of each of the 1024 rows in its sequence. -/
def posW (q s : BitVec 32) : IVec S1024x1 32 :=
  andi (iota .tc S1024x1 32 [0] iota_S1024x1_d0_w32) (broadcast S1024x1 (Scalar.subi (perW q s) 1#32))

/-- Which rows are the first of their sequence. -/
def firstW (q s : BitVec 32) : IVec S1024x1 1 := cmpi .eq (posW q s) (broadcast S1024x1 0#32)

/-- Which rows are the last of their sequence. -/
def lastW (q s : BitVec 32) : IVec S1024x1 1 := cmpi .eq (posW q s) (broadcast S1024x1 (Scalar.subi (perW q s) 1#32))

/-- The convolved product of 1024 rows with one block of weights. -/
def conv (q s : BitVec 32) (a : Vec Ideal S1024x4096 .bf16) (w : Vec Ideal S4096x256 .f32)
    (t0 t1 t2 b : Vec Ideal S1x256 .f32) : FVec Ideal S1024x256 .f32 :=
  k0_pay11 (k0_pay1 w) (firstW q s) (lastW q s) a t0 t1 t2 b

/-- The piece stored for 1024 rows: the convolved product `g` times its logistic, times the other convolved product. -/
def piece (g v : FVec Ideal S1024x256 .f32) : FVec Ideal S1024x256 .bf16 :=
  k0_pay13 g v (addf (broadcast S1024x256 (Scalar.ofBits .f32 0x3F800000#32))
    (exp (subf (broadcast S1024x256 (Scalar.ofBits .f32 0x00000000#32)) g))) (Scalar.ofBits .f32 0x3F800000#32)

/-- The block a grid point writes, each of its four stores as a `piece`. -/
theorem out_eq (i : grid0.Coords) (x0 : Vec Ideal S4096x4096 .bf16) (x1 x2 : Vec Ideal S4096x256 .f32)
    (x3 x4 : Vec Ideal S3x256 .f32) (x5 x6 : Vec Ideal S1x256 .f32) : out0_7 i x0 x1 x2 x3 x4 x5 x6 =
    View.canon [
      ⟨r0_12, piece
        (conv (BitVec.ofNat 32 (i 0).val) 3#32 (View.ld x0 r0_11) (View.ld x1 r0_0) (View.ld x3 r0_2) (View.ld x3 r0_3) (View.ld x3 r0_4) (View.ld x5 r0_5))
        (conv (BitVec.ofNat 32 (i 0).val) 3#32 (View.ld x0 r0_11) (View.ld x2 r0_0) (View.ld x4 r0_2) (View.ld x4 r0_3) (View.ld x4 r0_4) (View.ld x6 r0_5))⟩,
      ⟨r0_10, piece
        (conv (BitVec.ofNat 32 (i 0).val) 2#32 (View.ld x0 r0_9) (View.ld x1 r0_0) (View.ld x3 r0_2) (View.ld x3 r0_3) (View.ld x3 r0_4) (View.ld x5 r0_5))
        (conv (BitVec.ofNat 32 (i 0).val) 2#32 (View.ld x0 r0_9) (View.ld x2 r0_0) (View.ld x4 r0_2) (View.ld x4 r0_3) (View.ld x4 r0_4) (View.ld x6 r0_5))⟩,
      ⟨r0_8, piece
        (conv (BitVec.ofNat 32 (i 0).val) 1#32 (View.ld x0 r0_7) (View.ld x1 r0_0) (View.ld x3 r0_2) (View.ld x3 r0_3) (View.ld x3 r0_4) (View.ld x5 r0_5))
        (conv (BitVec.ofNat 32 (i 0).val) 1#32 (View.ld x0 r0_7) (View.ld x2 r0_0) (View.ld x4 r0_2) (View.ld x4 r0_3) (View.ld x4 r0_4) (View.ld x6 r0_5))⟩,
      ⟨r0_6, piece
        (conv (BitVec.ofNat 32 (i 0).val) 0#32 (View.ld x0 r0_1) (View.ld x1 r0_0) (View.ld x3 r0_2) (View.ld x3 r0_3) (View.ld x3 r0_4) (View.ld x5 r0_5))
        (conv (BitVec.ofNat 32 (i 0).val) 0#32 (View.ld x0 r0_1) (View.ld x2 r0_0) (View.ld x4 r0_2) (View.ld x4 r0_3) (View.ld x4 r0_4) (View.ld x6 r0_5))⟩] := rfl

/-- The length of the sequences in the 1024 rows `s` of block row `q`. -/
def perN (q : Fin 3) (s : Fin 4) : ℕ := if q.val * 4 + s.val < 8 then 256 else 1024

/-- The kernel's word for the length is that length. -/
theorem perW_eq (q : Fin 3) (s : Fin 4) : perW (BitVec.ofNat 32 q.val) (BitVec.ofNat 32 s.val) = BitVec.ofNat 32 (perN q s) := by
  revert q s
  decide +kernel

/-- A row's test for being the first of its sequence. -/
theorem first_bit : ∀ (q : Fin 3) (s : Fin 4) (r : Fin 1024),
    IntOp.cmpi .eq (IntOp.andi (BitVec.ofNat 32 r.val) (Scalar.subi (BitVec.ofNat 32 (perN q s)) 1#32)) 0#32
      = if r.val % perN q s = 0 then 1#1 else 0#1 := by
  decide +kernel

/-- A row's test for being the last of its sequence. -/
theorem last_bit : ∀ (q : Fin 3) (s : Fin 4) (r : Fin 1024),
    IntOp.cmpi .eq (IntOp.andi (BitVec.ofNat 32 r.val) (Scalar.subi (BitVec.ofNat 32 (perN q s)) 1#32)) (Scalar.subi (BitVec.ofNat 32 (perN q s)) 1#32)
      = if r.val % perN q s = perN q s - 1 then 1#1 else 0#1 := by
  decide +kernel

/-- Zero's word. -/
theorem ofBits_zero : Ideal.ofBits .f32 0x00000000#32 = 0 := by simp [Ideal.ofBits, Ideal.ieee]

/-- One's word. -/
theorem ofBits_one : Ideal.ofBits .f32 0x3F800000#32 = 1 := by
  simp [Ideal.ofBits, Ideal.ieee]
  rw [← EReal.coe_mul]
  norm_num

/-- The convolution of a column `u` of 1024 products at row `r`: three taps and an offset, with zero before the first and
    after the last row of each sequence of `p` rows. -/
def conv3 (p : ℕ) (u : Fin 1024 → EReal) (t0 t1 t2 b : EReal) (r : Fin 1024) : EReal :=
  (if r.val % p = 0 then 0 else u ⟨(r.val + 1023) % 1024, Nat.mod_lt _ (by decide)⟩) * t0 + u r * t1
    + (if r.val % p = p - 1 then 0 else u ⟨(r.val + 1) % 1024, Nat.mod_lt _ (by decide)⟩) * t2 + b

/-- The convolved product, element by element. -/
theorem conv_apply (q : Fin 3) (s : Fin 4) (a : Vec Ideal S1024x4096 .bf16) (w : Vec Ideal S4096x256 .f32)
    (t0 t1 t2 b : Vec Ideal S1x256 .f32) (r : Fin 1024) (c : Fin 256) :
    conv (BitVec.ofNat 32 q.val) (BitVec.ofNat 32 s.val) a w t0 t1 t2 b (ix2 r c)
      = conv3 (perN q s) (fun r => ∑ k, a (ix2 r k) * w (ix2 k c)) (t0 (ix2 0 c)) (t1 (ix2 0 c)) (t2 (ix2 0 c)) (b (ix2 0 c)) r := by
  unfold conv conv3 firstW lastW posW
  rw [perW_eq]
  pointwise [k0_pay11, k0_pay1]
  rw [first_bit, last_bit]
  have e1 : r.val + 1024 - 1 = r.val + 1023 := by omega
  have e2 : r.val + 1024 - 1023 = r.val + 1 := by omega
  simp only [e1, e2]
  split_ifs <;> simp [Scalar.select]

/-- The gated product of two numbers. -/
def gated (g v : EReal) : EReal := g * Ideal.div 1 (1 + Ideal.exp (-g)) * v

/-- A piece, element by element. -/
theorem piece_apply (g v : FVec Ideal S1024x256 .f32) (r : Fin 1024) (c : Fin 256) :
    piece g v (ix2 r c) = gated (g (ix2 r c)) (v (ix2 r c)) := by
  unfold piece gated
  pointwise [k0_pay13]
  rw [zero_sub]

/-- Row `r` of the 1024 rows `s`, column `c`, of the block one grid point of block row `q` writes. -/
def upAt (q : Fin 3) (x0 : Vec Ideal S4096x4096 .bf16) (x1 x2 : Vec Ideal S4096x256 .f32) (x3 x4 : Vec Ideal S3x256 .f32)
    (x5 x6 : Vec Ideal S1x256 .f32) (s : Fin 4) (r : Fin 1024) (c : Fin 256) : EReal :=
  gated
    (conv3 (perN q s) (fun r => ∑ k, x0 (ix2 ⟨s.val * 1024 + r.val, by omega⟩ k) * x1 (ix2 k c))
      (x3 (ix2 0 c)) (x3 (ix2 1 c)) (x3 (ix2 2 c)) (x5 (ix2 0 c)) r)
    (conv3 (perN q s) (fun r => ∑ k, x0 (ix2 ⟨s.val * 1024 + r.val, by omega⟩ k) * x2 (ix2 k c))
      (x4 (ix2 0 c)) (x4 (ix2 1 c)) (x4 (ix2 2 c)) (x6 (ix2 0 c)) r)

/-- The block one grid point writes, as a function of the block's index. -/
def upVal (q : Fin 3) (x0 : Vec Ideal S4096x4096 .bf16) (x1 x2 : Vec Ideal S4096x256 .f32) (x3 x4 : Vec Ideal S3x256 .f32)
    (x5 x6 : Vec Ideal S1x256 .f32) (i : S4096x256.Idx) : EReal :=
  upAt q x0 x1 x2 x3 x4 x5 x6 ⟨(i 0).val / 1024, by have : (i 0).val < 4096 := (i 0).isLt; omega⟩
    ⟨(i 0).val % 1024, Nat.mod_lt _ (by decide)⟩ (i 1)

/-- A piece of convolved products is the gated product of two convolutions, whatever the blocks read are called. -/
theorem piece_eq {q : Fin 3} {s : Fin 4} {a : Vec Ideal S1024x4096 .bf16} {w w' : Vec Ideal S4096x256 .f32}
    {t0 t1 t2 b t0' t1' t2' b' : Vec Ideal S1x256 .f32} {r : Fin 1024} {c : Fin 256} {A : Fin 1024 → Fin 4096 → EReal}
    {W W' : Fin 4096 → EReal} {T0 T1 T2 B T0' T1' T2' B' : EReal}
    (ha : ∀ r k, a (ix2 r k) = A r k) (hw : ∀ k, w (ix2 k c) = W k) (hw' : ∀ k, w' (ix2 k c) = W' k)
    (h0 : t0 (ix2 0 c) = T0) (h1 : t1 (ix2 0 c) = T1) (h2 : t2 (ix2 0 c) = T2) (h3 : b (ix2 0 c) = B)
    (h0' : t0' (ix2 0 c) = T0') (h1' : t1' (ix2 0 c) = T1') (h2' : t2' (ix2 0 c) = T2') (h3' : b' (ix2 0 c) = B') :
    piece (conv (BitVec.ofNat 32 q.val) (BitVec.ofNat 32 s.val) a w t0 t1 t2 b)
      (conv (BitVec.ofNat 32 q.val) (BitVec.ofNat 32 s.val) a w' t0' t1' t2' b') (ix2 r c)
      = gated (conv3 (perN q s) (fun r => ∑ k, A r k * W k) T0 T1 T2 B r)
          (conv3 (perN q s) (fun r => ∑ k, A r k * W' k) T0' T1' T2' B' r) := by
  rw [piece_apply, conv_apply, conv_apply]
  simp only [ha, hw, hw', h0, h1, h2, h3, h0', h1', h2', h3']

/-- The four stored pieces are the block `upVal`. -/
theorem out_apply (i : grid0.Coords) (x0 : Vec Ideal S4096x4096 .bf16) (x1 x2 : Vec Ideal S4096x256 .f32)
    (x3 x4 : Vec Ideal S3x256 .f32) (x5 x6 : Vec Ideal S1x256 .f32) (y : S4096x256.Idx) :
    out0_7 i x0 x1 x2 x3 x4 x5 x6 y = upVal (i 0) x0 x1 x2 x3 x4 x5 x6 y := by
  rw [out_eq]
  refine View.canon_apply_of_pieces (Val := Elt Ideal) (e := .bf16) (upVal (i 0) x0 x1 x2 x3 x4 x5 x6) _ (fun p hp j => ?_) y (cover0_7 _ _ _ _ y)
  have key : ∀ (s : Fin 4) (r : Fin 1024) (c : Fin 256) (j : S4096x256.Idx) (v : EReal),
      j = ix2 ⟨s.val * 1024 + r.val, by omega⟩ c → v = upAt (i 0) x0 x1 x2 x3 x4 x5 x6 s r c → v = upVal (i 0) x0 x1 x2 x3 x4 x5 x6 j := by
    intro s r c j v hj hv
    rw [hv, hj]
    unfold upVal
    congr 1
    · exact Fin.ext (show s.val = (s.val * 1024 + r.val) / 1024 by omega)
    · exact Fin.ext (show r.val = (s.val * 1024 + r.val) % 1024 by omega)
  simp only [List.mem_cons, List.not_mem_nil, or_false] at hp
  rcases hp with rfl | rfl | rfl | rfl
  all_goals
    obtain ⟨r, c, rfl⟩ : ∃ (r : Fin 1024) (c : Fin 256), j = ix2 r c := ⟨j 0, j 1, ValueIdx.eq_ix2 j⟩
  on_goal 4 => refine key 0 r c _ _ ?_ (piece_eq (q := i 0) (s := 0) ?_ ?_ ?_ ?_ ?_ ?_ ?_ ?_ ?_ ?_ ?_)
  on_goal 3 => refine key 1 r c _ _ ?_ (piece_eq (q := i 0) (s := 1) ?_ ?_ ?_ ?_ ?_ ?_ ?_ ?_ ?_ ?_ ?_)
  on_goal 2 => refine key 2 r c _ _ ?_ (piece_eq (q := i 0) (s := 2) ?_ ?_ ?_ ?_ ?_ ?_ ?_ ?_ ?_ ?_ ?_)
  on_goal 1 => refine key 3 r c _ _ ?_ (piece_eq (q := i 0) (s := 3) ?_ ?_ ?_ ?_ ?_ ?_ ?_ ?_ ?_ ?_ ?_)
  all_goals first
    | funext a
      match a with
      | ⟨0, _⟩ => exact Fin.ext (by show _ + 1 * r.val = _ + r.val; dsimp; omega)
      | ⟨1, _⟩ => exact Fin.ext (by show _ + 1 * c.val = c.val; dsimp; omega)
    | intro r k
      pointwise []
    | intro k
      pointwise []
    | pointwise []

end Cert.Proof.Up

end
-- ==== Proof.UpArray.lean ====
/- The feed-forward part's first product: the result array, index by index. The blocks cover it, and each is the gated
   convolution of its own rows and columns of the arrays that the windows read. -/
module

public import proofs.«01_k».proof.Proof.UpBlock
public import proofs.«01_k».proof.Proof.Gen.Kernel2Ideal.Value
public import Idealize.ShloMosaic.Lib.StableHlo.ReadAt

@[expose] public section

set_option maxRecDepth 16384

noncomputable section

namespace Cert.Proof.Up

open Idealize.ShloMosaic Idealize.ShloMosaic.TcCoe Idealize.SL.Sem Cert.Kernel2Ideal Cert.Kernel2Ideal.Gen
open Idealize.ShloMosaic.Pointwise
open Idealize.ShloMosaic.Pipeline (Dat)

/-- The length of the sequence that row `R` lies in: 256 for the prompt rows, 1024 for the latent rows. -/
def seqLen (R : ℕ) : ℕ := if R < 8192 then 256 else 1024

/-- The product of row `R` with column `C` of the weights. -/
def dotAt (A0 : Vec Ideal S12288x4096 .bf16) (A1 : Vec Ideal S4096x22016 .f32) (C : Fin 22016) (R : Fin 12288) : EReal :=
  ∑ k, A0 (ix2 R k) * A1 (ix2 k C)

/-- The convolved product at row `R`, column `C`: three taps over the row before, the row and the row after, with zero
    outside the row's own sequence, and an offset. -/
def convAt (A0 : Vec Ideal S12288x4096 .bf16) (A1 : Vec Ideal S4096x22016 .f32) (A2 : Vec Ideal S3x22016 .f32)
    (A3 : Vec Ideal S22016 .f32) (R : Fin 12288) (C : Fin 22016) : EReal :=
  (if R.val % seqLen R.val = 0 then 0 else dotAt A0 A1 C ⟨R.val - 1, by omega⟩) * A2 (ix2 0 C) + dotAt A0 A1 C R * A2 (ix2 1 C)
    + (if R.val % seqLen R.val = seqLen R.val - 1 then 0 else dotAt A0 A1 C ⟨(R.val + 1) % 12288, Nat.mod_lt _ (by decide)⟩) * A2 (ix2 2 C)
    + A3 (ix1 C)

/-- The element at row `R`, column `c`: the gate's convolution is column `c`, the value's is column `11008 + c`. -/
def upOut (A0 : Vec Ideal S12288x4096 .bf16) (A1 : Vec Ideal S4096x22016 .f32) (A2 : Vec Ideal S3x22016 .f32)
    (A3 : Vec Ideal S22016 .f32) (R : Fin 12288) (c : Fin 11008) : EReal :=
  gated (convAt A0 A1 A2 A3 R ⟨c.val, by omega⟩) (convAt A0 A1 A2 A3 R ⟨11008 + c.val, by omega⟩)

/-- A convolution of 1024 rows is the convolution of the array's rows: the 1024 rows are whole sequences. -/
theorem conv3_eq (A0 : Vec Ideal S12288x4096 .bf16) (A1 : Vec Ideal S4096x22016 .f32) (A2 : Vec Ideal S3x22016 .f32)
    (A3 : Vec Ideal S22016 .f32) (q : Fin 3) (s : Fin 4) (r : Fin 1024) (C : Fin 22016) :
    conv3 (perN q s) (fun r => dotAt A0 A1 C ⟨q.val * 4096 + (s.val * 1024 + r.val), by omega⟩)
        (A2 (ix2 0 C)) (A2 (ix2 1 C)) (A2 (ix2 2 C)) (A3 (ix1 C)) r
      = convAt A0 A1 A2 A3 ⟨q.val * 4096 + (s.val * 1024 + r.val), by omega⟩ C := by
  have hp : seqLen (q.val * 4096 + (s.val * 1024 + r.val)) = perN q s := by
    unfold seqLen perN
    split_ifs <;> omega
  have hm : (q.val * 4096 + (s.val * 1024 + r.val)) % perN q s = r.val % perN q s := by
    unfold perN
    split_ifs <;> omega
  have hf : ¬ r.val % perN q s = 0 → (r.val + 1023) % 1024 = r.val - 1 ∧ 0 < r.val := fun h => by
    have : r.val ≠ 0 := fun h0 => h (by rw [h0]; exact Nat.zero_mod _)
    omega
  have hl : ¬ r.val % perN q s = perN q s - 1 → (r.val + 1) % 1024 = r.val + 1 ∧ r.val < 1023 := fun h => by
    have : r.val ≠ 1023 := fun h0 => h (by rw [h0]; unfold perN; split_ifs <;> rfl)
    omega
  unfold conv3 convAt
  simp only [hp, hm]
  refine congrArg (· + _) (congrArg₂ (· + ·) (congrArg₂ (· + ·) (congrArg (· * _) ?_) rfl) (congrArg (· * _) ?_))
  · split_ifs with h
    · rfl
    · refine congrArg _ (Fin.ext ?_)
      have := hf h
      show q.val * 4096 + (s.val * 1024 + (r.val + 1023) % 1024) = q.val * 4096 + (s.val * 1024 + r.val) - 1
      omega
  · split_ifs with h
    · rfl
    · refine congrArg _ (Fin.ext ?_)
      have := hl h
      show q.val * 4096 + (s.val * 1024 + (r.val + 1) % 1024) = (q.val * 4096 + (s.val * 1024 + r.val) + 1) % 12288
      omega

variable (m : (ℓ : Loc nD τ sig) → Buf (Elt Ideal) ℓ)

/-- The result array as one function of the arguments. -/
def result (c : Dev nD) : Buf (Elt Ideal) ((c : Thread nD τ).loc main_v1) := fun i : S12288x11008.Idx =>
  upOut (m ((c : Thread nD τ).loc main_arg0)) (m ((c : Thread nD τ).loc main_arg1)) (m ((c : Thread nD τ).loc main_arg2))
    (m ((c : Thread nD τ).loc main_arg3)) (i 0) (i 1)

/-- Where each window's block lies at point `t`: block row `t / 43`, block column `t % 43`. -/
theorem idx_facts : ∀ t : Fin cfg0.N,
    (win0_0.index t 0 = t.val / 43 ∧ win0_0.index t 1 = 0)
    ∧ (win0_1.index t 0 = 0 ∧ win0_1.index t 1 = t.val % 43)
    ∧ (win0_2.index t 0 = 0 ∧ win0_2.index t 1 = 43 + t.val % 43)
    ∧ (win0_3.index t 0 = 0 ∧ win0_3.index t 1 = t.val % 43)
    ∧ (win0_4.index t 0 = 0 ∧ win0_4.index t 1 = 43 + t.val % 43)
    ∧ (win0_5.index t 0 = 0 ∧ win0_5.index t 1 = t.val % 43)
    ∧ (win0_6.index t 0 = 0 ∧ win0_6.index t 1 = 43 + t.val % 43)
    ∧ (win0_7.index t 0 = t.val / 43 ∧ win0_7.index t 1 = t.val % 43) := by
  decide +kernel

/-- The first grid coordinate of point `t`. -/
theorem coord_eq : ∀ t : Fin cfg0.N, (grid0.coords t 0).val = t.val / 43 := by
  decide +kernel

/-- The grid has 129 points. -/
theorem lt_N (t : Fin cfg0.N) : t.val < 129 := t.isLt

/-- The rows' block at point `t`. -/
theorem read0 (c : Dev nD) (t : Fin cfg0.N) (r : Fin 4096) (k : Fin 4096) : iblk m c 0 t (ix2 r k)
    = m ((c : Thread nD τ).loc main_arg0) (ix2 ⟨t.val / 43 * 4096 + r.val, by have := lt_N t; omega⟩ k) := by
  obtain ⟨⟨h0, h1⟩, -⟩ := idx_facts t
  unfold iblk
  rw [View.read_apply]
  show V m c main_arg0 _ = _
  rw [V_main_arg0]
  congr 1
  funext a
  apply Fin.ext
  match a with
  | ⟨0, _⟩ => show win0_0.index t 0 * 4096 + 1 * r.val = t.val / 43 * 4096 + r.val; rw [h0]; omega
  | ⟨1, _⟩ => show win0_0.index t 1 * 4096 + 1 * k.val = k.val; rw [h1]; omega

/-- The gate's weights at point `t`. -/
theorem read1 (c : Dev nD) (t : Fin cfg0.N) (k : Fin 4096) (e : Fin 256) : iblk m c 1 t (ix2 k e)
    = m ((c : Thread nD τ).loc main_arg1) (ix2 k ⟨t.val % 43 * 256 + e.val, by omega⟩) := by
  obtain ⟨-, ⟨h0, h1⟩, -⟩ := idx_facts t
  unfold iblk
  rw [View.read_apply]
  show V m c main_arg1 _ = _
  rw [V_main_arg1]
  congr 1
  funext a
  apply Fin.ext
  match a with
  | ⟨0, _⟩ => show win0_1.index t 0 * 4096 + 1 * k.val = k.val; rw [h0]; omega
  | ⟨1, _⟩ => show win0_1.index t 1 * 256 + 1 * e.val = t.val % 43 * 256 + e.val; rw [h1]; omega

/-- The value's weights at point `t`. -/
theorem read2 (c : Dev nD) (t : Fin cfg0.N) (k : Fin 4096) (e : Fin 256) : iblk m c 2 t (ix2 k e)
    = m ((c : Thread nD τ).loc main_arg1) (ix2 k ⟨11008 + (t.val % 43 * 256 + e.val), by omega⟩) := by
  obtain ⟨-, -, ⟨h0, h1⟩, -⟩ := idx_facts t
  unfold iblk
  rw [View.read_apply]
  show V m c main_arg1 _ = _
  rw [V_main_arg1]
  congr 1
  funext a
  apply Fin.ext
  match a with
  | ⟨0, _⟩ => show win0_2.index t 0 * 4096 + 1 * k.val = k.val; rw [h0]; omega
  | ⟨1, _⟩ => show win0_2.index t 1 * 256 + 1 * e.val = 11008 + (t.val % 43 * 256 + e.val); rw [h1]; omega

/-- The gate's taps at point `t`. -/
theorem read3 (c : Dev nD) (t : Fin cfg0.N) (k : Fin 3) (e : Fin 256) : iblk m c 3 t (ix2 k e)
    = m ((c : Thread nD τ).loc main_arg2) (ix2 k ⟨t.val % 43 * 256 + e.val, by omega⟩) := by
  obtain ⟨-, -, -, ⟨h0, h1⟩, -⟩ := idx_facts t
  unfold iblk
  rw [View.read_apply]
  show V m c main_arg2 _ = _
  rw [V_main_arg2]
  congr 1
  funext a
  apply Fin.ext
  match a with
  | ⟨0, _⟩ => show win0_3.index t 0 * 3 + 1 * k.val = k.val; rw [h0]; omega
  | ⟨1, _⟩ => show win0_3.index t 1 * 256 + 1 * e.val = t.val % 43 * 256 + e.val; rw [h1]; omega

/-- The value's taps at point `t`. -/
theorem read4 (c : Dev nD) (t : Fin cfg0.N) (k : Fin 3) (e : Fin 256) : iblk m c 4 t (ix2 k e)
    = m ((c : Thread nD τ).loc main_arg2) (ix2 k ⟨11008 + (t.val % 43 * 256 + e.val), by omega⟩) := by
  obtain ⟨-, -, -, -, ⟨h0, h1⟩, -⟩ := idx_facts t
  unfold iblk
  rw [View.read_apply]
  show V m c main_arg2 _ = _
  rw [V_main_arg2]
  congr 1
  funext a
  apply Fin.ext
  match a with
  | ⟨0, _⟩ => show win0_4.index t 0 * 3 + 1 * k.val = k.val; rw [h0]; omega
  | ⟨1, _⟩ => show win0_4.index t 1 * 256 + 1 * e.val = 11008 + (t.val % 43 * 256 + e.val); rw [h1]; omega

/-- The offsets as the one row that the windows read. -/
theorem offsets (c : Dev nD) (j : Fin 22016) : V m c main_v0 (ix2 0 j) = m ((c : Thread nD τ).loc main_arg3) (ix1 j) := by
  unfold V
  after_reads_at

/-- The gate's offsets at point `t`. -/
theorem read5 (c : Dev nD) (t : Fin cfg0.N) (e : Fin 256) : iblk m c 5 t (ix2 0 e)
    = m ((c : Thread nD τ).loc main_arg3) (ix1 ⟨t.val % 43 * 256 + e.val, by omega⟩) := by
  obtain ⟨-, -, -, -, -, ⟨h0, h1⟩, -⟩ := idx_facts t
  rw [← offsets m c]
  unfold iblk
  rw [View.read_apply]
  show V m c main_v0 _ = _
  congr 1
  funext a
  apply Fin.ext
  match a with
  | ⟨0, _⟩ => show win0_5.index t 0 * 1 + 1 * 0 = 0; rw [h0]
  | ⟨1, _⟩ => show win0_5.index t 1 * 256 + 1 * e.val = t.val % 43 * 256 + e.val; rw [h1]; omega

/-- The value's offsets at point `t`. -/
theorem read6 (c : Dev nD) (t : Fin cfg0.N) (e : Fin 256) : iblk m c 6 t (ix2 0 e)
    = m ((c : Thread nD τ).loc main_arg3) (ix1 ⟨11008 + (t.val % 43 * 256 + e.val), by omega⟩) := by
  obtain ⟨-, -, -, -, -, -, ⟨h0, h1⟩, -⟩ := idx_facts t
  rw [← offsets m c]
  unfold iblk
  rw [View.read_apply]
  show V m c main_v0 _ = _
  congr 1
  funext a
  apply Fin.ext
  match a with
  | ⟨0, _⟩ => show win0_6.index t 0 * 1 + 1 * 0 = 0; rw [h0]
  | ⟨1, _⟩ => show win0_6.index t 1 * 256 + 1 * e.val = 11008 + (t.val % 43 * 256 + e.val); rw [h1]; omega

/-- The block that point `t` computes, element by element. -/
theorem block_eq (c : Dev nD) (t : Fin cfg0.N) (q : Fin 3) (hq : q.val = t.val / 43) (s : Fin 4) (r : Fin 1024) (e : Fin 256) :
    upAt q (iblk m c 0 t) (iblk m c 1 t) (iblk m c 2 t) (iblk m c 3 t) (iblk m c 4 t) (iblk m c 5 t) (iblk m c 6 t) s r e
      = upOut (m ((c : Thread nD τ).loc main_arg0)) (m ((c : Thread nD τ).loc main_arg1)) (m ((c : Thread nD τ).loc main_arg2))
          (m ((c : Thread nD τ).loc main_arg3)) ⟨q.val * 4096 + (s.val * 1024 + r.val), by omega⟩
          ⟨t.val % 43 * 256 + e.val, by omega⟩ := by
  unfold upAt upOut
  rw [← conv3_eq, ← conv3_eq]
  unfold dotAt
  simp only [read0, read1, read2, read3, read4, read5, read6, hq]

/-- What point `t` writes back is its block of `result`. -/
theorem flushed_eq (c : Dev nD) (t : Fin cfg0.N) :
    (dats m 0 c).flushed 7 t = ((cfg0.win 7).blk t).view.read (Elt Ideal) (result m c) := by
  obtain ⟨-, -, -, -, -, -, -, h0, h1⟩ := idx_facts t
  have hN := lt_N t
  have hq := coord_eq t
  rw [Cert.Kernel2Ideal.Value.flushed7]
  funext j
  rw [View.read_apply]
  obtain ⟨r, e, rfl⟩ : ∃ (r : Fin 4096) (e : Fin 256), j = (ix2 r e : S4096x256.Idx) := ⟨j 0, j 1, ValueIdx.eq_ix2 j⟩
  refine (out_apply (grid0.coords t) (iblk m c 0 t) (iblk m c 1 t) (iblk m c 2 t) (iblk m c 3 t) (iblk m c 4 t) (iblk m c 5 t) (iblk m c 6 t) (ix2 r e)).trans ?_
  refine (block_eq m c t (grid0.coords t 0) hq ⟨r.val / 1024, by omega⟩ ⟨r.val % 1024, by omega⟩ e).trans ?_
  show _ = result m c _
  unfold result
  refine congr (congrArg (upOut _ _ _ _) ?_) ?_
  · exact Fin.ext (show (grid0.coords t 0).val * 4096 + (r.val / 1024 * 1024 + r.val % 1024) = win0_7.index t 0 * 4096 + 1 * r.val by rw [h0, hq]; omega)
  · exact Fin.ext (show t.val % 43 * 256 + e.val = win0_7.index t 1 * 256 + 1 * e.val by rw [h1]; omega)

/-- The point whose block holds index `i`. -/
theorem covered (i : S12288x11008.Idx) : ∃ t : Fin cfg0.N, (cfg0.win 7).flush t = true ∧ i ∈ ((cfg0.win 7).blk t).view.set := by
  have b0 : (i 0 : Nat) < 12288 := (i 0).isLt
  have b1 : (i 1 : Nat) < 11008 := (i 1).isLt
  let t : Fin cfg0.N := ⟨(i 0 : Nat) / 4096 * 43 + (i 1 : Nat) / 256, by show _ < 129; omega⟩
  have ht : t.val = (i 0 : Nat) / 4096 * 43 + (i 1 : Nat) / 256 := rfl
  obtain ⟨-, -, -, -, -, -, -, h0, h1⟩ := idx_facts t
  refine ⟨t, flush0_7 t, ?_⟩
  show i ∈ ((View.whole main_v1).slice (win0_7.rect t)).set
  rw [View.set_slice_whole, Rect.mem_set_unit]
  intro a
  match a with
  | ⟨0, _⟩ => show win0_7.index t 0 * 4096 ≤ (i 0 : Nat) ∧ (i 0 : Nat) < win0_7.index t 0 * 4096 + 4096; rw [h0]; omega
  | ⟨1, _⟩ => show win0_7.index t 1 * 256 ≤ (i 1 : Nat) ∧ (i 1 : Nat) < win0_7.index t 1 * 256 + 256; rw [h1]; omega

/-- The result array ends holding `result`. -/
theorem final_eq (c : Dev nD) : (dats m 0 c).arrAt 7 cfg0.N = result m c :=
  (dats m 0 c).arrAt_eq_of_cover 7 (result m c) (fun t _ => flushed_eq m c t) covered

end Cert.Proof.Up

end
-- ==== Proof.UpRef.lean ====
/- The reference's feed-forward product, index by index: the gated convolution of each sequence, which is the kernel's. -/
module

public import proofs.«01_k».proof.Proof.UpArray
public import proofs.«01_k».proof.Proof.Gen.Reference2Ideal.Read

@[expose] public section

set_option maxRecDepth 16384

noncomputable section

namespace Cert.Proof.Up

open Idealize.ShloMosaic Idealize.ShloMosaic.TcCoe Idealize.SL.Sem Cert.Reference2Ideal Cert.Reference2Ideal.Gen Cert.Reference2Ideal.Read
open Idealize.ShloMosaic.Pointwise

variable (A0 : Vec Ideal S12288x4096 .bf16) (A1 : Vec Ideal S4096x22016 .f32) (A2 : Vec Ideal S3x22016 .f32) (A3 : Vec Ideal S22016 .f32)

/-- The integer zero as a float is zero. -/
theorem sitofp_zero : FloatOps.sitofp (F := Ideal) FTy.f32 0#32 = (0 : EReal) := by
  show (((0#32 : BitVec 32).toInt : ℝ) : EReal) = 0
  simp

/-- The prompt rows' padded products: row `l` of the 258 is row `l - 1` of the sequence. -/
theorem ref_pad_prompt (b : Fin 32) (l : Fin 258) (C : Fin 22016) : val_main_v6 (F := Ideal) A0 A1 (ix3 b l C)
    = if h : 1 ≤ l.val ∧ l.val - 1 < 256 then dotAt A0 A1 C ⟨b.val * 256 + (l.val - 1), by omega⟩ else 0 := by
  rw [← sitofp_zero]
  unfold dotAt
  pointwise [val_main_v6, val_main_v5, val_main_v2, val_main_v1, val_main_v0, val_main_call0_v0, val_main_c]

/-- The latent rows' padded products. -/
theorem ref_pad_latent (b : Fin 4) (l : Fin 1026) (C : Fin 22016) : val_main_v35 (F := Ideal) A0 A1 (ix3 b l C)
    = if h : 1 ≤ l.val ∧ l.val - 1 < 1024 then dotAt A0 A1 C ⟨8192 + (b.val * 1024 + (l.val - 1)), by omega⟩ else 0 := by
  rw [← sitofp_zero]
  unfold dotAt
  pointwise [val_main_v35, val_main_v34, val_main_v4, val_main_v3, val_main_v0, val_main_call2_v0, val_main_c_0]

/-- The prompt rows' convolution. -/
theorem ref_conv_prompt (b : Fin 32) (l : Fin 256) (C : Fin 22016) : val_main_v29 (F := Ideal) A0 A1 A2 A3 (ix3 b l C)
    = convAt A0 A1 A2 A3 ⟨b.val * 256 + l.val, by omega⟩ C := by
  have e : val_main_v29 (F := Ideal) A0 A1 A2 A3 (ix3 b l C)
      = val_main_v6 (F := Ideal) A0 A1 (ix3 b ⟨l.val, by omega⟩ C) * A2 (ix2 0 C) + val_main_v6 (F := Ideal) A0 A1 (ix3 b ⟨1 + l.val, by omega⟩ C) * A2 (ix2 1 C)
        + val_main_v6 (F := Ideal) A0 A1 (ix3 b ⟨2 + l.val, by omega⟩ C) * A2 (ix2 2 C) + A3 (ix1 C) := by
    pointwise [val_main_v29, val_main_v28, val_main_v27, val_main_v26, val_main_v25, val_main_v24, val_main_v23, val_main_v22, val_main_v21, val_main_v20,
      val_main_v19, val_main_v18, val_main_v17, val_main_v16, val_main_v15, val_main_v14, val_main_v13, val_main_v12, val_main_v11, val_main_v10, val_main_v9, val_main_v8, val_main_v7]
  have hs : seqLen (b.val * 256 + l.val) = 256 := if_pos (by omega)
  have hm : (b.val * 256 + l.val) % 256 = l.val := by omega
  rw [e, ref_pad_prompt, ref_pad_prompt, ref_pad_prompt]
  unfold convAt
  simp only [hs, hm]
  refine congrArg (· + _) (congrArg₂ (· + ·) (congrArg₂ (· + ·) (congrArg (· * _) ?_) (congrArg (· * _) ?_)) (congrArg (· * _) ?_))
  · by_cases h : l.val = 0
    · rw [if_pos h, dif_neg (by omega)]
    · rw [if_neg h, dif_pos (by omega)]
      exact congrArg _ (Fin.ext (show b.val * 256 + (l.val - 1) = b.val * 256 + l.val - 1 by omega))
  · rw [dif_pos (by omega)]
    exact congrArg _ (Fin.ext (show b.val * 256 + (1 + l.val - 1) = b.val * 256 + l.val by omega))
  · by_cases h : l.val = 256 - 1
    · rw [if_pos h, dif_neg (by omega)]
    · rw [if_neg h, dif_pos (by omega)]
      exact congrArg _ (Fin.ext (show b.val * 256 + (2 + l.val - 1) = (b.val * 256 + l.val + 1) % 12288 by omega))

/-- The latent rows' convolution. -/
theorem ref_conv_latent (b : Fin 4) (l : Fin 1024) (C : Fin 22016) : val_main_v58 (F := Ideal) A0 A1 A2 A3 (ix3 b l C)
    = convAt A0 A1 A2 A3 ⟨8192 + (b.val * 1024 + l.val), by omega⟩ C := by
  have e : val_main_v58 (F := Ideal) A0 A1 A2 A3 (ix3 b l C)
      = val_main_v35 (F := Ideal) A0 A1 (ix3 b ⟨l.val, by omega⟩ C) * A2 (ix2 0 C) + val_main_v35 (F := Ideal) A0 A1 (ix3 b ⟨1 + l.val, by omega⟩ C) * A2 (ix2 1 C)
        + val_main_v35 (F := Ideal) A0 A1 (ix3 b ⟨2 + l.val, by omega⟩ C) * A2 (ix2 2 C) + A3 (ix1 C) := by
    pointwise [val_main_v58, val_main_v57, val_main_v56, val_main_v55, val_main_v54, val_main_v53, val_main_v52, val_main_v51, val_main_v50, val_main_v49,
      val_main_v48, val_main_v47, val_main_v46, val_main_v45, val_main_v44, val_main_v43, val_main_v42, val_main_v41, val_main_v40, val_main_v39, val_main_v38, val_main_v37, val_main_v36]
  have hs : seqLen (8192 + (b.val * 1024 + l.val)) = 1024 := if_neg (by omega)
  have hm : (8192 + (b.val * 1024 + l.val)) % 1024 = l.val := by omega
  rw [e, ref_pad_latent, ref_pad_latent, ref_pad_latent]
  unfold convAt
  simp only [hs, hm]
  refine congrArg (· + _) (congrArg₂ (· + ·) (congrArg₂ (· + ·) (congrArg (· * _) ?_) (congrArg (· * _) ?_)) (congrArg (· * _) ?_))
  · by_cases h : l.val = 0
    · rw [if_pos h, dif_neg (by omega)]
    · rw [if_neg h, dif_pos (by omega)]
      exact congrArg _ (Fin.ext (show 8192 + (b.val * 1024 + (l.val - 1)) = 8192 + (b.val * 1024 + l.val) - 1 by omega))
  · rw [dif_pos (by omega)]
    exact congrArg _ (Fin.ext (show 8192 + (b.val * 1024 + (1 + l.val - 1)) = 8192 + (b.val * 1024 + l.val) by omega))
  · by_cases h : l.val = 1024 - 1
    · rw [if_pos h, dif_neg (by omega)]
    · rw [if_neg h, dif_pos (by omega)]
      exact congrArg _ (Fin.ext (show 8192 + (b.val * 1024 + (2 + l.val - 1)) = (8192 + (b.val * 1024 + l.val) + 1) % 12288 by omega))

/-- The prompt rows' gated product. -/
theorem ref_prompt (b : Fin 32) (l : Fin 256) (c : Fin 11008) : val_main_v33 (F := Ideal) A0 A1 A2 A3 (ix3 b l c)
    = upOut A0 A1 A2 A3 ⟨b.val * 256 + l.val, by omega⟩ c := by
  unfold upOut gated
  rw [← ref_conv_prompt, ← ref_conv_prompt, ← ofBits_one]
  pointwise [val_main_v33, val_main_v32, val_main_v31, val_main_v30, val_main_call1_v5, val_main_call1_v4, val_main_call1_v3, val_main_call1_v2, val_main_call1_v1, val_main_call1_v0,
    val_main_call1_cst, val_main_call1_cst_0]

/-- The latent rows' gated product. -/
theorem ref_latent (b : Fin 4) (l : Fin 1024) (c : Fin 11008) : val_main_v62 (F := Ideal) A0 A1 A2 A3 (ix3 b l c)
    = upOut A0 A1 A2 A3 ⟨8192 + (b.val * 1024 + l.val), by omega⟩ c := by
  unfold upOut gated
  rw [← ref_conv_latent, ← ref_conv_latent, ← ofBits_one]
  pointwise [val_main_v62, val_main_v61, val_main_v60, val_main_v59, val_main_call3_v5, val_main_call3_v4, val_main_call3_v3, val_main_call3_v2, val_main_call3_v1, val_main_call3_v0,
    val_main_call3_cst, val_main_call3_cst_0]

/-- The reference's result, element by element. -/
theorem ref_eq (R : Fin 12288) (c : Fin 11008) : val_main_v66 (F := Ideal) A0 A1 A2 A3 (ix2 R c) = upOut A0 A1 A2 A3 R c := by
  have e : val_main_v66 (F := Ideal) A0 A1 A2 A3 (ix2 R c)
      = if h : R.val < 8192 then val_main_v33 (F := Ideal) A0 A1 A2 A3 (ix3 ⟨R.val / 256, by omega⟩ ⟨R.val % 256, by omega⟩ c)
        else val_main_v62 (F := Ideal) A0 A1 A2 A3 (ix3 ⟨(R.val - 8192) / 1024, by omega⟩ ⟨(R.val - 8192) % 1024, by omega⟩ c) := by
    pointwise [val_main_v66, val_main_v65, val_main_v64, val_main_v63]
  rw [e]
  by_cases h : R.val < 8192
  · rw [dif_pos h, ref_prompt]
    simp only [Nat.div_add_mod']
  · rw [dif_neg h, ref_latent]
    simp only [Nat.div_add_mod', Nat.add_sub_cancel' (Nat.le_of_not_lt h)]

end Cert.Proof.Up

end
-- ==== Proof.Down.lean ====
/- The feed-forward part's second product: one grid point's block, the result array the blocks fill, and the reference's
   result, each index by index; the two arrays are equal on every argument. -/
module

public import proofs.«01_k».proof.Proof.Gen.Kernel3Ideal.Value
public import proofs.«01_k».proof.Proof.Gen.Reference3Ideal.Read
public import Idealize.ShloMosaic.Lib.StableHlo.ReadAt
public import Idealize.ShloMosaic.Lib.Pointwise

@[expose] public section

set_option maxRecDepth 16384

noncomputable section

namespace Cert.Proof.Down

open Idealize.ShloMosaic Idealize.ShloMosaic.TcCoe Idealize.SL.Sem Cert.Kernel3Ideal Cert.Kernel3Ideal.Gen
open Idealize.ShloMosaic.Pointwise
open Idealize.ShloMosaic.Pipeline (Dat)

/-- Which row of the modulation gates a row of the result: row 0 for the 8192 prompt rows, then one for each of the four
    latent sequences of 1024 rows. -/
def gateRow (r : Fin 12288) : Fin 8 := ⟨if r.val < 8192 then 0 else 1 + (r.val - 8192) / 1024, by split <;> omega⟩

/-- The element at row `r`, column `c`: the residual plus the gate times the product. -/
def downOut (A0 : Vec Ideal S12288x11008 .bf16) (A1 : Vec Ideal S11008x4096 .f32) (A2 : Vec Ideal S12288x4096 .f32)
    (A3 : Vec Ideal S8x1x24576 .f32) (r : Fin 12288) (c : Fin 4096) : EReal :=
  A2 (ix2 r c) + A3 (ix3 (gateRow r) 0 ⟨20480 + c.val, by omega⟩) * ∑ k, A0 (ix2 r k) * A1 (ix2 k c)

/-- The value one grid point stores, element by element. -/
theorem pay_apply (x : Vec Ideal S512x512 .f32) (g : Vec Ideal S1x1x512 .f32) (a : Vec Ideal S512x11008 .bf16)
    (w : Vec Ideal S11008x512 .bf16) (r : Fin 512) (c : Fin 512) : k0_pay1 x g a w (ix2 r c)
      = x (ix2 r c) + g (ix3 0 0 c) * ∑ k, a (ix2 r k) * w (ix2 k c) := by
  pointwise [k0_pay1]

/-- The element at row `r`, column `c` of the block one grid point writes, from the four blocks it reads. -/
def downAt (x0 : Vec Ideal S512x11008 .bf16) (x1 : Vec Ideal S11008x512 .bf16) (x2 : Vec Ideal S512x512 .f32)
    (x3 : Vec Ideal S1x1x512 .f32) (r c : Fin 512) : EReal :=
  x2 (ix2 r c) + x3 (ix3 0 0 c) * ∑ k, x0 (ix2 r k) * x1 (ix2 k c)

/-- The block one grid point writes, element by element. -/
theorem out_apply (x0 : Vec Ideal S512x11008 .bf16) (x1 : Vec Ideal S11008x512 .bf16) (x2 : Vec Ideal S512x512 .f32)
    (x3 : Vec Ideal S1x1x512 .f32) (r : Fin 512) (c : Fin 512) :
    out0_4 x0 x1 x2 x3 (ix2 r c) = downAt x0 x1 x2 x3 r c := by
  unfold out0_4 downAt
  refine View.canon_apply_of_pieces (Val := Elt Ideal) (e := .f32)
    (fun i : S512x512.Idx => x2 (ix2 (i 0) (i 1)) + x3 (ix3 0 0 (i 1)) * ∑ k, x0 (ix2 (i 0) k) * x1 (ix2 k (i 1))) _
    (fun p hp j => ?_) _ (cover0_4 _ _)
  simp only [List.mem_cons, List.not_mem_nil, or_false] at hp
  subst hp
  obtain ⟨r, c, rfl⟩ : ∃ (r : Fin 512) (c : Fin 512), j = ix2 r c := ⟨j 0, j 1, ValueIdx.eq_ix2 j⟩
  have he : r0_0.emb (ix2 r c) = (ix2 r c : S512x512.Idx) := by
    funext a
    match a with
    | ⟨0, _⟩ => exact Fin.ext (show 0 + 1 * r.val = r.val by omega)
    | ⟨1, _⟩ => exact Fin.ext (show 0 + 1 * c.val = c.val by omega)
  refine (pay_apply _ _ _ _ r c).trans ?_
  simp only [he]
  pointwise []

variable (m : (ℓ : Loc nD τ sig) → Buf (Elt Ideal) ℓ)

/-- The result array as one function of the arguments. -/
def result (c : Dev nD) : Buf (Elt Ideal) ((c : Thread nD τ).loc main_v1) := fun i : S12288x4096.Idx =>
  downOut (m ((c : Thread nD τ).loc main_arg0)) (m ((c : Thread nD τ).loc main_arg1)) (m ((c : Thread nD τ).loc main_arg2))
    (m ((c : Thread nD τ).loc main_arg3)) (i 0) (i 1)

/-- Where each window's block lies at point `t`: block row `t / 8`, block column `t % 8`. -/
theorem idx_facts : ∀ t : Fin cfg0.N,
    (win0_0.index t 0 = t.val / 8 ∧ win0_0.index t 1 = 0)
    ∧ (win0_1.index t 0 = 0 ∧ win0_1.index t 1 = t.val % 8)
    ∧ (win0_2.index t 0 = t.val / 8 ∧ win0_2.index t 1 = t.val % 8)
    ∧ (win0_3.index t 0 = (if t.val / 8 < 16 then 0 else 1 + (t.val / 8 - 16) / 2) ∧ win0_3.index t 1 = 0 ∧ win0_3.index t 2 = 40 + t.val % 8)
    ∧ (win0_4.index t 0 = t.val / 8 ∧ win0_4.index t 1 = t.val % 8) := by
  decide +kernel

/-- The grid has 192 points. -/
theorem lt_N (t : Fin cfg0.N) : t.val < 192 := t.isLt

/-- The activations' block at point `t`. -/
theorem read0 (c : Dev nD) (t : Fin cfg0.N) (r : Fin 512) (k : Fin 11008) : iblk m c 0 t (ix2 r k)
    = m ((c : Thread nD τ).loc main_arg0) (ix2 ⟨t.val / 8 * 512 + r.val, by have := lt_N t; omega⟩ k) := by
  obtain ⟨⟨h0, h1⟩, -⟩ := idx_facts t
  unfold iblk
  rw [View.read_apply]
  show V m c main_arg0 _ = _
  rw [V_main_arg0]
  congr 1
  funext a
  apply Fin.ext
  match a with
  | ⟨0, _⟩ => show win0_0.index t 0 * 512 + 1 * r.val = t.val / 8 * 512 + r.val; rw [h0]; omega
  | ⟨1, _⟩ => show win0_0.index t 1 * 11008 + 1 * k.val = k.val; rw [h1]; omega

/-- The weights' block at point `t`. -/
theorem read1 (c : Dev nD) (t : Fin cfg0.N) (k : Fin 11008) (e : Fin 512) : iblk m c 1 t (ix2 k e)
    = m ((c : Thread nD τ).loc main_arg1) (ix2 k ⟨t.val % 8 * 512 + e.val, by omega⟩) := by
  obtain ⟨-, ⟨h0, h1⟩, -⟩ := idx_facts t
  have hw : ∀ (i : Fin 11008) (j : Fin 4096), V m c main_v0 (ix2 i j) = m ((c : Thread nD τ).loc main_arg1) (ix2 i j) := fun i j => by
    unfold V
    after_reads_at
  rw [← hw]
  unfold iblk
  rw [View.read_apply]
  show V m c main_v0 _ = _
  congr 1
  funext a
  apply Fin.ext
  match a with
  | ⟨0, _⟩ => show win0_1.index t 0 * 11008 + 1 * k.val = k.val; rw [h0]; omega
  | ⟨1, _⟩ => show win0_1.index t 1 * 512 + 1 * e.val = t.val % 8 * 512 + e.val; rw [h1]; omega

/-- The residual's block at point `t`. -/
theorem read2 (c : Dev nD) (t : Fin cfg0.N) (r : Fin 512) (e : Fin 512) : iblk m c 2 t (ix2 r e)
    = m ((c : Thread nD τ).loc main_arg2) (ix2 ⟨t.val / 8 * 512 + r.val, by have := lt_N t; omega⟩ ⟨t.val % 8 * 512 + e.val, by omega⟩) := by
  obtain ⟨-, -, ⟨h0, h1⟩, -⟩ := idx_facts t
  unfold iblk
  rw [View.read_apply]
  show V m c main_arg2 _ = _
  rw [V_main_arg2]
  congr 1
  funext a
  apply Fin.ext
  match a with
  | ⟨0, _⟩ => show win0_2.index t 0 * 512 + 1 * r.val = t.val / 8 * 512 + r.val; rw [h0]; omega
  | ⟨1, _⟩ => show win0_2.index t 1 * 512 + 1 * e.val = t.val % 8 * 512 + e.val; rw [h1]; omega

/-- The gate's block at point `t`: a block of 512 rows lies in one sequence, so one modulation row gates all of it. -/
theorem read3 (c : Dev nD) (t : Fin cfg0.N) (r : Fin 512) (e : Fin 512) : iblk m c 3 t (ix3 0 0 e)
    = m ((c : Thread nD τ).loc main_arg3) (ix3 (gateRow ⟨t.val / 8 * 512 + r.val, by have := lt_N t; omega⟩) 0 ⟨20480 + (t.val % 8 * 512 + e.val), by omega⟩) := by
  obtain ⟨-, -, -, ⟨h0, h1, h2⟩, -⟩ := idx_facts t
  unfold iblk
  rw [View.read_apply]
  show V m c main_arg3 _ = _
  rw [V_main_arg3]
  congr 1
  funext a
  apply Fin.ext
  match a with
  | ⟨0, _⟩ =>
    show win0_3.index t 0 * 1 + 1 * 0 = if t.val / 8 * 512 + r.val < 8192 then 0 else 1 + (t.val / 8 * 512 + r.val - 8192) / 1024
    rw [h0]
    by_cases h : t.val / 8 < 16
    · rw [if_pos h, if_pos (by omega)]
    · rw [if_neg h, if_neg (by omega)]; omega
  | ⟨1, _⟩ => show win0_3.index t 1 * 1 + 1 * 0 = 0; rw [h1]
  | ⟨2, _⟩ => show win0_3.index t 2 * 512 + 1 * e.val = 20480 + (t.val % 8 * 512 + e.val); rw [h2]; omega

/-- The block that point `t` computes, element by element. -/
theorem block_eq (c : Dev nD) (t : Fin cfg0.N) (r e : Fin 512) :
    downAt (iblk m c 0 t) (iblk m c 1 t) (iblk m c 2 t) (iblk m c 3 t) r e
      = downOut (m ((c : Thread nD τ).loc main_arg0)) (m ((c : Thread nD τ).loc main_arg1)) (m ((c : Thread nD τ).loc main_arg2))
          (m ((c : Thread nD τ).loc main_arg3)) ⟨t.val / 8 * 512 + r.val, by have := lt_N t; omega⟩ ⟨t.val % 8 * 512 + e.val, by omega⟩ := by
  unfold downAt downOut
  simp only [read0, read1, read2, read3 m c t r e]

/-- What point `t` writes back is its block of `result`. -/
theorem flushed_eq (c : Dev nD) (t : Fin cfg0.N) :
    (dats m 0 c).flushed 4 t = ((cfg0.win 4).blk t).view.read (Elt Ideal) (result m c) := by
  obtain ⟨-, -, -, -, h0, h1⟩ := idx_facts t
  have hN := lt_N t
  rw [Cert.Kernel3Ideal.Value.flushed4]
  funext j
  rw [View.read_apply]
  obtain ⟨r, e, rfl⟩ : ∃ (r : Fin 512) (e : Fin 512), j = (ix2 r e : S512x512.Idx) := ⟨j 0, j 1, ValueIdx.eq_ix2 j⟩
  refine (out_apply (iblk m c 0 t) (iblk m c 1 t) (iblk m c 2 t) (iblk m c 3 t) r e).trans ?_
  refine (block_eq m c t r e).trans ?_
  show _ = result m c _
  unfold result
  refine congr (congrArg (downOut _ _ _ _) ?_) ?_
  · exact Fin.ext (show t.val / 8 * 512 + r.val = win0_4.index t 0 * 512 + 1 * r.val by rw [h0]; omega)
  · exact Fin.ext (show t.val % 8 * 512 + e.val = win0_4.index t 1 * 512 + 1 * e.val by rw [h1]; omega)

/-- The point whose block holds index `i`. -/
theorem covered (i : S12288x4096.Idx) : ∃ t : Fin cfg0.N, (cfg0.win 4).flush t = true ∧ i ∈ ((cfg0.win 4).blk t).view.set := by
  have b0 : (i 0 : Nat) < 12288 := (i 0).isLt
  have b1 : (i 1 : Nat) < 4096 := (i 1).isLt
  let t : Fin cfg0.N := ⟨(i 0 : Nat) / 512 * 8 + (i 1 : Nat) / 512, by show _ < 192; omega⟩
  have ht : t.val = (i 0 : Nat) / 512 * 8 + (i 1 : Nat) / 512 := rfl
  obtain ⟨-, -, -, -, h0, h1⟩ := idx_facts t
  refine ⟨t, flush0_4 t, ?_⟩
  show i ∈ ((View.whole main_v1).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + 512; rw [h0]; omega
  | ⟨1, _⟩ => show win0_4.index t 1 * 512 ≤ (i 1 : Nat) ∧ (i 1 : Nat) < win0_4.index t 1 * 512 + 512; rw [h1]; omega

/-- The result array ends holding `result`. -/
theorem final_eq (c : Dev nD) : (dats m 0 c).arrAt 4 cfg0.N = result m c :=
  (dats m 0 c).arrAt_eq_of_cover 4 (result m c) (fun t _ => flushed_eq m c t) covered

open Cert.Reference3Ideal.Read in
/-- The reference's result, element by element. -/
theorem ref_eq (A0 : Vec Ideal S12288x11008 .bf16) (A1 : Vec Ideal S11008x4096 .f32) (A2 : Vec Ideal S12288x4096 .f32)
    (A3 : Vec Ideal S8x1x24576 .f32) (r : Fin 12288) (c : Fin 4096) :
    val_main_v22 (F := Ideal) A0 A1 A2 A3 (ix2 r c) = downOut A0 A1 A2 A3 r c := by
  unfold downOut gateRow
  pointwise [val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5]
  by_cases h : r.val < 8192
  · simp only [dif_pos h, if_pos h, Nat.div_add_mod']
    rfl
  · simp only [dif_neg h, if_neg h, Nat.div_add_mod', Nat.add_sub_cancel' (Nat.le_of_not_lt h)]

end Cert.Proof.Down

end
-- ==== Proof.InDefs.lean ====
/- The first layer's input projection: its mathematics, number by number. A row is normalised, scaled and shifted by the
   modulation of its sequence's condition, and multiplied with the projection's weights. -/
module

public import proofs.«01_k».proof.Proof.Gen.Kernel4Ideal.Frame
public import Idealize.ShloMosaic.Lib.StableHlo.ReadAt
public import Idealize.ShloMosaic.Lib.Pointwise
public import Idealize.ShloMosaic.Lib.Pipeline.Value

@[expose] public section

set_option maxRecDepth 16384

noncomputable section

namespace Cert.Proof.In

open Idealize.ShloMosaic Idealize.ShloMosaic.TcCoe Idealize.SL.Sem Cert.Kernel4Ideal Cert.Kernel4Ideal.Gen
open Idealize.ShloMosaic.Pointwise
open Idealize.ShloMosaic.Pipeline (Dat)

/-- The buffer contents of every core at a point of the run. -/
abbrev Contents := (c : Dev nD) → (b : Ref sig .tc) → Buf (Elt Ideal) ((c : Thread nD τ).loc b)

/-- A number times its logistic. -/
def silu (x : EReal) : EReal := x * Ideal.div 1 (1 + Ideal.exp (-x))

/-- One number of a modulation: a condition's row through `silu`, times a column of weights, plus an offset. -/
def modAt (cond : Fin 4096 → EReal) (w : Fin 4096 → EReal) (b : EReal) : EReal := (∑ k, silu (cond k) * w k) + b

/-- One number of a normalised, scaled and shifted row: `a` the row, `k` the column, `g` the gain, `sh` the shift and
    `sc` the scale there. The two constants are the row's length and the small number under the root. -/
def normAt (a : Fin 4096 → EReal) (k : Fin 4096) (g sh sc : EReal) : EReal :=
  a k * Ideal.rsqrt (Ideal.div (∑ e, a e * a e) (Ideal.ofBits .f32 0x45800000#32) + Ideal.ofBits .f32 0x358637BD#32) * g * (1 + sc) + sh

/-- One number of the projection: row `R` of the rows times column `C` of the weights. -/
def projAt (H : Vec Ideal S12288x4096 .bf16) (W : Vec Ideal S4096x5120 .f32) (R : Fin 12288) (C : Fin 5120) : EReal :=
  ∑ k, H (ix2 R k) * W (ix2 k C)

end Cert.Proof.In

end
-- ==== Proof.InSpec.lean ====
/- The input projection of both streams as functions of the eight argument arrays. -/
module

public import proofs.«01_k».proof.Proof.InDefs

@[expose] public section

set_option maxRecDepth 16384

noncomputable section

namespace Cert.Proof.In

open Idealize.ShloMosaic Idealize.ShloMosaic.TcCoe Idealize.SL.Sem Cert.Kernel4Ideal Cert.Kernel4Ideal.Gen
open Idealize.ShloMosaic.Pointwise

/-- One number of a normalised prompt row: `x0` the prompts, `x3` their condition, `x4` and `x5` the modulation's weights and
    offsets, `x6` the gain. The shift is the modulation's first part, the scale its second. -/
def promptH (x0 : Vec Ideal S32x256x4096 .f32) (x3 : Vec Ideal S4096 .f32) (x4 : Vec Ideal S4096x24576 .f32) (x5 : Vec Ideal S24576 .f32)
    (x6 : Vec Ideal S4096 .f32) (b : Fin 32) (l : Fin 256) (k : Fin 4096) : EReal :=
  normAt (fun e => x0 (ix3 b l e)) k (x6 (ix1 k))
    (modAt (fun e => x3 (ix1 e)) (fun e => x4 (ix2 e ⟨k.val, by omega⟩)) (x5 (ix1 ⟨k.val, by omega⟩)))
    (modAt (fun e => x3 (ix1 e)) (fun e => x4 (ix2 e ⟨4096 + k.val, by omega⟩)) (x5 (ix1 ⟨4096 + k.val, by omega⟩)))

/-- One number of a normalised latent row: `x1` the latent sequences, `x2` their conditions, one each. -/
def latentH (x1 : Vec Ideal S4x1024x4096 .f32) (x2 : Vec Ideal S4x4096 .f32) (x4 : Vec Ideal S4096x24576 .f32) (x5 : Vec Ideal S24576 .f32)
    (x6 : Vec Ideal S4096 .f32) (b : Fin 4) (l : Fin 1024) (k : Fin 4096) : EReal :=
  normAt (fun e => x1 (ix3 b l e)) k (x6 (ix1 k))
    (modAt (fun e => x2 (ix2 b e)) (fun e => x4 (ix2 e ⟨k.val, by omega⟩)) (x5 (ix1 ⟨k.val, by omega⟩)))
    (modAt (fun e => x2 (ix2 b e)) (fun e => x4 (ix2 e ⟨4096 + k.val, by omega⟩)) (x5 (ix1 ⟨4096 + k.val, by omega⟩)))

/-- One number of the rows of both streams, the prompts' first. -/
def rowH (x0 : Vec Ideal S32x256x4096 .f32) (x1 : Vec Ideal S4x1024x4096 .f32) (x2 : Vec Ideal S4x4096 .f32) (x3 : Vec Ideal S4096 .f32)
    (x4 : Vec Ideal S4096x24576 .f32) (x5 : Vec Ideal S24576 .f32) (x6 : Vec Ideal S4096 .f32) (R : Fin 12288) (k : Fin 4096) : EReal :=
  if h : R.val < 8192 then promptH x0 x3 x4 x5 x6 ⟨R.val / 256, by omega⟩ ⟨R.val % 256, by omega⟩ k
  else latentH x1 x2 x4 x5 x6 ⟨(R.val - 8192) / 1024, by omega⟩ ⟨(R.val - 8192) % 1024, by omega⟩ k

/-- One number of the projection: row `R` of both streams, column `C` of the weights `x7`. -/
def rowP (x0 : Vec Ideal S32x256x4096 .f32) (x1 : Vec Ideal S4x1024x4096 .f32) (x2 : Vec Ideal S4x4096 .f32) (x3 : Vec Ideal S4096 .f32)
    (x4 : Vec Ideal S4096x24576 .f32) (x5 : Vec Ideal S24576 .f32) (x6 : Vec Ideal S4096 .f32) (x7 : Vec Ideal S4096x5120 .f32)
    (R : Fin 12288) (C : Fin 5120) : EReal :=
  ∑ k, rowH x0 x1 x2 x3 x4 x5 x6 R k * x7 (ix2 k C)

/-- A row of both streams that is prompt `b`'s row `l`. -/
theorem rowH_prompt (x0 : Vec Ideal S32x256x4096 .f32) (x1 : Vec Ideal S4x1024x4096 .f32) (x2 : Vec Ideal S4x4096 .f32) (x3 : Vec Ideal S4096 .f32)
    (x4 : Vec Ideal S4096x24576 .f32) (x5 : Vec Ideal S24576 .f32) (x6 : Vec Ideal S4096 .f32) (R : Fin 12288) (b : Fin 32) (l : Fin 256)
    (hR : R.val = b.val * 256 + l.val) (k : Fin 4096) : rowH x0 x1 x2 x3 x4 x5 x6 R k = promptH x0 x3 x4 x5 x6 b l k := by
  have hb : (⟨R.val / 256, by omega⟩ : Fin 32) = b := Fin.ext (by show R.val / 256 = b.val; omega)
  have hl : (⟨R.val % 256, by omega⟩ : Fin 256) = l := Fin.ext (by show R.val % 256 = l.val; omega)
  unfold rowH
  rw [dif_pos (by omega), hb, hl]

/-- A row of both streams that is latent sequence `b`'s row `l`. -/
theorem rowH_latent (x0 : Vec Ideal S32x256x4096 .f32) (x1 : Vec Ideal S4x1024x4096 .f32) (x2 : Vec Ideal S4x4096 .f32) (x3 : Vec Ideal S4096 .f32)
    (x4 : Vec Ideal S4096x24576 .f32) (x5 : Vec Ideal S24576 .f32) (x6 : Vec Ideal S4096 .f32) (R : Fin 12288) (b : Fin 4) (l : Fin 1024)
    (hR : R.val = 8192 + (b.val * 1024 + l.val)) (k : Fin 4096) : rowH x0 x1 x2 x3 x4 x5 x6 R k = latentH x1 x2 x4 x5 x6 b l k := by
  have hb : (⟨(R.val - 8192) / 1024, by omega⟩ : Fin 4) = b := Fin.ext (by show (R.val - 8192) / 1024 = b.val; omega)
  have hl : (⟨(R.val - 8192) % 1024, by omega⟩ : Fin 1024) = l := Fin.ext (by show (R.val - 8192) % 1024 = l.val; omega)
  unfold rowH
  rw [dif_neg (by omega), hb, hl]

end Cert.Proof.In

end
-- ==== Proof.InCond.lean ====
/- The conditions' table: row 0 is the prompt's condition, rows 1 to 4 the latent sequences'. -/
module

public import proofs.«01_k».proof.Proof.InDefs
public import Idealize.ShloMosaic.Lib.Routing.OpsSet
public import Idealize.ShloMosaic.Lib.Routing.OpsOne

@[expose] public section

set_option maxRecDepth 16384

noncomputable section

namespace Cert.Proof.In.Cond

open Idealize.ShloMosaic Idealize.ShloMosaic.TcCoe Idealize.SL.Sem Cert.Kernel4Ideal Cert.Kernel4Ideal.Gen
open Idealize.ShloMosaic.Pointwise Idealize.ShloMosaic.Routing

/-- The dimension numbers that place one row. -/
abbrev dRow : ScatterDims S8x4096 S1 S4096 := scatter_S8x4096_S1_S4096_0_0_0_0

/-- The dimension numbers that place four rows. -/
abbrev dRows : ScatterDims S8x4096 S1 S4x4096 := scatter_S8x4096_S1_S4x4096_01_n_0_0

/-- Placing one row at the row an index word names: entry `k` lands there, in column `k`. -/
theorem lands_row (idx : IVec S1 32) (q : Fin 8) (hq : (idx (ix1 0)).toInt = (q.val : Int)) (k : Fin 4096) (r : Fin 8) (e : Fin 4096) :
    dRow.resultIdx? (ix1 k : S4096.Idx) idx = some (ix2 r e : S8x4096.Idx) ↔ r = q ∧ k = e := by
  have s0 : dRow.start (ix1 k : S4096.Idx) idx 0 = (q.val : Int) := by
    refine Eq.trans ?_ hq
    unfold ScatterDims.start
    rw [dif_pos (by decide)]
    refine congrArg (fun t => (idx t).toInt) ?_
    funext b
    match b with
    | ⟨0, _⟩ => exact Subsingleton.elim (α := Fin 1) _ _
  have s1 : dRow.start (ix1 k : S4096.Idx) idx 1 = 0 := by
    unfold ScatterDims.start
    exact dif_neg (by decide)
  have w0 : dRow.window (ix1 k : S4096.Idx) 0 = 0 := by
    unfold ScatterDims.window
    exact dif_neg (by decide)
  have w1 : dRow.window (ix1 k : S4096.Idx) 1 = k.val := by
    unfold ScatterDims.window
    rw [dif_pos (by decide)]
    exact congrArg (fun t => ((ix1 k : S4096.Idx) t).val) (Subsingleton.elim (α := Fin 1) _ 0)
  refine (resultIdx?_ix2 dRow _ idx r e).trans ?_
  rw [Fin.ext_iff, Fin.ext_iff, s0, w0, s1, w1]
  omega

/-- Placing four rows from the row an index word names. -/
theorem lands_rows (idx : IVec S1 32) (q : Fin 8) (hq : (idx (ix1 0)).toInt = (q.val : Int)) (a : Fin 4) (k : Fin 4096) (r : Fin 8) (e : Fin 4096) :
    dRows.resultIdx? (ix2 a k : S4x4096.Idx) idx = some (ix2 r e : S8x4096.Idx) ↔ r.val = q.val + a.val ∧ k = e := by
  have s0 : dRows.start (ix2 a k : S4x4096.Idx) idx 0 = (q.val : Int) := by
    refine Eq.trans ?_ hq
    unfold ScatterDims.start
    rw [dif_pos (by decide)]
    refine congrArg (fun t => (idx t).toInt) ?_
    funext b
    match b with
    | ⟨0, _⟩ => exact Subsingleton.elim (α := Fin 1) _ _
  have s1 : dRows.start (ix2 a k : S4x4096.Idx) idx 1 = 0 := by
    unfold ScatterDims.start
    exact dif_neg (by decide)
  have w0 : dRows.window (ix2 a k : S4x4096.Idx) 0 = a.val := by
    unfold ScatterDims.window
    rw [dif_pos (by decide)]
    rfl
  have w1 : dRows.window (ix2 a k : S4x4096.Idx) 1 = k.val := by
    unfold ScatterDims.window
    rw [dif_pos (by decide)]
    rfl
  refine (resultIdx?_ix2 dRows _ idx r e).trans ?_
  rw [Fin.ext_iff, s0, w0, s1, w1]
  omega

/-- Row 0 of the table before the four rows are placed. -/
theorem row_hit (x : Vec Ideal S8x4096 .f32) (idx : IVec S1 32) (q : Fin 8) (hq : (idx (ix1 0)).toInt = (q.val : Int)) (u : Vec Ideal S4096 .f32) (e : Fin 4096) :
    Host.scatter dRow (fun _ b => b) x idx u (ix2 q e : S8x4096.Idx) = u (ix1 e) :=
  scatter_set_hit dRow x idx u _ _
    (fun j hj => congrArg u ((ValueIdx.eq_ix1 j).trans (congrArg ix1
      ((lands_row idx q hq (j 0) q e).1 ((congrArg (fun t => dRow.resultIdx? t idx) (ValueIdx.eq_ix1 j).symm).trans hj)).2)))
    (ix1 e) ((lands_row idx q hq e q e).2 ⟨rfl, rfl⟩)

/-- A row that the four do not reach keeps what it held. -/
theorem rows_miss (x : Vec Ideal S8x4096 .f32) (idx : IVec S1 32) (q : Fin 8) (hq : (idx (ix1 0)).toInt = (q.val : Int)) (u : Vec Ideal S4x4096 .f32)
    (r : Fin 8) (hr : r.val < q.val) (e : Fin 4096) : Host.scatter dRows (fun _ b => b) x idx u (ix2 r e : S8x4096.Idx) = x (ix2 r e) :=
  scatter_set_miss dRows x idx u _ fun j hj => by
    have := ((lands_rows idx q hq (j 0) (j 1) r e).1 ((congrArg (fun t => dRows.resultIdx? t idx) (ValueIdx.eq_ix2 j).symm).trans hj)).1
    omega

/-- The rows the four reach hold them. -/
theorem rows_hit (x : Vec Ideal S8x4096 .f32) (idx : IVec S1 32) (q : Fin 8) (hq : (idx (ix1 0)).toInt = (q.val : Int)) (u : Vec Ideal S4x4096 .f32)
    (a : Fin 4) (r : Fin 8) (hr : r.val = q.val + a.val) (e : Fin 4096) :
    Host.scatter dRows (fun _ b => b) x idx u (ix2 r e : S8x4096.Idx) = u (ix2 a e) :=
  scatter_set_hit dRows x idx u _ _
    (fun j hj => by
      have h := (lands_rows idx q hq (j 0) (j 1) r e).1 ((congrArg (fun t => dRows.resultIdx? t idx) (ValueIdx.eq_ix2 j).symm).trans hj)
      have h0 : j 0 = a := Fin.ext (by have := h.1; omega)
      exact congrArg u ((ValueIdx.eq_ix2 j).trans (by rw [h0, h.2]; rfl)))
    (ix2 a e) ((lands_rows idx q hq a e r e).2 ⟨hr, rfl⟩)

variable (m : (ℓ : Loc nD τ sig) → Buf (Elt Ideal) ℓ) (ρ : Dev nD → PrngReg)

/-- Row 0 of the table is the prompt's condition. -/
theorem cond0 (c : Dev nD) (e : Fin 4096) : V1 m ρ c main_v4 (ix2 0 e) = m ((c : Thread nD τ).loc main_arg3) (ix1 e) := by
  show StableHlo.after hostOps0 (W0 m ρ c) _ _ = _
  after_reads_at
  exact (rows_miss _ _ 1 (by rfl) _ 0 (by decide) e).trans (row_hit _ _ 0 (by rfl) _ e)

/-- Rows 1 to 4 of the table are the latent sequences' conditions. -/
theorem cond1 (c : Dev nD) (r : Fin 8) (a : Fin 4) (hr : r.val = 1 + a.val) (e : Fin 4096) :
    V1 m ρ c main_v4 (ix2 r e) = m ((c : Thread nD τ).loc main_arg2) (ix2 a e) := by
  show StableHlo.after hostOps0 (W0 m ρ c) _ _ = _
  after_reads_at
  exact rows_hit _ _ 1 (by rfl) _ a r hr e

/-- The offsets as a row. -/
theorem offs (c : Dev nD) (j : Fin 24576) : V1 m ρ c main_v5 (ix2 0 j) = m ((c : Thread nD τ).loc main_arg5) (ix1 j) := by
  show StableHlo.after hostOps0 (W0 m ρ c) _ _ = _
  after_reads_at

/-- The prompt rows, one after another. -/
theorem v8_at (c : Dev nD) (R : Fin 8192) (e : Fin 4096) :
    V3 m ρ c main_v8 (ix2 R e) = m ((c : Thread nD τ).loc main_arg0) (ix3 ⟨R.val / 256, by omega⟩ ⟨R.val % 256, by omega⟩ e) := by
  show StableHlo.after hostOps1 (W2 m ρ c) _ _ = _
  after_reads_at
  exact congrFun (W2_args m ρ c main_arg0 (by decide)) _

/-- The latent rows, one after another. -/
theorem v9_at (c : Dev nD) (R : Fin 4096) (e : Fin 4096) :
    V3 m ρ c main_v9 (ix2 R e) = m ((c : Thread nD τ).loc main_arg1) (ix3 ⟨R.val / 1024, by omega⟩ ⟨R.val % 1024, by omega⟩ e) := by
  show StableHlo.after hostOps1 (W2 m ρ c) _ _ = _
  after_reads_at
  exact congrFun (W2_args m ρ c main_arg1 (by decide)) _

/-- The gain as a row. -/
theorem v10_at (c : Dev nD) (e : Fin 4096) : V3 m ρ c main_v10 (ix2 0 e) = m ((c : Thread nD τ).loc main_arg6) (ix1 e) := by
  show StableHlo.after hostOps1 (W2 m ρ c) _ _ = _
  after_reads_at
  exact congrFun (W2_args m ρ c main_arg6 (by decide)) _

/-- The modulation with an axis more. -/
theorem v7_at (c : Dev nD) (r : Fin 8) (j : Fin 24576) : V3 m ρ c main_v7 (ix3 r 0 j) = V2 m ρ c main_v6 (ix2 r j) := by
  show StableHlo.after hostOps1 (W2 m ρ c) _ _ = _
  after_reads_at

end Cert.Proof.In.Cond

end
-- ==== Proof.InMod.lean ====
/- The first layer's modulation: a row of numbers for each of eight conditions, index by index. -/
module

public import proofs.«01_k».proof.Proof.InDefs

@[expose] public section

set_option maxRecDepth 16384

noncomputable section

namespace Cert.Proof.In.Mod

open Idealize.ShloMosaic Idealize.ShloMosaic.TcCoe Idealize.SL.Sem Cert.Kernel4Ideal Cert.Kernel4Ideal.Gen
open Idealize.ShloMosaic.Pointwise
open Idealize.ShloMosaic.Pipeline (Dat)

/-- The value one grid point stores, element by element. -/
theorem pay_apply (x : Vec Ideal S8x4096 .f32) (w : Vec Ideal S4096x512 .f32) (b : Vec Ideal S1x512 .f32) (s : Fin 8) (e : Fin 512) :
    k0_pay1 x w b (ix2 s e) = modAt (fun k => x (ix2 s k)) (fun k => w (ix2 k e)) (b (ix2 0 e)) := by
  unfold modAt silu
  pointwise [k0_pay1]
  simp only [zero_sub]

/-- The block one grid point writes, element by element. -/
theorem out_apply (x0 : Vec Ideal S8x4096 .f32) (x1 : Vec Ideal S4096x512 .f32) (x2 : Vec Ideal S1x512 .f32) (s : Fin 8) (e : Fin 512) :
    out0_3 x0 x1 x2 (ix2 s e) = modAt (fun k => x0 (ix2 s k)) (fun k => x1 (ix2 k e)) (x2 (ix2 0 e)) := by
  unfold out0_3
  refine View.canon_apply_of_pieces (Val := Elt Ideal) (e := .f32)
    (fun i : S8x512.Idx => modAt (fun k => x0 (ix2 (i 0) k)) (fun k => x1 (ix2 k (i 1))) (x2 (ix2 0 (i 1)))) _
    (fun p hp j => ?_) _ (cover0_3 _ _)
  simp only [List.mem_cons, List.not_mem_nil, or_false] at hp
  subst hp
  obtain ⟨s, e, rfl⟩ : ∃ (s : Fin 8) (e : Fin 512), j = ix2 s e := ⟨j 0, j 1, ValueIdx.eq_ix2 j⟩
  have he : r0_3.emb (ix2 s e) = (ix2 s e : S8x512.Idx) := by
    funext a
    match a with
    | ⟨0, _⟩ => exact Fin.ext (show 0 + 1 * s.val = s.val by omega)
    | ⟨1, _⟩ => exact Fin.ext (show 0 + 1 * e.val = e.val by omega)
  refine (pay_apply _ _ _ s e).trans ?_
  simp only [he]
  pointwise []

variable (V : Contents)

/-- The modulation as one function of the three arrays it reads. -/
def result (c : Dev nD) : Buf (Elt Ideal) ((c : Thread nD τ).loc main_v6) := fun i : S8x24576.Idx =>
  modAt (fun k => V c main_v4 (ix2 (i 0) k)) (fun k => V c main_arg4 (ix2 k (i 1))) (V c main_v5 (ix2 0 (i 1)))

/-- Where each window's block lies at point `t`: block column `t`. -/
theorem idx_facts : ∀ t : Fin cfg0.N,
    (win0_0.index t 0 = 0 ∧ win0_0.index t 1 = 0)
    ∧ (win0_1.index t 0 = 0 ∧ win0_1.index t 1 = t.val)
    ∧ (win0_2.index t 0 = 0 ∧ win0_2.index t 1 = t.val)
    ∧ (win0_3.index t 0 = 0 ∧ win0_3.index t 1 = t.val) := by
  decide +kernel

/-- The grid has 48 points. -/
theorem lt_N (t : Fin cfg0.N) : t.val < 48 := t.isLt

/-- The conditions' block is the whole array. -/
theorem read0 (c : Dev nD) (t : Fin cfg0.N) (s : Fin 8) (k : Fin 4096) : iblk0 V c 0 t (ix2 s k) = V c main_v4 (ix2 s k) := by
  obtain ⟨⟨h0, h1⟩, -⟩ := idx_facts t
  unfold iblk0
  rw [View.read_apply]
  show V c main_v4 _ = _
  congr 1
  funext a
  apply Fin.ext
  match a with
  | ⟨0, _⟩ => show win0_0.index t 0 * 8 + 1 * s.val = s.val; rw [h0]; omega
  | ⟨1, _⟩ => show win0_0.index t 1 * 4096 + 1 * k.val = k.val; rw [h1]; omega

/-- The weights' block at point `t`. -/
theorem read1 (c : Dev nD) (t : Fin cfg0.N) (k : Fin 4096) (e : Fin 512) : iblk0 V c 1 t (ix2 k e)
    = V c main_arg4 (ix2 k ⟨t.val * 512 + e.val, by have := lt_N t; omega⟩) := by
  obtain ⟨-, ⟨h0, h1⟩, -⟩ := idx_facts t
  unfold iblk0
  rw [View.read_apply]
  show V c main_arg4 _ = _
  congr 1
  funext a
  apply Fin.ext
  match a with
  | ⟨0, _⟩ => show win0_1.index t 0 * 4096 + 1 * k.val = k.val; rw [h0]; omega
  | ⟨1, _⟩ => show win0_1.index t 1 * 512 + 1 * e.val = t.val * 512 + e.val; rw [h1]; omega

/-- The offsets' block at point `t`. -/
theorem read2 (c : Dev nD) (t : Fin cfg0.N) (e : Fin 512) : iblk0 V c 2 t (ix2 0 e)
    = V c main_v5 (ix2 0 ⟨t.val * 512 + e.val, by have := lt_N t; omega⟩) := by
  obtain ⟨-, -, ⟨h0, h1⟩, -⟩ := idx_facts t
  unfold iblk0
  rw [View.read_apply]
  show V c main_v5 _ = _
  congr 1
  funext a
  apply Fin.ext
  match a with
  | ⟨0, _⟩ => show win0_2.index t 0 * 1 + 1 * 0 = 0; rw [h0]
  | ⟨1, _⟩ => show win0_2.index t 1 * 512 + 1 * e.val = t.val * 512 + e.val; rw [h1]; omega

/-- The modulation's number for row `s`, column `j`. -/
def valAt (c : Dev nD) (s : Fin 8) (j : Fin 24576) : EReal :=
  modAt (fun k => V c main_v4 (ix2 s k)) (fun k => V c main_arg4 (ix2 k j)) (V c main_v5 (ix2 0 j))

/-- What point `t` writes back is its block of `result`. -/
theorem flushed_eq (c : Dev nD) (t : Fin cfg0.N) :
    (dat0 V c).flushed 3 t = ((cfg0.win 3).blk t).view.read (Elt Ideal) (result V c) := by
  obtain ⟨-, -, -, h0, h1⟩ := idx_facts t
  have hN := lt_N t
  have hf : (dat0 V c).flushed 3 t = (cfg0.win 3).cut (grid0.coords t) (out0_3 (iblk0 V c 0 t) (iblk0 V c 1 t) (iblk0 V c 2 t)) := by
    show (cfg0.win 3).cut (grid0.coords t) ((dat0 V c).after 3 t) = _
    rw [after0_3]
  rw [hf]
  funext j
  rw [View.read_apply]
  obtain ⟨s, e, rfl⟩ : ∃ (s : Fin 8) (e : Fin 512), j = (ix2 s e : S8x512.Idx) := ⟨j 0, j 1, ValueIdx.eq_ix2 j⟩
  refine (out_apply (iblk0 V c 0 t) (iblk0 V c 1 t) (iblk0 V c 2 t) s e).trans ?_
  simp only [read0, read1, read2]
  show valAt V c s ⟨t.val * 512 + e.val, by omega⟩ = valAt V c _ _
  refine congr (congrArg (valAt V c) ?_) ?_
  · exact Fin.ext (show s.val = win0_3.index t 0 * 8 + 1 * s.val by rw [h0]; omega)
  · exact Fin.ext (show t.val * 512 + e.val = win0_3.index t 1 * 512 + 1 * e.val by rw [h1]; omega)

/-- The point whose block holds index `i`. -/
theorem covered (i : S8x24576.Idx) : ∃ t : Fin cfg0.N, (cfg0.win 3).flush t = true ∧ i ∈ ((cfg0.win 3).blk t).view.set := by
  have b0 : (i 0 : Nat) < 8 := (i 0).isLt
  have b1 : (i 1 : Nat) < 24576 := (i 1).isLt
  let t : Fin cfg0.N := ⟨(i 1 : Nat) / 512, by show _ < 48; omega⟩
  have ht : t.val = (i 1 : Nat) / 512 := rfl
  obtain ⟨-, -, -, h0, h1⟩ := idx_facts t
  refine ⟨t, flush0_3 t, ?_⟩
  show i ∈ ((View.whole main_v6).slice (win0_3.rect t)).set
  rw [View.set_slice_whole, Rect.mem_set_unit]
  intro a
  match a with
  | ⟨0, _⟩ => show win0_3.index t 0 * 8 ≤ (i 0 : Nat) ∧ (i 0 : Nat) < win0_3.index t 0 * 8 + 8; rw [h0]; omega
  | ⟨1, _⟩ => show win0_3.index t 1 * 512 ≤ (i 1 : Nat) ∧ (i 1 : Nat) < win0_3.index t 1 * 512 + 512; rw [h1]; omega

/-- The modulation's array ends holding `result`. -/
theorem final_eq (c : Dev nD) : (dat0 V c).arrAt 3 cfg0.N = result V c :=
  (dat0 V c).arrAt_eq_of_cover 3 (result V c) (fun t _ => flushed_eq V c t) covered

end Cert.Proof.In.Mod

end
-- ==== Proof.InNorm.lean ====
/- The first layer's normalised and modulated rows: an array of 12288 rows and 4096 columns, index by index. -/
module

public import proofs.«01_k».proof.Proof.InDefs

@[expose] public section

set_option maxRecDepth 16384

noncomputable section

namespace Cert.Proof.In.Norm

open Idealize.ShloMosaic Idealize.ShloMosaic.TcCoe Idealize.ShloMosaic.Tactic Idealize.SL.Sem Cert.Kernel4Ideal Cert.Kernel4Ideal.Gen
open Idealize.ShloMosaic.Pointwise
open Idealize.ShloMosaic.Pipeline (Dat)

/-- The value a grid point of the prompt rows stores, element by element. -/
theorem pay1_apply (x : Vec Ideal S512x4096 .f32) (g : Vec Ideal S1x4096 .f32) (sc sh : Vec Ideal S1x1x4096 .f32) (r : Fin 512) (k : Fin 4096) :
    k1_pay1 x g sc sh (ix2 r k) = normAt (fun e => x (ix2 r e)) k (g (ix2 0 k)) (sh (ix3 0 0 k)) (sc (ix3 0 0 k)) := by
  unfold normAt
  pointwise [k1_pay1]

/-- The value a grid point of the latent rows stores, element by element. -/
theorem pay2_apply (x : Vec Ideal S512x4096 .f32) (g : Vec Ideal S1x4096 .f32) (sc sh : Vec Ideal S1x1x4096 .f32) (r : Fin 512) (k : Fin 4096) :
    k1_pay2 x g sc sh (ix2 r k) = normAt (fun e => x (ix2 r e)) k (g (ix2 0 k)) (sh (ix3 0 0 k)) (sc (ix3 0 0 k)) := by
  unfold normAt
  pointwise [k1_pay2]

/-- A grid point of the prompt rows: what it leaves is one stored value. -/
theorem out_A (c : Dev nD) (i : grid1.Coords) (arg1 : Memref sig .tc .vmem S512x4096 .f32) (harg1 : arg1.IsWhole) (arg2 : Memref sig .tc .vmem S512x4096 .f32) (harg2 : arg2.IsWhole) (arg3 : Memref sig .tc .vmem S1x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S512x4096 .bf16) (harg6 : arg6.IsWhole) (hc0 : cond1_0 i) (hc1 : ¬cond1_1 i)
    (x0 x1 : Vec Ideal S512x4096 .f32) (x2 : Vec Ideal S1x4096 .f32) (x3 x4 : Vec Ideal S1x1x4096 .f32) :
    out1_A_5 c i arg1 harg1 arg2 harg2 arg3 harg3 arg4 harg4 arg5 harg5 arg6 harg6 hc0 hc1 x0 x1 x2 x3 x4 = View.canon [⟨Rect.unit (s := S512x4096) ![0, 0] S512x4096.size inb_S512x4096_S512x4096_0_0,
      k1_pay1 (View.ld x0 (Rect.unit (s := S512x4096) ![0, 0] S512x4096.size inb_S512x4096_S512x4096_0_0))
        (View.ld x2 (Rect.unit (s := S1x4096) ![0, 0] S1x4096.size inb_S1x4096_S1x4096_0_0))
        (View.ld x4 (Rect.unit (s := S1x1x4096) ![0, 0, 0] S1x1x4096.size inb_S1x1x4096_S1x1x4096_0_0_0))
        (View.ld x3 (Rect.unit (s := S1x1x4096) ![0, 0, 0] S1x1x4096.size inb_S1x1x4096_S1x1x4096_0_0_0))⟩] := by
  unfold out1_A_5
  rw [View.read_writes_eq_canon _ _ _ (cover1_A_5 c i arg1 harg1 arg2 harg2 arg3 harg3 arg4 harg4 arg5 harg5 arg6 harg6 hc0 hc1 x0 x1 x2 x3 x4)]
  unfold kernelRun1_A
  dsimp only
  sl_unfold_words
  simp only [View.readAt_eq_ld, harg1.read_unread, harg3.read_unread, harg4.read_unread, harg5.read_unread]

/-- A grid point of the latent rows: what it leaves is one stored value. -/
theorem out_B (c : Dev nD) (i : grid1.Coords) (arg1 : Memref sig .tc .vmem S512x4096 .f32) (harg1 : arg1.IsWhole) (arg2 : Memref sig .tc .vmem S512x4096 .f32) (harg2 : arg2.IsWhole) (arg3 : Memref sig .tc .vmem S1x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S512x4096 .bf16) (harg6 : arg6.IsWhole) (hc0 : ¬cond1_0 i) (hc1 : cond1_1 i)
    (x0 x1 : Vec Ideal S512x4096 .f32) (x2 : Vec Ideal S1x4096 .f32) (x3 x4 : Vec Ideal S1x1x4096 .f32) :
    out1_B_5 c i arg1 harg1 arg2 harg2 arg3 harg3 arg4 harg4 arg5 harg5 arg6 harg6 hc0 hc1 x0 x1 x2 x3 x4 = View.canon [⟨Rect.unit (s := S512x4096) ![0, 0] S512x4096.size inb_S512x4096_S512x4096_0_0,
      k1_pay2 (View.ld x1 (Rect.unit (s := S512x4096) ![0, 0] S512x4096.size inb_S512x4096_S512x4096_0_0))
        (View.ld x2 (Rect.unit (s := S1x4096) ![0, 0] S1x4096.size inb_S1x4096_S1x4096_0_0))
        (View.ld x4 (Rect.unit (s := S1x1x4096) ![0, 0, 0] S1x1x4096.size inb_S1x1x4096_S1x1x4096_0_0_0))
        (View.ld x3 (Rect.unit (s := S1x1x4096) ![0, 0, 0] S1x1x4096.size inb_S1x1x4096_S1x1x4096_0_0_0))⟩] := by
  unfold out1_B_5
  rw [View.read_writes_eq_canon _ _ _ (cover1_B_5 c i arg1 harg1 arg2 harg2 arg3 harg3 arg4 harg4 arg5 harg5 arg6 harg6 hc0 hc1 x0 x1 x2 x3 x4)]
  unfold kernelRun1_B
  dsimp only
  sl_unfold_words
  simp only [View.readAt_eq_ld, harg2.read_unread, harg3.read_unread, harg4.read_unread, harg5.read_unread]

/-- One stored value over the whole block, element by element: the loads read the blocks as they are. -/
theorem canon_apply (P : FVec Ideal S512x4096 .bf16) (r : Fin 512) (k : Fin 4096) :
    View.canon (Val := Elt Ideal) (e := .bf16) [⟨Rect.unit (s := S512x4096) ![0, 0] S512x4096.size inb_S512x4096_S512x4096_0_0, P⟩] (ix2 r k)
      = P (ix2 r k) := by
  refine View.canon_apply_of_pieces (Val := Elt Ideal) (e := .bf16) (fun i : S512x4096.Idx => P i) _ (fun p hp j => ?_) _
    (View.cover_of_tiled (Val := Elt Ideal) (e := .bf16) [⟨Rect.unit (s := S512x4096) ![0, 0] S512x4096.size inb_S512x4096_S512x4096_0_0, P⟩] S512x4096.size (by rfl) _)
  simp only [List.mem_cons, List.not_mem_nil, or_false] at hp
  subst hp
  obtain ⟨r, k, rfl⟩ : ∃ (r : Fin 512) (k : Fin 4096), j = (ix2 r k : S512x4096.Idx) := ⟨j 0, j 1, ValueIdx.eq_ix2 j⟩
  refine congrArg P ?_
  funext a
  match a with
  | ⟨0, _⟩ => exact Fin.ext (show r.val = 0 + 1 * r.val by omega)
  | ⟨1, _⟩ => exact Fin.ext (show k.val = 0 + 1 * k.val by omega)

/-- A row of the whole array of rows: the prompt rows come first, then the latent rows. -/
def rowAt (X : Vec Ideal S8192x4096 .f32) (Y : Vec Ideal S4096x4096 .f32) (R : Fin 12288) (e : Fin 4096) : EReal :=
  if h : R.val < 8192 then X (ix2 ⟨R.val, h⟩ e) else Y (ix2 ⟨R.val - 8192, by omega⟩ e)

/-- Which condition modulates a row: condition 0 the 8192 prompt rows, then one each the four latent sequences of 1024 rows. -/
def condOf (R : Fin 12288) : Fin 8 := ⟨if R.val < 8192 then 0 else 1 + (R.val - 8192) / 1024, by split <;> omega⟩

/-- The number at row `R`, column `k`. -/
def valAt (X : Vec Ideal S8192x4096 .f32) (Y : Vec Ideal S4096x4096 .f32) (G : Vec Ideal S1x4096 .f32) (M : Vec Ideal S8x1x24576 .f32)
    (R : Fin 12288) (k : Fin 4096) : EReal :=
  normAt (rowAt X Y R) k (G (ix2 0 k)) (M (ix3 (condOf R) 0 ⟨k.val, by omega⟩)) (M (ix3 (condOf R) 0 ⟨4096 + k.val, by omega⟩))

variable (V : Contents)

/-- The array of normalised and modulated rows as one function of the four arrays it reads. -/
def result (c : Dev nD) : Buf (Elt Ideal) ((c : Thread nD τ).loc main_v11) := fun i : S12288x4096.Idx =>
  valAt (V c main_v8) (V c main_v9) (V c main_v10) (V c main_v7) (i 0) (i 1)

/-- Where each window's block lies at point `t`: block row `t`, the first 16 of them the prompt rows'. -/
theorem idx_facts : ∀ t : Fin cfg1.N,
    ((t.val < 16 → win1_0.index t 0 = t.val) ∧ win1_0.index t 1 = 0)
    ∧ ((16 ≤ t.val → win1_1.index t 0 = t.val - 16) ∧ win1_1.index t 1 = 0)
    ∧ (win1_2.index t 0 = 0 ∧ win1_2.index t 1 = 0)
    ∧ (win1_3.index t 0 = (if t.val < 16 then 0 else 1 + (t.val - 16) / 2) ∧ win1_3.index t 1 = 0 ∧ win1_3.index t 2 = 0)
    ∧ (win1_4.index t 0 = (if t.val < 16 then 0 else 1 + (t.val - 16) / 2) ∧ win1_4.index t 1 = 0 ∧ win1_4.index t 2 = 1)
    ∧ (win1_5.index t 0 = t.val ∧ win1_5.index t 1 = 0) := by
  decide +kernel

/-- The grid has 24 points. -/
theorem lt_N (t : Fin cfg1.N) : t.val < 24 := t.isLt

/-- A block of 512 rows lies in one sequence, so one condition modulates all of it. -/
theorem cond_eq (t : Fin cfg1.N) (r : Fin 512) (h : t.val * 512 + r.val < 12288) :
    (if t.val < 16 then 0 else 1 + (t.val - 16) / 2) = (condOf ⟨t.val * 512 + r.val, h⟩).val := by
  show _ = if t.val * 512 + r.val < 8192 then 0 else 1 + (t.val * 512 + r.val - 8192) / 1024
  by_cases h : t.val < 16
  · rw [if_pos h, if_pos (by omega)]
  · rw [if_neg h, if_neg (by omega)]; omega

/-- The prompt rows' block at point `t`, one of the first 16. -/
theorem read0 (c : Dev nD) (t : Fin cfg1.N) (ht : t.val < 16) (r : Fin 512) (k : Fin 4096) : iblk1 V c 0 t (ix2 r k)
    = V c main_v8 (ix2 ⟨t.val * 512 + r.val, by omega⟩ k) := by
  obtain ⟨⟨h0, h1⟩, -⟩ := idx_facts t
  unfold iblk1
  rw [View.read_apply]
  show V c main_v8 _ = _
  congr 1
  funext a
  apply Fin.ext
  match a with
  | ⟨0, _⟩ => show win1_0.index t 0 * 512 + 1 * r.val = t.val * 512 + r.val; rw [h0 ht]; omega
  | ⟨1, _⟩ => show win1_0.index t 1 * 4096 + 1 * k.val = k.val; rw [h1]; omega

/-- The latent rows' block at point `t`, one of the last 8. -/
theorem read1 (c : Dev nD) (t : Fin cfg1.N) (ht : 16 ≤ t.val) (r : Fin 512) (k : Fin 4096) : iblk1 V c 1 t (ix2 r k)
    = V c main_v9 (ix2 ⟨t.val * 512 + r.val - 8192, by have := lt_N t; omega⟩ k) := by
  obtain ⟨-, ⟨h0, h1⟩, -⟩ := idx_facts t
  unfold iblk1
  rw [View.read_apply]
  show V c main_v9 _ = _
  congr 1
  funext a
  apply Fin.ext
  match a with
  | ⟨0, _⟩ => show win1_1.index t 0 * 512 + 1 * r.val = t.val * 512 + r.val - 8192; rw [h0 ht]; omega
  | ⟨1, _⟩ => show win1_1.index t 1 * 4096 + 1 * k.val = k.val; rw [h1]; omega

/-- The gain's block is the whole row. -/
theorem read2 (c : Dev nD) (t : Fin cfg1.N) (k : Fin 4096) : iblk1 V c 2 t (ix2 0 k) = V c main_v10 (ix2 0 k) := by
  obtain ⟨-, -, ⟨h0, h1⟩, -⟩ := idx_facts t
  unfold iblk1
  rw [View.read_apply]
  show V c main_v10 _ = _
  congr 1
  funext a
  apply Fin.ext
  match a with
  | ⟨0, _⟩ => show win1_2.index t 0 * 1 + 1 * 0 = 0; rw [h0]
  | ⟨1, _⟩ => show win1_2.index t 1 * 4096 + 1 * k.val = k.val; rw [h1]; omega

/-- The shift's block at point `t`. -/
theorem read3 (c : Dev nD) (t : Fin cfg1.N) (r : Fin 512) (k : Fin 4096) : iblk1 V c 3 t (ix3 0 0 k)
    = V c main_v7 (ix3 (condOf ⟨t.val * 512 + r.val, by have := lt_N t; omega⟩) 0 ⟨k.val, by omega⟩) := by
  obtain ⟨-, -, -, ⟨h0, h1, h2⟩, -⟩ := idx_facts t
  unfold iblk1
  rw [View.read_apply]
  show V c main_v7 _ = _
  congr 1
  funext a
  apply Fin.ext
  match a with
  | ⟨0, _⟩ => show win1_3.index t 0 * 1 + 1 * 0 = _; rw [h0, Nat.mul_one, Nat.mul_zero, Nat.add_zero]; exact cond_eq t r _
  | ⟨1, _⟩ => show win1_3.index t 1 * 1 + 1 * 0 = 0; rw [h1]
  | ⟨2, _⟩ => show win1_3.index t 2 * 4096 + 1 * k.val = k.val; rw [h2]; omega

/-- The scale's block at point `t`. -/
theorem read4 (c : Dev nD) (t : Fin cfg1.N) (r : Fin 512) (k : Fin 4096) : iblk1 V c 4 t (ix3 0 0 k)
    = V c main_v7 (ix3 (condOf ⟨t.val * 512 + r.val, by have := lt_N t; omega⟩) 0 ⟨4096 + k.val, by omega⟩) := by
  obtain ⟨-, -, -, -, ⟨h0, h1, h2⟩, -⟩ := idx_facts t
  unfold iblk1
  rw [View.read_apply]
  show V c main_v7 _ = _
  congr 1
  funext a
  apply Fin.ext
  match a with
  | ⟨0, _⟩ => show win1_4.index t 0 * 1 + 1 * 0 = _; rw [h0, Nat.mul_one, Nat.mul_zero, Nat.add_zero]; exact cond_eq t r _
  | ⟨1, _⟩ => show win1_4.index t 1 * 1 + 1 * 0 = 0; rw [h1]
  | ⟨2, _⟩ => show win1_4.index t 2 * 4096 + 1 * k.val = 4096 + k.val; rw [h2]; omega

/-- The element at row `r`, column `k` of a block from the four blocks it is computed from. -/
theorem block_A (x0 : Vec Ideal S512x4096 .f32) (x2 : Vec Ideal S1x4096 .f32) (x3 x4 : Vec Ideal S1x1x4096 .f32) (r : Fin 512) (k : Fin 4096) :
    k1_pay1 (View.ld x0 (Rect.unit (s := S512x4096) ![0, 0] S512x4096.size inb_S512x4096_S512x4096_0_0))
        (View.ld x2 (Rect.unit (s := S1x4096) ![0, 0] S1x4096.size inb_S1x4096_S1x4096_0_0))
        (View.ld x4 (Rect.unit (s := S1x1x4096) ![0, 0, 0] S1x1x4096.size inb_S1x1x4096_S1x1x4096_0_0_0))
        (View.ld x3 (Rect.unit (s := S1x1x4096) ![0, 0, 0] S1x1x4096.size inb_S1x1x4096_S1x1x4096_0_0_0)) (ix2 r k)
      = normAt (fun e => x0 (ix2 r e)) k (x2 (ix2 0 k)) (x3 (ix3 0 0 k)) (x4 (ix3 0 0 k)) := by
  refine (pay1_apply _ _ _ _ r k).trans ?_
  pointwise []

/-- The same for a block of latent rows. -/
theorem block_B (x1 : Vec Ideal S512x4096 .f32) (x2 : Vec Ideal S1x4096 .f32) (x3 x4 : Vec Ideal S1x1x4096 .f32) (r : Fin 512) (k : Fin 4096) :
    k1_pay2 (View.ld x1 (Rect.unit (s := S512x4096) ![0, 0] S512x4096.size inb_S512x4096_S512x4096_0_0))
        (View.ld x2 (Rect.unit (s := S1x4096) ![0, 0] S1x4096.size inb_S1x4096_S1x4096_0_0))
        (View.ld x4 (Rect.unit (s := S1x1x4096) ![0, 0, 0] S1x1x4096.size inb_S1x1x4096_S1x1x4096_0_0_0))
        (View.ld x3 (Rect.unit (s := S1x1x4096) ![0, 0, 0] S1x1x4096.size inb_S1x1x4096_S1x1x4096_0_0_0)) (ix2 r k)
      = normAt (fun e => x1 (ix2 r e)) k (x2 (ix2 0 k)) (x3 (ix3 0 0 k)) (x4 (ix3 0 0 k)) := by
  refine (pay2_apply _ _ _ _ r k).trans ?_
  pointwise []

/-- What point `t` leaves, element by element. -/
theorem outs_apply (c : Dev nD) (t : Fin cfg1.N) (r : Fin 512) (k : Fin 4096) : outsAt1 V c t.val t.isLt (ix2 r k)
    = valAt (V c main_v8) (V c main_v9) (V c main_v10) (V c main_v7) ⟨t.val * 512 + r.val, by have := lt_N t; omega⟩ k := by
  unfold valAt
  by_cases ht : t.val < 16
  · have hr : rowAt (V c main_v8) (V c main_v9) ⟨t.val * 512 + r.val, by have := lt_N t; omega⟩ = fun e => iblk1 V c 0 t (ix2 r e) := by
      funext e
      rw [read0 V c t ht]
      exact dif_pos (show t.val * 512 + r.val < 8192 by omega)
    rw [hr, ← read2 V c t k, ← read3 V c t r k, ← read4 V c t r k, outsAt1_A V c t ht (by omega)]
    exact (congrFun (out_A c _ _ _ _ _ _ _ _ _ _ _ _ _ _ _ _ _ _ _ _) _).trans ((canon_apply _ r k).trans (block_A _ _ _ _ r k))
  · have hr : rowAt (V c main_v8) (V c main_v9) ⟨t.val * 512 + r.val, by have := lt_N t; omega⟩ = fun e => iblk1 V c 1 t (ix2 r e) := by
      funext e
      rw [read1 V c t (by omega)]
      exact dif_neg (show ¬ t.val * 512 + r.val < 8192 by omega)
    rw [hr, ← read2 V c t k, ← read3 V c t r k, ← read4 V c t r k, outsAt1_B V c t ht (by omega)]
    exact (congrFun (out_B c _ _ _ _ _ _ _ _ _ _ _ _ _ _ _ _ _ _ _ _) _).trans ((canon_apply _ r k).trans (block_B _ _ _ _ r k))

/-- What point `t` writes back is its block of `result`. -/
theorem flushed_eq (c : Dev nD) (t : Fin cfg1.N) :
    (dat1 V c).flushed 5 t = ((cfg1.win 5).blk t).view.read (Elt Ideal) (result V c) := by
  obtain ⟨-, -, -, -, -, h0, h1⟩ := idx_facts t
  have hf : (dat1 V c).flushed 5 t = (cfg1.win 5).cut (grid1.coords t) (outsAt1 V c t.val t.isLt) := by
    show (cfg1.win 5).cut (grid1.coords t) ((dat1 V c).after 5 t) = _
    rw [after1_5]
  rw [hf]
  funext j
  rw [View.read_apply]
  obtain ⟨r, k, rfl⟩ : ∃ (r : Fin 512) (k : Fin 4096), j = (ix2 r k : S512x4096.Idx) := ⟨j 0, j 1, ValueIdx.eq_ix2 j⟩
  refine (outs_apply V c t r k).trans ?_
  show _ = result V c _
  unfold result
  refine congr (congrArg (valAt _ _ _ _) ?_) ?_
  · exact Fin.ext (show t.val * 512 + r.val = win1_5.index t 0 * 512 + 1 * r.val by rw [h0]; omega)
  · exact Fin.ext (show k.val = win1_5.index t 1 * 4096 + 1 * k.val by rw [h1]; omega)

/-- The point whose block holds index `i`. -/
theorem covered (i : S12288x4096.Idx) : ∃ t : Fin cfg1.N, (cfg1.win 5).flush t = true ∧ i ∈ ((cfg1.win 5).blk t).view.set := by
  have b0 : (i 0 : Nat) < 12288 := (i 0).isLt
  have b1 : (i 1 : Nat) < 4096 := (i 1).isLt
  let t : Fin cfg1.N := ⟨(i 0 : Nat) / 512, by show _ < 24; omega⟩
  have ht : t.val = (i 0 : Nat) / 512 := rfl
  obtain ⟨-, -, -, -, -, h0, h1⟩ := idx_facts t
  refine ⟨t, flush1_5 t, ?_⟩
  show i ∈ ((View.whole main_v11).slice (win1_5.rect t)).set
  rw [View.set_slice_whole, Rect.mem_set_unit]
  intro a
  match a with
  | ⟨0, _⟩ => show win1_5.index t 0 * 512 ≤ (i 0 : Nat) ∧ (i 0 : Nat) < win1_5.index t 0 * 512 + 512; rw [h0]; omega
  | ⟨1, _⟩ => show win1_5.index t 1 * 4096 ≤ (i 1 : Nat) ∧ (i 1 : Nat) < win1_5.index t 1 * 4096 + 4096; rw [h1]; omega

/-- The array of normalised rows ends holding `result`. -/
theorem final_eq (c : Dev nD) : (dat1 V c).arrAt 5 cfg1.N = result V c :=
  (dat1 V c).arrAt_eq_of_cover 5 (result V c) (fun t _ => flushed_eq V c t) covered

end Cert.Proof.In.Norm

end
-- ==== Proof.InU.lean ====
/- The first layer's input projection: the first product, an array of 12288 rows and 2048 columns, index by index. -/
module

public import proofs.«01_k».proof.Proof.InDefs

@[expose] public section

set_option maxRecDepth 16384

noncomputable section

namespace Cert.Proof.In.U

open Idealize.ShloMosaic Idealize.ShloMosaic.TcCoe Idealize.SL.Sem Cert.Kernel4Ideal Cert.Kernel4Ideal.Gen
open Idealize.ShloMosaic.Pointwise
open Idealize.ShloMosaic.Pipeline (Dat)

/-- The value one grid point stores, element by element. -/
theorem pay_apply (a : Vec Ideal S1024x4096 .bf16) (w : Vec Ideal S4096x512 .f32) (r : Fin 1024) (c : Fin 512) :
    k2_pay1 a w (ix2 r c) = ∑ k, a (ix2 r k) * w (ix2 k c) := by
  pointwise [k2_pay1]

/-- The element at row `r`, column `c` of the block one grid point writes. -/
def blockAt (x0 : Vec Ideal S1024x4096 .bf16) (x1 : Vec Ideal S4096x512 .f32) (r : Fin 1024) (c : Fin 512) : EReal :=
  ∑ k, x0 (ix2 r k) * x1 (ix2 k c)

/-- The block one grid point writes, element by element. -/
theorem out_apply (x0 : Vec Ideal S1024x4096 .bf16) (x1 : Vec Ideal S4096x512 .f32) (r : Fin 1024) (c : Fin 512) :
    out2_2 x0 x1 (ix2 r c) = blockAt x0 x1 r c := by
  unfold out2_2
  refine View.canon_apply_of_pieces (Val := Elt Ideal) (e := .f32) (fun i : S1024x512.Idx => blockAt x0 x1 (i 0) (i 1)) _
    (fun p hp j => ?_) _ (cover2_2 _ _)
  simp only [List.mem_cons, List.not_mem_nil, or_false] at hp
  subst hp
  obtain ⟨r, c, rfl⟩ : ∃ (r : Fin 1024) (c : Fin 512), j = ix2 r c := ⟨j 0, j 1, ValueIdx.eq_ix2 j⟩
  have he : r2_2.emb (ix2 r c) = (ix2 r c : S1024x512.Idx) := by
    funext a
    match a with
    | ⟨0, _⟩ => exact Fin.ext (show 0 + 1 * r.val = r.val by omega)
    | ⟨1, _⟩ => exact Fin.ext (show 0 + 1 * c.val = c.val by omega)
  refine (pay_apply _ _ r c).trans ?_
  simp only [he]
  unfold blockAt
  pointwise []

variable (V : Contents)

/-- The result array as one function of the two arrays it reads. -/
def result (c : Dev nD) : Buf (Elt Ideal) ((c : Thread nD τ).loc main_v12) := fun i : S12288x2048.Idx =>
  projAt (V c main_v11) (V c main_arg7) (i 0) ⟨0 + (i 1).val, by have := (i 1).isLt; change (i 1).val < 2048 at this; omega⟩

/-- Where each window's block lies at point `t`: block row `t / 4`, block column `t % 4`. -/
theorem idx_facts : ∀ t : Fin cfg2.N,
    (win2_0.index t 0 = t.val / 4 ∧ win2_0.index t 1 = 0)
    ∧ (win2_1.index t 0 = 0 ∧ win2_1.index t 1 = 0 + t.val % 4)
    ∧ (win2_2.index t 0 = t.val / 4 ∧ win2_2.index t 1 = t.val % 4) := by
  decide +kernel

/-- The grid has 48 points. -/
theorem lt_N (t : Fin cfg2.N) : t.val < 48 := t.isLt

/-- The rows' block at point `t`. -/
theorem read0 (c : Dev nD) (t : Fin cfg2.N) (r : Fin 1024) (k : Fin 4096) : iblk2 V c 0 t (ix2 r k)
    = V c main_v11 (ix2 ⟨t.val / 4 * 1024 + r.val, by have := lt_N t; omega⟩ k) := by
  obtain ⟨⟨h0, h1⟩, -⟩ := idx_facts t
  unfold iblk2
  rw [View.read_apply]
  show V c main_v11 _ = _
  congr 1
  funext a
  apply Fin.ext
  match a with
  | ⟨0, _⟩ => show win2_0.index t 0 * 1024 + 1 * r.val = t.val / 4 * 1024 + r.val; rw [h0]; omega
  | ⟨1, _⟩ => show win2_0.index t 1 * 4096 + 1 * k.val = k.val; rw [h1]; omega

/-- The weights' block at point `t`. -/
theorem read1 (c : Dev nD) (t : Fin cfg2.N) (k : Fin 4096) (e : Fin 512) : iblk2 V c 1 t (ix2 k e)
    = V c main_arg7 (ix2 k ⟨0 + (t.val % 4 * 512 + e.val), by omega⟩) := by
  obtain ⟨-, ⟨h0, h1⟩, -⟩ := idx_facts t
  unfold iblk2
  rw [View.read_apply]
  show V c main_arg7 _ = _
  congr 1
  funext a
  apply Fin.ext
  match a with
  | ⟨0, _⟩ => show win2_1.index t 0 * 4096 + 1 * k.val = k.val; rw [h0]; omega
  | ⟨1, _⟩ => show win2_1.index t 1 * 512 + 1 * e.val = 0 + (t.val % 4 * 512 + e.val); rw [h1]; omega

/-- The block that point `t` computes, element by element. -/
theorem block_eq (c : Dev nD) (t : Fin cfg2.N) (r : Fin 1024) (e : Fin 512) :
    blockAt (iblk2 V c 0 t) (iblk2 V c 1 t) r e
      = projAt (V c main_v11) (V c main_arg7) ⟨t.val / 4 * 1024 + r.val, by have := lt_N t; omega⟩ ⟨0 + (t.val % 4 * 512 + e.val), by omega⟩ := by
  unfold blockAt projAt
  simp only [read0, read1]

/-- What point `t` writes back is its block of `result`. -/
theorem flushed_eq (c : Dev nD) (t : Fin cfg2.N) :
    (dat2 V c).flushed 2 t = ((cfg2.win 2).blk t).view.read (Elt Ideal) (result V c) := by
  obtain ⟨-, -, h0, h1⟩ := idx_facts t
  have hf : (dat2 V c).flushed 2 t = (cfg2.win 2).cut (grid2.coords t) (out2_2 (iblk2 V c 0 t) (iblk2 V c 1 t)) := by
    show (cfg2.win 2).cut (grid2.coords t) ((dat2 V c).after 2 t) = _
    rw [after2_2]
  rw [hf]
  funext j
  rw [View.read_apply]
  obtain ⟨r, e, rfl⟩ : ∃ (r : Fin 1024) (e : Fin 512), j = (ix2 r e : S1024x512.Idx) := ⟨j 0, j 1, ValueIdx.eq_ix2 j⟩
  refine (out_apply (iblk2 V c 0 t) (iblk2 V c 1 t) r e).trans ?_
  refine (block_eq V c t r e).trans ?_
  show _ = result V c _
  unfold result
  refine congr (congrArg (projAt _ _) ?_) ?_
  · exact Fin.ext (show t.val / 4 * 1024 + r.val = win2_2.index t 0 * 1024 + 1 * r.val by rw [h0]; omega)
  · exact Fin.ext (show 0 + (t.val % 4 * 512 + e.val) = 0 + (win2_2.index t 1 * 512 + 1 * e.val) by rw [h1]; omega)

/-- The point whose block holds index `i`. -/
theorem covered (i : S12288x2048.Idx) : ∃ t : Fin cfg2.N, (cfg2.win 2).flush t = true ∧ i ∈ ((cfg2.win 2).blk t).view.set := by
  have b0 : (i 0 : Nat) < 12288 := (i 0).isLt
  have b1 : (i 1 : Nat) < 2048 := (i 1).isLt
  let t : Fin cfg2.N := ⟨(i 0 : Nat) / 1024 * 4 + (i 1 : Nat) / 512, by show _ < 48; omega⟩
  have ht : t.val = (i 0 : Nat) / 1024 * 4 + (i 1 : Nat) / 512 := rfl
  obtain ⟨-, -, h0, h1⟩ := idx_facts t
  refine ⟨t, flush2_2 t, ?_⟩
  show i ∈ ((View.whole main_v12).slice (win2_2.rect t)).set
  rw [View.set_slice_whole, Rect.mem_set_unit]
  intro a
  match a with
  | ⟨0, _⟩ => show win2_2.index t 0 * 1024 ≤ (i 0 : Nat) ∧ (i 0 : Nat) < win2_2.index t 0 * 1024 + 1024; rw [h0]; omega
  | ⟨1, _⟩ => show win2_2.index t 1 * 512 ≤ (i 1 : Nat) ∧ (i 1 : Nat) < win2_2.index t 1 * 512 + 512; rw [h1]; omega

/-- The result array ends holding `result`. -/
theorem final_eq (c : Dev nD) : (dat2 V c).arrAt 2 cfg2.N = result V c :=
  (dat2 V c).arrAt_eq_of_cover 2 (result V c) (fun t _ => flushed_eq V c t) covered

end Cert.Proof.In.U

end
-- ==== Proof.InQ.lean ====
/- The first layer's input projection: the queries, an array of 12288 rows and 2048 columns, index by index. -/
module

public import proofs.«01_k».proof.Proof.InDefs

@[expose] public section

set_option maxRecDepth 16384

noncomputable section

namespace Cert.Proof.In.Q

open Idealize.ShloMosaic Idealize.ShloMosaic.TcCoe Idealize.SL.Sem Cert.Kernel4Ideal Cert.Kernel4Ideal.Gen
open Idealize.ShloMosaic.Pointwise
open Idealize.ShloMosaic.Pipeline (Dat)

/-- The value one grid point stores, element by element. -/
theorem pay_apply (a : Vec Ideal S1024x4096 .bf16) (w : Vec Ideal S4096x512 .f32) (r : Fin 1024) (c : Fin 512) :
    k3_pay1 a w (ix2 r c) = ∑ k, a (ix2 r k) * w (ix2 k c) := by
  pointwise [k3_pay1]

/-- The element at row `r`, column `c` of the block one grid point writes. -/
def blockAt (x0 : Vec Ideal S1024x4096 .bf16) (x1 : Vec Ideal S4096x512 .f32) (r : Fin 1024) (c : Fin 512) : EReal :=
  ∑ k, x0 (ix2 r k) * x1 (ix2 k c)

/-- The block one grid point writes, element by element. -/
theorem out_apply (x0 : Vec Ideal S1024x4096 .bf16) (x1 : Vec Ideal S4096x512 .f32) (r : Fin 1024) (c : Fin 512) :
    out3_2 x0 x1 (ix2 r c) = blockAt x0 x1 r c := by
  unfold out3_2
  refine View.canon_apply_of_pieces (Val := Elt Ideal) (e := .bf16) (fun i : S1024x512.Idx => blockAt x0 x1 (i 0) (i 1)) _
    (fun p hp j => ?_) _ (cover3_2 _ _)
  simp only [List.mem_cons, List.not_mem_nil, or_false] at hp
  subst hp
  obtain ⟨r, c, rfl⟩ : ∃ (r : Fin 1024) (c : Fin 512), j = ix2 r c := ⟨j 0, j 1, ValueIdx.eq_ix2 j⟩
  have he : r3_2.emb (ix2 r c) = (ix2 r c : S1024x512.Idx) := by
    funext a
    match a with
    | ⟨0, _⟩ => exact Fin.ext (show 0 + 1 * r.val = r.val by omega)
    | ⟨1, _⟩ => exact Fin.ext (show 0 + 1 * c.val = c.val by omega)
  refine (pay_apply _ _ r c).trans ?_
  simp only [he]
  unfold blockAt
  pointwise []

variable (V : Contents)

/-- The result array as one function of the two arrays it reads. -/
def result (c : Dev nD) : Buf (Elt Ideal) ((c : Thread nD τ).loc main_v13) := fun i : S12288x2048.Idx =>
  projAt (V c main_v11) (V c main_arg7) (i 0) ⟨2048 + (i 1).val, by have := (i 1).isLt; change (i 1).val < 2048 at this; omega⟩

/-- Where each window's block lies at point `t`: block row `t / 4`, block column `t % 4`. -/
theorem idx_facts : ∀ t : Fin cfg3.N,
    (win3_0.index t 0 = t.val / 4 ∧ win3_0.index t 1 = 0)
    ∧ (win3_1.index t 0 = 0 ∧ win3_1.index t 1 = 4 + t.val % 4)
    ∧ (win3_2.index t 0 = t.val / 4 ∧ win3_2.index t 1 = t.val % 4) := by
  decide +kernel

/-- The grid has 48 points. -/
theorem lt_N (t : Fin cfg3.N) : t.val < 48 := t.isLt

/-- The rows' block at point `t`. -/
theorem read0 (c : Dev nD) (t : Fin cfg3.N) (r : Fin 1024) (k : Fin 4096) : iblk3 V c 0 t (ix2 r k)
    = V c main_v11 (ix2 ⟨t.val / 4 * 1024 + r.val, by have := lt_N t; omega⟩ k) := by
  obtain ⟨⟨h0, h1⟩, -⟩ := idx_facts t
  unfold iblk3
  rw [View.read_apply]
  show V c main_v11 _ = _
  congr 1
  funext a
  apply Fin.ext
  match a with
  | ⟨0, _⟩ => show win3_0.index t 0 * 1024 + 1 * r.val = t.val / 4 * 1024 + r.val; rw [h0]; omega
  | ⟨1, _⟩ => show win3_0.index t 1 * 4096 + 1 * k.val = k.val; rw [h1]; omega

/-- The weights' block at point `t`. -/
theorem read1 (c : Dev nD) (t : Fin cfg3.N) (k : Fin 4096) (e : Fin 512) : iblk3 V c 1 t (ix2 k e)
    = V c main_arg7 (ix2 k ⟨2048 + (t.val % 4 * 512 + e.val), by omega⟩) := by
  obtain ⟨-, ⟨h0, h1⟩, -⟩ := idx_facts t
  unfold iblk3
  rw [View.read_apply]
  show V c main_arg7 _ = _
  congr 1
  funext a
  apply Fin.ext
  match a with
  | ⟨0, _⟩ => show win3_1.index t 0 * 4096 + 1 * k.val = k.val; rw [h0]; omega
  | ⟨1, _⟩ => show win3_1.index t 1 * 512 + 1 * e.val = 2048 + (t.val % 4 * 512 + e.val); rw [h1]; omega

/-- The block that point `t` computes, element by element. -/
theorem block_eq (c : Dev nD) (t : Fin cfg3.N) (r : Fin 1024) (e : Fin 512) :
    blockAt (iblk3 V c 0 t) (iblk3 V c 1 t) r e
      = projAt (V c main_v11) (V c main_arg7) ⟨t.val / 4 * 1024 + r.val, by have := lt_N t; omega⟩ ⟨2048 + (t.val % 4 * 512 + e.val), by omega⟩ := by
  unfold blockAt projAt
  simp only [read0, read1]

/-- What point `t` writes back is its block of `result`. -/
theorem flushed_eq (c : Dev nD) (t : Fin cfg3.N) :
    (dat3 V c).flushed 2 t = ((cfg3.win 2).blk t).view.read (Elt Ideal) (result V c) := by
  obtain ⟨-, -, h0, h1⟩ := idx_facts t
  have hf : (dat3 V c).flushed 2 t = (cfg3.win 2).cut (grid3.coords t) (out3_2 (iblk3 V c 0 t) (iblk3 V c 1 t)) := by
    show (cfg3.win 2).cut (grid3.coords t) ((dat3 V c).after 2 t) = _
    rw [after3_2]
  rw [hf]
  funext j
  rw [View.read_apply]
  obtain ⟨r, e, rfl⟩ : ∃ (r : Fin 1024) (e : Fin 512), j = (ix2 r e : S1024x512.Idx) := ⟨j 0, j 1, ValueIdx.eq_ix2 j⟩
  refine (out_apply (iblk3 V c 0 t) (iblk3 V c 1 t) r e).trans ?_
  refine (block_eq V c t r e).trans ?_
  show _ = result V c _
  unfold result
  refine congr (congrArg (projAt _ _) ?_) ?_
  · exact Fin.ext (show t.val / 4 * 1024 + r.val = win3_2.index t 0 * 1024 + 1 * r.val by rw [h0]; omega)
  · exact Fin.ext (show 2048 + (t.val % 4 * 512 + e.val) = 2048 + (win3_2.index t 1 * 512 + 1 * e.val) by rw [h1]; omega)

/-- The point whose block holds index `i`. -/
theorem covered (i : S12288x2048.Idx) : ∃ t : Fin cfg3.N, (cfg3.win 2).flush t = true ∧ i ∈ ((cfg3.win 2).blk t).view.set := by
  have b0 : (i 0 : Nat) < 12288 := (i 0).isLt
  have b1 : (i 1 : Nat) < 2048 := (i 1).isLt
  let t : Fin cfg3.N := ⟨(i 0 : Nat) / 1024 * 4 + (i 1 : Nat) / 512, by show _ < 48; omega⟩
  have ht : t.val = (i 0 : Nat) / 1024 * 4 + (i 1 : Nat) / 512 := rfl
  obtain ⟨-, -, h0, h1⟩ := idx_facts t
  refine ⟨t, flush3_2 t, ?_⟩
  show i ∈ ((View.whole main_v13).slice (win3_2.rect t)).set
  rw [View.set_slice_whole, Rect.mem_set_unit]
  intro a
  match a with
  | ⟨0, _⟩ => show win3_2.index t 0 * 1024 ≤ (i 0 : Nat) ∧ (i 0 : Nat) < win3_2.index t 0 * 1024 + 1024; rw [h0]; omega
  | ⟨1, _⟩ => show win3_2.index t 1 * 512 ≤ (i 1 : Nat) ∧ (i 1 : Nat) < win3_2.index t 1 * 512 + 512; rw [h1]; omega

/-- The result array ends holding `result`. -/
theorem final_eq (c : Dev nD) : (dat3 V c).arrAt 2 cfg3.N = result V c :=
  (dat3 V c).arrAt_eq_of_cover 2 (result V c) (fun t _ => flushed_eq V c t) covered

end Cert.Proof.In.Q

end
-- ==== Proof.InK.lean ====
/- The first layer's input projection: the keys of the prompt rows, split into sequences and heads, index by index. -/
module

public import proofs.«01_k».proof.Proof.InDefs

@[expose] public section

set_option maxRecDepth 16384

noncomputable section

namespace Cert.Proof.In.K

open Idealize.ShloMosaic Idealize.ShloMosaic.TcCoe Idealize.SL.Sem Cert.Kernel4Ideal Cert.Kernel4Ideal.Gen
open Idealize.ShloMosaic.Pointwise
open Idealize.ShloMosaic.Pipeline (Dat)

/-- One element of a block, from the block's sequence `s`, head `h`, position `r` and channel `d`. -/
def blockAt (x0 : Vec Ideal S1024x4096 .bf16) (x1 : Vec Ideal S4096x512 .f32) (s : Fin 4) (h : Fin 4) (r : Fin 256) (d : Fin 128) : EReal :=
  ∑ k, x0 (ix2 ⟨s.val * 256 + r.val, by omega⟩ k) * x1 (ix2 k ⟨h.val * 128 + d.val, by omega⟩)

/-- The same as a function of the block's index. -/
def blockVal (x0 : Vec Ideal S1024x4096 .bf16) (x1 : Vec Ideal S4096x512 .f32) (i : S4x4x256x128.Idx) : EReal :=
  blockAt x0 x1 (i 0) (i 1) (i 2) (i 3)

set_option maxHeartbeats 2000000 in
/-- The block one grid point writes, element by element: each of its 16 stores is one sequence of one head. -/
theorem out_apply (x0 : Vec Ideal S1024x4096 .bf16) (x1 : Vec Ideal S4096x512 .f32) (y : S4x4x256x128.Idx) :
    out4_2 x0 x1 y = blockVal x0 x1 y := by
  unfold out4_2
  refine View.canon_apply_of_pieces (Val := Elt Ideal) (e := .f32) (blockVal x0 x1) _ (fun p hp j => ?_) y (cover4_2 _ _ _ _ _ _ _ _ _ _ _ _ _ _ _ _ y)
  have key : ∀ (s : Fin 4) (h : Fin 4) (r : Fin 256) (d : Fin 128) (j : S4x4x256x128.Idx) (v : EReal),
      j = ix4 s h r d → v = blockAt x0 x1 s h r d → v = blockVal x0 x1 j := by
    intro s h r d j v hj hv
    rw [hv, hj]
    rfl
  simp only [List.mem_cons, List.not_mem_nil, or_false] at hp
  rcases hp with rfl | rfl | rfl | rfl | rfl | rfl | rfl | rfl | rfl | rfl | rfl | rfl | rfl | rfl | rfl | rfl
  all_goals
    obtain ⟨r, d, rfl⟩ : ∃ (r : Fin 256) (d : Fin 128), j = (ix4 0 0 r d : S1x1x256x128.Idx) :=
      ⟨j 2, j 3, (ValueIdx.eq_ix4 j).trans (by rw [Fin.fin_one_eq_zero (j 0), Fin.fin_one_eq_zero (j 1)]; rfl)⟩
  on_goal 16 => refine key 0 0 r d _ _ ?_ ?_
  on_goal 15 => refine key 0 1 r d _ _ ?_ ?_
  on_goal 14 => refine key 0 2 r d _ _ ?_ ?_
  on_goal 13 => refine key 0 3 r d _ _ ?_ ?_
  on_goal 12 => refine key 1 0 r d _ _ ?_ ?_
  on_goal 11 => refine key 1 1 r d _ _ ?_ ?_
  on_goal 10 => refine key 1 2 r d _ _ ?_ ?_
  on_goal 9 => refine key 1 3 r d _ _ ?_ ?_
  on_goal 8 => refine key 2 0 r d _ _ ?_ ?_
  on_goal 7 => refine key 2 1 r d _ _ ?_ ?_
  on_goal 6 => refine key 2 2 r d _ _ ?_ ?_
  on_goal 5 => refine key 2 3 r d _ _ ?_ ?_
  on_goal 4 => refine key 3 0 r d _ _ ?_ ?_
  on_goal 3 => refine key 3 1 r d _ _ ?_ ?_
  on_goal 2 => refine key 3 2 r d _ _ ?_ ?_
  on_goal 1 => refine key 3 3 r d _ _ ?_ ?_
  all_goals first
    | funext a
      match a with
      | ⟨0, _⟩ => exact Fin.ext (by show _ + 1 * 0 = _; rfl)
      | ⟨1, _⟩ => exact Fin.ext (by show _ + 1 * 0 = _; rfl)
      | ⟨2, _⟩ => exact Fin.ext (by show 0 + 1 * r.val = r.val; omega)
      | ⟨3, _⟩ => exact Fin.ext (by show 0 + 1 * d.val = d.val; omega)
    | (unfold blockAt
       pointwise [k4_pay1, k4_pay2, k4_pay3, k4_pay4, k4_pay5, k4_pay6, k4_pay7, k4_pay8, k4_pay9, k4_pay10, k4_pay11, k4_pay12, k4_pay13, k4_pay14, k4_pay15, k4_pay16, k4_pay17, k4_pay18, k4_pay19])

variable (V : Contents)

/-- The result array as one function of the two arrays it reads. -/
def result (c : Dev nD) : Buf (Elt Ideal) ((c : Thread nD τ).loc main_v14) := fun i : S32x4x256x128.Idx =>
  projAt (V c main_v11) (V c main_arg7)
    ⟨0 + ((i 0).val * 256 + (i 2).val), by
      have := (i 0).isLt; have := (i 2).isLt; change (i 0).val < 32 at *; change (i 2).val < 256 at *; omega⟩
    ⟨4096 + ((i 1).val * 128 + (i 3).val), by
      have := (i 1).isLt; have := (i 3).isLt; change (i 1).val < 4 at *; change (i 3).val < 128 at *; omega⟩

/-- Where each window's block lies at point `t`: block row `t`. -/
theorem idx_facts : ∀ t : Fin cfg4.N,
    (win4_0.index t 0 = 0 + t.val ∧ win4_0.index t 1 = 0)
    ∧ (win4_1.index t 0 = 0 ∧ win4_1.index t 1 = 8)
    ∧ (win4_2.index t 0 = t.val ∧ win4_2.index t 1 = 0 ∧ win4_2.index t 2 = 0 ∧ win4_2.index t 3 = 0) := by
  decide +kernel

/-- The grid has 8 points. -/
theorem lt_N (t : Fin cfg4.N) : t.val < 8 := t.isLt

/-- The rows' block at point `t`. -/
theorem read0 (c : Dev nD) (t : Fin cfg4.N) (r : Fin 1024) (k : Fin 4096) : iblk4 V c 0 t (ix2 r k)
    = V c main_v11 (ix2 ⟨0 + (t.val * 1024 + r.val), by have := lt_N t; omega⟩ k) := by
  obtain ⟨⟨h0, h1⟩, -⟩ := idx_facts t
  unfold iblk4
  rw [View.read_apply]
  show V c main_v11 _ = _
  congr 1
  funext a
  apply Fin.ext
  match a with
  | ⟨0, _⟩ => show win4_0.index t 0 * 1024 + 1 * r.val = 0 + (t.val * 1024 + r.val); rw [h0]; omega
  | ⟨1, _⟩ => show win4_0.index t 1 * 4096 + 1 * k.val = k.val; rw [h1]; omega

/-- The weights' block at point `t`. -/
theorem read1 (c : Dev nD) (t : Fin cfg4.N) (k : Fin 4096) (e : Fin 512) : iblk4 V c 1 t (ix2 k e)
    = V c main_arg7 (ix2 k ⟨4096 + e.val, by omega⟩) := by
  obtain ⟨-, ⟨h0, h1⟩, -⟩ := idx_facts t
  unfold iblk4
  rw [View.read_apply]
  show V c main_arg7 _ = _
  congr 1
  funext a
  apply Fin.ext
  match a with
  | ⟨0, _⟩ => show win4_1.index t 0 * 4096 + 1 * k.val = k.val; rw [h0]; omega
  | ⟨1, _⟩ => show win4_1.index t 1 * 512 + 1 * e.val = 4096 + e.val; rw [h1]; omega

/-- The block that point `t` computes, element by element. -/
theorem block_eq (c : Dev nD) (t : Fin cfg4.N) (s : Fin 4) (h : Fin 4) (r : Fin 256) (d : Fin 128) :
    blockAt (iblk4 V c 0 t) (iblk4 V c 1 t) s h r d
      = projAt (V c main_v11) (V c main_arg7) ⟨0 + (t.val * 1024 + (s.val * 256 + r.val)), by have := lt_N t; omega⟩
          ⟨4096 + (h.val * 128 + d.val), by omega⟩ := by
  unfold blockAt projAt
  simp only [read0, read1]

/-- What point `t` writes back is its block of `result`. -/
theorem flushed_eq (c : Dev nD) (t : Fin cfg4.N) :
    (dat4 V c).flushed 2 t = ((cfg4.win 2).blk t).view.read (Elt Ideal) (result V c) := by
  obtain ⟨-, -, h0, h1, h2, h3⟩ := idx_facts t
  have hf : (dat4 V c).flushed 2 t = (cfg4.win 2).cut (grid4.coords t) (out4_2 (iblk4 V c 0 t) (iblk4 V c 1 t)) := by
    show (cfg4.win 2).cut (grid4.coords t) ((dat4 V c).after 2 t) = _
    rw [after4_2]
  rw [hf]
  funext j
  rw [View.read_apply]
  obtain ⟨s, h, r, d, rfl⟩ : ∃ (s : Fin 4) (h : Fin 4) (r : Fin 256) (d : Fin 128), j = (ix4 s h r d : S4x4x256x128.Idx) :=
    ⟨j 0, j 1, j 2, j 3, ValueIdx.eq_ix4 j⟩
  refine (out_apply (iblk4 V c 0 t) (iblk4 V c 1 t) (ix4 s h r d)).trans ?_
  refine (block_eq V c t s h r d).trans ?_
  show _ = result V c _
  unfold result
  refine congr (congrArg (projAt _ _) ?_) ?_
  · exact Fin.ext (show 0 + (t.val * 1024 + (s.val * 256 + r.val)) = 0 + ((win4_2.index t 0 * 4 + 1 * s.val) * 256 + (win4_2.index t 2 * 256 + 1 * r.val)) by rw [h0, h2]; omega)
  · exact Fin.ext (show 4096 + (h.val * 128 + d.val) = 4096 + ((win4_2.index t 1 * 4 + 1 * h.val) * 128 + (win4_2.index t 3 * 128 + 1 * d.val)) by rw [h1, h3]; omega)

/-- The point whose block holds index `i`. -/
theorem covered (i : S32x4x256x128.Idx) : ∃ t : Fin cfg4.N, (cfg4.win 2).flush t = true ∧ i ∈ ((cfg4.win 2).blk t).view.set := by
  have b0 : (i 0 : Nat) < 32 := (i 0).isLt
  have b1 : (i 1 : Nat) < 4 := (i 1).isLt
  have b2 : (i 2 : Nat) < 256 := (i 2).isLt
  have b3 : (i 3 : Nat) < 128 := (i 3).isLt
  let t : Fin cfg4.N := ⟨(i 0 : Nat) / 4, by show _ < 8; omega⟩
  have ht : t.val = (i 0 : Nat) / 4 := rfl
  obtain ⟨-, -, h0, h1, h2, h3⟩ := idx_facts t
  refine ⟨t, flush4_2 t, ?_⟩
  show i ∈ ((View.whole main_v14).slice (win4_2.rect t)).set
  rw [View.set_slice_whole, Rect.mem_set_unit]
  intro a
  match a with
  | ⟨0, _⟩ => show win4_2.index t 0 * 4 ≤ (i 0 : Nat) ∧ (i 0 : Nat) < win4_2.index t 0 * 4 + 4; rw [h0]; omega
  | ⟨1, _⟩ => show win4_2.index t 1 * 4 ≤ (i 1 : Nat) ∧ (i 1 : Nat) < win4_2.index t 1 * 4 + 4; rw [h1]; omega
  | ⟨2, _⟩ => show win4_2.index t 2 * 256 ≤ (i 2 : Nat) ∧ (i 2 : Nat) < win4_2.index t 2 * 256 + 256; rw [h2]; omega
  | ⟨3, _⟩ => show win4_2.index t 3 * 128 ≤ (i 3 : Nat) ∧ (i 3 : Nat) < win4_2.index t 3 * 128 + 128; rw [h3]; omega

/-- The result array ends holding `result`. -/
theorem final_eq (c : Dev nD) : (dat4 V c).arrAt 2 cfg4.N = result V c :=
  (dat4 V c).arrAt_eq_of_cover 2 (result V c) (fun t _ => flushed_eq V c t) covered

end Cert.Proof.In.K

end
-- ==== Proof.InW.lean ====
/- The first layer's input projection: the values of the prompt rows, split into sequences and heads, index by index. -/
module

public import proofs.«01_k».proof.Proof.InDefs

@[expose] public section

set_option maxRecDepth 16384

noncomputable section

namespace Cert.Proof.In.W

open Idealize.ShloMosaic Idealize.ShloMosaic.TcCoe Idealize.SL.Sem Cert.Kernel4Ideal Cert.Kernel4Ideal.Gen
open Idealize.ShloMosaic.Pointwise
open Idealize.ShloMosaic.Pipeline (Dat)

/-- One element of a block, from the block's sequence `s`, head `h`, position `r` and channel `d`. -/
def blockAt (x0 : Vec Ideal S1024x4096 .bf16) (x1 : Vec Ideal S4096x512 .f32) (s : Fin 4) (h : Fin 4) (r : Fin 256) (d : Fin 128) : EReal :=
  ∑ k, x0 (ix2 ⟨s.val * 256 + r.val, by omega⟩ k) * x1 (ix2 k ⟨h.val * 128 + d.val, by omega⟩)

/-- The same as a function of the block's index. -/
def blockVal (x0 : Vec Ideal S1024x4096 .bf16) (x1 : Vec Ideal S4096x512 .f32) (i : S4x4x256x128.Idx) : EReal :=
  blockAt x0 x1 (i 0) (i 1) (i 2) (i 3)

set_option maxHeartbeats 2000000 in
/-- The block one grid point writes, element by element: each of its 16 stores is one sequence of one head. -/
theorem out_apply (x0 : Vec Ideal S1024x4096 .bf16) (x1 : Vec Ideal S4096x512 .f32) (y : S4x4x256x128.Idx) :
    out5_2 x0 x1 y = blockVal x0 x1 y := by
  unfold out5_2
  refine View.canon_apply_of_pieces (Val := Elt Ideal) (e := .f32) (blockVal x0 x1) _ (fun p hp j => ?_) y (cover5_2 _ _ _ _ _ _ _ _ _ _ _ _ _ _ _ _ y)
  have key : ∀ (s : Fin 4) (h : Fin 4) (r : Fin 256) (d : Fin 128) (j : S4x4x256x128.Idx) (v : EReal),
      j = ix4 s h r d → v = blockAt x0 x1 s h r d → v = blockVal x0 x1 j := by
    intro s h r d j v hj hv
    rw [hv, hj]
    rfl
  simp only [List.mem_cons, List.not_mem_nil, or_false] at hp
  rcases hp with rfl | rfl | rfl | rfl | rfl | rfl | rfl | rfl | rfl | rfl | rfl | rfl | rfl | rfl | rfl | rfl
  all_goals
    obtain ⟨r, d, rfl⟩ : ∃ (r : Fin 256) (d : Fin 128), j = (ix4 0 0 r d : S1x1x256x128.Idx) :=
      ⟨j 2, j 3, (ValueIdx.eq_ix4 j).trans (by rw [Fin.fin_one_eq_zero (j 0), Fin.fin_one_eq_zero (j 1)]; rfl)⟩
  on_goal 16 => refine key 0 0 r d _ _ ?_ ?_
  on_goal 15 => refine key 0 1 r d _ _ ?_ ?_
  on_goal 14 => refine key 0 2 r d _ _ ?_ ?_
  on_goal 13 => refine key 0 3 r d _ _ ?_ ?_
  on_goal 12 => refine key 1 0 r d _ _ ?_ ?_
  on_goal 11 => refine key 1 1 r d _ _ ?_ ?_
  on_goal 10 => refine key 1 2 r d _ _ ?_ ?_
  on_goal 9 => refine key 1 3 r d _ _ ?_ ?_
  on_goal 8 => refine key 2 0 r d _ _ ?_ ?_
  on_goal 7 => refine key 2 1 r d _ _ ?_ ?_
  on_goal 6 => refine key 2 2 r d _ _ ?_ ?_
  on_goal 5 => refine key 2 3 r d _ _ ?_ ?_
  on_goal 4 => refine key 3 0 r d _ _ ?_ ?_
  on_goal 3 => refine key 3 1 r d _ _ ?_ ?_
  on_goal 2 => refine key 3 2 r d _ _ ?_ ?_
  on_goal 1 => refine key 3 3 r d _ _ ?_ ?_
  all_goals first
    | funext a
      match a with
      | ⟨0, _⟩ => exact Fin.ext (by show _ + 1 * 0 = _; rfl)
      | ⟨1, _⟩ => exact Fin.ext (by show _ + 1 * 0 = _; rfl)
      | ⟨2, _⟩ => exact Fin.ext (by show 0 + 1 * r.val = r.val; omega)
      | ⟨3, _⟩ => exact Fin.ext (by show 0 + 1 * d.val = d.val; omega)
    | (unfold blockAt
       pointwise [k5_pay1, k5_pay2, k5_pay3, k5_pay4, k5_pay5, k5_pay6, k5_pay7, k5_pay8, k5_pay9, k5_pay10, k5_pay11, k5_pay12, k5_pay13, k5_pay14, k5_pay15, k5_pay16, k5_pay17, k5_pay18, k5_pay19])

variable (V : Contents)

/-- The result array as one function of the two arrays it reads. -/
def result (c : Dev nD) : Buf (Elt Ideal) ((c : Thread nD τ).loc main_v15) := fun i : S32x4x256x128.Idx =>
  projAt (V c main_v11) (V c main_arg7)
    ⟨0 + ((i 0).val * 256 + (i 2).val), by
      have := (i 0).isLt; have := (i 2).isLt; change (i 0).val < 32 at *; change (i 2).val < 256 at *; omega⟩
    ⟨4608 + ((i 1).val * 128 + (i 3).val), by
      have := (i 1).isLt; have := (i 3).isLt; change (i 1).val < 4 at *; change (i 3).val < 128 at *; omega⟩

/-- Where each window's block lies at point `t`: block row `t`. -/
theorem idx_facts : ∀ t : Fin cfg5.N,
    (win5_0.index t 0 = 0 + t.val ∧ win5_0.index t 1 = 0)
    ∧ (win5_1.index t 0 = 0 ∧ win5_1.index t 1 = 9)
    ∧ (win5_2.index t 0 = t.val ∧ win5_2.index t 1 = 0 ∧ win5_2.index t 2 = 0 ∧ win5_2.index t 3 = 0) := by
  decide +kernel

/-- The grid has 8 points. -/
theorem lt_N (t : Fin cfg5.N) : t.val < 8 := t.isLt

/-- The rows' block at point `t`. -/
theorem read0 (c : Dev nD) (t : Fin cfg5.N) (r : Fin 1024) (k : Fin 4096) : iblk5 V c 0 t (ix2 r k)
    = V c main_v11 (ix2 ⟨0 + (t.val * 1024 + r.val), by have := lt_N t; omega⟩ k) := by
  obtain ⟨⟨h0, h1⟩, -⟩ := idx_facts t
  unfold iblk5
  rw [View.read_apply]
  show V c main_v11 _ = _
  congr 1
  funext a
  apply Fin.ext
  match a with
  | ⟨0, _⟩ => show win5_0.index t 0 * 1024 + 1 * r.val = 0 + (t.val * 1024 + r.val); rw [h0]; omega
  | ⟨1, _⟩ => show win5_0.index t 1 * 4096 + 1 * k.val = k.val; rw [h1]; omega

/-- The weights' block at point `t`. -/
theorem read1 (c : Dev nD) (t : Fin cfg5.N) (k : Fin 4096) (e : Fin 512) : iblk5 V c 1 t (ix2 k e)
    = V c main_arg7 (ix2 k ⟨4608 + e.val, by omega⟩) := by
  obtain ⟨-, ⟨h0, h1⟩, -⟩ := idx_facts t
  unfold iblk5
  rw [View.read_apply]
  show V c main_arg7 _ = _
  congr 1
  funext a
  apply Fin.ext
  match a with
  | ⟨0, _⟩ => show win5_1.index t 0 * 4096 + 1 * k.val = k.val; rw [h0]; omega
  | ⟨1, _⟩ => show win5_1.index t 1 * 512 + 1 * e.val = 4608 + e.val; rw [h1]; omega

/-- The block that point `t` computes, element by element. -/
theorem block_eq (c : Dev nD) (t : Fin cfg5.N) (s : Fin 4) (h : Fin 4) (r : Fin 256) (d : Fin 128) :
    blockAt (iblk5 V c 0 t) (iblk5 V c 1 t) s h r d
      = projAt (V c main_v11) (V c main_arg7) ⟨0 + (t.val * 1024 + (s.val * 256 + r.val)), by have := lt_N t; omega⟩
          ⟨4608 + (h.val * 128 + d.val), by omega⟩ := by
  unfold blockAt projAt
  simp only [read0, read1]

/-- What point `t` writes back is its block of `result`. -/
theorem flushed_eq (c : Dev nD) (t : Fin cfg5.N) :
    (dat5 V c).flushed 2 t = ((cfg5.win 2).blk t).view.read (Elt Ideal) (result V c) := by
  obtain ⟨-, -, h0, h1, h2, h3⟩ := idx_facts t
  have hf : (dat5 V c).flushed 2 t = (cfg5.win 2).cut (grid5.coords t) (out5_2 (iblk5 V c 0 t) (iblk5 V c 1 t)) := by
    show (cfg5.win 2).cut (grid5.coords t) ((dat5 V c).after 2 t) = _
    rw [after5_2]
  rw [hf]
  funext j
  rw [View.read_apply]
  obtain ⟨s, h, r, d, rfl⟩ : ∃ (s : Fin 4) (h : Fin 4) (r : Fin 256) (d : Fin 128), j = (ix4 s h r d : S4x4x256x128.Idx) :=
    ⟨j 0, j 1, j 2, j 3, ValueIdx.eq_ix4 j⟩
  refine (out_apply (iblk5 V c 0 t) (iblk5 V c 1 t) (ix4 s h r d)).trans ?_
  refine (block_eq V c t s h r d).trans ?_
  show _ = result V c _
  unfold result
  refine congr (congrArg (projAt _ _) ?_) ?_
  · exact Fin.ext (show 0 + (t.val * 1024 + (s.val * 256 + r.val)) = 0 + ((win5_2.index t 0 * 4 + 1 * s.val) * 256 + (win5_2.index t 2 * 256 + 1 * r.val)) by rw [h0, h2]; omega)
  · exact Fin.ext (show 4608 + (h.val * 128 + d.val) = 4608 + ((win5_2.index t 1 * 4 + 1 * h.val) * 128 + (win5_2.index t 3 * 128 + 1 * d.val)) by rw [h1, h3]; omega)

/-- The point whose block holds index `i`. -/
theorem covered (i : S32x4x256x128.Idx) : ∃ t : Fin cfg5.N, (cfg5.win 2).flush t = true ∧ i ∈ ((cfg5.win 2).blk t).view.set := by
  have b0 : (i 0 : Nat) < 32 := (i 0).isLt
  have b1 : (i 1 : Nat) < 4 := (i 1).isLt
  have b2 : (i 2 : Nat) < 256 := (i 2).isLt
  have b3 : (i 3 : Nat) < 128 := (i 3).isLt
  let t : Fin cfg5.N := ⟨(i 0 : Nat) / 4, by show _ < 8; omega⟩
  have ht : t.val = (i 0 : Nat) / 4 := rfl
  obtain ⟨-, -, h0, h1, h2, h3⟩ := idx_facts t
  refine ⟨t, flush5_2 t, ?_⟩
  show i ∈ ((View.whole main_v15).slice (win5_2.rect t)).set
  rw [View.set_slice_whole, Rect.mem_set_unit]
  intro a
  match a with
  | ⟨0, _⟩ => show win5_2.index t 0 * 4 ≤ (i 0 : Nat) ∧ (i 0 : Nat) < win5_2.index t 0 * 4 + 4; rw [h0]; omega
  | ⟨1, _⟩ => show win5_2.index t 1 * 4 ≤ (i 1 : Nat) ∧ (i 1 : Nat) < win5_2.index t 1 * 4 + 4; rw [h1]; omega
  | ⟨2, _⟩ => show win5_2.index t 2 * 256 ≤ (i 2 : Nat) ∧ (i 2 : Nat) < win5_2.index t 2 * 256 + 256; rw [h2]; omega
  | ⟨3, _⟩ => show win5_2.index t 3 * 128 ≤ (i 3 : Nat) ∧ (i 3 : Nat) < win5_2.index t 3 * 128 + 128; rw [h3]; omega

/-- The result array ends holding `result`. -/
theorem final_eq (c : Dev nD) : (dat5 V c).arrAt 2 cfg5.N = result V c :=
  (dat5 V c).arrAt_eq_of_cover 2 (result V c) (fun t _ => flushed_eq V c t) covered

end Cert.Proof.In.W

end
-- ==== Proof.InKL.lean ====
/- The first layer's input projection: the keys of the latent rows, split into sequences and heads, index by index. -/
module

public import proofs.«01_k».proof.Proof.InDefs

@[expose] public section

set_option maxRecDepth 16384

noncomputable section

namespace Cert.Proof.In.KL

open Idealize.ShloMosaic Idealize.ShloMosaic.TcCoe Idealize.SL.Sem Cert.Kernel4Ideal Cert.Kernel4Ideal.Gen
open Idealize.ShloMosaic.Pointwise
open Idealize.ShloMosaic.Pipeline (Dat)

/-- One element of a block, from the block's sequence `s`, head `h`, position `r` and channel `d`. -/
def blockAt (x0 : Vec Ideal S1024x4096 .bf16) (x1 : Vec Ideal S4096x512 .f32) (s : Fin 1) (h : Fin 4) (r : Fin 1024) (d : Fin 128) : EReal :=
  ∑ k, x0 (ix2 ⟨s.val * 1024 + r.val, by omega⟩ k) * x1 (ix2 k ⟨h.val * 128 + d.val, by omega⟩)

/-- The same as a function of the block's index. -/
def blockVal (x0 : Vec Ideal S1024x4096 .bf16) (x1 : Vec Ideal S4096x512 .f32) (i : S1x4x1024x128.Idx) : EReal :=
  blockAt x0 x1 (i 0) (i 1) (i 2) (i 3)

set_option maxHeartbeats 2000000 in
/-- The block one grid point writes, element by element: each of its 4 stores is one sequence of one head. -/
theorem out_apply (x0 : Vec Ideal S1024x4096 .bf16) (x1 : Vec Ideal S4096x512 .f32) (y : S1x4x1024x128.Idx) :
    out6_2 x0 x1 y = blockVal x0 x1 y := by
  unfold out6_2
  refine View.canon_apply_of_pieces (Val := Elt Ideal) (e := .f32) (blockVal x0 x1) _ (fun p hp j => ?_) y (cover6_2 _ _ _ _ y)
  have key : ∀ (s : Fin 1) (h : Fin 4) (r : Fin 1024) (d : Fin 128) (j : S1x4x1024x128.Idx) (v : EReal),
      j = ix4 s h r d → v = blockAt x0 x1 s h r d → v = blockVal x0 x1 j := by
    intro s h r d j v hj hv
    rw [hv, hj]
    rfl
  simp only [List.mem_cons, List.not_mem_nil, or_false] at hp
  rcases hp with rfl | rfl | rfl | rfl
  all_goals
    obtain ⟨r, d, rfl⟩ : ∃ (r : Fin 1024) (d : Fin 128), j = (ix4 0 0 r d : S1x1x1024x128.Idx) :=
      ⟨j 2, j 3, (ValueIdx.eq_ix4 j).trans (by rw [Fin.fin_one_eq_zero (j 0), Fin.fin_one_eq_zero (j 1)]; rfl)⟩
  on_goal 4 => refine key 0 0 r d _ _ ?_ ?_
  on_goal 3 => refine key 0 1 r d _ _ ?_ ?_
  on_goal 2 => refine key 0 2 r d _ _ ?_ ?_
  on_goal 1 => refine key 0 3 r d _ _ ?_ ?_
  all_goals first
    | funext a
      match a with
      | ⟨0, _⟩ => exact Fin.ext (by show _ + 1 * 0 = _; rfl)
      | ⟨1, _⟩ => exact Fin.ext (by show _ + 1 * 0 = _; rfl)
      | ⟨2, _⟩ => exact Fin.ext (by show 0 + 1 * r.val = r.val; omega)
      | ⟨3, _⟩ => exact Fin.ext (by show 0 + 1 * d.val = d.val; omega)
    | (unfold blockAt
       pointwise [k6_pay1, k6_pay2, k6_pay3, k6_pay4, k6_pay5])

variable (V : Contents)

/-- The result array as one function of the two arrays it reads. -/
def result (c : Dev nD) : Buf (Elt Ideal) ((c : Thread nD τ).loc main_v16) := fun i : S4x4x1024x128.Idx =>
  projAt (V c main_v11) (V c main_arg7)
    ⟨8192 + ((i 0).val * 1024 + (i 2).val), by
      have := (i 0).isLt; have := (i 2).isLt; change (i 0).val < 4 at *; change (i 2).val < 1024 at *; omega⟩
    ⟨4096 + ((i 1).val * 128 + (i 3).val), by
      have := (i 1).isLt; have := (i 3).isLt; change (i 1).val < 4 at *; change (i 3).val < 128 at *; omega⟩

/-- Where each window's block lies at point `t`: block row `t`. -/
theorem idx_facts : ∀ t : Fin cfg6.N,
    (win6_0.index t 0 = 8 + t.val ∧ win6_0.index t 1 = 0)
    ∧ (win6_1.index t 0 = 0 ∧ win6_1.index t 1 = 8)
    ∧ (win6_2.index t 0 = t.val ∧ win6_2.index t 1 = 0 ∧ win6_2.index t 2 = 0 ∧ win6_2.index t 3 = 0) := by
  decide +kernel

/-- The grid has 4 points. -/
theorem lt_N (t : Fin cfg6.N) : t.val < 4 := t.isLt

/-- The rows' block at point `t`. -/
theorem read0 (c : Dev nD) (t : Fin cfg6.N) (r : Fin 1024) (k : Fin 4096) : iblk6 V c 0 t (ix2 r k)
    = V c main_v11 (ix2 ⟨8192 + (t.val * 1024 + r.val), by have := lt_N t; omega⟩ k) := by
  obtain ⟨⟨h0, h1⟩, -⟩ := idx_facts t
  unfold iblk6
  rw [View.read_apply]
  show V c main_v11 _ = _
  congr 1
  funext a
  apply Fin.ext
  match a with
  | ⟨0, _⟩ => show win6_0.index t 0 * 1024 + 1 * r.val = 8192 + (t.val * 1024 + r.val); rw [h0]; omega
  | ⟨1, _⟩ => show win6_0.index t 1 * 4096 + 1 * k.val = k.val; rw [h1]; omega

/-- The weights' block at point `t`. -/
theorem read1 (c : Dev nD) (t : Fin cfg6.N) (k : Fin 4096) (e : Fin 512) : iblk6 V c 1 t (ix2 k e)
    = V c main_arg7 (ix2 k ⟨4096 + e.val, by omega⟩) := by
  obtain ⟨-, ⟨h0, h1⟩, -⟩ := idx_facts t
  unfold iblk6
  rw [View.read_apply]
  show V c main_arg7 _ = _
  congr 1
  funext a
  apply Fin.ext
  match a with
  | ⟨0, _⟩ => show win6_1.index t 0 * 4096 + 1 * k.val = k.val; rw [h0]; omega
  | ⟨1, _⟩ => show win6_1.index t 1 * 512 + 1 * e.val = 4096 + e.val; rw [h1]; omega

/-- The block that point `t` computes, element by element. -/
theorem block_eq (c : Dev nD) (t : Fin cfg6.N) (s : Fin 1) (h : Fin 4) (r : Fin 1024) (d : Fin 128) :
    blockAt (iblk6 V c 0 t) (iblk6 V c 1 t) s h r d
      = projAt (V c main_v11) (V c main_arg7) ⟨8192 + (t.val * 1024 + (s.val * 1024 + r.val)), by have := lt_N t; omega⟩
          ⟨4096 + (h.val * 128 + d.val), by omega⟩ := by
  unfold blockAt projAt
  simp only [read0, read1]

/-- What point `t` writes back is its block of `result`. -/
theorem flushed_eq (c : Dev nD) (t : Fin cfg6.N) :
    (dat6 V c).flushed 2 t = ((cfg6.win 2).blk t).view.read (Elt Ideal) (result V c) := by
  obtain ⟨-, -, h0, h1, h2, h3⟩ := idx_facts t
  have hf : (dat6 V c).flushed 2 t = (cfg6.win 2).cut (grid6.coords t) (out6_2 (iblk6 V c 0 t) (iblk6 V c 1 t)) := by
    show (cfg6.win 2).cut (grid6.coords t) ((dat6 V c).after 2 t) = _
    rw [after6_2]
  rw [hf]
  funext j
  rw [View.read_apply]
  obtain ⟨s, h, r, d, rfl⟩ : ∃ (s : Fin 1) (h : Fin 4) (r : Fin 1024) (d : Fin 128), j = (ix4 s h r d : S1x4x1024x128.Idx) :=
    ⟨j 0, j 1, j 2, j 3, ValueIdx.eq_ix4 j⟩
  refine (out_apply (iblk6 V c 0 t) (iblk6 V c 1 t) (ix4 s h r d)).trans ?_
  refine (block_eq V c t s h r d).trans ?_
  show _ = result V c _
  unfold result
  refine congr (congrArg (projAt _ _) ?_) ?_
  · exact Fin.ext (show 8192 + (t.val * 1024 + (s.val * 1024 + r.val)) = 8192 + ((win6_2.index t 0 * 1 + 1 * s.val) * 1024 + (win6_2.index t 2 * 1024 + 1 * r.val)) by rw [h0, h2]; omega)
  · exact Fin.ext (show 4096 + (h.val * 128 + d.val) = 4096 + ((win6_2.index t 1 * 4 + 1 * h.val) * 128 + (win6_2.index t 3 * 128 + 1 * d.val)) by rw [h1, h3]; omega)

/-- The point whose block holds index `i`. -/
theorem covered (i : S4x4x1024x128.Idx) : ∃ t : Fin cfg6.N, (cfg6.win 2).flush t = true ∧ i ∈ ((cfg6.win 2).blk t).view.set := by
  have b0 : (i 0 : Nat) < 4 := (i 0).isLt
  have b1 : (i 1 : Nat) < 4 := (i 1).isLt
  have b2 : (i 2 : Nat) < 1024 := (i 2).isLt
  have b3 : (i 3 : Nat) < 128 := (i 3).isLt
  let t : Fin cfg6.N := ⟨(i 0 : Nat) / 1, by show _ < 4; omega⟩
  have ht : t.val = (i 0 : Nat) / 1 := rfl
  obtain ⟨-, -, h0, h1, h2, h3⟩ := idx_facts t
  refine ⟨t, flush6_2 t, ?_⟩
  show i ∈ ((View.whole main_v16).slice (win6_2.rect t)).set
  rw [View.set_slice_whole, Rect.mem_set_unit]
  intro a
  match a with
  | ⟨0, _⟩ => show win6_2.index t 0 * 1 ≤ (i 0 : Nat) ∧ (i 0 : Nat) < win6_2.index t 0 * 1 + 1; rw [h0]; omega
  | ⟨1, _⟩ => show win6_2.index t 1 * 4 ≤ (i 1 : Nat) ∧ (i 1 : Nat) < win6_2.index t 1 * 4 + 4; rw [h1]; omega
  | ⟨2, _⟩ => show win6_2.index t 2 * 1024 ≤ (i 2 : Nat) ∧ (i 2 : Nat) < win6_2.index t 2 * 1024 + 1024; rw [h2]; omega
  | ⟨3, _⟩ => show win6_2.index t 3 * 128 ≤ (i 3 : Nat) ∧ (i 3 : Nat) < win6_2.index t 3 * 128 + 128; rw [h3]; omega

/-- The result array ends holding `result`. -/
theorem final_eq (c : Dev nD) : (dat6 V c).arrAt 2 cfg6.N = result V c :=
  (dat6 V c).arrAt_eq_of_cover 2 (result V c) (fun t _ => flushed_eq V c t) covered

end Cert.Proof.In.KL

end
-- ==== Proof.InWL.lean ====
/- The first layer's input projection: the values of the latent rows, split into sequences and heads, index by index. -/
module

public import proofs.«01_k».proof.Proof.InDefs

@[expose] public section

set_option maxRecDepth 16384

noncomputable section

namespace Cert.Proof.In.WL

open Idealize.ShloMosaic Idealize.ShloMosaic.TcCoe Idealize.SL.Sem Cert.Kernel4Ideal Cert.Kernel4Ideal.Gen
open Idealize.ShloMosaic.Pointwise
open Idealize.ShloMosaic.Pipeline (Dat)

/-- One element of a block, from the block's sequence `s`, head `h`, position `r` and channel `d`. -/
def blockAt (x0 : Vec Ideal S1024x4096 .bf16) (x1 : Vec Ideal S4096x512 .f32) (s : Fin 1) (h : Fin 4) (r : Fin 1024) (d : Fin 128) : EReal :=
  ∑ k, x0 (ix2 ⟨s.val * 1024 + r.val, by omega⟩ k) * x1 (ix2 k ⟨h.val * 128 + d.val, by omega⟩)

/-- The same as a function of the block's index. -/
def blockVal (x0 : Vec Ideal S1024x4096 .bf16) (x1 : Vec Ideal S4096x512 .f32) (i : S1x4x1024x128.Idx) : EReal :=
  blockAt x0 x1 (i 0) (i 1) (i 2) (i 3)

set_option maxHeartbeats 2000000 in
/-- The block one grid point writes, element by element: each of its 4 stores is one sequence of one head. -/
theorem out_apply (x0 : Vec Ideal S1024x4096 .bf16) (x1 : Vec Ideal S4096x512 .f32) (y : S1x4x1024x128.Idx) :
    out7_2 x0 x1 y = blockVal x0 x1 y := by
  unfold out7_2
  refine View.canon_apply_of_pieces (Val := Elt Ideal) (e := .f32) (blockVal x0 x1) _ (fun p hp j => ?_) y (cover7_2 _ _ _ _ y)
  have key : ∀ (s : Fin 1) (h : Fin 4) (r : Fin 1024) (d : Fin 128) (j : S1x4x1024x128.Idx) (v : EReal),
      j = ix4 s h r d → v = blockAt x0 x1 s h r d → v = blockVal x0 x1 j := by
    intro s h r d j v hj hv
    rw [hv, hj]
    rfl
  simp only [List.mem_cons, List.not_mem_nil, or_false] at hp
  rcases hp with rfl | rfl | rfl | rfl
  all_goals
    obtain ⟨r, d, rfl⟩ : ∃ (r : Fin 1024) (d : Fin 128), j = (ix4 0 0 r d : S1x1x1024x128.Idx) :=
      ⟨j 2, j 3, (ValueIdx.eq_ix4 j).trans (by rw [Fin.fin_one_eq_zero (j 0), Fin.fin_one_eq_zero (j 1)]; rfl)⟩
  on_goal 4 => refine key 0 0 r d _ _ ?_ ?_
  on_goal 3 => refine key 0 1 r d _ _ ?_ ?_
  on_goal 2 => refine key 0 2 r d _ _ ?_ ?_
  on_goal 1 => refine key 0 3 r d _ _ ?_ ?_
  all_goals first
    | funext a
      match a with
      | ⟨0, _⟩ => exact Fin.ext (by show _ + 1 * 0 = _; rfl)
      | ⟨1, _⟩ => exact Fin.ext (by show _ + 1 * 0 = _; rfl)
      | ⟨2, _⟩ => exact Fin.ext (by show 0 + 1 * r.val = r.val; omega)
      | ⟨3, _⟩ => exact Fin.ext (by show 0 + 1 * d.val = d.val; omega)
    | (unfold blockAt
       pointwise [k7_pay1, k7_pay2, k7_pay3, k7_pay4, k7_pay5])

variable (V : Contents)

/-- The result array as one function of the two arrays it reads. -/
def result (c : Dev nD) : Buf (Elt Ideal) ((c : Thread nD τ).loc main_v17) := fun i : S4x4x1024x128.Idx =>
  projAt (V c main_v11) (V c main_arg7)
    ⟨8192 + ((i 0).val * 1024 + (i 2).val), by
      have := (i 0).isLt; have := (i 2).isLt; change (i 0).val < 4 at *; change (i 2).val < 1024 at *; omega⟩
    ⟨4608 + ((i 1).val * 128 + (i 3).val), by
      have := (i 1).isLt; have := (i 3).isLt; change (i 1).val < 4 at *; change (i 3).val < 128 at *; omega⟩

/-- Where each window's block lies at point `t`: block row `t`. -/
theorem idx_facts : ∀ t : Fin cfg7.N,
    (win7_0.index t 0 = 8 + t.val ∧ win7_0.index t 1 = 0)
    ∧ (win7_1.index t 0 = 0 ∧ win7_1.index t 1 = 9)
    ∧ (win7_2.index t 0 = t.val ∧ win7_2.index t 1 = 0 ∧ win7_2.index t 2 = 0 ∧ win7_2.index t 3 = 0) := by
  decide +kernel

/-- The grid has 4 points. -/
theorem lt_N (t : Fin cfg7.N) : t.val < 4 := t.isLt

/-- The rows' block at point `t`. -/
theorem read0 (c : Dev nD) (t : Fin cfg7.N) (r : Fin 1024) (k : Fin 4096) : iblk7 V c 0 t (ix2 r k)
    = V c main_v11 (ix2 ⟨8192 + (t.val * 1024 + r.val), by have := lt_N t; omega⟩ k) := by
  obtain ⟨⟨h0, h1⟩, -⟩ := idx_facts t
  unfold iblk7
  rw [View.read_apply]
  show V c main_v11 _ = _
  congr 1
  funext a
  apply Fin.ext
  match a with
  | ⟨0, _⟩ => show win7_0.index t 0 * 1024 + 1 * r.val = 8192 + (t.val * 1024 + r.val); rw [h0]; omega
  | ⟨1, _⟩ => show win7_0.index t 1 * 4096 + 1 * k.val = k.val; rw [h1]; omega

/-- The weights' block at point `t`. -/
theorem read1 (c : Dev nD) (t : Fin cfg7.N) (k : Fin 4096) (e : Fin 512) : iblk7 V c 1 t (ix2 k e)
    = V c main_arg7 (ix2 k ⟨4608 + e.val, by omega⟩) := by
  obtain ⟨-, ⟨h0, h1⟩, -⟩ := idx_facts t
  unfold iblk7
  rw [View.read_apply]
  show V c main_arg7 _ = _
  congr 1
  funext a
  apply Fin.ext
  match a with
  | ⟨0, _⟩ => show win7_1.index t 0 * 4096 + 1 * k.val = k.val; rw [h0]; omega
  | ⟨1, _⟩ => show win7_1.index t 1 * 512 + 1 * e.val = 4608 + e.val; rw [h1]; omega

/-- The block that point `t` computes, element by element. -/
theorem block_eq (c : Dev nD) (t : Fin cfg7.N) (s : Fin 1) (h : Fin 4) (r : Fin 1024) (d : Fin 128) :
    blockAt (iblk7 V c 0 t) (iblk7 V c 1 t) s h r d
      = projAt (V c main_v11) (V c main_arg7) ⟨8192 + (t.val * 1024 + (s.val * 1024 + r.val)), by have := lt_N t; omega⟩
          ⟨4608 + (h.val * 128 + d.val), by omega⟩ := by
  unfold blockAt projAt
  simp only [read0, read1]

/-- What point `t` writes back is its block of `result`. -/
theorem flushed_eq (c : Dev nD) (t : Fin cfg7.N) :
    (dat7 V c).flushed 2 t = ((cfg7.win 2).blk t).view.read (Elt Ideal) (result V c) := by
  obtain ⟨-, -, h0, h1, h2, h3⟩ := idx_facts t
  have hf : (dat7 V c).flushed 2 t = (cfg7.win 2).cut (grid7.coords t) (out7_2 (iblk7 V c 0 t) (iblk7 V c 1 t)) := by
    show (cfg7.win 2).cut (grid7.coords t) ((dat7 V c).after 2 t) = _
    rw [after7_2]
  rw [hf]
  funext j
  rw [View.read_apply]
  obtain ⟨s, h, r, d, rfl⟩ : ∃ (s : Fin 1) (h : Fin 4) (r : Fin 1024) (d : Fin 128), j = (ix4 s h r d : S1x4x1024x128.Idx) :=
    ⟨j 0, j 1, j 2, j 3, ValueIdx.eq_ix4 j⟩
  refine (out_apply (iblk7 V c 0 t) (iblk7 V c 1 t) (ix4 s h r d)).trans ?_
  refine (block_eq V c t s h r d).trans ?_
  show _ = result V c _
  unfold result
  refine congr (congrArg (projAt _ _) ?_) ?_
  · exact Fin.ext (show 8192 + (t.val * 1024 + (s.val * 1024 + r.val)) = 8192 + ((win7_2.index t 0 * 1 + 1 * s.val) * 1024 + (win7_2.index t 2 * 1024 + 1 * r.val)) by rw [h0, h2]; omega)
  · exact Fin.ext (show 4608 + (h.val * 128 + d.val) = 4608 + ((win7_2.index t 1 * 4 + 1 * h.val) * 128 + (win7_2.index t 3 * 128 + 1 * d.val)) by rw [h1, h3]; omega)

/-- The point whose block holds index `i`. -/
theorem covered (i : S4x4x1024x128.Idx) : ∃ t : Fin cfg7.N, (cfg7.win 2).flush t = true ∧ i ∈ ((cfg7.win 2).blk t).view.set := by
  have b0 : (i 0 : Nat) < 4 := (i 0).isLt
  have b1 : (i 1 : Nat) < 4 := (i 1).isLt
  have b2 : (i 2 : Nat) < 1024 := (i 2).isLt
  have b3 : (i 3 : Nat) < 128 := (i 3).isLt
  let t : Fin cfg7.N := ⟨(i 0 : Nat) / 1, by show _ < 4; omega⟩
  have ht : t.val = (i 0 : Nat) / 1 := rfl
  obtain ⟨-, -, h0, h1, h2, h3⟩ := idx_facts t
  refine ⟨t, flush7_2 t, ?_⟩
  show i ∈ ((View.whole main_v17).slice (win7_2.rect t)).set
  rw [View.set_slice_whole, Rect.mem_set_unit]
  intro a
  match a with
  | ⟨0, _⟩ => show win7_2.index t 0 * 1 ≤ (i 0 : Nat) ∧ (i 0 : Nat) < win7_2.index t 0 * 1 + 1; rw [h0]; omega
  | ⟨1, _⟩ => show win7_2.index t 1 * 4 ≤ (i 1 : Nat) ∧ (i 1 : Nat) < win7_2.index t 1 * 4 + 4; rw [h1]; omega
  | ⟨2, _⟩ => show win7_2.index t 2 * 1024 ≤ (i 2 : Nat) ∧ (i 2 : Nat) < win7_2.index t 2 * 1024 + 1024; rw [h2]; omega
  | ⟨3, _⟩ => show win7_2.index t 3 * 128 ≤ (i 3 : Nat) ∧ (i 3 : Nat) < win7_2.index t 3 * 128 + 128; rw [h3]; omega

/-- The result array ends holding `result`. -/
theorem final_eq (c : Dev nD) : (dat7 V c).arrAt 2 cfg7.N = result V c :=
  (dat7 V c).arrAt_eq_of_cover 2 (result V c) (fun t _ => flushed_eq V c t) covered

end Cert.Proof.In.WL

end
-- ==== Proof.InChain.lean ====
/- The fourth program's run from end to end: what each of its kernels finds when it starts, and the six results as functions of the
   eight argument arrays. -/
module

public import proofs.«01_k».proof.Proof.InSpec
public import proofs.«01_k».proof.Proof.InCond
public import proofs.«01_k».proof.Proof.InMod
public import proofs.«01_k».proof.Proof.InNorm
public import proofs.«01_k».proof.Proof.InU
public import proofs.«01_k».proof.Proof.InQ
public import proofs.«01_k».proof.Proof.InK
public import proofs.«01_k».proof.Proof.InW
public import proofs.«01_k».proof.Proof.InKL
public import proofs.«01_k».proof.Proof.InWL

@[expose] public section

set_option maxRecDepth 16384

noncomputable section

namespace Cert.Proof.In.Chain

open Idealize.ShloMosaic Idealize.ShloMosaic.TcCoe Idealize.SL.Sem Cert.Kernel4Ideal Cert.Kernel4Ideal.Gen
open Idealize.ShloMosaic.Pointwise

variable (m : (ℓ : Loc nD τ sig) → Buf (Elt Ideal) ℓ) (ρ : Dev nD → PrngReg)

/-- One number of the normalised rows, of the arguments in memory. -/
abbrev hAt (c : Dev nD) (R : Fin 12288) (k : Fin 4096) : EReal :=
  rowH (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) R k

/-- One number of the projection, of the arguments in memory. -/
abbrev pAt (c : Dev nD) (R : Fin 12288) (C : Fin 5120) : EReal :=
  rowP (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) R C

/-- The modulation the first kernel leaves. -/
theorem v6_at (c : Dev nD) (r : Fin 8) (j : Fin 24576) : V2 m ρ c main_v6 (ix2 r j)
    = modAt (fun k => V1 m ρ c main_v4 (ix2 r k)) (fun k => m ((c : Thread nD τ).loc main_arg4) (ix2 k j)) (m ((c : Thread nD τ).loc main_arg5) (ix1 j)) := by
  have h : V2 m ρ c main_v6 = Mod.result (V1 m ρ) c := (W2_arr m ρ c 3).trans (Mod.final_eq (V1 m ρ) c)
  refine (congrFun h _).trans ?_
  show modAt _ _ _ = _
  refine congr (congrArg (modAt _) (funext fun k => ?_)) (Cond.offs m ρ c j)
  exact congrFun (W1_args m ρ c main_arg4 (by decide)) _

/-- The prompts' modulation as the normalisation reads it. -/
theorem mod_prompt (c : Dev nD) (j : Fin 24576) : V3 m ρ c main_v7 (ix3 0 0 j)
    = modAt (fun e => m ((c : Thread nD τ).loc main_arg3) (ix1 e)) (fun k => m ((c : Thread nD τ).loc main_arg4) (ix2 k j))
        (m ((c : Thread nD τ).loc main_arg5) (ix1 j)) :=
  (Cond.v7_at m ρ c 0 j).trans ((v6_at m ρ c 0 j).trans (congrArg (fun f => modAt f _ _) (funext fun e => Cond.cond0 m ρ c e)))

/-- A latent sequence's modulation as the normalisation reads it. -/
theorem mod_latent (c : Dev nD) (r : Fin 8) (a : Fin 4) (hr : r.val = 1 + a.val) (j : Fin 24576) : V3 m ρ c main_v7 (ix3 r 0 j)
    = modAt (fun e => m ((c : Thread nD τ).loc main_arg2) (ix2 a e)) (fun k => m ((c : Thread nD τ).loc main_arg4) (ix2 k j))
        (m ((c : Thread nD τ).loc main_arg5) (ix1 j)) :=
  (Cond.v7_at m ρ c r j).trans ((v6_at m ρ c r j).trans (congrArg (fun f => modAt f _ _) (funext fun e => Cond.cond1 m ρ c r a hr e)))

/-- The normalised rows the second kernel leaves. -/
theorem v11_at (c : Dev nD) (R : Fin 12288) (k : Fin 4096) : V4 m ρ c main_v11 (ix2 R k) = hAt m c R k := by
  have h : V4 m ρ c main_v11 = Norm.result (V3 m ρ) c := (W4_arr m ρ c 5).trans (Norm.final_eq (V3 m ρ) c)
  refine (congrFun h _).trans ?_
  show Norm.valAt _ _ _ _ R k = _
  unfold hAt rowH Norm.valAt
  by_cases hR : R.val < 8192
  · have hc : Norm.condOf R = 0 := Fin.ext (by show (if R.val < 8192 then 0 else 1 + (R.val - 8192) / 1024) = 0; rw [if_pos hR])
    have hrow : Norm.rowAt (V3 m ρ c main_v8) (V3 m ρ c main_v9) R
        = fun e => m ((c : Thread nD τ).loc main_arg0) (ix3 ⟨R.val / 256, by omega⟩ ⟨R.val % 256, by omega⟩ e) := funext fun e =>
      (dif_pos hR).trans (Cond.v8_at m ρ c ⟨R.val, hR⟩ e)
    rw [dif_pos hR, hc, hrow, Cond.v10_at m ρ c k, mod_prompt m ρ c, mod_prompt m ρ c]
    rfl
  · have hrow : Norm.rowAt (V3 m ρ c main_v8) (V3 m ρ c main_v9) R
        = fun e => m ((c : Thread nD τ).loc main_arg1) (ix3 ⟨(R.val - 8192) / 1024, by omega⟩ ⟨(R.val - 8192) % 1024, by omega⟩ e) := funext fun e =>
      (dif_neg hR).trans (Cond.v9_at m ρ c ⟨R.val - 8192, by omega⟩ e)
    have hc : (Norm.condOf R).val = 1 + (⟨(R.val - 8192) / 1024, by omega⟩ : Fin 4).val := by
      show (if R.val < 8192 then 0 else 1 + (R.val - 8192) / 1024) = _; rw [if_neg hR]
    rw [dif_neg hR, hrow, Cond.v10_at m ρ c k, mod_latent m ρ c _ _ hc, mod_latent m ρ c _ _ hc]
    rfl

/-- A product of the normalised rows with the weights is the projection. -/
theorem proj_eq (c : Dev nD) (H : Vec Ideal S12288x4096 .bf16) (W : Vec Ideal S4096x5120 .f32) (hH : H = V4 m ρ c main_v11)
    (hW : W = m ((c : Thread nD τ).loc main_arg7)) (R : Fin 12288) (C : Fin 5120) : projAt H W R C = pAt m c R C := by
  subst hH hW
  exact Finset.sum_congr rfl fun k _ => congrArg (· * _) (v11_at m ρ c R k)

/-- The wide part of the projection, as one function of the arguments. -/
def resU (c : Dev nD) : Buf (Elt Ideal) ((c : Thread nD τ).loc main_v12) := fun i : S12288x2048.Idx =>
  pAt m c (i 0) ⟨0 + (i 1).val, by have := (i 1).isLt; change (i 1).val < 2048 at this; omega⟩

/-- The run ends with the wide part in their array. -/
theorem endU (c : Dev nD) : W10 m ρ c (Proc.devRef .tc main_v12) = resU m c := by
  refine (((((W10_of m ρ c main_v12 (by decide)).trans (W9_of m ρ c main_v12 (by decide))).trans (W8_of m ρ c main_v12 (by decide))).trans (W7_of m ρ c main_v12 (by decide))).trans (W6_of m ρ c main_v12 (by decide))).trans (((W5_arr m ρ c 2).trans (U.final_eq (V4 m ρ) c)).trans ?_)
  funext i
  exact proj_eq m ρ c _ _ rfl (W4_args m ρ c main_arg7 (by decide)) _ _

/-- The queries of the projection, as one function of the arguments. -/
def resQ (c : Dev nD) : Buf (Elt Ideal) ((c : Thread nD τ).loc main_v13) := fun i : S12288x2048.Idx =>
  pAt m c (i 0) ⟨2048 + (i 1).val, by have := (i 1).isLt; change (i 1).val < 2048 at this; omega⟩

/-- The run ends with the queries in their array. -/
theorem endQ (c : Dev nD) : W10 m ρ c (Proc.devRef .tc main_v13) = resQ m c := by
  refine ((((W10_of m ρ c main_v13 (by decide)).trans (W9_of m ρ c main_v13 (by decide))).trans (W8_of m ρ c main_v13 (by decide))).trans (W7_of m ρ c main_v13 (by decide))).trans (((W6_arr m ρ c 2).trans (Q.final_eq (V5 m ρ) c)).trans ?_)
  funext i
  exact proj_eq m ρ c _ _ (W5_of m ρ c main_v11 (by decide)) (W5_args m ρ c main_arg7 (by decide)) _ _

/-- The prompts' keys of the projection, as one function of the arguments. -/
def resK (c : Dev nD) : Buf (Elt Ideal) ((c : Thread nD τ).loc main_v14) := fun i : S32x4x256x128.Idx =>
  pAt m c
    ⟨0 + ((i 0).val * 256 + (i 2).val), by
      have := (i 0).isLt; have := (i 2).isLt; change (i 0).val < 32 at *; change (i 2).val < 256 at *; omega⟩
    ⟨4096 + ((i 1).val * 128 + (i 3).val), by
      have := (i 1).isLt; have := (i 3).isLt; change (i 1).val < 4 at *; change (i 3).val < 128 at *; omega⟩

/-- The run ends with the prompts' keys in their array. -/
theorem endK (c : Dev nD) : W10 m ρ c (Proc.devRef .tc main_v14) = resK m c := by
  refine (((W10_of m ρ c main_v14 (by decide)).trans (W9_of m ρ c main_v14 (by decide))).trans (W8_of m ρ c main_v14 (by decide))).trans (((W7_arr m ρ c 2).trans (K.final_eq (V6 m ρ) c)).trans ?_)
  funext i
  exact proj_eq m ρ c _ _ ((W6_of m ρ c main_v11 (by decide)).trans (W5_of m ρ c main_v11 (by decide))) (W6_args m ρ c main_arg7 (by decide)) _ _

/-- The prompts' values of the projection, as one function of the arguments. -/
def resW (c : Dev nD) : Buf (Elt Ideal) ((c : Thread nD τ).loc main_v15) := fun i : S32x4x256x128.Idx =>
  pAt m c
    ⟨0 + ((i 0).val * 256 + (i 2).val), by
      have := (i 0).isLt; have := (i 2).isLt; change (i 0).val < 32 at *; change (i 2).val < 256 at *; omega⟩
    ⟨4608 + ((i 1).val * 128 + (i 3).val), by
      have := (i 1).isLt; have := (i 3).isLt; change (i 1).val < 4 at *; change (i 3).val < 128 at *; omega⟩

/-- The run ends with the prompts' values in their array. -/
theorem endW (c : Dev nD) : W10 m ρ c (Proc.devRef .tc main_v15) = resW m c := by
  refine ((W10_of m ρ c main_v15 (by decide)).trans (W9_of m ρ c main_v15 (by decide))).trans (((W8_arr m ρ c 2).trans (W.final_eq (V7 m ρ) c)).trans ?_)
  funext i
  exact proj_eq m ρ c _ _ (((W7_of m ρ c main_v11 (by decide)).trans (W6_of m ρ c main_v11 (by decide))).trans (W5_of m ρ c main_v11 (by decide))) (W7_args m ρ c main_arg7 (by decide)) _ _

/-- The latent sequences' keys of the projection, as one function of the arguments. -/
def resKL (c : Dev nD) : Buf (Elt Ideal) ((c : Thread nD τ).loc main_v16) := fun i : S4x4x1024x128.Idx =>
  pAt m c
    ⟨8192 + ((i 0).val * 1024 + (i 2).val), by
      have := (i 0).isLt; have := (i 2).isLt; change (i 0).val < 4 at *; change (i 2).val < 1024 at *; omega⟩
    ⟨4096 + ((i 1).val * 128 + (i 3).val), by
      have := (i 1).isLt; have := (i 3).isLt; change (i 1).val < 4 at *; change (i 3).val < 128 at *; omega⟩

/-- The run ends with the latent sequences' keys in their array. -/
theorem endKL (c : Dev nD) : W10 m ρ c (Proc.devRef .tc main_v16) = resKL m c := by
  refine (W10_of m ρ c main_v16 (by decide)).trans (((W9_arr m ρ c 2).trans (KL.final_eq (V8 m ρ) c)).trans ?_)
  funext i
  exact proj_eq m ρ c _ _ ((((W8_of m ρ c main_v11 (by decide)).trans (W7_of m ρ c main_v11 (by decide))).trans (W6_of m ρ c main_v11 (by decide))).trans (W5_of m ρ c main_v11 (by decide))) (W8_args m ρ c main_arg7 (by decide)) _ _

/-- The latent sequences' values of the projection, as one function of the arguments. -/
def resWL (c : Dev nD) : Buf (Elt Ideal) ((c : Thread nD τ).loc main_v17) := fun i : S4x4x1024x128.Idx =>
  pAt m c
    ⟨8192 + ((i 0).val * 1024 + (i 2).val), by
      have := (i 0).isLt; have := (i 2).isLt; change (i 0).val < 4 at *; change (i 2).val < 1024 at *; omega⟩
    ⟨4608 + ((i 1).val * 128 + (i 3).val), by
      have := (i 1).isLt; have := (i 3).isLt; change (i 1).val < 4 at *; change (i 3).val < 128 at *; omega⟩

/-- The run ends with the latent sequences' values in their array. -/
theorem endWL (c : Dev nD) : W10 m ρ c (Proc.devRef .tc main_v17) = resWL m c := by
  refine (((W10_arr m ρ c 2).trans (WL.final_eq (V9 m ρ) c)).trans ?_)
  funext i
  exact proj_eq m ρ c _ _ (((((W9_of m ρ c main_v11 (by decide)).trans (W8_of m ρ c main_v11 (by decide))).trans (W7_of m ρ c main_v11 (by decide))).trans (W6_of m ρ c main_v11 (by decide))).trans (W5_of m ρ c main_v11 (by decide))) (W9_args m ρ c main_arg7 (by decide)) _ _

end Cert.Proof.In.Chain

end
-- ==== Proof.InRun.lean ====
/- The fourth program's run: it ends with every buffer as the last kernel leaves it, so with the six results. -/
module

public import proofs.«01_k».proof.Proof.InChain

@[expose] public section

set_option maxRecDepth 16384

noncomputable section

namespace Cert.Proof.In.Chain

open Idealize.SL Idealize.SL.RA Idealize.SL.BI
open Idealize.SL.BI.BIBase Idealize.SL.BI.Laws Idealize.SL.ProofMode Idealize.SL.Sem
open Idealize.ShloMosaic Idealize.ShloMosaic.TcCoe Idealize.ShloMosaic.Tactic
open Idealize.ShloMosaic.Pipeline (Dat Cfg Window BodyObligation cellOf)
open Idealize.ShloMosaic.Rounds
open scoped Idealize.SL.BI
open Cert.Kernel4Ideal Cert.Kernel4Ideal.Gen

variable (m : (ℓ : Loc nD τ sig) → Buf (Elt Ideal) ℓ) (ρ : Dev nD → PrngReg)

set_option backward.isDefEq.respectTransparency.types false in
/-- The run ends: every buffer that outlives the kernels holds what the chain of contents says, and every counter is at zero. -/
theorem run_end : θ_run defs (onTc (τ := τ) (main (F := Ideal))) ⟨m, fun _ => 0, ρ⟩ (fun r =>
    (∀ c : Dev nD, ∀ b ∈ Pipeline.ucRefs τ sig, r.2.mem (((c : Thread nD τ)).1, b) = W10 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨h, funext fun g => hz g (.inr (no_unscoped g.2))⟩)

/-- The whole run: it ends with the six results, the arguments as they were and every counter at zero. -/
theorem run_all : θ_run defs (onTc (τ := τ) (main (F := Ideal))) ⟨m, fun _ => 0, ρ⟩ (fun r => (∀ c : Dev nD,
      r.2.mem ((c.tc : Thread nD τ).loc main_v12) = resU m c
      ∧ r.2.mem ((c.tc : Thread nD τ).loc main_v13) = resQ m c
      ∧ r.2.mem ((c.tc : Thread nD τ).loc main_v14) = resK m c
      ∧ r.2.mem ((c.tc : Thread nD τ).loc main_v15) = resW m c
      ∧ r.2.mem ((c.tc : Thread nD τ).loc main_v16) = resKL m c
      ∧ r.2.mem ((c.tc : Thread nD τ).loc main_v17) = resWL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
    have h := h.1 c
    ⟨(h _ (mem_uc main_v12 (by decide))).trans (endU m ρ c),
       (h _ (mem_uc main_v13 (by decide))).trans (endQ m ρ c),
       (h _ (mem_uc main_v14 (by decide))).trans (endK m ρ c),
       (h _ (mem_uc main_v15 (by decide))).trans (endW m ρ c),
       (h _ (mem_uc main_v16 (by decide))).trans (endKL m ρ c),
       (h _ (mem_uc main_v17 (by decide))).trans (endWL m ρ c),
       (h _ (mem_uc main_arg0 (by decide))).trans (W10_main_arg0 m ρ c),
       (h _ (mem_uc main_arg1 (by decide))).trans (W10_main_arg1 m ρ c),
       (h _ (mem_uc main_arg2 (by decide))).trans (W10_main_arg2 m ρ c),
       (h _ (mem_uc main_arg3 (by decide))).trans (W10_main_arg3 m ρ c),
       (h _ (mem_uc main_arg4 (by decide))).trans (W10_main_arg4 m ρ c),
       (h _ (mem_uc main_arg5 (by decide))).trans (W10_main_arg5 m ρ c),
       (h _ (mem_uc main_arg6 (by decide))).trans (W10_main_arg6 m ρ c),
       (h _ (mem_uc main_arg7 (by decide))).trans (W10_main_arg7 m ρ c)⟩, h.2⟩) (run_end m ρ)

end Cert.Proof.In.Chain

end
-- ==== Proof.InRef.lean ====
/- The reference's input projection, index by index: the modulation, the normalised rows, and the six results, each the
   same function of the eight argument arrays as the kernel's. -/
module

public import proofs.«01_k».proof.Proof.InSpec
public import proofs.«01_k».proof.Proof.Gen.Reference4Ideal.Read
public import Idealize.ShloMosaic.Lib.Pointwise

@[expose] public section

set_option maxRecDepth 16384

noncomputable section

namespace Cert.Proof.In.Ref

open Idealize.ShloMosaic Idealize.ShloMosaic.TcCoe Idealize.SL.Sem Cert.Reference4Ideal Cert.Reference4Ideal.Gen Cert.Reference4Ideal.Read
open Idealize.ShloMosaic.Pointwise

variable (x0 : Vec Ideal S32x256x4096 .f32) (x1 : Vec Ideal S4x1024x4096 .f32) (x2 : Vec Ideal S4x4096 .f32) (x3 : Vec Ideal S4096 .f32)
  (x4 : Vec Ideal S4096x24576 .f32) (x5 : Vec Ideal S24576 .f32) (x6 : Vec Ideal S4096 .f32) (x7 : Vec Ideal S4096x5120 .f32)

/-- The constant one the reference adds. -/
theorem one_bits : Ideal.ofBits .f32 0x3F800000#32 = 1 := by
  simp [Ideal.ofBits, Ideal.ieee]
  rw [← EReal.coe_mul]
  norm_num

/-- The constant zero the reference's sums start from. -/
theorem zero_bits : Ideal.ofBits .f32 0x00000000#32 = 0 := by
  simp [Ideal.ofBits, Ideal.ieee]

/-- The prompts' modulation. -/
theorem mod_prompt (j : Fin 24576) : val_main_v4 (F := Ideal) x3 x4 x5 (ix2 0 j)
    = modAt (fun e => x3 (ix1 e)) (fun e => x4 (ix2 e j)) (x5 (ix1 j)) := by
  unfold modAt silu
  rw [← one_bits]
  pointwise [val_main_v4, val_main_v3, val_main_v2, val_main_v1, val_main_v0, val_main_call0_v5, val_main_call0_v4, val_main_call0_v3, val_main_call0_v2,
    val_main_call0_v1, val_main_call0_v0, val_main_call0_cst, val_main_call0_cst_0]

/-- The latent sequences' modulation, one row each. -/
theorem mod_latent (a : Fin 4) (j : Fin 24576) : val_main_v44 (F := Ideal) x2 x4 x5 (ix2 a j)
    = modAt (fun e => x2 (ix2 a e)) (fun e => x4 (ix2 e j)) (x5 (ix1 j)) := by
  unfold modAt silu
  rw [← one_bits]
  pointwise [val_main_v44, val_main_v43, val_main_v42, val_main_v41, val_main_v40, val_main_call1_v5, val_main_call1_v4, val_main_call1_v3, val_main_call1_v2,
    val_main_call1_v1, val_main_call1_v0, val_main_call1_cst, val_main_call1_cst_0]

/-- The prompts' normalised rows. -/
theorem rows_prompt (b : Fin 32) (l : Fin 256) (k : Fin 4096) : val_main_v30 (F := Ideal) x0 x3 x4 x5 x6 (ix3 b l k)
    = promptH x0 x3 x4 x5 x6 b l k := by
  unfold promptH normAt
  rw [← mod_prompt, ← mod_prompt, ← one_bits]
  pointwise [val_main_v30, val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12, val_main_v7, val_main_v6,
    val_main_v5, val_main_cst, val_main_cst_0, val_main_cst_1, val_main_cst_2]
  all_goals simp only [zero_bits, zero_add]

/-- The latent sequences' normalised rows. -/
theorem rows_latent (b : Fin 4) (l : Fin 1024) (k : Fin 4096) : val_main_v70 (F := Ideal) x1 x2 x4 x5 x6 (ix3 b l k)
    = latentH x1 x2 x4 x5 x6 b l k := by
  unfold latentH normAt
  rw [← mod_latent, ← mod_latent, ← one_bits]
  pointwise [val_main_v70, val_main_v69, val_main_v68, val_main_v67, val_main_v66, val_main_v65, val_main_v64, val_main_v63, val_main_v62, val_main_v61,
    val_main_v60, val_main_v59, val_main_v58, val_main_v57, val_main_v56, val_main_v55, val_main_v54, val_main_v53, val_main_v52, val_main_v47, val_main_v46,
    val_main_v45, val_main_cst_3, val_main_cst_4, val_main_cst_5, val_main_cst_6]
  all_goals simp only [zero_bits, zero_add]

/-- The prompts' product: one row of both streams times the weights. -/
theorem proj_prompt (R : Fin 12288) (b : Fin 32) (l : Fin 256) (hR : R.val = b.val * 256 + l.val) (C : Fin 5120) :
    val_main_v31 (F := Ideal) x0 x3 x4 x5 x6 x7 (ix3 b l C) = rowP x0 x1 x2 x3 x4 x5 x6 x7 R C := by
  have e : val_main_v31 (F := Ideal) x0 x3 x4 x5 x6 x7 (ix3 b l C) = ∑ k, val_main_v30 (F := Ideal) x0 x3 x4 x5 x6 (ix3 b l k) * x7 (ix2 k C) := by
    pointwise [val_main_v31]
  rw [e]
  exact Finset.sum_congr rfl fun k _ => by rw [rows_prompt, rowH_prompt x0 x1 x2 x3 x4 x5 x6 R b l hR k]

/-- The latent sequences' product. -/
theorem proj_latent (R : Fin 12288) (b : Fin 4) (l : Fin 1024) (hR : R.val = 8192 + (b.val * 1024 + l.val)) (C : Fin 5120) :
    val_main_v71 (F := Ideal) x1 x2 x4 x5 x6 x7 (ix3 b l C) = rowP x0 x1 x2 x3 x4 x5 x6 x7 R C := by
  have e : val_main_v71 (F := Ideal) x1 x2 x4 x5 x6 x7 (ix3 b l C) = ∑ k, val_main_v70 (F := Ideal) x1 x2 x4 x5 x6 (ix3 b l k) * x7 (ix2 k C) := by
    pointwise [val_main_v71]
  rw [e]
  exact Finset.sum_congr rfl fun k _ => by rw [rows_latent, rowH_latent x0 x1 x2 x3 x4 x5 x6 R b l hR k]

/-- The prompts' keys, head by head. -/
theorem k_prompt (b : Fin 32) (h : Fin 4) (l : Fin 256) (d : Fin 128) : val_main_v37 (F := Ideal) x0 x3 x4 x5 x6 x7 (ix4 b h l d)
    = rowP x0 x1 x2 x3 x4 x5 x6 x7 ⟨0 + (b.val * 256 + l.val), by omega⟩ ⟨4096 + (h.val * 128 + d.val), by omega⟩ := by
  rw [← proj_prompt x0 x1 x2 x3 x4 x5 x6 x7 ⟨0 + (b.val * 256 + l.val), by omega⟩ b l (Nat.zero_add _)]
  pointwise [val_main_v37, val_main_v36, val_main_v34]

/-- The prompts' values. -/
theorem v_prompt (b : Fin 32) (h : Fin 4) (l : Fin 256) (d : Fin 128) : val_main_v39 (F := Ideal) x0 x3 x4 x5 x6 x7 (ix4 b h l d)
    = rowP x0 x1 x2 x3 x4 x5 x6 x7 ⟨0 + (b.val * 256 + l.val), by omega⟩ ⟨4608 + (h.val * 128 + d.val), by omega⟩ := by
  rw [← proj_prompt x0 x1 x2 x3 x4 x5 x6 x7 ⟨0 + (b.val * 256 + l.val), by omega⟩ b l (Nat.zero_add _)]
  pointwise [val_main_v39, val_main_v38, val_main_v35]

/-- The latent sequences' keys. -/
theorem k_latent (b : Fin 4) (h : Fin 4) (l : Fin 1024) (d : Fin 128) : val_main_v77 (F := Ideal) x1 x2 x4 x5 x6 x7 (ix4 b h l d)
    = rowP x0 x1 x2 x3 x4 x5 x6 x7 ⟨8192 + (b.val * 1024 + l.val), by omega⟩ ⟨4096 + (h.val * 128 + d.val), by omega⟩ := by
  rw [← proj_latent x0 x1 x2 x3 x4 x5 x6 x7 ⟨8192 + (b.val * 1024 + l.val), by omega⟩ b l rfl]
  pointwise [val_main_v77, val_main_v76, val_main_v74]

/-- The latent sequences' values. -/
theorem v_latent (b : Fin 4) (h : Fin 4) (l : Fin 1024) (d : Fin 128) : val_main_v79 (F := Ideal) x1 x2 x4 x5 x6 x7 (ix4 b h l d)
    = rowP x0 x1 x2 x3 x4 x5 x6 x7 ⟨8192 + (b.val * 1024 + l.val), by omega⟩ ⟨4608 + (h.val * 128 + d.val), by omega⟩ := by
  rw [← proj_latent x0 x1 x2 x3 x4 x5 x6 x7 ⟨8192 + (b.val * 1024 + l.val), by omega⟩ b l rfl]
  pointwise [val_main_v79, val_main_v78, val_main_v75]

/-- A row past the prompts' is a latent sequence's row. -/
theorem lat_row (n : ℕ) (h : ¬n < 8192) : n = 8192 + ((n - 8192) / 1024 * 1024 + (n - 8192) % 1024) := by
  rw [Nat.div_add_mod', Nat.add_sub_cancel' (Nat.le_of_not_lt h)]

/-- The convolution's inputs of the prompts. -/
theorem u_prompt (r : Fin 8192) (C : Fin 2048) : val_main_v80 (F := Ideal) x0 x3 x4 x5 x6 x7 (ix2 r C)
    = val_main_v31 (F := Ideal) x0 x3 x4 x5 x6 x7 (ix3 ⟨r.val / 256, by omega⟩ ⟨r.val % 256, by omega⟩ ⟨0 + C.val, by omega⟩) := by
  pointwise [val_main_v80, val_main_v32]

/-- The convolution's inputs of the latent sequences. -/
theorem u_latent (r : Fin 4096) (C : Fin 2048) : val_main_v81 (F := Ideal) x1 x2 x4 x5 x6 x7 (ix2 r C)
    = val_main_v71 (F := Ideal) x1 x2 x4 x5 x6 x7 (ix3 ⟨r.val / 1024, by omega⟩ ⟨r.val % 1024, by omega⟩ ⟨0 + C.val, by omega⟩) := by
  pointwise [val_main_v81, val_main_v72]

/-- The convolution's inputs, the prompts' rows first. -/
theorem u_both (R : Fin 12288) (C : Fin 2048) : val_main_v82 (F := Ideal) x0 x1 x2 x3 x4 x5 x6 x7 (ix2 R C)
    = rowP x0 x1 x2 x3 x4 x5 x6 x7 R ⟨0 + C.val, by omega⟩ := by
  have e : val_main_v82 (F := Ideal) x0 x1 x2 x3 x4 x5 x6 x7 (ix2 R C)
      = if h : R.val < 8192 then val_main_v80 (F := Ideal) x0 x3 x4 x5 x6 x7 (ix2 ⟨R.val, by omega⟩ C)
        else val_main_v81 (F := Ideal) x1 x2 x4 x5 x6 x7 (ix2 ⟨R.val - 8192, by omega⟩ C) := by
    pointwise [val_main_v82]
  rw [e]
  by_cases h : R.val < 8192
  · rw [dif_pos h, u_prompt]
    exact proj_prompt x0 x1 x2 x3 x4 x5 x6 x7 R ⟨R.val / 256, by omega⟩ ⟨R.val % 256, by omega⟩ (Nat.div_add_mod' R.val 256).symm _
  · rw [dif_neg h, u_latent]
    exact proj_latent x0 x1 x2 x3 x4 x5 x6 x7 R ⟨(R.val - 8192) / 1024, by omega⟩ ⟨(R.val - 8192) % 1024, by omega⟩ (lat_row R.val h) _

/-- The queries of the prompts. -/
theorem q_prompt (r : Fin 8192) (C : Fin 2048) : val_main_v83 (F := Ideal) x0 x3 x4 x5 x6 x7 (ix2 r C)
    = val_main_v31 (F := Ideal) x0 x3 x4 x5 x6 x7 (ix3 ⟨r.val / 256, by omega⟩ ⟨r.val % 256, by omega⟩ ⟨2048 + C.val, by omega⟩) := by
  pointwise [val_main_v83, val_main_v33]

/-- The queries of the latent sequences. -/
theorem q_latent (r : Fin 4096) (C : Fin 2048) : val_main_v84 (F := Ideal) x1 x2 x4 x5 x6 x7 (ix2 r C)
    = val_main_v71 (F := Ideal) x1 x2 x4 x5 x6 x7 (ix3 ⟨r.val / 1024, by omega⟩ ⟨r.val % 1024, by omega⟩ ⟨2048 + C.val, by omega⟩) := by
  pointwise [val_main_v84, val_main_v73]

/-- The queries, the prompts' rows first. -/
theorem q_both (R : Fin 12288) (C : Fin 2048) : val_main_v86 (F := Ideal) x0 x1 x2 x3 x4 x5 x6 x7 (ix2 R C)
    = rowP x0 x1 x2 x3 x4 x5 x6 x7 R ⟨2048 + C.val, by omega⟩ := by
  have e : val_main_v86 (F := Ideal) x0 x1 x2 x3 x4 x5 x6 x7 (ix2 R C)
      = if h : R.val < 8192 then val_main_v83 (F := Ideal) x0 x3 x4 x5 x6 x7 (ix2 ⟨R.val, by omega⟩ C)
        else val_main_v84 (F := Ideal) x1 x2 x4 x5 x6 x7 (ix2 ⟨R.val - 8192, by omega⟩ C) := by
    pointwise [val_main_v86, val_main_v85]
  rw [e]
  by_cases h : R.val < 8192
  · rw [dif_pos h, q_prompt]
    exact proj_prompt x0 x1 x2 x3 x4 x5 x6 x7 R ⟨R.val / 256, by omega⟩ ⟨R.val % 256, by omega⟩ (Nat.div_add_mod' R.val 256).symm _
  · rw [dif_neg h, q_latent]
    exact proj_latent x0 x1 x2 x3 x4 x5 x6 x7 R ⟨(R.val - 8192) / 1024, by omega⟩ ⟨(R.val - 8192) % 1024, by omega⟩ (lat_row R.val h) _

end Cert.Proof.In.Ref

end
-- ==== Proof.OdDefs.lean ====
/- The second layer's input projection: its mathematics, number by number. The rows are normalised and modulated as in the
   first layer, multiplied with the projection's weights, and the keys' low-rank part is normalised and multiplied once
   more. -/
module

public import proofs.«01_k».proof.Proof.InDefs
public import proofs.«01_k».proof.Proof.Gen.Kernel5Ideal.Frame

@[expose] public section

set_option maxRecDepth 16384

noncomputable section

namespace Cert.Proof.Odd

open Idealize.ShloMosaic Idealize.ShloMosaic.TcCoe Idealize.SL.Sem Cert.Kernel5Ideal Cert.Kernel5Ideal.Gen
open Idealize.ShloMosaic.Pointwise
open Idealize.ShloMosaic.Pipeline (Dat)

/-- The buffer contents of every core at a point of the run. -/
abbrev Contents := (c : Dev nD) → (b : Ref sig .tc) → Buf (Elt Ideal) ((c : Thread nD τ).loc b)

/-- One number of a normalised row of 512 numbers: `a` the row, `k` the column, `g` the gain there. The two constants are
    the row's length and the small number under the root. -/
def rmsAt (a : Fin 512 → EReal) (k : Fin 512) (g : EReal) : EReal :=
  a k * Ideal.rsqrt (Ideal.div (∑ e, a e * a e) (Ideal.ofBits .f32 0x44000000#32) + Ideal.ofBits .f32 0x358637BD#32) * g

/-- Row `R` of the rows times column `C` of the low-rank parts' weights. -/
def projL (H : Vec Ideal S12288x4096 .bf16) (W : Vec Ideal S4096x1536 .bf16) (R : Fin 12288) (C : Fin 1536) : EReal :=
  ∑ k, H (ix2 R k) * W (ix2 k C)

/-- Row `R` of the rows times column `C` of the positional part's weights. -/
def projP (H : Vec Ideal S12288x4096 .bf16) (W : Vec Ideal S4096x128 .bf16) (R : Fin 12288) (C : Fin 128) : EReal :=
  ∑ k, H (ix2 R k) * W (ix2 k C)

/-- Row `R` of the rows times column `C` of the direct heads' weights. -/
def projW (H : Vec Ideal S12288x4096 .bf16) (W : Vec Ideal S4096x6144 .bf16) (R : Fin 12288) (C : Fin 6144) : EReal :=
  ∑ k, H (ix2 R k) * W (ix2 k C)

/-- Row `R` of the normalised low-rank part times column `C` of the weights that raise it to keys and values. -/
def upAt (H : Vec Ideal S12288x512 .f32) (W : Vec Ideal S512x4096 .bf16) (R : Fin 12288) (C : Fin 4096) : EReal :=
  ∑ k, H (ix2 R k) * W (ix2 k C)

end Cert.Proof.Odd

end
-- ==== Proof.OdSpec.lean ====
/- The second layer's input projection of both streams as functions of the nine argument arrays. -/
module

public import proofs.«01_k».proof.Proof.OdDefs

@[expose] public section

set_option maxRecDepth 16384

noncomputable section

namespace Cert.Proof.Odd

open Idealize.ShloMosaic Idealize.ShloMosaic.TcCoe Idealize.SL.Sem Cert.Kernel5Ideal Cert.Kernel5Ideal.Gen
open Idealize.ShloMosaic.Pointwise
open Cert.Proof.In (silu modAt normAt)

variable (x0 : Vec Ideal S12288x4096 .f32) (x1 : Vec Ideal S4x4096 .f32) (x2 : Vec Ideal S4096 .f32) (x3 : Vec Ideal S4096x24576 .f32)
  (x4 : Vec Ideal S24576 .f32) (x5 : Vec Ideal S4096 .f32) (x6 : Vec Ideal S4096x7744 .f32) (x7 : Vec Ideal S512 .f32) (x8 : Vec Ideal S512x4096 .f32)

/-- The condition of a row: `x2` for the 8192 prompt rows, then one row of `x1` each for the four latent sequences of 1024
    rows. -/
def condRow (R : Fin 12288) (e : Fin 4096) : EReal :=
  if h : R.val < 8192 then x2 (ix1 e) else x1 (ix2 ⟨(R.val - 8192) / 1024, by omega⟩ e)

/-- One number of a normalised row: `x0` the rows, `c` the row's condition, `x3` and `x4` the modulation's weights and offsets,
    `x5` the gain. The shift is the modulation's first part, the scale its second. -/
def rowWith (c : Fin 4096 → EReal) (R : Fin 12288) (k : Fin 4096) : EReal :=
  normAt (fun e => x0 (ix2 R e)) k (x5 (ix1 k))
    (modAt c (fun e => x3 (ix2 e ⟨k.val, by omega⟩)) (x4 (ix1 ⟨k.val, by omega⟩)))
    (modAt c (fun e => x3 (ix2 e ⟨4096 + k.val, by omega⟩)) (x4 (ix1 ⟨4096 + k.val, by omega⟩)))

/-- One number of the rows of both streams, the prompts' first. -/
def rowH (R : Fin 12288) (k : Fin 4096) : EReal := rowWith x0 x3 x4 x5 (condRow x1 x2 R) R k

/-- One number of the projection: row `R` of both streams, column `C` of the weights `x6`. -/
def rowP (R : Fin 12288) (C : Fin 7744) : EReal := ∑ k, rowH x0 x1 x2 x3 x4 x5 R k * x6 (ix2 k C)

/-- One number of the keys' low-rank part, the projection's columns 1024 to 1535, normalised with the gain `x7`. -/
def ckvAt (R : Fin 12288) (k : Fin 512) : EReal :=
  rmsAt (fun e => rowP x0 x1 x2 x3 x4 x5 x6 R ⟨1024 + e.val, by omega⟩) k (x7 (ix1 k))

/-- One number of the latent keys and values: the normalised low-rank part times the weights `x8`. -/
def kvAt (R : Fin 12288) (C : Fin 4096) : EReal := ∑ k, ckvAt x0 x1 x2 x3 x4 x5 x6 x7 R k * x8 (ix2 k C)

/-- A prompt row's condition. -/
theorem condRow_prompt (R : Fin 12288) (h : R.val < 8192) : condRow x1 x2 R = fun e => x2 (ix1 e) :=
  funext fun _ => dif_pos h

/-- A latent row's condition. -/
theorem condRow_latent (R : Fin 12288) (b : Fin 4) (l : Fin 1024) (hR : R.val = 8192 + (b.val * 1024 + l.val)) :
    condRow x1 x2 R = fun e => x1 (ix2 b e) := by
  have hb : (⟨(R.val - 8192) / 1024, by omega⟩ : Fin 4) = b := Fin.ext (by show (R.val - 8192) / 1024 = b.val; omega)
  funext e
  refine (dif_neg (by omega)).trans ?_
  rw [hb]

end Cert.Proof.Odd

end
-- ==== Proof.OdCond.lean ====
/- What the second layer's host code leaves: the conditions' table, whose row 0 is the prompt's condition and rows 1 to 4 the
   latent sequences', and the parts of the weights. -/
module

public import proofs.«01_k».proof.Proof.InCond
public import proofs.«01_k».proof.Proof.OdDefs

@[expose] public section

set_option maxRecDepth 16384

noncomputable section

namespace Cert.Proof.Odd.Cond

open Idealize.ShloMosaic Idealize.ShloMosaic.TcCoe Idealize.SL.Sem Cert.Kernel5Ideal Cert.Kernel5Ideal.Gen
open Idealize.ShloMosaic.Pointwise

variable (m : (ℓ : Loc nD τ sig) → Buf (Elt Ideal) ℓ) (ρ : Dev nD → PrngReg)

/-- Row 0 of the table is the prompt's condition. -/
theorem cond0 (c : Dev nD) (e : Fin 4096) : V1 m ρ c main_v4 (ix2 0 e) = m ((c : Thread nD τ).loc main_arg2) (ix1 e) := by
  show StableHlo.after hostOps0 (W0 m ρ c) _ _ = _
  after_reads_at
  exact (In.Cond.rows_miss _ _ 1 (by rfl) _ 0 (by decide) e).trans (In.Cond.row_hit _ _ 0 (by rfl) _ e)

/-- Rows 1 to 4 of the table are the latent sequences' conditions. -/
theorem cond1 (c : Dev nD) (r : Fin 8) (a : Fin 4) (hr : r.val = 1 + a.val) (e : Fin 4096) :
    V1 m ρ c main_v4 (ix2 r e) = m ((c : Thread nD τ).loc main_arg1) (ix2 a e) := by
  show StableHlo.after hostOps0 (W0 m ρ c) _ _ = _
  after_reads_at
  exact In.Cond.rows_hit _ _ 1 (by rfl) _ a r hr e

/-- The offsets as a row. -/
theorem offs (c : Dev nD) (j : Fin 24576) : V1 m ρ c main_v5 (ix2 0 j) = m ((c : Thread nD τ).loc main_arg4) (ix1 j) := by
  show StableHlo.after hostOps0 (W0 m ρ c) _ _ = _
  after_reads_at

/-- The modulation with an axis more. -/
theorem v7_at (c : Dev nD) (r : Fin 8) (j : Fin 24576) : V5 m ρ c main_v7 (ix3 r 0 j) = V2 m ρ c main_v6 (ix2 r j) := by
  refine (congrFun ((W5_of m ρ c main_v7 (by decide)).trans (W4_of m ρ c main_v7 (by decide))) _).trans ?_
  show StableHlo.after hostOps1 (W2 m ρ c) _ _ = _
  after_reads_at

/-- The weights of the low-rank parts: the first 1536 columns. -/
theorem v9_at (c : Dev nD) (k : Fin 4096) (C : Fin 1536) :
    V5 m ρ c main_v9 (ix2 k C) = m ((c : Thread nD τ).loc main_arg6) (ix2 k ⟨C.val, by omega⟩) := by
  refine (congrFun ((W5_of m ρ c main_v9 (by decide)).trans (W4_of m ρ c main_v9 (by decide))) _).trans ?_
  show StableHlo.after hostOps1 (W2 m ρ c) _ _ = _
  after_reads_at
  exact congrFun (W2_args m ρ c main_arg6 (by decide)) _

/-- The weights of the direct heads: the columns from 1600 on. -/
theorem v11_at (c : Dev nD) (k : Fin 4096) (C : Fin 6144) :
    V5 m ρ c main_v11 (ix2 k C) = m ((c : Thread nD τ).loc main_arg6) (ix2 k ⟨1600 + C.val, by omega⟩) := by
  refine (congrFun ((W5_of m ρ c main_v11 (by decide)).trans (W4_of m ρ c main_v11 (by decide))) _).trans ?_
  show StableHlo.after hostOps1 (W2 m ρ c) _ _ = _
  after_reads_at
  exact congrFun (W2_args m ρ c main_arg6 (by decide)) _

/-- The columns from 1536 to 1599 apart. -/
theorem v12_at (c : Dev nD) (k : Fin 4096) (C : Fin 64) :
    W3 m ρ c main_v12 (ix2 k C) = m ((c : Thread nD τ).loc main_arg6) (ix2 k ⟨1536 + C.val, by omega⟩) := by
  show StableHlo.after hostOps1 (W2 m ρ c) _ _ = _
  after_reads_at
  exact congrFun (W2_args m ρ c main_arg6 (by decide)) _

/-- The same with 64 columns of padding behind. -/
theorem v13_at (c : Dev nD) (k : Fin 4096) (C : Fin 128) (hC : C.val < 64) :
    W4 m ρ c main_v13 (ix2 k C) = W3 m ρ c main_v12 (ix2 k ⟨C.val, hC⟩) := by
  show StableHlo.after hostOps1_1 (W3 m ρ c) _ _ = _
  after_reads_at
  exact dif_pos hC

/-- The weights of the positional part, as the kernel reads them. -/
theorem v14_at (c : Dev nD) (k : Fin 4096) (C : Fin 128) (hC : C.val < 64) :
    V5 m ρ c main_v14 (ix2 k C) = m ((c : Thread nD τ).loc main_arg6) (ix2 k ⟨1536 + C.val, by omega⟩) := by
  refine Eq.trans ?_ ((v13_at m ρ c k C hC).trans (v12_at m ρ c k ⟨C.val, hC⟩))
  show StableHlo.after hostOps1_2 (W4 m ρ c) _ _ = _
  after_reads_at

/-- The gain as a row. -/
theorem v15_at (c : Dev nD) (e : Fin 4096) : V5 m ρ c main_v15 (ix2 0 e) = m ((c : Thread nD τ).loc main_arg5) (ix1 e) := by
  show StableHlo.after hostOps1_2 (W4 m ρ c) _ _ = _
  after_reads_at
  exact congrFun (W4_args m ρ c main_arg5 (by decide)) _

/-- The low-rank part's gain as a row. -/
theorem v24_at (c : Dev nD) (e : Fin 512) : V14 m ρ c main_v24 (ix2 0 e) = m ((c : Thread nD τ).loc main_arg7) (ix1 e) := by
  show StableHlo.after hostOps9 (W13 m ρ c) _ _ = _
  after_reads_at
  exact congrFun (W13_args m ρ c main_arg7 (by decide)) _

/-- The weights that raise the low-rank part. -/
theorem v26_at (c : Dev nD) (k : Fin 512) (C : Fin 4096) : V16 m ρ c main_v26 (ix2 k C) = m ((c : Thread nD τ).loc main_arg8) (ix2 k C) := by
  show StableHlo.after hostOps10 (W15 m ρ c) _ _ = _
  after_reads_at
  exact congrFun (W15_args m ρ c main_arg8 (by decide)) _

/-- The prompts' normalised low-rank part, sequence by sequence. -/
theorem v29_at (c : Dev nD) (b : Fin 32) (l : Fin 256) (k : Fin 512) :
    W18 m ρ c main_v29 (ix3 b l k) = W17 m ρ c main_v25 (ix2 ⟨b.val * 256 + l.val, by omega⟩ k) := by
  show StableHlo.after hostOps11 (W17 m ρ c) _ _ = _
  after_reads_at

/-- The prompts' positional part, sequence by sequence. -/
theorem v31_at (c : Dev nD) (b : Fin 32) (l : Fin 256) (k : Fin 64) :
    W18 m ρ c main_v31 (ix3 b l k) = W17 m ρ c main_v18 (ix2 ⟨b.val * 256 + l.val, by omega⟩ ⟨k.val, by omega⟩) := by
  show StableHlo.after hostOps11 (W17 m ρ c) _ _ = _
  after_reads_at

end Cert.Proof.Odd.Cond

end
-- ==== Proof.OdMod.lean ====
/- The second layer's modulation: a row of numbers for each of eight conditions, index by index. -/
module

public import proofs.«01_k».proof.Proof.OdDefs

@[expose] public section

set_option maxRecDepth 16384

noncomputable section

namespace Cert.Proof.Odd.Mod

open Idealize.ShloMosaic Idealize.ShloMosaic.TcCoe Idealize.SL.Sem Cert.Kernel5Ideal Cert.Kernel5Ideal.Gen
open Idealize.ShloMosaic.Pointwise
open Cert.Proof.In (silu modAt normAt)
open Idealize.ShloMosaic.Pipeline (Dat)

/-- The value one grid point stores, element by element. -/
theorem pay_apply (x : Vec Ideal S8x4096 .f32) (w : Vec Ideal S4096x512 .f32) (b : Vec Ideal S1x512 .f32) (s : Fin 8) (e : Fin 512) :
    k0_pay1 x w b (ix2 s e) = modAt (fun k => x (ix2 s k)) (fun k => w (ix2 k e)) (b (ix2 0 e)) := by
  unfold modAt silu
  pointwise [k0_pay1]
  simp only [zero_sub]

/-- The block one grid point writes, element by element. -/
theorem out_apply (x0 : Vec Ideal S8x4096 .f32) (x1 : Vec Ideal S4096x512 .f32) (x2 : Vec Ideal S1x512 .f32) (s : Fin 8) (e : Fin 512) :
    out0_3 x0 x1 x2 (ix2 s e) = modAt (fun k => x0 (ix2 s k)) (fun k => x1 (ix2 k e)) (x2 (ix2 0 e)) := by
  unfold out0_3
  refine View.canon_apply_of_pieces (Val := Elt Ideal) (e := .f32)
    (fun i : S8x512.Idx => modAt (fun k => x0 (ix2 (i 0) k)) (fun k => x1 (ix2 k (i 1))) (x2 (ix2 0 (i 1)))) _
    (fun p hp j => ?_) _ (cover0_3 _ _)
  simp only [List.mem_cons, List.not_mem_nil, or_false] at hp
  subst hp
  obtain ⟨s, e, rfl⟩ : ∃ (s : Fin 8) (e : Fin 512), j = ix2 s e := ⟨j 0, j 1, ValueIdx.eq_ix2 j⟩
  have he : r0_3.emb (ix2 s e) = (ix2 s e : S8x512.Idx) := by
    funext a
    match a with
    | ⟨0, _⟩ => exact Fin.ext (show 0 + 1 * s.val = s.val by omega)
    | ⟨1, _⟩ => exact Fin.ext (show 0 + 1 * e.val = e.val by omega)
  refine (pay_apply _ _ _ s e).trans ?_
  simp only [he]
  pointwise []

variable (V : Contents)

/-- The modulation as one function of the three arrays it reads. -/
def result (c : Dev nD) : Buf (Elt Ideal) ((c : Thread nD τ).loc main_v6) := fun i : S8x24576.Idx =>
  modAt (fun k => V c main_v4 (ix2 (i 0) k)) (fun k => V c main_arg3 (ix2 k (i 1))) (V c main_v5 (ix2 0 (i 1)))

/-- Where each window's block lies at point `t`: block column `t`. -/
theorem idx_facts : ∀ t : Fin cfg0.N,
    (win0_0.index t 0 = 0 ∧ win0_0.index t 1 = 0)
    ∧ (win0_1.index t 0 = 0 ∧ win0_1.index t 1 = t.val)
    ∧ (win0_2.index t 0 = 0 ∧ win0_2.index t 1 = t.val)
    ∧ (win0_3.index t 0 = 0 ∧ win0_3.index t 1 = t.val) := by
  decide +kernel

/-- The grid has 48 points. -/
theorem lt_N (t : Fin cfg0.N) : t.val < 48 := t.isLt

/-- The conditions' block is the whole array. -/
theorem read0 (c : Dev nD) (t : Fin cfg0.N) (s : Fin 8) (k : Fin 4096) : iblk0 V c 0 t (ix2 s k) = V c main_v4 (ix2 s k) := by
  obtain ⟨⟨h0, h1⟩, -⟩ := idx_facts t
  unfold iblk0
  rw [View.read_apply]
  show V c main_v4 _ = _
  congr 1
  funext a
  apply Fin.ext
  match a with
  | ⟨0, _⟩ => show win0_0.index t 0 * 8 + 1 * s.val = s.val; rw [h0]; omega
  | ⟨1, _⟩ => show win0_0.index t 1 * 4096 + 1 * k.val = k.val; rw [h1]; omega

/-- The weights' block at point `t`. -/
theorem read1 (c : Dev nD) (t : Fin cfg0.N) (k : Fin 4096) (e : Fin 512) : iblk0 V c 1 t (ix2 k e)
    = V c main_arg3 (ix2 k ⟨t.val * 512 + e.val, by have := lt_N t; omega⟩) := by
  obtain ⟨-, ⟨h0, h1⟩, -⟩ := idx_facts t
  unfold iblk0
  rw [View.read_apply]
  show V c main_arg3 _ = _
  congr 1
  funext a
  apply Fin.ext
  match a with
  | ⟨0, _⟩ => show win0_1.index t 0 * 4096 + 1 * k.val = k.val; rw [h0]; omega
  | ⟨1, _⟩ => show win0_1.index t 1 * 512 + 1 * e.val = t.val * 512 + e.val; rw [h1]; omega

/-- The offsets' block at point `t`. -/
theorem read2 (c : Dev nD) (t : Fin cfg0.N) (e : Fin 512) : iblk0 V c 2 t (ix2 0 e)
    = V c main_v5 (ix2 0 ⟨t.val * 512 + e.val, by have := lt_N t; omega⟩) := by
  obtain ⟨-, -, ⟨h0, h1⟩, -⟩ := idx_facts t
  unfold iblk0
  rw [View.read_apply]
  show V c main_v5 _ = _
  congr 1
  funext a
  apply Fin.ext
  match a with
  | ⟨0, _⟩ => show win0_2.index t 0 * 1 + 1 * 0 = 0; rw [h0]
  | ⟨1, _⟩ => show win0_2.index t 1 * 512 + 1 * e.val = t.val * 512 + e.val; rw [h1]; omega

/-- The modulation's number for row `s`, column `j`. -/
def valAt (c : Dev nD) (s : Fin 8) (j : Fin 24576) : EReal :=
  modAt (fun k => V c main_v4 (ix2 s k)) (fun k => V c main_arg3 (ix2 k j)) (V c main_v5 (ix2 0 j))

/-- What point `t` writes back is its block of `result`. -/
theorem flushed_eq (c : Dev nD) (t : Fin cfg0.N) :
    (dat0 V c).flushed 3 t = ((cfg0.win 3).blk t).view.read (Elt Ideal) (result V c) := by
  obtain ⟨-, -, -, h0, h1⟩ := idx_facts t
  have hN := lt_N t
  have hf : (dat0 V c).flushed 3 t = (cfg0.win 3).cut (grid0.coords t) (out0_3 (iblk0 V c 0 t) (iblk0 V c 1 t) (iblk0 V c 2 t)) := by
    show (cfg0.win 3).cut (grid0.coords t) ((dat0 V c).after 3 t) = _
    rw [after0_3]
  rw [hf]
  funext j
  rw [View.read_apply]
  obtain ⟨s, e, rfl⟩ : ∃ (s : Fin 8) (e : Fin 512), j = (ix2 s e : S8x512.Idx) := ⟨j 0, j 1, ValueIdx.eq_ix2 j⟩
  refine (out_apply (iblk0 V c 0 t) (iblk0 V c 1 t) (iblk0 V c 2 t) s e).trans ?_
  simp only [read0, read1, read2]
  show valAt V c s ⟨t.val * 512 + e.val, by omega⟩ = valAt V c _ _
  refine congr (congrArg (valAt V c) ?_) ?_
  · exact Fin.ext (show s.val = win0_3.index t 0 * 8 + 1 * s.val by rw [h0]; omega)
  · exact Fin.ext (show t.val * 512 + e.val = win0_3.index t 1 * 512 + 1 * e.val by rw [h1]; omega)

/-- The point whose block holds index `i`. -/
theorem covered (i : S8x24576.Idx) : ∃ t : Fin cfg0.N, (cfg0.win 3).flush t = true ∧ i ∈ ((cfg0.win 3).blk t).view.set := by
  have b0 : (i 0 : Nat) < 8 := (i 0).isLt
  have b1 : (i 1 : Nat) < 24576 := (i 1).isLt
  let t : Fin cfg0.N := ⟨(i 1 : Nat) / 512, by show _ < 48; omega⟩
  have ht : t.val = (i 1 : Nat) / 512 := rfl
  obtain ⟨-, -, -, h0, h1⟩ := idx_facts t
  refine ⟨t, flush0_3 t, ?_⟩
  show i ∈ ((View.whole main_v6).slice (win0_3.rect t)).set
  rw [View.set_slice_whole, Rect.mem_set_unit]
  intro a
  match a with
  | ⟨0, _⟩ => show win0_3.index t 0 * 8 ≤ (i 0 : Nat) ∧ (i 0 : Nat) < win0_3.index t 0 * 8 + 8; rw [h0]; omega
  | ⟨1, _⟩ => show win0_3.index t 1 * 512 ≤ (i 1 : Nat) ∧ (i 1 : Nat) < win0_3.index t 1 * 512 + 512; rw [h1]; omega

/-- The modulation's array ends holding `result`. -/
theorem final_eq (c : Dev nD) : (dat0 V c).arrAt 3 cfg0.N = result V c :=
  (dat0 V c).arrAt_eq_of_cover 3 (result V c) (fun t _ => flushed_eq V c t) covered

end Cert.Proof.Odd.Mod

end
-- ==== Proof.OdNorm.lean ====
/- The second layer's normalised and modulated rows: an array of 12288 rows and 4096 columns, index by index. -/
module

public import proofs.«01_k».proof.Proof.OdDefs

@[expose] public section

set_option maxRecDepth 16384

noncomputable section

namespace Cert.Proof.Odd.Norm

open Idealize.ShloMosaic Idealize.ShloMosaic.TcCoe Idealize.ShloMosaic.Tactic Idealize.SL.Sem Cert.Kernel5Ideal Cert.Kernel5Ideal.Gen
open Idealize.ShloMosaic.Pointwise
open Cert.Proof.In (silu modAt normAt)
open Idealize.ShloMosaic.Pipeline (Dat)

/-- The value a grid point stores, element by element. -/
theorem pay_apply (x : Vec Ideal S512x4096 .f32) (g : Vec Ideal S1x4096 .f32) (sc sh : Vec Ideal S1x1x4096 .f32) (r : Fin 512) (k : Fin 4096) :
    k1_pay1 x g sc sh (ix2 r k) = normAt (fun e => x (ix2 r e)) k (g (ix2 0 k)) (sh (ix3 0 0 k)) (sc (ix3 0 0 k)) := by
  unfold normAt
  pointwise [k1_pay1]

/-- The element at row `r`, column `k` of a block from the four blocks it is computed from. -/
def blockAt (x0 : Vec Ideal S512x4096 .f32) (x1 : Vec Ideal S1x4096 .f32) (x2 x3 : Vec Ideal S1x1x4096 .f32) (r : Fin 512) (k : Fin 4096) : EReal :=
  normAt (fun e => x0 (ix2 r e)) k (x1 (ix2 0 k)) (x2 (ix3 0 0 k)) (x3 (ix3 0 0 k))

/-- The block one grid point writes, element by element. -/
theorem out_apply (x0 : Vec Ideal S512x4096 .f32) (x1 : Vec Ideal S1x4096 .f32) (x2 x3 : Vec Ideal S1x1x4096 .f32) (r : Fin 512) (k : Fin 4096) :
    out1_4 x0 x1 x2 x3 (ix2 r k) = blockAt x0 x1 x2 x3 r k := by
  unfold out1_4
  refine View.canon_apply_of_pieces (Val := Elt Ideal) (e := .bf16) (fun i : S512x4096.Idx => blockAt x0 x1 x2 x3 (i 0) (i 1)) _
    (fun p hp j => ?_) _ (cover1_4 _ _)
  simp only [List.mem_cons, List.not_mem_nil, or_false] at hp
  subst hp
  obtain ⟨r, k, rfl⟩ : ∃ (r : Fin 512) (k : Fin 4096), j = (ix2 r k : S512x4096.Idx) := ⟨j 0, j 1, ValueIdx.eq_ix2 j⟩
  have he : r1_0.emb (ix2 r k) = (ix2 r k : S512x4096.Idx) := by
    funext a
    match a with
    | ⟨0, _⟩ => exact Fin.ext (show 0 + 1 * r.val = r.val by omega)
    | ⟨1, _⟩ => exact Fin.ext (show 0 + 1 * k.val = k.val by omega)
  refine (pay_apply _ _ _ _ r k).trans ?_
  simp only [he]
  unfold blockAt
  pointwise []

/-- Which condition modulates a row: condition 0 the 8192 prompt rows, then one each the four latent sequences of 1024 rows. -/
def condOf (R : Fin 12288) : Fin 8 := ⟨if R.val < 8192 then 0 else 1 + (R.val - 8192) / 1024, by split <;> omega⟩

/-- The number at row `R`, column `k`. -/
def valAt (X : Vec Ideal S12288x4096 .f32) (G : Vec Ideal S1x4096 .f32) (M : Vec Ideal S8x1x24576 .f32)
    (R : Fin 12288) (k : Fin 4096) : EReal :=
  normAt (fun e => X (ix2 R e)) k (G (ix2 0 k)) (M (ix3 (condOf R) 0 ⟨k.val, by omega⟩)) (M (ix3 (condOf R) 0 ⟨4096 + k.val, by omega⟩))

variable (V : Contents)

/-- The array of normalised and modulated rows as one function of the three arrays it reads. -/
def result (c : Dev nD) : Buf (Elt Ideal) ((c : Thread nD τ).loc main_v16) := fun i : S12288x4096.Idx =>
  valAt (V c main_arg0) (V c main_v15) (V c main_v7) (i 0) (i 1)

/-- Where each window's block lies at point `t`: block row `t`, the first 16 of them the prompt rows'. -/
theorem idx_facts : ∀ t : Fin cfg1.N,
    (win1_0.index t 0 = t.val ∧ win1_0.index t 1 = 0)
    ∧ (win1_1.index t 0 = 0 ∧ win1_1.index t 1 = 0)
    ∧ (win1_2.index t 0 = (if t.val < 16 then 0 else 1 + (t.val - 16) / 2) ∧ win1_2.index t 1 = 0 ∧ win1_2.index t 2 = 0)
    ∧ (win1_3.index t 0 = (if t.val < 16 then 0 else 1 + (t.val - 16) / 2) ∧ win1_3.index t 1 = 0 ∧ win1_3.index t 2 = 1)
    ∧ (win1_4.index t 0 = t.val ∧ win1_4.index t 1 = 0) := by
  decide +kernel

/-- The grid has 24 points. -/
theorem lt_N (t : Fin cfg1.N) : t.val < 24 := t.isLt

/-- A block of 512 rows lies in one sequence, so one condition modulates all of it. -/
theorem cond_eq (t : Fin cfg1.N) (r : Fin 512) (h : t.val * 512 + r.val < 12288) :
    (if t.val < 16 then 0 else 1 + (t.val - 16) / 2) = (condOf ⟨t.val * 512 + r.val, h⟩).val := by
  show _ = if t.val * 512 + r.val < 8192 then 0 else 1 + (t.val * 512 + r.val - 8192) / 1024
  by_cases h : t.val < 16
  · rw [if_pos h, if_pos (by omega)]
  · rw [if_neg h, if_neg (by omega)]; omega

/-- The rows' block at point `t`. -/
theorem read0 (c : Dev nD) (t : Fin cfg1.N) (r : Fin 512) (k : Fin 4096) : iblk1 V c 0 t (ix2 r k)
    = V c main_arg0 (ix2 ⟨t.val * 512 + r.val, by have := lt_N t; omega⟩ k) := by
  obtain ⟨⟨h0, h1⟩, -⟩ := idx_facts t
  unfold iblk1
  rw [View.read_apply]
  show V c main_arg0 _ = _
  congr 1
  funext a
  apply Fin.ext
  match a with
  | ⟨0, _⟩ => show win1_0.index t 0 * 512 + 1 * r.val = t.val * 512 + r.val; rw [h0]; omega
  | ⟨1, _⟩ => show win1_0.index t 1 * 4096 + 1 * k.val = k.val; rw [h1]; omega

/-- The gain's block is the whole row. -/
theorem read1 (c : Dev nD) (t : Fin cfg1.N) (k : Fin 4096) : iblk1 V c 1 t (ix2 0 k) = V c main_v15 (ix2 0 k) := by
  obtain ⟨-, ⟨h0, h1⟩, -⟩ := idx_facts t
  unfold iblk1
  rw [View.read_apply]
  show V c main_v15 _ = _
  congr 1
  funext a
  apply Fin.ext
  match a with
  | ⟨0, _⟩ => show win1_1.index t 0 * 1 + 1 * 0 = 0; rw [h0]
  | ⟨1, _⟩ => show win1_1.index t 1 * 4096 + 1 * k.val = k.val; rw [h1]; omega

/-- The shift's block at point `t`. -/
theorem read2 (c : Dev nD) (t : Fin cfg1.N) (r : Fin 512) (k : Fin 4096) : iblk1 V c 2 t (ix3 0 0 k)
    = V c main_v7 (ix3 (condOf ⟨t.val * 512 + r.val, by have := lt_N t; omega⟩) 0 ⟨k.val, by omega⟩) := by
  obtain ⟨-, -, ⟨h0, h1, h2⟩, -⟩ := idx_facts t
  unfold iblk1
  rw [View.read_apply]
  show V c main_v7 _ = _
  congr 1
  funext a
  apply Fin.ext
  match a with
  | ⟨0, _⟩ => show win1_2.index t 0 * 1 + 1 * 0 = _; rw [h0, Nat.mul_one, Nat.mul_zero, Nat.add_zero]; exact cond_eq t r _
  | ⟨1, _⟩ => show win1_2.index t 1 * 1 + 1 * 0 = 0; rw [h1]
  | ⟨2, _⟩ => show win1_2.index t 2 * 4096 + 1 * k.val = k.val; rw [h2]; omega

/-- The scale's block at point `t`. -/
theorem read3 (c : Dev nD) (t : Fin cfg1.N) (r : Fin 512) (k : Fin 4096) : iblk1 V c 3 t (ix3 0 0 k)
    = V c main_v7 (ix3 (condOf ⟨t.val * 512 + r.val, by have := lt_N t; omega⟩) 0 ⟨4096 + k.val, by omega⟩) := by
  obtain ⟨-, -, -, ⟨h0, h1, h2⟩, -⟩ := idx_facts t
  unfold iblk1
  rw [View.read_apply]
  show V c main_v7 _ = _
  congr 1
  funext a
  apply Fin.ext
  match a with
  | ⟨0, _⟩ => show win1_3.index t 0 * 1 + 1 * 0 = _; rw [h0, Nat.mul_one, Nat.mul_zero, Nat.add_zero]; exact cond_eq t r _
  | ⟨1, _⟩ => show win1_3.index t 1 * 1 + 1 * 0 = 0; rw [h1]
  | ⟨2, _⟩ => show win1_3.index t 2 * 4096 + 1 * k.val = 4096 + k.val; rw [h2]; omega

/-- The block that point `t` computes, element by element. -/
theorem block_eq (c : Dev nD) (t : Fin cfg1.N) (r : Fin 512) (k : Fin 4096) :
    blockAt (iblk1 V c 0 t) (iblk1 V c 1 t) (iblk1 V c 2 t) (iblk1 V c 3 t) r k
      = valAt (V c main_arg0) (V c main_v15) (V c main_v7) ⟨t.val * 512 + r.val, by have := lt_N t; omega⟩ k := by
  unfold blockAt valAt
  rw [read1 V c t k, read2 V c t r k, read3 V c t r k]
  simp only [read0]

/-- What point `t` writes back is its block of `result`. -/
theorem flushed_eq (c : Dev nD) (t : Fin cfg1.N) :
    (dat1 V c).flushed 4 t = ((cfg1.win 4).blk t).view.read (Elt Ideal) (result V c) := by
  obtain ⟨-, -, -, -, h0, h1⟩ := idx_facts t
  have hf : (dat1 V c).flushed 4 t = (cfg1.win 4).cut (grid1.coords t) (out1_4 (iblk1 V c 0 t) (iblk1 V c 1 t) (iblk1 V c 2 t) (iblk1 V c 3 t)) := by
    show (cfg1.win 4).cut (grid1.coords t) ((dat1 V c).after 4 t) = _
    rw [after1_4]
  rw [hf]
  funext j
  rw [View.read_apply]
  obtain ⟨r, k, rfl⟩ : ∃ (r : Fin 512) (k : Fin 4096), j = (ix2 r k : S512x4096.Idx) := ⟨j 0, j 1, ValueIdx.eq_ix2 j⟩
  refine (out_apply (iblk1 V c 0 t) (iblk1 V c 1 t) (iblk1 V c 2 t) (iblk1 V c 3 t) r k).trans ?_
  refine (block_eq V c t r k).trans ?_
  show _ = result V c _
  unfold result
  refine congr (congrArg (valAt _ _ _) ?_) ?_
  · exact Fin.ext (show t.val * 512 + r.val = win1_4.index t 0 * 512 + 1 * r.val by rw [h0]; omega)
  · exact Fin.ext (show k.val = win1_4.index t 1 * 4096 + 1 * k.val by rw [h1]; omega)

/-- The point whose block holds index `i`. -/
theorem covered (i : S12288x4096.Idx) : ∃ t : Fin cfg1.N, (cfg1.win 4).flush t = true ∧ i ∈ ((cfg1.win 4).blk t).view.set := by
  have b0 : (i 0 : Nat) < 12288 := (i 0).isLt
  have b1 : (i 1 : Nat) < 4096 := (i 1).isLt
  let t : Fin cfg1.N := ⟨(i 0 : Nat) / 512, by show _ < 24; omega⟩
  have ht : t.val = (i 0 : Nat) / 512 := rfl
  obtain ⟨-, -, -, -, h0, h1⟩ := idx_facts t
  refine ⟨t, flush1_4 t, ?_⟩
  show i ∈ ((View.whole main_v16).slice (win1_4.rect t)).set
  rw [View.set_slice_whole, Rect.mem_set_unit]
  intro a
  match a with
  | ⟨0, _⟩ => show win1_4.index t 0 * 512 ≤ (i 0 : Nat) ∧ (i 0 : Nat) < win1_4.index t 0 * 512 + 512; rw [h0]; omega
  | ⟨1, _⟩ => show win1_4.index t 1 * 4096 ≤ (i 1 : Nat) ∧ (i 1 : Nat) < win1_4.index t 1 * 4096 + 4096; rw [h1]; omega

/-- The array of normalised rows ends holding `result`. -/
theorem final_eq (c : Dev nD) : (dat1 V c).arrAt 4 cfg1.N = result V c :=
  (dat1 V c).arrAt_eq_of_cover 4 (result V c) (fun t _ => flushed_eq V c t) covered

end Cert.Proof.Odd.Norm

end
-- ==== Proof.OdLora.lean ====
/- The second layer's input projection: the two low-rank parts, an array of 12288 rows and 1536 columns, index by index. -/
module

public import proofs.«01_k».proof.Proof.OdDefs

@[expose] public section

set_option maxRecDepth 16384

noncomputable section

namespace Cert.Proof.Odd.Lora

open Idealize.ShloMosaic Idealize.ShloMosaic.TcCoe Idealize.SL.Sem Cert.Kernel5Ideal Cert.Kernel5Ideal.Gen
open Idealize.ShloMosaic.Pointwise
open Cert.Proof.In (silu modAt normAt)
open Idealize.ShloMosaic.Pipeline (Dat)

/-- The value one grid point stores, element by element. -/
theorem pay_apply (a : Vec Ideal S1024x4096 .bf16) (w : Vec Ideal S4096x512 .bf16) (r : Fin 1024) (c : Fin 512) :
    k2_pay1 a w (ix2 r c) = ∑ k, a (ix2 r k) * w (ix2 k c) := by
  pointwise [k2_pay1]

/-- The element at row `r`, column `c` of the block one grid point writes. -/
def blockAt (x0 : Vec Ideal S1024x4096 .bf16) (x1 : Vec Ideal S4096x512 .bf16) (r : Fin 1024) (c : Fin 512) : EReal :=
  ∑ k, x0 (ix2 r k) * x1 (ix2 k c)

/-- The block one grid point writes, element by element. -/
theorem out_apply (x0 : Vec Ideal S1024x4096 .bf16) (x1 : Vec Ideal S4096x512 .bf16) (r : Fin 1024) (c : Fin 512) :
    out2_2 x0 x1 (ix2 r c) = blockAt x0 x1 r c := by
  unfold out2_2
  refine View.canon_apply_of_pieces (Val := Elt Ideal) (e := .f32) (fun i : S1024x512.Idx => blockAt x0 x1 (i 0) (i 1)) _
    (fun p hp j => ?_) _ (cover2_2 _ _)
  simp only [List.mem_cons, List.not_mem_nil, or_false] at hp
  subst hp
  obtain ⟨r, c, rfl⟩ : ∃ (r : Fin 1024) (c : Fin 512), j = ix2 r c := ⟨j 0, j 1, ValueIdx.eq_ix2 j⟩
  have he : r2_2.emb (ix2 r c) = (ix2 r c : S1024x512.Idx) := by
    funext a
    match a with
    | ⟨0, _⟩ => exact Fin.ext (show 0 + 1 * r.val = r.val by omega)
    | ⟨1, _⟩ => exact Fin.ext (show 0 + 1 * c.val = c.val by omega)
  refine (pay_apply _ _ r c).trans ?_
  simp only [he]
  unfold blockAt
  pointwise []

variable (V : Contents)

/-- The result array as one function of the two arrays it reads. -/
def result (c : Dev nD) : Buf (Elt Ideal) ((c : Thread nD τ).loc main_v17) := fun i : S12288x1536.Idx =>
  projL (V c main_v16) (V c main_v9) (i 0) ⟨0 + (i 1).val, by have := (i 1).isLt; change (i 1).val < 1536 at this; omega⟩

/-- Where each window's block lies at point `t`: block row `t / 3`, block column `t % 3`. -/
theorem idx_facts : ∀ t : Fin cfg2.N,
    (win2_0.index t 0 = t.val / 3 ∧ win2_0.index t 1 = 0)
    ∧ (win2_1.index t 0 = 0 ∧ win2_1.index t 1 = 0 + t.val % 3)
    ∧ (win2_2.index t 0 = t.val / 3 ∧ win2_2.index t 1 = t.val % 3) := by
  decide +kernel

/-- The grid has 36 points. -/
theorem lt_N (t : Fin cfg2.N) : t.val < 36 := t.isLt

/-- The rows' block at point `t`. -/
theorem read0 (c : Dev nD) (t : Fin cfg2.N) (r : Fin 1024) (k : Fin 4096) : iblk2 V c 0 t (ix2 r k)
    = V c main_v16 (ix2 ⟨t.val / 3 * 1024 + r.val, by have := lt_N t; omega⟩ k) := by
  obtain ⟨⟨h0, h1⟩, -⟩ := idx_facts t
  unfold iblk2
  rw [View.read_apply]
  show V c main_v16 _ = _
  congr 1
  funext a
  apply Fin.ext
  match a with
  | ⟨0, _⟩ => show win2_0.index t 0 * 1024 + 1 * r.val = t.val / 3 * 1024 + r.val; rw [h0]; omega
  | ⟨1, _⟩ => show win2_0.index t 1 * 4096 + 1 * k.val = k.val; rw [h1]; omega

/-- The weights' block at point `t`. -/
theorem read1 (c : Dev nD) (t : Fin cfg2.N) (k : Fin 4096) (e : Fin 512) : iblk2 V c 1 t (ix2 k e)
    = V c main_v9 (ix2 k ⟨0 + (t.val % 3 * 512 + e.val), by omega⟩) := by
  obtain ⟨-, ⟨h0, h1⟩, -⟩ := idx_facts t
  unfold iblk2
  rw [View.read_apply]
  show V c main_v9 _ = _
  congr 1
  funext a
  apply Fin.ext
  match a with
  | ⟨0, _⟩ => show win2_1.index t 0 * 4096 + 1 * k.val = k.val; rw [h0]; omega
  | ⟨1, _⟩ => show win2_1.index t 1 * 512 + 1 * e.val = 0 + (t.val % 3 * 512 + e.val); rw [h1]; omega

/-- The block that point `t` computes, element by element. -/
theorem block_eq (c : Dev nD) (t : Fin cfg2.N) (r : Fin 1024) (e : Fin 512) :
    blockAt (iblk2 V c 0 t) (iblk2 V c 1 t) r e
      = projL (V c main_v16) (V c main_v9) ⟨t.val / 3 * 1024 + r.val, by have := lt_N t; omega⟩ ⟨0 + (t.val % 3 * 512 + e.val), by omega⟩ := by
  unfold blockAt projL
  simp only [read0, read1]

/-- What point `t` writes back is its block of `result`. -/
theorem flushed_eq (c : Dev nD) (t : Fin cfg2.N) :
    (dat2 V c).flushed 2 t = ((cfg2.win 2).blk t).view.read (Elt Ideal) (result V c) := by
  obtain ⟨-, -, h0, h1⟩ := idx_facts t
  have hf : (dat2 V c).flushed 2 t = (cfg2.win 2).cut (grid2.coords t) (out2_2 (iblk2 V c 0 t) (iblk2 V c 1 t)) := by
    show (cfg2.win 2).cut (grid2.coords t) ((dat2 V c).after 2 t) = _
    rw [after2_2]
  rw [hf]
  funext j
  rw [View.read_apply]
  obtain ⟨r, e, rfl⟩ : ∃ (r : Fin 1024) (e : Fin 512), j = (ix2 r e : S1024x512.Idx) := ⟨j 0, j 1, ValueIdx.eq_ix2 j⟩
  refine (out_apply (iblk2 V c 0 t) (iblk2 V c 1 t) r e).trans ?_
  refine (block_eq V c t r e).trans ?_
  show _ = result V c _
  unfold result
  refine congr (congrArg (projL _ _) ?_) ?_
  · exact Fin.ext (show t.val / 3 * 1024 + r.val = win2_2.index t 0 * 1024 + 1 * r.val by rw [h0]; omega)
  · exact Fin.ext (show 0 + (t.val % 3 * 512 + e.val) = 0 + (win2_2.index t 1 * 512 + 1 * e.val) by rw [h1]; omega)

/-- The point whose block holds index `i`. -/
theorem covered (i : S12288x1536.Idx) : ∃ t : Fin cfg2.N, (cfg2.win 2).flush t = true ∧ i ∈ ((cfg2.win 2).blk t).view.set := by
  have b0 : (i 0 : Nat) < 12288 := (i 0).isLt
  have b1 : (i 1 : Nat) < 1536 := (i 1).isLt
  let t : Fin cfg2.N := ⟨(i 0 : Nat) / 1024 * 3 + (i 1 : Nat) / 512, by show _ < 36; omega⟩
  have ht : t.val = (i 0 : Nat) / 1024 * 3 + (i 1 : Nat) / 512 := rfl
  obtain ⟨-, -, h0, h1⟩ := idx_facts t
  refine ⟨t, flush2_2 t, ?_⟩
  show i ∈ ((View.whole main_v17).slice (win2_2.rect t)).set
  rw [View.set_slice_whole, Rect.mem_set_unit]
  intro a
  match a with
  | ⟨0, _⟩ => show win2_2.index t 0 * 1024 ≤ (i 0 : Nat) ∧ (i 0 : Nat) < win2_2.index t 0 * 1024 + 1024; rw [h0]; omega
  | ⟨1, _⟩ => show win2_2.index t 1 * 512 ≤ (i 1 : Nat) ∧ (i 1 : Nat) < win2_2.index t 1 * 512 + 512; rw [h1]; omega

/-- The result array ends holding `result`. -/
theorem final_eq (c : Dev nD) : (dat2 V c).arrAt 2 cfg2.N = result V c :=
  (dat2 V c).arrAt_eq_of_cover 2 (result V c) (fun t _ => flushed_eq V c t) covered

end Cert.Proof.Odd.Lora

end
-- ==== Proof.OdKpe.lean ====
/- The second layer's input projection: the keys' positional part, an array of 12288 rows and 128 columns of which 64 are used, index by index. -/
module

public import proofs.«01_k».proof.Proof.OdDefs

@[expose] public section

set_option maxRecDepth 16384

noncomputable section

namespace Cert.Proof.Odd.Kpe

open Idealize.ShloMosaic Idealize.ShloMosaic.TcCoe Idealize.SL.Sem Cert.Kernel5Ideal Cert.Kernel5Ideal.Gen
open Idealize.ShloMosaic.Pointwise
open Cert.Proof.In (silu modAt normAt)
open Idealize.ShloMosaic.Pipeline (Dat)

/-- The value one grid point stores, element by element. -/
theorem pay_apply (a : Vec Ideal S1024x4096 .bf16) (w : Vec Ideal S4096x128 .bf16) (r : Fin 1024) (c : Fin 128) :
    k3_pay1 a w (ix2 r c) = ∑ k, a (ix2 r k) * w (ix2 k c) := by
  pointwise [k3_pay1]

/-- The element at row `r`, column `c` of the block one grid point writes. -/
def blockAt (x0 : Vec Ideal S1024x4096 .bf16) (x1 : Vec Ideal S4096x128 .bf16) (r : Fin 1024) (c : Fin 128) : EReal :=
  ∑ k, x0 (ix2 r k) * x1 (ix2 k c)

/-- The block one grid point writes, element by element. -/
theorem out_apply (x0 : Vec Ideal S1024x4096 .bf16) (x1 : Vec Ideal S4096x128 .bf16) (r : Fin 1024) (c : Fin 128) :
    out3_2 x0 x1 (ix2 r c) = blockAt x0 x1 r c := by
  unfold out3_2
  refine View.canon_apply_of_pieces (Val := Elt Ideal) (e := .f32) (fun i : S1024x128.Idx => blockAt x0 x1 (i 0) (i 1)) _
    (fun p hp j => ?_) _ (cover3_2 _ _)
  simp only [List.mem_cons, List.not_mem_nil, or_false] at hp
  subst hp
  obtain ⟨r, c, rfl⟩ : ∃ (r : Fin 1024) (c : Fin 128), j = ix2 r c := ⟨j 0, j 1, ValueIdx.eq_ix2 j⟩
  have he : r3_2.emb (ix2 r c) = (ix2 r c : S1024x128.Idx) := by
    funext a
    match a with
    | ⟨0, _⟩ => exact Fin.ext (show 0 + 1 * r.val = r.val by omega)
    | ⟨1, _⟩ => exact Fin.ext (show 0 + 1 * c.val = c.val by omega)
  refine (pay_apply _ _ r c).trans ?_
  simp only [he]
  unfold blockAt
  pointwise []

variable (V : Contents)

/-- The result array as one function of the two arrays it reads. -/
def result (c : Dev nD) : Buf (Elt Ideal) ((c : Thread nD τ).loc main_v18) := fun i : S12288x128.Idx =>
  projP (V c main_v16) (V c main_v14) (i 0) ⟨0 + (i 1).val, by have := (i 1).isLt; change (i 1).val < 128 at this; omega⟩

/-- Where each window's block lies at point `t`: block row `t / 1`, block column `t % 1`. -/
theorem idx_facts : ∀ t : Fin cfg3.N,
    (win3_0.index t 0 = t.val / 1 ∧ win3_0.index t 1 = 0)
    ∧ (win3_1.index t 0 = 0 ∧ win3_1.index t 1 = 0 + t.val % 1)
    ∧ (win3_2.index t 0 = t.val / 1 ∧ win3_2.index t 1 = t.val % 1) := by
  decide +kernel

/-- The grid has 12 points. -/
theorem lt_N (t : Fin cfg3.N) : t.val < 12 := t.isLt

/-- The rows' block at point `t`. -/
theorem read0 (c : Dev nD) (t : Fin cfg3.N) (r : Fin 1024) (k : Fin 4096) : iblk3 V c 0 t (ix2 r k)
    = V c main_v16 (ix2 ⟨t.val / 1 * 1024 + r.val, by have := lt_N t; omega⟩ k) := by
  obtain ⟨⟨h0, h1⟩, -⟩ := idx_facts t
  unfold iblk3
  rw [View.read_apply]
  show V c main_v16 _ = _
  congr 1
  funext a
  apply Fin.ext
  match a with
  | ⟨0, _⟩ => show win3_0.index t 0 * 1024 + 1 * r.val = t.val / 1 * 1024 + r.val; rw [h0]; omega
  | ⟨1, _⟩ => show win3_0.index t 1 * 4096 + 1 * k.val = k.val; rw [h1]; omega

/-- The weights' block at point `t`. -/
theorem read1 (c : Dev nD) (t : Fin cfg3.N) (k : Fin 4096) (e : Fin 128) : iblk3 V c 1 t (ix2 k e)
    = V c main_v14 (ix2 k ⟨0 + (t.val % 1 * 128 + e.val), by omega⟩) := by
  obtain ⟨-, ⟨h0, h1⟩, -⟩ := idx_facts t
  unfold iblk3
  rw [View.read_apply]
  show V c main_v14 _ = _
  congr 1
  funext a
  apply Fin.ext
  match a with
  | ⟨0, _⟩ => show win3_1.index t 0 * 4096 + 1 * k.val = k.val; rw [h0]; omega
  | ⟨1, _⟩ => show win3_1.index t 1 * 128 + 1 * e.val = 0 + (t.val % 1 * 128 + e.val); rw [h1]; omega

/-- The block that point `t` computes, element by element. -/
theorem block_eq (c : Dev nD) (t : Fin cfg3.N) (r : Fin 1024) (e : Fin 128) :
    blockAt (iblk3 V c 0 t) (iblk3 V c 1 t) r e
      = projP (V c main_v16) (V c main_v14) ⟨t.val / 1 * 1024 + r.val, by have := lt_N t; omega⟩ ⟨0 + (t.val % 1 * 128 + e.val), by omega⟩ := by
  unfold blockAt projP
  simp only [read0, read1]

/-- What point `t` writes back is its block of `result`. -/
theorem flushed_eq (c : Dev nD) (t : Fin cfg3.N) :
    (dat3 V c).flushed 2 t = ((cfg3.win 2).blk t).view.read (Elt Ideal) (result V c) := by
  obtain ⟨-, -, h0, h1⟩ := idx_facts t
  have hf : (dat3 V c).flushed 2 t = (cfg3.win 2).cut (grid3.coords t) (out3_2 (iblk3 V c 0 t) (iblk3 V c 1 t)) := by
    show (cfg3.win 2).cut (grid3.coords t) ((dat3 V c).after 2 t) = _
    rw [after3_2]
  rw [hf]
  funext j
  rw [View.read_apply]
  obtain ⟨r, e, rfl⟩ : ∃ (r : Fin 1024) (e : Fin 128), j = (ix2 r e : S1024x128.Idx) := ⟨j 0, j 1, ValueIdx.eq_ix2 j⟩
  refine (out_apply (iblk3 V c 0 t) (iblk3 V c 1 t) r e).trans ?_
  refine (block_eq V c t r e).trans ?_
  show _ = result V c _
  unfold result
  refine congr (congrArg (projP _ _) ?_) ?_
  · exact Fin.ext (show t.val / 1 * 1024 + r.val = win3_2.index t 0 * 1024 + 1 * r.val by rw [h0]; omega)
  · exact Fin.ext (show 0 + (t.val % 1 * 128 + e.val) = 0 + (win3_2.index t 1 * 128 + 1 * e.val) by rw [h1]; omega)

/-- The point whose block holds index `i`. -/
theorem covered (i : S12288x128.Idx) : ∃ t : Fin cfg3.N, (cfg3.win 2).flush t = true ∧ i ∈ ((cfg3.win 2).blk t).view.set := by
  have b0 : (i 0 : Nat) < 12288 := (i 0).isLt
  have b1 : (i 1 : Nat) < 128 := (i 1).isLt
  let t : Fin cfg3.N := ⟨(i 0 : Nat) / 1024 * 1 + (i 1 : Nat) / 128, by show _ < 12; omega⟩
  have ht : t.val = (i 0 : Nat) / 1024 * 1 + (i 1 : Nat) / 128 := rfl
  obtain ⟨-, -, h0, h1⟩ := idx_facts t
  refine ⟨t, flush3_2 t, ?_⟩
  show i ∈ ((View.whole main_v18).slice (win3_2.rect t)).set
  rw [View.set_slice_whole, Rect.mem_set_unit]
  intro a
  match a with
  | ⟨0, _⟩ => show win3_2.index t 0 * 1024 ≤ (i 0 : Nat) ∧ (i 0 : Nat) < win3_2.index t 0 * 1024 + 1024; rw [h0]; omega
  | ⟨1, _⟩ => show win3_2.index t 1 * 128 ≤ (i 1 : Nat) ∧ (i 1 : Nat) < win3_2.index t 1 * 128 + 128; rw [h1]; omega

/-- The result array ends holding `result`. -/
theorem final_eq (c : Dev nD) : (dat3 V c).arrAt 2 cfg3.N = result V c :=
  (dat3 V c).arrAt_eq_of_cover 2 (result V c) (fun t _ => flushed_eq V c t) covered

end Cert.Proof.Odd.Kpe

end
-- ==== Proof.OdQd.lean ====
/- The second layer's input projection: the queries of the direct heads, an array of 12288 rows and 2048 columns, index by index. -/
module

public import proofs.«01_k».proof.Proof.OdDefs

@[expose] public section

set_option maxRecDepth 16384

noncomputable section

namespace Cert.Proof.Odd.Qd

open Idealize.ShloMosaic Idealize.ShloMosaic.TcCoe Idealize.SL.Sem Cert.Kernel5Ideal Cert.Kernel5Ideal.Gen
open Idealize.ShloMosaic.Pointwise
open Cert.Proof.In (silu modAt normAt)
open Idealize.ShloMosaic.Pipeline (Dat)

/-- The value one grid point stores, element by element. -/
theorem pay_apply (a : Vec Ideal S1024x4096 .bf16) (w : Vec Ideal S4096x512 .bf16) (r : Fin 1024) (c : Fin 512) :
    k4_pay1 a w (ix2 r c) = ∑ k, a (ix2 r k) * w (ix2 k c) := by
  pointwise [k4_pay1]

/-- The element at row `r`, column `c` of the block one grid point writes. -/
def blockAt (x0 : Vec Ideal S1024x4096 .bf16) (x1 : Vec Ideal S4096x512 .bf16) (r : Fin 1024) (c : Fin 512) : EReal :=
  ∑ k, x0 (ix2 r k) * x1 (ix2 k c)

/-- The block one grid point writes, element by element. -/
theorem out_apply (x0 : Vec Ideal S1024x4096 .bf16) (x1 : Vec Ideal S4096x512 .bf16) (r : Fin 1024) (c : Fin 512) :
    out4_2 x0 x1 (ix2 r c) = blockAt x0 x1 r c := by
  unfold out4_2
  refine View.canon_apply_of_pieces (Val := Elt Ideal) (e := .bf16) (fun i : S1024x512.Idx => blockAt x0 x1 (i 0) (i 1)) _
    (fun p hp j => ?_) _ (cover4_2 _ _)
  simp only [List.mem_cons, List.not_mem_nil, or_false] at hp
  subst hp
  obtain ⟨r, c, rfl⟩ : ∃ (r : Fin 1024) (c : Fin 512), j = ix2 r c := ⟨j 0, j 1, ValueIdx.eq_ix2 j⟩
  have he : r4_2.emb (ix2 r c) = (ix2 r c : S1024x512.Idx) := by
    funext a
    match a with
    | ⟨0, _⟩ => exact Fin.ext (show 0 + 1 * r.val = r.val by omega)
    | ⟨1, _⟩ => exact Fin.ext (show 0 + 1 * c.val = c.val by omega)
  refine (pay_apply _ _ r c).trans ?_
  simp only [he]
  unfold blockAt
  pointwise []

variable (V : Contents)

/-- The result array as one function of the two arrays it reads. -/
def result (c : Dev nD) : Buf (Elt Ideal) ((c : Thread nD τ).loc main_v19) := fun i : S12288x2048.Idx =>
  projW (V c main_v16) (V c main_v11) (i 0) ⟨0 + (i 1).val, by have := (i 1).isLt; change (i 1).val < 2048 at this; omega⟩

/-- Where each window's block lies at point `t`: block row `t / 4`, block column `t % 4`. -/
theorem idx_facts : ∀ t : Fin cfg4.N,
    (win4_0.index t 0 = t.val / 4 ∧ win4_0.index t 1 = 0)
    ∧ (win4_1.index t 0 = 0 ∧ win4_1.index t 1 = 0 + t.val % 4)
    ∧ (win4_2.index t 0 = t.val / 4 ∧ win4_2.index t 1 = t.val % 4) := by
  decide +kernel

/-- The grid has 48 points. -/
theorem lt_N (t : Fin cfg4.N) : t.val < 48 := t.isLt

/-- The rows' block at point `t`. -/
theorem read0 (c : Dev nD) (t : Fin cfg4.N) (r : Fin 1024) (k : Fin 4096) : iblk4 V c 0 t (ix2 r k)
    = V c main_v16 (ix2 ⟨t.val / 4 * 1024 + r.val, by have := lt_N t; omega⟩ k) := by
  obtain ⟨⟨h0, h1⟩, -⟩ := idx_facts t
  unfold iblk4
  rw [View.read_apply]
  show V c main_v16 _ = _
  congr 1
  funext a
  apply Fin.ext
  match a with
  | ⟨0, _⟩ => show win4_0.index t 0 * 1024 + 1 * r.val = t.val / 4 * 1024 + r.val; rw [h0]; omega
  | ⟨1, _⟩ => show win4_0.index t 1 * 4096 + 1 * k.val = k.val; rw [h1]; omega

/-- The weights' block at point `t`. -/
theorem read1 (c : Dev nD) (t : Fin cfg4.N) (k : Fin 4096) (e : Fin 512) : iblk4 V c 1 t (ix2 k e)
    = V c main_v11 (ix2 k ⟨0 + (t.val % 4 * 512 + e.val), by omega⟩) := by
  obtain ⟨-, ⟨h0, h1⟩, -⟩ := idx_facts t
  unfold iblk4
  rw [View.read_apply]
  show V c main_v11 _ = _
  congr 1
  funext a
  apply Fin.ext
  match a with
  | ⟨0, _⟩ => show win4_1.index t 0 * 4096 + 1 * k.val = k.val; rw [h0]; omega
  | ⟨1, _⟩ => show win4_1.index t 1 * 512 + 1 * e.val = 0 + (t.val % 4 * 512 + e.val); rw [h1]; omega

/-- The block that point `t` computes, element by element. -/
theorem block_eq (c : Dev nD) (t : Fin cfg4.N) (r : Fin 1024) (e : Fin 512) :
    blockAt (iblk4 V c 0 t) (iblk4 V c 1 t) r e
      = projW (V c main_v16) (V c main_v11) ⟨t.val / 4 * 1024 + r.val, by have := lt_N t; omega⟩ ⟨0 + (t.val % 4 * 512 + e.val), by omega⟩ := by
  unfold blockAt projW
  simp only [read0, read1]

/-- What point `t` writes back is its block of `result`. -/
theorem flushed_eq (c : Dev nD) (t : Fin cfg4.N) :
    (dat4 V c).flushed 2 t = ((cfg4.win 2).blk t).view.read (Elt Ideal) (result V c) := by
  obtain ⟨-, -, h0, h1⟩ := idx_facts t
  have hf : (dat4 V c).flushed 2 t = (cfg4.win 2).cut (grid4.coords t) (out4_2 (iblk4 V c 0 t) (iblk4 V c 1 t)) := by
    show (cfg4.win 2).cut (grid4.coords t) ((dat4 V c).after 2 t) = _
    rw [after4_2]
  rw [hf]
  funext j
  rw [View.read_apply]
  obtain ⟨r, e, rfl⟩ : ∃ (r : Fin 1024) (e : Fin 512), j = (ix2 r e : S1024x512.Idx) := ⟨j 0, j 1, ValueIdx.eq_ix2 j⟩
  refine (out_apply (iblk4 V c 0 t) (iblk4 V c 1 t) r e).trans ?_
  refine (block_eq V c t r e).trans ?_
  show _ = result V c _
  unfold result
  refine congr (congrArg (projW _ _) ?_) ?_
  · exact Fin.ext (show t.val / 4 * 1024 + r.val = win4_2.index t 0 * 1024 + 1 * r.val by rw [h0]; omega)
  · exact Fin.ext (show 0 + (t.val % 4 * 512 + e.val) = 0 + (win4_2.index t 1 * 512 + 1 * e.val) by rw [h1]; omega)

/-- The point whose block holds index `i`. -/
theorem covered (i : S12288x2048.Idx) : ∃ t : Fin cfg4.N, (cfg4.win 2).flush t = true ∧ i ∈ ((cfg4.win 2).blk t).view.set := by
  have b0 : (i 0 : Nat) < 12288 := (i 0).isLt
  have b1 : (i 1 : Nat) < 2048 := (i 1).isLt
  let t : Fin cfg4.N := ⟨(i 0 : Nat) / 1024 * 4 + (i 1 : Nat) / 512, by show _ < 48; omega⟩
  have ht : t.val = (i 0 : Nat) / 1024 * 4 + (i 1 : Nat) / 512 := rfl
  obtain ⟨-, -, h0, h1⟩ := idx_facts t
  refine ⟨t, flush4_2 t, ?_⟩
  show i ∈ ((View.whole main_v19).slice (win4_2.rect t)).set
  rw [View.set_slice_whole, Rect.mem_set_unit]
  intro a
  match a with
  | ⟨0, _⟩ => show win4_2.index t 0 * 1024 ≤ (i 0 : Nat) ∧ (i 0 : Nat) < win4_2.index t 0 * 1024 + 1024; rw [h0]; omega
  | ⟨1, _⟩ => show win4_2.index t 1 * 512 ≤ (i 1 : Nat) ∧ (i 1 : Nat) < win4_2.index t 1 * 512 + 512; rw [h1]; omega

/-- The result array ends holding `result`. -/
theorem final_eq (c : Dev nD) : (dat4 V c).arrAt 2 cfg4.N = result V c :=
  (dat4 V c).arrAt_eq_of_cover 2 (result V c) (fun t _ => flushed_eq V c t) covered

end Cert.Proof.Odd.Qd

end
-- ==== Proof.OdK.lean ====
/- The second layer's input projection: the keys of the prompt rows, split into sequences and heads, index by index. -/
module

public import proofs.«01_k».proof.Proof.OdDefs

@[expose] public section

set_option maxRecDepth 16384

noncomputable section

namespace Cert.Proof.Odd.K

open Idealize.ShloMosaic Idealize.ShloMosaic.TcCoe Idealize.SL.Sem Cert.Kernel5Ideal Cert.Kernel5Ideal.Gen
open Idealize.ShloMosaic.Pointwise
open Cert.Proof.In (silu modAt normAt)
open Idealize.ShloMosaic.Pipeline (Dat)

/-- One element of a block, from the block's sequence `s`, head `h`, position `r` and channel `d`. -/
def blockAt (x0 : Vec Ideal S1024x4096 .bf16) (x1 : Vec Ideal S4096x512 .bf16) (s : Fin 4) (h : Fin 4) (r : Fin 256) (d : Fin 128) : EReal :=
  ∑ k, x0 (ix2 ⟨s.val * 256 + r.val, by omega⟩ k) * x1 (ix2 k ⟨h.val * 128 + d.val, by omega⟩)

/-- The same as a function of the block's index. -/
def blockVal (x0 : Vec Ideal S1024x4096 .bf16) (x1 : Vec Ideal S4096x512 .bf16) (i : S4x4x256x128.Idx) : EReal :=
  blockAt x0 x1 (i 0) (i 1) (i 2) (i 3)

set_option maxHeartbeats 2000000 in
/-- The block one grid point writes, element by element: each of its 16 stores is one sequence of one head. -/
theorem out_apply (x0 : Vec Ideal S1024x4096 .bf16) (x1 : Vec Ideal S4096x512 .bf16) (y : S4x4x256x128.Idx) :
    out5_2 x0 x1 y = blockVal x0 x1 y := by
  unfold out5_2
  refine View.canon_apply_of_pieces (Val := Elt Ideal) (e := .f32) (blockVal x0 x1) _ (fun p hp j => ?_) y (cover5_2 _ _ _ _ _ _ _ _ _ _ _ _ _ _ _ _ y)
  have key : ∀ (s : Fin 4) (h : Fin 4) (r : Fin 256) (d : Fin 128) (j : S4x4x256x128.Idx) (v : EReal),
      j = ix4 s h r d → v = blockAt x0 x1 s h r d → v = blockVal x0 x1 j := by
    intro s h r d j v hj hv
    rw [hv, hj]
    rfl
  simp only [List.mem_cons, List.not_mem_nil, or_false] at hp
  rcases hp with rfl | rfl | rfl | rfl | rfl | rfl | rfl | rfl | rfl | rfl | rfl | rfl | rfl | rfl | rfl | rfl
  all_goals
    obtain ⟨r, d, rfl⟩ : ∃ (r : Fin 256) (d : Fin 128), j = (ix4 0 0 r d : S1x1x256x128.Idx) :=
      ⟨j 2, j 3, (ValueIdx.eq_ix4 j).trans (by rw [Fin.fin_one_eq_zero (j 0), Fin.fin_one_eq_zero (j 1)]; rfl)⟩
  on_goal 16 => refine key 0 0 r d _ _ ?_ ?_
  on_goal 15 => refine key 0 1 r d _ _ ?_ ?_
  on_goal 14 => refine key 0 2 r d _ _ ?_ ?_
  on_goal 13 => refine key 0 3 r d _ _ ?_ ?_
  on_goal 12 => refine key 1 0 r d _ _ ?_ ?_
  on_goal 11 => refine key 1 1 r d _ _ ?_ ?_
  on_goal 10 => refine key 1 2 r d _ _ ?_ ?_
  on_goal 9 => refine key 1 3 r d _ _ ?_ ?_
  on_goal 8 => refine key 2 0 r d _ _ ?_ ?_
  on_goal 7 => refine key 2 1 r d _ _ ?_ ?_
  on_goal 6 => refine key 2 2 r d _ _ ?_ ?_
  on_goal 5 => refine key 2 3 r d _ _ ?_ ?_
  on_goal 4 => refine key 3 0 r d _ _ ?_ ?_
  on_goal 3 => refine key 3 1 r d _ _ ?_ ?_
  on_goal 2 => refine key 3 2 r d _ _ ?_ ?_
  on_goal 1 => refine key 3 3 r d _ _ ?_ ?_
  all_goals first
    | funext a
      match a with
      | ⟨0, _⟩ => exact Fin.ext (by show _ + 1 * 0 = _; rfl)
      | ⟨1, _⟩ => exact Fin.ext (by show _ + 1 * 0 = _; rfl)
      | ⟨2, _⟩ => exact Fin.ext (by show 0 + 1 * r.val = r.val; omega)
      | ⟨3, _⟩ => exact Fin.ext (by show 0 + 1 * d.val = d.val; omega)
    | (unfold blockAt
       pointwise [k5_pay1, k5_pay2, k5_pay3, k5_pay4, k5_pay5, k5_pay6, k5_pay7, k5_pay8, k5_pay9, k5_pay10, k5_pay11, k5_pay12, k5_pay13, k5_pay14, k5_pay15, k5_pay16, k5_pay17, k5_pay18, k5_pay19])

variable (V : Contents)

/-- The result array as one function of the two arrays it reads. -/
def result (c : Dev nD) : Buf (Elt Ideal) ((c : Thread nD τ).loc main_v20) := fun i : S32x16x256x128.Idx =>
  projW (V c main_v16) (V c main_v11)
    ⟨0 + ((i 0).val * 256 + (i 2).val), by
      have := (i 0).isLt; have := (i 2).isLt; change (i 0).val < 32 at *; change (i 2).val < 256 at *; omega⟩
    ⟨2048 + ((i 1).val * 128 + (i 3).val), by
      have := (i 1).isLt; have := (i 3).isLt; change (i 1).val < 16 at *; change (i 3).val < 128 at *; omega⟩

/-- Where each window's block lies at point `t`: block row `t / 4`, block column `t % 4`. -/
theorem idx_facts : ∀ t : Fin cfg5.N,
    (win5_0.index t 0 = 0 + t.val / 4 ∧ win5_0.index t 1 = 0)
    ∧ (win5_1.index t 0 = 0 ∧ win5_1.index t 1 = 4 + t.val % 4)
    ∧ (win5_2.index t 0 = t.val / 4 ∧ win5_2.index t 1 = t.val % 4 ∧ win5_2.index t 2 = 0 ∧ win5_2.index t 3 = 0) := by
  decide +kernel

/-- The grid has 32 points. -/
theorem lt_N (t : Fin cfg5.N) : t.val < 32 := t.isLt

/-- The rows' block at point `t`. -/
theorem read0 (c : Dev nD) (t : Fin cfg5.N) (r : Fin 1024) (k : Fin 4096) : iblk5 V c 0 t (ix2 r k)
    = V c main_v16 (ix2 ⟨0 + (t.val / 4 * 1024 + r.val), by have := lt_N t; omega⟩ k) := by
  obtain ⟨⟨h0, h1⟩, -⟩ := idx_facts t
  unfold iblk5
  rw [View.read_apply]
  show V c main_v16 _ = _
  congr 1
  funext a
  apply Fin.ext
  match a with
  | ⟨0, _⟩ => show win5_0.index t 0 * 1024 + 1 * r.val = 0 + (t.val / 4 * 1024 + r.val); rw [h0]; omega
  | ⟨1, _⟩ => show win5_0.index t 1 * 4096 + 1 * k.val = k.val; rw [h1]; omega

/-- The weights' block at point `t`. -/
theorem read1 (c : Dev nD) (t : Fin cfg5.N) (k : Fin 4096) (e : Fin 512) : iblk5 V c 1 t (ix2 k e)
    = V c main_v11 (ix2 k ⟨2048 + (t.val % 4 * 512 + e.val), by omega⟩) := by
  obtain ⟨-, ⟨h0, h1⟩, -⟩ := idx_facts t
  unfold iblk5
  rw [View.read_apply]
  show V c main_v11 _ = _
  congr 1
  funext a
  apply Fin.ext
  match a with
  | ⟨0, _⟩ => show win5_1.index t 0 * 4096 + 1 * k.val = k.val; rw [h0]; omega
  | ⟨1, _⟩ => show win5_1.index t 1 * 512 + 1 * e.val = 2048 + (t.val % 4 * 512 + e.val); rw [h1]; omega

/-- The block that point `t` computes, element by element. -/
theorem block_eq (c : Dev nD) (t : Fin cfg5.N) (s : Fin 4) (h : Fin 4) (r : Fin 256) (d : Fin 128) :
    blockAt (iblk5 V c 0 t) (iblk5 V c 1 t) s h r d
      = projW (V c main_v16) (V c main_v11) ⟨0 + (t.val / 4 * 1024 + (s.val * 256 + r.val)), by have := lt_N t; omega⟩
          ⟨2048 + (t.val % 4 * 512 + (h.val * 128 + d.val)), by omega⟩ := by
  unfold blockAt projW
  simp only [read0, read1]

/-- What point `t` writes back is its block of `result`. -/
theorem flushed_eq (c : Dev nD) (t : Fin cfg5.N) :
    (dat5 V c).flushed 2 t = ((cfg5.win 2).blk t).view.read (Elt Ideal) (result V c) := by
  obtain ⟨-, -, h0, h1, h2, h3⟩ := idx_facts t
  have hf : (dat5 V c).flushed 2 t = (cfg5.win 2).cut (grid5.coords t) (out5_2 (iblk5 V c 0 t) (iblk5 V c 1 t)) := by
    show (cfg5.win 2).cut (grid5.coords t) ((dat5 V c).after 2 t) = _
    rw [after5_2]
  rw [hf]
  funext j
  rw [View.read_apply]
  obtain ⟨s, h, r, d, rfl⟩ : ∃ (s : Fin 4) (h : Fin 4) (r : Fin 256) (d : Fin 128), j = (ix4 s h r d : S4x4x256x128.Idx) :=
    ⟨j 0, j 1, j 2, j 3, ValueIdx.eq_ix4 j⟩
  refine (out_apply (iblk5 V c 0 t) (iblk5 V c 1 t) (ix4 s h r d)).trans ?_
  refine (block_eq V c t s h r d).trans ?_
  show _ = result V c _
  unfold result
  refine congr (congrArg (projW _ _) ?_) ?_
  · exact Fin.ext (show 0 + (t.val / 4 * 1024 + (s.val * 256 + r.val)) = 0 + ((win5_2.index t 0 * 4 + 1 * s.val) * 256 + (win5_2.index t 2 * 256 + 1 * r.val)) by rw [h0, h2]; omega)
  · exact Fin.ext (show 2048 + (t.val % 4 * 512 + (h.val * 128 + d.val)) = 2048 + ((win5_2.index t 1 * 4 + 1 * h.val) * 128 + (win5_2.index t 3 * 128 + 1 * d.val)) by rw [h1, h3]; omega)

/-- The point whose block holds index `i`. -/
theorem covered (i : S32x16x256x128.Idx) : ∃ t : Fin cfg5.N, (cfg5.win 2).flush t = true ∧ i ∈ ((cfg5.win 2).blk t).view.set := by
  have b0 : (i 0 : Nat) < 32 := (i 0).isLt
  have b1 : (i 1 : Nat) < 16 := (i 1).isLt
  have b2 : (i 2 : Nat) < 256 := (i 2).isLt
  have b3 : (i 3 : Nat) < 128 := (i 3).isLt
  let t : Fin cfg5.N := ⟨(i 0 : Nat) / 4 * 4 + (i 1 : Nat) / 4, by show _ < 32; omega⟩
  have ht : t.val = (i 0 : Nat) / 4 * 4 + (i 1 : Nat) / 4 := rfl
  obtain ⟨-, -, h0, h1, h2, h3⟩ := idx_facts t
  refine ⟨t, flush5_2 t, ?_⟩
  show i ∈ ((View.whole main_v20).slice (win5_2.rect t)).set
  rw [View.set_slice_whole, Rect.mem_set_unit]
  intro a
  match a with
  | ⟨0, _⟩ => show win5_2.index t 0 * 4 ≤ (i 0 : Nat) ∧ (i 0 : Nat) < win5_2.index t 0 * 4 + 4; rw [h0]; omega
  | ⟨1, _⟩ => show win5_2.index t 1 * 4 ≤ (i 1 : Nat) ∧ (i 1 : Nat) < win5_2.index t 1 * 4 + 4; rw [h1]; omega
  | ⟨2, _⟩ => show win5_2.index t 2 * 256 ≤ (i 2 : Nat) ∧ (i 2 : Nat) < win5_2.index t 2 * 256 + 256; rw [h2]; omega
  | ⟨3, _⟩ => show win5_2.index t 3 * 128 ≤ (i 3 : Nat) ∧ (i 3 : Nat) < win5_2.index t 3 * 128 + 128; rw [h3]; omega

/-- The result array ends holding `result`. -/
theorem final_eq (c : Dev nD) : (dat5 V c).arrAt 2 cfg5.N = result V c :=
  (dat5 V c).arrAt_eq_of_cover 2 (result V c) (fun t _ => flushed_eq V c t) covered

end Cert.Proof.Odd.K

end
-- ==== Proof.OdW.lean ====
/- The second layer's input projection: the values of the prompt rows, split into sequences and heads, index by index. -/
module

public import proofs.«01_k».proof.Proof.OdDefs

@[expose] public section

set_option maxRecDepth 16384

noncomputable section

namespace Cert.Proof.Odd.W

open Idealize.ShloMosaic Idealize.ShloMosaic.TcCoe Idealize.SL.Sem Cert.Kernel5Ideal Cert.Kernel5Ideal.Gen
open Idealize.ShloMosaic.Pointwise
open Cert.Proof.In (silu modAt normAt)
open Idealize.ShloMosaic.Pipeline (Dat)

/-- One element of a block, from the block's sequence `s`, head `h`, position `r` and channel `d`. -/
def blockAt (x0 : Vec Ideal S1024x4096 .bf16) (x1 : Vec Ideal S4096x512 .bf16) (s : Fin 4) (h : Fin 4) (r : Fin 256) (d : Fin 128) : EReal :=
  ∑ k, x0 (ix2 ⟨s.val * 256 + r.val, by omega⟩ k) * x1 (ix2 k ⟨h.val * 128 + d.val, by omega⟩)

/-- The same as a function of the block's index. -/
def blockVal (x0 : Vec Ideal S1024x4096 .bf16) (x1 : Vec Ideal S4096x512 .bf16) (i : S4x4x256x128.Idx) : EReal :=
  blockAt x0 x1 (i 0) (i 1) (i 2) (i 3)

set_option maxHeartbeats 2000000 in
/-- The block one grid point writes, element by element: each of its 16 stores is one sequence of one head. -/
theorem out_apply (x0 : Vec Ideal S1024x4096 .bf16) (x1 : Vec Ideal S4096x512 .bf16) (y : S4x4x256x128.Idx) :
    out6_2 x0 x1 y = blockVal x0 x1 y := by
  unfold out6_2
  refine View.canon_apply_of_pieces (Val := Elt Ideal) (e := .f32) (blockVal x0 x1) _ (fun p hp j => ?_) y (cover6_2 _ _ _ _ _ _ _ _ _ _ _ _ _ _ _ _ y)
  have key : ∀ (s : Fin 4) (h : Fin 4) (r : Fin 256) (d : Fin 128) (j : S4x4x256x128.Idx) (v : EReal),
      j = ix4 s h r d → v = blockAt x0 x1 s h r d → v = blockVal x0 x1 j := by
    intro s h r d j v hj hv
    rw [hv, hj]
    rfl
  simp only [List.mem_cons, List.not_mem_nil, or_false] at hp
  rcases hp with rfl | rfl | rfl | rfl | rfl | rfl | rfl | rfl | rfl | rfl | rfl | rfl | rfl | rfl | rfl | rfl
  all_goals
    obtain ⟨r, d, rfl⟩ : ∃ (r : Fin 256) (d : Fin 128), j = (ix4 0 0 r d : S1x1x256x128.Idx) :=
      ⟨j 2, j 3, (ValueIdx.eq_ix4 j).trans (by rw [Fin.fin_one_eq_zero (j 0), Fin.fin_one_eq_zero (j 1)]; rfl)⟩
  on_goal 16 => refine key 0 0 r d _ _ ?_ ?_
  on_goal 15 => refine key 0 1 r d _ _ ?_ ?_
  on_goal 14 => refine key 0 2 r d _ _ ?_ ?_
  on_goal 13 => refine key 0 3 r d _ _ ?_ ?_
  on_goal 12 => refine key 1 0 r d _ _ ?_ ?_
  on_goal 11 => refine key 1 1 r d _ _ ?_ ?_
  on_goal 10 => refine key 1 2 r d _ _ ?_ ?_
  on_goal 9 => refine key 1 3 r d _ _ ?_ ?_
  on_goal 8 => refine key 2 0 r d _ _ ?_ ?_
  on_goal 7 => refine key 2 1 r d _ _ ?_ ?_
  on_goal 6 => refine key 2 2 r d _ _ ?_ ?_
  on_goal 5 => refine key 2 3 r d _ _ ?_ ?_
  on_goal 4 => refine key 3 0 r d _ _ ?_ ?_
  on_goal 3 => refine key 3 1 r d _ _ ?_ ?_
  on_goal 2 => refine key 3 2 r d _ _ ?_ ?_
  on_goal 1 => refine key 3 3 r d _ _ ?_ ?_
  all_goals first
    | funext a
      match a with
      | ⟨0, _⟩ => exact Fin.ext (by show _ + 1 * 0 = _; rfl)
      | ⟨1, _⟩ => exact Fin.ext (by show _ + 1 * 0 = _; rfl)
      | ⟨2, _⟩ => exact Fin.ext (by show 0 + 1 * r.val = r.val; omega)
      | ⟨3, _⟩ => exact Fin.ext (by show 0 + 1 * d.val = d.val; omega)
    | (unfold blockAt
       pointwise [k6_pay1, k6_pay2, k6_pay3, k6_pay4, k6_pay5, k6_pay6, k6_pay7, k6_pay8, k6_pay9, k6_pay10, k6_pay11, k6_pay12, k6_pay13, k6_pay14, k6_pay15, k6_pay16, k6_pay17, k6_pay18, k6_pay19])

variable (V : Contents)

/-- The result array as one function of the two arrays it reads. -/
def result (c : Dev nD) : Buf (Elt Ideal) ((c : Thread nD τ).loc main_v21) := fun i : S32x16x256x128.Idx =>
  projW (V c main_v16) (V c main_v11)
    ⟨0 + ((i 0).val * 256 + (i 2).val), by
      have := (i 0).isLt; have := (i 2).isLt; change (i 0).val < 32 at *; change (i 2).val < 256 at *; omega⟩
    ⟨4096 + ((i 1).val * 128 + (i 3).val), by
      have := (i 1).isLt; have := (i 3).isLt; change (i 1).val < 16 at *; change (i 3).val < 128 at *; omega⟩

/-- Where each window's block lies at point `t`: block row `t / 4`, block column `t % 4`. -/
theorem idx_facts : ∀ t : Fin cfg6.N,
    (win6_0.index t 0 = 0 + t.val / 4 ∧ win6_0.index t 1 = 0)
    ∧ (win6_1.index t 0 = 0 ∧ win6_1.index t 1 = 8 + t.val % 4)
    ∧ (win6_2.index t 0 = t.val / 4 ∧ win6_2.index t 1 = t.val % 4 ∧ win6_2.index t 2 = 0 ∧ win6_2.index t 3 = 0) := by
  decide +kernel

/-- The grid has 32 points. -/
theorem lt_N (t : Fin cfg6.N) : t.val < 32 := t.isLt

/-- The rows' block at point `t`. -/
theorem read0 (c : Dev nD) (t : Fin cfg6.N) (r : Fin 1024) (k : Fin 4096) : iblk6 V c 0 t (ix2 r k)
    = V c main_v16 (ix2 ⟨0 + (t.val / 4 * 1024 + r.val), by have := lt_N t; omega⟩ k) := by
  obtain ⟨⟨h0, h1⟩, -⟩ := idx_facts t
  unfold iblk6
  rw [View.read_apply]
  show V c main_v16 _ = _
  congr 1
  funext a
  apply Fin.ext
  match a with
  | ⟨0, _⟩ => show win6_0.index t 0 * 1024 + 1 * r.val = 0 + (t.val / 4 * 1024 + r.val); rw [h0]; omega
  | ⟨1, _⟩ => show win6_0.index t 1 * 4096 + 1 * k.val = k.val; rw [h1]; omega

/-- The weights' block at point `t`. -/
theorem read1 (c : Dev nD) (t : Fin cfg6.N) (k : Fin 4096) (e : Fin 512) : iblk6 V c 1 t (ix2 k e)
    = V c main_v11 (ix2 k ⟨4096 + (t.val % 4 * 512 + e.val), by omega⟩) := by
  obtain ⟨-, ⟨h0, h1⟩, -⟩ := idx_facts t
  unfold iblk6
  rw [View.read_apply]
  show V c main_v11 _ = _
  congr 1
  funext a
  apply Fin.ext
  match a with
  | ⟨0, _⟩ => show win6_1.index t 0 * 4096 + 1 * k.val = k.val; rw [h0]; omega
  | ⟨1, _⟩ => show win6_1.index t 1 * 512 + 1 * e.val = 4096 + (t.val % 4 * 512 + e.val); rw [h1]; omega

/-- The block that point `t` computes, element by element. -/
theorem block_eq (c : Dev nD) (t : Fin cfg6.N) (s : Fin 4) (h : Fin 4) (r : Fin 256) (d : Fin 128) :
    blockAt (iblk6 V c 0 t) (iblk6 V c 1 t) s h r d
      = projW (V c main_v16) (V c main_v11) ⟨0 + (t.val / 4 * 1024 + (s.val * 256 + r.val)), by have := lt_N t; omega⟩
          ⟨4096 + (t.val % 4 * 512 + (h.val * 128 + d.val)), by omega⟩ := by
  unfold blockAt projW
  simp only [read0, read1]

/-- What point `t` writes back is its block of `result`. -/
theorem flushed_eq (c : Dev nD) (t : Fin cfg6.N) :
    (dat6 V c).flushed 2 t = ((cfg6.win 2).blk t).view.read (Elt Ideal) (result V c) := by
  obtain ⟨-, -, h0, h1, h2, h3⟩ := idx_facts t
  have hf : (dat6 V c).flushed 2 t = (cfg6.win 2).cut (grid6.coords t) (out6_2 (iblk6 V c 0 t) (iblk6 V c 1 t)) := by
    show (cfg6.win 2).cut (grid6.coords t) ((dat6 V c).after 2 t) = _
    rw [after6_2]
  rw [hf]
  funext j
  rw [View.read_apply]
  obtain ⟨s, h, r, d, rfl⟩ : ∃ (s : Fin 4) (h : Fin 4) (r : Fin 256) (d : Fin 128), j = (ix4 s h r d : S4x4x256x128.Idx) :=
    ⟨j 0, j 1, j 2, j 3, ValueIdx.eq_ix4 j⟩
  refine (out_apply (iblk6 V c 0 t) (iblk6 V c 1 t) (ix4 s h r d)).trans ?_
  refine (block_eq V c t s h r d).trans ?_
  show _ = result V c _
  unfold result
  refine congr (congrArg (projW _ _) ?_) ?_
  · exact Fin.ext (show 0 + (t.val / 4 * 1024 + (s.val * 256 + r.val)) = 0 + ((win6_2.index t 0 * 4 + 1 * s.val) * 256 + (win6_2.index t 2 * 256 + 1 * r.val)) by rw [h0, h2]; omega)
  · exact Fin.ext (show 4096 + (t.val % 4 * 512 + (h.val * 128 + d.val)) = 4096 + ((win6_2.index t 1 * 4 + 1 * h.val) * 128 + (win6_2.index t 3 * 128 + 1 * d.val)) by rw [h1, h3]; omega)

/-- The point whose block holds index `i`. -/
theorem covered (i : S32x16x256x128.Idx) : ∃ t : Fin cfg6.N, (cfg6.win 2).flush t = true ∧ i ∈ ((cfg6.win 2).blk t).view.set := by
  have b0 : (i 0 : Nat) < 32 := (i 0).isLt
  have b1 : (i 1 : Nat) < 16 := (i 1).isLt
  have b2 : (i 2 : Nat) < 256 := (i 2).isLt
  have b3 : (i 3 : Nat) < 128 := (i 3).isLt
  let t : Fin cfg6.N := ⟨(i 0 : Nat) / 4 * 4 + (i 1 : Nat) / 4, by show _ < 32; omega⟩
  have ht : t.val = (i 0 : Nat) / 4 * 4 + (i 1 : Nat) / 4 := rfl
  obtain ⟨-, -, h0, h1, h2, h3⟩ := idx_facts t
  refine ⟨t, flush6_2 t, ?_⟩
  show i ∈ ((View.whole main_v21).slice (win6_2.rect t)).set
  rw [View.set_slice_whole, Rect.mem_set_unit]
  intro a
  match a with
  | ⟨0, _⟩ => show win6_2.index t 0 * 4 ≤ (i 0 : Nat) ∧ (i 0 : Nat) < win6_2.index t 0 * 4 + 4; rw [h0]; omega
  | ⟨1, _⟩ => show win6_2.index t 1 * 4 ≤ (i 1 : Nat) ∧ (i 1 : Nat) < win6_2.index t 1 * 4 + 4; rw [h1]; omega
  | ⟨2, _⟩ => show win6_2.index t 2 * 256 ≤ (i 2 : Nat) ∧ (i 2 : Nat) < win6_2.index t 2 * 256 + 256; rw [h2]; omega
  | ⟨3, _⟩ => show win6_2.index t 3 * 128 ≤ (i 3 : Nat) ∧ (i 3 : Nat) < win6_2.index t 3 * 128 + 128; rw [h3]; omega

/-- The result array ends holding `result`. -/
theorem final_eq (c : Dev nD) : (dat6 V c).arrAt 2 cfg6.N = result V c :=
  (dat6 V c).arrAt_eq_of_cover 2 (result V c) (fun t _ => flushed_eq V c t) covered

end Cert.Proof.Odd.W

end
-- ==== Proof.OdKL.lean ====
/- The second layer's input projection: the keys of the latent rows, split into sequences and heads, index by index. -/
module

public import proofs.«01_k».proof.Proof.OdDefs

@[expose] public section

set_option maxRecDepth 16384

noncomputable section

namespace Cert.Proof.Odd.KL

open Idealize.ShloMosaic Idealize.ShloMosaic.TcCoe Idealize.SL.Sem Cert.Kernel5Ideal Cert.Kernel5Ideal.Gen
open Idealize.ShloMosaic.Pointwise
open Cert.Proof.In (silu modAt normAt)
open Idealize.ShloMosaic.Pipeline (Dat)

/-- One element of a block, from the block's sequence `s`, head `h`, position `r` and channel `d`. -/
def blockAt (x0 : Vec Ideal S1024x4096 .bf16) (x1 : Vec Ideal S4096x512 .bf16) (s : Fin 1) (h : Fin 4) (r : Fin 1024) (d : Fin 128) : EReal :=
  ∑ k, x0 (ix2 ⟨s.val * 1024 + r.val, by omega⟩ k) * x1 (ix2 k ⟨h.val * 128 + d.val, by omega⟩)

/-- The same as a function of the block's index. -/
def blockVal (x0 : Vec Ideal S1024x4096 .bf16) (x1 : Vec Ideal S4096x512 .bf16) (i : S1x4x1024x128.Idx) : EReal :=
  blockAt x0 x1 (i 0) (i 1) (i 2) (i 3)

set_option maxHeartbeats 2000000 in
/-- The block one grid point writes, element by element: each of its 4 stores is one sequence of one head. -/
theorem out_apply (x0 : Vec Ideal S1024x4096 .bf16) (x1 : Vec Ideal S4096x512 .bf16) (y : S1x4x1024x128.Idx) :
    out7_2 x0 x1 y = blockVal x0 x1 y := by
  unfold out7_2
  refine View.canon_apply_of_pieces (Val := Elt Ideal) (e := .f32) (blockVal x0 x1) _ (fun p hp j => ?_) y (cover7_2 _ _ _ _ y)
  have key : ∀ (s : Fin 1) (h : Fin 4) (r : Fin 1024) (d : Fin 128) (j : S1x4x1024x128.Idx) (v : EReal),
      j = ix4 s h r d → v = blockAt x0 x1 s h r d → v = blockVal x0 x1 j := by
    intro s h r d j v hj hv
    rw [hv, hj]
    rfl
  simp only [List.mem_cons, List.not_mem_nil, or_false] at hp
  rcases hp with rfl | rfl | rfl | rfl
  all_goals
    obtain ⟨r, d, rfl⟩ : ∃ (r : Fin 1024) (d : Fin 128), j = (ix4 0 0 r d : S1x1x1024x128.Idx) :=
      ⟨j 2, j 3, (ValueIdx.eq_ix4 j).trans (by rw [Fin.fin_one_eq_zero (j 0), Fin.fin_one_eq_zero (j 1)]; rfl)⟩
  on_goal 4 => refine key 0 0 r d _ _ ?_ ?_
  on_goal 3 => refine key 0 1 r d _ _ ?_ ?_
  on_goal 2 => refine key 0 2 r d _ _ ?_ ?_
  on_goal 1 => refine key 0 3 r d _ _ ?_ ?_
  all_goals first
    | funext a
      match a with
      | ⟨0, _⟩ => exact Fin.ext (by show _ + 1 * 0 = _; rfl)
      | ⟨1, _⟩ => exact Fin.ext (by show _ + 1 * 0 = _; rfl)
      | ⟨2, _⟩ => exact Fin.ext (by show 0 + 1 * r.val = r.val; omega)
      | ⟨3, _⟩ => exact Fin.ext (by show 0 + 1 * d.val = d.val; omega)
    | (unfold blockAt
       pointwise [k7_pay1, k7_pay2, k7_pay3, k7_pay4, k7_pay5])

variable (V : Contents)

/-- The result array as one function of the two arrays it reads. -/
def result (c : Dev nD) : Buf (Elt Ideal) ((c : Thread nD τ).loc main_v22) := fun i : S4x16x1024x128.Idx =>
  projW (V c main_v16) (V c main_v11)
    ⟨8192 + ((i 0).val * 1024 + (i 2).val), by
      have := (i 0).isLt; have := (i 2).isLt; change (i 0).val < 4 at *; change (i 2).val < 1024 at *; omega⟩
    ⟨2048 + ((i 1).val * 128 + (i 3).val), by
      have := (i 1).isLt; have := (i 3).isLt; change (i 1).val < 16 at *; change (i 3).val < 128 at *; omega⟩

/-- Where each window's block lies at point `t`: block row `t / 4`, block column `t % 4`. -/
theorem idx_facts : ∀ t : Fin cfg7.N,
    (win7_0.index t 0 = 8 + t.val / 4 ∧ win7_0.index t 1 = 0)
    ∧ (win7_1.index t 0 = 0 ∧ win7_1.index t 1 = 4 + t.val % 4)
    ∧ (win7_2.index t 0 = t.val / 4 ∧ win7_2.index t 1 = t.val % 4 ∧ win7_2.index t 2 = 0 ∧ win7_2.index t 3 = 0) := by
  decide +kernel

/-- The grid has 16 points. -/
theorem lt_N (t : Fin cfg7.N) : t.val < 16 := t.isLt

/-- The rows' block at point `t`. -/
theorem read0 (c : Dev nD) (t : Fin cfg7.N) (r : Fin 1024) (k : Fin 4096) : iblk7 V c 0 t (ix2 r k)
    = V c main_v16 (ix2 ⟨8192 + (t.val / 4 * 1024 + r.val), by have := lt_N t; omega⟩ k) := by
  obtain ⟨⟨h0, h1⟩, -⟩ := idx_facts t
  unfold iblk7
  rw [View.read_apply]
  show V c main_v16 _ = _
  congr 1
  funext a
  apply Fin.ext
  match a with
  | ⟨0, _⟩ => show win7_0.index t 0 * 1024 + 1 * r.val = 8192 + (t.val / 4 * 1024 + r.val); rw [h0]; omega
  | ⟨1, _⟩ => show win7_0.index t 1 * 4096 + 1 * k.val = k.val; rw [h1]; omega

/-- The weights' block at point `t`. -/
theorem read1 (c : Dev nD) (t : Fin cfg7.N) (k : Fin 4096) (e : Fin 512) : iblk7 V c 1 t (ix2 k e)
    = V c main_v11 (ix2 k ⟨2048 + (t.val % 4 * 512 + e.val), by omega⟩) := by
  obtain ⟨-, ⟨h0, h1⟩, -⟩ := idx_facts t
  unfold iblk7
  rw [View.read_apply]
  show V c main_v11 _ = _
  congr 1
  funext a
  apply Fin.ext
  match a with
  | ⟨0, _⟩ => show win7_1.index t 0 * 4096 + 1 * k.val = k.val; rw [h0]; omega
  | ⟨1, _⟩ => show win7_1.index t 1 * 512 + 1 * e.val = 2048 + (t.val % 4 * 512 + e.val); rw [h1]; omega

/-- The block that point `t` computes, element by element. -/
theorem block_eq (c : Dev nD) (t : Fin cfg7.N) (s : Fin 1) (h : Fin 4) (r : Fin 1024) (d : Fin 128) :
    blockAt (iblk7 V c 0 t) (iblk7 V c 1 t) s h r d
      = projW (V c main_v16) (V c main_v11) ⟨8192 + (t.val / 4 * 1024 + (s.val * 1024 + r.val)), by have := lt_N t; omega⟩
          ⟨2048 + (t.val % 4 * 512 + (h.val * 128 + d.val)), by omega⟩ := by
  unfold blockAt projW
  simp only [read0, read1]

/-- What point `t` writes back is its block of `result`. -/
theorem flushed_eq (c : Dev nD) (t : Fin cfg7.N) :
    (dat7 V c).flushed 2 t = ((cfg7.win 2).blk t).view.read (Elt Ideal) (result V c) := by
  obtain ⟨-, -, h0, h1, h2, h3⟩ := idx_facts t
  have hf : (dat7 V c).flushed 2 t = (cfg7.win 2).cut (grid7.coords t) (out7_2 (iblk7 V c 0 t) (iblk7 V c 1 t)) := by
    show (cfg7.win 2).cut (grid7.coords t) ((dat7 V c).after 2 t) = _
    rw [after7_2]
  rw [hf]
  funext j
  rw [View.read_apply]
  obtain ⟨s, h, r, d, rfl⟩ : ∃ (s : Fin 1) (h : Fin 4) (r : Fin 1024) (d : Fin 128), j = (ix4 s h r d : S1x4x1024x128.Idx) :=
    ⟨j 0, j 1, j 2, j 3, ValueIdx.eq_ix4 j⟩
  refine (out_apply (iblk7 V c 0 t) (iblk7 V c 1 t) (ix4 s h r d)).trans ?_
  refine (block_eq V c t s h r d).trans ?_
  show _ = result V c _
  unfold result
  refine congr (congrArg (projW _ _) ?_) ?_
  · exact Fin.ext (show 8192 + (t.val / 4 * 1024 + (s.val * 1024 + r.val)) = 8192 + ((win7_2.index t 0 * 1 + 1 * s.val) * 1024 + (win7_2.index t 2 * 1024 + 1 * r.val)) by rw [h0, h2]; omega)
  · exact Fin.ext (show 2048 + (t.val % 4 * 512 + (h.val * 128 + d.val)) = 2048 + ((win7_2.index t 1 * 4 + 1 * h.val) * 128 + (win7_2.index t 3 * 128 + 1 * d.val)) by rw [h1, h3]; omega)

/-- The point whose block holds index `i`. -/
theorem covered (i : S4x16x1024x128.Idx) : ∃ t : Fin cfg7.N, (cfg7.win 2).flush t = true ∧ i ∈ ((cfg7.win 2).blk t).view.set := by
  have b0 : (i 0 : Nat) < 4 := (i 0).isLt
  have b1 : (i 1 : Nat) < 16 := (i 1).isLt
  have b2 : (i 2 : Nat) < 1024 := (i 2).isLt
  have b3 : (i 3 : Nat) < 128 := (i 3).isLt
  let t : Fin cfg7.N := ⟨(i 0 : Nat) * 4 + (i 1 : Nat) / 4, by show _ < 16; omega⟩
  have ht : t.val = (i 0 : Nat) * 4 + (i 1 : Nat) / 4 := rfl
  obtain ⟨-, -, h0, h1, h2, h3⟩ := idx_facts t
  refine ⟨t, flush7_2 t, ?_⟩
  show i ∈ ((View.whole main_v22).slice (win7_2.rect t)).set
  rw [View.set_slice_whole, Rect.mem_set_unit]
  intro a
  match a with
  | ⟨0, _⟩ => show win7_2.index t 0 * 1 ≤ (i 0 : Nat) ∧ (i 0 : Nat) < win7_2.index t 0 * 1 + 1; rw [h0]; omega
  | ⟨1, _⟩ => show win7_2.index t 1 * 4 ≤ (i 1 : Nat) ∧ (i 1 : Nat) < win7_2.index t 1 * 4 + 4; rw [h1]; omega
  | ⟨2, _⟩ => show win7_2.index t 2 * 1024 ≤ (i 2 : Nat) ∧ (i 2 : Nat) < win7_2.index t 2 * 1024 + 1024; rw [h2]; omega
  | ⟨3, _⟩ => show win7_2.index t 3 * 128 ≤ (i 3 : Nat) ∧ (i 3 : Nat) < win7_2.index t 3 * 128 + 128; rw [h3]; omega

/-- The result array ends holding `result`. -/
theorem final_eq (c : Dev nD) : (dat7 V c).arrAt 2 cfg7.N = result V c :=
  (dat7 V c).arrAt_eq_of_cover 2 (result V c) (fun t _ => flushed_eq V c t) covered

end Cert.Proof.Odd.KL

end
-- ==== Proof.OdWL.lean ====
/- The second layer's input projection: the values of the latent rows, split into sequences and heads, index by index. -/
module

public import proofs.«01_k».proof.Proof.OdDefs

@[expose] public section

set_option maxRecDepth 16384

noncomputable section

namespace Cert.Proof.Odd.WL

open Idealize.ShloMosaic Idealize.ShloMosaic.TcCoe Idealize.SL.Sem Cert.Kernel5Ideal Cert.Kernel5Ideal.Gen
open Idealize.ShloMosaic.Pointwise
open Cert.Proof.In (silu modAt normAt)
open Idealize.ShloMosaic.Pipeline (Dat)

/-- One element of a block, from the block's sequence `s`, head `h`, position `r` and channel `d`. -/
def blockAt (x0 : Vec Ideal S1024x4096 .bf16) (x1 : Vec Ideal S4096x512 .bf16) (s : Fin 1) (h : Fin 4) (r : Fin 1024) (d : Fin 128) : EReal :=
  ∑ k, x0 (ix2 ⟨s.val * 1024 + r.val, by omega⟩ k) * x1 (ix2 k ⟨h.val * 128 + d.val, by omega⟩)

/-- The same as a function of the block's index. -/
def blockVal (x0 : Vec Ideal S1024x4096 .bf16) (x1 : Vec Ideal S4096x512 .bf16) (i : S1x4x1024x128.Idx) : EReal :=
  blockAt x0 x1 (i 0) (i 1) (i 2) (i 3)

set_option maxHeartbeats 2000000 in
/-- The block one grid point writes, element by element: each of its 4 stores is one sequence of one head. -/
theorem out_apply (x0 : Vec Ideal S1024x4096 .bf16) (x1 : Vec Ideal S4096x512 .bf16) (y : S1x4x1024x128.Idx) :
    out8_2 x0 x1 y = blockVal x0 x1 y := by
  unfold out8_2
  refine View.canon_apply_of_pieces (Val := Elt Ideal) (e := .f32) (blockVal x0 x1) _ (fun p hp j => ?_) y (cover8_2 _ _ _ _ y)
  have key : ∀ (s : Fin 1) (h : Fin 4) (r : Fin 1024) (d : Fin 128) (j : S1x4x1024x128.Idx) (v : EReal),
      j = ix4 s h r d → v = blockAt x0 x1 s h r d → v = blockVal x0 x1 j := by
    intro s h r d j v hj hv
    rw [hv, hj]
    rfl
  simp only [List.mem_cons, List.not_mem_nil, or_false] at hp
  rcases hp with rfl | rfl | rfl | rfl
  all_goals
    obtain ⟨r, d, rfl⟩ : ∃ (r : Fin 1024) (d : Fin 128), j = (ix4 0 0 r d : S1x1x1024x128.Idx) :=
      ⟨j 2, j 3, (ValueIdx.eq_ix4 j).trans (by rw [Fin.fin_one_eq_zero (j 0), Fin.fin_one_eq_zero (j 1)]; rfl)⟩
  on_goal 4 => refine key 0 0 r d _ _ ?_ ?_
  on_goal 3 => refine key 0 1 r d _ _ ?_ ?_
  on_goal 2 => refine key 0 2 r d _ _ ?_ ?_
  on_goal 1 => refine key 0 3 r d _ _ ?_ ?_
  all_goals first
    | funext a
      match a with
      | ⟨0, _⟩ => exact Fin.ext (by show _ + 1 * 0 = _; rfl)
      | ⟨1, _⟩ => exact Fin.ext (by show _ + 1 * 0 = _; rfl)
      | ⟨2, _⟩ => exact Fin.ext (by show 0 + 1 * r.val = r.val; omega)
      | ⟨3, _⟩ => exact Fin.ext (by show 0 + 1 * d.val = d.val; omega)
    | (unfold blockAt
       pointwise [k8_pay1, k8_pay2, k8_pay3, k8_pay4, k8_pay5])

variable (V : Contents)

/-- The result array as one function of the two arrays it reads. -/
def result (c : Dev nD) : Buf (Elt Ideal) ((c : Thread nD τ).loc main_v23) := fun i : S4x16x1024x128.Idx =>
  projW (V c main_v16) (V c main_v11)
    ⟨8192 + ((i 0).val * 1024 + (i 2).val), by
      have := (i 0).isLt; have := (i 2).isLt; change (i 0).val < 4 at *; change (i 2).val < 1024 at *; omega⟩
    ⟨4096 + ((i 1).val * 128 + (i 3).val), by
      have := (i 1).isLt; have := (i 3).isLt; change (i 1).val < 16 at *; change (i 3).val < 128 at *; omega⟩

/-- Where each window's block lies at point `t`: block row `t / 4`, block column `t % 4`. -/
theorem idx_facts : ∀ t : Fin cfg8.N,
    (win8_0.index t 0 = 8 + t.val / 4 ∧ win8_0.index t 1 = 0)
    ∧ (win8_1.index t 0 = 0 ∧ win8_1.index t 1 = 8 + t.val % 4)
    ∧ (win8_2.index t 0 = t.val / 4 ∧ win8_2.index t 1 = t.val % 4 ∧ win8_2.index t 2 = 0 ∧ win8_2.index t 3 = 0) := by
  decide +kernel

/-- The grid has 16 points. -/
theorem lt_N (t : Fin cfg8.N) : t.val < 16 := t.isLt

/-- The rows' block at point `t`. -/
theorem read0 (c : Dev nD) (t : Fin cfg8.N) (r : Fin 1024) (k : Fin 4096) : iblk8 V c 0 t (ix2 r k)
    = V c main_v16 (ix2 ⟨8192 + (t.val / 4 * 1024 + r.val), by have := lt_N t; omega⟩ k) := by
  obtain ⟨⟨h0, h1⟩, -⟩ := idx_facts t
  unfold iblk8
  rw [View.read_apply]
  show V c main_v16 _ = _
  congr 1
  funext a
  apply Fin.ext
  match a with
  | ⟨0, _⟩ => show win8_0.index t 0 * 1024 + 1 * r.val = 8192 + (t.val / 4 * 1024 + r.val); rw [h0]; omega
  | ⟨1, _⟩ => show win8_0.index t 1 * 4096 + 1 * k.val = k.val; rw [h1]; omega

/-- The weights' block at point `t`. -/
theorem read1 (c : Dev nD) (t : Fin cfg8.N) (k : Fin 4096) (e : Fin 512) : iblk8 V c 1 t (ix2 k e)
    = V c main_v11 (ix2 k ⟨4096 + (t.val % 4 * 512 + e.val), by omega⟩) := by
  obtain ⟨-, ⟨h0, h1⟩, -⟩ := idx_facts t
  unfold iblk8
  rw [View.read_apply]
  show V c main_v11 _ = _
  congr 1
  funext a
  apply Fin.ext
  match a with
  | ⟨0, _⟩ => show win8_1.index t 0 * 4096 + 1 * k.val = k.val; rw [h0]; omega
  | ⟨1, _⟩ => show win8_1.index t 1 * 512 + 1 * e.val = 4096 + (t.val % 4 * 512 + e.val); rw [h1]; omega

/-- The block that point `t` computes, element by element. -/
theorem block_eq (c : Dev nD) (t : Fin cfg8.N) (s : Fin 1) (h : Fin 4) (r : Fin 1024) (d : Fin 128) :
    blockAt (iblk8 V c 0 t) (iblk8 V c 1 t) s h r d
      = projW (V c main_v16) (V c main_v11) ⟨8192 + (t.val / 4 * 1024 + (s.val * 1024 + r.val)), by have := lt_N t; omega⟩
          ⟨4096 + (t.val % 4 * 512 + (h.val * 128 + d.val)), by omega⟩ := by
  unfold blockAt projW
  simp only [read0, read1]

/-- What point `t` writes back is its block of `result`. -/
theorem flushed_eq (c : Dev nD) (t : Fin cfg8.N) :
    (dat8 V c).flushed 2 t = ((cfg8.win 2).blk t).view.read (Elt Ideal) (result V c) := by
  obtain ⟨-, -, h0, h1, h2, h3⟩ := idx_facts t
  have hf : (dat8 V c).flushed 2 t = (cfg8.win 2).cut (grid8.coords t) (out8_2 (iblk8 V c 0 t) (iblk8 V c 1 t)) := by
    show (cfg8.win 2).cut (grid8.coords t) ((dat8 V c).after 2 t) = _
    rw [after8_2]
  rw [hf]
  funext j
  rw [View.read_apply]
  obtain ⟨s, h, r, d, rfl⟩ : ∃ (s : Fin 1) (h : Fin 4) (r : Fin 1024) (d : Fin 128), j = (ix4 s h r d : S1x4x1024x128.Idx) :=
    ⟨j 0, j 1, j 2, j 3, ValueIdx.eq_ix4 j⟩
  refine (out_apply (iblk8 V c 0 t) (iblk8 V c 1 t) (ix4 s h r d)).trans ?_
  refine (block_eq V c t s h r d).trans ?_
  show _ = result V c _
  unfold result
  refine congr (congrArg (projW _ _) ?_) ?_
  · exact Fin.ext (show 8192 + (t.val / 4 * 1024 + (s.val * 1024 + r.val)) = 8192 + ((win8_2.index t 0 * 1 + 1 * s.val) * 1024 + (win8_2.index t 2 * 1024 + 1 * r.val)) by rw [h0, h2]; omega)
  · exact Fin.ext (show 4096 + (t.val % 4 * 512 + (h.val * 128 + d.val)) = 4096 + ((win8_2.index t 1 * 4 + 1 * h.val) * 128 + (win8_2.index t 3 * 128 + 1 * d.val)) by rw [h1, h3]; omega)

/-- The point whose block holds index `i`. -/
theorem covered (i : S4x16x1024x128.Idx) : ∃ t : Fin cfg8.N, (cfg8.win 2).flush t = true ∧ i ∈ ((cfg8.win 2).blk t).view.set := by
  have b0 : (i 0 : Nat) < 4 := (i 0).isLt
  have b1 : (i 1 : Nat) < 16 := (i 1).isLt
  have b2 : (i 2 : Nat) < 1024 := (i 2).isLt
  have b3 : (i 3 : Nat) < 128 := (i 3).isLt
  let t : Fin cfg8.N := ⟨(i 0 : Nat) * 4 + (i 1 : Nat) / 4, by show _ < 16; omega⟩
  have ht : t.val = (i 0 : Nat) * 4 + (i 1 : Nat) / 4 := rfl
  obtain ⟨-, -, h0, h1, h2, h3⟩ := idx_facts t
  refine ⟨t, flush8_2 t, ?_⟩
  show i ∈ ((View.whole main_v23).slice (win8_2.rect t)).set
  rw [View.set_slice_whole, Rect.mem_set_unit]
  intro a
  match a with
  | ⟨0, _⟩ => show win8_2.index t 0 * 1 ≤ (i 0 : Nat) ∧ (i 0 : Nat) < win8_2.index t 0 * 1 + 1; rw [h0]; omega
  | ⟨1, _⟩ => show win8_2.index t 1 * 4 ≤ (i 1 : Nat) ∧ (i 1 : Nat) < win8_2.index t 1 * 4 + 4; rw [h1]; omega
  | ⟨2, _⟩ => show win8_2.index t 2 * 1024 ≤ (i 2 : Nat) ∧ (i 2 : Nat) < win8_2.index t 2 * 1024 + 1024; rw [h2]; omega
  | ⟨3, _⟩ => show win8_2.index t 3 * 128 ≤ (i 3 : Nat) ∧ (i 3 : Nat) < win8_2.index t 3 * 128 + 128; rw [h3]; omega

/-- The result array ends holding `result`. -/
theorem final_eq (c : Dev nD) : (dat8 V c).arrAt 2 cfg8.N = result V c :=
  (dat8 V c).arrAt_eq_of_cover 2 (result V c) (fun t _ => flushed_eq V c t) covered

end Cert.Proof.Odd.WL

end
-- ==== Proof.OdRms.lean ====
/- The second layer's input projection: the keys' low-rank part normalised, an array of 12288 rows and 512 columns, index by
   index. -/
module

public import proofs.«01_k».proof.Proof.OdDefs

@[expose] public section

set_option maxRecDepth 16384

noncomputable section

namespace Cert.Proof.Odd.Rms

open Idealize.ShloMosaic Idealize.ShloMosaic.TcCoe Idealize.SL.Sem Cert.Kernel5Ideal Cert.Kernel5Ideal.Gen
open Idealize.ShloMosaic.Pointwise
open Idealize.ShloMosaic.Pipeline (Dat)

/-- The value one grid point stores, element by element. -/
theorem pay_apply (x : Vec Ideal S256x512 .f32) (g : Vec Ideal S1x512 .f32) (r : Fin 256) (k : Fin 512) :
    k9_pay1 x g (ix2 r k) = rmsAt (fun e => x (ix2 r e)) k (g (ix2 0 k)) := by
  unfold rmsAt
  pointwise [k9_pay1]

/-- The element at row `r`, column `k` of a block from the two blocks it is computed from. -/
def blockAt (x0 : Vec Ideal S256x512 .f32) (x1 : Vec Ideal S1x512 .f32) (r : Fin 256) (k : Fin 512) : EReal :=
  rmsAt (fun e => x0 (ix2 r e)) k (x1 (ix2 0 k))

/-- The block one grid point writes, element by element. -/
theorem out_apply (x0 : Vec Ideal S256x512 .f32) (x1 : Vec Ideal S1x512 .f32) (r : Fin 256) (k : Fin 512) :
    out9_2 x0 x1 (ix2 r k) = blockAt x0 x1 r k := by
  unfold out9_2
  refine View.canon_apply_of_pieces (Val := Elt Ideal) (e := .f32) (fun i : S256x512.Idx => blockAt x0 x1 (i 0) (i 1)) _
    (fun p hp j => ?_) _ (cover9_2 _ _)
  simp only [List.mem_cons, List.not_mem_nil, or_false] at hp
  subst hp
  obtain ⟨r, k, rfl⟩ : ∃ (r : Fin 256) (k : Fin 512), j = (ix2 r k : S256x512.Idx) := ⟨j 0, j 1, ValueIdx.eq_ix2 j⟩
  have he : r9_0.emb (ix2 r k) = (ix2 r k : S256x512.Idx) := by
    funext a
    match a with
    | ⟨0, _⟩ => exact Fin.ext (show 0 + 1 * r.val = r.val by omega)
    | ⟨1, _⟩ => exact Fin.ext (show 0 + 1 * k.val = k.val by omega)
  refine (pay_apply _ _ r k).trans ?_
  simp only [he]
  unfold blockAt
  pointwise []

/-- The number at row `R`, column `k`: the columns from 1024 on of the low-rank parts are the keys'. -/
def valAt (L : Vec Ideal S12288x1536 .f32) (G : Vec Ideal S1x512 .f32) (R : Fin 12288) (k : Fin 512) : EReal :=
  rmsAt (fun e => L (ix2 R ⟨1024 + e.val, by omega⟩)) k (G (ix2 0 k))

variable (V : Contents)

/-- The result array as one function of the two arrays it reads. -/
def result (c : Dev nD) : Buf (Elt Ideal) ((c : Thread nD τ).loc main_v25) := fun i : S12288x512.Idx =>
  valAt (V c main_v17) (V c main_v24) (i 0) (i 1)

/-- Where each window's block lies at point `t`: block row `t`, block column 2 of the low-rank parts. -/
theorem idx_facts : ∀ t : Fin cfg9.N,
    (win9_0.index t 0 = t.val ∧ win9_0.index t 1 = 2)
    ∧ (win9_1.index t 0 = 0 ∧ win9_1.index t 1 = 0)
    ∧ (win9_2.index t 0 = t.val ∧ win9_2.index t 1 = 0) := by
  decide +kernel

/-- The grid has 48 points. -/
theorem lt_N (t : Fin cfg9.N) : t.val < 48 := t.isLt

/-- The rows' block at point `t`. -/
theorem read0 (c : Dev nD) (t : Fin cfg9.N) (r : Fin 256) (k : Fin 512) : iblk9 V c 0 t (ix2 r k)
    = V c main_v17 (ix2 ⟨t.val * 256 + r.val, by have := lt_N t; omega⟩ ⟨1024 + k.val, by omega⟩) := by
  obtain ⟨⟨h0, h1⟩, -⟩ := idx_facts t
  unfold iblk9
  rw [View.read_apply]
  show V c main_v17 _ = _
  congr 1
  funext a
  apply Fin.ext
  match a with
  | ⟨0, _⟩ => show win9_0.index t 0 * 256 + 1 * r.val = t.val * 256 + r.val; rw [h0]; omega
  | ⟨1, _⟩ => show win9_0.index t 1 * 512 + 1 * k.val = 1024 + k.val; rw [h1]; omega

/-- The gain's block is the whole row. -/
theorem read1 (c : Dev nD) (t : Fin cfg9.N) (k : Fin 512) : iblk9 V c 1 t (ix2 0 k) = V c main_v24 (ix2 0 k) := by
  obtain ⟨-, ⟨h0, h1⟩, -⟩ := idx_facts t
  unfold iblk9
  rw [View.read_apply]
  show V c main_v24 _ = _
  congr 1
  funext a
  apply Fin.ext
  match a with
  | ⟨0, _⟩ => show win9_1.index t 0 * 1 + 1 * 0 = 0; rw [h0]
  | ⟨1, _⟩ => show win9_1.index t 1 * 512 + 1 * k.val = k.val; rw [h1]; omega

/-- The block that point `t` computes, element by element. -/
theorem block_eq (c : Dev nD) (t : Fin cfg9.N) (r : Fin 256) (k : Fin 512) :
    blockAt (iblk9 V c 0 t) (iblk9 V c 1 t) r k
      = valAt (V c main_v17) (V c main_v24) ⟨t.val * 256 + r.val, by have := lt_N t; omega⟩ k := by
  unfold blockAt valAt
  simp only [read0, read1]

/-- What point `t` writes back is its block of `result`. -/
theorem flushed_eq (c : Dev nD) (t : Fin cfg9.N) :
    (dat9 V c).flushed 2 t = ((cfg9.win 2).blk t).view.read (Elt Ideal) (result V c) := by
  obtain ⟨-, -, h0, h1⟩ := idx_facts t
  have hf : (dat9 V c).flushed 2 t = (cfg9.win 2).cut (grid9.coords t) (out9_2 (iblk9 V c 0 t) (iblk9 V c 1 t)) := by
    show (cfg9.win 2).cut (grid9.coords t) ((dat9 V c).after 2 t) = _
    rw [after9_2]
  rw [hf]
  funext j
  rw [View.read_apply]
  obtain ⟨r, k, rfl⟩ : ∃ (r : Fin 256) (k : Fin 512), j = (ix2 r k : S256x512.Idx) := ⟨j 0, j 1, ValueIdx.eq_ix2 j⟩
  refine (out_apply (iblk9 V c 0 t) (iblk9 V c 1 t) r k).trans ?_
  refine (block_eq V c t r k).trans ?_
  show _ = result V c _
  unfold result
  refine congr (congrArg (valAt _ _) ?_) ?_
  · exact Fin.ext (show t.val * 256 + r.val = win9_2.index t 0 * 256 + 1 * r.val by rw [h0]; omega)
  · exact Fin.ext (show k.val = win9_2.index t 1 * 512 + 1 * k.val by rw [h1]; omega)

/-- The point whose block holds index `i`. -/
theorem covered (i : S12288x512.Idx) : ∃ t : Fin cfg9.N, (cfg9.win 2).flush t = true ∧ i ∈ ((cfg9.win 2).blk t).view.set := by
  have b0 : (i 0 : Nat) < 12288 := (i 0).isLt
  have b1 : (i 1 : Nat) < 512 := (i 1).isLt
  let t : Fin cfg9.N := ⟨(i 0 : Nat) / 256, by show _ < 48; omega⟩
  have ht : t.val = (i 0 : Nat) / 256 := rfl
  obtain ⟨-, -, h0, h1⟩ := idx_facts t
  refine ⟨t, flush9_2 t, ?_⟩
  show i ∈ ((View.whole main_v25).slice (win9_2.rect t)).set
  rw [View.set_slice_whole, Rect.mem_set_unit]
  intro a
  match a with
  | ⟨0, _⟩ => show win9_2.index t 0 * 256 ≤ (i 0 : Nat) ∧ (i 0 : Nat) < win9_2.index t 0 * 256 + 256; rw [h0]; omega
  | ⟨1, _⟩ => show win9_2.index t 1 * 512 ≤ (i 1 : Nat) ∧ (i 1 : Nat) < win9_2.index t 1 * 512 + 512; rw [h1]; omega

/-- The result array ends holding `result`. -/
theorem final_eq (c : Dev nD) : (dat9 V c).arrAt 2 cfg9.N = result V c :=
  (dat9 V c).arrAt_eq_of_cover 2 (result V c) (fun t _ => flushed_eq V c t) covered

end Cert.Proof.Odd.Rms

end
-- ==== Proof.OdKv.lean ====
/- The second layer's input projection: the latent keys and values, an array of 12288 rows and 4096 columns, index by index. -/
module

public import proofs.«01_k».proof.Proof.OdDefs

@[expose] public section

set_option maxRecDepth 16384

noncomputable section

namespace Cert.Proof.Odd.Kv

open Idealize.ShloMosaic Idealize.ShloMosaic.TcCoe Idealize.SL.Sem Cert.Kernel5Ideal Cert.Kernel5Ideal.Gen
open Idealize.ShloMosaic.Pointwise
open Cert.Proof.In (silu modAt normAt)
open Idealize.ShloMosaic.Pipeline (Dat)

/-- The value one grid point stores, element by element. -/
theorem pay_apply (a : Vec Ideal S1024x512 .f32) (w : Vec Ideal S512x2048 .bf16) (r : Fin 1024) (c : Fin 2048) :
    k10_pay1 a w (ix2 r c) = ∑ k, a (ix2 r k) * w (ix2 k c) := by
  pointwise [k10_pay1]

/-- The element at row `r`, column `c` of the block one grid point writes. -/
def blockAt (x0 : Vec Ideal S1024x512 .f32) (x1 : Vec Ideal S512x2048 .bf16) (r : Fin 1024) (c : Fin 2048) : EReal :=
  ∑ k, x0 (ix2 r k) * x1 (ix2 k c)

/-- The block one grid point writes, element by element. -/
theorem out_apply (x0 : Vec Ideal S1024x512 .f32) (x1 : Vec Ideal S512x2048 .bf16) (r : Fin 1024) (c : Fin 2048) :
    out10_2 x0 x1 (ix2 r c) = blockAt x0 x1 r c := by
  unfold out10_2
  refine View.canon_apply_of_pieces (Val := Elt Ideal) (e := .bf16) (fun i : S1024x2048.Idx => blockAt x0 x1 (i 0) (i 1)) _
    (fun p hp j => ?_) _ (cover10_2 _ _)
  simp only [List.mem_cons, List.not_mem_nil, or_false] at hp
  subst hp
  obtain ⟨r, c, rfl⟩ : ∃ (r : Fin 1024) (c : Fin 2048), j = ix2 r c := ⟨j 0, j 1, ValueIdx.eq_ix2 j⟩
  have he : r10_2.emb (ix2 r c) = (ix2 r c : S1024x2048.Idx) := by
    funext a
    match a with
    | ⟨0, _⟩ => exact Fin.ext (show 0 + 1 * r.val = r.val by omega)
    | ⟨1, _⟩ => exact Fin.ext (show 0 + 1 * c.val = c.val by omega)
  refine (pay_apply _ _ r c).trans ?_
  simp only [he]
  unfold blockAt
  pointwise []

variable (V : Contents)

/-- The result array as one function of the two arrays it reads. -/
def result (c : Dev nD) : Buf (Elt Ideal) ((c : Thread nD τ).loc main_v27) := fun i : S12288x4096.Idx =>
  upAt (V c main_v25) (V c main_v26) (i 0) ⟨0 + (i 1).val, by have := (i 1).isLt; change (i 1).val < 4096 at this; omega⟩

/-- Where each window's block lies at point `t`: block row `t / 2`, block column `t % 2`. -/
theorem idx_facts : ∀ t : Fin cfg10.N,
    (win10_0.index t 0 = t.val / 2 ∧ win10_0.index t 1 = 0)
    ∧ (win10_1.index t 0 = 0 ∧ win10_1.index t 1 = 0 + t.val % 2)
    ∧ (win10_2.index t 0 = t.val / 2 ∧ win10_2.index t 1 = t.val % 2) := by
  decide +kernel

/-- The grid has 24 points. -/
theorem lt_N (t : Fin cfg10.N) : t.val < 24 := t.isLt

/-- The rows' block at point `t`. -/
theorem read0 (c : Dev nD) (t : Fin cfg10.N) (r : Fin 1024) (k : Fin 512) : iblk10 V c 0 t (ix2 r k)
    = V c main_v25 (ix2 ⟨t.val / 2 * 1024 + r.val, by have := lt_N t; omega⟩ k) := by
  obtain ⟨⟨h0, h1⟩, -⟩ := idx_facts t
  unfold iblk10
  rw [View.read_apply]
  show V c main_v25 _ = _
  congr 1
  funext a
  apply Fin.ext
  match a with
  | ⟨0, _⟩ => show win10_0.index t 0 * 1024 + 1 * r.val = t.val / 2 * 1024 + r.val; rw [h0]; omega
  | ⟨1, _⟩ => show win10_0.index t 1 * 512 + 1 * k.val = k.val; rw [h1]; omega

/-- The weights' block at point `t`. -/
theorem read1 (c : Dev nD) (t : Fin cfg10.N) (k : Fin 512) (e : Fin 2048) : iblk10 V c 1 t (ix2 k e)
    = V c main_v26 (ix2 k ⟨0 + (t.val % 2 * 2048 + e.val), by omega⟩) := by
  obtain ⟨-, ⟨h0, h1⟩, -⟩ := idx_facts t
  unfold iblk10
  rw [View.read_apply]
  show V c main_v26 _ = _
  congr 1
  funext a
  apply Fin.ext
  match a with
  | ⟨0, _⟩ => show win10_1.index t 0 * 512 + 1 * k.val = k.val; rw [h0]; omega
  | ⟨1, _⟩ => show win10_1.index t 1 * 2048 + 1 * e.val = 0 + (t.val % 2 * 2048 + e.val); rw [h1]; omega

/-- The block that point `t` computes, element by element. -/
theorem block_eq (c : Dev nD) (t : Fin cfg10.N) (r : Fin 1024) (e : Fin 2048) :
    blockAt (iblk10 V c 0 t) (iblk10 V c 1 t) r e
      = upAt (V c main_v25) (V c main_v26) ⟨t.val / 2 * 1024 + r.val, by have := lt_N t; omega⟩ ⟨0 + (t.val % 2 * 2048 + e.val), by omega⟩ := by
  unfold blockAt upAt
  simp only [read0, read1]

/-- What point `t` writes back is its block of `result`. -/
theorem flushed_eq (c : Dev nD) (t : Fin cfg10.N) :
    (dat10 V c).flushed 2 t = ((cfg10.win 2).blk t).view.read (Elt Ideal) (result V c) := by
  obtain ⟨-, -, h0, h1⟩ := idx_facts t
  have hf : (dat10 V c).flushed 2 t = (cfg10.win 2).cut (grid10.coords t) (out10_2 (iblk10 V c 0 t) (iblk10 V c 1 t)) := by
    show (cfg10.win 2).cut (grid10.coords t) ((dat10 V c).after 2 t) = _
    rw [after10_2]
  rw [hf]
  funext j
  rw [View.read_apply]
  obtain ⟨r, e, rfl⟩ : ∃ (r : Fin 1024) (e : Fin 2048), j = (ix2 r e : S1024x2048.Idx) := ⟨j 0, j 1, ValueIdx.eq_ix2 j⟩
  refine (out_apply (iblk10 V c 0 t) (iblk10 V c 1 t) r e).trans ?_
  refine (block_eq V c t r e).trans ?_
  show _ = result V c _
  unfold result
  refine congr (congrArg (upAt _ _) ?_) ?_
  · exact Fin.ext (show t.val / 2 * 1024 + r.val = win10_2.index t 0 * 1024 + 1 * r.val by rw [h0]; omega)
  · exact Fin.ext (show 0 + (t.val % 2 * 2048 + e.val) = 0 + (win10_2.index t 1 * 2048 + 1 * e.val) by rw [h1]; omega)

/-- The point whose block holds index `i`. -/
theorem covered (i : S12288x4096.Idx) : ∃ t : Fin cfg10.N, (cfg10.win 2).flush t = true ∧ i ∈ ((cfg10.win 2).blk t).view.set := by
  have b0 : (i 0 : Nat) < 12288 := (i 0).isLt
  have b1 : (i 1 : Nat) < 4096 := (i 1).isLt
  let t : Fin cfg10.N := ⟨(i 0 : Nat) / 1024 * 2 + (i 1 : Nat) / 2048, by show _ < 24; omega⟩
  have ht : t.val = (i 0 : Nat) / 1024 * 2 + (i 1 : Nat) / 2048 := rfl
  obtain ⟨-, -, h0, h1⟩ := idx_facts t
  refine ⟨t, flush10_2 t, ?_⟩
  show i ∈ ((View.whole main_v27).slice (win10_2.rect t)).set
  rw [View.set_slice_whole, Rect.mem_set_unit]
  intro a
  match a with
  | ⟨0, _⟩ => show win10_2.index t 0 * 1024 ≤ (i 0 : Nat) ∧ (i 0 : Nat) < win10_2.index t 0 * 1024 + 1024; rw [h0]; omega
  | ⟨1, _⟩ => show win10_2.index t 1 * 2048 ≤ (i 1 : Nat) ∧ (i 1 : Nat) < win10_2.index t 1 * 2048 + 2048; rw [h1]; omega

/-- The result array ends holding `result`. -/
theorem final_eq (c : Dev nD) : (dat10 V c).arrAt 2 cfg10.N = result V c :=
  (dat10 V c).arrAt_eq_of_cover 2 (result V c) (fun t _ => flushed_eq V c t) covered

end Cert.Proof.Odd.Kv

end
-- ==== Proof.OdChain.lean ====
/- The fifth program's run from end to end: what each of its kernels finds when it starts, and the nine results as functions of the
   nine argument arrays. -/
module

public import proofs.«01_k».proof.Proof.OdSpec
public import proofs.«01_k».proof.Proof.OdCond
public import proofs.«01_k».proof.Proof.OdMod
public import proofs.«01_k».proof.Proof.OdNorm
public import proofs.«01_k».proof.Proof.OdLora
public import proofs.«01_k».proof.Proof.OdKpe
public import proofs.«01_k».proof.Proof.OdQd
public import proofs.«01_k».proof.Proof.OdK
public import proofs.«01_k».proof.Proof.OdW
public import proofs.«01_k».proof.Proof.OdKL
public import proofs.«01_k».proof.Proof.OdWL
public import proofs.«01_k».proof.Proof.OdRms
public import proofs.«01_k».proof.Proof.OdKv

@[expose] public section

set_option maxRecDepth 16384

noncomputable section

namespace Cert.Proof.Odd.Chain

open Idealize.ShloMosaic Idealize.ShloMosaic.TcCoe Idealize.SL.Sem Cert.Kernel5Ideal Cert.Kernel5Ideal.Gen
open Idealize.ShloMosaic.Pointwise
open Cert.Proof.In (silu modAt normAt)

variable (m : (ℓ : Loc nD τ sig) → Buf (Elt Ideal) ℓ) (ρ : Dev nD → PrngReg)

/-- One number of the normalised rows, of the arguments in memory. -/
abbrev hAt (c : Dev nD) (R : Fin 12288) (k : Fin 4096) : EReal :=
  rowH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R k

/-- One number of the projection, of the arguments in memory. -/
abbrev pAt (c : Dev nD) (R : Fin 12288) (C : Fin 7744) : EReal :=
  rowP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R C

/-- One number of the normalised low-rank part, of the arguments in memory. -/
abbrev cAt (c : Dev nD) (R : Fin 12288) (k : Fin 512) : EReal :=
  ckvAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) R k

/-- One number of the latent keys and values, of the arguments in memory. -/
abbrev uAt (c : Dev nD) (R : Fin 12288) (C : Fin 4096) : EReal :=
  kvAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R C

/-- The modulation the first kernel leaves. -/
theorem v6_at (c : Dev nD) (r : Fin 8) (j : Fin 24576) : V2 m ρ c main_v6 (ix2 r j)
    = modAt (fun k => V1 m ρ c main_v4 (ix2 r k)) (fun k => m ((c : Thread nD τ).loc main_arg3) (ix2 k j)) (m ((c : Thread nD τ).loc main_arg4) (ix1 j)) := by
  have h : V2 m ρ c main_v6 = Mod.result (V1 m ρ) c := (W2_arr m ρ c 3).trans (Mod.final_eq (V1 m ρ) c)
  refine (congrFun h _).trans ?_
  show modAt _ _ _ = _
  refine congr (congrArg (modAt _) (funext fun k => ?_)) (Cond.offs m ρ c j)
  exact congrFun (W1_args m ρ c main_arg3 (by decide)) _

/-- A row's condition in the table. -/
theorem cond_row (c : Dev nD) (R : Fin 12288) : (fun e => V1 m ρ c main_v4 (ix2 (Norm.condOf R) e))
    = condRow (m ((c : Thread nD τ).loc main_arg1)) (m ((c : Thread nD τ).loc main_arg2)) R := by
  funext e
  unfold condRow
  by_cases hR : R.val < 8192
  · have hc : Norm.condOf R = 0 := Fin.ext (by show (if R.val < 8192 then 0 else 1 + (R.val - 8192) / 1024) = 0; rw [if_pos hR])
    rw [dif_pos hR, hc]
    exact Cond.cond0 m ρ c e
  · have hc : (Norm.condOf R).val = 1 + (⟨(R.val - 8192) / 1024, by omega⟩ : Fin 4).val := by
      show (if R.val < 8192 then 0 else 1 + (R.val - 8192) / 1024) = _; rw [if_neg hR]
    rw [dif_neg hR]
    exact Cond.cond1 m ρ c _ _ hc e

/-- A row's modulation as the normalisation reads it. -/
theorem mod_row (c : Dev nD) (R : Fin 12288) (j : Fin 24576) : V5 m ρ c main_v7 (ix3 (Norm.condOf R) 0 j)
    = modAt (condRow (m ((c : Thread nD τ).loc main_arg1)) (m ((c : Thread nD τ).loc main_arg2)) R)
        (fun k => m ((c : Thread nD τ).loc main_arg3) (ix2 k j)) (m ((c : Thread nD τ).loc main_arg4) (ix1 j)) :=
  (Cond.v7_at m ρ c _ j).trans ((v6_at m ρ c _ j).trans (congrArg (fun f => modAt f _ _) (cond_row m ρ c R)))

/-- The normalised rows the second kernel leaves. -/
theorem v16_at (c : Dev nD) (R : Fin 12288) (k : Fin 4096) : V6 m ρ c main_v16 (ix2 R k) = hAt m c R k := by
  have h : V6 m ρ c main_v16 = Norm.result (V5 m ρ) c := (W6_arr m ρ c 4).trans (Norm.final_eq (V5 m ρ) c)
  refine (congrFun h _).trans ?_
  show Norm.valAt _ _ _ R k = _
  unfold hAt rowH rowWith Norm.valAt
  rw [Cond.v15_at m ρ c k, mod_row m ρ c R, mod_row m ρ c R]
  refine congrArg (fun f => normAt f _ _ _ _) (funext fun e => ?_)
  exact congrFun (W5_args m ρ c main_arg0 (by decide)) _

/-- A sum over the normalised rows whose weights are a column of `w_in` is a number of the projection. -/
theorem sum_eq (c : Dev nD) (H : Vec Ideal S12288x4096 .bf16) (hH : H = V6 m ρ c main_v16) (w : Fin 4096 → EReal) (R : Fin 12288) (C : Fin 7744)
    (hw : ∀ k, w k = m ((c : Thread nD τ).loc main_arg6) (ix2 k C)) : ∑ k, H (ix2 R k) * w k = pAt m c R C := by
  subst hH
  exact Finset.sum_congr rfl fun k _ => by rw [v16_at m ρ c R k, hw k]

/-- A product with the low-rank parts' weights. -/
theorem lora_eq (c : Dev nD) (H : Vec Ideal S12288x4096 .bf16) (W : Vec Ideal S4096x1536 .bf16) (hH : H = V6 m ρ c main_v16)
    (hW : W = V5 m ρ c main_v9) (R : Fin 12288) (C : Fin 1536) (D : Fin 7744) (hD : D.val = C.val) : projL H W R C = pAt m c R D := by
  subst hW
  refine sum_eq m ρ c H hH _ R D fun k => (Cond.v9_at m ρ c k C).trans ?_
  rw [show D = ⟨C.val, by omega⟩ from Fin.ext hD]

/-- A product with the positional part's weights, in the 64 columns that are used. -/
theorem kpe_eq (c : Dev nD) (H : Vec Ideal S12288x4096 .bf16) (W : Vec Ideal S4096x128 .bf16) (hH : H = V6 m ρ c main_v16)
    (hW : W = V5 m ρ c main_v14) (R : Fin 12288) (C : Fin 128) (hC : C.val < 64) (D : Fin 7744) (hD : D.val = 1536 + C.val) :
    projP H W R C = pAt m c R D := by
  subst hW
  refine sum_eq m ρ c H hH _ R D fun k => (Cond.v14_at m ρ c k C hC).trans ?_
  rw [show D = ⟨1536 + C.val, by omega⟩ from Fin.ext hD]

/-- A product with the direct heads' weights. -/
theorem head_eq (c : Dev nD) (H : Vec Ideal S12288x4096 .bf16) (W : Vec Ideal S4096x6144 .bf16) (hH : H = V6 m ρ c main_v16)
    (hW : W = V5 m ρ c main_v11) (R : Fin 12288) (C : Fin 6144) (D : Fin 7744) (hD : D.val = 1600 + C.val) : projW H W R C = pAt m c R D := by
  subst hW
  refine sum_eq m ρ c H hH _ R D fun k => (Cond.v11_at m ρ c k C).trans ?_
  rw [show D = ⟨1600 + C.val, by omega⟩ from Fin.ext hD]

/-- The low-rank parts, as one function of the arguments. -/
def resLora (c : Dev nD) : Buf (Elt Ideal) ((c : Thread nD τ).loc main_v17) := fun i : S12288x1536.Idx =>
  pAt m c (i 0) ⟨0 + (i 1).val, by have := (i 1).isLt; change (i 1).val < 1536 at this; omega⟩

/-- The run ends with the low-rank parts in their array. -/
theorem endLora (c : Dev nD) : W18 m ρ c (Proc.devRef .tc main_v17) = resLora m c := by
  refine (((((((((((W18_of m ρ c main_v17 (by decide)).trans (W17_of m ρ c main_v17 (by decide))).trans (W16_of m ρ c main_v17 (by decide))).trans (W15_of m ρ c main_v17 (by decide))).trans (W14_of m ρ c main_v17 (by decide))).trans (W13_of m ρ c main_v17 (by decide))).trans (W12_of m ρ c main_v17 (by decide))).trans (W11_of m ρ c main_v17 (by decide))).trans (W10_of m ρ c main_v17 (by decide))).trans (W9_of m ρ c main_v17 (by decide))).trans (W8_of m ρ c main_v17 (by decide))).trans (((W7_arr m ρ c 2).trans (Lora.final_eq (V6 m ρ) c)).trans ?_)
  funext i
  exact lora_eq m ρ c _ _ rfl (W6_of m ρ c main_v9 (by decide)) _ _ _ rfl

/-- The direct heads' queries, as one function of the arguments. -/
def resQd (c : Dev nD) : Buf (Elt Ideal) ((c : Thread nD τ).loc main_v19) := fun i : S12288x2048.Idx =>
  pAt m c (i 0) ⟨1600 + (i 1).val, by have := (i 1).isLt; change (i 1).val < 2048 at this; omega⟩

/-- The run ends with the direct heads' queries in their array. -/
theorem endQd (c : Dev nD) : W18 m ρ c (Proc.devRef .tc main_v19) = resQd m c := by
  refine (((((((((W18_of m ρ c main_v19 (by decide)).trans (W17_of m ρ c main_v19 (by decide))).trans (W16_of m ρ c main_v19 (by decide))).trans (W15_of m ρ c main_v19 (by decide))).trans (W14_of m ρ c main_v19 (by decide))).trans (W13_of m ρ c main_v19 (by decide))).trans (W12_of m ρ c main_v19 (by decide))).trans (W11_of m ρ c main_v19 (by decide))).trans (W10_of m ρ c main_v19 (by decide))).trans (((W9_arr m ρ c 2).trans (Qd.final_eq (V8 m ρ) c)).trans ?_)
  funext i
  exact head_eq m ρ c _ _ ((W8_of m ρ c main_v16 (by decide)).trans (W7_of m ρ c main_v16 (by decide))) (((W8_of m ρ c main_v11 (by decide)).trans (W7_of m ρ c main_v11 (by decide))).trans (W6_of m ρ c main_v11 (by decide))) _ _ _ (by show 1600 + _ = 1600 + (0 + _); rw [Nat.zero_add])

/-- The prompts' keys, as one function of the arguments. -/
def resK (c : Dev nD) : Buf (Elt Ideal) ((c : Thread nD τ).loc main_v20) := fun i : S32x16x256x128.Idx =>
  pAt m c
    ⟨0 + ((i 0).val * 256 + (i 2).val), by
      have := (i 0).isLt; have := (i 2).isLt; change (i 0).val < 32 at *; change (i 2).val < 256 at *; omega⟩
    ⟨3648 + ((i 1).val * 128 + (i 3).val), by
      have := (i 1).isLt; have := (i 3).isLt; change (i 1).val < 16 at *; change (i 3).val < 128 at *; omega⟩

/-- The run ends with the prompts' keys in their array. -/
theorem endK (c : Dev nD) : W18 m ρ c (Proc.devRef .tc main_v20) = resK m c := by
  refine ((((((((W18_of m ρ c main_v20 (by decide)).trans (W17_of m ρ c main_v20 (by decide))).trans (W16_of m ρ c main_v20 (by decide))).trans (W15_of m ρ c main_v20 (by decide))).trans (W14_of m ρ c main_v20 (by decide))).trans (W13_of m ρ c main_v20 (by decide))).trans (W12_of m ρ c main_v20 (by decide))).trans (W11_of m ρ c main_v20 (by decide))).trans (((W10_arr m ρ c 2).trans (K.final_eq (V9 m ρ) c)).trans ?_)
  funext i
  exact head_eq m ρ c _ _ (((W9_of m ρ c main_v16 (by decide)).trans (W8_of m ρ c main_v16 (by decide))).trans (W7_of m ρ c main_v16 (by decide))) ((((W9_of m ρ c main_v11 (by decide)).trans (W8_of m ρ c main_v11 (by decide))).trans (W7_of m ρ c main_v11 (by decide))).trans (W6_of m ρ c main_v11 (by decide))) _ _ _ (Nat.add_assoc 1600 2048 _)

/-- The prompts' values, as one function of the arguments. -/
def resW (c : Dev nD) : Buf (Elt Ideal) ((c : Thread nD τ).loc main_v21) := fun i : S32x16x256x128.Idx =>
  pAt m c
    ⟨0 + ((i 0).val * 256 + (i 2).val), by
      have := (i 0).isLt; have := (i 2).isLt; change (i 0).val < 32 at *; change (i 2).val < 256 at *; omega⟩
    ⟨5696 + ((i 1).val * 128 + (i 3).val), by
      have := (i 1).isLt; have := (i 3).isLt; change (i 1).val < 16 at *; change (i 3).val < 128 at *; omega⟩

/-- The run ends with the prompts' values in their array. -/
theorem endW (c : Dev nD) : W18 m ρ c (Proc.devRef .tc main_v21) = resW m c := by
  refine (((((((W18_of m ρ c main_v21 (by decide)).trans (W17_of m ρ c main_v21 (by decide))).trans (W16_of m ρ c main_v21 (by decide))).trans (W15_of m ρ c main_v21 (by decide))).trans (W14_of m ρ c main_v21 (by decide))).trans (W13_of m ρ c main_v21 (by decide))).trans (W12_of m ρ c main_v21 (by decide))).trans (((W11_arr m ρ c 2).trans (W.final_eq (V10 m ρ) c)).trans ?_)
  funext i
  exact head_eq m ρ c _ _ ((((W10_of m ρ c main_v16 (by decide)).trans (W9_of m ρ c main_v16 (by decide))).trans (W8_of m ρ c main_v16 (by decide))).trans (W7_of m ρ c main_v16 (by decide))) (((((W10_of m ρ c main_v11 (by decide)).trans (W9_of m ρ c main_v11 (by decide))).trans (W8_of m ρ c main_v11 (by decide))).trans (W7_of m ρ c main_v11 (by decide))).trans (W6_of m ρ c main_v11 (by decide))) _ _ _ (Nat.add_assoc 1600 4096 _)

/-- The latent sequences' keys, as one function of the arguments. -/
def resKL (c : Dev nD) : Buf (Elt Ideal) ((c : Thread nD τ).loc main_v22) := fun i : S4x16x1024x128.Idx =>
  pAt m c
    ⟨8192 + ((i 0).val * 1024 + (i 2).val), by
      have := (i 0).isLt; have := (i 2).isLt; change (i 0).val < 4 at *; change (i 2).val < 1024 at *; omega⟩
    ⟨3648 + ((i 1).val * 128 + (i 3).val), by
      have := (i 1).isLt; have := (i 3).isLt; change (i 1).val < 16 at *; change (i 3).val < 128 at *; omega⟩

/-- The run ends with the latent sequences' keys in their array. -/
theorem endKL (c : Dev nD) : W18 m ρ c (Proc.devRef .tc main_v22) = resKL m c := by
  refine ((((((W18_of m ρ c main_v22 (by decide)).trans (W17_of m ρ c main_v22 (by decide))).trans (W16_of m ρ c main_v22 (by decide))).trans (W15_of m ρ c main_v22 (by decide))).trans (W14_of m ρ c main_v22 (by decide))).trans (W13_of m ρ c main_v22 (by decide))).trans (((W12_arr m ρ c 2).trans (KL.final_eq (V11 m ρ) c)).trans ?_)
  funext i
  exact head_eq m ρ c _ _ (((((W11_of m ρ c main_v16 (by decide)).trans (W10_of m ρ c main_v16 (by decide))).trans (W9_of m ρ c main_v16 (by decide))).trans (W8_of m ρ c main_v16 (by decide))).trans (W7_of m ρ c main_v16 (by decide))) ((((((W11_of m ρ c main_v11 (by decide)).trans (W10_of m ρ c main_v11 (by decide))).trans (W9_of m ρ c main_v11 (by decide))).trans (W8_of m ρ c main_v11 (by decide))).trans (W7_of m ρ c main_v11 (by decide))).trans (W6_of m ρ c main_v11 (by decide))) _ _ _ (Nat.add_assoc 1600 2048 _)

/-- The latent sequences' values, as one function of the arguments. -/
def resWL (c : Dev nD) : Buf (Elt Ideal) ((c : Thread nD τ).loc main_v23) := fun i : S4x16x1024x128.Idx =>
  pAt m c
    ⟨8192 + ((i 0).val * 1024 + (i 2).val), by
      have := (i 0).isLt; have := (i 2).isLt; change (i 0).val < 4 at *; change (i 2).val < 1024 at *; omega⟩
    ⟨5696 + ((i 1).val * 128 + (i 3).val), by
      have := (i 1).isLt; have := (i 3).isLt; change (i 1).val < 16 at *; change (i 3).val < 128 at *; omega⟩

/-- The run ends with the latent sequences' values in their array. -/
theorem endWL (c : Dev nD) : W18 m ρ c (Proc.devRef .tc main_v23) = resWL m c := by
  refine (((((W18_of m ρ c main_v23 (by decide)).trans (W17_of m ρ c main_v23 (by decide))).trans (W16_of m ρ c main_v23 (by decide))).trans (W15_of m ρ c main_v23 (by decide))).trans (W14_of m ρ c main_v23 (by decide))).trans (((W13_arr m ρ c 2).trans (WL.final_eq (V12 m ρ) c)).trans ?_)
  funext i
  exact head_eq m ρ c _ _ ((((((W12_of m ρ c main_v16 (by decide)).trans (W11_of m ρ c main_v16 (by decide))).trans (W10_of m ρ c main_v16 (by decide))).trans (W9_of m ρ c main_v16 (by decide))).trans (W8_of m ρ c main_v16 (by decide))).trans (W7_of m ρ c main_v16 (by decide))) (((((((W12_of m ρ c main_v11 (by decide)).trans (W11_of m ρ c main_v11 (by decide))).trans (W10_of m ρ c main_v11 (by decide))).trans (W9_of m ρ c main_v11 (by decide))).trans (W8_of m ρ c main_v11 (by decide))).trans (W7_of m ρ c main_v11 (by decide))).trans (W6_of m ρ c main_v11 (by decide))) _ _ _ (Nat.add_assoc 1600 4096 _)

/-- The positional part at the end of the run, in the 64 columns that are used. -/
theorem v18_at (c : Dev nD) (R : Fin 12288) (C : Fin 128) (hC : C.val < 64) : W17 m ρ c (Proc.devRef .tc main_v18) (ix2 R C)
    = pAt m c R ⟨1536 + C.val, by omega⟩ := by
  refine (congrFun ((((((((((W17_of m ρ c main_v18 (by decide)).trans (W16_of m ρ c main_v18 (by decide))).trans (W15_of m ρ c main_v18 (by decide))).trans (W14_of m ρ c main_v18 (by decide))).trans (W13_of m ρ c main_v18 (by decide))).trans (W12_of m ρ c main_v18 (by decide))).trans (W11_of m ρ c main_v18 (by decide))).trans (W10_of m ρ c main_v18 (by decide))).trans (W9_of m ρ c main_v18 (by decide))).trans ((W8_arr m ρ c 2).trans (Kpe.final_eq (V7 m ρ) c))) _).trans ?_
  show projP _ _ R ⟨0 + C.val, by omega⟩ = _
  rw [show (⟨0 + C.val, by omega⟩ : Fin 128) = C from Fin.ext (Nat.zero_add _)]
  exact kpe_eq m ρ c _ _ (W7_of m ρ c main_v16 (by decide)) ((W7_of m ρ c main_v14 (by decide)).trans (W6_of m ρ c main_v14 (by decide))) R C hC _ rfl

/-- The low-rank parts as the normalisation reads them. -/
theorem v17_at (c : Dev nD) (R : Fin 12288) (C : Fin 1536) : V14 m ρ c main_v17 (ix2 R C) = pAt m c R ⟨C.val, by omega⟩ := by
  refine (congrFun ((((((((W14_of m ρ c main_v17 (by decide)).trans (W13_of m ρ c main_v17 (by decide))).trans (W12_of m ρ c main_v17 (by decide))).trans (W11_of m ρ c main_v17 (by decide))).trans (W10_of m ρ c main_v17 (by decide))).trans (W9_of m ρ c main_v17 (by decide))).trans (W8_of m ρ c main_v17 (by decide))).trans ((W7_arr m ρ c 2).trans (Lora.final_eq (V6 m ρ) c))) _).trans ?_
  exact lora_eq m ρ c _ _ rfl (W6_of m ρ c main_v9 (by decide)) _ _ _ (Nat.zero_add _).symm

/-- The normalised low-rank part its kernel leaves. -/
theorem v25_at (c : Dev nD) (R : Fin 12288) (k : Fin 512) : W15 m ρ c (Proc.devRef .tc main_v25) (ix2 R k) = cAt m c R k := by
  refine (congrFun ((W15_arr m ρ c 2).trans (Rms.final_eq (V14 m ρ) c)) _).trans ?_
  show Rms.valAt _ _ R k = _
  unfold Rms.valAt cAt ckvAt
  rw [Cond.v24_at m ρ c k]
  exact congrArg (fun f => rmsAt f _ _) (funext fun e => v17_at m ρ c R _)

/-- The prompts' positional part, as one function of the arguments. -/
def resKpe (c : Dev nD) : Buf (Elt Ideal) ((c : Thread nD τ).loc main_v31) := fun i : S32x256x64.Idx =>
  pAt m c
    ⟨(i 0).val * 256 + (i 1).val, by
      have := (i 0).isLt; have := (i 1).isLt; change (i 0).val < 32 at *; change (i 1).val < 256 at *; omega⟩
    ⟨1536 + (i 2).val, by have := (i 2).isLt; change (i 2).val < 64 at *; omega⟩

/-- The run ends with the prompts' positional part in their array. -/
theorem endKpe (c : Dev nD) : W18 m ρ c (Proc.devRef .tc main_v31) = resKpe m c := by
  funext i
  obtain ⟨b, l, k, rfl⟩ : ∃ (b : Fin 32) (l : Fin 256) (k : Fin 64), i = (ix3 b l k : S32x256x64.Idx) := ⟨i 0, i 1, i 2, ValueIdx.eq_ix3 i⟩
  exact (Cond.v31_at m ρ c b l k).trans (v18_at m ρ c _ _ k.isLt)

/-- The prompts' normalised low-rank part, as one function of the arguments. -/
def resCkv (c : Dev nD) : Buf (Elt Ideal) ((c : Thread nD τ).loc main_v29) := fun i : S32x256x512.Idx =>
  cAt m c
    ⟨(i 0).val * 256 + (i 1).val, by
      have := (i 0).isLt; have := (i 1).isLt; change (i 0).val < 32 at *; change (i 1).val < 256 at *; omega⟩
    (i 2)

/-- The run ends with the prompts' normalised low-rank part in their array. -/
theorem endCkv (c : Dev nD) : W18 m ρ c (Proc.devRef .tc main_v29) = resCkv m c := by
  funext i
  obtain ⟨b, l, k, rfl⟩ : ∃ (b : Fin 32) (l : Fin 256) (k : Fin 512), i = (ix3 b l k : S32x256x512.Idx) := ⟨i 0, i 1, i 2, ValueIdx.eq_ix3 i⟩
  refine (Cond.v29_at m ρ c b l k).trans ?_
  exact (congrFun ((W17_of m ρ c main_v25 (by decide)).trans (W16_of m ρ c main_v25 (by decide))) _).trans (v25_at m ρ c _ k)

/-- The latent keys and values, as one function of the arguments. -/
def resKv (c : Dev nD) : Buf (Elt Ideal) ((c : Thread nD τ).loc main_v27) := fun i : S12288x4096.Idx => uAt m c (i 0) (i 1)

/-- The run ends with the latent keys and values in their array. -/
theorem endKv (c : Dev nD) : W18 m ρ c (Proc.devRef .tc main_v27) = resKv m c := by
  refine (W18_of m ρ c main_v27 (by decide)).trans (((W17_arr m ρ c 2).trans (Kv.final_eq (V16 m ρ) c)).trans ?_)
  funext i
  obtain ⟨R, C, rfl⟩ : ∃ (R : Fin 12288) (C : Fin 4096), i = (ix2 R C : S12288x4096.Idx) := ⟨i 0, i 1, ValueIdx.eq_ix2 i⟩
  show upAt _ _ R ⟨0 + C.val, by omega⟩ = uAt m c R C
  rw [show (⟨0 + C.val, by omega⟩ : Fin 4096) = C from Fin.ext (Nat.zero_add _)]
  refine Finset.sum_congr rfl fun k _ => ?_
  refine congr (congrArg _ ?_) (Cond.v26_at m ρ c k C)
  exact (congrFun (W16_of m ρ c main_v25 (by decide)) _).trans (v25_at m ρ c R k)

end Cert.Proof.Odd.Chain

end
-- ==== Proof.OdRun.lean ====
/- The fifth program's run: it ends with every buffer as the last kernel leaves it, so with the nine results. -/
module

public import proofs.«01_k».proof.Proof.OdChain

@[expose] public section

set_option maxRecDepth 16384

noncomputable section

namespace Cert.Proof.Odd.Chain

open Idealize.SL Idealize.SL.RA Idealize.SL.BI
open Idealize.SL.BI.BIBase Idealize.SL.BI.Laws Idealize.SL.ProofMode Idealize.SL.Sem
open Idealize.ShloMosaic Idealize.ShloMosaic.TcCoe Idealize.ShloMosaic.Tactic
open Idealize.ShloMosaic.Pipeline (Dat Cfg Window BodyObligation cellOf)
open Idealize.ShloMosaic.Rounds
open scoped Idealize.SL.BI
open Cert.Kernel5Ideal Cert.Kernel5Ideal.Gen

variable (m : (ℓ : Loc nD τ sig) → Buf (Elt Ideal) ℓ) (ρ : Dev nD → PrngReg)

set_option backward.isDefEq.respectTransparency.types false in
/-- The run ends: every buffer that outlives the kernels holds what the chain of contents says, and every counter is at zero. -/
theorem run_end : θ_run defs (onTc (τ := τ) (main (F := Ideal))) ⟨m, fun _ => 0, ρ⟩ (fun r =>
    (∀ c : Dev nD, ∀ b ∈ Pipeline.ucRefs τ sig, r.2.mem (((c : Thread nD τ)).1, b) = W18 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
        dsimp only [Pipeline.Seg.post, hseg, Pipeline.HostSeg.ofOps]
        iintro ⟨Hheld, Hreg, Howe⟩
        isplitr [Howe]
        · isplitr [Hreg]
          · iexact Hheld
          · iexact Hreg
        · iexact Howe⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h hz => ⟨h, funext fun g => hz g (.inr (no_unscoped g.2))⟩)

/-- The whole run: it ends with the nine results, the arguments as they were and every counter at zero. -/
theorem run_all : θ_run defs (onTc (τ := τ) (main (F := Ideal))) ⟨m, fun _ => 0, ρ⟩ (fun r => (∀ c : Dev nD,
      r.2.mem ((c.tc : Thread nD τ).loc main_v29) = resCkv m c
      ∧ r.2.mem ((c.tc : Thread nD τ).loc main_v31) = resKpe m c
      ∧ r.2.mem ((c.tc : Thread nD τ).loc main_v20) = resK m c
      ∧ r.2.mem ((c.tc : Thread nD τ).loc main_v21) = resW m c
      ∧ r.2.mem ((c.tc : Thread nD τ).loc main_v22) = resKL m c
      ∧ r.2.mem ((c.tc : Thread nD τ).loc main_v23) = resWL m c
      ∧ r.2.mem ((c.tc : Thread nD τ).loc main_v19) = resQd m c
      ∧ r.2.mem ((c.tc : Thread nD τ).loc main_v17) = resLora m c
      ∧ r.2.mem ((c.tc : Thread nD τ).loc main_v27) = resKv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    have h := h.1 c
    ⟨(h _ (mem_uc main_v29 (by decide))).trans (endCkv m ρ c),
       (h _ (mem_uc main_v31 (by decide))).trans (endKpe m ρ c),
       (h _ (mem_uc main_v20 (by decide))).trans (endK m ρ c),
       (h _ (mem_uc main_v21 (by decide))).trans (endW m ρ c),
       (h _ (mem_uc main_v22 (by decide))).trans (endKL m ρ c),
       (h _ (mem_uc main_v23 (by decide))).trans (endWL m ρ c),
       (h _ (mem_uc main_v19 (by decide))).trans (endQd m ρ c),
       (h _ (mem_uc main_v17 (by decide))).trans (endLora m ρ c),
       (h _ (mem_uc main_v27 (by decide))).trans (endKv m ρ c),
       (h _ (mem_uc main_arg0 (by decide))).trans (W18_main_arg0 m ρ c),
       (h _ (mem_uc main_arg1 (by decide))).trans (W18_main_arg1 m ρ c),
       (h _ (mem_uc main_arg2 (by decide))).trans (W18_main_arg2 m ρ c),
       (h _ (mem_uc main_arg3 (by decide))).trans (W18_main_arg3 m ρ c),
       (h _ (mem_uc main_arg4 (by decide))).trans (W18_main_arg4 m ρ c),
       (h _ (mem_uc main_arg5 (by decide))).trans (W18_main_arg5 m ρ c),
       (h _ (mem_uc main_arg6 (by decide))).trans (W18_main_arg6 m ρ c),
       (h _ (mem_uc main_arg7 (by decide))).trans (W18_main_arg7 m ρ c),
       (h _ (mem_uc main_arg8 (by decide))).trans (W18_main_arg8 m ρ c)⟩, h.2⟩) (run_end m ρ)

end Cert.Proof.Odd.Chain

end
-- ==== Proof.OdRef.lean ====
/- The reference's second input projection, index by index: the modulation, the normalised rows, and the nine results, each the
   same function of the nine argument arrays as the kernel's. -/
module

public import proofs.«01_k».proof.Proof.OdSpec
public import proofs.«01_k».proof.Proof.Gen.Reference5Ideal.Read
public import Idealize.ShloMosaic.Lib.Pointwise

@[expose] public section

set_option maxRecDepth 16384

noncomputable section

namespace Cert.Proof.Odd.Ref

open Idealize.ShloMosaic Idealize.ShloMosaic.TcCoe Idealize.SL.Sem Cert.Reference5Ideal Cert.Reference5Ideal.Gen Cert.Reference5Ideal.Read
open Idealize.ShloMosaic.Pointwise
open Cert.Proof.In (silu modAt normAt)

variable (x0 : Vec Ideal S12288x4096 .f32) (x1 : Vec Ideal S4x4096 .f32) (x2 : Vec Ideal S4096 .f32) (x3 : Vec Ideal S4096x24576 .f32)
  (x4 : Vec Ideal S24576 .f32) (x5 : Vec Ideal S4096 .f32) (x6 : Vec Ideal S4096x7744 .f32) (x7 : Vec Ideal S512 .f32) (x8 : Vec Ideal S512x4096 .f32)

/-- The constant one the reference adds. -/
theorem one_bits : Ideal.ofBits .f32 0x3F800000#32 = 1 := by
  simp [Ideal.ofBits, Ideal.ieee]
  rw [← EReal.coe_mul]
  norm_num

/-- The constant zero the reference's sums start from. -/
theorem zero_bits : Ideal.ofBits .f32 0x00000000#32 = 0 := by
  simp [Ideal.ofBits, Ideal.ieee]

/-- The prompts' modulation. -/
theorem mod_prompt (j : Fin 24576) : val_main_v8 (F := Ideal) x2 x3 x4 (ix2 0 j)
    = modAt (fun e => x2 (ix1 e)) (fun e => x3 (ix2 e j)) (x4 (ix1 j)) := by
  unfold modAt silu
  rw [← one_bits]
  pointwise [val_main_v8, val_main_v7, val_main_v6, val_main_v5, val_main_v4, val_main_call0_v5, val_main_call0_v4, val_main_call0_v3, val_main_call0_v2,
    val_main_call0_v1, val_main_call0_v0, val_main_call0_cst, val_main_call0_cst_0]

/-- The latent sequences' modulation, one row each. -/
theorem mod_latent (a : Fin 4) (j : Fin 24576) : val_main_v64 (F := Ideal) x1 x3 x4 (ix2 a j)
    = modAt (fun e => x1 (ix2 a e)) (fun e => x3 (ix2 e j)) (x4 (ix1 j)) := by
  unfold modAt silu
  rw [← one_bits]
  pointwise [val_main_v64, val_main_v63, val_main_v62, val_main_v61, val_main_v60, val_main_call1_v5, val_main_call1_v4, val_main_call1_v3, val_main_call1_v2,
    val_main_call1_v1, val_main_call1_v0, val_main_call1_cst, val_main_call1_cst_0]

/-- A prompt's row among the rows of both streams. -/
theorem x_prompt (R : Fin 12288) (b : Fin 32) (l : Fin 256) (hR : R.val = b.val * 256 + l.val) (e : Fin 4096) :
    val_main_v1 (F := Ideal) x0 (ix3 b l e) = x0 (ix2 R e) := by
  rw [show R = ⟨b.val * 256 + l.val, by omega⟩ from Fin.ext hR]
  pointwise [val_main_v1, val_main_v0]

/-- A latent sequence's row among the rows of both streams. -/
theorem x_latent (R : Fin 12288) (b : Fin 4) (l : Fin 1024) (hR : R.val = 8192 + (b.val * 1024 + l.val)) (e : Fin 4096) :
    val_main_v3 (F := Ideal) x0 (ix3 b l e) = x0 (ix2 R e) := by
  rw [show R = ⟨8192 + (b.val * 1024 + l.val), by omega⟩ from Fin.ext hR]
  pointwise [val_main_v3, val_main_v2]

/-- The prompts' normalised rows. -/
theorem rows_prompt (R : Fin 12288) (b : Fin 32) (l : Fin 256) (hR : R.val = b.val * 256 + l.val) (k : Fin 4096) :
    val_main_v34 (F := Ideal) x0 x2 x3 x4 x5 (ix3 b l k) = rowH x0 x1 x2 x3 x4 x5 R k := by
  unfold rowH rowWith normAt
  rw [condRow_prompt x1 x2 R (by omega), ← mod_prompt, ← mod_prompt]
  simp only [← x_prompt x0 R b l hR]
  rw [← one_bits]
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v11, val_main_v10, val_main_v9, val_main_cst, val_main_cst_0, val_main_cst_1, val_main_cst_2]
  all_goals simp only [zero_bits, zero_add]

/-- The latent sequences' normalised rows. -/
theorem rows_latent (R : Fin 12288) (b : Fin 4) (l : Fin 1024) (hR : R.val = 8192 + (b.val * 1024 + l.val)) (k : Fin 4096) :
    val_main_v90 (F := Ideal) x0 x1 x3 x4 x5 (ix3 b l k) = rowH x0 x1 x2 x3 x4 x5 R k := by
  unfold rowH rowWith normAt
  rw [condRow_latent x1 x2 R b l hR, ← mod_latent, ← mod_latent]
  simp only [← x_latent x0 R b l hR]
  rw [← one_bits]
  pointwise [val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v67, val_main_v66, val_main_v65, val_main_cst_6, val_main_cst_7, val_main_cst_8, val_main_cst_9]
  all_goals simp only [zero_bits, zero_add]

/-- The prompts' product: one row of both streams times the weights. -/
theorem proj_prompt (R : Fin 12288) (b : Fin 32) (l : Fin 256) (hR : R.val = b.val * 256 + l.val) (C : Fin 7744) :
    val_main_v35 (F := Ideal) x0 x2 x3 x4 x5 x6 (ix3 b l C) = rowP x0 x1 x2 x3 x4 x5 x6 R C := by
  have e : val_main_v35 (F := Ideal) x0 x2 x3 x4 x5 x6 (ix3 b l C) = ∑ k, val_main_v34 (F := Ideal) x0 x2 x3 x4 x5 (ix3 b l k) * x6 (ix2 k C) := by
    pointwise [val_main_v35]
  rw [e]
  exact Finset.sum_congr rfl fun k _ => by rw [rows_prompt x0 x1 x2 x3 x4 x5 R b l hR k]

/-- The prompts' low-rank part of the keys. -/
theorem low_prompt (b : Fin 32) (l : Fin 256) (k : Fin 512) : val_main_v37 (F := Ideal) x0 x2 x3 x4 x5 x6 (ix3 b l k)
    = val_main_v35 (F := Ideal) x0 x2 x3 x4 x5 x6 (ix3 b l ⟨1024 + k.val, by omega⟩) := by
  pointwise [val_main_v37]

/-- The prompts' normalised low-rank part. -/
theorem ckv_prompt (R : Fin 12288) (b : Fin 32) (l : Fin 256) (hR : R.val = b.val * 256 + l.val) (k : Fin 512) :
    val_main_v55 (F := Ideal) x0 x2 x3 x4 x5 x6 x7 (ix3 b l k) = ckvAt x0 x1 x2 x3 x4 x5 x6 x7 R k := by
  unfold ckvAt rmsAt
  simp only [← proj_prompt x0 x1 x2 x3 x4 x5 x6 R b l hR, ← low_prompt]
  pointwise [val_main_v55, val_main_v54, val_main_v53, val_main_v52, val_main_v51, val_main_v50, val_main_v49, val_main_v48, val_main_v47, val_main_v46, val_main_v45, val_main_v44, val_main_v43, val_main_cst_3, val_main_cst_4, val_main_cst_5]
  all_goals simp only [zero_bits, zero_add]

/-- The prompts' latent keys and values. -/
theorem kv_prompt (R : Fin 12288) (b : Fin 32) (l : Fin 256) (hR : R.val = b.val * 256 + l.val) (C : Fin 4096) :
    val_main_v123 (F := Ideal) x0 x2 x3 x4 x5 x6 x7 x8 (ix3 b l C) = kvAt x0 x1 x2 x3 x4 x5 x6 x7 x8 R C := by
  have e : val_main_v123 (F := Ideal) x0 x2 x3 x4 x5 x6 x7 x8 (ix3 b l C) = ∑ k, val_main_v55 (F := Ideal) x0 x2 x3 x4 x5 x6 x7 (ix3 b l k) * x8 (ix2 k C) := by
    pointwise [val_main_v123]
  rw [e]
  exact Finset.sum_congr rfl fun k _ => by rw [ckv_prompt x0 x1 x2 x3 x4 x5 x6 x7 R b l hR k]

/-- The latent sequences' product: one row of both streams times the weights. -/
theorem proj_latent (R : Fin 12288) (b : Fin 4) (l : Fin 1024) (hR : R.val = 8192 + (b.val * 1024 + l.val)) (C : Fin 7744) :
    val_main_v91 (F := Ideal) x0 x1 x3 x4 x5 x6 (ix3 b l C) = rowP x0 x1 x2 x3 x4 x5 x6 R C := by
  have e : val_main_v91 (F := Ideal) x0 x1 x3 x4 x5 x6 (ix3 b l C) = ∑ k, val_main_v90 (F := Ideal) x0 x1 x3 x4 x5 (ix3 b l k) * x6 (ix2 k C) := by
    pointwise [val_main_v91]
  rw [e]
  exact Finset.sum_congr rfl fun k _ => by rw [rows_latent x0 x1 x2 x3 x4 x5 R b l hR k]

/-- The latent sequences' low-rank part of the keys. -/
theorem low_latent (b : Fin 4) (l : Fin 1024) (k : Fin 512) : val_main_v93 (F := Ideal) x0 x1 x3 x4 x5 x6 (ix3 b l k)
    = val_main_v91 (F := Ideal) x0 x1 x3 x4 x5 x6 (ix3 b l ⟨1024 + k.val, by omega⟩) := by
  pointwise [val_main_v93]

/-- The latent sequences' normalised low-rank part. -/
theorem ckv_latent (R : Fin 12288) (b : Fin 4) (l : Fin 1024) (hR : R.val = 8192 + (b.val * 1024 + l.val)) (k : Fin 512) :
    val_main_v111 (F := Ideal) x0 x1 x3 x4 x5 x6 x7 (ix3 b l k) = ckvAt x0 x1 x2 x3 x4 x5 x6 x7 R k := by
  unfold ckvAt rmsAt
  simp only [← proj_latent x0 x1 x2 x3 x4 x5 x6 R b l hR, ← low_latent]
  pointwise [val_main_v111, val_main_v110, val_main_v109, val_main_v108, val_main_v107, val_main_v106, val_main_v105, val_main_v104, val_main_v103, val_main_v102, val_main_v101, val_main_v100, val_main_v99, val_main_cst_10, val_main_cst_11, val_main_cst_12]
  all_goals simp only [zero_bits, zero_add]

/-- The latent sequences' latent keys and values. -/
theorem kv_latent (R : Fin 12288) (b : Fin 4) (l : Fin 1024) (hR : R.val = 8192 + (b.val * 1024 + l.val)) (C : Fin 4096) :
    val_main_v124 (F := Ideal) x0 x1 x3 x4 x5 x6 x7 x8 (ix3 b l C) = kvAt x0 x1 x2 x3 x4 x5 x6 x7 x8 R C := by
  have e : val_main_v124 (F := Ideal) x0 x1 x3 x4 x5 x6 x7 x8 (ix3 b l C) = ∑ k, val_main_v111 (F := Ideal) x0 x1 x3 x4 x5 x6 x7 (ix3 b l k) * x8 (ix2 k C) := by
    pointwise [val_main_v124]
  rw [e]
  exact Finset.sum_congr rfl fun k _ => by rw [ckv_latent x0 x1 x2 x3 x4 x5 x6 x7 R b l hR k]

/-- The prompts' positional part. -/
theorem kpe_prompt (b : Fin 32) (l : Fin 256) (k : Fin 64) : val_main_v38 (F := Ideal) x0 x2 x3 x4 x5 x6 (ix3 b l k)
    = rowP x0 x1 x2 x3 x4 x5 x6 ⟨b.val * 256 + l.val, by omega⟩ ⟨1536 + k.val, by omega⟩ := by
  rw [← proj_prompt x0 x1 x2 x3 x4 x5 x6 ⟨b.val * 256 + l.val, by omega⟩ b l rfl]
  pointwise [val_main_v38]

/-- The prompts' keys, head by head. -/
theorem k_prompt (b : Fin 32) (h : Fin 16) (l : Fin 256) (d : Fin 128) : val_main_v57 (F := Ideal) x0 x2 x3 x4 x5 x6 (ix4 b h l d)
    = rowP x0 x1 x2 x3 x4 x5 x6 ⟨0 + (b.val * 256 + l.val), by omega⟩ ⟨3648 + (h.val * 128 + d.val), by omega⟩ := by
  rw [← proj_prompt x0 x1 x2 x3 x4 x5 x6 ⟨0 + (b.val * 256 + l.val), by omega⟩ b l (Nat.zero_add _)]
  pointwise [val_main_v57, val_main_v56, val_main_v40]

/-- The prompts' values. -/
theorem v_prompt (b : Fin 32) (h : Fin 16) (l : Fin 256) (d : Fin 128) : val_main_v59 (F := Ideal) x0 x2 x3 x4 x5 x6 (ix4 b h l d)
    = rowP x0 x1 x2 x3 x4 x5 x6 ⟨0 + (b.val * 256 + l.val), by omega⟩ ⟨5696 + (h.val * 128 + d.val), by omega⟩ := by
  rw [← proj_prompt x0 x1 x2 x3 x4 x5 x6 ⟨0 + (b.val * 256 + l.val), by omega⟩ b l (Nat.zero_add _)]
  pointwise [val_main_v59, val_main_v58, val_main_v41]

/-- The latent sequences' keys. -/
theorem k_latent (b : Fin 4) (h : Fin 16) (l : Fin 1024) (d : Fin 128) : val_main_v113 (F := Ideal) x0 x1 x3 x4 x5 x6 (ix4 b h l d)
    = rowP x0 x1 x2 x3 x4 x5 x6 ⟨8192 + (b.val * 1024 + l.val), by omega⟩ ⟨3648 + (h.val * 128 + d.val), by omega⟩ := by
  rw [← proj_latent x0 x1 x2 x3 x4 x5 x6 ⟨8192 + (b.val * 1024 + l.val), by omega⟩ b l rfl]
  pointwise [val_main_v113, val_main_v112, val_main_v96]

/-- The latent sequences' values. -/
theorem v_latent (b : Fin 4) (h : Fin 16) (l : Fin 1024) (d : Fin 128) : val_main_v115 (F := Ideal) x0 x1 x3 x4 x5 x6 (ix4 b h l d)
    = rowP x0 x1 x2 x3 x4 x5 x6 ⟨8192 + (b.val * 1024 + l.val), by omega⟩ ⟨5696 + (h.val * 128 + d.val), by omega⟩ := by
  rw [← proj_latent x0 x1 x2 x3 x4 x5 x6 ⟨8192 + (b.val * 1024 + l.val), by omega⟩ b l rfl]
  pointwise [val_main_v115, val_main_v114, val_main_v97]

/-- A row past the prompts' is a latent sequence's row. -/
theorem lat_row (n : ℕ) (h : ¬n < 8192) : n = 8192 + ((n - 8192) / 1024 * 1024 + (n - 8192) % 1024) := by
  rw [Nat.div_add_mod', Nat.add_sub_cancel' (Nat.le_of_not_lt h)]

/-- The direct heads' queries of the prompts. -/
theorem qd_prompt (r : Fin 8192) (C : Fin 2048) : val_main_v116 (F := Ideal) x0 x2 x3 x4 x5 x6 (ix2 r C)
    = val_main_v35 (F := Ideal) x0 x2 x3 x4 x5 x6 (ix3 ⟨r.val / 256, by omega⟩ ⟨r.val % 256, by omega⟩ ⟨1600 + C.val, by omega⟩) := by
  pointwise [val_main_v116, val_main_v39]

/-- The direct heads' queries of the latent sequences. -/
theorem qd_latent (r : Fin 4096) (C : Fin 2048) : val_main_v117 (F := Ideal) x0 x1 x3 x4 x5 x6 (ix2 r C)
    = val_main_v91 (F := Ideal) x0 x1 x3 x4 x5 x6 (ix3 ⟨r.val / 1024, by omega⟩ ⟨r.val % 1024, by omega⟩ ⟨1600 + C.val, by omega⟩) := by
  pointwise [val_main_v117, val_main_v95]

/-- The direct heads' queries, the prompts' rows first. -/
theorem qd_both (R : Fin 12288) (C : Fin 2048) : val_main_v119 (F := Ideal) x0 x1 x2 x3 x4 x5 x6 (ix2 R C)
    = rowP x0 x1 x2 x3 x4 x5 x6 R ⟨1600 + C.val, by omega⟩ := by
  have e : val_main_v119 (F := Ideal) x0 x1 x2 x3 x4 x5 x6 (ix2 R C)
      = if h : R.val < 8192 then val_main_v116 (F := Ideal) x0 x2 x3 x4 x5 x6 (ix2 ⟨R.val, by omega⟩ C)
        else val_main_v117 (F := Ideal) x0 x1 x3 x4 x5 x6 (ix2 ⟨R.val - 8192, by omega⟩ C) := by
    pointwise [val_main_v119, val_main_v118]
  rw [e]
  by_cases h : R.val < 8192
  · rw [dif_pos h, qd_prompt]
    exact proj_prompt x0 x1 x2 x3 x4 x5 x6 R ⟨R.val / 256, by omega⟩ ⟨R.val % 256, by omega⟩ (Nat.div_add_mod' R.val 256).symm _
  · rw [dif_neg h, qd_latent]
    exact proj_latent x0 x1 x2 x3 x4 x5 x6 R ⟨(R.val - 8192) / 1024, by omega⟩ ⟨(R.val - 8192) % 1024, by omega⟩ (lat_row R.val h) _

/-- The prompts' low-rank parts next to each other are the projection's first 1536 columns. -/
theorem lowcat_prompt (b : Fin 32) (l : Fin 256) (C : Fin 1536) : val_main_v42 (F := Ideal) x0 x2 x3 x4 x5 x6 (ix3 b l C)
    = val_main_v35 (F := Ideal) x0 x2 x3 x4 x5 x6 (ix3 b l ⟨C.val, by omega⟩) := by
  have e : val_main_v42 (F := Ideal) x0 x2 x3 x4 x5 x6 (ix3 b l C)
      = if h : C.val < 1024 then val_main_v36 (F := Ideal) x0 x2 x3 x4 x5 x6 (ix3 b l ⟨C.val, by omega⟩)
        else val_main_v37 (F := Ideal) x0 x2 x3 x4 x5 x6 (ix3 b l ⟨C.val - 1024, by omega⟩) := by
    pointwise [val_main_v42]
  have q : ∀ D : Fin 1024, val_main_v36 (F := Ideal) x0 x2 x3 x4 x5 x6 (ix3 b l D) = val_main_v35 (F := Ideal) x0 x2 x3 x4 x5 x6 (ix3 b l ⟨D.val, by omega⟩) := by
    intro D
    pointwise [val_main_v36]
  rw [e]
  by_cases h : C.val < 1024
  · rw [dif_pos h, q]
  · rw [dif_neg h, low_prompt]
    exact congrArg (fun D => val_main_v35 (F := Ideal) x0 x2 x3 x4 x5 x6 (ix3 b l D)) (Fin.ext (by show 1024 + (C.val - 1024) = C.val; omega))

/-- The latent sequences' low-rank parts next to each other are the projection's first 1536 columns. -/
theorem lowcat_latent (b : Fin 4) (l : Fin 1024) (C : Fin 1536) : val_main_v98 (F := Ideal) x0 x1 x3 x4 x5 x6 (ix3 b l C)
    = val_main_v91 (F := Ideal) x0 x1 x3 x4 x5 x6 (ix3 b l ⟨C.val, by omega⟩) := by
  have e : val_main_v98 (F := Ideal) x0 x1 x3 x4 x5 x6 (ix3 b l C)
      = if h : C.val < 1024 then val_main_v92 (F := Ideal) x0 x1 x3 x4 x5 x6 (ix3 b l ⟨C.val, by omega⟩)
        else val_main_v93 (F := Ideal) x0 x1 x3 x4 x5 x6 (ix3 b l ⟨C.val - 1024, by omega⟩) := by
    pointwise [val_main_v98]
  have q : ∀ D : Fin 1024, val_main_v92 (F := Ideal) x0 x1 x3 x4 x5 x6 (ix3 b l D) = val_main_v91 (F := Ideal) x0 x1 x3 x4 x5 x6 (ix3 b l ⟨D.val, by omega⟩) := by
    intro D
    pointwise [val_main_v92]
  rw [e]
  by_cases h : C.val < 1024
  · rw [dif_pos h, q]
  · rw [dif_neg h, low_latent]
    exact congrArg (fun D => val_main_v91 (F := Ideal) x0 x1 x3 x4 x5 x6 (ix3 b l D)) (Fin.ext (by show 1024 + (C.val - 1024) = C.val; omega))

/-- The low-rank parts of the prompts, row by row. -/
theorem lora_prompt (r : Fin 8192) (C : Fin 1536) : val_main_v120 (F := Ideal) x0 x2 x3 x4 x5 x6 (ix2 r C)
    = val_main_v42 (F := Ideal) x0 x2 x3 x4 x5 x6 (ix3 ⟨r.val / 256, by omega⟩ ⟨r.val % 256, by omega⟩ C) := by
  pointwise [val_main_v120]

/-- The low-rank parts of the latent sequences, row by row. -/
theorem lora_latent (r : Fin 4096) (C : Fin 1536) : val_main_v121 (F := Ideal) x0 x1 x3 x4 x5 x6 (ix2 r C)
    = val_main_v98 (F := Ideal) x0 x1 x3 x4 x5 x6 (ix3 ⟨r.val / 1024, by omega⟩ ⟨r.val % 1024, by omega⟩ C) := by
  pointwise [val_main_v121]

/-- The low-rank parts, the prompts' rows first. -/
theorem lora_both (R : Fin 12288) (C : Fin 1536) : val_main_v122 (F := Ideal) x0 x1 x2 x3 x4 x5 x6 (ix2 R C)
    = rowP x0 x1 x2 x3 x4 x5 x6 R ⟨C.val, by omega⟩ := by
  have e : val_main_v122 (F := Ideal) x0 x1 x2 x3 x4 x5 x6 (ix2 R C)
      = if h : R.val < 8192 then val_main_v120 (F := Ideal) x0 x2 x3 x4 x5 x6 (ix2 ⟨R.val, by omega⟩ C)
        else val_main_v121 (F := Ideal) x0 x1 x3 x4 x5 x6 (ix2 ⟨R.val - 8192, by omega⟩ C) := by
    pointwise [val_main_v122]
  rw [e]
  by_cases h : R.val < 8192
  · rw [dif_pos h, lora_prompt, lowcat_prompt]
    exact proj_prompt x0 x1 x2 x3 x4 x5 x6 R ⟨R.val / 256, by omega⟩ ⟨R.val % 256, by omega⟩ (Nat.div_add_mod' R.val 256).symm _
  · rw [dif_neg h, lora_latent, lowcat_latent]
    exact proj_latent x0 x1 x2 x3 x4 x5 x6 R ⟨(R.val - 8192) / 1024, by omega⟩ ⟨(R.val - 8192) % 1024, by omega⟩ (lat_row R.val h) _

/-- The latent keys and values of the prompts, row by row. -/
theorem up_prompt (r : Fin 8192) (C : Fin 4096) : val_main_v125 (F := Ideal) x0 x2 x3 x4 x5 x6 x7 x8 (ix2 r C)
    = val_main_v123 (F := Ideal) x0 x2 x3 x4 x5 x6 x7 x8 (ix3 ⟨r.val / 256, by omega⟩ ⟨r.val % 256, by omega⟩ C) := by
  pointwise [val_main_v125]

/-- The latent keys and values of the latent sequences, row by row. -/
theorem up_latent (r : Fin 4096) (C : Fin 4096) : val_main_v126 (F := Ideal) x0 x1 x3 x4 x5 x6 x7 x8 (ix2 r C)
    = val_main_v124 (F := Ideal) x0 x1 x3 x4 x5 x6 x7 x8 (ix3 ⟨r.val / 1024, by omega⟩ ⟨r.val % 1024, by omega⟩ C) := by
  pointwise [val_main_v126]

/-- The latent keys and values, the prompts' rows first. -/
theorem up_both (R : Fin 12288) (C : Fin 4096) : val_main_v128 (F := Ideal) x0 x1 x2 x3 x4 x5 x6 x7 x8 (ix2 R C)
    = kvAt x0 x1 x2 x3 x4 x5 x6 x7 x8 R C := by
  have e : val_main_v128 (F := Ideal) x0 x1 x2 x3 x4 x5 x6 x7 x8 (ix2 R C)
      = if h : R.val < 8192 then val_main_v125 (F := Ideal) x0 x2 x3 x4 x5 x6 x7 x8 (ix2 ⟨R.val, by omega⟩ C)
        else val_main_v126 (F := Ideal) x0 x1 x3 x4 x5 x6 x7 x8 (ix2 ⟨R.val - 8192, by omega⟩ C) := by
    pointwise [val_main_v128, val_main_v127]
  rw [e]
  by_cases h : R.val < 8192
  · rw [dif_pos h, up_prompt]
    exact kv_prompt x0 x1 x2 x3 x4 x5 x6 x7 x8 R ⟨R.val / 256, by omega⟩ ⟨R.val % 256, by omega⟩ (Nat.div_add_mod' R.val 256).symm _
  · rw [dif_neg h, up_latent]
    exact kv_latent x0 x1 x2 x3 x4 x5 x6 x7 x8 R ⟨(R.val - 8192) / 1024, by omega⟩ ⟨(R.val - 8192) % 1024, by omega⟩ (lat_row R.val h) _

end Cert.Proof.Odd.Ref

end
-- ==== Proof.Mix0Run.lean ====
/- The first layer's output projection, one grid point: what it stores in the scratch that holds the row block's two halves
   side by side, and what it stores in the result's block. -/
module

public import proofs.«01_k».proof.Proof.Gen.Kernel6Ideal.Frame
public import Idealize.ShloMosaic.Lib.StableHlo.ReadAt
public import Idealize.ShloMosaic.Lib.Pointwise

@[expose] public section

set_option maxRecDepth 16384

noncomputable section

namespace Cert.Proof.Mix0

open Idealize.ShloMosaic Idealize.ShloMosaic.TcCoe Idealize.ShloMosaic.Tactic Idealize.SL.Sem Cert.Kernel6Ideal Cert.Kernel6Ideal.Gen
open Idealize.ShloMosaic.Pointwise
open Idealize.ShloMosaic.Pipeline (Dat)

/-- Two blocks of 2048 columns side by side. -/
def mix (p q : Vec Ideal S512x2048 .bf16) : Vec Ideal S512x4096 .bf16 := fun i =>
  if h : (i 1).val < 2048 then p (ix2 (i 0) ⟨(i 1).val, h⟩)
  else q (ix2 (i 0) ⟨(i 1).val - 2048, by have : (i 1).val < 4096 := (i 1).isLt; omega⟩)

/-- What is stored in the scratch is the block that was read. -/
theorem pay1_eq (x : Vec Ideal S512x2048 .bf16) : k0_pay1 x = x := by
  funext j
  obtain ⟨r, k, rfl⟩ : ∃ (r : Fin 512) (k : Fin 2048), j = ix2 r k := ⟨j 0, j 1, ValueIdx.eq_ix2 j⟩
  pointwise [k0_pay1]

/-- What is stored in the scratch is the block that was read. -/
theorem pay2_eq (x : Vec Ideal S512x2048 .bf16) : k0_pay2 x = x := by
  funext j
  obtain ⟨r, k, rfl⟩ : ∃ (r : Fin 512) (k : Fin 2048), j = ix2 r k := ⟨j 0, j 1, ValueIdx.eq_ix2 j⟩
  pointwise [k0_pay2]

/-- What is stored in the scratch is the block that was read. -/
theorem pay3_eq (x : Vec Ideal S512x2048 .bf16) : k0_pay3 x = x := by
  funext j
  obtain ⟨r, k, rfl⟩ : ∃ (r : Fin 512) (k : Fin 2048), j = ix2 r k := ⟨j 0, j 1, ValueIdx.eq_ix2 j⟩
  pointwise [k0_pay3]

/-- What is stored in the scratch is the block that was read. -/
theorem pay4_eq (x : Vec Ideal S512x2048 .bf16) : k0_pay4 x = x := by
  funext j
  obtain ⟨r, k, rfl⟩ : ∃ (r : Fin 512) (k : Fin 2048), j = ix2 r k := ⟨j 0, j 1, ValueIdx.eq_ix2 j⟩
  pointwise [k0_pay4]

/-- The value a grid point stores in the result's block, element by element: the residual plus the gate times the product. -/
theorem pay6_apply (s : Vec Ideal S512x4096 .bf16) (w : Vec Ideal S4096x1024 .bf16) (x : Vec Ideal S512x1024 .f32)
    (g : Vec Ideal S1x1x1024 .f32) (r : Fin 512) (e : Fin 1024) :
    k0_pay6 s w x g (ix2 r e) = x (ix2 r e) + g (ix3 0 0 e) * ∑ k, s (ix2 r k) * w (ix2 k e) := by
  pointwise [k0_pay6, k0_pay5]

/-- The value a grid point stores in the result's block, element by element: the residual plus the gate times the product. -/
theorem pay7_apply (s : Vec Ideal S512x4096 .bf16) (w : Vec Ideal S4096x1024 .bf16) (x : Vec Ideal S512x1024 .f32)
    (g : Vec Ideal S1x1x1024 .f32) (r : Fin 512) (e : Fin 1024) :
    k0_pay7 s w x g (ix2 r e) = x (ix2 r e) + g (ix3 0 0 e) * ∑ k, s (ix2 r k) * w (ix2 k e) := by
  pointwise [k0_pay7, k0_pay5]

/-- The two stores into the scratch, the left half first. -/
abbrev halves (p q : Vec Ideal S512x2048 .bf16) : List (View.Piece (Elt Ideal) S512x4096 .bf16) :=
  [⟨Rect.unit (s := S512x4096) ![0, 2048] ![512, 2048] inb_S512x4096_S512x2048_0_2048, q⟩,
    ⟨Rect.unit (s := S512x4096) ![0, 0] ![512, 2048] inb_S512x4096_S512x2048_0_0, p⟩]

/-- The two stores leave the two halves side by side. -/
theorem canon_halves (p q : Vec Ideal S512x2048 .bf16) : View.canon (halves p q) = mix p q := by
  funext y
  refine View.canon_apply_of_pieces (Val := Elt Ideal) (e := .bf16) (mix p q) _ (fun b hb j => ?_) y
    (View.cover_of_tiled (Val := Elt Ideal) (e := .bf16) (halves p q) ![512, 2048] (by rfl) y)
  simp only [halves, List.mem_cons, List.not_mem_nil, or_false] at hb
  rcases hb with rfl | rfl
  · obtain ⟨r, k, rfl⟩ : ∃ (r : Fin 512) (k : Fin 2048), j = (ix2 r k : S512x2048.Idx) := ⟨j 0, j 1, ValueIdx.eq_ix2 j⟩
    have hk : ¬2048 + 1 * k.val < 2048 := by omega
    refine Eq.symm ((dif_neg hk).trans ?_)
    refine congrArg q ?_
    funext a
    match a with
    | ⟨0, _⟩ => exact Fin.ext (show 0 + 1 * r.val = r.val by omega)
    | ⟨1, _⟩ => exact Fin.ext (show 2048 + 1 * k.val - 2048 = k.val by omega)
  · obtain ⟨r, k, rfl⟩ : ∃ (r : Fin 512) (k : Fin 2048), j = (ix2 r k : S512x2048.Idx) := ⟨j 0, j 1, ValueIdx.eq_ix2 j⟩
    have hk : 0 + 1 * k.val < 2048 := by omega
    refine Eq.symm ((dif_pos hk).trans ?_)
    refine congrArg p ?_
    funext a
    match a with
    | ⟨0, _⟩ => exact Fin.ext (show 0 + 1 * r.val = r.val by omega)
    | ⟨1, _⟩ => exact Fin.ext (show 0 + 1 * k.val = k.val by omega)

/-- The offset zero on both axes. -/
theorem zero2 : (![0, 0] : Fin 2 → Nat) = fun _ => 0 := by
  funext a
  match a with
  | ⟨0, _⟩ => rfl
  | ⟨1, _⟩ => rfl

/-- The offset zero on three axes. -/
theorem zero3 : (![0, 0, 0] : Fin 3 → Nat) = fun _ => 0 := by
  funext a
  match a with
  | ⟨0, _⟩ => rfl
  | ⟨1, _⟩ => rfl
  | ⟨2, _⟩ => rfl

/-- A load of the whole scratch after the two stores reads the two halves side by side. -/
theorem readCov_halves {κ : Kind} {sp : Space} (v : View sig κ sp S512x4096 .bf16) (p q : Vec Ideal S512x2048 .bf16) :
    v.readCov (halves p q) (Rect.unit (s := S512x4096) ![0, 0] ![512, 4096] inb_S512x4096_S512x4096_0_0).toLoadRect = mix p q := by
  rw [View.readCov_eq_canon_ld v (halves p q) _ (View.cover_of_tiled (Val := Elt Ideal) (e := .bf16) (halves p q) ![512, 2048] (by rfl)), canon_halves]
  exact View.ld_unit_zero (S := S512x4096) zero2 inb_S512x4096_S512x4096_0_0 (mix p q)

/-- The first column block of a prompt row block: the scratch it leaves holds the two halves side by side. -/
theorem sout_A (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S4096x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S512x4096 .bf16) (harg10 : arg10.IsWhole) (hc0 : cond0_0 i) (hc1 : cond0_1 i) (hc2 : ¬cond0_2 i) (hc3 : cond0_3 i) (hc4 : ¬cond0_4 i)
    (x0 : Vec Ideal S512x2048 .bf16) (x1 : Vec Ideal S512x2048 .bf16) (x2 : Vec Ideal S512x2048 .bf16) (x3 : Vec Ideal S4096x1024 .bf16) (x4 : Vec Ideal S512x1024 .f32) (x5 : Vec Ideal S512x1024 .f32) (x6 : Vec Ideal S1x1x1024 .f32) :
    sout0_A_0 c i arg2 harg2 arg3 harg3 arg4 harg4 arg5 harg5 arg6 harg6 arg7 harg7 arg8 harg8 arg9 harg9 arg10 harg10 hc0 hc1 hc2 hc3 hc4 x0 x1 x2 x3 x4 x5 x6 = mix x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 hc2 hc3 hc4 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg10.read_unread]
  refine Eq.trans ?_ (canon_halves x0 x1)
  rw [pay1_eq, pay2_eq]
  show View.canon (halves (View.ld x0 (Rect.unit (s := S512x2048) ![0, 0] S512x2048.size inb_S512x2048_S512x2048_0_0))
      (View.ld x1 (Rect.unit (s := S512x2048) ![0, 0] S512x2048.size inb_S512x2048_S512x2048_0_0))) = View.canon (halves x0 x1)
  rw [View.ld_unit_zero (S := S512x2048) zero2 inb_S512x2048_S512x2048_0_0 x0, View.ld_unit_zero (S := S512x2048) zero2 inb_S512x2048_S512x2048_0_0 x1]

/-- The first column block of a prompt row block: what it leaves in the result's block. -/
theorem out_A (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S4096x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S512x4096 .bf16) (harg10 : arg10.IsWhole) (hc0 : cond0_0 i) (hc1 : cond0_1 i) (hc2 : ¬cond0_2 i) (hc3 : cond0_3 i) (hc4 : ¬cond0_4 i)
    (x0 : Vec Ideal S512x2048 .bf16) (x1 : Vec Ideal S512x2048 .bf16) (x2 : Vec Ideal S512x2048 .bf16) (x3 : Vec Ideal S4096x1024 .bf16) (x4 : Vec Ideal S512x1024 .f32) (x5 : Vec Ideal S512x1024 .f32) (x6 : Vec Ideal S1x1x1024 .f32) :
    out0_A_7 c i arg2 harg2 arg3 harg3 arg4 harg4 arg5 harg5 arg6 harg6 arg7 harg7 arg8 harg8 arg9 harg9 arg10 harg10 hc0 hc1 hc2 hc3 hc4 x0 x1 x2 x3 x4 x5 x6 = k0_pay6 (mix x0 x1) x3 x4 x6 := by
  unfold out0_A_7
  rw [View.read_writes_eq_canon _ _ _ (cover0_A_7 c i arg2 harg2 arg3 harg3 arg4 harg4 arg5 harg5 arg6 harg6 arg7 harg7 arg8 harg8 arg9 harg9 arg10 harg10 hc0 hc1 hc2 hc3 hc4 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg10.read_unread]
  have hs : arg10.view.readCov (halves (View.ld x0 (Rect.unit (s := S512x2048) ![0, 0] S512x2048.size inb_S512x2048_S512x2048_0_0))
      (View.ld x1 (Rect.unit (s := S512x2048) ![0, 0] S512x2048.size inb_S512x2048_S512x2048_0_0)))
      (Rect.unit (s := S512x4096) ![0, 0] ![512, 4096] inb_S512x4096_S512x4096_0_0).toLoadRect = mix x0 x1 := by
    rw [View.ld_unit_zero (S := S512x2048) zero2 inb_S512x2048_S512x2048_0_0 x0, View.ld_unit_zero (S := S512x2048) zero2 inb_S512x2048_S512x2048_0_0 x1]
    exact readCov_halves arg10.view x0 x1
  rw [pay1_eq, pay2_eq]
  refine (View.canon_unit_zero (S := S512x1024) zero2 inb_S512x1024_S512x1024_0_0 _).trans ?_
  exact congr (congr (congr (congrArg k0_pay6 hs) (View.ld_unit_zero (S := S4096x1024) zero2 inb_S4096x1024_S4096x1024_0_0 x3)) (View.ld_unit_zero (S := S512x1024) zero2 inb_S512x1024_S512x1024_0_0 x4)) (View.ld_unit_zero (S := S1x1x1024) zero3 inb_S1x1x1024_S1x1x1024_0_0_0 x6)

/-- The later column block of a prompt row block: what it leaves in the result's block. -/
theorem out_B (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S4096x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S512x4096 .bf16) (harg10 : arg10.IsWhole) (hc0 : ¬cond0_0 i) (hc3 : cond0_3 i) (hc4 : ¬cond0_4 i)
    (x0 : Vec Ideal S512x2048 .bf16) (x1 : Vec Ideal S512x2048 .bf16) (x2 : Vec Ideal S512x2048 .bf16) (x3 : Vec Ideal S4096x1024 .bf16) (x4 : Vec Ideal S512x1024 .f32) (x5 : Vec Ideal S512x1024 .f32) (x6 : Vec Ideal S1x1x1024 .f32) (xs0 : Vec Ideal S512x4096 .bf16) :
    out0_B_7 c i arg2 harg2 arg3 harg3 arg4 harg4 arg5 harg5 arg6 harg6 arg7 harg7 arg8 harg8 arg9 harg9 arg10 harg10 hc0 hc3 hc4 x0 x1 x2 x3 x4 x5 x6 xs0 = k0_pay6 (xs0) x3 x4 x6 := by
  unfold out0_B_7
  rw [View.read_writes_eq_canon _ _ _ (cover0_B_7 c i arg2 harg2 arg3 harg3 arg4 harg4 arg5 harg5 arg6 harg6 arg7 harg7 arg8 harg8 arg9 harg9 arg10 harg10 hc0 hc3 hc4 x0 x1 x2 x3 x4 x5 x6 xs0)]
  unfold kernelRun0_B
  dsimp only
  sl_unfold_words
  simp only [View.readAt_eq_ld, harg2.read_unread, harg3.read_unread, harg4.read_unread, harg5.read_unread, harg6.read_unread, harg7.read_unread, harg8.read_unread, harg10.read_unread]
  refine (View.canon_unit_zero (S := S512x1024) zero2 inb_S512x1024_S512x1024_0_0 _).trans ?_
  exact congr (congr (congr (congrArg k0_pay6 (View.ld_unit_zero (S := S512x4096) zero2 inb_S512x4096_S512x4096_0_0 xs0)) (View.ld_unit_zero (S := S4096x1024) zero2 inb_S4096x1024_S4096x1024_0_0 x3)) (View.ld_unit_zero (S := S512x1024) zero2 inb_S512x1024_S512x1024_0_0 x4)) (View.ld_unit_zero (S := S1x1x1024) zero3 inb_S1x1x1024_S1x1x1024_0_0_0 x6)

/-- The first column block of a latent row block: the scratch it leaves holds the two halves side by side. -/
theorem sout_C (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S4096x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S512x4096 .bf16) (harg10 : arg10.IsWhole) (hc0 : cond0_0 i) (hc1 : ¬cond0_1 i) (hc2 : cond0_2 i) (hc3 : ¬cond0_3 i) (hc4 : cond0_4 i)
    (x0 : Vec Ideal S512x2048 .bf16) (x1 : Vec Ideal S512x2048 .bf16) (x2 : Vec Ideal S512x2048 .bf16) (x3 : Vec Ideal S4096x1024 .bf16) (x4 : Vec Ideal S512x1024 .f32) (x5 : Vec Ideal S512x1024 .f32) (x6 : Vec Ideal S1x1x1024 .f32) :
    sout0_C_0 c i arg2 harg2 arg3 harg3 arg4 harg4 arg5 harg5 arg6 harg6 arg7 harg7 arg8 harg8 arg9 harg9 arg10 harg10 hc0 hc1 hc2 hc3 hc4 x0 x1 x2 x3 x4 x5 x6 = mix x0 x2 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 hc2 hc3 hc4 x0 x1 x2 x3 x4 x5 x6)]
  unfold kernelRun0_C
  dsimp only
  sl_unfold_words
  simp only [View.readAt_eq_ld, harg2.read_unread, harg3.read_unread, harg4.read_unread, harg5.read_unread, harg6.read_unread, harg7.read_unread, harg8.read_unread, harg10.read_unread]
  refine Eq.trans ?_ (canon_halves x0 x2)
  rw [pay3_eq, pay4_eq]
  show View.canon (halves (View.ld x0 (Rect.unit (s := S512x2048) ![0, 0] S512x2048.size inb_S512x2048_S512x2048_0_0))
      (View.ld x2 (Rect.unit (s := S512x2048) ![0, 0] S512x2048.size inb_S512x2048_S512x2048_0_0))) = View.canon (halves x0 x2)
  rw [View.ld_unit_zero (S := S512x2048) zero2 inb_S512x2048_S512x2048_0_0 x0, View.ld_unit_zero (S := S512x2048) zero2 inb_S512x2048_S512x2048_0_0 x2]

/-- The first column block of a latent row block: what it leaves in the result's block. -/
theorem out_C (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S4096x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S512x4096 .bf16) (harg10 : arg10.IsWhole) (hc0 : cond0_0 i) (hc1 : ¬cond0_1 i) (hc2 : cond0_2 i) (hc3 : ¬cond0_3 i) (hc4 : cond0_4 i)
    (x0 : Vec Ideal S512x2048 .bf16) (x1 : Vec Ideal S512x2048 .bf16) (x2 : Vec Ideal S512x2048 .bf16) (x3 : Vec Ideal S4096x1024 .bf16) (x4 : Vec Ideal S512x1024 .f32) (x5 : Vec Ideal S512x1024 .f32) (x6 : Vec Ideal S1x1x1024 .f32) :
    out0_C_7 c i arg2 harg2 arg3 harg3 arg4 harg4 arg5 harg5 arg6 harg6 arg7 harg7 arg8 harg8 arg9 harg9 arg10 harg10 hc0 hc1 hc2 hc3 hc4 x0 x1 x2 x3 x4 x5 x6 = k0_pay7 (mix x0 x2) x3 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 hc2 hc3 hc4 x0 x1 x2 x3 x4 x5 x6)]
  unfold kernelRun0_C
  dsimp only
  sl_unfold_words
  simp only [View.readAt_eq_ld, harg2.read_unread, harg3.read_unread, harg4.read_unread, harg5.read_unread, harg6.read_unread, harg7.read_unread, harg8.read_unread, harg10.read_unread]
  have hs : arg10.view.readCov (halves (View.ld x0 (Rect.unit (s := S512x2048) ![0, 0] S512x2048.size inb_S512x2048_S512x2048_0_0))
      (View.ld x2 (Rect.unit (s := S512x2048) ![0, 0] S512x2048.size inb_S512x2048_S512x2048_0_0)))
      (Rect.unit (s := S512x4096) ![0, 0] ![512, 4096] inb_S512x4096_S512x4096_0_0).toLoadRect = mix x0 x2 := by
    rw [View.ld_unit_zero (S := S512x2048) zero2 inb_S512x2048_S512x2048_0_0 x0, View.ld_unit_zero (S := S512x2048) zero2 inb_S512x2048_S512x2048_0_0 x2]
    exact readCov_halves arg10.view x0 x2
  rw [pay3_eq, pay4_eq]
  refine (View.canon_unit_zero (S := S512x1024) zero2 inb_S512x1024_S512x1024_0_0 _).trans ?_
  exact congr (congr (congr (congrArg k0_pay7 hs) (View.ld_unit_zero (S := S4096x1024) zero2 inb_S4096x1024_S4096x1024_0_0 x3)) (View.ld_unit_zero (S := S512x1024) zero2 inb_S512x1024_S512x1024_0_0 x5)) (View.ld_unit_zero (S := S1x1x1024) zero3 inb_S1x1x1024_S1x1x1024_0_0_0 x6)

/-- The later column block of a latent row block: what it leaves in the result's block. -/
theorem out_D (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S4096x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S512x4096 .bf16) (harg10 : arg10.IsWhole) (hc0 : ¬cond0_0 i) (hc3 : ¬cond0_3 i) (hc4 : cond0_4 i)
    (x0 : Vec Ideal S512x2048 .bf16) (x1 : Vec Ideal S512x2048 .bf16) (x2 : Vec Ideal S512x2048 .bf16) (x3 : Vec Ideal S4096x1024 .bf16) (x4 : Vec Ideal S512x1024 .f32) (x5 : Vec Ideal S512x1024 .f32) (x6 : Vec Ideal S1x1x1024 .f32) (xs0 : Vec Ideal S512x4096 .bf16) :
    out0_D_7 c i arg2 harg2 arg3 harg3 arg4 harg4 arg5 harg5 arg6 harg6 arg7 harg7 arg8 harg8 arg9 harg9 arg10 harg10 hc0 hc3 hc4 x0 x1 x2 x3 x4 x5 x6 xs0 = k0_pay7 (xs0) x3 x5 x6 := by
  unfold out0_D_7
  rw [View.read_writes_eq_canon _ _ _ (cover0_D_7 c i arg2 harg2 arg3 harg3 arg4 harg4 arg5 harg5 arg6 harg6 arg7 harg7 arg8 harg8 arg9 harg9 arg10 harg10 hc0 hc3 hc4 x0 x1 x2 x3 x4 x5 x6 xs0)]
  unfold kernelRun0_D
  dsimp only
  sl_unfold_words
  simp only [View.readAt_eq_ld, harg2.read_unread, harg3.read_unread, harg4.read_unread, harg5.read_unread, harg6.read_unread, harg7.read_unread, harg8.read_unread, harg10.read_unread]
  refine (View.canon_unit_zero (S := S512x1024) zero2 inb_S512x1024_S512x1024_0_0 _).trans ?_
  exact congr (congr (congr (congrArg k0_pay7 (View.ld_unit_zero (S := S512x4096) zero2 inb_S512x4096_S512x4096_0_0 xs0)) (View.ld_unit_zero (S := S4096x1024) zero2 inb_S4096x1024_S4096x1024_0_0 x3)) (View.ld_unit_zero (S := S512x1024) zero2 inb_S512x1024_S512x1024_0_0 x5)) (View.ld_unit_zero (S := S1x1x1024) zero3 inb_S1x1x1024_S1x1x1024_0_0_0 x6)

end Cert.Proof.Mix0

end
-- ==== Proof.Mix0.lean ====
/- The first layer's output projection: the scratch at every grid point and the array the blocks fill, index by index. -/
module

public import proofs.«01_k».proof.Proof.Mix0Run
public import Idealize.ShloMosaic.Lib.StableHlo.ReadAt
public import Idealize.ShloMosaic.Lib.Pointwise

@[expose] public section

set_option maxRecDepth 16384

noncomputable section

namespace Cert.Proof.Mix0

open Idealize.ShloMosaic Idealize.ShloMosaic.TcCoe Idealize.ShloMosaic.Tactic Idealize.SL.Sem Cert.Kernel6Ideal Cert.Kernel6Ideal.Gen
open Idealize.ShloMosaic.Pointwise
open Idealize.ShloMosaic.Pipeline (Dat)

/-- Row `R` of the two halves side by side: the left half has one array for all rows, the right half one for the 8192
    prompt rows and one for the latent rows. -/
def staged (A0 : Vec Ideal S12288x2048 .bf16) (A1 : Vec Ideal S8192x2048 .bf16) (A2 : Vec Ideal S4096x2048 .bf16)
    (R : Fin 12288) (k : Fin 4096) : EReal :=
  if hk : k.val < 2048 then A0 (ix2 R ⟨k.val, hk⟩)
  else if h : R.val < 8192 then A1 (ix2 ⟨R.val, h⟩ ⟨k.val - 2048, by omega⟩)
  else A2 (ix2 ⟨R.val - 8192, by omega⟩ ⟨k.val - 2048, by omega⟩)

/-- The residual's row `R`: the prompt rows come first, then the latent rows. -/
def resid (A4 : Vec Ideal S8192x4096 .f32) (A5 : Vec Ideal S4096x4096 .f32) (R : Fin 12288) (e : Fin 4096) : EReal :=
  if h : R.val < 8192 then A4 (ix2 ⟨R.val, h⟩ e) else A5 (ix2 ⟨R.val - 8192, by omega⟩ e)

/-- Which row of the modulation gates a row of the result: row 0 for the 8192 prompt rows, then one for each of the four
    latent sequences of 1024 rows. -/
def gateRow (R : Fin 12288) : Fin 8 := ⟨if R.val < 8192 then 0 else 1 + (R.val - 8192) / 1024, by split <;> omega⟩

/-- The element at row `R`, column `e`: the residual plus the gate times the product. -/
def mixOut (A0 : Vec Ideal S12288x2048 .bf16) (A1 : Vec Ideal S8192x2048 .bf16) (A2 : Vec Ideal S4096x2048 .bf16) (A3 : Vec Ideal S4096x4096 .f32) (A4 : Vec Ideal S8192x4096 .f32) (A5 : Vec Ideal S4096x4096 .f32) (A6 : Vec Ideal S8x1x24576 .f32)
    (R : Fin 12288) (e : Fin 4096) : EReal :=
  resid A4 A5 R e + A6 (ix3 (gateRow R) 0 ⟨8192 + e.val, by omega⟩) * ∑ k, staged A0 A1 A2 R k * A3 (ix2 k e)

variable (m : (ℓ : Loc nD τ sig) → Buf (Elt Ideal) ℓ)

/-- The result array as one function of the arguments. -/
def result (c : Dev nD) : Buf (Elt Ideal) ((c : Thread nD τ).loc main_v1) := fun i : S12288x4096.Idx =>
  mixOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1)

/-- The grid has 96 points. -/
theorem lt_N (t : Fin cfg0.N) : t.val < 96 := t.isLt

/-- The row of the result that row `r` of point `t`'s block is. -/
def rowOf (t : Fin cfg0.N) (r : Fin 512) : Fin 12288 := ⟨t.val / 4 * 512 + r.val, by have := lt_N t; omega⟩

/-- The column of the result that column `e` of point `t`'s block is. -/
def colOf (t : Fin cfg0.N) (e : Fin 1024) : Fin 4096 := ⟨t.val % 4 * 1024 + e.val, by omega⟩

/-- Where each window's block lies at point `t`: block row `t / 4`, block column `t % 4`. -/
theorem idx_facts : ∀ t : Fin cfg0.N,
    (win0_0.index t 0 = t.val / 4 ∧ win0_0.index t 1 = 0)
    ∧ ((t.val < 64 → win0_1.index t 0 = t.val / 4) ∧ win0_1.index t 1 = 0)
    ∧ ((64 ≤ t.val → win0_2.index t 0 = t.val / 4 - 16) ∧ win0_2.index t 1 = 0)
    ∧ (win0_3.index t 0 = 0 ∧ win0_3.index t 1 = t.val % 4)
    ∧ ((t.val < 64 → win0_4.index t 0 = t.val / 4) ∧ win0_4.index t 1 = t.val % 4)
    ∧ ((64 ≤ t.val → win0_5.index t 0 = t.val / 4 - 16) ∧ win0_5.index t 1 = t.val % 4)
    ∧ (win0_6.index t 0 = (if t.val / 4 < 16 then 0 else 1 + (t.val / 4 - 16) / 2) ∧ win0_6.index t 1 = 0 ∧ win0_6.index t 2 = 8 + t.val % 4)
    ∧ (win0_7.index t 0 = t.val / 4 ∧ win0_7.index t 1 = t.val % 4) := by
  decide +kernel

/-- The left half's block at point `t`. -/
theorem read0 (c : Dev nD) (t : Fin cfg0.N) (r : Fin 512) (k : Fin 2048) : iblk m c 0 t (ix2 r k)
    = m ((c : Thread nD τ).loc main_arg0) (ix2 (rowOf t r) k) := by
  obtain ⟨⟨h0, h1⟩, -⟩ := idx_facts t
  unfold iblk
  rw [View.read_apply]
  show V m c main_arg0 _ = _
  rw [V_main_arg0]
  congr 1
  funext a
  apply Fin.ext
  match a with
  | ⟨0, _⟩ => show win0_0.index t 0 * 512 + 1 * r.val = t.val / 4 * 512 + r.val; rw [h0]; omega
  | ⟨1, _⟩ => show win0_0.index t 1 * 2048 + 1 * k.val = k.val; rw [h1]; omega

/-- The right half's block at a point of the prompt rows. -/
theorem read1 (c : Dev nD) (t : Fin cfg0.N) (ht : t.val < 64) (r : Fin 512) (k : Fin 2048) : iblk m c 1 t (ix2 r k)
    = m ((c : Thread nD τ).loc main_arg1) (ix2 ⟨t.val / 4 * 512 + r.val, by omega⟩ k) := by
  obtain ⟨-, ⟨h0, h1⟩, -⟩ := idx_facts t
  unfold iblk
  rw [View.read_apply]
  show V m c main_arg1 _ = _
  rw [V_main_arg1]
  congr 1
  funext a
  apply Fin.ext
  match a with
  | ⟨0, _⟩ => show win0_1.index t 0 * 512 + 1 * r.val = t.val / 4 * 512 + r.val; rw [h0 ht]; omega
  | ⟨1, _⟩ => show win0_1.index t 1 * 2048 + 1 * k.val = k.val; rw [h1]; omega

/-- The right half's block at a point of the latent rows. -/
theorem read2 (c : Dev nD) (t : Fin cfg0.N) (ht : 64 ≤ t.val) (r : Fin 512) (k : Fin 2048) : iblk m c 2 t (ix2 r k)
    = m ((c : Thread nD τ).loc main_arg2) (ix2 ⟨t.val / 4 * 512 + r.val - 8192, by have := lt_N t; omega⟩ k) := by
  obtain ⟨-, -, ⟨h0, h1⟩, -⟩ := idx_facts t
  unfold iblk
  rw [View.read_apply]
  show V m c main_arg2 _ = _
  rw [V_main_arg2]
  congr 1
  funext a
  apply Fin.ext
  match a with
  | ⟨0, _⟩ => show win0_2.index t 0 * 512 + 1 * r.val = t.val / 4 * 512 + r.val - 8192; rw [h0 ht]; omega
  | ⟨1, _⟩ => show win0_2.index t 1 * 2048 + 1 * k.val = k.val; rw [h1]; omega

/-- The weights' block at point `t`. -/
theorem read3 (c : Dev nD) (t : Fin cfg0.N) (i : Fin 4096) (k : Fin 1024) : iblk m c 3 t (ix2 i k)
    = m ((c : Thread nD τ).loc main_arg3) (ix2 i (colOf t k)) := by
  obtain ⟨-, -, -, ⟨h0, h1⟩, -⟩ := idx_facts t
  have hw : ∀ (i : Fin 4096) (j : Fin 4096), V m c main_v0 (ix2 i j) = m ((c : Thread nD τ).loc main_arg3) (ix2 i j) := fun i j => by
    unfold V
    after_reads_at
  rw [← hw]
  unfold iblk
  rw [View.read_apply]
  show V m c main_v0 _ = _
  congr 1
  funext a
  apply Fin.ext
  match a with
  | ⟨0, _⟩ => show win0_3.index t 0 * 4096 + 1 * i.val = i.val; rw [h0]; omega
  | ⟨1, _⟩ => show win0_3.index t 1 * 1024 + 1 * k.val = t.val % 4 * 1024 + k.val; rw [h1]; omega

/-- The residual's block at a point of the prompt rows. -/
theorem read4 (c : Dev nD) (t : Fin cfg0.N) (ht : t.val < 64) (r : Fin 512) (k : Fin 1024) : iblk m c 4 t (ix2 r k)
    = m ((c : Thread nD τ).loc main_arg4) (ix2 ⟨t.val / 4 * 512 + r.val, by omega⟩ (colOf t k)) := by
  obtain ⟨-, -, -, -, ⟨h0, h1⟩, -⟩ := idx_facts t
  unfold iblk
  rw [View.read_apply]
  show V m c main_arg4 _ = _
  rw [V_main_arg4]
  congr 1
  funext a
  apply Fin.ext
  match a with
  | ⟨0, _⟩ => show win0_4.index t 0 * 512 + 1 * r.val = t.val / 4 * 512 + r.val; rw [h0 ht]; omega
  | ⟨1, _⟩ => show win0_4.index t 1 * 1024 + 1 * k.val = t.val % 4 * 1024 + k.val; rw [h1]; omega

/-- The residual's block at a point of the latent rows. -/
theorem read5 (c : Dev nD) (t : Fin cfg0.N) (ht : 64 ≤ t.val) (r : Fin 512) (k : Fin 1024) : iblk m c 5 t (ix2 r k)
    = m ((c : Thread nD τ).loc main_arg5) (ix2 ⟨t.val / 4 * 512 + r.val - 8192, by have := lt_N t; omega⟩ (colOf t k)) := by
  obtain ⟨-, -, -, -, -, ⟨h0, h1⟩, -⟩ := idx_facts t
  unfold iblk
  rw [View.read_apply]
  show V m c main_arg5 _ = _
  rw [V_main_arg5]
  congr 1
  funext a
  apply Fin.ext
  match a with
  | ⟨0, _⟩ => show win0_5.index t 0 * 512 + 1 * r.val = t.val / 4 * 512 + r.val - 8192; rw [h0 ht]; omega
  | ⟨1, _⟩ => show win0_5.index t 1 * 1024 + 1 * k.val = t.val % 4 * 1024 + k.val; rw [h1]; omega

/-- The gate's block at point `t`: a block of 512 rows lies in one sequence, so one modulation row gates all of it. -/
theorem read6 (c : Dev nD) (t : Fin cfg0.N) (r : Fin 512) (e : Fin 1024) : iblk m c 6 t (ix3 0 0 e)
    = m ((c : Thread nD τ).loc main_arg6) (ix3 (gateRow (rowOf t r)) 0 ⟨8192 + (colOf t e).val, by omega⟩) := by
  obtain ⟨-, -, -, -, -, -, ⟨h0, h1, h2⟩, -⟩ := idx_facts t
  unfold iblk
  rw [View.read_apply]
  show V m c main_arg6 _ = _
  rw [V_main_arg6]
  congr 1
  funext a
  apply Fin.ext
  match a with
  | ⟨0, _⟩ =>
    show win0_6.index t 0 * 1 + 1 * 0 = if t.val / 4 * 512 + r.val < 8192 then 0 else 1 + (t.val / 4 * 512 + r.val - 8192) / 1024
    rw [h0]
    by_cases h : t.val / 4 < 16
    · rw [if_pos h, if_pos (by omega)]
    · rw [if_neg h, if_neg (by omega)]; omega
  | ⟨1, _⟩ => show win0_6.index t 1 * 1 + 1 * 0 = 0; rw [h1]
  | ⟨2, _⟩ => show win0_6.index t 2 * 1024 + 1 * e.val = 8192 + (t.val % 4 * 1024 + e.val); rw [h2]; omega

/-- The two halves staged at a point of the prompt rows. -/
theorem mix_prompt (c : Dev nD) (t : Fin cfg0.N) (ht : t.val < 64) (r : Fin 512) (k : Fin 4096) :
    mix (iblk m c 0 t) (iblk m c 1 t) (ix2 r k) = staged (m ((c : Thread nD τ).loc main_arg0)) (m ((c : Thread nD τ).loc main_arg1)) (m ((c : Thread nD τ).loc main_arg2)) (rowOf t r) k := by
  have hR : (rowOf t r).val < 8192 := by show t.val / 4 * 512 + r.val < 8192; omega
  unfold staged
  by_cases hk : k.val < 2048
  · rw [dif_pos hk]
    exact (dif_pos hk).trans (read0 m c t r ⟨k.val, hk⟩)
  · rw [dif_neg hk, dif_pos hR]
    exact (dif_neg hk).trans (read1 m c t ht r ⟨k.val - 2048, by omega⟩)

/-- The two halves staged at a point of the latent rows. -/
theorem mix_latent (c : Dev nD) (t : Fin cfg0.N) (ht : 64 ≤ t.val) (r : Fin 512) (k : Fin 4096) :
    mix (iblk m c 0 t) (iblk m c 2 t) (ix2 r k) = staged (m ((c : Thread nD τ).loc main_arg0)) (m ((c : Thread nD τ).loc main_arg1)) (m ((c : Thread nD τ).loc main_arg2)) (rowOf t r) k := by
  have hR : ¬(rowOf t r).val < 8192 := by show ¬t.val / 4 * 512 + r.val < 8192; omega
  unfold staged
  by_cases hk : k.val < 2048
  · rw [dif_pos hk]
    exact (dif_pos hk).trans (read0 m c t r ⟨k.val, hk⟩)
  · rw [dif_neg hk, dif_neg hR]
    exact (dif_neg hk).trans (read2 m c t ht r ⟨k.val - 2048, by omega⟩)

/-- At the first column block of the prompt rows: the scratch and the result's block. -/
theorem fill_prompt (c : Dev nD) (t : Fin cfg0.N) (h0 : t.val % 4 = 0) (h1 : t.val < 64) :
    (outsAt0 m c t.val t.isLt).2 = mix (iblk m c 0 t) (iblk m c 1 t)
    ∧ (outsAt0 m c t.val t.isLt).1 = k0_pay6 (mix (iblk m c 0 t) (iblk m c 1 t)) (iblk m c 3 t) (iblk m c 4 t) (iblk m c 6 t) := by
  rw [outsAt0_A m c t h0 h1 (by omega) h1 (by omega)]
  dsimp only
  exact ⟨sout_A _ _ _ _ _ _ _ _ _ _ _ _ _ _ _ _ _ _ _ _ _ _ _ _ _ _ _ _ _ _ _ _, out_A _ _ _ _ _ _ _ _ _ _ _ _ _ _ _ _ _ _ _ _ _ _ _ _ _ _ _ _ _ _ _ _⟩

/-- At the first column block of the latent rows: the scratch and the result's block. -/
theorem fill_latent (c : Dev nD) (t : Fin cfg0.N) (h0 : t.val % 4 = 0) (h1 : ¬t.val < 64) :
    (outsAt0 m c t.val t.isLt).2 = mix (iblk m c 0 t) (iblk m c 2 t)
    ∧ (outsAt0 m c t.val t.isLt).1 = k0_pay7 (mix (iblk m c 0 t) (iblk m c 2 t)) (iblk m c 3 t) (iblk m c 5 t) (iblk m c 6 t) := by
  rw [outsAt0_C m c t h0 h1 (by omega) h1 (by omega)]
  dsimp only
  exact ⟨sout_C _ _ _ _ _ _ _ _ _ _ _ _ _ _ _ _ _ _ _ _ _ _ _ _ _ _ _ _ _ _ _ _, out_C _ _ _ _ _ _ _ _ _ _ _ _ _ _ _ _ _ _ _ _ _ _ _ _ _ _ _ _ _ _ _ _⟩

/-- At a later column block of the prompt rows: the scratch and the result's block, from the scratch the point before left. -/
theorem keep_prompt (c : Dev nD) (t : Fin cfg0.N) (h0 : ¬t.val % 4 = 0) (h1 : t.val < 64) :
    (outsAt0 m c t.val t.isLt).2 = (outsAt0 m c (t.val - 1) (Nat.lt_of_le_of_lt (Nat.sub_le _ _) t.isLt)).2
    ∧ (outsAt0 m c t.val t.isLt).1 = k0_pay6 (outsAt0 m c (t.val - 1) (Nat.lt_of_le_of_lt (Nat.sub_le _ _) t.isLt)).2 (iblk m c 3 t) (iblk m c 4 t) (iblk m c 6 t) := by
  rw [outsAt0_B m c t h0 h1 (by omega)]
  dsimp only
  unfold sout0_B_0
  exact ⟨rfl, out_B _ _ _ _ _ _ _ _ _ _ _ _ _ _ _ _ _ _ _ _ _ _ _ _ _ _ _ _ _ _ _⟩

/-- At a later column block of the latent rows: the scratch and the result's block, from the scratch the point before left. -/
theorem keep_latent (c : Dev nD) (t : Fin cfg0.N) (h0 : ¬t.val % 4 = 0) (h1 : ¬t.val < 64) :
    (outsAt0 m c t.val t.isLt).2 = (outsAt0 m c (t.val - 1) (Nat.lt_of_le_of_lt (Nat.sub_le _ _) t.isLt)).2
    ∧ (outsAt0 m c t.val t.isLt).1 = k0_pay7 (outsAt0 m c (t.val - 1) (Nat.lt_of_le_of_lt (Nat.sub_le _ _) t.isLt)).2 (iblk m c 3 t) (iblk m c 5 t) (iblk m c 6 t) := by
  rw [outsAt0_D m c t h0 h1 (by omega)]
  dsimp only
  unfold sout0_D_0
  exact ⟨rfl, out_D _ _ _ _ _ _ _ _ _ _ _ _ _ _ _ _ _ _ _ _ _ _ _ _ _ _ _ _ _ _ _⟩

/-- At the first column block the scratch is filled with the row block's two halves. -/
theorem scratch_fill (c : Dev nD) (t : Fin cfg0.N) (h0 : t.val % 4 = 0) (r : Fin 512) (k : Fin 4096) :
    (outsAt0 m c t.val t.isLt).2 (ix2 r k) = staged (m ((c : Thread nD τ).loc main_arg0)) (m ((c : Thread nD τ).loc main_arg1)) (m ((c : Thread nD τ).loc main_arg2)) (rowOf t r) k := by
  by_cases h1 : t.val < 64
  · rw [(fill_prompt m c t h0 h1).1]
    exact mix_prompt m c t h1 r k
  · rw [(fill_latent m c t h0 h1).1]
    exact mix_latent m c t (by omega) r k

/-- At a later column block the scratch stays as the point before left it. -/
theorem scratch_keep (c : Dev nD) (t : Fin cfg0.N) (h0 : ¬t.val % 4 = 0) :
    (outsAt0 m c t.val t.isLt).2 = (outsAt0 m c (t.val - 1) (Nat.lt_of_le_of_lt (Nat.sub_le _ _) t.isLt)).2 := by
  by_cases h1 : t.val < 64
  · exact (keep_prompt m c t h0 h1).1
  · exact (keep_latent m c t h0 h1).1

/-- At every point the scratch holds its row block's two halves: by induction over the points, the later column blocks
    of a row block keeping what the first one stored. -/
theorem scratch_eq (c : Dev nD) : ∀ (n : ℕ) (hn : n < cfg0.N) (r : Fin 512) (k : Fin 4096),
    (outsAt0 m c n hn).2 (ix2 r k) = staged (m ((c : Thread nD τ).loc main_arg0)) (m ((c : Thread nD τ).loc main_arg1)) (m ((c : Thread nD τ).loc main_arg2)) (rowOf ⟨n, hn⟩ r) k
  | 0, hn, r, k => scratch_fill m c ⟨0, hn⟩ rfl r k
  | n + 1, hn, r, k => by
    by_cases h0 : (n + 1) % 4 = 0
    · exact scratch_fill m c ⟨n + 1, hn⟩ h0 r k
    · refine (congrFun (scratch_keep m c ⟨n + 1, hn⟩ h0) (ix2 r k)).trans ((scratch_eq c n (Nat.lt_of_succ_lt hn) r k).trans ?_)
      refine congrArg (fun R => staged (m ((c : Thread nD τ).loc main_arg0)) (m ((c : Thread nD τ).loc main_arg1)) (m ((c : Thread nD τ).loc main_arg2)) R k) ?_
      exact Fin.ext (show n / 4 * 512 + r.val = (n + 1) / 4 * 512 + r.val by omega)

/-- The block that a point of the prompt rows leaves, from the scratch it leaves. -/
theorem out_prompt (c : Dev nD) (t : Fin cfg0.N) (h1 : t.val < 64) : (outsAt0 m c t.val t.isLt).1
    = k0_pay6 (outsAt0 m c t.val t.isLt).2 (iblk m c 3 t) (iblk m c 4 t) (iblk m c 6 t) := by
  by_cases h0 : t.val % 4 = 0
  · rw [(fill_prompt m c t h0 h1).1, (fill_prompt m c t h0 h1).2]
  · rw [(keep_prompt m c t h0 h1).1, (keep_prompt m c t h0 h1).2]

/-- The block that a point of the latent rows leaves, from the scratch it leaves. -/
theorem out_latent (c : Dev nD) (t : Fin cfg0.N) (h1 : ¬t.val < 64) : (outsAt0 m c t.val t.isLt).1
    = k0_pay7 (outsAt0 m c t.val t.isLt).2 (iblk m c 3 t) (iblk m c 5 t) (iblk m c 6 t) := by
  by_cases h0 : t.val % 4 = 0
  · rw [(fill_latent m c t h0 h1).1, (fill_latent m c t h0 h1).2]
  · rw [(keep_latent m c t h0 h1).1, (keep_latent m c t h0 h1).2]

/-- The block that point `t` leaves, element by element. -/
theorem block_eq (c : Dev nD) (t : Fin cfg0.N) (r : Fin 512) (e : Fin 1024) :
    (outsAt0 m c t.val t.isLt).1 (ix2 r e) = mixOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (rowOf t r) (colOf t e) := by
  unfold mixOut resid
  by_cases ht : t.val < 64
  · have hR : (rowOf t r).val < 8192 := by show t.val / 4 * 512 + r.val < 8192; omega
    rw [out_prompt m c t ht, pay6_apply, dif_pos hR]
    simp only [scratch_eq, read3, read4 m c t ht, read6 m c t r e]
    rfl
  · have hR : ¬(rowOf t r).val < 8192 := by show ¬t.val / 4 * 512 + r.val < 8192; omega
    rw [out_latent m c t ht, pay7_apply, dif_neg hR]
    simp only [scratch_eq, read3, read5 m c t (Nat.le_of_not_lt ht), read6 m c t r e]
    rfl

/-- What point `t` writes back is its block of `result`. -/
theorem flushed_eq (c : Dev nD) (t : Fin cfg0.N) :
    (dats m 0 c).flushed 7 t = ((cfg0.win 7).blk t).view.read (Elt Ideal) (result m c) := by
  obtain ⟨-, -, -, -, -, -, -, h0, h1⟩ := idx_facts t
  have hf : (dats m 0 c).flushed 7 t = (cfg0.win 7).cut (grid0.coords t) ((outsAt0 m c t.val t.isLt).1) := by
    show (cfg0.win 7).cut (grid0.coords t) ((dats m 0 c).after 7 t) = _
    rw [after0_7]
  rw [hf]
  funext j
  rw [View.read_apply]
  obtain ⟨r, e, rfl⟩ : ∃ (r : Fin 512) (e : Fin 1024), j = (ix2 r e : S512x1024.Idx) := ⟨j 0, j 1, ValueIdx.eq_ix2 j⟩
  refine (block_eq m c t r e).trans ?_
  show _ = result m c _
  unfold result
  refine congr (congrArg (mixOut _ _ _ _ _ _ _) ?_) ?_
  · exact Fin.ext (show t.val / 4 * 512 + r.val = win0_7.index t 0 * 512 + 1 * r.val by rw [h0]; omega)
  · exact Fin.ext (show t.val % 4 * 1024 + e.val = win0_7.index t 1 * 1024 + 1 * e.val by rw [h1]; omega)

/-- The point whose block holds index `i`. -/
theorem covered (i : S12288x4096.Idx) : ∃ t : Fin cfg0.N, (cfg0.win 7).flush t = true ∧ i ∈ ((cfg0.win 7).blk t).view.set := by
  have b0 : (i 0 : Nat) < 12288 := (i 0).isLt
  have b1 : (i 1 : Nat) < 4096 := (i 1).isLt
  let t : Fin cfg0.N := ⟨(i 0 : Nat) / 512 * 4 + (i 1 : Nat) / 1024, by show _ < 96; omega⟩
  have ht : t.val = (i 0 : Nat) / 512 * 4 + (i 1 : Nat) / 1024 := rfl
  obtain ⟨-, -, -, -, -, -, -, h0, h1⟩ := idx_facts t
  refine ⟨t, flush0_7 t, ?_⟩
  show i ∈ ((View.whole main_v1).slice (win0_7.rect t)).set
  rw [View.set_slice_whole, Rect.mem_set_unit]
  intro a
  match a with
  | ⟨0, _⟩ => show win0_7.index t 0 * 512 ≤ (i 0 : Nat) ∧ (i 0 : Nat) < win0_7.index t 0 * 512 + 512; rw [h0]; omega
  | ⟨1, _⟩ => show win0_7.index t 1 * 1024 ≤ (i 1 : Nat) ∧ (i 1 : Nat) < win0_7.index t 1 * 1024 + 1024; rw [h1]; omega

/-- The result array ends holding `result`. -/
theorem final_eq (c : Dev nD) : (dats m 0 c).arrAt 7 cfg0.N = result m c :=
  (dats m 0 c).arrAt_eq_of_cover 7 (result m c) (fun t _ => flushed_eq m c t) covered

/-- The program runs, ends with its result array holding `result`, and keeps its arguments. -/
theorem run_all (ρ : Dev nD → PrngReg) : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (final_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.Proof.Mix0

end
-- ==== Proof.Mix0Ref.lean ====
/- The first layer's output projection: the reference's result, index by index. -/
module

public import proofs.«01_k».proof.Proof.Mix0
public import proofs.«01_k».proof.Proof.Gen.Reference6Ideal.Read
public import Idealize.ShloMosaic.Lib.StableHlo.ReadAt
public import Idealize.ShloMosaic.Lib.Pointwise

@[expose] public section

set_option maxRecDepth 200000

noncomputable section

namespace Cert.Proof.Mix0

open Idealize.ShloMosaic Idealize.ShloMosaic.TcCoe Idealize.ShloMosaic.Tactic Idealize.SL.Sem Cert.Kernel6Ideal Cert.Kernel6Ideal.Gen
open Idealize.ShloMosaic.Pointwise
open Idealize.ShloMosaic.Pipeline (Dat)

open Cert.Reference6Ideal.Read in
/-- The reference's result, element by element. -/
theorem ref_eq (A0 : Vec Ideal S12288x2048 .bf16) (A1 : Vec Ideal S8192x2048 .bf16) (A2 : Vec Ideal S4096x2048 .bf16) (A3 : Vec Ideal S4096x4096 .f32) (A4 : Vec Ideal S8192x4096 .f32) (A5 : Vec Ideal S4096x4096 .f32) (A6 : Vec Ideal S8x1x24576 .f32)
    (r : Fin 12288) (c : Fin 4096) : val_main_v35 (F := Ideal) A0 A1 A2 A3 A4 A5 A6 (ix2 r c) = mixOut A0 A1 A2 A3 A4 A5 A6 r c := by
  unfold mixOut gateRow staged resid
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  by_cases h : r.val < 8192
  · simp only [dif_pos h, if_pos h, Nat.div_add_mod']
    rfl
  · simp only [dif_neg h, if_neg h, Nat.div_add_mod', Nat.add_sub_cancel' (Nat.le_of_not_lt h)]

end Cert.Proof.Mix0

end
-- ==== Proof.Mix1Run.lean ====
/- The second layer's output projection, one grid point: what it stores in the scratch that holds the row block's two halves
   side by side, and what it stores in the result's block. -/
module

public import proofs.«01_k».proof.Proof.Gen.Kernel7Ideal.Frame
public import Idealize.ShloMosaic.Lib.StableHlo.ReadAt
public import Idealize.ShloMosaic.Lib.Pointwise

@[expose] public section

set_option maxRecDepth 16384

noncomputable section

namespace Cert.Proof.Mix1

open Idealize.ShloMosaic Idealize.ShloMosaic.TcCoe Idealize.ShloMosaic.Tactic Idealize.SL.Sem Cert.Kernel7Ideal Cert.Kernel7Ideal.Gen
open Idealize.ShloMosaic.Pointwise
open Idealize.ShloMosaic.Pipeline (Dat)

/-- Two blocks of 2048 columns side by side. -/
def mix (p q : Vec Ideal S512x2048 .bf16) : Vec Ideal S512x4096 .bf16 := fun i =>
  if h : (i 1).val < 2048 then p (ix2 (i 0) ⟨(i 1).val, h⟩)
  else q (ix2 (i 0) ⟨(i 1).val - 2048, by have : (i 1).val < 4096 := (i 1).isLt; omega⟩)

/-- What is stored in the scratch is the block that was read. -/
theorem pay1_eq (x : Vec Ideal S512x2048 .bf16) : k0_pay1 x = x := by
  funext j
  obtain ⟨r, k, rfl⟩ : ∃ (r : Fin 512) (k : Fin 2048), j = ix2 r k := ⟨j 0, j 1, ValueIdx.eq_ix2 j⟩
  pointwise [k0_pay1]

/-- What is stored in the scratch is the block that was read. -/
theorem pay2_eq (x : Vec Ideal S512x2048 .bf16) : k0_pay2 x = x := by
  funext j
  obtain ⟨r, k, rfl⟩ : ∃ (r : Fin 512) (k : Fin 2048), j = ix2 r k := ⟨j 0, j 1, ValueIdx.eq_ix2 j⟩
  pointwise [k0_pay2]

/-- What is stored in the scratch is the block that was read. -/
theorem pay3_eq (x : Vec Ideal S512x2048 .bf16) : k0_pay3 x = x := by
  funext j
  obtain ⟨r, k, rfl⟩ : ∃ (r : Fin 512) (k : Fin 2048), j = ix2 r k := ⟨j 0, j 1, ValueIdx.eq_ix2 j⟩
  pointwise [k0_pay3]

/-- What is stored in the scratch is the block that was read. -/
theorem pay4_eq (x : Vec Ideal S512x2048 .bf16) : k0_pay4 x = x := by
  funext j
  obtain ⟨r, k, rfl⟩ : ∃ (r : Fin 512) (k : Fin 2048), j = ix2 r k := ⟨j 0, j 1, ValueIdx.eq_ix2 j⟩
  pointwise [k0_pay4]

/-- The value a grid point stores in the result's block, element by element: the residual plus the gate times the product. -/
theorem pay5_apply (s : Vec Ideal S512x4096 .bf16) (w : Vec Ideal S4096x1024 .bf16) (x : Vec Ideal S512x1024 .f32)
    (g : Vec Ideal S1x1x1024 .f32) (r : Fin 512) (e : Fin 1024) :
    k0_pay5 s w x g (ix2 r e) = x (ix2 r e) + g (ix3 0 0 e) * ∑ k, s (ix2 r k) * w (ix2 k e) := by
  pointwise [k0_pay5]

/-- The two stores into the scratch, the left half first. -/
abbrev halves (p q : Vec Ideal S512x2048 .bf16) : List (View.Piece (Elt Ideal) S512x4096 .bf16) :=
  [⟨Rect.unit (s := S512x4096) ![0, 2048] ![512, 2048] inb_S512x4096_S512x2048_0_2048, q⟩,
    ⟨Rect.unit (s := S512x4096) ![0, 0] ![512, 2048] inb_S512x4096_S512x2048_0_0, p⟩]

/-- The two stores leave the two halves side by side. -/
theorem canon_halves (p q : Vec Ideal S512x2048 .bf16) : View.canon (halves p q) = mix p q := by
  funext y
  refine View.canon_apply_of_pieces (Val := Elt Ideal) (e := .bf16) (mix p q) _ (fun b hb j => ?_) y
    (View.cover_of_tiled (Val := Elt Ideal) (e := .bf16) (halves p q) ![512, 2048] (by rfl) y)
  simp only [halves, List.mem_cons, List.not_mem_nil, or_false] at hb
  rcases hb with rfl | rfl
  · obtain ⟨r, k, rfl⟩ : ∃ (r : Fin 512) (k : Fin 2048), j = (ix2 r k : S512x2048.Idx) := ⟨j 0, j 1, ValueIdx.eq_ix2 j⟩
    have hk : ¬2048 + 1 * k.val < 2048 := by omega
    refine Eq.symm ((dif_neg hk).trans ?_)
    refine congrArg q ?_
    funext a
    match a with
    | ⟨0, _⟩ => exact Fin.ext (show 0 + 1 * r.val = r.val by omega)
    | ⟨1, _⟩ => exact Fin.ext (show 2048 + 1 * k.val - 2048 = k.val by omega)
  · obtain ⟨r, k, rfl⟩ : ∃ (r : Fin 512) (k : Fin 2048), j = (ix2 r k : S512x2048.Idx) := ⟨j 0, j 1, ValueIdx.eq_ix2 j⟩
    have hk : 0 + 1 * k.val < 2048 := by omega
    refine Eq.symm ((dif_pos hk).trans ?_)
    refine congrArg p ?_
    funext a
    match a with
    | ⟨0, _⟩ => exact Fin.ext (show 0 + 1 * r.val = r.val by omega)
    | ⟨1, _⟩ => exact Fin.ext (show 0 + 1 * k.val = k.val by omega)

/-- The offset zero on both axes. -/
theorem zero2 : (![0, 0] : Fin 2 → Nat) = fun _ => 0 := by
  funext a
  match a with
  | ⟨0, _⟩ => rfl
  | ⟨1, _⟩ => rfl

/-- The offset zero on three axes. -/
theorem zero3 : (![0, 0, 0] : Fin 3 → Nat) = fun _ => 0 := by
  funext a
  match a with
  | ⟨0, _⟩ => rfl
  | ⟨1, _⟩ => rfl
  | ⟨2, _⟩ => rfl

/-- A load of the whole scratch after the two stores reads the two halves side by side. -/
theorem readCov_halves {κ : Kind} {sp : Space} (v : View sig κ sp S512x4096 .bf16) (p q : Vec Ideal S512x2048 .bf16) :
    v.readCov (halves p q) (Rect.unit (s := S512x4096) ![0, 0] ![512, 4096] inb_S512x4096_S512x4096_0_0).toLoadRect = mix p q := by
  rw [View.readCov_eq_canon_ld v (halves p q) _ (View.cover_of_tiled (Val := Elt Ideal) (e := .bf16) (halves p q) ![512, 2048] (by rfl)), canon_halves]
  exact View.ld_unit_zero (S := S512x4096) zero2 inb_S512x4096_S512x4096_0_0 (mix p q)

/-- The first column block of a prompt row block: the scratch it leaves holds the two halves side by side. -/
theorem sout_A (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S512x4096 .bf16) (harg10 : arg10.IsWhole) (hc0 : cond0_0 i) (hc1 : cond0_1 i) (hc2 : ¬cond0_2 i)
    (x0 : Vec Ideal S512x2048 .bf16) (x1 : Vec Ideal S512x2048 .bf16) (x2 : Vec Ideal S512x2048 .bf16) (x3 : Vec Ideal S512x2048 .bf16) (x4 : Vec Ideal S4096x1024 .bf16) (x5 : Vec Ideal S512x1024 .f32) (x6 : Vec Ideal S1x1x1024 .f32) :
    sout0_A_0 c i arg2 harg2 arg3 harg3 arg4 harg4 arg5 harg5 arg6 harg6 arg7 harg7 arg8 harg8 arg9 harg9 arg10 harg10 hc0 hc1 hc2 x0 x1 x2 x3 x4 x5 x6 = mix x0 x2 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 hc2 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg10.read_unread]
  refine Eq.trans ?_ (canon_halves x0 x2)
  rw [pay1_eq, pay2_eq]
  show View.canon (halves (View.ld x0 (Rect.unit (s := S512x2048) ![0, 0] S512x2048.size inb_S512x2048_S512x2048_0_0))
      (View.ld x2 (Rect.unit (s := S512x2048) ![0, 0] S512x2048.size inb_S512x2048_S512x2048_0_0))) = View.canon (halves x0 x2)
  rw [View.ld_unit_zero (S := S512x2048) zero2 inb_S512x2048_S512x2048_0_0 x0, View.ld_unit_zero (S := S512x2048) zero2 inb_S512x2048_S512x2048_0_0 x2]

/-- The first column block of a prompt row block: what it leaves in the result's block. -/
theorem out_A (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S512x4096 .bf16) (harg10 : arg10.IsWhole) (hc0 : cond0_0 i) (hc1 : cond0_1 i) (hc2 : ¬cond0_2 i)
    (x0 : Vec Ideal S512x2048 .bf16) (x1 : Vec Ideal S512x2048 .bf16) (x2 : Vec Ideal S512x2048 .bf16) (x3 : Vec Ideal S512x2048 .bf16) (x4 : Vec Ideal S4096x1024 .bf16) (x5 : Vec Ideal S512x1024 .f32) (x6 : Vec Ideal S1x1x1024 .f32) :
    out0_A_7 c i arg2 harg2 arg3 harg3 arg4 harg4 arg5 harg5 arg6 harg6 arg7 harg7 arg8 harg8 arg9 harg9 arg10 harg10 hc0 hc1 hc2 x0 x1 x2 x3 x4 x5 x6 = k0_pay5 (mix x0 x2) x4 x5 x6 := by
  unfold out0_A_7
  rw [View.read_writes_eq_canon _ _ _ (cover0_A_7 c i arg2 harg2 arg3 harg3 arg4 harg4 arg5 harg5 arg6 harg6 arg7 harg7 arg8 harg8 arg9 harg9 arg10 harg10 hc0 hc1 hc2 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg10.read_unread]
  have hs : arg10.view.readCov (halves (View.ld x0 (Rect.unit (s := S512x2048) ![0, 0] S512x2048.size inb_S512x2048_S512x2048_0_0))
      (View.ld x2 (Rect.unit (s := S512x2048) ![0, 0] S512x2048.size inb_S512x2048_S512x2048_0_0)))
      (Rect.unit (s := S512x4096) ![0, 0] ![512, 4096] inb_S512x4096_S512x4096_0_0).toLoadRect = mix x0 x2 := by
    rw [View.ld_unit_zero (S := S512x2048) zero2 inb_S512x2048_S512x2048_0_0 x0, View.ld_unit_zero (S := S512x2048) zero2 inb_S512x2048_S512x2048_0_0 x2]
    exact readCov_halves arg10.view x0 x2
  rw [pay1_eq, pay2_eq]
  refine (View.canon_unit_zero (S := S512x1024) zero2 inb_S512x1024_S512x1024_0_0 _).trans ?_
  exact congr (congr (congr (congrArg k0_pay5 hs) (View.ld_unit_zero (S := S4096x1024) zero2 inb_S4096x1024_S4096x1024_0_0 x4)) (View.ld_unit_zero (S := S512x1024) zero2 inb_S512x1024_S512x1024_0_0 x5)) (View.ld_unit_zero (S := S1x1x1024) zero3 inb_S1x1x1024_S1x1x1024_0_0_0 x6)

/-- The later column block: what it leaves in the result's block. -/
theorem out_B (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S512x4096 .bf16) (harg10 : arg10.IsWhole) (hc0 : ¬cond0_0 i)
    (x0 : Vec Ideal S512x2048 .bf16) (x1 : Vec Ideal S512x2048 .bf16) (x2 : Vec Ideal S512x2048 .bf16) (x3 : Vec Ideal S512x2048 .bf16) (x4 : Vec Ideal S4096x1024 .bf16) (x5 : Vec Ideal S512x1024 .f32) (x6 : Vec Ideal S1x1x1024 .f32) (xs0 : Vec Ideal S512x4096 .bf16) :
    out0_B_7 c i arg2 harg2 arg3 harg3 arg4 harg4 arg5 harg5 arg6 harg6 arg7 harg7 arg8 harg8 arg9 harg9 arg10 harg10 hc0 x0 x1 x2 x3 x4 x5 x6 xs0 = k0_pay5 (xs0) x4 x5 x6 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  simp only [View.readAt_eq_ld, harg2.read_unread, harg3.read_unread, harg4.read_unread, harg5.read_unread, harg6.read_unread, harg7.read_unread, harg8.read_unread, harg10.read_unread]
  refine (View.canon_unit_zero (S := S512x1024) zero2 inb_S512x1024_S512x1024_0_0 _).trans ?_
  exact congr (congr (congr (congrArg k0_pay5 (View.ld_unit_zero (S := S512x4096) zero2 inb_S512x4096_S512x4096_0_0 xs0)) (View.ld_unit_zero (S := S4096x1024) zero2 inb_S4096x1024_S4096x1024_0_0 x4)) (View.ld_unit_zero (S := S512x1024) zero2 inb_S512x1024_S512x1024_0_0 x5)) (View.ld_unit_zero (S := S1x1x1024) zero3 inb_S1x1x1024_S1x1x1024_0_0_0 x6)

/-- The first column block of a latent row block: the scratch it leaves holds the two halves side by side. -/
theorem sout_C (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S512x4096 .bf16) (harg10 : arg10.IsWhole) (hc0 : cond0_0 i) (hc1 : ¬cond0_1 i) (hc2 : cond0_2 i)
    (x0 : Vec Ideal S512x2048 .bf16) (x1 : Vec Ideal S512x2048 .bf16) (x2 : Vec Ideal S512x2048 .bf16) (x3 : Vec Ideal S512x2048 .bf16) (x4 : Vec Ideal S4096x1024 .bf16) (x5 : Vec Ideal S512x1024 .f32) (x6 : Vec Ideal S1x1x1024 .f32) :
    sout0_C_0 c i arg2 harg2 arg3 harg3 arg4 harg4 arg5 harg5 arg6 harg6 arg7 harg7 arg8 harg8 arg9 harg9 arg10 harg10 hc0 hc1 hc2 x0 x1 x2 x3 x4 x5 x6 = mix x1 x3 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 hc2 x0 x1 x2 x3 x4 x5 x6)]
  unfold kernelRun0_C
  dsimp only
  sl_unfold_words
  simp only [View.readAt_eq_ld, harg2.read_unread, harg3.read_unread, harg4.read_unread, harg5.read_unread, harg6.read_unread, harg7.read_unread, harg8.read_unread, harg10.read_unread]
  refine Eq.trans ?_ (canon_halves x1 x3)
  rw [pay3_eq, pay4_eq]
  show View.canon (halves (View.ld x1 (Rect.unit (s := S512x2048) ![0, 0] S512x2048.size inb_S512x2048_S512x2048_0_0))
      (View.ld x3 (Rect.unit (s := S512x2048) ![0, 0] S512x2048.size inb_S512x2048_S512x2048_0_0))) = View.canon (halves x1 x3)
  rw [View.ld_unit_zero (S := S512x2048) zero2 inb_S512x2048_S512x2048_0_0 x1, View.ld_unit_zero (S := S512x2048) zero2 inb_S512x2048_S512x2048_0_0 x3]

/-- The first column block of a latent row block: what it leaves in the result's block. -/
theorem out_C (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S512x4096 .bf16) (harg10 : arg10.IsWhole) (hc0 : cond0_0 i) (hc1 : ¬cond0_1 i) (hc2 : cond0_2 i)
    (x0 : Vec Ideal S512x2048 .bf16) (x1 : Vec Ideal S512x2048 .bf16) (x2 : Vec Ideal S512x2048 .bf16) (x3 : Vec Ideal S512x2048 .bf16) (x4 : Vec Ideal S4096x1024 .bf16) (x5 : Vec Ideal S512x1024 .f32) (x6 : Vec Ideal S1x1x1024 .f32) :
    out0_C_7 c i arg2 harg2 arg3 harg3 arg4 harg4 arg5 harg5 arg6 harg6 arg7 harg7 arg8 harg8 arg9 harg9 arg10 harg10 hc0 hc1 hc2 x0 x1 x2 x3 x4 x5 x6 = k0_pay5 (mix x1 x3) x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 hc2 x0 x1 x2 x3 x4 x5 x6)]
  unfold kernelRun0_C
  dsimp only
  sl_unfold_words
  simp only [View.readAt_eq_ld, harg2.read_unread, harg3.read_unread, harg4.read_unread, harg5.read_unread, harg6.read_unread, harg7.read_unread, harg8.read_unread, harg10.read_unread]
  have hs : arg10.view.readCov (halves (View.ld x1 (Rect.unit (s := S512x2048) ![0, 0] S512x2048.size inb_S512x2048_S512x2048_0_0))
      (View.ld x3 (Rect.unit (s := S512x2048) ![0, 0] S512x2048.size inb_S512x2048_S512x2048_0_0)))
      (Rect.unit (s := S512x4096) ![0, 0] ![512, 4096] inb_S512x4096_S512x4096_0_0).toLoadRect = mix x1 x3 := by
    rw [View.ld_unit_zero (S := S512x2048) zero2 inb_S512x2048_S512x2048_0_0 x1, View.ld_unit_zero (S := S512x2048) zero2 inb_S512x2048_S512x2048_0_0 x3]
    exact readCov_halves arg10.view x1 x3
  rw [pay3_eq, pay4_eq]
  refine (View.canon_unit_zero (S := S512x1024) zero2 inb_S512x1024_S512x1024_0_0 _).trans ?_
  exact congr (congr (congr (congrArg k0_pay5 hs) (View.ld_unit_zero (S := S4096x1024) zero2 inb_S4096x1024_S4096x1024_0_0 x4)) (View.ld_unit_zero (S := S512x1024) zero2 inb_S512x1024_S512x1024_0_0 x5)) (View.ld_unit_zero (S := S1x1x1024) zero3 inb_S1x1x1024_S1x1x1024_0_0_0 x6)

end Cert.Proof.Mix1

end
-- ==== Proof.Mix1.lean ====
/- The second layer's output projection: the scratch at every grid point and the array the blocks fill, index by index. -/
module

public import proofs.«01_k».proof.Proof.Mix1Run
public import proofs.«01_k».proof.Proof.Gen.Kernel7Ideal.Value
public import Idealize.ShloMosaic.Lib.StableHlo.ReadAt
public import Idealize.ShloMosaic.Lib.Pointwise

@[expose] public section

set_option maxRecDepth 16384

noncomputable section

namespace Cert.Proof.Mix1

open Idealize.ShloMosaic Idealize.ShloMosaic.TcCoe Idealize.ShloMosaic.Tactic Idealize.SL.Sem Cert.Kernel7Ideal Cert.Kernel7Ideal.Gen
open Idealize.ShloMosaic.Pointwise
open Idealize.ShloMosaic.Pipeline (Dat)

/-- Row `R` of the two halves side by side: the 8192 prompt rows are one array's, the latent rows two arrays'. -/
def staged (A0 : Vec Ideal S8192x4096 .bf16) (A1 : Vec Ideal S4096x2048 .bf16) (A2 : Vec Ideal S4096x2048 .bf16)
    (R : Fin 12288) (k : Fin 4096) : EReal :=
  if h : R.val < 8192 then A0 (ix2 ⟨R.val, h⟩ k)
  else if hk : k.val < 2048 then A1 (ix2 ⟨R.val - 8192, by omega⟩ ⟨k.val, hk⟩)
  else A2 (ix2 ⟨R.val - 8192, by omega⟩ ⟨k.val - 2048, by omega⟩)

/-- Which row of the modulation gates a row of the result: row 0 for the 8192 prompt rows, then one for each of the four
    latent sequences of 1024 rows. -/
def gateRow (R : Fin 12288) : Fin 8 := ⟨if R.val < 8192 then 0 else 1 + (R.val - 8192) / 1024, by split <;> omega⟩

/-- The element at row `R`, column `e`: the residual plus the gate times the product. -/
def mixOut (A0 : Vec Ideal S8192x4096 .bf16) (A1 : Vec Ideal S4096x2048 .bf16) (A2 : Vec Ideal S4096x2048 .bf16) (A3 : Vec Ideal S4096x4096 .f32) (A4 : Vec Ideal S12288x4096 .f32) (A5 : Vec Ideal S8x1x24576 .f32)
    (R : Fin 12288) (e : Fin 4096) : EReal :=
  A4 (ix2 R e) + A5 (ix3 (gateRow R) 0 ⟨8192 + e.val, by omega⟩) * ∑ k, staged A0 A1 A2 R k * A3 (ix2 k e)

variable (m : (ℓ : Loc nD τ sig) → Buf (Elt Ideal) ℓ)

/-- The result array as one function of the arguments. -/
def result (c : Dev nD) : Buf (Elt Ideal) ((c : Thread nD τ).loc main_v1) := fun i : S12288x4096.Idx =>
  mixOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1)

/-- The grid has 96 points. -/
theorem lt_N (t : Fin cfg0.N) : t.val < 96 := t.isLt

/-- The row of the result that row `r` of point `t`'s block is. -/
def rowOf (t : Fin cfg0.N) (r : Fin 512) : Fin 12288 := ⟨t.val / 4 * 512 + r.val, by have := lt_N t; omega⟩

/-- The column of the result that column `e` of point `t`'s block is. -/
def colOf (t : Fin cfg0.N) (e : Fin 1024) : Fin 4096 := ⟨t.val % 4 * 1024 + e.val, by omega⟩

/-- Where each window's block lies at point `t`: block row `t / 4`, block column `t % 4`. -/
theorem idx_facts : ∀ t : Fin cfg0.N,
    ((t.val < 64 → win0_0.index t 0 = t.val / 4) ∧ win0_0.index t 1 = 0)
    ∧ ((64 ≤ t.val → win0_1.index t 0 = t.val / 4 - 16) ∧ win0_1.index t 1 = 0)
    ∧ ((t.val < 64 → win0_2.index t 0 = t.val / 4) ∧ win0_2.index t 1 = 1)
    ∧ ((64 ≤ t.val → win0_3.index t 0 = t.val / 4 - 16) ∧ win0_3.index t 1 = 0)
    ∧ (win0_4.index t 0 = 0 ∧ win0_4.index t 1 = t.val % 4)
    ∧ (win0_5.index t 0 = t.val / 4 ∧ win0_5.index t 1 = t.val % 4)
    ∧ (win0_6.index t 0 = (if t.val / 4 < 16 then 0 else 1 + (t.val / 4 - 16) / 2) ∧ win0_6.index t 1 = 0 ∧ win0_6.index t 2 = 8 + t.val % 4)
    ∧ (win0_7.index t 0 = t.val / 4 ∧ win0_7.index t 1 = t.val % 4) := by
  decide +kernel

/-- The left half's block at a point of the prompt rows. -/
theorem read0 (c : Dev nD) (t : Fin cfg0.N) (ht : t.val < 64) (r : Fin 512) (k : Fin 2048) : iblk m c 0 t (ix2 r k)
    = m ((c : Thread nD τ).loc main_arg0) (ix2 ⟨t.val / 4 * 512 + r.val, by omega⟩ ⟨k.val, by omega⟩) := by
  obtain ⟨⟨h0, h1⟩, -⟩ := idx_facts t
  unfold iblk
  rw [View.read_apply]
  show V m c main_arg0 _ = _
  rw [V_main_arg0]
  congr 1
  funext a
  apply Fin.ext
  match a with
  | ⟨0, _⟩ => show win0_0.index t 0 * 512 + 1 * r.val = t.val / 4 * 512 + r.val; rw [h0 ht]; omega
  | ⟨1, _⟩ => show win0_0.index t 1 * 2048 + 1 * k.val = k.val; rw [h1]; omega

/-- The left half's block at a point of the latent rows. -/
theorem read1 (c : Dev nD) (t : Fin cfg0.N) (ht : 64 ≤ t.val) (r : Fin 512) (k : Fin 2048) : iblk m c 1 t (ix2 r k)
    = m ((c : Thread nD τ).loc main_arg1) (ix2 ⟨t.val / 4 * 512 + r.val - 8192, by have := lt_N t; omega⟩ k) := by
  obtain ⟨-, ⟨h0, h1⟩, -⟩ := idx_facts t
  unfold iblk
  rw [View.read_apply]
  show V m c main_arg1 _ = _
  rw [V_main_arg1]
  congr 1
  funext a
  apply Fin.ext
  match a with
  | ⟨0, _⟩ => show win0_1.index t 0 * 512 + 1 * r.val = t.val / 4 * 512 + r.val - 8192; rw [h0 ht]; omega
  | ⟨1, _⟩ => show win0_1.index t 1 * 2048 + 1 * k.val = k.val; rw [h1]; omega

/-- The right half's block at a point of the prompt rows. -/
theorem read2 (c : Dev nD) (t : Fin cfg0.N) (ht : t.val < 64) (r : Fin 512) (k : Fin 2048) : iblk m c 2 t (ix2 r k)
    = m ((c : Thread nD τ).loc main_arg0) (ix2 ⟨t.val / 4 * 512 + r.val, by omega⟩ ⟨2048 + k.val, by omega⟩) := by
  obtain ⟨-, -, ⟨h0, h1⟩, -⟩ := idx_facts t
  unfold iblk
  rw [View.read_apply]
  show V m c main_arg0 _ = _
  rw [V_main_arg0]
  congr 1
  funext a
  apply Fin.ext
  match a with
  | ⟨0, _⟩ => show win0_2.index t 0 * 512 + 1 * r.val = t.val / 4 * 512 + r.val; rw [h0 ht]; omega
  | ⟨1, _⟩ => show win0_2.index t 1 * 2048 + 1 * k.val = 2048 + k.val; rw [h1]; omega

/-- The right half's block at a point of the latent rows. -/
theorem read3 (c : Dev nD) (t : Fin cfg0.N) (ht : 64 ≤ t.val) (r : Fin 512) (k : Fin 2048) : iblk m c 3 t (ix2 r k)
    = m ((c : Thread nD τ).loc main_arg2) (ix2 ⟨t.val / 4 * 512 + r.val - 8192, by have := lt_N t; omega⟩ k) := by
  obtain ⟨-, -, -, ⟨h0, h1⟩, -⟩ := idx_facts t
  unfold iblk
  rw [View.read_apply]
  show V m c main_arg2 _ = _
  rw [V_main_arg2]
  congr 1
  funext a
  apply Fin.ext
  match a with
  | ⟨0, _⟩ => show win0_3.index t 0 * 512 + 1 * r.val = t.val / 4 * 512 + r.val - 8192; rw [h0 ht]; omega
  | ⟨1, _⟩ => show win0_3.index t 1 * 2048 + 1 * k.val = k.val; rw [h1]; omega

/-- The weights' block at point `t`. -/
theorem read4 (c : Dev nD) (t : Fin cfg0.N) (i : Fin 4096) (k : Fin 1024) : iblk m c 4 t (ix2 i k)
    = m ((c : Thread nD τ).loc main_arg3) (ix2 i (colOf t k)) := by
  obtain ⟨-, -, -, -, ⟨h0, h1⟩, -⟩ := idx_facts t
  have hw : ∀ (i : Fin 4096) (j : Fin 4096), V m c main_v0 (ix2 i j) = m ((c : Thread nD τ).loc main_arg3) (ix2 i j) := fun i j => by
    unfold V
    after_reads_at
  rw [← hw]
  unfold iblk
  rw [View.read_apply]
  show V m c main_v0 _ = _
  congr 1
  funext a
  apply Fin.ext
  match a with
  | ⟨0, _⟩ => show win0_4.index t 0 * 4096 + 1 * i.val = i.val; rw [h0]; omega
  | ⟨1, _⟩ => show win0_4.index t 1 * 1024 + 1 * k.val = t.val % 4 * 1024 + k.val; rw [h1]; omega

/-- The residual's block at point `t`. -/
theorem read5 (c : Dev nD) (t : Fin cfg0.N) (r : Fin 512) (k : Fin 1024) : iblk m c 5 t (ix2 r k)
    = m ((c : Thread nD τ).loc main_arg4) (ix2 (rowOf t r) (colOf t k)) := by
  obtain ⟨-, -, -, -, -, ⟨h0, h1⟩, -⟩ := idx_facts t
  unfold iblk
  rw [View.read_apply]
  show V m c main_arg4 _ = _
  rw [V_main_arg4]
  congr 1
  funext a
  apply Fin.ext
  match a with
  | ⟨0, _⟩ => show win0_5.index t 0 * 512 + 1 * r.val = t.val / 4 * 512 + r.val; rw [h0]; omega
  | ⟨1, _⟩ => show win0_5.index t 1 * 1024 + 1 * k.val = t.val % 4 * 1024 + k.val; rw [h1]; omega

/-- The gate's block at point `t`: a block of 512 rows lies in one sequence, so one modulation row gates all of it. -/
theorem read6 (c : Dev nD) (t : Fin cfg0.N) (r : Fin 512) (e : Fin 1024) : iblk m c 6 t (ix3 0 0 e)
    = m ((c : Thread nD τ).loc main_arg5) (ix3 (gateRow (rowOf t r)) 0 ⟨8192 + (colOf t e).val, by omega⟩) := by
  obtain ⟨-, -, -, -, -, -, ⟨h0, h1, h2⟩, -⟩ := idx_facts t
  unfold iblk
  rw [View.read_apply]
  show V m c main_arg5 _ = _
  rw [V_main_arg5]
  congr 1
  funext a
  apply Fin.ext
  match a with
  | ⟨0, _⟩ =>
    show win0_6.index t 0 * 1 + 1 * 0 = if t.val / 4 * 512 + r.val < 8192 then 0 else 1 + (t.val / 4 * 512 + r.val - 8192) / 1024
    rw [h0]
    by_cases h : t.val / 4 < 16
    · rw [if_pos h, if_pos (by omega)]
    · rw [if_neg h, if_neg (by omega)]; omega
  | ⟨1, _⟩ => show win0_6.index t 1 * 1 + 1 * 0 = 0; rw [h1]
  | ⟨2, _⟩ => show win0_6.index t 2 * 1024 + 1 * e.val = 8192 + (t.val % 4 * 1024 + e.val); rw [h2]; omega

/-- The two halves staged at a point of the prompt rows. -/
theorem mix_prompt (c : Dev nD) (t : Fin cfg0.N) (ht : t.val < 64) (r : Fin 512) (k : Fin 4096) :
    mix (iblk m c 0 t) (iblk m c 2 t) (ix2 r k) = staged (m ((c : Thread nD τ).loc main_arg0)) (m ((c : Thread nD τ).loc main_arg1)) (m ((c : Thread nD τ).loc main_arg2)) (rowOf t r) k := by
  have hR : (rowOf t r).val < 8192 := by show t.val / 4 * 512 + r.val < 8192; omega
  unfold staged
  by_cases hk : k.val < 2048
  · rw [dif_pos hR]
    exact (dif_pos hk).trans (read0 m c t ht r ⟨k.val, hk⟩)
  · rw [dif_pos hR]
    refine (dif_neg hk).trans ((read2 m c t ht r ⟨k.val - 2048, by omega⟩).trans ?_)
    refine congrArg (fun e => m ((c : Thread nD τ).loc main_arg0) (ix2 _ e)) ?_
    exact Fin.ext (show 2048 + (k.val - 2048) = k.val by omega)

/-- The two halves staged at a point of the latent rows. -/
theorem mix_latent (c : Dev nD) (t : Fin cfg0.N) (ht : 64 ≤ t.val) (r : Fin 512) (k : Fin 4096) :
    mix (iblk m c 1 t) (iblk m c 3 t) (ix2 r k) = staged (m ((c : Thread nD τ).loc main_arg0)) (m ((c : Thread nD τ).loc main_arg1)) (m ((c : Thread nD τ).loc main_arg2)) (rowOf t r) k := by
  have hR : ¬(rowOf t r).val < 8192 := by show ¬t.val / 4 * 512 + r.val < 8192; omega
  unfold staged
  by_cases hk : k.val < 2048
  · rw [dif_neg hR, dif_pos hk]
    exact (dif_pos hk).trans (read1 m c t ht r ⟨k.val, hk⟩)
  · rw [dif_neg hR, dif_neg hk]
    exact (dif_neg hk).trans (read3 m c t ht r ⟨k.val - 2048, by omega⟩)

/-- At the first column block of the prompt rows: the scratch and the result's block. -/
theorem fill_prompt (c : Dev nD) (t : Fin cfg0.N) (h0 : t.val % 4 = 0) (h1 : t.val < 64) :
    (outsAt0 m c t.val t.isLt).2 = mix (iblk m c 0 t) (iblk m c 2 t)
    ∧ (outsAt0 m c t.val t.isLt).1 = k0_pay5 (mix (iblk m c 0 t) (iblk m c 2 t)) (iblk m c 4 t) (iblk m c 5 t) (iblk m c 6 t) := by
  rw [outsAt0_A m c t h0 h1 (by omega)]
  dsimp only
  exact ⟨sout_A _ _ _ _ _ _ _ _ _ _ _ _ _ _ _ _ _ _ _ _ _ _ _ _ _ _ _ _ _ _, out_A _ _ _ _ _ _ _ _ _ _ _ _ _ _ _ _ _ _ _ _ _ _ _ _ _ _ _ _ _ _⟩

/-- At the first column block of the latent rows: the scratch and the result's block. -/
theorem fill_latent (c : Dev nD) (t : Fin cfg0.N) (h0 : t.val % 4 = 0) (h1 : ¬t.val < 64) :
    (outsAt0 m c t.val t.isLt).2 = mix (iblk m c 1 t) (iblk m c 3 t)
    ∧ (outsAt0 m c t.val t.isLt).1 = k0_pay5 (mix (iblk m c 1 t) (iblk m c 3 t)) (iblk m c 4 t) (iblk m c 5 t) (iblk m c 6 t) := by
  rw [outsAt0_C m c t h0 h1 (by omega)]
  dsimp only
  exact ⟨sout_C _ _ _ _ _ _ _ _ _ _ _ _ _ _ _ _ _ _ _ _ _ _ _ _ _ _ _ _ _ _, out_C _ _ _ _ _ _ _ _ _ _ _ _ _ _ _ _ _ _ _ _ _ _ _ _ _ _ _ _ _ _⟩

/-- At a later column block: the scratch and the result's block, from the scratch the point before left. -/
theorem keep_all (c : Dev nD) (t : Fin cfg0.N) (h0 : ¬t.val % 4 = 0) :
    (outsAt0 m c t.val t.isLt).2 = (outsAt0 m c (t.val - 1) (Nat.lt_of_le_of_lt (Nat.sub_le _ _) t.isLt)).2
    ∧ (outsAt0 m c t.val t.isLt).1 = k0_pay5 (outsAt0 m c (t.val - 1) (Nat.lt_of_le_of_lt (Nat.sub_le _ _) t.isLt)).2 (iblk m c 4 t) (iblk m c 5 t) (iblk m c 6 t) := by
  rw [outsAt0_B m c t h0]
  dsimp only
  unfold sout0_B_0
  exact ⟨rfl, out_B _ _ _ _ _ _ _ _ _ _ _ _ _ _ _ _ _ _ _ _ _ _ _ _ _ _ _ _ _⟩

/-- At the first column block the scratch is filled with the row block's two halves. -/
theorem scratch_fill (c : Dev nD) (t : Fin cfg0.N) (h0 : t.val % 4 = 0) (r : Fin 512) (k : Fin 4096) :
    (outsAt0 m c t.val t.isLt).2 (ix2 r k) = staged (m ((c : Thread nD τ).loc main_arg0)) (m ((c : Thread nD τ).loc main_arg1)) (m ((c : Thread nD τ).loc main_arg2)) (rowOf t r) k := by
  by_cases h1 : t.val < 64
  · rw [(fill_prompt m c t h0 h1).1]
    exact mix_prompt m c t h1 r k
  · rw [(fill_latent m c t h0 h1).1]
    exact mix_latent m c t (by omega) r k

/-- At a later column block the scratch stays as the point before left it. -/
theorem scratch_keep (c : Dev nD) (t : Fin cfg0.N) (h0 : ¬t.val % 4 = 0) :
    (outsAt0 m c t.val t.isLt).2 = (outsAt0 m c (t.val - 1) (Nat.lt_of_le_of_lt (Nat.sub_le _ _) t.isLt)).2 := by
  exact (keep_all m c t h0).1

/-- At every point the scratch holds its row block's two halves: by induction over the points, the later column blocks
    of a row block keeping what the first one stored. -/
theorem scratch_eq (c : Dev nD) : ∀ (n : ℕ) (hn : n < cfg0.N) (r : Fin 512) (k : Fin 4096),
    (outsAt0 m c n hn).2 (ix2 r k) = staged (m ((c : Thread nD τ).loc main_arg0)) (m ((c : Thread nD τ).loc main_arg1)) (m ((c : Thread nD τ).loc main_arg2)) (rowOf ⟨n, hn⟩ r) k
  | 0, hn, r, k => scratch_fill m c ⟨0, hn⟩ rfl r k
  | n + 1, hn, r, k => by
    by_cases h0 : (n + 1) % 4 = 0
    · exact scratch_fill m c ⟨n + 1, hn⟩ h0 r k
    · refine (congrFun (scratch_keep m c ⟨n + 1, hn⟩ h0) (ix2 r k)).trans ((scratch_eq c n (Nat.lt_of_succ_lt hn) r k).trans ?_)
      refine congrArg (fun R => staged (m ((c : Thread nD τ).loc main_arg0)) (m ((c : Thread nD τ).loc main_arg1)) (m ((c : Thread nD τ).loc main_arg2)) R k) ?_
      exact Fin.ext (show n / 4 * 512 + r.val = (n + 1) / 4 * 512 + r.val by omega)

/-- The block that point `t` leaves, from the scratch it leaves. -/
theorem out_eq (c : Dev nD) (t : Fin cfg0.N) : (outsAt0 m c t.val t.isLt).1
    = k0_pay5 (outsAt0 m c t.val t.isLt).2 (iblk m c 4 t) (iblk m c 5 t) (iblk m c 6 t) := by
  by_cases h0 : t.val % 4 = 0
  · by_cases h1 : t.val < 64
    · rw [(fill_prompt m c t h0 h1).1, (fill_prompt m c t h0 h1).2]
    · rw [(fill_latent m c t h0 h1).1, (fill_latent m c t h0 h1).2]
  · rw [(keep_all m c t h0).1, (keep_all m c t h0).2]

/-- The block that point `t` leaves, element by element. -/
theorem block_eq (c : Dev nD) (t : Fin cfg0.N) (r : Fin 512) (e : Fin 1024) :
    (outsAt0 m c t.val t.isLt).1 (ix2 r e) = mixOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowOf t r) (colOf t e) := by
  rw [out_eq, pay5_apply]
  unfold mixOut
  simp only [scratch_eq, read4, read5, read6 m c t r e]

/-- What point `t` writes back is its block of `result`. -/
theorem flushed_eq (c : Dev nD) (t : Fin cfg0.N) :
    (dats m 0 c).flushed 7 t = ((cfg0.win 7).blk t).view.read (Elt Ideal) (result m c) := by
  obtain ⟨-, -, -, -, -, -, -, h0, h1⟩ := idx_facts t
  have hf : (dats m 0 c).flushed 7 t = (cfg0.win 7).cut (grid0.coords t) ((outsAt0 m c t.val t.isLt).1) := by
    show (cfg0.win 7).cut (grid0.coords t) ((dats m 0 c).after 7 t) = _
    rw [after0_7]
  rw [hf]
  funext j
  rw [View.read_apply]
  obtain ⟨r, e, rfl⟩ : ∃ (r : Fin 512) (e : Fin 1024), j = (ix2 r e : S512x1024.Idx) := ⟨j 0, j 1, ValueIdx.eq_ix2 j⟩
  refine (block_eq m c t r e).trans ?_
  show _ = result m c _
  unfold result
  refine congr (congrArg (mixOut _ _ _ _ _ _) ?_) ?_
  · exact Fin.ext (show t.val / 4 * 512 + r.val = win0_7.index t 0 * 512 + 1 * r.val by rw [h0]; omega)
  · exact Fin.ext (show t.val % 4 * 1024 + e.val = win0_7.index t 1 * 1024 + 1 * e.val by rw [h1]; omega)

/-- The point whose block holds index `i`. -/
theorem covered (i : S12288x4096.Idx) : ∃ t : Fin cfg0.N, (cfg0.win 7).flush t = true ∧ i ∈ ((cfg0.win 7).blk t).view.set := by
  have b0 : (i 0 : Nat) < 12288 := (i 0).isLt
  have b1 : (i 1 : Nat) < 4096 := (i 1).isLt
  let t : Fin cfg0.N := ⟨(i 0 : Nat) / 512 * 4 + (i 1 : Nat) / 1024, by show _ < 96; omega⟩
  have ht : t.val = (i 0 : Nat) / 512 * 4 + (i 1 : Nat) / 1024 := rfl
  obtain ⟨-, -, -, -, -, -, -, h0, h1⟩ := idx_facts t
  refine ⟨t, flush0_7 t, ?_⟩
  show i ∈ ((View.whole main_v1).slice (win0_7.rect t)).set
  rw [View.set_slice_whole, Rect.mem_set_unit]
  intro a
  match a with
  | ⟨0, _⟩ => show win0_7.index t 0 * 512 ≤ (i 0 : Nat) ∧ (i 0 : Nat) < win0_7.index t 0 * 512 + 512; rw [h0]; omega
  | ⟨1, _⟩ => show win0_7.index t 1 * 1024 ≤ (i 1 : Nat) ∧ (i 1 : Nat) < win0_7.index t 1 * 1024 + 1024; rw [h1]; omega

/-- The result array ends holding `result`. -/
theorem final_eq (c : Dev nD) : (dats m 0 c).arrAt 7 cfg0.N = result m c :=
  (dats m 0 c).arrAt_eq_of_cover 7 (result m c) (fun t _ => flushed_eq m c t) covered

end Cert.Proof.Mix1

end
-- ==== Proof.Mix1Ref.lean ====
/- The second layer's output projection: the reference's result, index by index. -/
module

public import proofs.«01_k».proof.Proof.Mix1
public import proofs.«01_k».proof.Proof.Gen.Reference7Ideal.Read
public import Idealize.ShloMosaic.Lib.StableHlo.ReadAt
public import Idealize.ShloMosaic.Lib.Pointwise

@[expose] public section

set_option maxRecDepth 200000

noncomputable section

namespace Cert.Proof.Mix1

open Idealize.ShloMosaic Idealize.ShloMosaic.TcCoe Idealize.ShloMosaic.Tactic Idealize.SL.Sem Cert.Kernel7Ideal Cert.Kernel7Ideal.Gen
open Idealize.ShloMosaic.Pointwise
open Idealize.ShloMosaic.Pipeline (Dat)

open Cert.Reference7Ideal.Read in
/-- The reference's result, element by element. -/
theorem ref_eq (A0 : Vec Ideal S8192x4096 .bf16) (A1 : Vec Ideal S4096x2048 .bf16) (A2 : Vec Ideal S4096x2048 .bf16) (A3 : Vec Ideal S4096x4096 .f32) (A4 : Vec Ideal S12288x4096 .f32) (A5 : Vec Ideal S8x1x24576 .f32)
    (r : Fin 12288) (c : Fin 4096) : val_main_v32 (F := Ideal) A0 A1 A2 A3 A4 A5 (ix2 r c) = mixOut A0 A1 A2 A3 A4 A5 r c := by
  by_cases h : r.val < 8192
  · have hs : ∀ k, staged A0 A1 A2 r k = A0 (ix2 ⟨r.val, h⟩ k) := fun k => dif_pos h
    unfold mixOut gateRow
    simp only [hs]
    pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
    simp only [dif_pos h, if_pos h, Nat.div_add_mod']
    rfl
  · unfold mixOut gateRow staged
    pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
    simp only [dif_neg h, if_neg h, Nat.div_add_mod', Nat.add_sub_cancel' (Nat.le_of_not_lt h)]

end Cert.Proof.Mix1

end
-- ==== Proof.EndP.lean ====
/- The final norm of the prompts: one grid point's block, the result array the blocks fill, and the reference's result, each
   index by index; the two arrays are equal on every argument. -/
module

public import proofs.«01_k».proof.Proof.Gen.Kernel8Ideal.Value
public import proofs.«01_k».proof.Proof.Gen.Reference8Ideal.Read
public import Idealize.ShloMosaic.Lib.StableHlo.ReadAt
public import Idealize.ShloMosaic.Lib.Pointwise

@[expose] public section

set_option maxRecDepth 16384

noncomputable section

namespace Cert.Proof.EndP

open Idealize.ShloMosaic Idealize.ShloMosaic.TcCoe Idealize.SL.Sem Cert.Kernel8Ideal Cert.Kernel8Ideal.Gen
open Idealize.ShloMosaic.Pointwise
open Idealize.ShloMosaic.Pipeline (Dat)

/-- One number of a normalised row times the gain: `a` the row, `k` the column, `g` the gain there. The two constants are
    the row's length and the small number under the root. -/
def rmsAt (a : Fin 4096 → EReal) (k : Fin 4096) (g : EReal) : EReal :=
  a k * Ideal.rsqrt (Ideal.div (∑ e, a e * a e) (Ideal.ofBits .f32 0x45800000#32) + Ideal.ofBits .f32 0x358637BD#32) * g

/-- The number at row `R` of the prompts, column `k`. -/
def valAt (X : Vec Ideal S12288x4096 .f32) (G : Vec Ideal S4096 .f32) (R : Fin 8192) (k : Fin 4096) : EReal :=
  rmsAt (fun e => X (ix2 ⟨0 + R.val, by omega⟩ e)) k (G (ix1 k))

/-- The value one grid point stores, element by element. -/
theorem pay_apply (x : Vec Ideal S256x4096 .f32) (g : Vec Ideal S1x4096 .f32) (r : Fin 256) (k : Fin 4096) :
    k0_pay1 x g (ix2 r k) = rmsAt (fun e => x (ix2 r e)) k (g (ix2 0 k)) := by
  unfold rmsAt
  pointwise [k0_pay1]

/-- The element at row `r`, column `k` of a block from the two blocks it is computed from. -/
def blockAt (x0 : Vec Ideal S256x4096 .f32) (x1 : Vec Ideal S1x4096 .f32) (r : Fin 256) (k : Fin 4096) : EReal :=
  rmsAt (fun e => x0 (ix2 r e)) k (x1 (ix2 0 k))

/-- The block one grid point writes, element by element. -/
theorem out_apply (x0 : Vec Ideal S256x4096 .f32) (x1 : Vec Ideal S1x4096 .f32) (r : Fin 256) (k : Fin 4096) :
    out0_2 x0 x1 (ix2 r k) = blockAt x0 x1 r k := by
  unfold out0_2
  refine View.canon_apply_of_pieces (Val := Elt Ideal) (e := .f32) (fun i : S256x4096.Idx => blockAt x0 x1 (i 0) (i 1)) _
    (fun p hp j => ?_) _ (cover0_2 _ _)
  simp only [List.mem_cons, List.not_mem_nil, or_false] at hp
  subst hp
  obtain ⟨r, k, rfl⟩ : ∃ (r : Fin 256) (k : Fin 4096), j = (ix2 r k : S256x4096.Idx) := ⟨j 0, j 1, ValueIdx.eq_ix2 j⟩
  have he : r0_0.emb (ix2 r k) = (ix2 r k : S256x4096.Idx) := by
    funext a
    match a with
    | ⟨0, _⟩ => exact Fin.ext (show 0 + 1 * r.val = r.val by omega)
    | ⟨1, _⟩ => exact Fin.ext (show 0 + 1 * k.val = k.val by omega)
  refine (pay_apply _ _ r k).trans ?_
  simp only [he]
  unfold blockAt
  pointwise []

variable (m : (ℓ : Loc nD τ sig) → Buf (Elt Ideal) ℓ)

/-- The result array as one function of the arguments. -/
def result (c : Dev nD) : Buf (Elt Ideal) ((c : Thread nD τ).loc main_v1) := fun i : S8192x4096.Idx =>
  valAt (m ((c : Thread nD τ).loc main_arg0)) (m ((c : Thread nD τ).loc main_arg1)) (i 0) (i 1)

/-- Where each window's block lies at point `t`: the rows' block is number `0 + t`, the result's number `t`. -/
theorem idx_facts : ∀ t : Fin cfg0.N,
    (win0_0.index t 0 = 0 + t.val ∧ win0_0.index t 1 = 0)
    ∧ (win0_1.index t 0 = 0 ∧ win0_1.index t 1 = 0)
    ∧ (win0_2.index t 0 = t.val ∧ win0_2.index t 1 = 0) := by
  decide +kernel

/-- The grid has 32 points. -/
theorem lt_N (t : Fin cfg0.N) : t.val < 32 := t.isLt

/-- The rows' block at point `t`. -/
theorem read0 (c : Dev nD) (t : Fin cfg0.N) (r : Fin 256) (k : Fin 4096) : iblk m c 0 t (ix2 r k)
    = m ((c : Thread nD τ).loc main_arg0) (ix2 ⟨0 + (t.val * 256 + r.val), by have := lt_N t; omega⟩ k) := by
  obtain ⟨⟨h0, h1⟩, -⟩ := idx_facts t
  unfold iblk
  rw [View.read_apply]
  show V m c main_arg0 _ = _
  rw [V_main_arg0]
  congr 1
  funext a
  apply Fin.ext
  match a with
  | ⟨0, _⟩ => show win0_0.index t 0 * 256 + 1 * r.val = 0 + (t.val * 256 + r.val); rw [h0]; omega
  | ⟨1, _⟩ => show win0_0.index t 1 * 4096 + 1 * k.val = k.val; rw [h1]; omega

/-- The gain's block is the whole row. -/
theorem read1 (c : Dev nD) (t : Fin cfg0.N) (k : Fin 4096) : iblk m c 1 t (ix2 0 k)
    = m ((c : Thread nD τ).loc main_arg1) (ix1 k) := by
  obtain ⟨-, ⟨h0, h1⟩, -⟩ := idx_facts t
  have hw : ∀ k : Fin 4096, V m c main_v0 (ix2 0 k) = m ((c : Thread nD τ).loc main_arg1) (ix1 k) := fun k => by
    unfold V
    after_reads_at
  rw [← hw]
  unfold iblk
  rw [View.read_apply]
  show V m c main_v0 _ = _
  congr 1
  funext a
  apply Fin.ext
  match a with
  | ⟨0, _⟩ => show win0_1.index t 0 * 1 + 1 * 0 = 0; rw [h0]
  | ⟨1, _⟩ => show win0_1.index t 1 * 4096 + 1 * k.val = k.val; rw [h1]; omega

/-- The block that point `t` computes, element by element. -/
theorem block_eq (c : Dev nD) (t : Fin cfg0.N) (r : Fin 256) (k : Fin 4096) :
    blockAt (iblk m c 0 t) (iblk m c 1 t) r k
      = valAt (m ((c : Thread nD τ).loc main_arg0)) (m ((c : Thread nD τ).loc main_arg1)) ⟨t.val * 256 + r.val, by have := lt_N t; omega⟩ k := by
  unfold blockAt valAt
  simp only [read0, read1]

/-- What point `t` writes back is its block of `result`. -/
theorem flushed_eq (c : Dev nD) (t : Fin cfg0.N) :
    (dats m 0 c).flushed 2 t = ((cfg0.win 2).blk t).view.read (Elt Ideal) (result m c) := by
  obtain ⟨-, -, h0, h1⟩ := idx_facts t
  have hN := lt_N t
  rw [Cert.Kernel8Ideal.Value.flushed2]
  funext j
  rw [View.read_apply]
  obtain ⟨r, k, rfl⟩ : ∃ (r : Fin 256) (k : Fin 4096), j = (ix2 r k : S256x4096.Idx) := ⟨j 0, j 1, ValueIdx.eq_ix2 j⟩
  refine (out_apply (iblk m c 0 t) (iblk m c 1 t) r k).trans ?_
  refine (block_eq m c t r k).trans ?_
  show _ = result m c _
  unfold result
  refine congr (congrArg (valAt _ _) ?_) ?_
  · exact Fin.ext (show t.val * 256 + r.val = win0_2.index t 0 * 256 + 1 * r.val by rw [h0]; omega)
  · exact Fin.ext (show k.val = win0_2.index t 1 * 4096 + 1 * k.val by rw [h1]; omega)

/-- The point whose block holds index `i`. -/
theorem covered (i : S8192x4096.Idx) : ∃ t : Fin cfg0.N, (cfg0.win 2).flush t = true ∧ i ∈ ((cfg0.win 2).blk t).view.set := by
  have b0 : (i 0 : Nat) < 8192 := (i 0).isLt
  have b1 : (i 1 : Nat) < 4096 := (i 1).isLt
  let t : Fin cfg0.N := ⟨(i 0 : Nat) / 256, by show _ < 32; omega⟩
  have ht : t.val = (i 0 : Nat) / 256 := rfl
  obtain ⟨-, -, h0, h1⟩ := idx_facts t
  refine ⟨t, flush0_2 t, ?_⟩
  show i ∈ ((View.whole main_v1).slice (win0_2.rect t)).set
  rw [View.set_slice_whole, Rect.mem_set_unit]
  intro a
  match a with
  | ⟨0, _⟩ => show win0_2.index t 0 * 256 ≤ (i 0 : Nat) ∧ (i 0 : Nat) < win0_2.index t 0 * 256 + 256; rw [h0]; omega
  | ⟨1, _⟩ => show win0_2.index t 1 * 4096 ≤ (i 1 : Nat) ∧ (i 1 : Nat) < win0_2.index t 1 * 4096 + 4096; rw [h1]; omega

/-- The result array ends holding `result`. -/
theorem final_eq (c : Dev nD) : (dats m 0 c).arrAt 2 cfg0.N = result m c :=
  (dats m 0 c).arrAt_eq_of_cover 2 (result m c) (fun t _ => flushed_eq m c t) covered

/-- The constant zero the reference's sums start from. -/
theorem zero_bits : Ideal.ofBits .f32 0x00000000#32 = 0 := by
  simp [Ideal.ofBits, Ideal.ieee]

set_option maxRecDepth 200000 in
open Cert.Reference8Ideal.Read in
/-- The reference's result, element by element. -/
theorem ref_eq (A0 : Vec Ideal S12288x4096 .f32) (A1 : Vec Ideal S4096 .f32) (r : Fin 8192) (c : Fin 4096) :
    val_main_v13 (F := Ideal) A0 A1 (ix2 r c) = valAt A0 A1 r c := by
  unfold valAt rmsAt
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  all_goals simp only [zero_bits, zero_add]

end Cert.Proof.EndP

end
-- ==== Proof.EndS.lean ====
/- The final norm of the latent sequences: one grid point's block, the result array the blocks fill, and the reference's result, each
   index by index; the two arrays are equal on every argument. -/
module

public import proofs.«01_k».proof.Proof.Gen.Kernel9Ideal.Value
public import proofs.«01_k».proof.Proof.Gen.Reference9Ideal.Read
public import Idealize.ShloMosaic.Lib.StableHlo.ReadAt
public import Idealize.ShloMosaic.Lib.Pointwise

@[expose] public section

set_option maxRecDepth 16384

noncomputable section

namespace Cert.Proof.EndS

open Idealize.ShloMosaic Idealize.ShloMosaic.TcCoe Idealize.SL.Sem Cert.Kernel9Ideal Cert.Kernel9Ideal.Gen
open Idealize.ShloMosaic.Pointwise
open Idealize.ShloMosaic.Pipeline (Dat)

/-- One number of a normalised row times the gain: `a` the row, `k` the column, `g` the gain there. The two constants are
    the row's length and the small number under the root. -/
def rmsAt (a : Fin 4096 → EReal) (k : Fin 4096) (g : EReal) : EReal :=
  a k * Ideal.rsqrt (Ideal.div (∑ e, a e * a e) (Ideal.ofBits .f32 0x45800000#32) + Ideal.ofBits .f32 0x358637BD#32) * g

/-- The number at row `R` of the latent sequences, column `k`. -/
def valAt (X : Vec Ideal S12288x4096 .f32) (G : Vec Ideal S4096 .f32) (R : Fin 4096) (k : Fin 4096) : EReal :=
  rmsAt (fun e => X (ix2 ⟨8192 + R.val, by omega⟩ e)) k (G (ix1 k))

/-- The value one grid point stores, element by element. -/
theorem pay_apply (x : Vec Ideal S256x4096 .f32) (g : Vec Ideal S1x4096 .f32) (r : Fin 256) (k : Fin 4096) :
    k0_pay1 x g (ix2 r k) = rmsAt (fun e => x (ix2 r e)) k (g (ix2 0 k)) := by
  unfold rmsAt
  pointwise [k0_pay1]

/-- The element at row `r`, column `k` of a block from the two blocks it is computed from. -/
def blockAt (x0 : Vec Ideal S256x4096 .f32) (x1 : Vec Ideal S1x4096 .f32) (r : Fin 256) (k : Fin 4096) : EReal :=
  rmsAt (fun e => x0 (ix2 r e)) k (x1 (ix2 0 k))

/-- The block one grid point writes, element by element. -/
theorem out_apply (x0 : Vec Ideal S256x4096 .f32) (x1 : Vec Ideal S1x4096 .f32) (r : Fin 256) (k : Fin 4096) :
    out0_2 x0 x1 (ix2 r k) = blockAt x0 x1 r k := by
  unfold out0_2
  refine View.canon_apply_of_pieces (Val := Elt Ideal) (e := .f32) (fun i : S256x4096.Idx => blockAt x0 x1 (i 0) (i 1)) _
    (fun p hp j => ?_) _ (cover0_2 _ _)
  simp only [List.mem_cons, List.not_mem_nil, or_false] at hp
  subst hp
  obtain ⟨r, k, rfl⟩ : ∃ (r : Fin 256) (k : Fin 4096), j = (ix2 r k : S256x4096.Idx) := ⟨j 0, j 1, ValueIdx.eq_ix2 j⟩
  have he : r0_0.emb (ix2 r k) = (ix2 r k : S256x4096.Idx) := by
    funext a
    match a with
    | ⟨0, _⟩ => exact Fin.ext (show 0 + 1 * r.val = r.val by omega)
    | ⟨1, _⟩ => exact Fin.ext (show 0 + 1 * k.val = k.val by omega)
  refine (pay_apply _ _ r k).trans ?_
  simp only [he]
  unfold blockAt
  pointwise []

variable (m : (ℓ : Loc nD τ sig) → Buf (Elt Ideal) ℓ)

/-- The result array as one function of the arguments. -/
def result (c : Dev nD) : Buf (Elt Ideal) ((c : Thread nD τ).loc main_v1) := fun i : S4096x4096.Idx =>
  valAt (m ((c : Thread nD τ).loc main_arg0)) (m ((c : Thread nD τ).loc main_arg1)) (i 0) (i 1)

/-- Where each window's block lies at point `t`: the rows' block is number `32 + t`, the result's number `t`. -/
theorem idx_facts : ∀ t : Fin cfg0.N,
    (win0_0.index t 0 = 32 + t.val ∧ win0_0.index t 1 = 0)
    ∧ (win0_1.index t 0 = 0 ∧ win0_1.index t 1 = 0)
    ∧ (win0_2.index t 0 = t.val ∧ win0_2.index t 1 = 0) := by
  decide +kernel

/-- The grid has 16 points. -/
theorem lt_N (t : Fin cfg0.N) : t.val < 16 := t.isLt

/-- The rows' block at point `t`. -/
theorem read0 (c : Dev nD) (t : Fin cfg0.N) (r : Fin 256) (k : Fin 4096) : iblk m c 0 t (ix2 r k)
    = m ((c : Thread nD τ).loc main_arg0) (ix2 ⟨8192 + (t.val * 256 + r.val), by have := lt_N t; omega⟩ k) := by
  obtain ⟨⟨h0, h1⟩, -⟩ := idx_facts t
  unfold iblk
  rw [View.read_apply]
  show V m c main_arg0 _ = _
  rw [V_main_arg0]
  congr 1
  funext a
  apply Fin.ext
  match a with
  | ⟨0, _⟩ => show win0_0.index t 0 * 256 + 1 * r.val = 8192 + (t.val * 256 + r.val); rw [h0]; omega
  | ⟨1, _⟩ => show win0_0.index t 1 * 4096 + 1 * k.val = k.val; rw [h1]; omega

/-- The gain's block is the whole row. -/
theorem read1 (c : Dev nD) (t : Fin cfg0.N) (k : Fin 4096) : iblk m c 1 t (ix2 0 k)
    = m ((c : Thread nD τ).loc main_arg1) (ix1 k) := by
  obtain ⟨-, ⟨h0, h1⟩, -⟩ := idx_facts t
  have hw : ∀ k : Fin 4096, V m c main_v0 (ix2 0 k) = m ((c : Thread nD τ).loc main_arg1) (ix1 k) := fun k => by
    unfold V
    after_reads_at
  rw [← hw]
  unfold iblk
  rw [View.read_apply]
  show V m c main_v0 _ = _
  congr 1
  funext a
  apply Fin.ext
  match a with
  | ⟨0, _⟩ => show win0_1.index t 0 * 1 + 1 * 0 = 0; rw [h0]
  | ⟨1, _⟩ => show win0_1.index t 1 * 4096 + 1 * k.val = k.val; rw [h1]; omega

/-- The block that point `t` computes, element by element. -/
theorem block_eq (c : Dev nD) (t : Fin cfg0.N) (r : Fin 256) (k : Fin 4096) :
    blockAt (iblk m c 0 t) (iblk m c 1 t) r k
      = valAt (m ((c : Thread nD τ).loc main_arg0)) (m ((c : Thread nD τ).loc main_arg1)) ⟨t.val * 256 + r.val, by have := lt_N t; omega⟩ k := by
  unfold blockAt valAt
  simp only [read0, read1]

/-- What point `t` writes back is its block of `result`. -/
theorem flushed_eq (c : Dev nD) (t : Fin cfg0.N) :
    (dats m 0 c).flushed 2 t = ((cfg0.win 2).blk t).view.read (Elt Ideal) (result m c) := by
  obtain ⟨-, -, h0, h1⟩ := idx_facts t
  have hN := lt_N t
  rw [Cert.Kernel9Ideal.Value.flushed2]
  funext j
  rw [View.read_apply]
  obtain ⟨r, k, rfl⟩ : ∃ (r : Fin 256) (k : Fin 4096), j = (ix2 r k : S256x4096.Idx) := ⟨j 0, j 1, ValueIdx.eq_ix2 j⟩
  refine (out_apply (iblk m c 0 t) (iblk m c 1 t) r k).trans ?_
  refine (block_eq m c t r k).trans ?_
  show _ = result m c _
  unfold result
  refine congr (congrArg (valAt _ _) ?_) ?_
  · exact Fin.ext (show t.val * 256 + r.val = win0_2.index t 0 * 256 + 1 * r.val by rw [h0]; omega)
  · exact Fin.ext (show k.val = win0_2.index t 1 * 4096 + 1 * k.val by rw [h1]; omega)

/-- The point whose block holds index `i`. -/
theorem covered (i : S4096x4096.Idx) : ∃ t : Fin cfg0.N, (cfg0.win 2).flush t = true ∧ i ∈ ((cfg0.win 2).blk t).view.set := by
  have b0 : (i 0 : Nat) < 4096 := (i 0).isLt
  have b1 : (i 1 : Nat) < 4096 := (i 1).isLt
  let t : Fin cfg0.N := ⟨(i 0 : Nat) / 256, by show _ < 16; omega⟩
  have ht : t.val = (i 0 : Nat) / 256 := rfl
  obtain ⟨-, -, h0, h1⟩ := idx_facts t
  refine ⟨t, flush0_2 t, ?_⟩
  show i ∈ ((View.whole main_v1).slice (win0_2.rect t)).set
  rw [View.set_slice_whole, Rect.mem_set_unit]
  intro a
  match a with
  | ⟨0, _⟩ => show win0_2.index t 0 * 256 ≤ (i 0 : Nat) ∧ (i 0 : Nat) < win0_2.index t 0 * 256 + 256; rw [h0]; omega
  | ⟨1, _⟩ => show win0_2.index t 1 * 4096 ≤ (i 1 : Nat) ∧ (i 1 : Nat) < win0_2.index t 1 * 4096 + 4096; rw [h1]; omega

/-- The result array ends holding `result`. -/
theorem final_eq (c : Dev nD) : (dats m 0 c).arrAt 2 cfg0.N = result m c :=
  (dats m 0 c).arrAt_eq_of_cover 2 (result m c) (fun t _ => flushed_eq m c t) covered

/-- The constant zero the reference's sums start from. -/
theorem zero_bits : Ideal.ofBits .f32 0x00000000#32 = 0 := by
  simp [Ideal.ofBits, Ideal.ieee]

set_option maxRecDepth 200000 in
open Cert.Reference9Ideal.Read in
/-- The reference's result, element by element. -/
theorem ref_eq (A0 : Vec Ideal S12288x4096 .f32) (A1 : Vec Ideal S4096 .f32) (r : Fin 4096) (c : Fin 4096) :
    val_main_v13 (F := Ideal) A0 A1 (ix2 r c) = valAt A0 A1 r c := by
  unfold valAt rmsAt
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  all_goals simp only [zero_bits, zero_add]

end Cert.Proof.EndS

end
-- ==== Proof.QUp.lean ====
/- The latent attention's queries: the product of the normalised low-rank rows with the queries' weights, whose 192 columns
   of a head are followed by 64 zeros; the call's array and the reference's are equal on every argument. -/
module

public import proofs.«01_k».proof.Proof.Gen.Kernel10Ideal.Value
public import proofs.«01_k».proof.Proof.Gen.Reference10Ideal.Read
public import Idealize.ShloMosaic.Lib.StableHlo.ReadAt
public import Idealize.ShloMosaic.Lib.Pointwise

@[expose] public section

set_option maxRecDepth 16384

noncomputable section

namespace Cert.Proof.QUp

open Idealize.ShloMosaic Idealize.ShloMosaic.TcCoe Idealize.SL.Sem Cert.Kernel10Ideal Cert.Kernel10Ideal.Gen
open Idealize.ShloMosaic.Pointwise
open Idealize.ShloMosaic.Pipeline (Dat)

/-- The weight at row `k`, column `C`: of a head's 256 columns the first 192 are the weights', the others are zero. -/
def weightAt (W : Vec Ideal S1024x3072 .f32) (k : Fin 1024) (C : Fin 4096) : EReal :=
  if h : C.val % 256 < 192 then W (ix2 k ⟨C.val / 256 * 192 + C.val % 256, by omega⟩) else 0

/-- The number at row `R`, column `k` of the rows. -/
def rowAt (X : Vec Ideal S12288x1024 .bf16) (R : Fin 12288) (k : Fin 1024) : EReal := X (ix2 R k)

/-- The number at row `R`, column `C` of the product. -/
def valAt (X : Vec Ideal S12288x1024 .bf16) (W : Vec Ideal S1024x3072 .f32) (R : Fin 12288) (C : Fin 4096) : EReal :=
  ∑ k, rowAt X R k * weightAt W k C

/-- The value one grid point stores, element by element. -/
theorem pay_apply (a : Vec Ideal S1024x1024 .bf16) (w : Vec Ideal S1024x2048 .bf16) (r : Fin 1024) (k : Fin 2048) :
    k0_pay1 a w (ix2 r k) = ∑ e, a (ix2 r e) * w (ix2 e k) := by
  pointwise [k0_pay1]

/-- The element at row `r`, column `k` of the block one grid point writes. -/
def blockAt (x0 : Vec Ideal S1024x1024 .bf16) (x1 : Vec Ideal S1024x2048 .bf16) (r : Fin 1024) (k : Fin 2048) : EReal :=
  ∑ e, x0 (ix2 r e) * x1 (ix2 e k)

/-- The block one grid point writes, element by element. -/
theorem out_apply (x0 : Vec Ideal S1024x1024 .bf16) (x1 : Vec Ideal S1024x2048 .bf16) (r : Fin 1024) (k : Fin 2048) :
    out0_2 x0 x1 (ix2 r k) = blockAt x0 x1 r k := by
  unfold out0_2
  refine View.canon_apply_of_pieces (Val := Elt Ideal) (e := .bf16) (fun i : S1024x2048.Idx => blockAt x0 x1 (i 0) (i 1)) _
    (fun p hp j => ?_) _ (cover0_2 _ _)
  simp only [List.mem_cons, List.not_mem_nil, or_false] at hp
  subst hp
  obtain ⟨r, k, rfl⟩ : ∃ (r : Fin 1024) (k : Fin 2048), j = (ix2 r k : S1024x2048.Idx) := ⟨j 0, j 1, ValueIdx.eq_ix2 j⟩
  have he : r0_1.emb (ix2 r k) = (ix2 r k : S1024x2048.Idx) := by
    funext a
    match a with
    | ⟨0, _⟩ => exact Fin.ext (show 0 + 1 * r.val = r.val by omega)
    | ⟨1, _⟩ => exact Fin.ext (show 0 + 1 * k.val = k.val by omega)
  refine (pay_apply _ _ r k).trans ?_
  simp only [he]
  unfold blockAt
  pointwise []

variable (m : (ℓ : Loc nD τ sig) → Buf (Elt Ideal) ℓ)

/-- The result array as one function of the arguments. -/
def result (c : Dev nD) : Buf (Elt Ideal) ((c : Thread nD τ).loc main_v4) := fun i : S12288x4096.Idx =>
  valAt (m ((c : Thread nD τ).loc main_arg0)) (m ((c : Thread nD τ).loc main_arg1)) (i 0) (i 1)

/-- Where each window's block lies at point `t`: block row `t / 2`, block column `t % 2`. -/
theorem idx_facts : ∀ t : Fin cfg0.N,
    (win0_0.index t 0 = t.val / 2 ∧ win0_0.index t 1 = 0)
    ∧ (win0_1.index t 0 = 0 ∧ win0_1.index t 1 = t.val % 2)
    ∧ (win0_2.index t 0 = t.val / 2 ∧ win0_2.index t 1 = t.val % 2) := by
  decide +kernel

/-- The grid has 24 points. -/
theorem lt_N (t : Fin cfg0.N) : t.val < 24 := t.isLt

/-- The rows as the call gets them. -/
theorem rows_eq (c : Dev nD) (R : Fin 12288) (k : Fin 1024) :
    V m c main_arg0 (ix2 R k) = rowAt (m ((c : Thread nD τ).loc main_arg0)) R k := by
  rw [V_main_arg0]
  rfl

/-- The integer zero as a float is zero. -/
theorem sitofp_zero : FloatOps.sitofp (F := Ideal) FTy.f32 0#32 = (0 : EReal) := by
  show (((0#32 : BitVec 32).toInt : ℝ) : EReal) = 0
  simp

/-- The weights as the call gets them. -/
theorem weights_eq (c : Dev nD) (k : Fin 1024) (C : Fin 4096) :
    V m c main_v3 (ix2 k C) = weightAt (m ((c : Thread nD τ).loc main_arg1)) k C := by
  unfold V weightAt
  after_reads_at
  by_cases h : C.val % 256 < 192
  · have h16 : C.val / 256 < 16 := by omega
    refine (dif_pos (show C.val / 256 < 16 ∧ C.val % 256 < 192 from ⟨h16, h⟩)).trans ?_
    refine Eq.trans ?_ (dif_pos h).symm
    rfl
  · rw [dif_neg (fun hh => h hh.2), dif_neg h]
    exact sitofp_zero

/-- The rows' block at point `t`. -/
theorem read0 (c : Dev nD) (t : Fin cfg0.N) (r : Fin 1024) (k : Fin 1024) : iblk m c 0 t (ix2 r k)
    = rowAt (m ((c : Thread nD τ).loc main_arg0)) ⟨t.val / 2 * 1024 + r.val, by have := lt_N t; omega⟩ k := by
  obtain ⟨⟨h0, h1⟩, -⟩ := idx_facts t
  rw [← rows_eq]
  unfold iblk
  rw [View.read_apply]
  show V m c main_arg0 _ = _
  congr 1
  funext a
  apply Fin.ext
  match a with
  | ⟨0, _⟩ => show win0_0.index t 0 * 1024 + 1 * r.val = t.val / 2 * 1024 + r.val; rw [h0]; omega
  | ⟨1, _⟩ => show win0_0.index t 1 * 1024 + 1 * k.val = k.val; rw [h1]; omega

/-- The weights' block at point `t`. -/
theorem read1 (c : Dev nD) (t : Fin cfg0.N) (k : Fin 1024) (e : Fin 2048) : iblk m c 1 t (ix2 k e)
    = weightAt (m ((c : Thread nD τ).loc main_arg1)) k ⟨t.val % 2 * 2048 + e.val, by omega⟩ := by
  obtain ⟨-, ⟨h0, h1⟩, -⟩ := idx_facts t
  rw [← weights_eq]
  unfold iblk
  rw [View.read_apply]
  show V m c main_v3 _ = _
  congr 1
  funext a
  apply Fin.ext
  match a with
  | ⟨0, _⟩ => show win0_1.index t 0 * 1024 + 1 * k.val = k.val; rw [h0]; omega
  | ⟨1, _⟩ => show win0_1.index t 1 * 2048 + 1 * e.val = t.val % 2 * 2048 + e.val; rw [h1]; omega

/-- The block that point `t` computes, element by element. -/
theorem block_eq (c : Dev nD) (t : Fin cfg0.N) (r : Fin 1024) (k : Fin 2048) :
    blockAt (iblk m c 0 t) (iblk m c 1 t) r k
      = valAt (m ((c : Thread nD τ).loc main_arg0)) (m ((c : Thread nD τ).loc main_arg1))
          ⟨t.val / 2 * 1024 + r.val, by have := lt_N t; omega⟩ ⟨t.val % 2 * 2048 + k.val, by omega⟩ := by
  unfold blockAt valAt
  simp only [read0, read1]

/-- What point `t` writes back is its block of `result`. -/
theorem flushed_eq (c : Dev nD) (t : Fin cfg0.N) :
    (dats m 0 c).flushed 2 t = ((cfg0.win 2).blk t).view.read (Elt Ideal) (result m c) := by
  obtain ⟨-, -, h0, h1⟩ := idx_facts t
  have hN := lt_N t
  rw [Cert.Kernel10Ideal.Value.flushed2]
  funext j
  rw [View.read_apply]
  obtain ⟨r, k, rfl⟩ : ∃ (r : Fin 1024) (k : Fin 2048), j = (ix2 r k : S1024x2048.Idx) := ⟨j 0, j 1, ValueIdx.eq_ix2 j⟩
  refine (out_apply (iblk m c 0 t) (iblk m c 1 t) r k).trans ?_
  refine (block_eq m c t r k).trans ?_
  show _ = result m c _
  unfold result
  refine congr (congrArg (valAt _ _) ?_) ?_
  · exact Fin.ext (show t.val / 2 * 1024 + r.val = win0_2.index t 0 * 1024 + 1 * r.val by rw [h0]; omega)
  · exact Fin.ext (show t.val % 2 * 2048 + k.val = win0_2.index t 1 * 2048 + 1 * k.val by rw [h1]; omega)

/-- The point whose block holds index `i`. -/
theorem covered (i : S12288x4096.Idx) : ∃ t : Fin cfg0.N, (cfg0.win 2).flush t = true ∧ i ∈ ((cfg0.win 2).blk t).view.set := by
  have b0 : (i 0 : Nat) < 12288 := (i 0).isLt
  have b1 : (i 1 : Nat) < 4096 := (i 1).isLt
  let t : Fin cfg0.N := ⟨(i 0 : Nat) / 1024 * 2 + (i 1 : Nat) / 2048, by show _ < 24; omega⟩
  have ht : t.val = (i 0 : Nat) / 1024 * 2 + (i 1 : Nat) / 2048 := rfl
  obtain ⟨-, -, h0, h1⟩ := idx_facts t
  refine ⟨t, flush0_2 t, ?_⟩
  show i ∈ ((View.whole main_v4).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024; rw [h0]; omega
  | ⟨1, _⟩ => show win0_2.index t 1 * 2048 ≤ (i 1 : Nat) ∧ (i 1 : Nat) < win0_2.index t 1 * 2048 + 2048; rw [h1]; omega

/-- The result array ends holding `result`. -/
theorem final_eq (c : Dev nD) : (dats m 0 c).arrAt 2 cfg0.N = result m c :=
  (dats m 0 c).arrAt_eq_of_cover 2 (result m c) (fun t _ => flushed_eq m c t) covered

open Cert.Reference10Ideal.Read in
/-- The reference's product before the padding. -/
theorem ref_prod (A0 : Vec Ideal S12288x1024 .bf16) (A1 : Vec Ideal S1024x3072 .f32) (r : Fin 12288) (h : Fin 16) (d : Fin 192) :
    val_main_v2 (F := Ideal) A0 A1 (ix3 r h d) = ∑ k, A0 (ix2 r k) * A1 (ix2 k ⟨h.val * 192 + d.val, by omega⟩) := by
  pointwise [val_main_v2, val_main_v1, val_main_v0]

open Cert.Reference10Ideal.Read in
/-- The reference's result, element by element. -/
theorem ref_eq (A0 : Vec Ideal S12288x1024 .bf16) (A1 : Vec Ideal S1024x3072 .f32) (r : Fin 12288) (c : Fin 4096) :
    val_main_v5 (F := Ideal) A0 A1 (ix2 r c) = valAt A0 A1 r c := by
  have e : val_main_v5 (F := Ideal) A0 A1 (ix2 r c)
      = if h : c.val % 256 < 192 then val_main_v2 (F := Ideal) A0 A1 (ix3 r ⟨c.val / 256, by omega⟩ ⟨c.val % 256, h⟩) else 0 := by
    pointwise [val_main_v5, val_main_v4, val_main_v3, val_main_call0_v0, val_main_c]
    by_cases h : c.val % 256 < 192
    · have h16 : c.val / 256 < 16 := by omega
      refine (dif_pos (show c.val / 256 < 16 ∧ c.val % 256 < 192 from ⟨h16, h⟩)).trans ?_
      rw [dif_pos h]
    · rw [dif_neg (fun hh => h hh.2), dif_neg h]
      exact sitofp_zero
  rw [e]
  unfold valAt weightAt rowAt
  by_cases h : c.val % 256 < 192
  · rw [dif_pos h, ref_prod]
    exact Finset.sum_congr rfl fun k _ => by rw [dif_pos h]
  · rw [dif_neg h]
    exact (Finset.sum_eq_zero fun k _ => by rw [dif_neg h, mul_zero]).symm

end Cert.Proof.QUp

end
-- ==== Proof.CtxUp.lean ====
/- The cached context's keys and values: the product of the cached low-rank rows with the weights of the latent attention's
   keys and values; the call's array and the reference's are equal on every argument. -/
module

public import proofs.«01_k».proof.Proof.Gen.Kernel11Ideal.Value
public import proofs.«01_k».proof.Proof.Gen.Reference11Ideal.Read
public import Idealize.ShloMosaic.Lib.StableHlo.ReadAt
public import Idealize.ShloMosaic.Lib.Pointwise

@[expose] public section

set_option maxRecDepth 16384

noncomputable section

namespace Cert.Proof.CtxUp

open Idealize.ShloMosaic Idealize.ShloMosaic.TcCoe Idealize.SL.Sem Cert.Kernel11Ideal Cert.Kernel11Ideal.Gen
open Idealize.ShloMosaic.Pointwise
open Idealize.ShloMosaic.Pipeline (Dat)

/-- The weight at row `k`, column `C`. -/
def weightAt (W : Vec Ideal S512x4096 .f32) (k : Fin 512) (C : Fin 4096) : EReal := W (ix2 k C)

/-- The number at row `R`, column `k` of the rows: the four sequences' 256 rows, one sequence after another. -/
def rowAt (X : Vec Ideal S4x256x512 .f32) (R : Fin 1024) (k : Fin 512) : EReal :=
  X (ix3 ⟨R.val / 256, by omega⟩ ⟨R.val % 256, by omega⟩ k)

/-- The number at row `R`, column `C` of the product. -/
def valAt (X : Vec Ideal S4x256x512 .f32) (W : Vec Ideal S512x4096 .f32) (R : Fin 1024) (C : Fin 4096) : EReal :=
  ∑ k, rowAt X R k * weightAt W k C

/-- The value one grid point stores, element by element. -/
theorem pay_apply (a : Vec Ideal S1024x512 .f32) (w : Vec Ideal S512x2048 .bf16) (r : Fin 1024) (k : Fin 2048) :
    k0_pay1 a w (ix2 r k) = ∑ e, a (ix2 r e) * w (ix2 e k) := by
  pointwise [k0_pay1]

/-- The element at row `r`, column `k` of the block one grid point writes. -/
def blockAt (x0 : Vec Ideal S1024x512 .f32) (x1 : Vec Ideal S512x2048 .bf16) (r : Fin 1024) (k : Fin 2048) : EReal :=
  ∑ e, x0 (ix2 r e) * x1 (ix2 e k)

/-- The block one grid point writes, element by element. -/
theorem out_apply (x0 : Vec Ideal S1024x512 .f32) (x1 : Vec Ideal S512x2048 .bf16) (r : Fin 1024) (k : Fin 2048) :
    out0_2 x0 x1 (ix2 r k) = blockAt x0 x1 r k := by
  unfold out0_2
  refine View.canon_apply_of_pieces (Val := Elt Ideal) (e := .bf16) (fun i : S1024x2048.Idx => blockAt x0 x1 (i 0) (i 1)) _
    (fun p hp j => ?_) _ (cover0_2 _ _)
  simp only [List.mem_cons, List.not_mem_nil, or_false] at hp
  subst hp
  obtain ⟨r, k, rfl⟩ : ∃ (r : Fin 1024) (k : Fin 2048), j = (ix2 r k : S1024x2048.Idx) := ⟨j 0, j 1, ValueIdx.eq_ix2 j⟩
  have he : r0_2.emb (ix2 r k) = (ix2 r k : S1024x2048.Idx) := by
    funext a
    match a with
    | ⟨0, _⟩ => exact Fin.ext (show 0 + 1 * r.val = r.val by omega)
    | ⟨1, _⟩ => exact Fin.ext (show 0 + 1 * k.val = k.val by omega)
  refine (pay_apply _ _ r k).trans ?_
  simp only [he]
  unfold blockAt
  pointwise []

variable (m : (ℓ : Loc nD τ sig) → Buf (Elt Ideal) ℓ)

/-- The result array as one function of the arguments. -/
def result (c : Dev nD) : Buf (Elt Ideal) ((c : Thread nD τ).loc main_v2) := fun i : S1024x4096.Idx =>
  valAt (m ((c : Thread nD τ).loc main_arg0)) (m ((c : Thread nD τ).loc main_arg1)) (i 0) (i 1)

/-- Where each window's block lies at point `t`: block row `t / 2`, block column `t % 2`. -/
theorem idx_facts : ∀ t : Fin cfg0.N,
    (win0_0.index t 0 = t.val / 2 ∧ win0_0.index t 1 = 0)
    ∧ (win0_1.index t 0 = 0 ∧ win0_1.index t 1 = t.val % 2)
    ∧ (win0_2.index t 0 = t.val / 2 ∧ win0_2.index t 1 = t.val % 2) := by
  decide +kernel

/-- The grid has 2 points. -/
theorem lt_N (t : Fin cfg0.N) : t.val < 2 := t.isLt

/-- The rows as the call gets them. -/
theorem rows_eq (c : Dev nD) (R : Fin 1024) (k : Fin 512) :
    V m c main_v0 (ix2 R k) = rowAt (m ((c : Thread nD τ).loc main_arg0)) R k := by
  unfold V rowAt
  after_reads_at

/-- The weights as the call gets them. -/
theorem weights_eq (c : Dev nD) (k : Fin 512) (C : Fin 4096) :
    V m c main_v1 (ix2 k C) = weightAt (m ((c : Thread nD τ).loc main_arg1)) k C := by
  unfold V weightAt
  after_reads_at

/-- The rows' block at point `t`. -/
theorem read0 (c : Dev nD) (t : Fin cfg0.N) (r : Fin 1024) (k : Fin 512) : iblk m c 0 t (ix2 r k)
    = rowAt (m ((c : Thread nD τ).loc main_arg0)) ⟨t.val / 2 * 1024 + r.val, by have := lt_N t; omega⟩ k := by
  obtain ⟨⟨h0, h1⟩, -⟩ := idx_facts t
  rw [← rows_eq]
  unfold iblk
  rw [View.read_apply]
  show V m c main_v0 _ = _
  congr 1
  funext a
  apply Fin.ext
  match a with
  | ⟨0, _⟩ => show win0_0.index t 0 * 1024 + 1 * r.val = t.val / 2 * 1024 + r.val; rw [h0]; omega
  | ⟨1, _⟩ => show win0_0.index t 1 * 512 + 1 * k.val = k.val; rw [h1]; omega

/-- The weights' block at point `t`. -/
theorem read1 (c : Dev nD) (t : Fin cfg0.N) (k : Fin 512) (e : Fin 2048) : iblk m c 1 t (ix2 k e)
    = weightAt (m ((c : Thread nD τ).loc main_arg1)) k ⟨t.val % 2 * 2048 + e.val, by omega⟩ := by
  obtain ⟨-, ⟨h0, h1⟩, -⟩ := idx_facts t
  rw [← weights_eq]
  unfold iblk
  rw [View.read_apply]
  show V m c main_v1 _ = _
  congr 1
  funext a
  apply Fin.ext
  match a with
  | ⟨0, _⟩ => show win0_1.index t 0 * 512 + 1 * k.val = k.val; rw [h0]; omega
  | ⟨1, _⟩ => show win0_1.index t 1 * 2048 + 1 * e.val = t.val % 2 * 2048 + e.val; rw [h1]; omega

/-- The block that point `t` computes, element by element. -/
theorem block_eq (c : Dev nD) (t : Fin cfg0.N) (r : Fin 1024) (k : Fin 2048) :
    blockAt (iblk m c 0 t) (iblk m c 1 t) r k
      = valAt (m ((c : Thread nD τ).loc main_arg0)) (m ((c : Thread nD τ).loc main_arg1))
          ⟨t.val / 2 * 1024 + r.val, by have := lt_N t; omega⟩ ⟨t.val % 2 * 2048 + k.val, by omega⟩ := by
  unfold blockAt valAt
  simp only [read0, read1]

/-- What point `t` writes back is its block of `result`. -/
theorem flushed_eq (c : Dev nD) (t : Fin cfg0.N) :
    (dats m 0 c).flushed 2 t = ((cfg0.win 2).blk t).view.read (Elt Ideal) (result m c) := by
  obtain ⟨-, -, h0, h1⟩ := idx_facts t
  have hN := lt_N t
  rw [Cert.Kernel11Ideal.Value.flushed2]
  funext j
  rw [View.read_apply]
  obtain ⟨r, k, rfl⟩ : ∃ (r : Fin 1024) (k : Fin 2048), j = (ix2 r k : S1024x2048.Idx) := ⟨j 0, j 1, ValueIdx.eq_ix2 j⟩
  refine (out_apply (iblk m c 0 t) (iblk m c 1 t) r k).trans ?_
  refine (block_eq m c t r k).trans ?_
  show _ = result m c _
  unfold result
  refine congr (congrArg (valAt _ _) ?_) ?_
  · exact Fin.ext (show t.val / 2 * 1024 + r.val = win0_2.index t 0 * 1024 + 1 * r.val by rw [h0]; omega)
  · exact Fin.ext (show t.val % 2 * 2048 + k.val = win0_2.index t 1 * 2048 + 1 * k.val by rw [h1]; omega)

/-- The point whose block holds index `i`. -/
theorem covered (i : S1024x4096.Idx) : ∃ t : Fin cfg0.N, (cfg0.win 2).flush t = true ∧ i ∈ ((cfg0.win 2).blk t).view.set := by
  have b0 : (i 0 : Nat) < 1024 := (i 0).isLt
  have b1 : (i 1 : Nat) < 4096 := (i 1).isLt
  let t : Fin cfg0.N := ⟨(i 0 : Nat) / 1024 * 2 + (i 1 : Nat) / 2048, by show _ < 2; omega⟩
  have ht : t.val = (i 0 : Nat) / 1024 * 2 + (i 1 : Nat) / 2048 := rfl
  obtain ⟨-, -, h0, h1⟩ := idx_facts t
  refine ⟨t, flush0_2 t, ?_⟩
  show i ∈ ((View.whole main_v2).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024; rw [h0]; omega
  | ⟨1, _⟩ => show win0_2.index t 1 * 2048 ≤ (i 1 : Nat) ∧ (i 1 : Nat) < win0_2.index t 1 * 2048 + 2048; rw [h1]; omega

/-- The result array ends holding `result`. -/
theorem final_eq (c : Dev nD) : (dats m 0 c).arrAt 2 cfg0.N = result m c :=
  (dats m 0 c).arrAt_eq_of_cover 2 (result m c) (fun t _ => flushed_eq m c t) covered

open Cert.Reference11Ideal.Read in
/-- The reference's result, element by element. -/
theorem ref_eq (A0 : Vec Ideal S4x256x512 .f32) (A1 : Vec Ideal S512x4096 .f32) (r : Fin 1024) (c : Fin 4096) :
    val_main_v2 (F := Ideal) A0 A1 (ix2 r c) = valAt A0 A1 r c := by
  unfold valAt weightAt rowAt
  pointwise [val_main_v2, val_main_v1, val_main_v0]

end Cert.Proof.CtxUp

end
-- ==== Proof.Norm2.lean ====
/- The norm before the feed-forward part, with its scale and shift: one grid point's block, the result array the blocks fill,
   and the reference's result, each index by index; the two arrays are equal on every argument. -/
module

public import proofs.«01_k».proof.Proof.Gen.Kernel12Ideal.Value
public import proofs.«01_k».proof.Proof.Gen.Reference12Ideal.Read
public import Idealize.ShloMosaic.Lib.StableHlo.ReadAt
public import Idealize.ShloMosaic.Lib.Pointwise

@[expose] public section

set_option maxRecDepth 16384

noncomputable section

namespace Cert.Proof.Norm2

open Idealize.ShloMosaic Idealize.ShloMosaic.TcCoe Idealize.SL.Sem Cert.Kernel12Ideal Cert.Kernel12Ideal.Gen
open Idealize.ShloMosaic.Pointwise
open Idealize.ShloMosaic.Pipeline (Dat)

/-- One number of a normalised, scaled and shifted row: `a` the row, `k` the column, `g` the gain, `sh` the shift and
    `sc` the scale there. The two constants are the row's length and the small number under the root. -/
def modRow (a : Fin 4096 → EReal) (k : Fin 4096) (g sh sc : EReal) : EReal :=
  a k * Ideal.rsqrt (Ideal.div (∑ e, a e * a e) (Ideal.ofBits .f32 0x45800000#32) + Ideal.ofBits .f32 0x358637BD#32) * g
    * (Ideal.ofBits .f32 0x3F800000#32 + sc) + sh

/-- Which row of the modulation a row takes: row 0 for the 8192 prompt rows, then one for each of the four latent
    sequences of 1024 rows. -/
def condOf (R : Fin 12288) : Fin 8 := ⟨if R.val < 8192 then 0 else 1 + (R.val - 8192) / 1024, by split <;> omega⟩

/-- The number at row `R`, column `k`. -/
def valAt (X : Vec Ideal S12288x4096 .f32) (G : Vec Ideal S4096 .f32) (M : Vec Ideal S8x1x24576 .f32) (R : Fin 12288) (k : Fin 4096) : EReal :=
  modRow (fun e => X (ix2 R e)) k (G (ix1 k)) (M (ix3 (condOf R) 0 ⟨12288 + k.val, by omega⟩)) (M (ix3 (condOf R) 0 ⟨16384 + k.val, by omega⟩))

/-- The constant one. -/
theorem one_bits : Ideal.ofBits .f32 0x3F800000#32 = 1 := by
  simp [Ideal.ofBits, Ideal.ieee]
  rw [← EReal.coe_mul]
  norm_num

/-- The constant zero the reference's sums start from. -/
theorem zero_bits : Ideal.ofBits .f32 0x00000000#32 = 0 := by
  simp [Ideal.ofBits, Ideal.ieee]

/-- The value one grid point stores, element by element. -/
theorem pay_apply (x : Vec Ideal S512x4096 .f32) (g : Vec Ideal S1x4096 .f32) (sc sh : Vec Ideal S1x1x4096 .f32) (r : Fin 512) (k : Fin 4096) :
    k0_pay1 x g sc sh (ix2 r k) = modRow (fun e => x (ix2 r e)) k (g (ix2 0 k)) (sh (ix3 0 0 k)) (sc (ix3 0 0 k)) := by
  unfold modRow
  rw [one_bits]
  pointwise [k0_pay1]

/-- The element at row `r`, column `k` of a block from the four blocks it is computed from. -/
def blockAt (x0 : Vec Ideal S512x4096 .f32) (x1 : Vec Ideal S1x4096 .f32) (x2 x3 : Vec Ideal S1x1x4096 .f32) (r : Fin 512) (k : Fin 4096) : EReal :=
  modRow (fun e => x0 (ix2 r e)) k (x1 (ix2 0 k)) (x2 (ix3 0 0 k)) (x3 (ix3 0 0 k))

/-- The block one grid point writes, element by element. -/
theorem out_apply (x0 : Vec Ideal S512x4096 .f32) (x1 : Vec Ideal S1x4096 .f32) (x2 x3 : Vec Ideal S1x1x4096 .f32) (r : Fin 512) (k : Fin 4096) :
    out0_4 x0 x1 x2 x3 (ix2 r k) = blockAt x0 x1 x2 x3 r k := by
  unfold out0_4
  refine View.canon_apply_of_pieces (Val := Elt Ideal) (e := .bf16) (fun i : S512x4096.Idx => blockAt x0 x1 x2 x3 (i 0) (i 1)) _
    (fun p hp j => ?_) _ (cover0_4 _ _)
  simp only [List.mem_cons, List.not_mem_nil, or_false] at hp
  subst hp
  obtain ⟨r, k, rfl⟩ : ∃ (r : Fin 512) (k : Fin 4096), j = (ix2 r k : S512x4096.Idx) := ⟨j 0, j 1, ValueIdx.eq_ix2 j⟩
  have he : r0_0.emb (ix2 r k) = (ix2 r k : S512x4096.Idx) := by
    funext a
    match a with
    | ⟨0, _⟩ => exact Fin.ext (show 0 + 1 * r.val = r.val by omega)
    | ⟨1, _⟩ => exact Fin.ext (show 0 + 1 * k.val = k.val by omega)
  refine (pay_apply _ _ _ _ r k).trans ?_
  simp only [he]
  unfold blockAt
  pointwise []

variable (m : (ℓ : Loc nD τ sig) → Buf (Elt Ideal) ℓ)

/-- The result array as one function of the arguments. -/
def result (c : Dev nD) : Buf (Elt Ideal) ((c : Thread nD τ).loc main_v1) := fun i : S12288x4096.Idx =>
  valAt (m ((c : Thread nD τ).loc main_arg0)) (m ((c : Thread nD τ).loc main_arg1)) (m ((c : Thread nD τ).loc main_arg2)) (i 0) (i 1)

/-- Where each window's block lies at point `t`: block row `t`, the first 16 of them the prompt rows'. -/
theorem idx_facts : ∀ t : Fin cfg0.N,
    (win0_0.index t 0 = t.val ∧ win0_0.index t 1 = 0)
    ∧ (win0_1.index t 0 = 0 ∧ win0_1.index t 1 = 0)
    ∧ (win0_2.index t 0 = (if t.val < 16 then 0 else 1 + (t.val - 16) / 2) ∧ win0_2.index t 1 = 0 ∧ win0_2.index t 2 = 3)
    ∧ (win0_3.index t 0 = (if t.val < 16 then 0 else 1 + (t.val - 16) / 2) ∧ win0_3.index t 1 = 0 ∧ win0_3.index t 2 = 4)
    ∧ (win0_4.index t 0 = t.val ∧ win0_4.index t 1 = 0) := by
  decide +kernel

/-- The grid has 24 points. -/
theorem lt_N (t : Fin cfg0.N) : t.val < 24 := t.isLt

/-- The rows' block at point `t`. -/
theorem read0 (c : Dev nD) (t : Fin cfg0.N) (r : Fin 512) (k : Fin 4096) : iblk m c 0 t (ix2 r k)
    = m ((c : Thread nD τ).loc main_arg0) (ix2 ⟨t.val * 512 + r.val, by have := lt_N t; omega⟩ k) := by
  obtain ⟨⟨h0, h1⟩, -⟩ := idx_facts t
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [h0]; omega
  | ⟨1, _⟩ => show win0_0.index t 1 * 4096 + 1 * k.val = k.val; rw [h1]; omega

/-- The gain's block is the whole row. -/
theorem read1 (c : Dev nD) (t : Fin cfg0.N) (k : Fin 4096) : iblk m c 1 t (ix2 0 k)
    = m ((c : Thread nD τ).loc main_arg1) (ix1 k) := by
  obtain ⟨-, ⟨h0, h1⟩, -⟩ := idx_facts t
  have hw : ∀ k : Fin 4096, V m c main_v0 (ix2 0 k) = m ((c : Thread nD τ).loc main_arg1) (ix1 k) := fun k => by
    unfold V
    after_reads_at
  rw [← hw]
  unfold iblk
  rw [View.read_apply]
  show V m c main_v0 _ = _
  congr 1
  funext a
  apply Fin.ext
  match a with
  | ⟨0, _⟩ => show win0_1.index t 0 * 1 + 1 * 0 = 0; rw [h0]
  | ⟨1, _⟩ => show win0_1.index t 1 * 4096 + 1 * k.val = k.val; rw [h1]; omega

/-- The shift's block at point `t`: a block of 512 rows lies in one sequence, so one modulation row serves all of it. -/
theorem read2 (c : Dev nD) (t : Fin cfg0.N) (r : Fin 512) (k : Fin 4096) : iblk m c 2 t (ix3 0 0 k)
    = m ((c : Thread nD τ).loc main_arg2) (ix3 (condOf ⟨t.val * 512 + r.val, by have := lt_N t; omega⟩) 0 ⟨12288 + k.val, by omega⟩) := by
  obtain ⟨-, -, ⟨h0, h1, h2⟩, -⟩ := idx_facts t
  unfold iblk
  rw [View.read_apply]
  show V m c main_arg2 _ = _
  rw [V_main_arg2]
  congr 1
  funext a
  apply Fin.ext
  match a with
  | ⟨0, _⟩ =>
    show win0_2.index t 0 * 1 + 1 * 0 = if t.val * 512 + r.val < 8192 then 0 else 1 + (t.val * 512 + r.val - 8192) / 1024
    rw [h0]
    by_cases h : t.val < 16
    · rw [if_pos h, if_pos (by omega)]
    · rw [if_neg h, if_neg (by omega)]; omega
  | ⟨1, _⟩ => show win0_2.index t 1 * 1 + 1 * 0 = 0; rw [h1]
  | ⟨2, _⟩ => show win0_2.index t 2 * 4096 + 1 * k.val = 12288 + k.val; rw [h2]; omega

/-- The scale's block at point `t`: a block of 512 rows lies in one sequence, so one modulation row serves all of it. -/
theorem read3 (c : Dev nD) (t : Fin cfg0.N) (r : Fin 512) (k : Fin 4096) : iblk m c 3 t (ix3 0 0 k)
    = m ((c : Thread nD τ).loc main_arg2) (ix3 (condOf ⟨t.val * 512 + r.val, by have := lt_N t; omega⟩) 0 ⟨16384 + k.val, by omega⟩) := by
  obtain ⟨-, -, -, ⟨h0, h1, h2⟩, -⟩ := idx_facts t
  unfold iblk
  rw [View.read_apply]
  show V m c main_arg2 _ = _
  rw [V_main_arg2]
  congr 1
  funext a
  apply Fin.ext
  match a with
  | ⟨0, _⟩ =>
    show win0_3.index t 0 * 1 + 1 * 0 = if t.val * 512 + r.val < 8192 then 0 else 1 + (t.val * 512 + r.val - 8192) / 1024
    rw [h0]
    by_cases h : t.val < 16
    · rw [if_pos h, if_pos (by omega)]
    · rw [if_neg h, if_neg (by omega)]; omega
  | ⟨1, _⟩ => show win0_3.index t 1 * 1 + 1 * 0 = 0; rw [h1]
  | ⟨2, _⟩ => show win0_3.index t 2 * 4096 + 1 * k.val = 16384 + k.val; rw [h2]; omega

/-- The block that point `t` computes, element by element. -/
theorem block_eq (c : Dev nD) (t : Fin cfg0.N) (r : Fin 512) (k : Fin 4096) :
    blockAt (iblk m c 0 t) (iblk m c 1 t) (iblk m c 2 t) (iblk m c 3 t) r k
      = valAt (m ((c : Thread nD τ).loc main_arg0)) (m ((c : Thread nD τ).loc main_arg1)) (m ((c : Thread nD τ).loc main_arg2))
          ⟨t.val * 512 + r.val, by have := lt_N t; omega⟩ k := by
  unfold blockAt valAt
  simp only [read0, read1, read2 m c t r k, read3 m c t r k]

/-- What point `t` writes back is its block of `result`. -/
theorem flushed_eq (c : Dev nD) (t : Fin cfg0.N) :
    (dats m 0 c).flushed 4 t = ((cfg0.win 4).blk t).view.read (Elt Ideal) (result m c) := by
  obtain ⟨-, -, -, -, h0, h1⟩ := idx_facts t
  have hN := lt_N t
  rw [Cert.Kernel12Ideal.Value.flushed4]
  funext j
  rw [View.read_apply]
  obtain ⟨r, k, rfl⟩ : ∃ (r : Fin 512) (k : Fin 4096), j = (ix2 r k : S512x4096.Idx) := ⟨j 0, j 1, ValueIdx.eq_ix2 j⟩
  refine (out_apply (iblk m c 0 t) (iblk m c 1 t) (iblk m c 2 t) (iblk m c 3 t) r k).trans ?_
  refine (block_eq m c t r k).trans ?_
  show _ = result m c _
  unfold result
  refine congr (congrArg (valAt _ _ _) ?_) ?_
  · exact Fin.ext (show t.val * 512 + r.val = win0_4.index t 0 * 512 + 1 * r.val by rw [h0]; omega)
  · exact Fin.ext (show k.val = win0_4.index t 1 * 4096 + 1 * k.val by rw [h1]; omega)

/-- The point whose block holds index `i`. -/
theorem covered (i : S12288x4096.Idx) : ∃ t : Fin cfg0.N, (cfg0.win 4).flush t = true ∧ i ∈ ((cfg0.win 4).blk t).view.set := by
  have b0 : (i 0 : Nat) < 12288 := (i 0).isLt
  have b1 : (i 1 : Nat) < 4096 := (i 1).isLt
  let t : Fin cfg0.N := ⟨(i 0 : Nat) / 512, by show _ < 24; omega⟩
  have ht : t.val = (i 0 : Nat) / 512 := rfl
  obtain ⟨-, -, -, -, h0, h1⟩ := idx_facts t
  refine ⟨t, flush0_4 t, ?_⟩
  show i ∈ ((View.whole main_v1).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + 512; rw [h0]; omega
  | ⟨1, _⟩ => show win0_4.index t 1 * 4096 ≤ (i 1 : Nat) ∧ (i 1 : Nat) < win0_4.index t 1 * 4096 + 4096; rw [h1]; omega

/-- The result array ends holding `result`. -/
theorem final_eq (c : Dev nD) : (dats m 0 c).arrAt 4 cfg0.N = result m c :=
  (dats m 0 c).arrAt_eq_of_cover 4 (result m c) (fun t _ => flushed_eq m c t) covered

variable (A0 : Vec Ideal S12288x4096 .f32) (A1 : Vec Ideal S4096 .f32) (A2 : Vec Ideal S8x1x24576 .f32)

open Cert.Reference12Ideal.Read in
/-- A prompt's row in the reference. -/
theorem x_prompt (R : Fin 12288) (b : Fin 32) (l : Fin 256) (hR : R.val = b.val * 256 + l.val) (e : Fin 4096) :
    val_main_v11 (F := Ideal) A0 (ix3 b l e) = A0 (ix2 R e) := by
  have hb : b.val * 256 + l.val < 12288 := hR ▸ R.isLt
  obtain rfl : R = ⟨b.val * 256 + l.val, hb⟩ := Fin.ext hR
  pointwise [val_main_v11, val_main_v10]

open Cert.Reference12Ideal.Read in
/-- A latent sequence's row in the reference. -/
theorem x_latent (R : Fin 12288) (b : Fin 4) (l : Fin 1024) (hR : R.val = 8192 + (b.val * 1024 + l.val)) (e : Fin 4096) :
    val_main_v13 (F := Ideal) A0 (ix3 b l e) = A0 (ix2 R e) := by
  have hb : 8192 + (b.val * 1024 + l.val) < 12288 := hR ▸ R.isLt
  obtain rfl : R = ⟨8192 + (b.val * 1024 + l.val), hb⟩ := Fin.ext hR
  pointwise [val_main_v13, val_main_v12]

set_option maxRecDepth 200000 in
open Cert.Reference12Ideal.Read in
/-- The reference's prompt rows. -/
theorem ref_prompt (b : Fin 32) (l : Fin 256) (k : Fin 4096) : val_main_v32 (F := Ideal) A0 A1 A2 (ix3 b l k)
    = modRow (fun e => val_main_v11 (F := Ideal) A0 (ix3 b l e)) k (A1 (ix1 k)) (A2 (ix3 0 0 ⟨12288 + k.val, by omega⟩))
        (A2 (ix3 0 0 ⟨16384 + k.val, by omega⟩)) := by
  unfold modRow
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v8, val_main_v6, val_main_v4, val_main_v3, val_main_cst, val_main_cst_0, val_main_cst_1, val_main_cst_2]
  all_goals simp only [zero_bits, zero_add]

set_option maxRecDepth 200000 in
open Cert.Reference12Ideal.Read in
/-- The reference's latent rows. -/
theorem ref_latent (b : Fin 4) (l : Fin 1024) (k : Fin 4096) : val_main_v51 (F := Ideal) A0 A1 A2 (ix3 b l k)
    = modRow (fun e => val_main_v13 (F := Ideal) A0 (ix3 b l e)) k (A1 (ix1 k)) (A2 (ix3 ⟨1 + b.val, by omega⟩ 0 ⟨12288 + k.val, by omega⟩))
        (A2 (ix3 ⟨1 + b.val, by omega⟩ 0 ⟨16384 + k.val, by omega⟩)) := by
  unfold modRow
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v9, val_main_v7, val_main_v4, val_main_v3, val_main_cst_3, val_main_cst_4, val_main_cst_5, val_main_cst_6]
  all_goals simp only [zero_bits, zero_add]

open Cert.Reference12Ideal.Read in
/-- The reference's result, element by element. -/
theorem ref_eq (R : Fin 12288) (k : Fin 4096) : val_main_v55 (F := Ideal) A0 A1 A2 (ix2 R k) = valAt A0 A1 A2 R k := by
  have e : val_main_v55 (F := Ideal) A0 A1 A2 (ix2 R k)
      = if h : R.val < 8192 then val_main_v32 (F := Ideal) A0 A1 A2 (ix3 ⟨R.val / 256, by omega⟩ ⟨R.val % 256, by omega⟩ k)
        else val_main_v51 (F := Ideal) A0 A1 A2 (ix3 ⟨(R.val - 8192) / 1024, by omega⟩ ⟨(R.val - 8192) % 1024, by omega⟩ k) := by
    pointwise [val_main_v55, val_main_v54, val_main_v53, val_main_v52]
  rw [e]
  unfold valAt
  by_cases h : R.val < 8192
  · have hc : condOf R = 0 := Fin.ext (if_pos h)
    have hx : (fun e => val_main_v11 (F := Ideal) A0 (ix3 ⟨R.val / 256, by omega⟩ ⟨R.val % 256, by omega⟩ e)) = fun e => A0 (ix2 R e) :=
      funext fun e => x_prompt A0 R ⟨R.val / 256, by omega⟩ ⟨R.val % 256, by omega⟩ (show R.val = R.val / 256 * 256 + R.val % 256 by omega) e
    rw [dif_pos h, ref_prompt, hc, hx]
  · have hc : condOf R = ⟨1 + (R.val - 8192) / 1024, by omega⟩ := Fin.ext (if_neg h)
    have hx : (fun e => val_main_v13 (F := Ideal) A0 (ix3 ⟨(R.val - 8192) / 1024, by omega⟩ ⟨(R.val - 8192) % 1024, by omega⟩ e)) = fun e => A0 (ix2 R e) :=
      funext fun e => x_latent A0 R ⟨(R.val - 8192) / 1024, by omega⟩ ⟨(R.val - 8192) % 1024, by omega⟩
        (show R.val = 8192 + ((R.val - 8192) / 1024 * 1024 + (R.val - 8192) % 1024) by omega) e
    rw [dif_neg h, ref_latent, hc, hx]

end Cert.Proof.Norm2

end
-- ==== Proof.Glu.lean ====
/- The gate at the end of the first layer's state-space mixer: one grid point's block, the result array the blocks fill,
   and the reference's result, each index by index; the two arrays are equal on every argument. -/
module

public import proofs.«01_k».proof.Proof.Gen.Kernel13Ideal.Value
public import proofs.«01_k».proof.Proof.Gen.Reference13Ideal.Read
public import Idealize.ShloMosaic.Lib.StableHlo.ReadAt
public import Idealize.ShloMosaic.Lib.Pointwise

@[expose] public section

set_option maxRecDepth 16384

noncomputable section

namespace Cert.Proof.Glu

open Idealize.ShloMosaic Idealize.ShloMosaic.TcCoe Idealize.ShloMosaic.Tactic Idealize.SL.Sem Cert.Kernel13Ideal Cert.Kernel13Ideal.Gen
open Idealize.ShloMosaic.Pointwise
open Idealize.ShloMosaic.Pipeline (Dat)

/-- A row's number at column `k` times the logistic of the row's product with a column `w` of weights plus an offset `b`. -/
def gateAt (a w : Fin 2048 → EReal) (b : EReal) (k : Fin 2048) : EReal :=
  a k * Ideal.div 1 (1 + Ideal.exp (-((∑ e, a e * w e) + b)))

/-- The value a grid point of the prompt rows stores, element by element. -/
theorem pay1_apply (x : Vec Ideal S1024x2048 .f32) (w : Vec Ideal S2048x2048 .bf16) (b : Vec Ideal S1x2048 .f32) (r : Fin 1024) (k : Fin 2048) :
    k0_pay1 x w b (ix2 r k) = gateAt (fun e => x (ix2 r e)) (fun e => w (ix2 e k)) (b (ix2 0 k)) k := by
  unfold gateAt
  pointwise [k0_pay1]
  rw [zero_sub]

/-- The value a grid point of the latent rows stores, element by element. -/
theorem pay2_apply (x : Vec Ideal S1024x2048 .f32) (w : Vec Ideal S2048x2048 .bf16) (b : Vec Ideal S1x2048 .f32) (r : Fin 1024) (k : Fin 2048) :
    k0_pay2 x w b (ix2 r k) = gateAt (fun e => x (ix2 r e)) (fun e => w (ix2 e k)) (b (ix2 0 k)) k := by
  unfold gateAt
  pointwise [k0_pay2]
  rw [zero_sub]

/-- A grid point of the prompt rows: what it leaves is one stored value. -/
theorem out_A (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S1024x2048 .bf16) (harg6 : arg6.IsWhole) (hc0 : cond0_0 i) (hc1 : ¬cond0_1 i)
    (x0 x1 : Vec Ideal S1024x2048 .f32) (x2 : Vec Ideal S2048x2048 .bf16) (x3 : Vec Ideal S1x2048 .f32) :
    out0_A_4 c i arg2 harg2 arg3 harg3 arg4 harg4 arg5 harg5 arg6 harg6 hc0 hc1 x0 x1 x2 x3 = View.canon [⟨Rect.unit (s := S1024x2048) ![0, 0] S1024x2048.size inb_S1024x2048_S1024x2048_0_0,
      k0_pay1 (View.ld x0 (Rect.unit (s := S1024x2048) ![0, 0] S1024x2048.size inb_S1024x2048_S1024x2048_0_0))
        (View.ld x2 (Rect.unit (s := S2048x2048) ![0, 0] S2048x2048.size inb_S2048x2048_S2048x2048_0_0))
        (View.ld x3 (Rect.unit (s := S1x2048) ![0, 0] S1x2048.size inb_S1x2048_S1x2048_0_0))⟩] := by
  unfold out0_A_4
  rw [View.read_writes_eq_canon _ _ _ (cover0_A_4 c i arg2 harg2 arg3 harg3 arg4 harg4 arg5 harg5 arg6 harg6 hc0 hc1 x0 x1 x2 x3)]
  unfold kernelRun0_A
  dsimp only
  sl_unfold_words
  simp only [View.readAt_eq_ld, harg2.read_unread, harg4.read_unread, harg5.read_unread]

/-- A grid point of the latent rows: what it leaves is one stored value. -/
theorem out_B (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S1024x2048 .bf16) (harg6 : arg6.IsWhole) (hc0 : ¬cond0_0 i) (hc1 : cond0_1 i)
    (x0 x1 : Vec Ideal S1024x2048 .f32) (x2 : Vec Ideal S2048x2048 .bf16) (x3 : Vec Ideal S1x2048 .f32) :
    out0_B_4 c i arg2 harg2 arg3 harg3 arg4 harg4 arg5 harg5 arg6 harg6 hc0 hc1 x0 x1 x2 x3 = View.canon [⟨Rect.unit (s := S1024x2048) ![0, 0] S1024x2048.size inb_S1024x2048_S1024x2048_0_0,
      k0_pay2 (View.ld x1 (Rect.unit (s := S1024x2048) ![0, 0] S1024x2048.size inb_S1024x2048_S1024x2048_0_0))
        (View.ld x2 (Rect.unit (s := S2048x2048) ![0, 0] S2048x2048.size inb_S2048x2048_S2048x2048_0_0))
        (View.ld x3 (Rect.unit (s := S1x2048) ![0, 0] S1x2048.size inb_S1x2048_S1x2048_0_0))⟩] := by
  unfold out0_B_4
  rw [View.read_writes_eq_canon _ _ _ (cover0_B_4 c i arg2 harg2 arg3 harg3 arg4 harg4 arg5 harg5 arg6 harg6 hc0 hc1 x0 x1 x2 x3)]
  unfold kernelRun0_B
  dsimp only
  sl_unfold_words
  simp only [View.readAt_eq_ld, harg3.read_unread, harg4.read_unread, harg5.read_unread]

/-- One stored value over the whole block, element by element. -/
theorem canon_apply (P : FVec Ideal S1024x2048 .bf16) (r : Fin 1024) (k : Fin 2048) :
    View.canon (Val := Elt Ideal) (e := .bf16) [⟨Rect.unit (s := S1024x2048) ![0, 0] S1024x2048.size inb_S1024x2048_S1024x2048_0_0, P⟩] (ix2 r k)
      = P (ix2 r k) := by
  refine View.canon_apply_of_pieces (Val := Elt Ideal) (e := .bf16) (fun i : S1024x2048.Idx => P i) _ (fun p hp j => ?_) _
    (View.cover_of_tiled (Val := Elt Ideal) (e := .bf16) [⟨Rect.unit (s := S1024x2048) ![0, 0] S1024x2048.size inb_S1024x2048_S1024x2048_0_0, P⟩] S1024x2048.size (by rfl) _)
  simp only [List.mem_cons, List.not_mem_nil, or_false] at hp
  subst hp
  obtain ⟨r, k, rfl⟩ : ∃ (r : Fin 1024) (k : Fin 2048), j = (ix2 r k : S1024x2048.Idx) := ⟨j 0, j 1, ValueIdx.eq_ix2 j⟩
  refine congrArg P ?_
  funext a
  match a with
  | ⟨0, _⟩ => exact Fin.ext (show r.val = 0 + 1 * r.val by omega)
  | ⟨1, _⟩ => exact Fin.ext (show k.val = 0 + 1 * k.val by omega)

/-- A row of the two arrays one below the other: the prompt rows come first, then the latent rows. -/
def rowAt (X : Vec Ideal S8192x2048 .f32) (Y : Vec Ideal S4096x2048 .f32) (R : Fin 12288) (e : Fin 2048) : EReal :=
  if h : R.val < 8192 then X (ix2 ⟨R.val, h⟩ e) else Y (ix2 ⟨R.val - 8192, by omega⟩ e)

/-- The number at row `R`, column `k`. -/
def valAt (X : Vec Ideal S8192x2048 .f32) (Y : Vec Ideal S4096x2048 .f32) (W : Vec Ideal S2048x2048 .f32) (B : Vec Ideal S2048 .f32)
    (R : Fin 12288) (k : Fin 2048) : EReal :=
  gateAt (rowAt X Y R) (fun e => W (ix2 e k)) (B (ix1 k)) k

/-- The element at row `r`, column `k` of a block of prompt rows from the blocks it is computed from. -/
theorem block_A (x0 : Vec Ideal S1024x2048 .f32) (x2 : Vec Ideal S2048x2048 .bf16) (x3 : Vec Ideal S1x2048 .f32) (r : Fin 1024) (k : Fin 2048) :
    k0_pay1 (View.ld x0 (Rect.unit (s := S1024x2048) ![0, 0] S1024x2048.size inb_S1024x2048_S1024x2048_0_0))
        (View.ld x2 (Rect.unit (s := S2048x2048) ![0, 0] S2048x2048.size inb_S2048x2048_S2048x2048_0_0))
        (View.ld x3 (Rect.unit (s := S1x2048) ![0, 0] S1x2048.size inb_S1x2048_S1x2048_0_0)) (ix2 r k)
      = gateAt (fun e => x0 (ix2 r e)) (fun e => x2 (ix2 e k)) (x3 (ix2 0 k)) k := by
  refine (pay1_apply _ _ _ r k).trans ?_
  unfold gateAt
  pointwise []

/-- The element at row `r`, column `k` of a block of latent rows from the blocks it is computed from. -/
theorem block_B (x1 : Vec Ideal S1024x2048 .f32) (x2 : Vec Ideal S2048x2048 .bf16) (x3 : Vec Ideal S1x2048 .f32) (r : Fin 1024) (k : Fin 2048) :
    k0_pay2 (View.ld x1 (Rect.unit (s := S1024x2048) ![0, 0] S1024x2048.size inb_S1024x2048_S1024x2048_0_0))
        (View.ld x2 (Rect.unit (s := S2048x2048) ![0, 0] S2048x2048.size inb_S2048x2048_S2048x2048_0_0))
        (View.ld x3 (Rect.unit (s := S1x2048) ![0, 0] S1x2048.size inb_S1x2048_S1x2048_0_0)) (ix2 r k)
      = gateAt (fun e => x1 (ix2 r e)) (fun e => x2 (ix2 e k)) (x3 (ix2 0 k)) k := by
  refine (pay2_apply _ _ _ r k).trans ?_
  unfold gateAt
  pointwise []

variable (m : (ℓ : Loc nD τ sig) → Buf (Elt Ideal) ℓ)

/-- The result array as one function of the arguments. -/
def result (c : Dev nD) : Buf (Elt Ideal) ((c : Thread nD τ).loc main_v2) := fun i : S12288x2048.Idx =>
  valAt (m ((c : Thread nD τ).loc main_arg0)) (m ((c : Thread nD τ).loc main_arg1)) (m ((c : Thread nD τ).loc main_arg2))
    (m ((c : Thread nD τ).loc main_arg3)) (i 0) (i 1)

/-- Where each window's block lies at point `t`: block row `t`, the first 8 of them the prompt rows'. -/
theorem idx_facts : ∀ t : Fin cfg0.N,
    ((t.val < 8 → win0_0.index t 0 = t.val) ∧ win0_0.index t 1 = 0)
    ∧ ((8 ≤ t.val → win0_1.index t 0 = t.val - 8) ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0) := by
  decide +kernel

/-- The grid has 12 points. -/
theorem lt_N (t : Fin cfg0.N) : t.val < 12 := t.isLt

/-- The prompt rows' block at point `t`, one of the first 8. -/
theorem read0 (c : Dev nD) (t : Fin cfg0.N) (ht : t.val < 8) (r : Fin 1024) (k : Fin 2048) : iblk m c 0 t (ix2 r k)
    = m ((c : Thread nD τ).loc main_arg0) (ix2 ⟨t.val * 1024 + r.val, by omega⟩ k) := by
  obtain ⟨⟨h0, h1⟩, -⟩ := idx_facts t
  unfold iblk
  rw [View.read_apply]
  show V m c main_arg0 _ = _
  rw [V_main_arg0]
  congr 1
  funext a
  apply Fin.ext
  match a with
  | ⟨0, _⟩ => show win0_0.index t 0 * 1024 + 1 * r.val = t.val * 1024 + r.val; rw [h0 ht]; omega
  | ⟨1, _⟩ => show win0_0.index t 1 * 2048 + 1 * k.val = k.val; rw [h1]; omega

/-- The latent rows' block at point `t`, one of the last 4. -/
theorem read1 (c : Dev nD) (t : Fin cfg0.N) (ht : 8 ≤ t.val) (r : Fin 1024) (k : Fin 2048) : iblk m c 1 t (ix2 r k)
    = m ((c : Thread nD τ).loc main_arg1) (ix2 ⟨t.val * 1024 + r.val - 8192, by have := lt_N t; omega⟩ k) := by
  obtain ⟨-, ⟨h0, h1⟩, -⟩ := idx_facts t
  unfold iblk
  rw [View.read_apply]
  show V m c main_arg1 _ = _
  rw [V_main_arg1]
  congr 1
  funext a
  apply Fin.ext
  match a with
  | ⟨0, _⟩ => show win0_1.index t 0 * 1024 + 1 * r.val = t.val * 1024 + r.val - 8192; rw [h0 ht]; omega
  | ⟨1, _⟩ => show win0_1.index t 1 * 2048 + 1 * k.val = k.val; rw [h1]; omega

/-- The weights' block is the whole array. -/
theorem read2 (c : Dev nD) (t : Fin cfg0.N) (e k : Fin 2048) : iblk m c 2 t (ix2 e k)
    = m ((c : Thread nD τ).loc main_arg2) (ix2 e k) := by
  obtain ⟨-, -, ⟨h0, h1⟩, -⟩ := idx_facts t
  have hw : ∀ e k : Fin 2048, V m c main_v0 (ix2 e k) = m ((c : Thread nD τ).loc main_arg2) (ix2 e k) := fun e k => by
    unfold V
    after_reads_at
  rw [← hw]
  unfold iblk
  rw [View.read_apply]
  show V m c main_v0 _ = _
  congr 1
  funext a
  apply Fin.ext
  match a with
  | ⟨0, _⟩ => show win0_2.index t 0 * 2048 + 1 * e.val = e.val; rw [h0]; omega
  | ⟨1, _⟩ => show win0_2.index t 1 * 2048 + 1 * k.val = k.val; rw [h1]; omega

/-- The offsets' block is the whole row. -/
theorem read3 (c : Dev nD) (t : Fin cfg0.N) (k : Fin 2048) : iblk m c 3 t (ix2 0 k)
    = m ((c : Thread nD τ).loc main_arg3) (ix1 k) := by
  obtain ⟨-, -, -, ⟨h0, h1⟩, -⟩ := idx_facts t
  have hw : ∀ k : Fin 2048, V m c main_v1 (ix2 0 k) = m ((c : Thread nD τ).loc main_arg3) (ix1 k) := fun k => by
    unfold V
    after_reads_at
  rw [← hw]
  unfold iblk
  rw [View.read_apply]
  show V m c main_v1 _ = _
  congr 1
  funext a
  apply Fin.ext
  match a with
  | ⟨0, _⟩ => show win0_3.index t 0 * 1 + 1 * 0 = 0; rw [h0]
  | ⟨1, _⟩ => show win0_3.index t 1 * 2048 + 1 * k.val = k.val; rw [h1]; omega

/-- What point `t` leaves, element by element. -/
theorem outs_apply (c : Dev nD) (t : Fin cfg0.N) (r : Fin 1024) (k : Fin 2048) : outsAt0 m c t.val t.isLt (ix2 r k)
    = valAt (m ((c : Thread nD τ).loc main_arg0)) (m ((c : Thread nD τ).loc main_arg1)) (m ((c : Thread nD τ).loc main_arg2))
        (m ((c : Thread nD τ).loc main_arg3)) ⟨t.val * 1024 + r.val, by have := lt_N t; omega⟩ k := by
  unfold valAt
  have hw : (fun e => m ((c : Thread nD τ).loc main_arg2) (ix2 e k)) = fun e => iblk m c 2 t (ix2 e k) := by
    funext e
    rw [read2]
  rw [hw, ← read3 m c t k]
  by_cases ht : t.val < 8
  · have hr : rowAt (m ((c : Thread nD τ).loc main_arg0)) (m ((c : Thread nD τ).loc main_arg1)) ⟨t.val * 1024 + r.val, by have := lt_N t; omega⟩
        = fun e => iblk m c 0 t (ix2 r e) := by
      funext e
      rw [read0 m c t ht]
      exact dif_pos (show t.val * 1024 + r.val < 8192 by omega)
    rw [hr, outsAt0_A m c t ht (by omega)]
    exact (congrFun (out_A c _ _ _ _ _ _ _ _ _ _ _ _ _ _ _ _ _) _).trans ((canon_apply _ r k).trans (block_A _ _ _ r k))
  · have hr : rowAt (m ((c : Thread nD τ).loc main_arg0)) (m ((c : Thread nD τ).loc main_arg1)) ⟨t.val * 1024 + r.val, by have := lt_N t; omega⟩
        = fun e => iblk m c 1 t (ix2 r e) := by
      funext e
      rw [read1 m c t (by omega)]
      exact dif_neg (show ¬ t.val * 1024 + r.val < 8192 by omega)
    rw [hr, outsAt0_B m c t ht (by omega)]
    exact (congrFun (out_B c _ _ _ _ _ _ _ _ _ _ _ _ _ _ _ _ _) _).trans ((canon_apply _ r k).trans (block_B _ _ _ r k))

/-- What point `t` writes back is its block of `result`. -/
theorem flushed_eq (c : Dev nD) (t : Fin cfg0.N) :
    (dats m 0 c).flushed 4 t = ((cfg0.win 4).blk t).view.read (Elt Ideal) (result m c) := by
  obtain ⟨-, -, -, -, h0, h1⟩ := idx_facts t
  have hN := lt_N t
  rw [Cert.Kernel13Ideal.Value.flushed4]
  funext j
  rw [View.read_apply]
  obtain ⟨r, k, rfl⟩ : ∃ (r : Fin 1024) (k : Fin 2048), j = (ix2 r k : S1024x2048.Idx) := ⟨j 0, j 1, ValueIdx.eq_ix2 j⟩
  refine (outs_apply m c t r k).trans ?_
  show _ = result m c _
  unfold result
  refine congr (congrArg (valAt _ _ _ _) ?_) ?_
  · exact Fin.ext (show t.val * 1024 + r.val = win0_4.index t 0 * 1024 + 1 * r.val by rw [h0]; omega)
  · exact Fin.ext (show k.val = win0_4.index t 1 * 2048 + 1 * k.val by rw [h1]; omega)

/-- The point whose block holds index `i`. -/
theorem covered (i : S12288x2048.Idx) : ∃ t : Fin cfg0.N, (cfg0.win 4).flush t = true ∧ i ∈ ((cfg0.win 4).blk t).view.set := by
  have b0 : (i 0 : Nat) < 12288 := (i 0).isLt
  have b1 : (i 1 : Nat) < 2048 := (i 1).isLt
  let t : Fin cfg0.N := ⟨(i 0 : Nat) / 1024, by show _ < 12; omega⟩
  have ht : t.val = (i 0 : Nat) / 1024 := rfl
  obtain ⟨-, -, -, -, h0, h1⟩ := idx_facts t
  refine ⟨t, flush0_4 t, ?_⟩
  show i ∈ ((View.whole main_v2).slice (win0_4.rect t)).set
  rw [View.set_slice_whole, Rect.mem_set_unit]
  intro a
  match a with
  | ⟨0, _⟩ => show win0_4.index t 0 * 1024 ≤ (i 0 : Nat) ∧ (i 0 : Nat) < win0_4.index t 0 * 1024 + 1024; rw [h0]; omega
  | ⟨1, _⟩ => show win0_4.index t 1 * 2048 ≤ (i 1 : Nat) ∧ (i 1 : Nat) < win0_4.index t 1 * 2048 + 2048; rw [h1]; omega

/-- The result array ends holding `result`. -/
theorem final_eq (c : Dev nD) : (dats m 0 c).arrAt 4 cfg0.N = result m c :=
  (dats m 0 c).arrAt_eq_of_cover 4 (result m c) (fun t _ => flushed_eq m c t) covered

open Cert.Reference13Ideal.Read in
/-- The reference's rows, one array below the other, element by element. -/
theorem rows_apply (A0 : Vec Ideal S8192x2048 .f32) (A1 : Vec Ideal S4096x2048 .f32) (R : Fin 12288) (e : Fin 2048) :
    val_main_v0 (F := Ideal) A0 A1 (ix2 R e) = rowAt A0 A1 R e := by
  unfold rowAt
  pointwise [val_main_v0]

open Cert.Reference13Ideal.Read in
/-- The reference's result, element by element. -/
theorem ref_eq (A0 : Vec Ideal S8192x2048 .f32) (A1 : Vec Ideal S4096x2048 .f32) (A2 : Vec Ideal S2048x2048 .f32) (A3 : Vec Ideal S2048 .f32)
    (r : Fin 12288) (c : Fin 2048) :
    val_main_v12 (F := Ideal) A0 A1 A2 A3 (ix2 r c) = valAt A0 A1 A2 A3 r c := by
  unfold valAt gateAt
  pointwise [val_main_v12, val_main_v11, val_main_v10, val_main_v9, val_main_cst_0, val_main_v8, val_main_v7, val_main_cst, val_main_v6, val_main_v5,
    val_main_v4, val_main_v3, val_main_v2, val_main_v1]
  simp only [rows_apply]

end Cert.Proof.Glu

end
-- ==== Proof.lean ====
/- The claims about the attention, the products that make its queries and the cached context's keys and values, the
   feed-forward part's norm and two products, both layers' input and output projections, the state-space mixer's gate
   and the final norm: each program runs, keeps its arguments and ends with its counters at zero, and each kernel's
   results are its reference's (the attention's on finite arguments). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel13
public import proofs.«01_k».proof.Proof.Gen.Kernel12.Skeleton
public import proofs.«01_k».proof.Proof.Gen.Kernel13.Skeleton
public import proofs.«01_k».proof.Proof.Gen.Kernel12.Launch
public import proofs.«01_k».proof.Proof.Gen.Kernel13.Launch
public import proofs.«01_k».proof.Proof.Gen.Kernel12.Points
public import proofs.«01_k».proof.Proof.Gen.Kernel13.Points
public import proofs.«01_k».proof.Proof.Gen.Kernel12.Frame
public import proofs.«01_k».proof.Proof.Gen.Kernel13.Frame
public import proofs.«01_k».proof.Proof.Gen.Kernel12Ideal
public import proofs.«01_k».proof.Proof.Gen.Kernel13Ideal
public import proofs.«01_k».proof.Proof.Gen.Kernel12Ideal.Skeleton
public import proofs.«01_k».proof.Proof.Gen.Kernel13Ideal.Skeleton
public import proofs.«01_k».proof.Proof.Gen.Kernel12Ideal.Launch
public import proofs.«01_k».proof.Proof.Gen.Kernel13Ideal.Launch
public import proofs.«01_k».proof.Proof.Gen.Kernel12Ideal.Points
public import proofs.«01_k».proof.Proof.Gen.Kernel13Ideal.Points
public import proofs.«01_k».proof.Proof.Gen.Kernel12Ideal.Frame
public import proofs.«01_k».proof.Proof.Gen.Kernel13Ideal.Frame
public import proofs.«01_k».proof.Proof.Gen.Kernel12Ideal.Value
public import proofs.«01_k».proof.Proof.Gen.Kernel13Ideal.Value
public import proofs.«01_k».proof.Proof.Gen.Reference12Ideal
public import proofs.«01_k».proof.Proof.Gen.Reference13Ideal
public import proofs.«01_k».proof.Proof.Gen.Reference12Ideal.Run
public import proofs.«01_k».proof.Proof.Gen.Reference13Ideal.Run
public import proofs.«01_k».proof.Proof.Gen.Reference12Ideal.Read
public import proofs.«01_k».proof.Proof.Gen.Reference13Ideal.Read
public import proofs.«01_k».proof.Proof.Equal
public import proofs.«01_k».proof.Proof.Finite
public import proofs.«01_k».proof.Proof.UpRef
public import proofs.«01_k».proof.Proof.Down
public import proofs.«01_k».proof.Proof.InRun
public import proofs.«01_k».proof.Proof.InRef
public import proofs.«01_k».proof.Proof.OdRun
public import proofs.«01_k».proof.Proof.OdRef
public import proofs.«01_k».proof.Proof.Mix0Ref
public import proofs.«01_k».proof.Proof.Mix1Ref
public import proofs.«01_k».proof.Proof.EndP
public import proofs.«01_k».proof.Proof.EndS
public import proofs.«01_k».proof.Proof.QUp
public import proofs.«01_k».proof.Proof.CtxUp
public import proofs.«01_k».proof.Proof.Norm2
public import proofs.«01_k».proof.Proof.Glu
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments, and has no counters to leave raised. -/
theorem frame_r : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

open Cert.KernelIdeal in
/-- On real arguments the kernel's result array is the reference's. -/
theorem result_eq (m : (ℓ : Loc nD τ sig) → Buf (Elt Ideal) ℓ) (h : Cert.Pre_KernelIdeal_finite m) (c : Dev nD) :
    Cert.ReferenceIdeal.Read.val_main_v169 (m ((c : Thread nD τ).loc main_arg0)) (m ((c : Thread nD τ).loc main_arg1))
      (m ((c : Thread nD τ).loc main_arg2)) (m ((c : Thread nD τ).loc main_arg3)) (m ((c : Thread nD τ).loc main_arg4))
      = result m c := by
  obtain ⟨h0, h1, h2, h3, h4⟩ := args_real m h c
  funext i
  have hi : i = ValueIdx.ix3 (i 0) (i 1) (i 2) := ValueIdx.eq_ix3 i
  refine (congrArg _ hi).trans ((ref_eq _ _ _ _ _ (i 0) (i 1) (i 2)).trans ?_)
  exact (headOut_eq h0 h1 h2 h3 h4 _ _ _ _).symm

/-- On finite arguments both programs run, keep their arguments, and end with the same result. -/
theorem algebraic : Cert.algebraic_KernelIdeal_ReferenceIdeal_pre_finite := by
  intro m g m' g' hpre hargs
  refine ⟨result m, ?_, ?_⟩
  · exact (θ_run _ _ _).mono (fun r h c => ⟨(h c).1.trans (final_eq m c), (h c).2⟩) (Cert.KernelIdeal.Value.run_blocks m g)
  · refine (θ_run _ _ _).mono (fun r h c => ⟨(h c).1.trans ?_, (h c).2⟩) (Cert.ReferenceIdeal.Value.run (F := Ideal) m' g')
    refine (Cert.ReferenceIdeal.Read.val_main_v169_eq (StableHlo.launchContents m' c)).trans ?_
    obtain ⟨e0, e1, e2, e3, e4⟩ := hargs c
    refine Eq.trans ?_ (result_eq m hpre c)
    exact congr (congr (congr (congr (congrArg _ e0) e1) e2) e3) e4

/-- The reference runs, keeps its arguments, and has no counters to leave raised. -/
theorem frame_r2 : Cert.quiescent_Reference2Ideal := fun m g _ =>
  (θ_run (Cert.Reference2Ideal.defs (F := Ideal)) _ _).mono (fun r h => ⟨fun c => (h c).2, sem_eq_zero_of_no_sems (by decide) r.2⟩)
    (Cert.Reference2Ideal.Value.run (F := Ideal) m g)

open Cert.Kernel2Ideal in
/-- The first product's result array is the reference's. -/
theorem result_eq2 (m : (ℓ : Loc nD τ sig) → Buf (Elt Ideal) ℓ) (c : Dev nD) :
    Cert.Reference2Ideal.Read.val_main_v66 (F := Ideal) (m ((c : Thread nD τ).loc main_arg0)) (m ((c : Thread nD τ).loc main_arg1)) (m ((c : Thread nD τ).loc main_arg2)) (m ((c : Thread nD τ).loc main_arg3))
      = Up.result m c := by
  funext i
  have hi : i = ValueIdx.ix2 (i 0) (i 1) := ValueIdx.eq_ix2 i
  exact (congrArg _ hi).trans (Up.ref_eq _ _ _ _ (i 0) (i 1))

/-- The first product's two programs run, keep their arguments, and end with the same result. -/
theorem algebraic2 : Cert.algebraic_Kernel2Ideal_Reference2Ideal := by
  intro m g m' g' _ hargs
  refine ⟨Up.result m, ?_, ?_⟩
  · exact (θ_run _ _ _).mono (fun r h c => ⟨(h c).1.trans (Up.final_eq m c), (h c).2⟩) (Cert.Kernel2Ideal.Value.run_blocks m g)
  · refine (θ_run _ _ _).mono (fun r h c => ⟨(h c).1.trans ?_, (h c).2⟩) (Cert.Reference2Ideal.Value.run (F := Ideal) m' g')
    refine (Cert.Reference2Ideal.Read.val_main_v66_eq m' c).trans ?_
    obtain ⟨e0, e1, e2, e3⟩ := hargs c
    refine Eq.trans ?_ (result_eq2 m c)
    exact congr (congr (congr (congrArg _ e0) e1) e2) e3

/-- The reference runs, keeps its arguments, and has no counters to leave raised. -/
theorem frame_r3 : Cert.quiescent_Reference3Ideal := fun m g _ =>
  (θ_run (Cert.Reference3Ideal.defs (F := Ideal)) _ _).mono (fun r h => ⟨fun c => (h c).2, sem_eq_zero_of_no_sems (by decide) r.2⟩)
    (Cert.Reference3Ideal.Value.run (F := Ideal) m g)

open Cert.Kernel3Ideal in
/-- The second product's result array is the reference's. -/
theorem result_eq3 (m : (ℓ : Loc nD τ sig) → Buf (Elt Ideal) ℓ) (c : Dev nD) :
    Cert.Reference3Ideal.Read.val_main_v22 (F := Ideal) (m ((c : Thread nD τ).loc main_arg0)) (m ((c : Thread nD τ).loc main_arg1)) (m ((c : Thread nD τ).loc main_arg2)) (m ((c : Thread nD τ).loc main_arg3))
      = Down.result m c := by
  funext i
  have hi : i = ValueIdx.ix2 (i 0) (i 1) := ValueIdx.eq_ix2 i
  exact (congrArg _ hi).trans (Down.ref_eq _ _ _ _ (i 0) (i 1))

/-- The second product's two programs run, keep their arguments, and end with the same result. -/
theorem algebraic3 : Cert.algebraic_Kernel3Ideal_Reference3Ideal := by
  intro m g m' g' _ hargs
  refine ⟨Down.result m, ?_, ?_⟩
  · exact (θ_run _ _ _).mono (fun r h c => ⟨(h c).1.trans (Down.final_eq m c), (h c).2⟩) (Cert.Kernel3Ideal.Value.run_blocks m g)
  · refine (θ_run _ _ _).mono (fun r h c => ⟨(h c).1.trans ?_, (h c).2⟩) (Cert.Reference3Ideal.Value.run (F := Ideal) m' g')
    refine (Cert.Reference3Ideal.Read.val_main_v22_eq _ _ _ _).trans ?_
    obtain ⟨e0, e1, e2, e3⟩ := hargs c
    refine Eq.trans ?_ (result_eq3 m c)
    exact congr (congr (congr (congrArg _ e0) e1) e2) e3

/-- The reference runs, keeps its arguments, and has no counters to leave raised. -/
theorem frame_r4 : Cert.quiescent_Reference4Ideal := fun m g _ =>
  (θ_run (Cert.Reference4Ideal.defs (F := Ideal)) _ _).mono (fun r h => ⟨fun c => (h c).2.2.2.2.2.2, sem_eq_zero_of_no_sems (by decide) r.2⟩)
    (Cert.Reference4Ideal.Value.run (F := Ideal) m g)

open Cert.Kernel4Ideal in
/-- The input projection's convolution's inputs are the reference's. -/
theorem result_u4 (m : (ℓ : Loc nD τ sig) → Buf (Elt Ideal) ℓ) (c : Dev nD) :
    Cert.Reference4Ideal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      = In.Chain.resU m c := by
  funext i
  have hi : i = ValueIdx.ix2 (i 0) (i 1) := ValueIdx.eq_ix2 i
  exact (congrArg _ hi).trans (In.Ref.u_both (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1))

open Cert.Kernel4Ideal in
/-- The input projection's queries are the reference's. -/
theorem result_q4 (m : (ℓ : Loc nD τ sig) → Buf (Elt Ideal) ℓ) (c : Dev nD) :
    Cert.Reference4Ideal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      = In.Chain.resQ m c := by
  funext i
  have hi : i = ValueIdx.ix2 (i 0) (i 1) := ValueIdx.eq_ix2 i
  exact (congrArg _ hi).trans (In.Ref.q_both (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1))

open Cert.Kernel4Ideal in
/-- The input projection's prompts' keys are the reference's. -/
theorem result_k4 (m : (ℓ : Loc nD τ sig) → Buf (Elt Ideal) ℓ) (c : Dev nD) :
    Cert.Reference4Ideal.Read.val_main_v37 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))
      = In.Chain.resK m c := by
  funext i
  have hi : i = ValueIdx.ix4 (i 0) (i 1) (i 2) (i 3) := ValueIdx.eq_ix4 i
  exact (congrArg _ hi).trans (In.Ref.k_prompt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2) (i 3))

open Cert.Kernel4Ideal in
/-- The input projection's prompts' values are the reference's. -/
theorem result_v4 (m : (ℓ : Loc nD τ sig) → Buf (Elt Ideal) ℓ) (c : Dev nD) :
    Cert.Reference4Ideal.Read.val_main_v39 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))
      = In.Chain.resW m c := by
  funext i
  have hi : i = ValueIdx.ix4 (i 0) (i 1) (i 2) (i 3) := ValueIdx.eq_ix4 i
  exact (congrArg _ hi).trans (In.Ref.v_prompt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2) (i 3))

open Cert.Kernel4Ideal in
/-- The input projection's latent sequences' keys are the reference's. -/
theorem result_kl4 (m : (ℓ : Loc nD τ sig) → Buf (Elt Ideal) ℓ) (c : Dev nD) :
    Cert.Reference4Ideal.Read.val_main_v77 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))
      = In.Chain.resKL m c := by
  funext i
  have hi : i = ValueIdx.ix4 (i 0) (i 1) (i 2) (i 3) := ValueIdx.eq_ix4 i
  exact (congrArg _ hi).trans (In.Ref.k_latent (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2) (i 3))

open Cert.Kernel4Ideal in
/-- The input projection's latent sequences' values are the reference's. -/
theorem result_vl4 (m : (ℓ : Loc nD τ sig) → Buf (Elt Ideal) ℓ) (c : Dev nD) :
    Cert.Reference4Ideal.Read.val_main_v79 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))
      = In.Chain.resWL m c := by
  funext i
  have hi : i = ValueIdx.ix4 (i 0) (i 1) (i 2) (i 3) := ValueIdx.eq_ix4 i
  exact (congrArg _ hi).trans (In.Ref.v_latent (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2) (i 3))

/-- The input projection's two programs run, keep their arguments, and end with the same six results. -/
theorem algebraic4 : Cert.algebraic_Kernel4Ideal_Reference4Ideal := by
  intro m g m' g' _ hargs
  refine ⟨In.Chain.resU m, In.Chain.resQ m, In.Chain.resK m, In.Chain.resW m, In.Chain.resKL m, In.Chain.resWL m, ?_, ?_⟩
  · exact (θ_run _ _ _).mono (fun r h c => h.1 c) (In.Chain.run_all m g)
  · refine (θ_run _ _ _).mono (fun r h c => ?_) (Cert.Reference4Ideal.Value.run (F := Ideal) m' g')
    obtain ⟨e0, e1, e2, e3, e4, e5, e6, e7⟩ := hargs c
    obtain ⟨h0, h1, h2, h3, h4, h5, hrest⟩ := h c
    refine ⟨h0.trans ((Cert.Reference4Ideal.Read.val_main_v82_eq m' c).trans (Eq.trans ?_ (result_u4 m c))), h1.trans ((Cert.Reference4Ideal.Read.val_main_v86_eq m' c).trans (Eq.trans ?_ (result_q4 m c))), h2.trans ((Cert.Reference4Ideal.Read.val_main_v37_eq _ _ _ _ _ _).trans (Eq.trans ?_ (result_k4 m c))),
      h3.trans ((Cert.Reference4Ideal.Read.val_main_v39_eq _ _ _ _ _ _).trans (Eq.trans ?_ (result_v4 m c))), h4.trans ((Cert.Reference4Ideal.Read.val_main_v77_eq _ _ _ _ _ _).trans (Eq.trans ?_ (result_kl4 m c))), h5.trans ((Cert.Reference4Ideal.Read.val_main_v79_eq _ _ _ _ _ _).trans (Eq.trans ?_ (result_vl4 m c))), hrest⟩
    · exact congr (congr (congr (congr (congr (congr (congr (congrArg _ e0) e1) e2) e3) e4) e5) e6) e7
    · exact congr (congr (congr (congr (congr (congr (congr (congrArg _ e0) e1) e2) e3) e4) e5) e6) e7
    · exact congr (congr (congr (congr (congr (congrArg _ e0) e3) e4) e5) e6) e7
    · exact congr (congr (congr (congr (congr (congrArg _ e0) e3) e4) e5) e6) e7
    · exact congr (congr (congr (congr (congr (congrArg _ e1) e2) e4) e5) e6) e7
    · exact congr (congr (congr (congr (congr (congrArg _ e1) e2) e4) e5) e6) e7

/-- The reference runs, keeps its arguments, and has no counters to leave raised. -/
theorem frame_r5 : Cert.quiescent_Reference5Ideal := fun m g _ =>
  (θ_run (Cert.Reference5Ideal.defs (F := Ideal)) _ _).mono (fun r h => ⟨fun c => (h c).2.2.2.2.2.2.2.2.2, sem_eq_zero_of_no_sems (by decide) r.2⟩)
    (Cert.Reference5Ideal.Value.run (F := Ideal) m g)

open Cert.Kernel5Ideal in
/-- The second layer's input projection's prompts' normalised low-rank parts are the reference's. -/
theorem result_ckv5 (m : (ℓ : Loc nD τ sig) → Buf (Elt Ideal) ℓ) (c : Dev nD) :
    Cert.Reference5Ideal.Read.val_main_v55 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      = Odd.Chain.resCkv m c := by
  funext i
  have hi : i = ValueIdx.ix3 (i 0) (i 1) (i 2) := ValueIdx.eq_ix3 i
  exact (congrArg _ hi).trans (Odd.Ref.ckv_prompt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _ (i 0) (i 1) rfl (i 2))

open Cert.Kernel5Ideal in
/-- The second layer's input projection's prompts' position columns are the reference's. -/
theorem result_kpe5 (m : (ℓ : Loc nD τ sig) → Buf (Elt Ideal) ℓ) (c : Dev nD) :
    Cert.Reference5Ideal.Read.val_main_v38 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))
      = Odd.Chain.resKpe m c := by
  funext i
  have hi : i = ValueIdx.ix3 (i 0) (i 1) (i 2) := ValueIdx.eq_ix3 i
  exact (congrArg _ hi).trans (Odd.Ref.kpe_prompt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2))

open Cert.Kernel5Ideal in
/-- The second layer's input projection's prompts' keys are the reference's. -/
theorem result_k5 (m : (ℓ : Loc nD τ sig) → Buf (Elt Ideal) ℓ) (c : Dev nD) :
    Cert.Reference5Ideal.Read.val_main_v57 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))
      = Odd.Chain.resK m c := by
  funext i
  have hi : i = ValueIdx.ix4 (i 0) (i 1) (i 2) (i 3) := ValueIdx.eq_ix4 i
  exact (congrArg _ hi).trans (Odd.Ref.k_prompt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2) (i 3))

open Cert.Kernel5Ideal in
/-- The second layer's input projection's prompts' values are the reference's. -/
theorem result_v5 (m : (ℓ : Loc nD τ sig) → Buf (Elt Ideal) ℓ) (c : Dev nD) :
    Cert.Reference5Ideal.Read.val_main_v59 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))
      = Odd.Chain.resW m c := by
  funext i
  have hi : i = ValueIdx.ix4 (i 0) (i 1) (i 2) (i 3) := ValueIdx.eq_ix4 i
  exact (congrArg _ hi).trans (Odd.Ref.v_prompt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2) (i 3))

open Cert.Kernel5Ideal in
/-- The second layer's input projection's latent sequences' keys are the reference's. -/
theorem result_kl5 (m : (ℓ : Loc nD τ sig) → Buf (Elt Ideal) ℓ) (c : Dev nD) :
    Cert.Reference5Ideal.Read.val_main_v113 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
      = Odd.Chain.resKL m c := by
  funext i
  have hi : i = ValueIdx.ix4 (i 0) (i 1) (i 2) (i 3) := ValueIdx.eq_ix4 i
  exact (congrArg _ hi).trans (Odd.Ref.k_latent (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2) (i 3))

open Cert.Kernel5Ideal in
/-- The second layer's input projection's latent sequences' values are the reference's. -/
theorem result_vl5 (m : (ℓ : Loc nD τ sig) → Buf (Elt Ideal) ℓ) (c : Dev nD) :
    Cert.Reference5Ideal.Read.val_main_v115 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
      = Odd.Chain.resWL m c := by
  funext i
  have hi : i = ValueIdx.ix4 (i 0) (i 1) (i 2) (i 3) := ValueIdx.eq_ix4 i
  exact (congrArg _ hi).trans (Odd.Ref.v_latent (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2) (i 3))

open Cert.Kernel5Ideal in
/-- The second layer's input projection's queries are the reference's. -/
theorem result_qd5 (m : (ℓ : Loc nD τ sig) → Buf (Elt Ideal) ℓ) (c : Dev nD) :
    Cert.Reference5Ideal.Read.val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      = Odd.Chain.resQd m c := by
  funext i
  have hi : i = ValueIdx.ix2 (i 0) (i 1) := ValueIdx.eq_ix2 i
  exact (congrArg _ hi).trans (Odd.Ref.qd_both (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1))

open Cert.Kernel5Ideal in
/-- The second layer's input projection's low-rank parts are the reference's. -/
theorem result_lora5 (m : (ℓ : Loc nD τ sig) → Buf (Elt Ideal) ℓ) (c : Dev nD) :
    Cert.Reference5Ideal.Read.val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      = Odd.Chain.resLora m c := by
  funext i
  have hi : i = ValueIdx.ix2 (i 0) (i 1) := ValueIdx.eq_ix2 i
  exact (congrArg _ hi).trans ((Odd.Ref.lora_both (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1)).trans
    (congrArg _ (Fin.ext (Nat.zero_add _).symm)))

open Cert.Kernel5Ideal in
/-- The second layer's input projection's keys and values of the latent attention are the reference's. -/
theorem result_kv5 (m : (ℓ : Loc nD τ sig) → Buf (Elt Ideal) ℓ) (c : Dev nD) :
    Cert.Reference5Ideal.Read.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      = Odd.Chain.resKv m c := by
  funext i
  have hi : i = ValueIdx.ix2 (i 0) (i 1) := ValueIdx.eq_ix2 i
  exact (congrArg _ hi).trans (Odd.Ref.up_both (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1))

/-- The second layer's input projection's two programs run, keep their arguments, and end with the same nine results. -/
theorem algebraic5 : Cert.algebraic_Kernel5Ideal_Reference5Ideal := by
  intro m g m' g' _ hargs
  refine ⟨Odd.Chain.resCkv m, Odd.Chain.resKpe m, Odd.Chain.resK m, Odd.Chain.resW m, Odd.Chain.resKL m, Odd.Chain.resWL m, Odd.Chain.resQd m, Odd.Chain.resLora m, Odd.Chain.resKv m, ?_, ?_⟩
  · exact (θ_run _ _ _).mono (fun r h c => h.1 c) (Odd.Chain.run_all m g)
  · refine (θ_run _ _ _).mono (fun r h c => ?_) (Cert.Reference5Ideal.Value.run (F := Ideal) m' g')
    obtain ⟨e0, e1, e2, e3, e4, e5, e6, e7, e8⟩ := hargs c
    obtain ⟨h0, h1, h2, h3, h4, h5, h6, h7, h8, hrest⟩ := h c
    refine ⟨h0.trans ((Cert.Reference5Ideal.Read.val_main_v55_eq m' c).trans (Eq.trans ?_ (result_ckv5 m c))),
      h1.trans ((Cert.Reference5Ideal.Read.val_main_v38_eq _ _ _ _ _ _).trans (Eq.trans ?_ (result_kpe5 m c))),
      h2.trans ((Cert.Reference5Ideal.Read.val_main_v57_eq _ _ _ _ _ _).trans (Eq.trans ?_ (result_k5 m c))),
      h3.trans ((Cert.Reference5Ideal.Read.val_main_v59_eq _ _ _ _ _ _).trans (Eq.trans ?_ (result_v5 m c))),
      h4.trans ((Cert.Reference5Ideal.Read.val_main_v113_eq _ _ _ _ _ _).trans (Eq.trans ?_ (result_kl5 m c))),
      h5.trans ((Cert.Reference5Ideal.Read.val_main_v115_eq _ _ _ _ _ _).trans (Eq.trans ?_ (result_vl5 m c))),
      h6.trans ((Cert.Reference5Ideal.Read.val_main_v119_eq m' c).trans (Eq.trans ?_ (result_qd5 m c))),
      h7.trans ((Cert.Reference5Ideal.Read.val_main_v122_eq m' c).trans (Eq.trans ?_ (result_lora5 m c))),
      h8.trans ((Cert.Reference5Ideal.Read.val_main_v128_eq m' c).trans (Eq.trans ?_ (result_kv5 m c))),
      hrest⟩
    · exact congr (congr (congr (congr (congr (congr (congrArg _ e0) e2) e3) e4) e5) e6) e7
    · exact congr (congr (congr (congr (congr (congrArg _ e0) e2) e3) e4) e5) e6
    · exact congr (congr (congr (congr (congr (congrArg _ e0) e2) e3) e4) e5) e6
    · exact congr (congr (congr (congr (congr (congrArg _ e0) e2) e3) e4) e5) e6
    · exact congr (congr (congr (congr (congr (congrArg _ e0) e1) e3) e4) e5) e6
    · exact congr (congr (congr (congr (congr (congrArg _ e0) e1) e3) e4) e5) e6
    · exact congr (congr (congr (congr (congr (congr (congrArg _ e0) e1) e2) e3) e4) e5) e6
    · exact congr (congr (congr (congr (congr (congr (congrArg _ e0) e1) e2) e3) e4) e5) e6
    · exact congr (congr (congr (congr (congr (congr (congr (congr (congrArg _ e0) e1) e2) e3) e4) e5) e6) e7) e8

/-- The reference runs, keeps its arguments, and has no counters to leave raised. -/
theorem frame_r6 : Cert.quiescent_Reference6Ideal := fun m g _ =>
  (θ_run (Cert.Reference6Ideal.defs (F := Ideal)) _ _).mono (fun r h => ⟨fun c => (h c).2, sem_eq_zero_of_no_sems (by decide) r.2⟩)
    (Cert.Reference6Ideal.Value.run (F := Ideal) m g)

open Cert.Kernel6Ideal in
/-- The first layer's output projection's result array is the reference's. -/
theorem result_eq6 (m : (ℓ : Loc nD τ sig) → Buf (Elt Ideal) ℓ) (c : Dev nD) :
    Cert.Reference6Ideal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      = Mix0.result m c := by
  funext i
  have hi : i = ValueIdx.ix2 (i 0) (i 1) := ValueIdx.eq_ix2 i
  exact (congrArg _ hi).trans (Mix0.ref_eq _ _ _ _ _ _ _ (i 0) (i 1))

/-- The first layer's output projection's two programs run, keep their arguments, and end with the same result. -/
theorem algebraic6 : Cert.algebraic_Kernel6Ideal_Reference6Ideal := by
  intro m g m' g' _ hargs
  refine ⟨Mix0.result m, ?_, ?_⟩
  · exact Mix0.run_all m g
  · refine (θ_run _ _ _).mono (fun r h c => ⟨(h c).1.trans ?_, (h c).2⟩) (Cert.Reference6Ideal.Value.run (F := Ideal) m' g')
    refine (Cert.Reference6Ideal.Read.val_main_v35_eq _ _ _ _ _ _ _).trans ?_
    obtain ⟨e0, e1, e2, e3, e4, e5, e6⟩ := hargs c
    refine Eq.trans ?_ (result_eq6 m c)
    exact congr (congr (congr (congr (congr (congr (congrArg _ e0) e1) e2) e3) e4) e5) e6

/-- The reference runs, keeps its arguments, and has no counters to leave raised. -/
theorem frame_r7 : Cert.quiescent_Reference7Ideal := fun m g _ =>
  (θ_run (Cert.Reference7Ideal.defs (F := Ideal)) _ _).mono (fun r h => ⟨fun c => (h c).2, sem_eq_zero_of_no_sems (by decide) r.2⟩)
    (Cert.Reference7Ideal.Value.run (F := Ideal) m g)

open Cert.Kernel7Ideal in
/-- The second layer's output projection's result array is the reference's. -/
theorem result_eq7 (m : (ℓ : Loc nD τ sig) → Buf (Elt Ideal) ℓ) (c : Dev nD) :
    Cert.Reference7Ideal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      = Mix1.result m c := by
  funext i
  have hi : i = ValueIdx.ix2 (i 0) (i 1) := ValueIdx.eq_ix2 i
  exact (congrArg _ hi).trans (Mix1.ref_eq _ _ _ _ _ _ (i 0) (i 1))

/-- The second layer's output projection's two programs run, keep their arguments, and end with the same result. -/
theorem algebraic7 : Cert.algebraic_Kernel7Ideal_Reference7Ideal := by
  intro m g m' g' _ hargs
  refine ⟨Mix1.result m, ?_, ?_⟩
  · exact (θ_run _ _ _).mono (fun r h c => ⟨(h c).1.trans (Mix1.final_eq m c), (h c).2⟩) (Cert.Kernel7Ideal.Value.run_blocks m g)
  · refine (θ_run _ _ _).mono (fun r h c => ⟨(h c).1.trans ?_, (h c).2⟩) (Cert.Reference7Ideal.Value.run (F := Ideal) m' g')
    refine (Cert.Reference7Ideal.Read.val_main_v32_eq _ _ _ _ _ _).trans ?_
    obtain ⟨e0, e1, e2, e3, e4, e5⟩ := hargs c
    refine Eq.trans ?_ (result_eq7 m c)
    exact congr (congr (congr (congr (congr (congrArg _ e0) e1) e2) e3) e4) e5

/-- The reference runs, keeps its arguments, and has no counters to leave raised. -/
theorem frame_r8 : Cert.quiescent_Reference8Ideal := fun m g _ =>
  (θ_run (Cert.Reference8Ideal.defs (F := Ideal)) _ _).mono (fun r h => ⟨fun c => (h c).2, sem_eq_zero_of_no_sems (by decide) r.2⟩)
    (Cert.Reference8Ideal.Value.run (F := Ideal) m g)

open Cert.Kernel8Ideal in
/-- The final norm of the prompts: the result array is the reference's. -/
theorem result_eq8 (m : (ℓ : Loc nD τ sig) → Buf (Elt Ideal) ℓ) (c : Dev nD) :
    Cert.Reference8Ideal.Read.val_main_v13 (F := Ideal) (m ((c : Thread nD τ).loc main_arg0)) (m ((c : Thread nD τ).loc main_arg1)) = EndP.result m c := by
  funext i
  have hi : i = ValueIdx.ix2 (i 0) (i 1) := ValueIdx.eq_ix2 i
  exact (congrArg _ hi).trans (EndP.ref_eq _ _ (i 0) (i 1))

/-- The final norm of the prompts: both programs run, keep their arguments, and end with the same result. -/
theorem algebraic8 : Cert.algebraic_Kernel8Ideal_Reference8Ideal := by
  intro m g m' g' _ hargs
  refine ⟨EndP.result m, ?_, ?_⟩
  · exact (θ_run _ _ _).mono (fun r h c => ⟨(h c).1.trans (EndP.final_eq m c), (h c).2⟩) (Cert.Kernel8Ideal.Value.run_blocks m g)
  · refine (θ_run _ _ _).mono (fun r h c => ⟨(h c).1.trans ?_, (h c).2⟩) (Cert.Reference8Ideal.Value.run (F := Ideal) m' g')
    refine (Cert.Reference8Ideal.Read.val_main_v13_eq _ _).trans ?_
    obtain ⟨e0, e1⟩ := hargs c
    refine Eq.trans ?_ (result_eq8 m c)
    exact congr (congrArg _ e0) e1

/-- The reference runs, keeps its arguments, and has no counters to leave raised. -/
theorem frame_r9 : Cert.quiescent_Reference9Ideal := fun m g _ =>
  (θ_run (Cert.Reference9Ideal.defs (F := Ideal)) _ _).mono (fun r h => ⟨fun c => (h c).2, sem_eq_zero_of_no_sems (by decide) r.2⟩)
    (Cert.Reference9Ideal.Value.run (F := Ideal) m g)

open Cert.Kernel9Ideal in
/-- The final norm of the latent sequences: the result array is the reference's. -/
theorem result_eq9 (m : (ℓ : Loc nD τ sig) → Buf (Elt Ideal) ℓ) (c : Dev nD) :
    Cert.Reference9Ideal.Read.val_main_v13 (F := Ideal) (m ((c : Thread nD τ).loc main_arg0)) (m ((c : Thread nD τ).loc main_arg1)) = EndS.result m c := by
  funext i
  have hi : i = ValueIdx.ix2 (i 0) (i 1) := ValueIdx.eq_ix2 i
  exact (congrArg _ hi).trans (EndS.ref_eq _ _ (i 0) (i 1))

/-- The final norm of the latent sequences: both programs run, keep their arguments, and end with the same result. -/
theorem algebraic9 : Cert.algebraic_Kernel9Ideal_Reference9Ideal := by
  intro m g m' g' _ hargs
  refine ⟨EndS.result m, ?_, ?_⟩
  · exact (θ_run _ _ _).mono (fun r h c => ⟨(h c).1.trans (EndS.final_eq m c), (h c).2⟩) (Cert.Kernel9Ideal.Value.run_blocks m g)
  · refine (θ_run _ _ _).mono (fun r h c => ⟨(h c).1.trans ?_, (h c).2⟩) (Cert.Reference9Ideal.Value.run (F := Ideal) m' g')
    refine (Cert.Reference9Ideal.Read.val_main_v13_eq _ _).trans ?_
    obtain ⟨e0, e1⟩ := hargs c
    refine Eq.trans ?_ (result_eq9 m c)
    exact congr (congrArg _ e0) e1

/-- The reference runs, keeps its arguments, and has no counters to leave raised. -/
theorem frame_r10 : Cert.quiescent_Reference10Ideal := fun m g _ =>
  (θ_run (Cert.Reference10Ideal.defs (F := Ideal)) _ _).mono (fun r h => ⟨fun c => (h c).2, sem_eq_zero_of_no_sems (by decide) r.2⟩)
    (Cert.Reference10Ideal.Value.run (F := Ideal) m g)

open Cert.Kernel10Ideal in
/-- The queries' product: the result array is the reference's. -/
theorem result_eq10 (m : (ℓ : Loc nD τ sig) → Buf (Elt Ideal) ℓ) (c : Dev nD) :
    Cert.Reference10Ideal.Read.val_main_v5 (F := Ideal) (m ((c : Thread nD τ).loc main_arg0)) (m ((c : Thread nD τ).loc main_arg1)) = QUp.result m c := by
  funext i
  have hi : i = ValueIdx.ix2 (i 0) (i 1) := ValueIdx.eq_ix2 i
  exact (congrArg _ hi).trans (QUp.ref_eq _ _ (i 0) (i 1))

/-- The queries' product: both programs run, keep their arguments, and end with the same result. -/
theorem algebraic10 : Cert.algebraic_Kernel10Ideal_Reference10Ideal := by
  intro m g m' g' _ hargs
  refine ⟨QUp.result m, ?_, ?_⟩
  · exact (θ_run _ _ _).mono (fun r h c => ⟨(h c).1.trans (QUp.final_eq m c), (h c).2⟩) (Cert.Kernel10Ideal.Value.run_blocks m g)
  · refine (θ_run _ _ _).mono (fun r h c => ⟨(h c).1.trans ?_, (h c).2⟩) (Cert.Reference10Ideal.Value.run (F := Ideal) m' g')
    refine (Cert.Reference10Ideal.Read.val_main_v5_eq _ _).trans ?_
    obtain ⟨e0, e1⟩ := hargs c
    refine Eq.trans ?_ (result_eq10 m c)
    exact congr (congrArg _ e0) e1

/-- The reference runs, keeps its arguments, and has no counters to leave raised. -/
theorem frame_r11 : Cert.quiescent_Reference11Ideal := fun m g _ =>
  (θ_run (Cert.Reference11Ideal.defs (F := Ideal)) _ _).mono (fun r h => ⟨fun c => (h c).2, sem_eq_zero_of_no_sems (by decide) r.2⟩)
    (Cert.Reference11Ideal.Value.run (F := Ideal) m g)

open Cert.Kernel11Ideal in
/-- The cached context's product: the result array is the reference's. -/
theorem result_eq11 (m : (ℓ : Loc nD τ sig) → Buf (Elt Ideal) ℓ) (c : Dev nD) :
    Cert.Reference11Ideal.Read.val_main_v2 (F := Ideal) (m ((c : Thread nD τ).loc main_arg0)) (m ((c : Thread nD τ).loc main_arg1)) = CtxUp.result m c := by
  funext i
  have hi : i = ValueIdx.ix2 (i 0) (i 1) := ValueIdx.eq_ix2 i
  exact (congrArg _ hi).trans (CtxUp.ref_eq _ _ (i 0) (i 1))

/-- The cached context's product: both programs run, keep their arguments, and end with the same result. -/
theorem algebraic11 : Cert.algebraic_Kernel11Ideal_Reference11Ideal := by
  intro m g m' g' _ hargs
  refine ⟨CtxUp.result m, ?_, ?_⟩
  · exact (θ_run _ _ _).mono (fun r h c => ⟨(h c).1.trans (CtxUp.final_eq m c), (h c).2⟩) (Cert.Kernel11Ideal.Value.run_blocks m g)
  · refine (θ_run _ _ _).mono (fun r h c => ⟨(h c).1.trans ?_, (h c).2⟩) (Cert.Reference11Ideal.Value.run (F := Ideal) m' g')
    refine (Cert.Reference11Ideal.Read.val_main_v2_eq _ _).trans ?_
    obtain ⟨e0, e1⟩ := hargs c
    refine Eq.trans ?_ (result_eq11 m c)
    exact congr (congrArg _ e0) e1

/-- The reference runs, keeps its arguments, and has no counters to leave raised. -/
theorem frame_r12 : Cert.quiescent_Reference12Ideal := fun m g _ =>
  (θ_run (Cert.Reference12Ideal.defs (F := Ideal)) _ _).mono (fun r h => ⟨fun c => (h c).2, sem_eq_zero_of_no_sems (by decide) r.2⟩)
    (Cert.Reference12Ideal.Value.run (F := Ideal) m g)

/-- The reference runs, keeps its arguments, and has no counters to leave raised. -/
theorem frame_r13 : Cert.quiescent_Reference13Ideal := fun m g _ =>
  (θ_run (Cert.Reference13Ideal.defs (F := Ideal)) _ _).mono (fun r h => ⟨fun c => (h c).2, sem_eq_zero_of_no_sems (by decide) r.2⟩)
    (Cert.Reference13Ideal.Value.run (F := Ideal) m g)

open Cert.Kernel12Ideal in
/-- The norm before the feed-forward part: the result array is the reference's. -/
theorem result_eq12 (m : (ℓ : Loc nD τ sig) → Buf (Elt Ideal) ℓ) (c : Dev nD) :
    Cert.Reference12Ideal.Read.val_main_v55 (F := Ideal) (m ((c : Thread nD τ).loc main_arg0)) (m ((c : Thread nD τ).loc main_arg1)) (m ((c : Thread nD τ).loc main_arg2)) = Norm2.result m c := by
  funext i
  have hi : i = ValueIdx.ix2 (i 0) (i 1) := ValueIdx.eq_ix2 i
  exact (congrArg _ hi).trans (Norm2.ref_eq _ _ _ (i 0) (i 1))

/-- The norm before the feed-forward part: both programs run, keep their arguments, and end with the same result. -/
theorem algebraic12 : Cert.algebraic_Kernel12Ideal_Reference12Ideal := by
  intro m g m' g' _ hargs
  refine ⟨Norm2.result m, ?_, ?_⟩
  · exact (θ_run _ _ _).mono (fun r h c => ⟨(h c).1.trans (Norm2.final_eq m c), (h c).2⟩) (Cert.Kernel12Ideal.Value.run_blocks m g)
  · refine (θ_run _ _ _).mono (fun r h c => ⟨(h c).1.trans ?_, (h c).2⟩) (Cert.Reference12Ideal.Value.run (F := Ideal) m' g')
    refine (Cert.Reference12Ideal.Read.val_main_v55_eq _ _ _).trans ?_
    obtain ⟨e0, e1, e2⟩ := hargs c
    refine Eq.trans ?_ (result_eq12 m c)
    exact congr (congr (congrArg _ e0) e1) e2

open Cert.Kernel13Ideal in
/-- The gate's result is the reference's value at the same arguments. -/
theorem result_eq13 (m : (ℓ : Loc nD τ sig) → Buf (Elt Ideal) ℓ) (c : Dev nD) :
    Cert.Reference13Ideal.Read.val_main_v12 (F := Ideal) (m ((c : Thread nD τ).loc main_arg0)) (m ((c : Thread nD τ).loc main_arg1)) (m ((c : Thread nD τ).loc main_arg2)) (m ((c : Thread nD τ).loc main_arg3)) = Glu.result m c := by
  funext i
  have hi : i = ValueIdx.ix2 (i 0) (i 1) := ValueIdx.eq_ix2 i
  exact (congrArg _ hi).trans (Glu.ref_eq _ _ _ _ (i 0) (i 1))

/-- The state-space mixer's gate: both programs run, keep their arguments, and end with the same result. -/
theorem algebraic13 : Cert.algebraic_Kernel13Ideal_Reference13Ideal := by
  intro m g m' g' _ hargs
  refine ⟨Glu.result m, ?_, ?_⟩
  · exact (θ_run _ _ _).mono (fun r h c => ⟨(h c).1.trans (Glu.final_eq m c), (h c).2⟩) (Cert.Kernel13Ideal.Value.run_blocks m g)
  · refine (θ_run _ _ _).mono (fun r h c => ⟨(h c).1.trans ?_, (h c).2⟩) (Cert.Reference13Ideal.Value.run (F := Ideal) m' g')
    refine (Cert.Reference13Ideal.Read.val_main_v12_eq _ _ _ _).trans ?_
    obtain ⟨e0, e1, e2, e3⟩ := hargs c
    refine Eq.trans ?_ (result_eq13 m c)
    exact congr (congr (congr (congrArg _ e0) e1) e2) e3

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_finite.Gen.facts,
  fun m g _ => Cert.Kernel.Gen.frame m g, fun m g _ => Cert.KernelIdeal.Gen.frame m g, fun m g _ => Cert.KernelIdeal.Gen.frame m g,
  frame_r, fun m g _ => frame_r m g trivial,
  fun m g _ => Cert.Kernel2.Gen.frame m g, fun m g _ => Cert.Kernel2Ideal.Gen.frame m g, frame_r2,
  fun m g _ => Cert.Kernel3.Gen.frame m g, fun m g _ => Cert.Kernel3Ideal.Gen.frame m g, frame_r3,
  fun m g _ => Cert.Kernel4.Gen.frame m g, fun m g _ => Cert.Kernel4Ideal.Gen.frame m g, frame_r4,
  fun m g _ => Cert.Kernel5.Gen.frame m g, fun m g _ => Cert.Kernel5Ideal.Gen.frame m g, frame_r5,
  fun m g _ => Cert.Kernel6.Gen.frame m g, fun m g _ => Cert.Kernel6Ideal.Gen.frame m g, frame_r6,
  fun m g _ => Cert.Kernel7.Gen.frame m g, fun m g _ => Cert.Kernel7Ideal.Gen.frame m g, frame_r7,
  fun m g _ => Cert.Kernel8.Gen.frame m g, fun m g _ => Cert.Kernel8Ideal.Gen.frame m g, frame_r8,
  fun m g _ => Cert.Kernel9.Gen.frame m g, fun m g _ => Cert.Kernel9Ideal.Gen.frame m g, frame_r9,
  fun m g _ => Cert.Kernel10.Gen.frame m g, fun m g _ => Cert.Kernel10Ideal.Gen.frame m g, frame_r10,
  fun m g _ => Cert.Kernel11.Gen.frame m g, fun m g _ => Cert.Kernel11Ideal.Gen.frame m g, frame_r11,
  fun m g _ => Cert.Kernel12.Gen.frame m g, fun m g _ => Cert.Kernel12Ideal.Gen.frame m g, frame_r12,
  fun m g _ => Cert.Kernel13.Gen.frame m g, fun m g _ => Cert.Kernel13Ideal.Gen.frame m g, frame_r13,
  trivial, algebraic, trivial, algebraic2, trivial, algebraic3, trivial, algebraic4, trivial, algebraic5,
  trivial, algebraic6, trivial, algebraic7, trivial, algebraic8, trivial, algebraic9, trivial, algebraic10,
  trivial, algebraic11, trivial, algebraic12, trivial, algebraic13⟩

end Cert.Proof

end
